-- ==== Defs.lean ====
def Pre_DtBwd (m : (ℓ : Loc Cert.DtBwd.nD Cert.DtBwd.τ Cert.DtBwd.sig) → Buf (Elt Bits) ℓ) : Prop :=
  True

def Pre_DtBwdIdeal (m : (ℓ : Loc Cert.DtBwdIdeal.nD Cert.DtBwdIdeal.τ Cert.DtBwdIdeal.sig) → Buf (Elt Ideal) ℓ) : Prop :=
  True

def Pre_DtBwdRefIdeal (m : (ℓ : Loc Cert.DtBwdRefIdeal.nD Cert.DtBwdRefIdeal.τ Cert.DtBwdRefIdeal.sig) → Buf (Elt Ideal) ℓ) : Prop :=
  True

def Pre_FfnDownLoss (m : (ℓ : Loc Cert.FfnDownLoss.nD Cert.FfnDownLoss.τ Cert.FfnDownLoss.sig) → Buf (Elt Bits) ℓ) : Prop :=
  True

def Pre_FfnDownLossIdeal (m : (ℓ : Loc Cert.FfnDownLossIdeal.nD Cert.FfnDownLossIdeal.τ Cert.FfnDownLossIdeal.sig) → Buf (Elt Ideal) ℓ) : Prop :=
  True

def Pre_FfnDownLossRefIdeal (m : (ℓ : Loc Cert.FfnDownLossRefIdeal.nD Cert.FfnDownLossRefIdeal.τ Cert.FfnDownLossRefIdeal.sig) → Buf (Elt Ideal) ℓ) : Prop :=
  True

def Pre_MidBwd (m : (ℓ : Loc Cert.MidBwd.nD Cert.MidBwd.τ Cert.MidBwd.sig) → Buf (Elt Bits) ℓ) : Prop :=
  True

def Pre_MidBwdIdeal (m : (ℓ : Loc Cert.MidBwdIdeal.nD Cert.MidBwdIdeal.τ Cert.MidBwdIdeal.sig) → Buf (Elt Ideal) ℓ) : Prop :=
  True

def Pre_MidBwdRefIdeal (m : (ℓ : Loc Cert.MidBwdRefIdeal.nD Cert.MidBwdRefIdeal.τ Cert.MidBwdRefIdeal.sig) → Buf (Elt Ideal) ℓ) : Prop :=
  True

def Pre_AttnOutBwd (m : (ℓ : Loc Cert.AttnOutBwd.nD Cert.AttnOutBwd.τ Cert.AttnOutBwd.sig) → Buf (Elt Bits) ℓ) : Prop :=
  True

def Pre_AttnOutBwdIdeal (m : (ℓ : Loc Cert.AttnOutBwdIdeal.nD Cert.AttnOutBwdIdeal.τ Cert.AttnOutBwdIdeal.sig) → Buf (Elt Ideal) ℓ) : Prop :=
  True

def Pre_AttnOutBwdRefIdeal (m : (ℓ : Loc Cert.AttnOutBwdRefIdeal.nD Cert.AttnOutBwdRefIdeal.τ Cert.AttnOutBwdRefIdeal.sig) → Buf (Elt Ideal) ℓ) : Prop :=
  True

def Pre_QBranchBwd (m : (ℓ : Loc Cert.QBranchBwd.nD Cert.QBranchBwd.τ Cert.QBranchBwd.sig) → Buf (Elt Bits) ℓ) : Prop :=
  True

def Pre_QBranchBwdIdeal (m : (ℓ : Loc Cert.QBranchBwdIdeal.nD Cert.QBranchBwdIdeal.τ Cert.QBranchBwdIdeal.sig) → Buf (Elt Ideal) ℓ) : Prop :=
  True

def Pre_QBranchBwdRefIdeal (m : (ℓ : Loc Cert.QBranchBwdRefIdeal.nD Cert.QBranchBwdRefIdeal.τ Cert.QBranchBwdRefIdeal.sig) → Buf (Elt Ideal) ℓ) : Prop :=
  True

def Pre_KvBranchBwd (m : (ℓ : Loc Cert.KvBranchBwd.nD Cert.KvBranchBwd.τ Cert.KvBranchBwd.sig) → Buf (Elt Bits) ℓ) : Prop :=
  True

def Pre_KvBranchBwdIdeal (m : (ℓ : Loc Cert.KvBranchBwdIdeal.nD Cert.KvBranchBwdIdeal.τ Cert.KvBranchBwdIdeal.sig) → Buf (Elt Ideal) ℓ) : Prop :=
  True

def Pre_KvBranchBwdRefIdeal (m : (ℓ : Loc Cert.KvBranchBwdRefIdeal.nD Cert.KvBranchBwdRefIdeal.τ Cert.KvBranchBwdRefIdeal.sig) → Buf (Elt Ideal) ℓ) : Prop :=
  True

def Pre_InProjDx (m : (ℓ : Loc Cert.InProjDx.nD Cert.InProjDx.τ Cert.InProjDx.sig) → Buf (Elt Bits) ℓ) : Prop :=
  True

def Pre_InProjDxIdeal (m : (ℓ : Loc Cert.InProjDxIdeal.nD Cert.InProjDxIdeal.τ Cert.InProjDxIdeal.sig) → Buf (Elt Ideal) ℓ) : Prop :=
  True

def Pre_InProjDxRefIdeal (m : (ℓ : Loc Cert.InProjDxRefIdeal.nD Cert.InProjDxRefIdeal.τ Cert.InProjDxRefIdeal.sig) → Buf (Elt Ideal) ℓ) : Prop :=
  True

def Pre_FlashBwd (m : (ℓ : Loc Cert.FlashBwd.nD Cert.FlashBwd.τ Cert.FlashBwd.sig) → Buf (Elt Bits) ℓ) : Prop :=
  True

def Pre_FlashBwdIdeal (m : (ℓ : Loc Cert.FlashBwdIdeal.nD Cert.FlashBwdIdeal.τ Cert.FlashBwdIdeal.sig) → Buf (Elt Ideal) ℓ) : Prop :=
  True

def Pre_FlashBwdIdeal_finite_flash [hPre_finite_flash : Cert.Pre_finite_flash.Facts] (m : (ℓ : Loc Cert.FlashBwdIdeal.nD Cert.FlashBwdIdeal.τ Cert.FlashBwdIdeal.sig) → Buf (Elt Ideal) ℓ) : Prop :=
  ∀ c : Dev Cert.FlashBwdIdeal.nD,
    (Cert.Pre_finite_flash.fn (F := Ideal) (m ((c.tc : Thread Cert.FlashBwdIdeal.nD Cert.FlashBwdIdeal.τ).loc Cert.FlashBwdIdeal.main_arg0)) (m ((c.tc : Thread Cert.FlashBwdIdeal.nD Cert.FlashBwdIdeal.τ).loc Cert.FlashBwdIdeal.main_arg1)) (m ((c.tc : Thread Cert.FlashBwdIdeal.nD Cert.FlashBwdIdeal.τ).loc Cert.FlashBwdIdeal.main_arg2)) (m ((c.tc : Thread Cert.FlashBwdIdeal.nD Cert.FlashBwdIdeal.τ).loc Cert.FlashBwdIdeal.main_arg3)) (m ((c.tc : Thread Cert.FlashBwdIdeal.nD Cert.FlashBwdIdeal.τ).loc Cert.FlashBwdIdeal.main_arg4)) (m ((c.tc : Thread Cert.FlashBwdIdeal.nD Cert.FlashBwdIdeal.τ).loc Cert.FlashBwdIdeal.main_arg5))).1 = (fun _ => 1#1)
    ∧ (Cert.Pre_finite_flash.fn (F := Ideal) (m ((c.tc : Thread Cert.FlashBwdIdeal.nD Cert.FlashBwdIdeal.τ).loc Cert.FlashBwdIdeal.main_arg0)) (m ((c.tc : Thread Cert.FlashBwdIdeal.nD Cert.FlashBwdIdeal.τ).loc Cert.FlashBwdIdeal.main_arg1)) (m ((c.tc : Thread Cert.FlashBwdIdeal.nD Cert.FlashBwdIdeal.τ).loc Cert.FlashBwdIdeal.main_arg2)) (m ((c.tc : Thread Cert.FlashBwdIdeal.nD Cert.FlashBwdIdeal.τ).loc Cert.FlashBwdIdeal.main_arg3)) (m ((c.tc : Thread Cert.FlashBwdIdeal.nD Cert.FlashBwdIdeal.τ).loc Cert.FlashBwdIdeal.main_arg4)) (m ((c.tc : Thread Cert.FlashBwdIdeal.nD Cert.FlashBwdIdeal.τ).loc Cert.FlashBwdIdeal.main_arg5))).2.1 = (fun _ => 1#1)
    ∧ (Cert.Pre_finite_flash.fn (F := Ideal) (m ((c.tc : Thread Cert.FlashBwdIdeal.nD Cert.FlashBwdIdeal.τ).loc Cert.FlashBwdIdeal.main_arg0)) (m ((c.tc : Thread Cert.FlashBwdIdeal.nD Cert.FlashBwdIdeal.τ).loc Cert.FlashBwdIdeal.main_arg1)) (m ((c.tc : Thread Cert.FlashBwdIdeal.nD Cert.FlashBwdIdeal.τ).loc Cert.FlashBwdIdeal.main_arg2)) (m ((c.tc : Thread Cert.FlashBwdIdeal.nD Cert.FlashBwdIdeal.τ).loc Cert.FlashBwdIdeal.main_arg3)) (m ((c.tc : Thread Cert.FlashBwdIdeal.nD Cert.FlashBwdIdeal.τ).loc Cert.FlashBwdIdeal.main_arg4)) (m ((c.tc : Thread Cert.FlashBwdIdeal.nD Cert.FlashBwdIdeal.τ).loc Cert.FlashBwdIdeal.main_arg5))).2.2.1 = (fun _ => 1#1)
    ∧ (Cert.Pre_finite_flash.fn (F := Ideal) (m ((c.tc : Thread Cert.FlashBwdIdeal.nD Cert.FlashBwdIdeal.τ).loc Cert.FlashBwdIdeal.main_arg0)) (m ((c.tc : Thread Cert.FlashBwdIdeal.nD Cert.FlashBwdIdeal.τ).loc Cert.FlashBwdIdeal.main_arg1)) (m ((c.tc : Thread Cert.FlashBwdIdeal.nD Cert.FlashBwdIdeal.τ).loc Cert.FlashBwdIdeal.main_arg2)) (m ((c.tc : Thread Cert.FlashBwdIdeal.nD Cert.FlashBwdIdeal.τ).loc Cert.FlashBwdIdeal.main_arg3)) (m ((c.tc : Thread Cert.FlashBwdIdeal.nD Cert.FlashBwdIdeal.τ).loc Cert.FlashBwdIdeal.main_arg4)) (m ((c.tc : Thread Cert.FlashBwdIdeal.nD Cert.FlashBwdIdeal.τ).loc Cert.FlashBwdIdeal.main_arg5))).2.2.2.1 = (fun _ => 1#1)
    ∧ (Cert.Pre_finite_flash.fn (F := Ideal) (m ((c.tc : Thread Cert.FlashBwdIdeal.nD Cert.FlashBwdIdeal.τ).loc Cert.FlashBwdIdeal.main_arg0)) (m ((c.tc : Thread Cert.FlashBwdIdeal.nD Cert.FlashBwdIdeal.τ).loc Cert.FlashBwdIdeal.main_arg1)) (m ((c.tc : Thread Cert.FlashBwdIdeal.nD Cert.FlashBwdIdeal.τ).loc Cert.FlashBwdIdeal.main_arg2)) (m ((c.tc : Thread Cert.FlashBwdIdeal.nD Cert.FlashBwdIdeal.τ).loc Cert.FlashBwdIdeal.main_arg3)) (m ((c.tc : Thread Cert.FlashBwdIdeal.nD Cert.FlashBwdIdeal.τ).loc Cert.FlashBwdIdeal.main_arg4)) (m ((c.tc : Thread Cert.FlashBwdIdeal.nD Cert.FlashBwdIdeal.τ).loc Cert.FlashBwdIdeal.main_arg5))).2.2.2.2.1 = (fun _ => 1#1)
    ∧ (Cert.Pre_finite_flash.fn (F := Ideal) (m ((c.tc : Thread Cert.FlashBwdIdeal.nD Cert.FlashBwdIdeal.τ).loc Cert.FlashBwdIdeal.main_arg0)) (m ((c.tc : Thread Cert.FlashBwdIdeal.nD Cert.FlashBwdIdeal.τ).loc Cert.FlashBwdIdeal.main_arg1)) (m ((c.tc : Thread Cert.FlashBwdIdeal.nD Cert.FlashBwdIdeal.τ).loc Cert.FlashBwdIdeal.main_arg2)) (m ((c.tc : Thread Cert.FlashBwdIdeal.nD Cert.FlashBwdIdeal.τ).loc Cert.FlashBwdIdeal.main_arg3)) (m ((c.tc : Thread Cert.FlashBwdIdeal.nD Cert.FlashBwdIdeal.τ).loc Cert.FlashBwdIdeal.main_arg4)) (m ((c.tc : Thread Cert.FlashBwdIdeal.nD Cert.FlashBwdIdeal.τ).loc Cert.FlashBwdIdeal.main_arg5))).2.2.2.2.2 = (fun _ => 1#1)

def Pre_FlashBwdRefIdeal (m : (ℓ : Loc Cert.FlashBwdRefIdeal.nD Cert.FlashBwdRefIdeal.τ Cert.FlashBwdRefIdeal.sig) → Buf (Elt Ideal) ℓ) : Prop :=
  True

def Pre_FlashBwdRefIdeal_finite_flash [hPre_finite_flash : Cert.Pre_finite_flash.Facts] (m : (ℓ : Loc Cert.FlashBwdRefIdeal.nD Cert.FlashBwdRefIdeal.τ Cert.FlashBwdRefIdeal.sig) → Buf (Elt Ideal) ℓ) : Prop :=
  ∀ c : Dev Cert.FlashBwdRefIdeal.nD,
    (Cert.Pre_finite_flash.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3)) (m ((c.tc : Thread Cert.FlashBwdRefIdeal.nD Cert.FlashBwdRefIdeal.τ).loc Cert.FlashBwdRefIdeal.main_arg4)) (m ((c.tc : Thread Cert.FlashBwdRefIdeal.nD Cert.FlashBwdRefIdeal.τ).loc Cert.FlashBwdRefIdeal.main_arg5))).1 = (fun _ => 1#1)
    ∧ (Cert.Pre_finite_flash.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3)) (m ((c.tc : Thread Cert.FlashBwdRefIdeal.nD Cert.FlashBwdRefIdeal.τ).loc Cert.FlashBwdRefIdeal.main_arg4)) (m ((c.tc : Thread Cert.FlashBwdRefIdeal.nD Cert.FlashBwdRefIdeal.τ).loc Cert.FlashBwdRefIdeal.main_arg5))).2.1 = (fun _ => 1#1)
    ∧ (Cert.Pre_finite_flash.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3)) (m ((c.tc : Thread Cert.FlashBwdRefIdeal.nD Cert.FlashBwdRefIdeal.τ).loc Cert.FlashBwdRefIdeal.main_arg4)) (m ((c.tc : Thread Cert.FlashBwdRefIdeal.nD Cert.FlashBwdRefIdeal.τ).loc Cert.FlashBwdRefIdeal.main_arg5))).2.2.1 = (fun _ => 1#1)
    ∧ (Cert.Pre_finite_flash.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3)) (m ((c.tc : Thread Cert.FlashBwdRefIdeal.nD Cert.FlashBwdRefIdeal.τ).loc Cert.FlashBwdRefIdeal.main_arg4)) (m ((c.tc : Thread Cert.FlashBwdRefIdeal.nD Cert.FlashBwdRefIdeal.τ).loc Cert.FlashBwdRefIdeal.main_arg5))).2.2.2.1 = (fun _ => 1#1)
    ∧ (Cert.Pre_finite_flash.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3)) (m ((c.tc : Thread Cert.FlashBwdRefIdeal.nD Cert.FlashBwdRefIdeal.τ).loc Cert.FlashBwdRefIdeal.main_arg4)) (m ((c.tc : Thread Cert.FlashBwdRefIdeal.nD Cert.FlashBwdRefIdeal.τ).loc Cert.FlashBwdRefIdeal.main_arg5))).2.2.2.2.1 = (fun _ => 1#1)
    ∧ (Cert.Pre_finite_flash.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3)) (m ((c.tc : Thread Cert.FlashBwdRefIdeal.nD Cert.FlashBwdRefIdeal.τ).loc Cert.FlashBwdRefIdeal.main_arg4)) (m ((c.tc : Thread Cert.FlashBwdRefIdeal.nD Cert.FlashBwdRefIdeal.τ).loc Cert.FlashBwdRefIdeal.main_arg5))).2.2.2.2.2 = (fun _ => 1#1)

def Pre_FlashFwd (m : (ℓ : Loc Cert.FlashFwd.nD Cert.FlashFwd.τ Cert.FlashFwd.sig) → Buf (Elt Bits) ℓ) : Prop :=
  True

def Pre_FlashFwdIdeal (m : (ℓ : Loc Cert.FlashFwdIdeal.nD Cert.FlashFwdIdeal.τ Cert.FlashFwdIdeal.sig) → Buf (Elt Ideal) ℓ) : Prop :=
  True

def Pre_FlashFwdIdeal_finite_flashfwd [hPre_finite_flashfwd : Cert.Pre_finite_flashfwd.Facts] (m : (ℓ : Loc Cert.FlashFwdIdeal.nD Cert.FlashFwdIdeal.τ Cert.FlashFwdIdeal.sig) → Buf (Elt Ideal) ℓ) : Prop :=
  ∀ c : Dev Cert.FlashFwdIdeal.nD,
    (Cert.Pre_finite_flashfwd.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2)) (m ((c.tc : Thread Cert.FlashFwdIdeal.nD Cert.FlashFwdIdeal.τ).loc Cert.FlashFwdIdeal.main_arg3)) (m ((c.tc : Thread Cert.FlashFwdIdeal.nD Cert.FlashFwdIdeal.τ).loc Cert.FlashFwdIdeal.main_arg4))).1 = (fun _ => 1#1)
    ∧ (Cert.Pre_finite_flashfwd.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2)) (m ((c.tc : Thread Cert.FlashFwdIdeal.nD Cert.FlashFwdIdeal.τ).loc Cert.FlashFwdIdeal.main_arg3)) (m ((c.tc : Thread Cert.FlashFwdIdeal.nD Cert.FlashFwdIdeal.τ).loc Cert.FlashFwdIdeal.main_arg4))).2.1 = (fun _ => 1#1)
    ∧ (Cert.Pre_finite_flashfwd.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2)) (m ((c.tc : Thread Cert.FlashFwdIdeal.nD Cert.FlashFwdIdeal.τ).loc Cert.FlashFwdIdeal.main_arg3)) (m ((c.tc : Thread Cert.FlashFwdIdeal.nD Cert.FlashFwdIdeal.τ).loc Cert.FlashFwdIdeal.main_arg4))).2.2.1 = (fun _ => 1#1)
    ∧ (Cert.Pre_finite_flashfwd.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2)) (m ((c.tc : Thread Cert.FlashFwdIdeal.nD Cert.FlashFwdIdeal.τ).loc Cert.FlashFwdIdeal.main_arg3)) (m ((c.tc : Thread Cert.FlashFwdIdeal.nD Cert.FlashFwdIdeal.τ).loc Cert.FlashFwdIdeal.main_arg4))).2.2.2 = (fun _ => 1#1)

def Pre_FlashFwdRefIdeal (m : (ℓ : Loc Cert.FlashFwdRefIdeal.nD Cert.FlashFwdRefIdeal.τ Cert.FlashFwdRefIdeal.sig) → Buf (Elt Ideal) ℓ) : Prop :=
  True

def Pre_FlashFwdRefIdeal_finite_flashfwd [hPre_finite_flashfwd : Cert.Pre_finite_flashfwd.Facts] (m : (ℓ : Loc Cert.FlashFwdRefIdeal.nD Cert.FlashFwdRefIdeal.τ Cert.FlashFwdRefIdeal.sig) → Buf (Elt Ideal) ℓ) : Prop :=
  ∀ c : Dev Cert.FlashFwdRefIdeal.nD,
    (Cert.Pre_finite_flashfwd.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2)) (m ((c.tc : Thread Cert.FlashFwdRefIdeal.nD Cert.FlashFwdRefIdeal.τ).loc Cert.FlashFwdRefIdeal.main_arg3)) (m ((c.tc : Thread Cert.FlashFwdRefIdeal.nD Cert.FlashFwdRefIdeal.τ).loc Cert.FlashFwdRefIdeal.main_arg4))).1 = (fun _ => 1#1)
    ∧ (Cert.Pre_finite_flashfwd.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2)) (m ((c.tc : Thread Cert.FlashFwdRefIdeal.nD Cert.FlashFwdRefIdeal.τ).loc Cert.FlashFwdRefIdeal.main_arg3)) (m ((c.tc : Thread Cert.FlashFwdRefIdeal.nD Cert.FlashFwdRefIdeal.τ).loc Cert.FlashFwdRefIdeal.main_arg4))).2.1 = (fun _ => 1#1)
    ∧ (Cert.Pre_finite_flashfwd.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2)) (m ((c.tc : Thread Cert.FlashFwdRefIdeal.nD Cert.FlashFwdRefIdeal.τ).loc Cert.FlashFwdRefIdeal.main_arg3)) (m ((c.tc : Thread Cert.FlashFwdRefIdeal.nD Cert.FlashFwdRefIdeal.τ).loc Cert.FlashFwdRefIdeal.main_arg4))).2.2.1 = (fun _ => 1#1)
    ∧ (Cert.Pre_finite_flashfwd.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2)) (m ((c.tc : Thread Cert.FlashFwdRefIdeal.nD Cert.FlashFwdRefIdeal.τ).loc Cert.FlashFwdRefIdeal.main_arg3)) (m ((c.tc : Thread Cert.FlashFwdRefIdeal.nD Cert.FlashFwdRefIdeal.τ).loc Cert.FlashFwdRefIdeal.main_arg4))).2.2.2 = (fun _ => 1#1)

def quiescent_DtBwd [hDtBwd : Cert.DtBwd.Facts] : Prop :=
  ∀ (m : (ℓ : Loc Cert.DtBwd.nD Cert.DtBwd.τ Cert.DtBwd.sig) → Buf (Elt Bits) ℓ) (g : Dev Cert.DtBwd.nD → PrngReg), Pre_DtBwd m →
    θ_run (Cert.DtBwd.defs (F := Bits)) (onTc (τ := Cert.DtBwd.τ) (Cert.DtBwd.main (F := Bits))) ⟨m, fun _ => 0, g⟩ (fun r => (∀ c : Dev Cert.DtBwd.nD,
      r.2.mem ((c.tc : Thread Cert.DtBwd.nD Cert.DtBwd.τ).loc Cert.DtBwd.main_arg0) = m ((c.tc : Thread Cert.DtBwd.nD Cert.DtBwd.τ).loc Cert.DtBwd.main_arg0)
      ∧ r.2.mem ((c.tc : Thread Cert.DtBwd.nD Cert.DtBwd.τ).loc Cert.DtBwd.main_arg1) = m ((c.tc : Thread Cert.DtBwd.nD Cert.DtBwd.τ).loc Cert.DtBwd.main_arg1)
      ∧ r.2.mem ((c.tc : Thread Cert.DtBwd.nD Cert.DtBwd.τ).loc Cert.DtBwd.main_arg2) = m ((c.tc : Thread Cert.DtBwd.nD Cert.DtBwd.τ).loc Cert.DtBwd.main_arg2))
      ∧ r.2.sem = fun _ => 0)

def quiescent_DtBwdIdeal [hDtBwdIdeal : Cert.DtBwdIdeal.Facts] : Prop :=
  ∀ (m : (ℓ : Loc Cert.DtBwdIdeal.nD Cert.DtBwdIdeal.τ Cert.DtBwdIdeal.sig) → Buf (Elt Ideal) ℓ) (g : Dev Cert.DtBwdIdeal.nD → PrngReg), Pre_DtBwdIdeal m →
    θ_run (Cert.DtBwdIdeal.defs (F := Ideal)) (onTc (τ := Cert.DtBwdIdeal.τ) (Cert.DtBwdIdeal.main (F := Ideal))) ⟨m, fun _ => 0, g⟩ (fun r => (∀ c : Dev Cert.DtBwdIdeal.nD,
      r.2.mem ((c.tc : Thread Cert.DtBwdIdeal.nD Cert.DtBwdIdeal.τ).loc Cert.DtBwdIdeal.main_arg0) = m ((c.tc : Thread Cert.DtBwdIdeal.nD Cert.DtBwdIdeal.τ).loc Cert.DtBwdIdeal.main_arg0)
      ∧ r.2.mem ((c.tc : Thread Cert.DtBwdIdeal.nD Cert.DtBwdIdeal.τ).loc Cert.DtBwdIdeal.main_arg1) = m ((c.tc : Thread Cert.DtBwdIdeal.nD Cert.DtBwdIdeal.τ).loc Cert.DtBwdIdeal.main_arg1)
      ∧ r.2.mem ((c.tc : Thread Cert.DtBwdIdeal.nD Cert.DtBwdIdeal.τ).loc Cert.DtBwdIdeal.main_arg2) = m ((c.tc : Thread Cert.DtBwdIdeal.nD Cert.DtBwdIdeal.τ).loc Cert.DtBwdIdeal.main_arg2))
      ∧ r.2.sem = fun _ => 0)

def quiescent_DtBwdRefIdeal [hDtBwdRefIdeal : Cert.DtBwdRefIdeal.Facts] : Prop :=
  ∀ (m : (ℓ : Loc Cert.DtBwdRefIdeal.nD Cert.DtBwdRefIdeal.τ Cert.DtBwdRefIdeal.sig) → Buf (Elt Ideal) ℓ) (g : Dev Cert.DtBwdRefIdeal.nD → PrngReg), Pre_DtBwdRefIdeal m →
    θ_run (Cert.DtBwdRefIdeal.defs (F := Ideal)) (onTc (τ := Cert.DtBwdRefIdeal.τ) (Cert.DtBwdRefIdeal.main (F := Ideal))) ⟨m, fun _ => 0, g⟩ (fun r => (∀ c : Dev Cert.DtBwdRefIdeal.nD,
      r.2.mem ((c.tc : Thread Cert.DtBwdRefIdeal.nD Cert.DtBwdRefIdeal.τ).loc Cert.DtBwdRefIdeal.main_arg0) = m ((c.tc : Thread Cert.DtBwdRefIdeal.nD Cert.DtBwdRefIdeal.τ).loc Cert.DtBwdRefIdeal.main_arg0)
      ∧ r.2.mem ((c.tc : Thread Cert.DtBwdRefIdeal.nD Cert.DtBwdRefIdeal.τ).loc Cert.DtBwdRefIdeal.main_arg1) = m ((c.tc : Thread Cert.DtBwdRefIdeal.nD Cert.DtBwdRefIdeal.τ).loc Cert.DtBwdRefIdeal.main_arg1)
      ∧ r.2.mem ((c.tc : Thread Cert.DtBwdRefIdeal.nD Cert.DtBwdRefIdeal.τ).loc Cert.DtBwdRefIdeal.main_arg2) = m ((c.tc : Thread Cert.DtBwdRefIdeal.nD Cert.DtBwdRefIdeal.τ).loc Cert.DtBwdRefIdeal.main_arg2))
      ∧ r.2.sem = fun _ => 0)

def quiescent_FfnDownLoss [hFfnDownLoss : Cert.FfnDownLoss.Facts] : Prop :=
  ∀ (m : (ℓ : Loc Cert.FfnDownLoss.nD Cert.FfnDownLoss.τ Cert.FfnDownLoss.sig) → Buf (Elt Bits) ℓ) (g : Dev Cert.FfnDownLoss.nD → PrngReg), Pre_FfnDownLoss m →
    θ_run (Cert.FfnDownLoss.defs (F := Bits)) (onTc (τ := Cert.FfnDownLoss.τ) (Cert.FfnDownLoss.main (F := Bits))) ⟨m, fun _ => 0, g⟩ (fun r => (∀ c : Dev Cert.FfnDownLoss.nD,
      r.2.mem ((c.tc : Thread Cert.FfnDownLoss.nD Cert.FfnDownLoss.τ).loc Cert.FfnDownLoss.main_arg0) = m ((c.tc : Thread Cert.FfnDownLoss.nD Cert.FfnDownLoss.τ).loc Cert.FfnDownLoss.main_arg0)
      ∧ r.2.mem ((c.tc : Thread Cert.FfnDownLoss.nD Cert.FfnDownLoss.τ).loc Cert.FfnDownLoss.main_arg1) = m ((c.tc : Thread Cert.FfnDownLoss.nD Cert.FfnDownLoss.τ).loc Cert.FfnDownLoss.main_arg1)
      ∧ r.2.mem ((c.tc : Thread Cert.FfnDownLoss.nD Cert.FfnDownLoss.τ).loc Cert.FfnDownLoss.main_arg2) = m ((c.tc : Thread Cert.FfnDownLoss.nD Cert.FfnDownLoss.τ).loc Cert.FfnDownLoss.main_arg2)
      ∧ r.2.mem ((c.tc : Thread Cert.FfnDownLoss.nD Cert.FfnDownLoss.τ).loc Cert.FfnDownLoss.main_arg3) = m ((c.tc : Thread Cert.FfnDownLoss.nD Cert.FfnDownLoss.τ).loc Cert.FfnDownLoss.main_arg3)
      ∧ r.2.mem ((c.tc : Thread Cert.FfnDownLoss.nD Cert.FfnDownLoss.τ).loc Cert.FfnDownLoss.main_arg4) = m ((c.tc : Thread Cert.FfnDownLoss.nD Cert.FfnDownLoss.τ).loc Cert.FfnDownLoss.main_arg4))
      ∧ r.2.sem = fun _ => 0)

def quiescent_FfnDownLossIdeal [hFfnDownLossIdeal : Cert.FfnDownLossIdeal.Facts] : Prop :=
  ∀ (m : (ℓ : Loc Cert.FfnDownLossIdeal.nD Cert.FfnDownLossIdeal.τ Cert.FfnDownLossIdeal.sig) → Buf (Elt Ideal) ℓ) (g : Dev Cert.FfnDownLossIdeal.nD → PrngReg), Pre_FfnDownLossIdeal m →
    θ_run (Cert.FfnDownLossIdeal.defs (F := Ideal)) (onTc (τ := Cert.FfnDownLossIdeal.τ) (Cert.FfnDownLossIdeal.main (F := Ideal))) ⟨m, fun _ => 0, g⟩ (fun r => (∀ c : Dev Cert.FfnDownLossIdeal.nD,
      r.2.mem ((c.tc : Thread Cert.FfnDownLossIdeal.nD Cert.FfnDownLossIdeal.τ).loc Cert.FfnDownLossIdeal.main_arg0) = m ((c.tc : Thread Cert.FfnDownLossIdeal.nD Cert.FfnDownLossIdeal.τ).loc Cert.FfnDownLossIdeal.main_arg0)
      ∧ r.2.mem ((c.tc : Thread Cert.FfnDownLossIdeal.nD Cert.FfnDownLossIdeal.τ).loc Cert.FfnDownLossIdeal.main_arg1) = m ((c.tc : Thread Cert.FfnDownLossIdeal.nD Cert.FfnDownLossIdeal.τ).loc Cert.FfnDownLossIdeal.main_arg1)
      ∧ r.2.mem ((c.tc : Thread Cert.FfnDownLossIdeal.nD Cert.FfnDownLossIdeal.τ).loc Cert.FfnDownLossIdeal.main_arg2) = m ((c.tc : Thread Cert.FfnDownLossIdeal.nD Cert.FfnDownLossIdeal.τ).loc Cert.FfnDownLossIdeal.main_arg2)
      ∧ r.2.mem ((c.tc : Thread Cert.FfnDownLossIdeal.nD Cert.FfnDownLossIdeal.τ).loc Cert.FfnDownLossIdeal.main_arg3) = m ((c.tc : Thread Cert.FfnDownLossIdeal.nD Cert.FfnDownLossIdeal.τ).loc Cert.FfnDownLossIdeal.main_arg3)
      ∧ r.2.mem ((c.tc : Thread Cert.FfnDownLossIdeal.nD Cert.FfnDownLossIdeal.τ).loc Cert.FfnDownLossIdeal.main_arg4) = m ((c.tc : Thread Cert.FfnDownLossIdeal.nD Cert.FfnDownLossIdeal.τ).loc Cert.FfnDownLossIdeal.main_arg4))
      ∧ r.2.sem = fun _ => 0)

def quiescent_FfnDownLossRefIdeal [hFfnDownLossRefIdeal : Cert.FfnDownLossRefIdeal.Facts] : Prop :=
  ∀ (m : (ℓ : Loc Cert.FfnDownLossRefIdeal.nD Cert.FfnDownLossRefIdeal.τ Cert.FfnDownLossRefIdeal.sig) → Buf (Elt Ideal) ℓ) (g : Dev Cert.FfnDownLossRefIdeal.nD → PrngReg), Pre_FfnDownLossRefIdeal m →
    θ_run (Cert.FfnDownLossRefIdeal.defs (F := Ideal)) (onTc (τ := Cert.FfnDownLossRefIdeal.τ) (Cert.FfnDownLossRefIdeal.main (F := Ideal))) ⟨m, fun _ => 0, g⟩ (fun r => (∀ c : Dev Cert.FfnDownLossRefIdeal.nD,
      r.2.mem ((c.tc : Thread Cert.FfnDownLossRefIdeal.nD Cert.FfnDownLossRefIdeal.τ).loc Cert.FfnDownLossRefIdeal.main_arg0) = m ((c.tc : Thread Cert.FfnDownLossRefIdeal.nD Cert.FfnDownLossRefIdeal.τ).loc Cert.FfnDownLossRefIdeal.main_arg0)
      ∧ r.2.mem ((c.tc : Thread Cert.FfnDownLossRefIdeal.nD Cert.FfnDownLossRefIdeal.τ).loc Cert.FfnDownLossRefIdeal.main_arg1) = m ((c.tc : Thread Cert.FfnDownLossRefIdeal.nD Cert.FfnDownLossRefIdeal.τ).loc Cert.FfnDownLossRefIdeal.main_arg1)
      ∧ r.2.mem ((c.tc : Thread Cert.FfnDownLossRefIdeal.nD Cert.FfnDownLossRefIdeal.τ).loc Cert.FfnDownLossRefIdeal.main_arg2) = m ((c.tc : Thread Cert.FfnDownLossRefIdeal.nD Cert.FfnDownLossRefIdeal.τ).loc Cert.FfnDownLossRefIdeal.main_arg2)
      ∧ r.2.mem ((c.tc : Thread Cert.FfnDownLossRefIdeal.nD Cert.FfnDownLossRefIdeal.τ).loc Cert.FfnDownLossRefIdeal.main_arg3) = m ((c.tc : Thread Cert.FfnDownLossRefIdeal.nD Cert.FfnDownLossRefIdeal.τ).loc Cert.FfnDownLossRefIdeal.main_arg3)
      ∧ r.2.mem ((c.tc : Thread Cert.FfnDownLossRefIdeal.nD Cert.FfnDownLossRefIdeal.τ).loc Cert.FfnDownLossRefIdeal.main_arg4) = m ((c.tc : Thread Cert.FfnDownLossRefIdeal.nD Cert.FfnDownLossRefIdeal.τ).loc Cert.FfnDownLossRefIdeal.main_arg4))
      ∧ r.2.sem = fun _ => 0)

def quiescent_MidBwd [hMidBwd : Cert.MidBwd.Facts] : Prop :=
  ∀ (m : (ℓ : Loc Cert.MidBwd.nD Cert.MidBwd.τ Cert.MidBwd.sig) → Buf (Elt Bits) ℓ) (g : Dev Cert.MidBwd.nD → PrngReg), Pre_MidBwd m →
    θ_run (Cert.MidBwd.defs (F := Bits)) (onTc (τ := Cert.MidBwd.τ) (Cert.MidBwd.main (F := Bits))) ⟨m, fun _ => 0, g⟩ (fun r => (∀ c : Dev Cert.MidBwd.nD,
      r.2.mem ((c.tc : Thread Cert.MidBwd.nD Cert.MidBwd.τ).loc Cert.MidBwd.main_arg0) = m ((c.tc : Thread Cert.MidBwd.nD Cert.MidBwd.τ).loc Cert.MidBwd.main_arg0)
      ∧ r.2.mem ((c.tc : Thread Cert.MidBwd.nD Cert.MidBwd.τ).loc Cert.MidBwd.main_arg1) = m ((c.tc : Thread Cert.MidBwd.nD Cert.MidBwd.τ).loc Cert.MidBwd.main_arg1)
      ∧ r.2.mem ((c.tc : Thread Cert.MidBwd.nD Cert.MidBwd.τ).loc Cert.MidBwd.main_arg2) = m ((c.tc : Thread Cert.MidBwd.nD Cert.MidBwd.τ).loc Cert.MidBwd.main_arg2)
      ∧ r.2.mem ((c.tc : Thread Cert.MidBwd.nD Cert.MidBwd.τ).loc Cert.MidBwd.main_arg3) = m ((c.tc : Thread Cert.MidBwd.nD Cert.MidBwd.τ).loc Cert.MidBwd.main_arg3)
      ∧ r.2.mem ((c.tc : Thread Cert.MidBwd.nD Cert.MidBwd.τ).loc Cert.MidBwd.main_arg4) = m ((c.tc : Thread Cert.MidBwd.nD Cert.MidBwd.τ).loc Cert.MidBwd.main_arg4)
      ∧ r.2.mem ((c.tc : Thread Cert.MidBwd.nD Cert.MidBwd.τ).loc Cert.MidBwd.main_arg5) = m ((c.tc : Thread Cert.MidBwd.nD Cert.MidBwd.τ).loc Cert.MidBwd.main_arg5)
      ∧ r.2.mem ((c.tc : Thread Cert.MidBwd.nD Cert.MidBwd.τ).loc Cert.MidBwd.main_arg6) = m ((c.tc : Thread Cert.MidBwd.nD Cert.MidBwd.τ).loc Cert.MidBwd.main_arg6))
      ∧ r.2.sem = fun _ => 0)

def quiescent_MidBwdIdeal [hMidBwdIdeal : Cert.MidBwdIdeal.Facts] : Prop :=
  ∀ (m : (ℓ : Loc Cert.MidBwdIdeal.nD Cert.MidBwdIdeal.τ Cert.MidBwdIdeal.sig) → Buf (Elt Ideal) ℓ) (g : Dev Cert.MidBwdIdeal.nD → PrngReg), Pre_MidBwdIdeal m →
    θ_run (Cert.MidBwdIdeal.defs (F := Ideal)) (onTc (τ := Cert.MidBwdIdeal.τ) (Cert.MidBwdIdeal.main (F := Ideal))) ⟨m, fun _ => 0, g⟩ (fun r => (∀ c : Dev Cert.MidBwdIdeal.nD,
      r.2.mem ((c.tc : Thread Cert.MidBwdIdeal.nD Cert.MidBwdIdeal.τ).loc Cert.MidBwdIdeal.main_arg0) = m ((c.tc : Thread Cert.MidBwdIdeal.nD Cert.MidBwdIdeal.τ).loc Cert.MidBwdIdeal.main_arg0)
      ∧ r.2.mem ((c.tc : Thread Cert.MidBwdIdeal.nD Cert.MidBwdIdeal.τ).loc Cert.MidBwdIdeal.main_arg1) = m ((c.tc : Thread Cert.MidBwdIdeal.nD Cert.MidBwdIdeal.τ).loc Cert.MidBwdIdeal.main_arg1)
      ∧ r.2.mem ((c.tc : Thread Cert.MidBwdIdeal.nD Cert.MidBwdIdeal.τ).loc Cert.MidBwdIdeal.main_arg2) = m ((c.tc : Thread Cert.MidBwdIdeal.nD Cert.MidBwdIdeal.τ).loc Cert.MidBwdIdeal.main_arg2)
      ∧ r.2.mem ((c.tc : Thread Cert.MidBwdIdeal.nD Cert.MidBwdIdeal.τ).loc Cert.MidBwdIdeal.main_arg3) = m ((c.tc : Thread Cert.MidBwdIdeal.nD Cert.MidBwdIdeal.τ).loc Cert.MidBwdIdeal.main_arg3)
      ∧ r.2.mem ((c.tc : Thread Cert.MidBwdIdeal.nD Cert.MidBwdIdeal.τ).loc Cert.MidBwdIdeal.main_arg4) = m ((c.tc : Thread Cert.MidBwdIdeal.nD Cert.MidBwdIdeal.τ).loc Cert.MidBwdIdeal.main_arg4)
      ∧ r.2.mem ((c.tc : Thread Cert.MidBwdIdeal.nD Cert.MidBwdIdeal.τ).loc Cert.MidBwdIdeal.main_arg5) = m ((c.tc : Thread Cert.MidBwdIdeal.nD Cert.MidBwdIdeal.τ).loc Cert.MidBwdIdeal.main_arg5)
      ∧ r.2.mem ((c.tc : Thread Cert.MidBwdIdeal.nD Cert.MidBwdIdeal.τ).loc Cert.MidBwdIdeal.main_arg6) = m ((c.tc : Thread Cert.MidBwdIdeal.nD Cert.MidBwdIdeal.τ).loc Cert.MidBwdIdeal.main_arg6))
      ∧ r.2.sem = fun _ => 0)

def quiescent_MidBwdRefIdeal [hMidBwdRefIdeal : Cert.MidBwdRefIdeal.Facts] : Prop :=
  ∀ (m : (ℓ : Loc Cert.MidBwdRefIdeal.nD Cert.MidBwdRefIdeal.τ Cert.MidBwdRefIdeal.sig) → Buf (Elt Ideal) ℓ) (g : Dev Cert.MidBwdRefIdeal.nD → PrngReg), Pre_MidBwdRefIdeal m →
    θ_run (Cert.MidBwdRefIdeal.defs (F := Ideal)) (onTc (τ := Cert.MidBwdRefIdeal.τ) (Cert.MidBwdRefIdeal.main (F := Ideal))) ⟨m, fun _ => 0, g⟩ (fun r => (∀ c : Dev Cert.MidBwdRefIdeal.nD,
      r.2.mem ((c.tc : Thread Cert.MidBwdRefIdeal.nD Cert.MidBwdRefIdeal.τ).loc Cert.MidBwdRefIdeal.main_arg0) = m ((c.tc : Thread Cert.MidBwdRefIdeal.nD Cert.MidBwdRefIdeal.τ).loc Cert.MidBwdRefIdeal.main_arg0)
      ∧ r.2.mem ((c.tc : Thread Cert.MidBwdRefIdeal.nD Cert.MidBwdRefIdeal.τ).loc Cert.MidBwdRefIdeal.main_arg1) = m ((c.tc : Thread Cert.MidBwdRefIdeal.nD Cert.MidBwdRefIdeal.τ).loc Cert.MidBwdRefIdeal.main_arg1)
      ∧ r.2.mem ((c.tc : Thread Cert.MidBwdRefIdeal.nD Cert.MidBwdRefIdeal.τ).loc Cert.MidBwdRefIdeal.main_arg2) = m ((c.tc : Thread Cert.MidBwdRefIdeal.nD Cert.MidBwdRefIdeal.τ).loc Cert.MidBwdRefIdeal.main_arg2)
      ∧ r.2.mem ((c.tc : Thread Cert.MidBwdRefIdeal.nD Cert.MidBwdRefIdeal.τ).loc Cert.MidBwdRefIdeal.main_arg3) = m ((c.tc : Thread Cert.MidBwdRefIdeal.nD Cert.MidBwdRefIdeal.τ).loc Cert.MidBwdRefIdeal.main_arg3)
      ∧ r.2.mem ((c.tc : Thread Cert.MidBwdRefIdeal.nD Cert.MidBwdRefIdeal.τ).loc Cert.MidBwdRefIdeal.main_arg4) = m ((c.tc : Thread Cert.MidBwdRefIdeal.nD Cert.MidBwdRefIdeal.τ).loc Cert.MidBwdRefIdeal.main_arg4)
      ∧ r.2.mem ((c.tc : Thread Cert.MidBwdRefIdeal.nD Cert.MidBwdRefIdeal.τ).loc Cert.MidBwdRefIdeal.main_arg5) = m ((c.tc : Thread Cert.MidBwdRefIdeal.nD Cert.MidBwdRefIdeal.τ).loc Cert.MidBwdRefIdeal.main_arg5)
      ∧ r.2.mem ((c.tc : Thread Cert.MidBwdRefIdeal.nD Cert.MidBwdRefIdeal.τ).loc Cert.MidBwdRefIdeal.main_arg6) = m ((c.tc : Thread Cert.MidBwdRefIdeal.nD Cert.MidBwdRefIdeal.τ).loc Cert.MidBwdRefIdeal.main_arg6))
      ∧ r.2.sem = fun _ => 0)

def quiescent_AttnOutBwd [hAttnOutBwd : Cert.AttnOutBwd.Facts] : Prop :=
  ∀ (m : (ℓ : Loc Cert.AttnOutBwd.nD Cert.AttnOutBwd.τ Cert.AttnOutBwd.sig) → Buf (Elt Bits) ℓ) (g : Dev Cert.AttnOutBwd.nD → PrngReg), Pre_AttnOutBwd m →
    θ_run (Cert.AttnOutBwd.defs (F := Bits)) (onTc (τ := Cert.AttnOutBwd.τ) (Cert.AttnOutBwd.main (F := Bits))) ⟨m, fun _ => 0, g⟩ (fun r => (∀ c : Dev Cert.AttnOutBwd.nD,
      r.2.mem ((c.tc : Thread Cert.AttnOutBwd.nD Cert.AttnOutBwd.τ).loc Cert.AttnOutBwd.main_arg0) = m ((c.tc : Thread Cert.AttnOutBwd.nD Cert.AttnOutBwd.τ).loc Cert.AttnOutBwd.main_arg0)
      ∧ r.2.mem ((c.tc : Thread Cert.AttnOutBwd.nD Cert.AttnOutBwd.τ).loc Cert.AttnOutBwd.main_arg1) = m ((c.tc : Thread Cert.AttnOutBwd.nD Cert.AttnOutBwd.τ).loc Cert.AttnOutBwd.main_arg1)
      ∧ r.2.mem ((c.tc : Thread Cert.AttnOutBwd.nD Cert.AttnOutBwd.τ).loc Cert.AttnOutBwd.main_arg2) = m ((c.tc : Thread Cert.AttnOutBwd.nD Cert.AttnOutBwd.τ).loc Cert.AttnOutBwd.main_arg2)
      ∧ r.2.mem ((c.tc : Thread Cert.AttnOutBwd.nD Cert.AttnOutBwd.τ).loc Cert.AttnOutBwd.main_arg3) = m ((c.tc : Thread Cert.AttnOutBwd.nD Cert.AttnOutBwd.τ).loc Cert.AttnOutBwd.main_arg3))
      ∧ r.2.sem = fun _ => 0)

def quiescent_AttnOutBwdIdeal [hAttnOutBwdIdeal : Cert.AttnOutBwdIdeal.Facts] : Prop :=
  ∀ (m : (ℓ : Loc Cert.AttnOutBwdIdeal.nD Cert.AttnOutBwdIdeal.τ Cert.AttnOutBwdIdeal.sig) → Buf (Elt Ideal) ℓ) (g : Dev Cert.AttnOutBwdIdeal.nD → PrngReg), Pre_AttnOutBwdIdeal m →
    θ_run (Cert.AttnOutBwdIdeal.defs (F := Ideal)) (onTc (τ := Cert.AttnOutBwdIdeal.τ) (Cert.AttnOutBwdIdeal.main (F := Ideal))) ⟨m, fun _ => 0, g⟩ (fun r => (∀ c : Dev Cert.AttnOutBwdIdeal.nD,
      r.2.mem ((c.tc : Thread Cert.AttnOutBwdIdeal.nD Cert.AttnOutBwdIdeal.τ).loc Cert.AttnOutBwdIdeal.main_arg0) = m ((c.tc : Thread Cert.AttnOutBwdIdeal.nD Cert.AttnOutBwdIdeal.τ).loc Cert.AttnOutBwdIdeal.main_arg0)
      ∧ r.2.mem ((c.tc : Thread Cert.AttnOutBwdIdeal.nD Cert.AttnOutBwdIdeal.τ).loc Cert.AttnOutBwdIdeal.main_arg1) = m ((c.tc : Thread Cert.AttnOutBwdIdeal.nD Cert.AttnOutBwdIdeal.τ).loc Cert.AttnOutBwdIdeal.main_arg1)
      ∧ r.2.mem ((c.tc : Thread Cert.AttnOutBwdIdeal.nD Cert.AttnOutBwdIdeal.τ).loc Cert.AttnOutBwdIdeal.main_arg2) = m ((c.tc : Thread Cert.AttnOutBwdIdeal.nD Cert.AttnOutBwdIdeal.τ).loc Cert.AttnOutBwdIdeal.main_arg2)
      ∧ r.2.mem ((c.tc : Thread Cert.AttnOutBwdIdeal.nD Cert.AttnOutBwdIdeal.τ).loc Cert.AttnOutBwdIdeal.main_arg3) = m ((c.tc : Thread Cert.AttnOutBwdIdeal.nD Cert.AttnOutBwdIdeal.τ).loc Cert.AttnOutBwdIdeal.main_arg3))
      ∧ r.2.sem = fun _ => 0)

def quiescent_AttnOutBwdRefIdeal [hAttnOutBwdRefIdeal : Cert.AttnOutBwdRefIdeal.Facts] : Prop :=
  ∀ (m : (ℓ : Loc Cert.AttnOutBwdRefIdeal.nD Cert.AttnOutBwdRefIdeal.τ Cert.AttnOutBwdRefIdeal.sig) → Buf (Elt Ideal) ℓ) (g : Dev Cert.AttnOutBwdRefIdeal.nD → PrngReg), Pre_AttnOutBwdRefIdeal m →
    θ_run (Cert.AttnOutBwdRefIdeal.defs (F := Ideal)) (onTc (τ := Cert.AttnOutBwdRefIdeal.τ) (Cert.AttnOutBwdRefIdeal.main (F := Ideal))) ⟨m, fun _ => 0, g⟩ (fun r => (∀ c : Dev Cert.AttnOutBwdRefIdeal.nD,
      r.2.mem ((c.tc : Thread Cert.AttnOutBwdRefIdeal.nD Cert.AttnOutBwdRefIdeal.τ).loc Cert.AttnOutBwdRefIdeal.main_arg0) = m ((c.tc : Thread Cert.AttnOutBwdRefIdeal.nD Cert.AttnOutBwdRefIdeal.τ).loc Cert.AttnOutBwdRefIdeal.main_arg0)
      ∧ r.2.mem ((c.tc : Thread Cert.AttnOutBwdRefIdeal.nD Cert.AttnOutBwdRefIdeal.τ).loc Cert.AttnOutBwdRefIdeal.main_arg1) = m ((c.tc : Thread Cert.AttnOutBwdRefIdeal.nD Cert.AttnOutBwdRefIdeal.τ).loc Cert.AttnOutBwdRefIdeal.main_arg1)
      ∧ r.2.mem ((c.tc : Thread Cert.AttnOutBwdRefIdeal.nD Cert.AttnOutBwdRefIdeal.τ).loc Cert.AttnOutBwdRefIdeal.main_arg2) = m ((c.tc : Thread Cert.AttnOutBwdRefIdeal.nD Cert.AttnOutBwdRefIdeal.τ).loc Cert.AttnOutBwdRefIdeal.main_arg2)
      ∧ r.2.mem ((c.tc : Thread Cert.AttnOutBwdRefIdeal.nD Cert.AttnOutBwdRefIdeal.τ).loc Cert.AttnOutBwdRefIdeal.main_arg3) = m ((c.tc : Thread Cert.AttnOutBwdRefIdeal.nD Cert.AttnOutBwdRefIdeal.τ).loc Cert.AttnOutBwdRefIdeal.main_arg3))
      ∧ r.2.sem = fun _ => 0)

def quiescent_QBranchBwd [hQBranchBwd : Cert.QBranchBwd.Facts] : Prop :=
  ∀ (m : (ℓ : Loc Cert.QBranchBwd.nD Cert.QBranchBwd.τ Cert.QBranchBwd.sig) → Buf (Elt Bits) ℓ) (g : Dev Cert.QBranchBwd.nD → PrngReg), Pre_QBranchBwd m →
    θ_run (Cert.QBranchBwd.defs (F := Bits)) (onTc (τ := Cert.QBranchBwd.τ) (Cert.QBranchBwd.main (F := Bits))) ⟨m, fun _ => 0, g⟩ (fun r => (∀ c : Dev Cert.QBranchBwd.nD,
      r.2.mem ((c.tc : Thread Cert.QBranchBwd.nD Cert.QBranchBwd.τ).loc Cert.QBranchBwd.main_arg0) = m ((c.tc : Thread Cert.QBranchBwd.nD Cert.QBranchBwd.τ).loc Cert.QBranchBwd.main_arg0)
      ∧ r.2.mem ((c.tc : Thread Cert.QBranchBwd.nD Cert.QBranchBwd.τ).loc Cert.QBranchBwd.main_arg1) = m ((c.tc : Thread Cert.QBranchBwd.nD Cert.QBranchBwd.τ).loc Cert.QBranchBwd.main_arg1)
      ∧ r.2.mem ((c.tc : Thread Cert.QBranchBwd.nD Cert.QBranchBwd.τ).loc Cert.QBranchBwd.main_arg2) = m ((c.tc : Thread Cert.QBranchBwd.nD Cert.QBranchBwd.τ).loc Cert.QBranchBwd.main_arg2)
      ∧ r.2.mem ((c.tc : Thread Cert.QBranchBwd.nD Cert.QBranchBwd.τ).loc Cert.QBranchBwd.main_arg3) = m ((c.tc : Thread Cert.QBranchBwd.nD Cert.QBranchBwd.τ).loc Cert.QBranchBwd.main_arg3)
      ∧ r.2.mem ((c.tc : Thread Cert.QBranchBwd.nD Cert.QBranchBwd.τ).loc Cert.QBranchBwd.main_arg4) = m ((c.tc : Thread Cert.QBranchBwd.nD Cert.QBranchBwd.τ).loc Cert.QBranchBwd.main_arg4)
      ∧ r.2.mem ((c.tc : Thread Cert.QBranchBwd.nD Cert.QBranchBwd.τ).loc Cert.QBranchBwd.main_arg5) = m ((c.tc : Thread Cert.QBranchBwd.nD Cert.QBranchBwd.τ).loc Cert.QBranchBwd.main_arg5))
      ∧ r.2.sem = fun _ => 0)

def quiescent_QBranchBwdIdeal [hQBranchBwdIdeal : Cert.QBranchBwdIdeal.Facts] : Prop :=
  ∀ (m : (ℓ : Loc Cert.QBranchBwdIdeal.nD Cert.QBranchBwdIdeal.τ Cert.QBranchBwdIdeal.sig) → Buf (Elt Ideal) ℓ) (g : Dev Cert.QBranchBwdIdeal.nD → PrngReg), Pre_QBranchBwdIdeal m →
    θ_run (Cert.QBranchBwdIdeal.defs (F := Ideal)) (onTc (τ := Cert.QBranchBwdIdeal.τ) (Cert.QBranchBwdIdeal.main (F := Ideal))) ⟨m, fun _ => 0, g⟩ (fun r => (∀ c : Dev Cert.QBranchBwdIdeal.nD,
      r.2.mem ((c.tc : Thread Cert.QBranchBwdIdeal.nD Cert.QBranchBwdIdeal.τ).loc Cert.QBranchBwdIdeal.main_arg0) = m ((c.tc : Thread Cert.QBranchBwdIdeal.nD Cert.QBranchBwdIdeal.τ).loc Cert.QBranchBwdIdeal.main_arg0)
      ∧ r.2.mem ((c.tc : Thread Cert.QBranchBwdIdeal.nD Cert.QBranchBwdIdeal.τ).loc Cert.QBranchBwdIdeal.main_arg1) = m ((c.tc : Thread Cert.QBranchBwdIdeal.nD Cert.QBranchBwdIdeal.τ).loc Cert.QBranchBwdIdeal.main_arg1)
      ∧ r.2.mem ((c.tc : Thread Cert.QBranchBwdIdeal.nD Cert.QBranchBwdIdeal.τ).loc Cert.QBranchBwdIdeal.main_arg2) = m ((c.tc : Thread Cert.QBranchBwdIdeal.nD Cert.QBranchBwdIdeal.τ).loc Cert.QBranchBwdIdeal.main_arg2)
      ∧ r.2.mem ((c.tc : Thread Cert.QBranchBwdIdeal.nD Cert.QBranchBwdIdeal.τ).loc Cert.QBranchBwdIdeal.main_arg3) = m ((c.tc : Thread Cert.QBranchBwdIdeal.nD Cert.QBranchBwdIdeal.τ).loc Cert.QBranchBwdIdeal.main_arg3)
      ∧ r.2.mem ((c.tc : Thread Cert.QBranchBwdIdeal.nD Cert.QBranchBwdIdeal.τ).loc Cert.QBranchBwdIdeal.main_arg4) = m ((c.tc : Thread Cert.QBranchBwdIdeal.nD Cert.QBranchBwdIdeal.τ).loc Cert.QBranchBwdIdeal.main_arg4)
      ∧ r.2.mem ((c.tc : Thread Cert.QBranchBwdIdeal.nD Cert.QBranchBwdIdeal.τ).loc Cert.QBranchBwdIdeal.main_arg5) = m ((c.tc : Thread Cert.QBranchBwdIdeal.nD Cert.QBranchBwdIdeal.τ).loc Cert.QBranchBwdIdeal.main_arg5))
      ∧ r.2.sem = fun _ => 0)

def quiescent_QBranchBwdRefIdeal [hQBranchBwdRefIdeal : Cert.QBranchBwdRefIdeal.Facts] : Prop :=
  ∀ (m : (ℓ : Loc Cert.QBranchBwdRefIdeal.nD Cert.QBranchBwdRefIdeal.τ Cert.QBranchBwdRefIdeal.sig) → Buf (Elt Ideal) ℓ) (g : Dev Cert.QBranchBwdRefIdeal.nD → PrngReg), Pre_QBranchBwdRefIdeal m →
    θ_run (Cert.QBranchBwdRefIdeal.defs (F := Ideal)) (onTc (τ := Cert.QBranchBwdRefIdeal.τ) (Cert.QBranchBwdRefIdeal.main (F := Ideal))) ⟨m, fun _ => 0, g⟩ (fun r => (∀ c : Dev Cert.QBranchBwdRefIdeal.nD,
      r.2.mem ((c.tc : Thread Cert.QBranchBwdRefIdeal.nD Cert.QBranchBwdRefIdeal.τ).loc Cert.QBranchBwdRefIdeal.main_arg0) = m ((c.tc : Thread Cert.QBranchBwdRefIdeal.nD Cert.QBranchBwdRefIdeal.τ).loc Cert.QBranchBwdRefIdeal.main_arg0)
      ∧ r.2.mem ((c.tc : Thread Cert.QBranchBwdRefIdeal.nD Cert.QBranchBwdRefIdeal.τ).loc Cert.QBranchBwdRefIdeal.main_arg1) = m ((c.tc : Thread Cert.QBranchBwdRefIdeal.nD Cert.QBranchBwdRefIdeal.τ).loc Cert.QBranchBwdRefIdeal.main_arg1)
      ∧ r.2.mem ((c.tc : Thread Cert.QBranchBwdRefIdeal.nD Cert.QBranchBwdRefIdeal.τ).loc Cert.QBranchBwdRefIdeal.main_arg2) = m ((c.tc : Thread Cert.QBranchBwdRefIdeal.nD Cert.QBranchBwdRefIdeal.τ).loc Cert.QBranchBwdRefIdeal.main_arg2)
      ∧ r.2.mem ((c.tc : Thread Cert.QBranchBwdRefIdeal.nD Cert.QBranchBwdRefIdeal.τ).loc Cert.QBranchBwdRefIdeal.main_arg3) = m ((c.tc : Thread Cert.QBranchBwdRefIdeal.nD Cert.QBranchBwdRefIdeal.τ).loc Cert.QBranchBwdRefIdeal.main_arg3)
      ∧ r.2.mem ((c.tc : Thread Cert.QBranchBwdRefIdeal.nD Cert.QBranchBwdRefIdeal.τ).loc Cert.QBranchBwdRefIdeal.main_arg4) = m ((c.tc : Thread Cert.QBranchBwdRefIdeal.nD Cert.QBranchBwdRefIdeal.τ).loc Cert.QBranchBwdRefIdeal.main_arg4)
      ∧ r.2.mem ((c.tc : Thread Cert.QBranchBwdRefIdeal.nD Cert.QBranchBwdRefIdeal.τ).loc Cert.QBranchBwdRefIdeal.main_arg5) = m ((c.tc : Thread Cert.QBranchBwdRefIdeal.nD Cert.QBranchBwdRefIdeal.τ).loc Cert.QBranchBwdRefIdeal.main_arg5))
      ∧ r.2.sem = fun _ => 0)

def quiescent_KvBranchBwd [hKvBranchBwd : Cert.KvBranchBwd.Facts] : Prop :=
  ∀ (m : (ℓ : Loc Cert.KvBranchBwd.nD Cert.KvBranchBwd.τ Cert.KvBranchBwd.sig) → Buf (Elt Bits) ℓ) (g : Dev Cert.KvBranchBwd.nD → PrngReg), Pre_KvBranchBwd m →
    θ_run (Cert.KvBranchBwd.defs (F := Bits)) (onTc (τ := Cert.KvBranchBwd.τ) (Cert.KvBranchBwd.main (F := Bits))) ⟨m, fun _ => 0, g⟩ (fun r => (∀ c : Dev Cert.KvBranchBwd.nD,
      r.2.mem ((c.tc : Thread Cert.KvBranchBwd.nD Cert.KvBranchBwd.τ).loc Cert.KvBranchBwd.main_arg0) = m ((c.tc : Thread Cert.KvBranchBwd.nD Cert.KvBranchBwd.τ).loc Cert.KvBranchBwd.main_arg0)
      ∧ r.2.mem ((c.tc : Thread Cert.KvBranchBwd.nD Cert.KvBranchBwd.τ).loc Cert.KvBranchBwd.main_arg1) = m ((c.tc : Thread Cert.KvBranchBwd.nD Cert.KvBranchBwd.τ).loc Cert.KvBranchBwd.main_arg1)
      ∧ r.2.mem ((c.tc : Thread Cert.KvBranchBwd.nD Cert.KvBranchBwd.τ).loc Cert.KvBranchBwd.main_arg2) = m ((c.tc : Thread Cert.KvBranchBwd.nD Cert.KvBranchBwd.τ).loc Cert.KvBranchBwd.main_arg2)
      ∧ r.2.mem ((c.tc : Thread Cert.KvBranchBwd.nD Cert.KvBranchBwd.τ).loc Cert.KvBranchBwd.main_arg3) = m ((c.tc : Thread Cert.KvBranchBwd.nD Cert.KvBranchBwd.τ).loc Cert.KvBranchBwd.main_arg3)
      ∧ r.2.mem ((c.tc : Thread Cert.KvBranchBwd.nD Cert.KvBranchBwd.τ).loc Cert.KvBranchBwd.main_arg4) = m ((c.tc : Thread Cert.KvBranchBwd.nD Cert.KvBranchBwd.τ).loc Cert.KvBranchBwd.main_arg4)
      ∧ r.2.mem ((c.tc : Thread Cert.KvBranchBwd.nD Cert.KvBranchBwd.τ).loc Cert.KvBranchBwd.main_arg5) = m ((c.tc : Thread Cert.KvBranchBwd.nD Cert.KvBranchBwd.τ).loc Cert.KvBranchBwd.main_arg5)
      ∧ r.2.mem ((c.tc : Thread Cert.KvBranchBwd.nD Cert.KvBranchBwd.τ).loc Cert.KvBranchBwd.main_arg6) = m ((c.tc : Thread Cert.KvBranchBwd.nD Cert.KvBranchBwd.τ).loc Cert.KvBranchBwd.main_arg6)
      ∧ r.2.mem ((c.tc : Thread Cert.KvBranchBwd.nD Cert.KvBranchBwd.τ).loc Cert.KvBranchBwd.main_arg7) = m ((c.tc : Thread Cert.KvBranchBwd.nD Cert.KvBranchBwd.τ).loc Cert.KvBranchBwd.main_arg7))
      ∧ r.2.sem = fun _ => 0)

def quiescent_KvBranchBwdIdeal [hKvBranchBwdIdeal : Cert.KvBranchBwdIdeal.Facts] : Prop :=
  ∀ (m : (ℓ : Loc Cert.KvBranchBwdIdeal.nD Cert.KvBranchBwdIdeal.τ Cert.KvBranchBwdIdeal.sig) → Buf (Elt Ideal) ℓ) (g : Dev Cert.KvBranchBwdIdeal.nD → PrngReg), Pre_KvBranchBwdIdeal m →
    θ_run (Cert.KvBranchBwdIdeal.defs (F := Ideal)) (onTc (τ := Cert.KvBranchBwdIdeal.τ) (Cert.KvBranchBwdIdeal.main (F := Ideal))) ⟨m, fun _ => 0, g⟩ (fun r => (∀ c : Dev Cert.KvBranchBwdIdeal.nD,
      r.2.mem ((c.tc : Thread Cert.KvBranchBwdIdeal.nD Cert.KvBranchBwdIdeal.τ).loc Cert.KvBranchBwdIdeal.main_arg0) = m ((c.tc : Thread Cert.KvBranchBwdIdeal.nD Cert.KvBranchBwdIdeal.τ).loc Cert.KvBranchBwdIdeal.main_arg0)
      ∧ r.2.mem ((c.tc : Thread Cert.KvBranchBwdIdeal.nD Cert.KvBranchBwdIdeal.τ).loc Cert.KvBranchBwdIdeal.main_arg1) = m ((c.tc : Thread Cert.KvBranchBwdIdeal.nD Cert.KvBranchBwdIdeal.τ).loc Cert.KvBranchBwdIdeal.main_arg1)
      ∧ r.2.mem ((c.tc : Thread Cert.KvBranchBwdIdeal.nD Cert.KvBranchBwdIdeal.τ).loc Cert.KvBranchBwdIdeal.main_arg2) = m ((c.tc : Thread Cert.KvBranchBwdIdeal.nD Cert.KvBranchBwdIdeal.τ).loc Cert.KvBranchBwdIdeal.main_arg2)
      ∧ r.2.mem ((c.tc : Thread Cert.KvBranchBwdIdeal.nD Cert.KvBranchBwdIdeal.τ).loc Cert.KvBranchBwdIdeal.main_arg3) = m ((c.tc : Thread Cert.KvBranchBwdIdeal.nD Cert.KvBranchBwdIdeal.τ).loc Cert.KvBranchBwdIdeal.main_arg3)
      ∧ r.2.mem ((c.tc : Thread Cert.KvBranchBwdIdeal.nD Cert.KvBranchBwdIdeal.τ).loc Cert.KvBranchBwdIdeal.main_arg4) = m ((c.tc : Thread Cert.KvBranchBwdIdeal.nD Cert.KvBranchBwdIdeal.τ).loc Cert.KvBranchBwdIdeal.main_arg4)
      ∧ r.2.mem ((c.tc : Thread Cert.KvBranchBwdIdeal.nD Cert.KvBranchBwdIdeal.τ).loc Cert.KvBranchBwdIdeal.main_arg5) = m ((c.tc : Thread Cert.KvBranchBwdIdeal.nD Cert.KvBranchBwdIdeal.τ).loc Cert.KvBranchBwdIdeal.main_arg5)
      ∧ r.2.mem ((c.tc : Thread Cert.KvBranchBwdIdeal.nD Cert.KvBranchBwdIdeal.τ).loc Cert.KvBranchBwdIdeal.main_arg6) = m ((c.tc : Thread Cert.KvBranchBwdIdeal.nD Cert.KvBranchBwdIdeal.τ).loc Cert.KvBranchBwdIdeal.main_arg6)
      ∧ r.2.mem ((c.tc : Thread Cert.KvBranchBwdIdeal.nD Cert.KvBranchBwdIdeal.τ).loc Cert.KvBranchBwdIdeal.main_arg7) = m ((c.tc : Thread Cert.KvBranchBwdIdeal.nD Cert.KvBranchBwdIdeal.τ).loc Cert.KvBranchBwdIdeal.main_arg7))
      ∧ r.2.sem = fun _ => 0)

def quiescent_KvBranchBwdRefIdeal [hKvBranchBwdRefIdeal : Cert.KvBranchBwdRefIdeal.Facts] : Prop :=
  ∀ (m : (ℓ : Loc Cert.KvBranchBwdRefIdeal.nD Cert.KvBranchBwdRefIdeal.τ Cert.KvBranchBwdRefIdeal.sig) → Buf (Elt Ideal) ℓ) (g : Dev Cert.KvBranchBwdRefIdeal.nD → PrngReg), Pre_KvBranchBwdRefIdeal m →
    θ_run (Cert.KvBranchBwdRefIdeal.defs (F := Ideal)) (onTc (τ := Cert.KvBranchBwdRefIdeal.τ) (Cert.KvBranchBwdRefIdeal.main (F := Ideal))) ⟨m, fun _ => 0, g⟩ (fun r => (∀ c : Dev Cert.KvBranchBwdRefIdeal.nD,
      r.2.mem ((c.tc : Thread Cert.KvBranchBwdRefIdeal.nD Cert.KvBranchBwdRefIdeal.τ).loc Cert.KvBranchBwdRefIdeal.main_arg0) = m ((c.tc : Thread Cert.KvBranchBwdRefIdeal.nD Cert.KvBranchBwdRefIdeal.τ).loc Cert.KvBranchBwdRefIdeal.main_arg0)
      ∧ r.2.mem ((c.tc : Thread Cert.KvBranchBwdRefIdeal.nD Cert.KvBranchBwdRefIdeal.τ).loc Cert.KvBranchBwdRefIdeal.main_arg1) = m ((c.tc : Thread Cert.KvBranchBwdRefIdeal.nD Cert.KvBranchBwdRefIdeal.τ).loc Cert.KvBranchBwdRefIdeal.main_arg1)
      ∧ r.2.mem ((c.tc : Thread Cert.KvBranchBwdRefIdeal.nD Cert.KvBranchBwdRefIdeal.τ).loc Cert.KvBranchBwdRefIdeal.main_arg2) = m ((c.tc : Thread Cert.KvBranchBwdRefIdeal.nD Cert.KvBranchBwdRefIdeal.τ).loc Cert.KvBranchBwdRefIdeal.main_arg2)
      ∧ r.2.mem ((c.tc : Thread Cert.KvBranchBwdRefIdeal.nD Cert.KvBranchBwdRefIdeal.τ).loc Cert.KvBranchBwdRefIdeal.main_arg3) = m ((c.tc : Thread Cert.KvBranchBwdRefIdeal.nD Cert.KvBranchBwdRefIdeal.τ).loc Cert.KvBranchBwdRefIdeal.main_arg3)
      ∧ r.2.mem ((c.tc : Thread Cert.KvBranchBwdRefIdeal.nD Cert.KvBranchBwdRefIdeal.τ).loc Cert.KvBranchBwdRefIdeal.main_arg4) = m ((c.tc : Thread Cert.KvBranchBwdRefIdeal.nD Cert.KvBranchBwdRefIdeal.τ).loc Cert.KvBranchBwdRefIdeal.main_arg4)
      ∧ r.2.mem ((c.tc : Thread Cert.KvBranchBwdRefIdeal.nD Cert.KvBranchBwdRefIdeal.τ).loc Cert.KvBranchBwdRefIdeal.main_arg5) = m ((c.tc : Thread Cert.KvBranchBwdRefIdeal.nD Cert.KvBranchBwdRefIdeal.τ).loc Cert.KvBranchBwdRefIdeal.main_arg5)
      ∧ r.2.mem ((c.tc : Thread Cert.KvBranchBwdRefIdeal.nD Cert.KvBranchBwdRefIdeal.τ).loc Cert.KvBranchBwdRefIdeal.main_arg6) = m ((c.tc : Thread Cert.KvBranchBwdRefIdeal.nD Cert.KvBranchBwdRefIdeal.τ).loc Cert.KvBranchBwdRefIdeal.main_arg6)
      ∧ r.2.mem ((c.tc : Thread Cert.KvBranchBwdRefIdeal.nD Cert.KvBranchBwdRefIdeal.τ).loc Cert.KvBranchBwdRefIdeal.main_arg7) = m ((c.tc : Thread Cert.KvBranchBwdRefIdeal.nD Cert.KvBranchBwdRefIdeal.τ).loc Cert.KvBranchBwdRefIdeal.main_arg7))
      ∧ r.2.sem = fun _ => 0)

def quiescent_InProjDx [hInProjDx : Cert.InProjDx.Facts] : Prop :=
  ∀ (m : (ℓ : Loc Cert.InProjDx.nD Cert.InProjDx.τ Cert.InProjDx.sig) → Buf (Elt Bits) ℓ) (g : Dev Cert.InProjDx.nD → PrngReg), Pre_InProjDx m →
    θ_run (Cert.InProjDx.defs (F := Bits)) (onTc (τ := Cert.InProjDx.τ) (Cert.InProjDx.main (F := Bits))) ⟨m, fun _ => 0, g⟩ (fun r => (∀ c : Dev Cert.InProjDx.nD,
      r.2.mem ((c.tc : Thread Cert.InProjDx.nD Cert.InProjDx.τ).loc Cert.InProjDx.main_arg0) = m ((c.tc : Thread Cert.InProjDx.nD Cert.InProjDx.τ).loc Cert.InProjDx.main_arg0)
      ∧ r.2.mem ((c.tc : Thread Cert.InProjDx.nD Cert.InProjDx.τ).loc Cert.InProjDx.main_arg1) = m ((c.tc : Thread Cert.InProjDx.nD Cert.InProjDx.τ).loc Cert.InProjDx.main_arg1)
      ∧ r.2.mem ((c.tc : Thread Cert.InProjDx.nD Cert.InProjDx.τ).loc Cert.InProjDx.main_arg2) = m ((c.tc : Thread Cert.InProjDx.nD Cert.InProjDx.τ).loc Cert.InProjDx.main_arg2)
      ∧ r.2.mem ((c.tc : Thread Cert.InProjDx.nD Cert.InProjDx.τ).loc Cert.InProjDx.main_arg3) = m ((c.tc : Thread Cert.InProjDx.nD Cert.InProjDx.τ).loc Cert.InProjDx.main_arg3)
      ∧ r.2.mem ((c.tc : Thread Cert.InProjDx.nD Cert.InProjDx.τ).loc Cert.InProjDx.main_arg4) = m ((c.tc : Thread Cert.InProjDx.nD Cert.InProjDx.τ).loc Cert.InProjDx.main_arg4))
      ∧ r.2.sem = fun _ => 0)

def quiescent_InProjDxIdeal [hInProjDxIdeal : Cert.InProjDxIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
      ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2)
      ∧ r.2.mem ((c.tc : Thread Cert.InProjDxIdeal.nD Cert.InProjDxIdeal.τ).loc Cert.InProjDxIdeal.main_arg3) = m ((c.tc : Thread Cert.InProjDxIdeal.nD Cert.InProjDxIdeal.τ).loc Cert.InProjDxIdeal.main_arg3)
      ∧ r.2.mem ((c.tc : Thread Cert.InProjDxIdeal.nD Cert.InProjDxIdeal.τ).loc Cert.InProjDxIdeal.main_arg4) = m ((c.tc : Thread Cert.InProjDxIdeal.nD Cert.InProjDxIdeal.τ).loc Cert.InProjDxIdeal.main_arg4))
      ∧ r.2.sem = fun _ => 0)

def quiescent_InProjDxRefIdeal [hInProjDxRefIdeal : Cert.InProjDxRefIdeal.Facts] : Prop :=
  ∀ (m : (ℓ : Loc Cert.InProjDxRefIdeal.nD Cert.InProjDxRefIdeal.τ Cert.InProjDxRefIdeal.sig) → Buf (Elt Ideal) ℓ) (g : Dev Cert.InProjDxRefIdeal.nD → PrngReg), Pre_InProjDxRefIdeal m →
    θ_run (Cert.InProjDxRefIdeal.defs (F := Ideal)) (onTc (τ := Cert.InProjDxRefIdeal.τ) (Cert.InProjDxRefIdeal.main (F := Ideal))) ⟨m, fun _ => 0, g⟩ (fun r => (∀ c : Dev Cert.InProjDxRefIdeal.nD,
      r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0)
      ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1)
      ∧ r.2.mem ((c.tc : Thread Cert.InProjDxRefIdeal.nD Cert.InProjDxRefIdeal.τ).loc Cert.InProjDxRefIdeal.main_arg2) = m ((c.tc : Thread Cert.InProjDxRefIdeal.nD Cert.InProjDxRefIdeal.τ).loc Cert.InProjDxRefIdeal.main_arg2)
      ∧ r.2.mem ((c.tc : Thread Cert.InProjDxRefIdeal.nD Cert.InProjDxRefIdeal.τ).loc Cert.InProjDxRefIdeal.main_arg3) = m ((c.tc : Thread Cert.InProjDxRefIdeal.nD Cert.InProjDxRefIdeal.τ).loc Cert.InProjDxRefIdeal.main_arg3)
      ∧ r.2.mem ((c.tc : Thread Cert.InProjDxRefIdeal.nD Cert.InProjDxRefIdeal.τ).loc Cert.InProjDxRefIdeal.main_arg4) = m ((c.tc : Thread Cert.InProjDxRefIdeal.nD Cert.InProjDxRefIdeal.τ).loc Cert.InProjDxRefIdeal.main_arg4))
      ∧ r.2.sem = fun _ => 0)

def quiescent_FlashBwd [hFlashBwd : Cert.FlashBwd.Facts] : Prop :=
  ∀ (m : (ℓ : Loc Cert.FlashBwd.nD Cert.FlashBwd.τ Cert.FlashBwd.sig) → Buf (Elt Bits) ℓ) (g : Dev Cert.FlashBwd.nD → PrngReg), Pre_FlashBwd m →
    θ_run (Cert.FlashBwd.defs (F := Bits)) (onTc (τ := Cert.FlashBwd.τ) (Cert.FlashBwd.main (F := Bits))) ⟨m, fun _ => 0, g⟩ (fun r => (∀ c : Dev Cert.FlashBwd.nD,
      r.2.mem ((c.tc : Thread Cert.FlashBwd.nD Cert.FlashBwd.τ).loc Cert.FlashBwd.main_arg0) = m ((c.tc : Thread Cert.FlashBwd.nD Cert.FlashBwd.τ).loc Cert.FlashBwd.main_arg0)
      ∧ r.2.mem ((c.tc : Thread Cert.FlashBwd.nD Cert.FlashBwd.τ).loc Cert.FlashBwd.main_arg1) = m ((c.tc : Thread Cert.FlashBwd.nD Cert.FlashBwd.τ).loc Cert.FlashBwd.main_arg1)
      ∧ r.2.mem ((c.tc : Thread Cert.FlashBwd.nD Cert.FlashBwd.τ).loc Cert.FlashBwd.main_arg2) = m ((c.tc : Thread Cert.FlashBwd.nD Cert.FlashBwd.τ).loc Cert.FlashBwd.main_arg2)
      ∧ r.2.mem ((c.tc : Thread Cert.FlashBwd.nD Cert.FlashBwd.τ).loc Cert.FlashBwd.main_arg3) = m ((c.tc : Thread Cert.FlashBwd.nD Cert.FlashBwd.τ).loc Cert.FlashBwd.main_arg3)
      ∧ r.2.mem ((c.tc : Thread Cert.FlashBwd.nD Cert.FlashBwd.τ).loc Cert.FlashBwd.main_arg4) = m ((c.tc : Thread Cert.FlashBwd.nD Cert.FlashBwd.τ).loc Cert.FlashBwd.main_arg4)
      ∧ r.2.mem ((c.tc : Thread Cert.FlashBwd.nD Cert.FlashBwd.τ).loc Cert.FlashBwd.main_arg5) = m ((c.tc : Thread Cert.FlashBwd.nD Cert.FlashBwd.τ).loc Cert.FlashBwd.main_arg5))
      ∧ r.2.sem = fun _ => 0)

def quiescent_FlashBwdIdeal [hFlashBwdIdeal : Cert.FlashBwdIdeal.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg), Pre_FlashBwdIdeal m →
    θ_run (Cert.FlashBwdIdeal.defs (F := Ideal)) (onTc (τ := Cert.FlashBwdIdeal.τ) (Cert.FlashBwdIdeal.main (F := Ideal))) ⟨m, fun _ => 0, g⟩ (fun r => (∀ c : Dev Cert.FlashBwdIdeal.nD,
      r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
      ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
      ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
      ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3)
      ∧ r.2.mem ((c.tc : Thread Cert.FlashBwdIdeal.nD Cert.FlashBwdIdeal.τ).loc Cert.FlashBwdIdeal.main_arg4) = m ((c.tc : Thread Cert.FlashBwdIdeal.nD Cert.FlashBwdIdeal.τ).loc Cert.FlashBwdIdeal.main_arg4)
      ∧ r.2.mem ((c.tc : Thread Cert.FlashBwdIdeal.nD Cert.FlashBwdIdeal.τ).loc Cert.FlashBwdIdeal.main_arg5) = m ((c.tc : Thread Cert.FlashBwdIdeal.nD Cert.FlashBwdIdeal.τ).loc Cert.FlashBwdIdeal.main_arg5))
      ∧ r.2.sem = fun _ => 0)

def quiescent_FlashBwdIdeal_pre_finite_flash [hFlashBwdIdeal : Cert.FlashBwdIdeal.Facts] [hPre_finite_flash : Cert.Pre_finite_flash.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg), Pre_FlashBwdIdeal_finite_flash m →
    θ_run (Cert.FlashBwdIdeal.defs (F := Ideal)) (onTc (τ := Cert.FlashBwdIdeal.τ) (Cert.FlashBwdIdeal.main (F := Ideal))) ⟨m, fun _ => 0, g⟩ (fun r => (∀ c : Dev Cert.FlashBwdIdeal.nD,
      r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
      ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
      ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
      ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3)
      ∧ r.2.mem ((c.tc : Thread Cert.FlashBwdIdeal.nD Cert.FlashBwdIdeal.τ).loc Cert.FlashBwdIdeal.main_arg4) = m ((c.tc : Thread Cert.FlashBwdIdeal.nD Cert.FlashBwdIdeal.τ).loc Cert.FlashBwdIdeal.main_arg4)
      ∧ r.2.mem ((c.tc : Thread Cert.FlashBwdIdeal.nD Cert.FlashBwdIdeal.τ).loc Cert.FlashBwdIdeal.main_arg5) = m ((c.tc : Thread Cert.FlashBwdIdeal.nD Cert.FlashBwdIdeal.τ).loc Cert.FlashBwdIdeal.main_arg5))
      ∧ r.2.sem = fun _ => 0)

def quiescent_FlashBwdRefIdeal [hFlashBwdRefIdeal : Cert.FlashBwdRefIdeal.Facts] : Prop :=
  ∀ (m : (ℓ : Loc Cert.FlashBwdRefIdeal.nD Cert.FlashBwdRefIdeal.τ Cert.FlashBwdRefIdeal.sig) → Buf (Elt Ideal) ℓ) (g : Dev Cert.FlashBwdRefIdeal.nD → PrngReg), Pre_FlashBwdRefIdeal m →
    θ_run (Cert.FlashBwdRefIdeal.defs (F := Ideal)) (onTc (τ := Cert.FlashBwdRefIdeal.τ) (Cert.FlashBwdRefIdeal.main (F := Ideal))) ⟨m, fun _ => 0, g⟩ (fun r => (∀ c : Dev Cert.FlashBwdRefIdeal.nD,
      r.2.mem ((c.tc : Thread Cert.FlashBwdRefIdeal.nD Cert.FlashBwdRefIdeal.τ).loc Cert.FlashBwdRefIdeal.main_arg0) = m ((c.tc : Thread Cert.FlashBwdRefIdeal.nD Cert.FlashBwdRefIdeal.τ).loc Cert.FlashBwdRefIdeal.main_arg0)
      ∧ r.2.mem ((c.tc : Thread Cert.FlashBwdRefIdeal.nD Cert.FlashBwdRefIdeal.τ).loc Cert.FlashBwdRefIdeal.main_arg1) = m ((c.tc : Thread Cert.FlashBwdRefIdeal.nD Cert.FlashBwdRefIdeal.τ).loc Cert.FlashBwdRefIdeal.main_arg1)
      ∧ r.2.mem ((c.tc : Thread Cert.FlashBwdRefIdeal.nD Cert.FlashBwdRefIdeal.τ).loc Cert.FlashBwdRefIdeal.main_arg2) = m ((c.tc : Thread Cert.FlashBwdRefIdeal.nD Cert.FlashBwdRefIdeal.τ).loc Cert.FlashBwdRefIdeal.main_arg2)
      ∧ r.2.mem ((c.tc : Thread Cert.FlashBwdRefIdeal.nD Cert.FlashBwdRefIdeal.τ).loc Cert.FlashBwdRefIdeal.main_arg3) = m ((c.tc : Thread Cert.FlashBwdRefIdeal.nD Cert.FlashBwdRefIdeal.τ).loc Cert.FlashBwdRefIdeal.main_arg3)
      ∧ r.2.mem ((c.tc : Thread Cert.FlashBwdRefIdeal.nD Cert.FlashBwdRefIdeal.τ).loc Cert.FlashBwdRefIdeal.main_arg4) = m ((c.tc : Thread Cert.FlashBwdRefIdeal.nD Cert.FlashBwdRefIdeal.τ).loc Cert.FlashBwdRefIdeal.main_arg4)
      ∧ r.2.mem ((c.tc : Thread Cert.FlashBwdRefIdeal.nD Cert.FlashBwdRefIdeal.τ).loc Cert.FlashBwdRefIdeal.main_arg5) = m ((c.tc : Thread Cert.FlashBwdRefIdeal.nD Cert.FlashBwdRefIdeal.τ).loc Cert.FlashBwdRefIdeal.main_arg5))
      ∧ r.2.sem = fun _ => 0)

def quiescent_FlashBwdRefIdeal_pre_finite_flash [hFlashBwdRefIdeal : Cert.FlashBwdRefIdeal.Facts] [hPre_finite_flash : Cert.Pre_finite_flash.Facts] : Prop :=
  ∀ (m : (ℓ : Loc Cert.FlashBwdRefIdeal.nD Cert.FlashBwdRefIdeal.τ Cert.FlashBwdRefIdeal.sig) → Buf (Elt Ideal) ℓ) (g : Dev Cert.FlashBwdRefIdeal.nD → PrngReg), Pre_FlashBwdRefIdeal_finite_flash m →
    θ_run (Cert.FlashBwdRefIdeal.defs (F := Ideal)) (onTc (τ := Cert.FlashBwdRefIdeal.τ) (Cert.FlashBwdRefIdeal.main (F := Ideal))) ⟨m, fun _ => 0, g⟩ (fun r => (∀ c : Dev Cert.FlashBwdRefIdeal.nD,
      r.2.mem ((c.tc : Thread Cert.FlashBwdRefIdeal.nD Cert.FlashBwdRefIdeal.τ).loc Cert.FlashBwdRefIdeal.main_arg0) = m ((c.tc : Thread Cert.FlashBwdRefIdeal.nD Cert.FlashBwdRefIdeal.τ).loc Cert.FlashBwdRefIdeal.main_arg0)
      ∧ r.2.mem ((c.tc : Thread Cert.FlashBwdRefIdeal.nD Cert.FlashBwdRefIdeal.τ).loc Cert.FlashBwdRefIdeal.main_arg1) = m ((c.tc : Thread Cert.FlashBwdRefIdeal.nD Cert.FlashBwdRefIdeal.τ).loc Cert.FlashBwdRefIdeal.main_arg1)
      ∧ r.2.mem ((c.tc : Thread Cert.FlashBwdRefIdeal.nD Cert.FlashBwdRefIdeal.τ).loc Cert.FlashBwdRefIdeal.main_arg2) = m ((c.tc : Thread Cert.FlashBwdRefIdeal.nD Cert.FlashBwdRefIdeal.τ).loc Cert.FlashBwdRefIdeal.main_arg2)
      ∧ r.2.mem ((c.tc : Thread Cert.FlashBwdRefIdeal.nD Cert.FlashBwdRefIdeal.τ).loc Cert.FlashBwdRefIdeal.main_arg3) = m ((c.tc : Thread Cert.FlashBwdRefIdeal.nD Cert.FlashBwdRefIdeal.τ).loc Cert.FlashBwdRefIdeal.main_arg3)
      ∧ r.2.mem ((c.tc : Thread Cert.FlashBwdRefIdeal.nD Cert.FlashBwdRefIdeal.τ).loc Cert.FlashBwdRefIdeal.main_arg4) = m ((c.tc : Thread Cert.FlashBwdRefIdeal.nD Cert.FlashBwdRefIdeal.τ).loc Cert.FlashBwdRefIdeal.main_arg4)
      ∧ r.2.mem ((c.tc : Thread Cert.FlashBwdRefIdeal.nD Cert.FlashBwdRefIdeal.τ).loc Cert.FlashBwdRefIdeal.main_arg5) = m ((c.tc : Thread Cert.FlashBwdRefIdeal.nD Cert.FlashBwdRefIdeal.τ).loc Cert.FlashBwdRefIdeal.main_arg5))
      ∧ r.2.sem = fun _ => 0)

def quiescent_FlashFwd [hFlashFwd : Cert.FlashFwd.Facts] : Prop :=
  ∀ (m : (ℓ : Loc Cert.FlashFwd.nD Cert.FlashFwd.τ Cert.FlashFwd.sig) → Buf (Elt Bits) ℓ) (g : Dev Cert.FlashFwd.nD → PrngReg), Pre_FlashFwd m →
    θ_run (Cert.FlashFwd.defs (F := Bits)) (onTc (τ := Cert.FlashFwd.τ) (Cert.FlashFwd.main (F := Bits))) ⟨m, fun _ => 0, g⟩ (fun r => (∀ c : Dev Cert.FlashFwd.nD,
      r.2.mem ((c.tc : Thread Cert.FlashFwd.nD Cert.FlashFwd.τ).loc Cert.FlashFwd.main_arg0) = m ((c.tc : Thread Cert.FlashFwd.nD Cert.FlashFwd.τ).loc Cert.FlashFwd.main_arg0)
      ∧ r.2.mem ((c.tc : Thread Cert.FlashFwd.nD Cert.FlashFwd.τ).loc Cert.FlashFwd.main_arg1) = m ((c.tc : Thread Cert.FlashFwd.nD Cert.FlashFwd.τ).loc Cert.FlashFwd.main_arg1)
      ∧ r.2.mem ((c.tc : Thread Cert.FlashFwd.nD Cert.FlashFwd.τ).loc Cert.FlashFwd.main_arg2) = m ((c.tc : Thread Cert.FlashFwd.nD Cert.FlashFwd.τ).loc Cert.FlashFwd.main_arg2)
      ∧ r.2.mem ((c.tc : Thread Cert.FlashFwd.nD Cert.FlashFwd.τ).loc Cert.FlashFwd.main_arg3) = m ((c.tc : Thread Cert.FlashFwd.nD Cert.FlashFwd.τ).loc Cert.FlashFwd.main_arg3)
      ∧ r.2.mem ((c.tc : Thread Cert.FlashFwd.nD Cert.FlashFwd.τ).loc Cert.FlashFwd.main_arg4) = m ((c.tc : Thread Cert.FlashFwd.nD Cert.FlashFwd.τ).loc Cert.FlashFwd.main_arg4))
      ∧ r.2.sem = fun _ => 0)

def quiescent_FlashFwdIdeal [hFlashFwdIdeal : Cert.FlashFwdIdeal.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2)
      ∧ r.2.mem ((c.tc : Thread Cert.FlashFwdIdeal.nD Cert.FlashFwdIdeal.τ).loc Cert.FlashFwdIdeal.main_arg3) = m ((c.tc : Thread Cert.FlashFwdIdeal.nD Cert.FlashFwdIdeal.τ).loc Cert.FlashFwdIdeal.main_arg3)
      ∧ r.2.mem ((c.tc : Thread Cert.FlashFwdIdeal.nD Cert.FlashFwdIdeal.τ).loc Cert.FlashFwdIdeal.main_arg4) = m ((c.tc : Thread Cert.FlashFwdIdeal.nD Cert.FlashFwdIdeal.τ).loc Cert.FlashFwdIdeal.main_arg4))
      ∧ r.2.sem = fun _ => 0)

def quiescent_FlashFwdIdeal_pre_finite_flashfwd [hFlashFwdIdeal : Cert.FlashFwdIdeal.Facts] [hPre_finite_flashfwd : Cert.Pre_finite_flashfwd.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal_finite_flashfwd m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2)
      ∧ r.2.mem ((c.tc : Thread Cert.FlashFwdIdeal.nD Cert.FlashFwdIdeal.τ).loc Cert.FlashFwdIdeal.main_arg3) = m ((c.tc : Thread Cert.FlashFwdIdeal.nD Cert.FlashFwdIdeal.τ).loc Cert.FlashFwdIdeal.main_arg3)
      ∧ r.2.mem ((c.tc : Thread Cert.FlashFwdIdeal.nD Cert.FlashFwdIdeal.τ).loc Cert.FlashFwdIdeal.main_arg4) = m ((c.tc : Thread Cert.FlashFwdIdeal.nD Cert.FlashFwdIdeal.τ).loc Cert.FlashFwdIdeal.main_arg4))
      ∧ r.2.sem = fun _ => 0)

def quiescent_FlashFwdRefIdeal [hFlashFwdRefIdeal : Cert.FlashFwdRefIdeal.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2)
      ∧ r.2.mem ((c.tc : Thread Cert.FlashFwdRefIdeal.nD Cert.FlashFwdRefIdeal.τ).loc Cert.FlashFwdRefIdeal.main_arg3) = m ((c.tc : Thread Cert.FlashFwdRefIdeal.nD Cert.FlashFwdRefIdeal.τ).loc Cert.FlashFwdRefIdeal.main_arg3)
      ∧ r.2.mem ((c.tc : Thread Cert.FlashFwdRefIdeal.nD Cert.FlashFwdRefIdeal.τ).loc Cert.FlashFwdRefIdeal.main_arg4) = m ((c.tc : Thread Cert.FlashFwdRefIdeal.nD Cert.FlashFwdRefIdeal.τ).loc Cert.FlashFwdRefIdeal.main_arg4))
      ∧ r.2.sem = fun _ => 0)

def quiescent_FlashFwdRefIdeal_pre_finite_flashfwd [hFlashFwdRefIdeal : Cert.FlashFwdRefIdeal.Facts] [hPre_finite_flashfwd : Cert.Pre_finite_flashfwd.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal_finite_flashfwd m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2)
      ∧ r.2.mem ((c.tc : Thread Cert.FlashFwdRefIdeal.nD Cert.FlashFwdRefIdeal.τ).loc Cert.FlashFwdRefIdeal.main_arg3) = m ((c.tc : Thread Cert.FlashFwdRefIdeal.nD Cert.FlashFwdRefIdeal.τ).loc Cert.FlashFwdRefIdeal.main_arg3)
      ∧ r.2.mem ((c.tc : Thread Cert.FlashFwdRefIdeal.nD Cert.FlashFwdRefIdeal.τ).loc Cert.FlashFwdRefIdeal.main_arg4) = m ((c.tc : Thread Cert.FlashFwdRefIdeal.nD Cert.FlashFwdRefIdeal.τ).loc Cert.FlashFwdRefIdeal.main_arg4))
      ∧ r.2.sem = fun _ => 0)

def preserves_DtBwd_DtBwdIdeal : Prop :=
  True

def algebraic_DtBwdIdeal_DtBwdRefIdeal [hDtBwdIdeal : Cert.DtBwdIdeal.Facts] [hDtBwdRefIdeal : Cert.DtBwdRefIdeal.Facts] : Prop :=
  ∀ (m : (ℓ : Loc Cert.DtBwdIdeal.nD Cert.DtBwdIdeal.τ Cert.DtBwdIdeal.sig) → Buf (Elt Ideal) ℓ) (g : Dev Cert.DtBwdIdeal.nD → PrngReg)
    (m' : (ℓ : Loc Cert.DtBwdRefIdeal.nD Cert.DtBwdRefIdeal.τ Cert.DtBwdRefIdeal.sig) → Buf (Elt Ideal) ℓ) (g' : Dev Cert.DtBwdRefIdeal.nD → PrngReg), Pre_DtBwdIdeal m →
    (∀ c : Dev Cert.DtBwdIdeal.nD,
      m' ((c.tc : Thread Cert.DtBwdRefIdeal.nD Cert.DtBwdRefIdeal.τ).loc Cert.DtBwdRefIdeal.main_arg0) = m ((c.tc : Thread Cert.DtBwdIdeal.nD Cert.DtBwdIdeal.τ).loc Cert.DtBwdIdeal.main_arg0)
      ∧ m' ((c.tc : Thread Cert.DtBwdRefIdeal.nD Cert.DtBwdRefIdeal.τ).loc Cert.DtBwdRefIdeal.main_arg1) = m ((c.tc : Thread Cert.DtBwdIdeal.nD Cert.DtBwdIdeal.τ).loc Cert.DtBwdIdeal.main_arg1)
      ∧ m' ((c.tc : Thread Cert.DtBwdRefIdeal.nD Cert.DtBwdRefIdeal.τ).loc Cert.DtBwdRefIdeal.main_arg2) = m ((c.tc : Thread Cert.DtBwdIdeal.nD Cert.DtBwdIdeal.τ).loc Cert.DtBwdIdeal.main_arg2)) →
    ∃ (v0 : (c : Dev Cert.DtBwdIdeal.nD) → Buf (Elt Ideal) ((c.tc : Thread Cert.DtBwdIdeal.nD Cert.DtBwdIdeal.τ).loc Cert.DtBwdIdeal.main_v5_0)) (v1 : (c : Dev Cert.DtBwdIdeal.nD) → Buf (Elt Ideal) ((c.tc : Thread Cert.DtBwdIdeal.nD Cert.DtBwdIdeal.τ).loc Cert.DtBwdIdeal.main_v5_1)),
      θ_run (Cert.DtBwdIdeal.defs (F := Ideal)) (onTc (τ := Cert.DtBwdIdeal.τ) (Cert.DtBwdIdeal.main (F := Ideal))) ⟨m, fun _ => 0, g⟩ (fun r => ∀ c : Dev Cert.DtBwdIdeal.nD,
          r.2.mem ((c.tc : Thread Cert.DtBwdIdeal.nD Cert.DtBwdIdeal.τ).loc Cert.DtBwdIdeal.main_v5_0) = v0 c
          ∧ r.2.mem ((c.tc : Thread Cert.DtBwdIdeal.nD Cert.DtBwdIdeal.τ).loc Cert.DtBwdIdeal.main_v5_1) = v1 c
          ∧ r.2.mem ((c.tc : Thread Cert.DtBwdIdeal.nD Cert.DtBwdIdeal.τ).loc Cert.DtBwdIdeal.main_arg0) = m ((c.tc : Thread Cert.DtBwdIdeal.nD Cert.DtBwdIdeal.τ).loc Cert.DtBwdIdeal.main_arg0)
          ∧ r.2.mem ((c.tc : Thread Cert.DtBwdIdeal.nD Cert.DtBwdIdeal.τ).loc Cert.DtBwdIdeal.main_arg1) = m ((c.tc : Thread Cert.DtBwdIdeal.nD Cert.DtBwdIdeal.τ).loc Cert.DtBwdIdeal.main_arg1)
          ∧ r.2.mem ((c.tc : Thread Cert.DtBwdIdeal.nD Cert.DtBwdIdeal.τ).loc Cert.DtBwdIdeal.main_arg2) = m ((c.tc : Thread Cert.DtBwdIdeal.nD Cert.DtBwdIdeal.τ).loc Cert.DtBwdIdeal.main_arg2))
      ∧ θ_run (Cert.DtBwdRefIdeal.defs (F := Ideal)) (onTc (τ := Cert.DtBwdRefIdeal.τ) (Cert.DtBwdRefIdeal.main (F := Ideal))) ⟨m', fun _ => 0, g'⟩ (fun r => ∀ c : Dev Cert.DtBwdRefIdeal.nD,
          r.2.mem ((c.tc : Thread Cert.DtBwdRefIdeal.nD Cert.DtBwdRefIdeal.τ).loc Cert.DtBwdRefIdeal.main_v12) = v0 c
          ∧ r.2.mem ((c.tc : Thread Cert.DtBwdRefIdeal.nD Cert.DtBwdRefIdeal.τ).loc Cert.DtBwdRefIdeal.main_v13) = v1 c
          ∧ r.2.mem ((c.tc : Thread Cert.DtBwdRefIdeal.nD Cert.DtBwdRefIdeal.τ).loc Cert.DtBwdRefIdeal.main_arg0) = m' ((c.tc : Thread Cert.DtBwdRefIdeal.nD Cert.DtBwdRefIdeal.τ).loc Cert.DtBwdRefIdeal.main_arg0)
          ∧ r.2.mem ((c.tc : Thread Cert.DtBwdRefIdeal.nD Cert.DtBwdRefIdeal.τ).loc Cert.DtBwdRefIdeal.main_arg1) = m' ((c.tc : Thread Cert.DtBwdRefIdeal.nD Cert.DtBwdRefIdeal.τ).loc Cert.DtBwdRefIdeal.main_arg1)
          ∧ r.2.mem ((c.tc : Thread Cert.DtBwdRefIdeal.nD Cert.DtBwdRefIdeal.τ).loc Cert.DtBwdRefIdeal.main_arg2) = m' ((c.tc : Thread Cert.DtBwdRefIdeal.nD Cert.DtBwdRefIdeal.τ).loc Cert.DtBwdRefIdeal.main_arg2))

def preserves_FfnDownLoss_FfnDownLossIdeal : Prop :=
  True

def algebraic_FfnDownLossIdeal_FfnDownLossRefIdeal [hFfnDownLossIdeal : Cert.FfnDownLossIdeal.Facts] [hFfnDownLossRefIdeal : Cert.FfnDownLossRefIdeal.Facts] : Prop :=
  ∀ (m : (ℓ : Loc Cert.FfnDownLossIdeal.nD Cert.FfnDownLossIdeal.τ Cert.FfnDownLossIdeal.sig) → Buf (Elt Ideal) ℓ) (g : Dev Cert.FfnDownLossIdeal.nD → PrngReg)
    (m' : (ℓ : Loc Cert.FfnDownLossRefIdeal.nD Cert.FfnDownLossRefIdeal.τ Cert.FfnDownLossRefIdeal.sig) → Buf (Elt Ideal) ℓ) (g' : Dev Cert.FfnDownLossRefIdeal.nD → PrngReg), Pre_FfnDownLossIdeal m →
    (∀ c : Dev Cert.FfnDownLossIdeal.nD,
      m' ((c.tc : Thread Cert.FfnDownLossRefIdeal.nD Cert.FfnDownLossRefIdeal.τ).loc Cert.FfnDownLossRefIdeal.main_arg0) = m ((c.tc : Thread Cert.FfnDownLossIdeal.nD Cert.FfnDownLossIdeal.τ).loc Cert.FfnDownLossIdeal.main_arg0)
      ∧ m' ((c.tc : Thread Cert.FfnDownLossRefIdeal.nD Cert.FfnDownLossRefIdeal.τ).loc Cert.FfnDownLossRefIdeal.main_arg1) = m ((c.tc : Thread Cert.FfnDownLossIdeal.nD Cert.FfnDownLossIdeal.τ).loc Cert.FfnDownLossIdeal.main_arg1)
      ∧ m' ((c.tc : Thread Cert.FfnDownLossRefIdeal.nD Cert.FfnDownLossRefIdeal.τ).loc Cert.FfnDownLossRefIdeal.main_arg2) = m ((c.tc : Thread Cert.FfnDownLossIdeal.nD Cert.FfnDownLossIdeal.τ).loc Cert.FfnDownLossIdeal.main_arg2)
      ∧ m' ((c.tc : Thread Cert.FfnDownLossRefIdeal.nD Cert.FfnDownLossRefIdeal.τ).loc Cert.FfnDownLossRefIdeal.main_arg3) = m ((c.tc : Thread Cert.FfnDownLossIdeal.nD Cert.FfnDownLossIdeal.τ).loc Cert.FfnDownLossIdeal.main_arg3)
      ∧ m' ((c.tc : Thread Cert.FfnDownLossRefIdeal.nD Cert.FfnDownLossRefIdeal.τ).loc Cert.FfnDownLossRefIdeal.main_arg4) = m ((c.tc : Thread Cert.FfnDownLossIdeal.nD Cert.FfnDownLossIdeal.τ).loc Cert.FfnDownLossIdeal.main_arg4)) →
    ∃ (v0 : (c : Dev Cert.FfnDownLossIdeal.nD) → Buf (Elt Ideal) ((c.tc : Thread Cert.FfnDownLossIdeal.nD Cert.FfnDownLossIdeal.τ).loc Cert.FfnDownLossIdeal.main_v9_0)) (v1 : (c : Dev Cert.FfnDownLossIdeal.nD) → Buf (Elt Ideal) ((c.tc : Thread Cert.FfnDownLossIdeal.nD Cert.FfnDownLossIdeal.τ).loc Cert.FfnDownLossIdeal.main_v9_1)) (v2 : (c : Dev Cert.FfnDownLossIdeal.nD) → Buf (Elt Ideal) ((c.tc : Thread Cert.FfnDownLossIdeal.nD Cert.FfnDownLossIdeal.τ).loc Cert.FfnDownLossIdeal.main_v9_2)) (v3 : (c : Dev Cert.FfnDownLossIdeal.nD) → Buf (Elt Ideal) ((c.tc : Thread Cert.FfnDownLossIdeal.nD Cert.FfnDownLossIdeal.τ).loc Cert.FfnDownLossIdeal.main_v9_3)),
      θ_run (Cert.FfnDownLossIdeal.defs (F := Ideal)) (onTc (τ := Cert.FfnDownLossIdeal.τ) (Cert.FfnDownLossIdeal.main (F := Ideal))) ⟨m, fun _ => 0, g⟩ (fun r => ∀ c : Dev Cert.FfnDownLossIdeal.nD,
          r.2.mem ((c.tc : Thread Cert.FfnDownLossIdeal.nD Cert.FfnDownLossIdeal.τ).loc Cert.FfnDownLossIdeal.main_v9_0) = v0 c
          ∧ r.2.mem ((c.tc : Thread Cert.FfnDownLossIdeal.nD Cert.FfnDownLossIdeal.τ).loc Cert.FfnDownLossIdeal.main_v9_1) = v1 c
          ∧ r.2.mem ((c.tc : Thread Cert.FfnDownLossIdeal.nD Cert.FfnDownLossIdeal.τ).loc Cert.FfnDownLossIdeal.main_v9_2) = v2 c
          ∧ r.2.mem ((c.tc : Thread Cert.FfnDownLossIdeal.nD Cert.FfnDownLossIdeal.τ).loc Cert.FfnDownLossIdeal.main_v9_3) = v3 c
          ∧ r.2.mem ((c.tc : Thread Cert.FfnDownLossIdeal.nD Cert.FfnDownLossIdeal.τ).loc Cert.FfnDownLossIdeal.main_arg0) = m ((c.tc : Thread Cert.FfnDownLossIdeal.nD Cert.FfnDownLossIdeal.τ).loc Cert.FfnDownLossIdeal.main_arg0)
          ∧ r.2.mem ((c.tc : Thread Cert.FfnDownLossIdeal.nD Cert.FfnDownLossIdeal.τ).loc Cert.FfnDownLossIdeal.main_arg1) = m ((c.tc : Thread Cert.FfnDownLossIdeal.nD Cert.FfnDownLossIdeal.τ).loc Cert.FfnDownLossIdeal.main_arg1)
          ∧ r.2.mem ((c.tc : Thread Cert.FfnDownLossIdeal.nD Cert.FfnDownLossIdeal.τ).loc Cert.FfnDownLossIdeal.main_arg2) = m ((c.tc : Thread Cert.FfnDownLossIdeal.nD Cert.FfnDownLossIdeal.τ).loc Cert.FfnDownLossIdeal.main_arg2)
          ∧ r.2.mem ((c.tc : Thread Cert.FfnDownLossIdeal.nD Cert.FfnDownLossIdeal.τ).loc Cert.FfnDownLossIdeal.main_arg3) = m ((c.tc : Thread Cert.FfnDownLossIdeal.nD Cert.FfnDownLossIdeal.τ).loc Cert.FfnDownLossIdeal.main_arg3)
          ∧ r.2.mem ((c.tc : Thread Cert.FfnDownLossIdeal.nD Cert.FfnDownLossIdeal.τ).loc Cert.FfnDownLossIdeal.main_arg4) = m ((c.tc : Thread Cert.FfnDownLossIdeal.nD Cert.FfnDownLossIdeal.τ).loc Cert.FfnDownLossIdeal.main_arg4))
      ∧ θ_run (Cert.FfnDownLossRefIdeal.defs (F := Ideal)) (onTc (τ := Cert.FfnDownLossRefIdeal.τ) (Cert.FfnDownLossRefIdeal.main (F := Ideal))) ⟨m', fun _ => 0, g'⟩ (fun r => ∀ c : Dev Cert.FfnDownLossRefIdeal.nD,
          r.2.mem ((c.tc : Thread Cert.FfnDownLossRefIdeal.nD Cert.FfnDownLossRefIdeal.τ).loc Cert.FfnDownLossRefIdeal.main_v60) = v0 c
          ∧ r.2.mem ((c.tc : Thread Cert.FfnDownLossRefIdeal.nD Cert.FfnDownLossRefIdeal.τ).loc Cert.FfnDownLossRefIdeal.main_v63) = v1 c
          ∧ r.2.mem ((c.tc : Thread Cert.FfnDownLossRefIdeal.nD Cert.FfnDownLossRefIdeal.τ).loc Cert.FfnDownLossRefIdeal.main_v58) = v2 c
          ∧ r.2.mem ((c.tc : Thread Cert.FfnDownLossRefIdeal.nD Cert.FfnDownLossRefIdeal.τ).loc Cert.FfnDownLossRefIdeal.main_v64) = v3 c
          ∧ r.2.mem ((c.tc : Thread Cert.FfnDownLossRefIdeal.nD Cert.FfnDownLossRefIdeal.τ).loc Cert.FfnDownLossRefIdeal.main_arg0) = m' ((c.tc : Thread Cert.FfnDownLossRefIdeal.nD Cert.FfnDownLossRefIdeal.τ).loc Cert.FfnDownLossRefIdeal.main_arg0)
          ∧ r.2.mem ((c.tc : Thread Cert.FfnDownLossRefIdeal.nD Cert.FfnDownLossRefIdeal.τ).loc Cert.FfnDownLossRefIdeal.main_arg1) = m' ((c.tc : Thread Cert.FfnDownLossRefIdeal.nD Cert.FfnDownLossRefIdeal.τ).loc Cert.FfnDownLossRefIdeal.main_arg1)
          ∧ r.2.mem ((c.tc : Thread Cert.FfnDownLossRefIdeal.nD Cert.FfnDownLossRefIdeal.τ).loc Cert.FfnDownLossRefIdeal.main_arg2) = m' ((c.tc : Thread Cert.FfnDownLossRefIdeal.nD Cert.FfnDownLossRefIdeal.τ).loc Cert.FfnDownLossRefIdeal.main_arg2)
          ∧ r.2.mem ((c.tc : Thread Cert.FfnDownLossRefIdeal.nD Cert.FfnDownLossRefIdeal.τ).loc Cert.FfnDownLossRefIdeal.main_arg3) = m' ((c.tc : Thread Cert.FfnDownLossRefIdeal.nD Cert.FfnDownLossRefIdeal.τ).loc Cert.FfnDownLossRefIdeal.main_arg3)
          ∧ r.2.mem ((c.tc : Thread Cert.FfnDownLossRefIdeal.nD Cert.FfnDownLossRefIdeal.τ).loc Cert.FfnDownLossRefIdeal.main_arg4) = m' ((c.tc : Thread Cert.FfnDownLossRefIdeal.nD Cert.FfnDownLossRefIdeal.τ).loc Cert.FfnDownLossRefIdeal.main_arg4))

def preserves_MidBwd_MidBwdIdeal : Prop :=
  True

def algebraic_MidBwdIdeal_MidBwdRefIdeal [hMidBwdIdeal : Cert.MidBwdIdeal.Facts] [hMidBwdRefIdeal : Cert.MidBwdRefIdeal.Facts] : Prop :=
  ∀ (m : (ℓ : Loc Cert.MidBwdIdeal.nD Cert.MidBwdIdeal.τ Cert.MidBwdIdeal.sig) → Buf (Elt Ideal) ℓ) (g : Dev Cert.MidBwdIdeal.nD → PrngReg)
    (m' : (ℓ : Loc Cert.MidBwdRefIdeal.nD Cert.MidBwdRefIdeal.τ Cert.MidBwdRefIdeal.sig) → Buf (Elt Ideal) ℓ) (g' : Dev Cert.MidBwdRefIdeal.nD → PrngReg), Pre_MidBwdIdeal m →
    (∀ c : Dev Cert.MidBwdIdeal.nD,
      m' ((c.tc : Thread Cert.MidBwdRefIdeal.nD Cert.MidBwdRefIdeal.τ).loc Cert.MidBwdRefIdeal.main_arg0) = m ((c.tc : Thread Cert.MidBwdIdeal.nD Cert.MidBwdIdeal.τ).loc Cert.MidBwdIdeal.main_arg0)
      ∧ m' ((c.tc : Thread Cert.MidBwdRefIdeal.nD Cert.MidBwdRefIdeal.τ).loc Cert.MidBwdRefIdeal.main_arg1) = m ((c.tc : Thread Cert.MidBwdIdeal.nD Cert.MidBwdIdeal.τ).loc Cert.MidBwdIdeal.main_arg1)
      ∧ m' ((c.tc : Thread Cert.MidBwdRefIdeal.nD Cert.MidBwdRefIdeal.τ).loc Cert.MidBwdRefIdeal.main_arg2) = m ((c.tc : Thread Cert.MidBwdIdeal.nD Cert.MidBwdIdeal.τ).loc Cert.MidBwdIdeal.main_arg2)
      ∧ m' ((c.tc : Thread Cert.MidBwdRefIdeal.nD Cert.MidBwdRefIdeal.τ).loc Cert.MidBwdRefIdeal.main_arg3) = m ((c.tc : Thread Cert.MidBwdIdeal.nD Cert.MidBwdIdeal.τ).loc Cert.MidBwdIdeal.main_arg3)
      ∧ m' ((c.tc : Thread Cert.MidBwdRefIdeal.nD Cert.MidBwdRefIdeal.τ).loc Cert.MidBwdRefIdeal.main_arg4) = m ((c.tc : Thread Cert.MidBwdIdeal.nD Cert.MidBwdIdeal.τ).loc Cert.MidBwdIdeal.main_arg4)
      ∧ m' ((c.tc : Thread Cert.MidBwdRefIdeal.nD Cert.MidBwdRefIdeal.τ).loc Cert.MidBwdRefIdeal.main_arg5) = m ((c.tc : Thread Cert.MidBwdIdeal.nD Cert.MidBwdIdeal.τ).loc Cert.MidBwdIdeal.main_arg5)
      ∧ m' ((c.tc : Thread Cert.MidBwdRefIdeal.nD Cert.MidBwdRefIdeal.τ).loc Cert.MidBwdRefIdeal.main_arg6) = m ((c.tc : Thread Cert.MidBwdIdeal.nD Cert.MidBwdIdeal.τ).loc Cert.MidBwdIdeal.main_arg6)) →
    ∃ (v0 : (c : Dev Cert.MidBwdIdeal.nD) → Buf (Elt Ideal) ((c.tc : Thread Cert.MidBwdIdeal.nD Cert.MidBwdIdeal.τ).loc Cert.MidBwdIdeal.main_v28_0)) (v1 : (c : Dev Cert.MidBwdIdeal.nD) → Buf (Elt Ideal) ((c.tc : Thread Cert.MidBwdIdeal.nD Cert.MidBwdIdeal.τ).loc Cert.MidBwdIdeal.main_v28_1)) (v2 : (c : Dev Cert.MidBwdIdeal.nD) → Buf (Elt Ideal) ((c.tc : Thread Cert.MidBwdIdeal.nD Cert.MidBwdIdeal.τ).loc Cert.MidBwdIdeal.main_v28_2)) (v3 : (c : Dev Cert.MidBwdIdeal.nD) → Buf (Elt Ideal) ((c.tc : Thread Cert.MidBwdIdeal.nD Cert.MidBwdIdeal.τ).loc Cert.MidBwdIdeal.main_v28_3)),
      θ_run (Cert.MidBwdIdeal.defs (F := Ideal)) (onTc (τ := Cert.MidBwdIdeal.τ) (Cert.MidBwdIdeal.main (F := Ideal))) ⟨m, fun _ => 0, g⟩ (fun r => ∀ c : Dev Cert.MidBwdIdeal.nD,
          r.2.mem ((c.tc : Thread Cert.MidBwdIdeal.nD Cert.MidBwdIdeal.τ).loc Cert.MidBwdIdeal.main_v28_0) = v0 c
          ∧ r.2.mem ((c.tc : Thread Cert.MidBwdIdeal.nD Cert.MidBwdIdeal.τ).loc Cert.MidBwdIdeal.main_v28_1) = v1 c
          ∧ r.2.mem ((c.tc : Thread Cert.MidBwdIdeal.nD Cert.MidBwdIdeal.τ).loc Cert.MidBwdIdeal.main_v28_2) = v2 c
          ∧ r.2.mem ((c.tc : Thread Cert.MidBwdIdeal.nD Cert.MidBwdIdeal.τ).loc Cert.MidBwdIdeal.main_v28_3) = v3 c
          ∧ r.2.mem ((c.tc : Thread Cert.MidBwdIdeal.nD Cert.MidBwdIdeal.τ).loc Cert.MidBwdIdeal.main_arg0) = m ((c.tc : Thread Cert.MidBwdIdeal.nD Cert.MidBwdIdeal.τ).loc Cert.MidBwdIdeal.main_arg0)
          ∧ r.2.mem ((c.tc : Thread Cert.MidBwdIdeal.nD Cert.MidBwdIdeal.τ).loc Cert.MidBwdIdeal.main_arg1) = m ((c.tc : Thread Cert.MidBwdIdeal.nD Cert.MidBwdIdeal.τ).loc Cert.MidBwdIdeal.main_arg1)
          ∧ r.2.mem ((c.tc : Thread Cert.MidBwdIdeal.nD Cert.MidBwdIdeal.τ).loc Cert.MidBwdIdeal.main_arg2) = m ((c.tc : Thread Cert.MidBwdIdeal.nD Cert.MidBwdIdeal.τ).loc Cert.MidBwdIdeal.main_arg2)
          ∧ r.2.mem ((c.tc : Thread Cert.MidBwdIdeal.nD Cert.MidBwdIdeal.τ).loc Cert.MidBwdIdeal.main_arg3) = m ((c.tc : Thread Cert.MidBwdIdeal.nD Cert.MidBwdIdeal.τ).loc Cert.MidBwdIdeal.main_arg3)
          ∧ r.2.mem ((c.tc : Thread Cert.MidBwdIdeal.nD Cert.MidBwdIdeal.τ).loc Cert.MidBwdIdeal.main_arg4) = m ((c.tc : Thread Cert.MidBwdIdeal.nD Cert.MidBwdIdeal.τ).loc Cert.MidBwdIdeal.main_arg4)
          ∧ r.2.mem ((c.tc : Thread Cert.MidBwdIdeal.nD Cert.MidBwdIdeal.τ).loc Cert.MidBwdIdeal.main_arg5) = m ((c.tc : Thread Cert.MidBwdIdeal.nD Cert.MidBwdIdeal.τ).loc Cert.MidBwdIdeal.main_arg5)
          ∧ r.2.mem ((c.tc : Thread Cert.MidBwdIdeal.nD Cert.MidBwdIdeal.τ).loc Cert.MidBwdIdeal.main_arg6) = m ((c.tc : Thread Cert.MidBwdIdeal.nD Cert.MidBwdIdeal.τ).loc Cert.MidBwdIdeal.main_arg6))
      ∧ θ_run (Cert.MidBwdRefIdeal.defs (F := Ideal)) (onTc (τ := Cert.MidBwdRefIdeal.τ) (Cert.MidBwdRefIdeal.main (F := Ideal))) ⟨m', fun _ => 0, g'⟩ (fun r => ∀ c : Dev Cert.MidBwdRefIdeal.nD,
          r.2.mem ((c.tc : Thread Cert.MidBwdRefIdeal.nD Cert.MidBwdRefIdeal.τ).loc Cert.MidBwdRefIdeal.main_v85) = v0 c
          ∧ r.2.mem ((c.tc : Thread Cert.MidBwdRefIdeal.nD Cert.MidBwdRefIdeal.τ).loc Cert.MidBwdRefIdeal.main_v88) = v1 c
          ∧ r.2.mem ((c.tc : Thread Cert.MidBwdRefIdeal.nD Cert.MidBwdRefIdeal.τ).loc Cert.MidBwdRefIdeal.main_v60) = v2 c
          ∧ r.2.mem ((c.tc : Thread Cert.MidBwdRefIdeal.nD Cert.MidBwdRefIdeal.τ).loc Cert.MidBwdRefIdeal.main_v83) = v3 c
          ∧ r.2.mem ((c.tc : Thread Cert.MidBwdRefIdeal.nD Cert.MidBwdRefIdeal.τ).loc Cert.MidBwdRefIdeal.main_arg0) = m' ((c.tc : Thread Cert.MidBwdRefIdeal.nD Cert.MidBwdRefIdeal.τ).loc Cert.MidBwdRefIdeal.main_arg0)
          ∧ r.2.mem ((c.tc : Thread Cert.MidBwdRefIdeal.nD Cert.MidBwdRefIdeal.τ).loc Cert.MidBwdRefIdeal.main_arg1) = m' ((c.tc : Thread Cert.MidBwdRefIdeal.nD Cert.MidBwdRefIdeal.τ).loc Cert.MidBwdRefIdeal.main_arg1)
          ∧ r.2.mem ((c.tc : Thread Cert.MidBwdRefIdeal.nD Cert.MidBwdRefIdeal.τ).loc Cert.MidBwdRefIdeal.main_arg2) = m' ((c.tc : Thread Cert.MidBwdRefIdeal.nD Cert.MidBwdRefIdeal.τ).loc Cert.MidBwdRefIdeal.main_arg2)
          ∧ r.2.mem ((c.tc : Thread Cert.MidBwdRefIdeal.nD Cert.MidBwdRefIdeal.τ).loc Cert.MidBwdRefIdeal.main_arg3) = m' ((c.tc : Thread Cert.MidBwdRefIdeal.nD Cert.MidBwdRefIdeal.τ).loc Cert.MidBwdRefIdeal.main_arg3)
          ∧ r.2.mem ((c.tc : Thread Cert.MidBwdRefIdeal.nD Cert.MidBwdRefIdeal.τ).loc Cert.MidBwdRefIdeal.main_arg4) = m' ((c.tc : Thread Cert.MidBwdRefIdeal.nD Cert.MidBwdRefIdeal.τ).loc Cert.MidBwdRefIdeal.main_arg4)
          ∧ r.2.mem ((c.tc : Thread Cert.MidBwdRefIdeal.nD Cert.MidBwdRefIdeal.τ).loc Cert.MidBwdRefIdeal.main_arg5) = m' ((c.tc : Thread Cert.MidBwdRefIdeal.nD Cert.MidBwdRefIdeal.τ).loc Cert.MidBwdRefIdeal.main_arg5)
          ∧ r.2.mem ((c.tc : Thread Cert.MidBwdRefIdeal.nD Cert.MidBwdRefIdeal.τ).loc Cert.MidBwdRefIdeal.main_arg6) = m' ((c.tc : Thread Cert.MidBwdRefIdeal.nD Cert.MidBwdRefIdeal.τ).loc Cert.MidBwdRefIdeal.main_arg6))

def preserves_AttnOutBwd_AttnOutBwdIdeal : Prop :=
  True

def algebraic_AttnOutBwdIdeal_AttnOutBwdRefIdeal [hAttnOutBwdIdeal : Cert.AttnOutBwdIdeal.Facts] [hAttnOutBwdRefIdeal : Cert.AttnOutBwdRefIdeal.Facts] : Prop :=
  ∀ (m : (ℓ : Loc Cert.AttnOutBwdIdeal.nD Cert.AttnOutBwdIdeal.τ Cert.AttnOutBwdIdeal.sig) → Buf (Elt Ideal) ℓ) (g : Dev Cert.AttnOutBwdIdeal.nD → PrngReg)
    (m' : (ℓ : Loc Cert.AttnOutBwdRefIdeal.nD Cert.AttnOutBwdRefIdeal.τ Cert.AttnOutBwdRefIdeal.sig) → Buf (Elt Ideal) ℓ) (g' : Dev Cert.AttnOutBwdRefIdeal.nD → PrngReg), Pre_AttnOutBwdIdeal m →
    (∀ c : Dev Cert.AttnOutBwdIdeal.nD,
      m' ((c.tc : Thread Cert.AttnOutBwdRefIdeal.nD Cert.AttnOutBwdRefIdeal.τ).loc Cert.AttnOutBwdRefIdeal.main_arg0) = m ((c.tc : Thread Cert.AttnOutBwdIdeal.nD Cert.AttnOutBwdIdeal.τ).loc Cert.AttnOutBwdIdeal.main_arg0)
      ∧ m' ((c.tc : Thread Cert.AttnOutBwdRefIdeal.nD Cert.AttnOutBwdRefIdeal.τ).loc Cert.AttnOutBwdRefIdeal.main_arg1) = m ((c.tc : Thread Cert.AttnOutBwdIdeal.nD Cert.AttnOutBwdIdeal.τ).loc Cert.AttnOutBwdIdeal.main_arg1)
      ∧ m' ((c.tc : Thread Cert.AttnOutBwdRefIdeal.nD Cert.AttnOutBwdRefIdeal.τ).loc Cert.AttnOutBwdRefIdeal.main_arg2) = m ((c.tc : Thread Cert.AttnOutBwdIdeal.nD Cert.AttnOutBwdIdeal.τ).loc Cert.AttnOutBwdIdeal.main_arg2)
      ∧ m' ((c.tc : Thread Cert.AttnOutBwdRefIdeal.nD Cert.AttnOutBwdRefIdeal.τ).loc Cert.AttnOutBwdRefIdeal.main_arg3) = m ((c.tc : Thread Cert.AttnOutBwdIdeal.nD Cert.AttnOutBwdIdeal.τ).loc Cert.AttnOutBwdIdeal.main_arg3)) →
    ∃ (v0 : (c : Dev Cert.AttnOutBwdIdeal.nD) → Buf (Elt Ideal) ((c.tc : Thread Cert.AttnOutBwdIdeal.nD Cert.AttnOutBwdIdeal.τ).loc Cert.AttnOutBwdIdeal.main_v8_0)) (v1 : (c : Dev Cert.AttnOutBwdIdeal.nD) → Buf (Elt Ideal) ((c.tc : Thread Cert.AttnOutBwdIdeal.nD Cert.AttnOutBwdIdeal.τ).loc Cert.AttnOutBwdIdeal.main_v8_1)) (v2 : (c : Dev Cert.AttnOutBwdIdeal.nD) → Buf (Elt Ideal) ((c.tc : Thread Cert.AttnOutBwdIdeal.nD Cert.AttnOutBwdIdeal.τ).loc Cert.AttnOutBwdIdeal.main_v8_2)),
      θ_run (Cert.AttnOutBwdIdeal.defs (F := Ideal)) (onTc (τ := Cert.AttnOutBwdIdeal.τ) (Cert.AttnOutBwdIdeal.main (F := Ideal))) ⟨m, fun _ => 0, g⟩ (fun r => ∀ c : Dev Cert.AttnOutBwdIdeal.nD,
          r.2.mem ((c.tc : Thread Cert.AttnOutBwdIdeal.nD Cert.AttnOutBwdIdeal.τ).loc Cert.AttnOutBwdIdeal.main_v8_0) = v0 c
          ∧ r.2.mem ((c.tc : Thread Cert.AttnOutBwdIdeal.nD Cert.AttnOutBwdIdeal.τ).loc Cert.AttnOutBwdIdeal.main_v8_1) = v1 c
          ∧ r.2.mem ((c.tc : Thread Cert.AttnOutBwdIdeal.nD Cert.AttnOutBwdIdeal.τ).loc Cert.AttnOutBwdIdeal.main_v8_2) = v2 c
          ∧ r.2.mem ((c.tc : Thread Cert.AttnOutBwdIdeal.nD Cert.AttnOutBwdIdeal.τ).loc Cert.AttnOutBwdIdeal.main_arg0) = m ((c.tc : Thread Cert.AttnOutBwdIdeal.nD Cert.AttnOutBwdIdeal.τ).loc Cert.AttnOutBwdIdeal.main_arg0)
          ∧ r.2.mem ((c.tc : Thread Cert.AttnOutBwdIdeal.nD Cert.AttnOutBwdIdeal.τ).loc Cert.AttnOutBwdIdeal.main_arg1) = m ((c.tc : Thread Cert.AttnOutBwdIdeal.nD Cert.AttnOutBwdIdeal.τ).loc Cert.AttnOutBwdIdeal.main_arg1)
          ∧ r.2.mem ((c.tc : Thread Cert.AttnOutBwdIdeal.nD Cert.AttnOutBwdIdeal.τ).loc Cert.AttnOutBwdIdeal.main_arg2) = m ((c.tc : Thread Cert.AttnOutBwdIdeal.nD Cert.AttnOutBwdIdeal.τ).loc Cert.AttnOutBwdIdeal.main_arg2)
          ∧ r.2.mem ((c.tc : Thread Cert.AttnOutBwdIdeal.nD Cert.AttnOutBwdIdeal.τ).loc Cert.AttnOutBwdIdeal.main_arg3) = m ((c.tc : Thread Cert.AttnOutBwdIdeal.nD Cert.AttnOutBwdIdeal.τ).loc Cert.AttnOutBwdIdeal.main_arg3))
      ∧ θ_run (Cert.AttnOutBwdRefIdeal.defs (F := Ideal)) (onTc (τ := Cert.AttnOutBwdRefIdeal.τ) (Cert.AttnOutBwdRefIdeal.main (F := Ideal))) ⟨m', fun _ => 0, g'⟩ (fun r => ∀ c : Dev Cert.AttnOutBwdRefIdeal.nD,
          r.2.mem ((c.tc : Thread Cert.AttnOutBwdRefIdeal.nD Cert.AttnOutBwdRefIdeal.τ).loc Cert.AttnOutBwdRefIdeal.main_v55) = v0 c
          ∧ r.2.mem ((c.tc : Thread Cert.AttnOutBwdRefIdeal.nD Cert.AttnOutBwdRefIdeal.τ).loc Cert.AttnOutBwdRefIdeal.main_v57) = v1 c
          ∧ r.2.mem ((c.tc : Thread Cert.AttnOutBwdRefIdeal.nD Cert.AttnOutBwdRefIdeal.τ).loc Cert.AttnOutBwdRefIdeal.main_v42) = v2 c
          ∧ r.2.mem ((c.tc : Thread Cert.AttnOutBwdRefIdeal.nD Cert.AttnOutBwdRefIdeal.τ).loc Cert.AttnOutBwdRefIdeal.main_arg0) = m' ((c.tc : Thread Cert.AttnOutBwdRefIdeal.nD Cert.AttnOutBwdRefIdeal.τ).loc Cert.AttnOutBwdRefIdeal.main_arg0)
          ∧ r.2.mem ((c.tc : Thread Cert.AttnOutBwdRefIdeal.nD Cert.AttnOutBwdRefIdeal.τ).loc Cert.AttnOutBwdRefIdeal.main_arg1) = m' ((c.tc : Thread Cert.AttnOutBwdRefIdeal.nD Cert.AttnOutBwdRefIdeal.τ).loc Cert.AttnOutBwdRefIdeal.main_arg1)
          ∧ r.2.mem ((c.tc : Thread Cert.AttnOutBwdRefIdeal.nD Cert.AttnOutBwdRefIdeal.τ).loc Cert.AttnOutBwdRefIdeal.main_arg2) = m' ((c.tc : Thread Cert.AttnOutBwdRefIdeal.nD Cert.AttnOutBwdRefIdeal.τ).loc Cert.AttnOutBwdRefIdeal.main_arg2)
          ∧ r.2.mem ((c.tc : Thread Cert.AttnOutBwdRefIdeal.nD Cert.AttnOutBwdRefIdeal.τ).loc Cert.AttnOutBwdRefIdeal.main_arg3) = m' ((c.tc : Thread Cert.AttnOutBwdRefIdeal.nD Cert.AttnOutBwdRefIdeal.τ).loc Cert.AttnOutBwdRefIdeal.main_arg3))

def preserves_QBranchBwd_QBranchBwdIdeal : Prop :=
  True

def algebraic_QBranchBwdIdeal_QBranchBwdRefIdeal [hQBranchBwdIdeal : Cert.QBranchBwdIdeal.Facts] [hQBranchBwdRefIdeal : Cert.QBranchBwdRefIdeal.Facts] : Prop :=
  ∀ (m : (ℓ : Loc Cert.QBranchBwdIdeal.nD Cert.QBranchBwdIdeal.τ Cert.QBranchBwdIdeal.sig) → Buf (Elt Ideal) ℓ) (g : Dev Cert.QBranchBwdIdeal.nD → PrngReg)
    (m' : (ℓ : Loc Cert.QBranchBwdRefIdeal.nD Cert.QBranchBwdRefIdeal.τ Cert.QBranchBwdRefIdeal.sig) → Buf (Elt Ideal) ℓ) (g' : Dev Cert.QBranchBwdRefIdeal.nD → PrngReg), Pre_QBranchBwdIdeal m →
    (∀ c : Dev Cert.QBranchBwdIdeal.nD,
      m' ((c.tc : Thread Cert.QBranchBwdRefIdeal.nD Cert.QBranchBwdRefIdeal.τ).loc Cert.QBranchBwdRefIdeal.main_arg0) = m ((c.tc : Thread Cert.QBranchBwdIdeal.nD Cert.QBranchBwdIdeal.τ).loc Cert.QBranchBwdIdeal.main_arg0)
      ∧ m' ((c.tc : Thread Cert.QBranchBwdRefIdeal.nD Cert.QBranchBwdRefIdeal.τ).loc Cert.QBranchBwdRefIdeal.main_arg1) = m ((c.tc : Thread Cert.QBranchBwdIdeal.nD Cert.QBranchBwdIdeal.τ).loc Cert.QBranchBwdIdeal.main_arg1)
      ∧ m' ((c.tc : Thread Cert.QBranchBwdRefIdeal.nD Cert.QBranchBwdRefIdeal.τ).loc Cert.QBranchBwdRefIdeal.main_arg2) = m ((c.tc : Thread Cert.QBranchBwdIdeal.nD Cert.QBranchBwdIdeal.τ).loc Cert.QBranchBwdIdeal.main_arg2)
      ∧ m' ((c.tc : Thread Cert.QBranchBwdRefIdeal.nD Cert.QBranchBwdRefIdeal.τ).loc Cert.QBranchBwdRefIdeal.main_arg3) = m ((c.tc : Thread Cert.QBranchBwdIdeal.nD Cert.QBranchBwdIdeal.τ).loc Cert.QBranchBwdIdeal.main_arg3)
      ∧ m' ((c.tc : Thread Cert.QBranchBwdRefIdeal.nD Cert.QBranchBwdRefIdeal.τ).loc Cert.QBranchBwdRefIdeal.main_arg4) = m ((c.tc : Thread Cert.QBranchBwdIdeal.nD Cert.QBranchBwdIdeal.τ).loc Cert.QBranchBwdIdeal.main_arg4)
      ∧ m' ((c.tc : Thread Cert.QBranchBwdRefIdeal.nD Cert.QBranchBwdRefIdeal.τ).loc Cert.QBranchBwdRefIdeal.main_arg5) = m ((c.tc : Thread Cert.QBranchBwdIdeal.nD Cert.QBranchBwdIdeal.τ).loc Cert.QBranchBwdIdeal.main_arg5)) →
    ∃ (v0 : (c : Dev Cert.QBranchBwdIdeal.nD) → Buf (Elt Ideal) ((c.tc : Thread Cert.QBranchBwdIdeal.nD Cert.QBranchBwdIdeal.τ).loc Cert.QBranchBwdIdeal.main_v27_0)) (v1 : (c : Dev Cert.QBranchBwdIdeal.nD) → Buf (Elt Ideal) ((c.tc : Thread Cert.QBranchBwdIdeal.nD Cert.QBranchBwdIdeal.τ).loc Cert.QBranchBwdIdeal.main_v27_1)) (v2 : (c : Dev Cert.QBranchBwdIdeal.nD) → Buf (Elt Ideal) ((c.tc : Thread Cert.QBranchBwdIdeal.nD Cert.QBranchBwdIdeal.τ).loc Cert.QBranchBwdIdeal.main_v29)),
      θ_run (Cert.QBranchBwdIdeal.defs (F := Ideal)) (onTc (τ := Cert.QBranchBwdIdeal.τ) (Cert.QBranchBwdIdeal.main (F := Ideal))) ⟨m, fun _ => 0, g⟩ (fun r => ∀ c : Dev Cert.QBranchBwdIdeal.nD,
          r.2.mem ((c.tc : Thread Cert.QBranchBwdIdeal.nD Cert.QBranchBwdIdeal.τ).loc Cert.QBranchBwdIdeal.main_v27_0) = v0 c
          ∧ r.2.mem ((c.tc : Thread Cert.QBranchBwdIdeal.nD Cert.QBranchBwdIdeal.τ).loc Cert.QBranchBwdIdeal.main_v27_1) = v1 c
          ∧ r.2.mem ((c.tc : Thread Cert.QBranchBwdIdeal.nD Cert.QBranchBwdIdeal.τ).loc Cert.QBranchBwdIdeal.main_v29) = v2 c
          ∧ r.2.mem ((c.tc : Thread Cert.QBranchBwdIdeal.nD Cert.QBranchBwdIdeal.τ).loc Cert.QBranchBwdIdeal.main_arg0) = m ((c.tc : Thread Cert.QBranchBwdIdeal.nD Cert.QBranchBwdIdeal.τ).loc Cert.QBranchBwdIdeal.main_arg0)
          ∧ r.2.mem ((c.tc : Thread Cert.QBranchBwdIdeal.nD Cert.QBranchBwdIdeal.τ).loc Cert.QBranchBwdIdeal.main_arg1) = m ((c.tc : Thread Cert.QBranchBwdIdeal.nD Cert.QBranchBwdIdeal.τ).loc Cert.QBranchBwdIdeal.main_arg1)
          ∧ r.2.mem ((c.tc : Thread Cert.QBranchBwdIdeal.nD Cert.QBranchBwdIdeal.τ).loc Cert.QBranchBwdIdeal.main_arg2) = m ((c.tc : Thread Cert.QBranchBwdIdeal.nD Cert.QBranchBwdIdeal.τ).loc Cert.QBranchBwdIdeal.main_arg2)
          ∧ r.2.mem ((c.tc : Thread Cert.QBranchBwdIdeal.nD Cert.QBranchBwdIdeal.τ).loc Cert.QBranchBwdIdeal.main_arg3) = m ((c.tc : Thread Cert.QBranchBwdIdeal.nD Cert.QBranchBwdIdeal.τ).loc Cert.QBranchBwdIdeal.main_arg3)
          ∧ r.2.mem ((c.tc : Thread Cert.QBranchBwdIdeal.nD Cert.QBranchBwdIdeal.τ).loc Cert.QBranchBwdIdeal.main_arg4) = m ((c.tc : Thread Cert.QBranchBwdIdeal.nD Cert.QBranchBwdIdeal.τ).loc Cert.QBranchBwdIdeal.main_arg4)
          ∧ r.2.mem ((c.tc : Thread Cert.QBranchBwdIdeal.nD Cert.QBranchBwdIdeal.τ).loc Cert.QBranchBwdIdeal.main_arg5) = m ((c.tc : Thread Cert.QBranchBwdIdeal.nD Cert.QBranchBwdIdeal.τ).loc Cert.QBranchBwdIdeal.main_arg5))
      ∧ θ_run (Cert.QBranchBwdRefIdeal.defs (F := Ideal)) (onTc (τ := Cert.QBranchBwdRefIdeal.τ) (Cert.QBranchBwdRefIdeal.main (F := Ideal))) ⟨m', fun _ => 0, g'⟩ (fun r => ∀ c : Dev Cert.QBranchBwdRefIdeal.nD,
          r.2.mem ((c.tc : Thread Cert.QBranchBwdRefIdeal.nD Cert.QBranchBwdRefIdeal.τ).loc Cert.QBranchBwdRefIdeal.main_v92) = v0 c
          ∧ r.2.mem ((c.tc : Thread Cert.QBranchBwdRefIdeal.nD Cert.QBranchBwdRefIdeal.τ).loc Cert.QBranchBwdRefIdeal.main_v89) = v1 c
          ∧ r.2.mem ((c.tc : Thread Cert.QBranchBwdRefIdeal.nD Cert.QBranchBwdRefIdeal.τ).loc Cert.QBranchBwdRefIdeal.main_v93) = v2 c
          ∧ r.2.mem ((c.tc : Thread Cert.QBranchBwdRefIdeal.nD Cert.QBranchBwdRefIdeal.τ).loc Cert.QBranchBwdRefIdeal.main_arg0) = m' ((c.tc : Thread Cert.QBranchBwdRefIdeal.nD Cert.QBranchBwdRefIdeal.τ).loc Cert.QBranchBwdRefIdeal.main_arg0)
          ∧ r.2.mem ((c.tc : Thread Cert.QBranchBwdRefIdeal.nD Cert.QBranchBwdRefIdeal.τ).loc Cert.QBranchBwdRefIdeal.main_arg1) = m' ((c.tc : Thread Cert.QBranchBwdRefIdeal.nD Cert.QBranchBwdRefIdeal.τ).loc Cert.QBranchBwdRefIdeal.main_arg1)
          ∧ r.2.mem ((c.tc : Thread Cert.QBranchBwdRefIdeal.nD Cert.QBranchBwdRefIdeal.τ).loc Cert.QBranchBwdRefIdeal.main_arg2) = m' ((c.tc : Thread Cert.QBranchBwdRefIdeal.nD Cert.QBranchBwdRefIdeal.τ).loc Cert.QBranchBwdRefIdeal.main_arg2)
          ∧ r.2.mem ((c.tc : Thread Cert.QBranchBwdRefIdeal.nD Cert.QBranchBwdRefIdeal.τ).loc Cert.QBranchBwdRefIdeal.main_arg3) = m' ((c.tc : Thread Cert.QBranchBwdRefIdeal.nD Cert.QBranchBwdRefIdeal.τ).loc Cert.QBranchBwdRefIdeal.main_arg3)
          ∧ r.2.mem ((c.tc : Thread Cert.QBranchBwdRefIdeal.nD Cert.QBranchBwdRefIdeal.τ).loc Cert.QBranchBwdRefIdeal.main_arg4) = m' ((c.tc : Thread Cert.QBranchBwdRefIdeal.nD Cert.QBranchBwdRefIdeal.τ).loc Cert.QBranchBwdRefIdeal.main_arg4)
          ∧ r.2.mem ((c.tc : Thread Cert.QBranchBwdRefIdeal.nD Cert.QBranchBwdRefIdeal.τ).loc Cert.QBranchBwdRefIdeal.main_arg5) = m' ((c.tc : Thread Cert.QBranchBwdRefIdeal.nD Cert.QBranchBwdRefIdeal.τ).loc Cert.QBranchBwdRefIdeal.main_arg5))

def preserves_KvBranchBwd_KvBranchBwdIdeal : Prop :=
  True

def algebraic_KvBranchBwdIdeal_KvBranchBwdRefIdeal [hKvBranchBwdIdeal : Cert.KvBranchBwdIdeal.Facts] [hKvBranchBwdRefIdeal : Cert.KvBranchBwdRefIdeal.Facts] : Prop :=
  ∀ (m : (ℓ : Loc Cert.KvBranchBwdIdeal.nD Cert.KvBranchBwdIdeal.τ Cert.KvBranchBwdIdeal.sig) → Buf (Elt Ideal) ℓ) (g : Dev Cert.KvBranchBwdIdeal.nD → PrngReg)
    (m' : (ℓ : Loc Cert.KvBranchBwdRefIdeal.nD Cert.KvBranchBwdRefIdeal.τ Cert.KvBranchBwdRefIdeal.sig) → Buf (Elt Ideal) ℓ) (g' : Dev Cert.KvBranchBwdRefIdeal.nD → PrngReg), Pre_KvBranchBwdIdeal m →
    (∀ c : Dev Cert.KvBranchBwdIdeal.nD,
      m' ((c.tc : Thread Cert.KvBranchBwdRefIdeal.nD Cert.KvBranchBwdRefIdeal.τ).loc Cert.KvBranchBwdRefIdeal.main_arg0) = m ((c.tc : Thread Cert.KvBranchBwdIdeal.nD Cert.KvBranchBwdIdeal.τ).loc Cert.KvBranchBwdIdeal.main_arg0)
      ∧ m' ((c.tc : Thread Cert.KvBranchBwdRefIdeal.nD Cert.KvBranchBwdRefIdeal.τ).loc Cert.KvBranchBwdRefIdeal.main_arg1) = m ((c.tc : Thread Cert.KvBranchBwdIdeal.nD Cert.KvBranchBwdIdeal.τ).loc Cert.KvBranchBwdIdeal.main_arg1)
      ∧ m' ((c.tc : Thread Cert.KvBranchBwdRefIdeal.nD Cert.KvBranchBwdRefIdeal.τ).loc Cert.KvBranchBwdRefIdeal.main_arg2) = m ((c.tc : Thread Cert.KvBranchBwdIdeal.nD Cert.KvBranchBwdIdeal.τ).loc Cert.KvBranchBwdIdeal.main_arg2)
      ∧ m' ((c.tc : Thread Cert.KvBranchBwdRefIdeal.nD Cert.KvBranchBwdRefIdeal.τ).loc Cert.KvBranchBwdRefIdeal.main_arg3) = m ((c.tc : Thread Cert.KvBranchBwdIdeal.nD Cert.KvBranchBwdIdeal.τ).loc Cert.KvBranchBwdIdeal.main_arg3)
      ∧ m' ((c.tc : Thread Cert.KvBranchBwdRefIdeal.nD Cert.KvBranchBwdRefIdeal.τ).loc Cert.KvBranchBwdRefIdeal.main_arg4) = m ((c.tc : Thread Cert.KvBranchBwdIdeal.nD Cert.KvBranchBwdIdeal.τ).loc Cert.KvBranchBwdIdeal.main_arg4)
      ∧ m' ((c.tc : Thread Cert.KvBranchBwdRefIdeal.nD Cert.KvBranchBwdRefIdeal.τ).loc Cert.KvBranchBwdRefIdeal.main_arg5) = m ((c.tc : Thread Cert.KvBranchBwdIdeal.nD Cert.KvBranchBwdIdeal.τ).loc Cert.KvBranchBwdIdeal.main_arg5)
      ∧ m' ((c.tc : Thread Cert.KvBranchBwdRefIdeal.nD Cert.KvBranchBwdRefIdeal.τ).loc Cert.KvBranchBwdRefIdeal.main_arg6) = m ((c.tc : Thread Cert.KvBranchBwdIdeal.nD Cert.KvBranchBwdIdeal.τ).loc Cert.KvBranchBwdIdeal.main_arg6)
      ∧ m' ((c.tc : Thread Cert.KvBranchBwdRefIdeal.nD Cert.KvBranchBwdRefIdeal.τ).loc Cert.KvBranchBwdRefIdeal.main_arg7) = m ((c.tc : Thread Cert.KvBranchBwdIdeal.nD Cert.KvBranchBwdIdeal.τ).loc Cert.KvBranchBwdIdeal.main_arg7)) →
    ∃ (v0 : (c : Dev Cert.KvBranchBwdIdeal.nD) → Buf (Elt Ideal) ((c.tc : Thread Cert.KvBranchBwdIdeal.nD Cert.KvBranchBwdIdeal.τ).loc Cert.KvBranchBwdIdeal.main_v29_0)) (v1 : (c : Dev Cert.KvBranchBwdIdeal.nD) → Buf (Elt Ideal) ((c.tc : Thread Cert.KvBranchBwdIdeal.nD Cert.KvBranchBwdIdeal.τ).loc Cert.KvBranchBwdIdeal.main_v29_1)) (v2 : (c : Dev Cert.KvBranchBwdIdeal.nD) → Buf (Elt Ideal) ((c.tc : Thread Cert.KvBranchBwdIdeal.nD Cert.KvBranchBwdIdeal.τ).loc Cert.KvBranchBwdIdeal.main_v29_2)) (v3 : (c : Dev Cert.KvBranchBwdIdeal.nD) → Buf (Elt Ideal) ((c.tc : Thread Cert.KvBranchBwdIdeal.nD Cert.KvBranchBwdIdeal.τ).loc Cert.KvBranchBwdIdeal.main_v30)),
      θ_run (Cert.KvBranchBwdIdeal.defs (F := Ideal)) (onTc (τ := Cert.KvBranchBwdIdeal.τ) (Cert.KvBranchBwdIdeal.main (F := Ideal))) ⟨m, fun _ => 0, g⟩ (fun r => ∀ c : Dev Cert.KvBranchBwdIdeal.nD,
          r.2.mem ((c.tc : Thread Cert.KvBranchBwdIdeal.nD Cert.KvBranchBwdIdeal.τ).loc Cert.KvBranchBwdIdeal.main_v29_0) = v0 c
          ∧ r.2.mem ((c.tc : Thread Cert.KvBranchBwdIdeal.nD Cert.KvBranchBwdIdeal.τ).loc Cert.KvBranchBwdIdeal.main_v29_1) = v1 c
          ∧ r.2.mem ((c.tc : Thread Cert.KvBranchBwdIdeal.nD Cert.KvBranchBwdIdeal.τ).loc Cert.KvBranchBwdIdeal.main_v29_2) = v2 c
          ∧ r.2.mem ((c.tc : Thread Cert.KvBranchBwdIdeal.nD Cert.KvBranchBwdIdeal.τ).loc Cert.KvBranchBwdIdeal.main_v30) = v3 c
          ∧ r.2.mem ((c.tc : Thread Cert.KvBranchBwdIdeal.nD Cert.KvBranchBwdIdeal.τ).loc Cert.KvBranchBwdIdeal.main_arg0) = m ((c.tc : Thread Cert.KvBranchBwdIdeal.nD Cert.KvBranchBwdIdeal.τ).loc Cert.KvBranchBwdIdeal.main_arg0)
          ∧ r.2.mem ((c.tc : Thread Cert.KvBranchBwdIdeal.nD Cert.KvBranchBwdIdeal.τ).loc Cert.KvBranchBwdIdeal.main_arg1) = m ((c.tc : Thread Cert.KvBranchBwdIdeal.nD Cert.KvBranchBwdIdeal.τ).loc Cert.KvBranchBwdIdeal.main_arg1)
          ∧ r.2.mem ((c.tc : Thread Cert.KvBranchBwdIdeal.nD Cert.KvBranchBwdIdeal.τ).loc Cert.KvBranchBwdIdeal.main_arg2) = m ((c.tc : Thread Cert.KvBranchBwdIdeal.nD Cert.KvBranchBwdIdeal.τ).loc Cert.KvBranchBwdIdeal.main_arg2)
          ∧ r.2.mem ((c.tc : Thread Cert.KvBranchBwdIdeal.nD Cert.KvBranchBwdIdeal.τ).loc Cert.KvBranchBwdIdeal.main_arg3) = m ((c.tc : Thread Cert.KvBranchBwdIdeal.nD Cert.KvBranchBwdIdeal.τ).loc Cert.KvBranchBwdIdeal.main_arg3)
          ∧ r.2.mem ((c.tc : Thread Cert.KvBranchBwdIdeal.nD Cert.KvBranchBwdIdeal.τ).loc Cert.KvBranchBwdIdeal.main_arg4) = m ((c.tc : Thread Cert.KvBranchBwdIdeal.nD Cert.KvBranchBwdIdeal.τ).loc Cert.KvBranchBwdIdeal.main_arg4)
          ∧ r.2.mem ((c.tc : Thread Cert.KvBranchBwdIdeal.nD Cert.KvBranchBwdIdeal.τ).loc Cert.KvBranchBwdIdeal.main_arg5) = m ((c.tc : Thread Cert.KvBranchBwdIdeal.nD Cert.KvBranchBwdIdeal.τ).loc Cert.KvBranchBwdIdeal.main_arg5)
          ∧ r.2.mem ((c.tc : Thread Cert.KvBranchBwdIdeal.nD Cert.KvBranchBwdIdeal.τ).loc Cert.KvBranchBwdIdeal.main_arg6) = m ((c.tc : Thread Cert.KvBranchBwdIdeal.nD Cert.KvBranchBwdIdeal.τ).loc Cert.KvBranchBwdIdeal.main_arg6)
          ∧ r.2.mem ((c.tc : Thread Cert.KvBranchBwdIdeal.nD Cert.KvBranchBwdIdeal.τ).loc Cert.KvBranchBwdIdeal.main_arg7) = m ((c.tc : Thread Cert.KvBranchBwdIdeal.nD Cert.KvBranchBwdIdeal.τ).loc Cert.KvBranchBwdIdeal.main_arg7))
      ∧ θ_run (Cert.KvBranchBwdRefIdeal.defs (F := Ideal)) (onTc (τ := Cert.KvBranchBwdRefIdeal.τ) (Cert.KvBranchBwdRefIdeal.main (F := Ideal))) ⟨m', fun _ => 0, g'⟩ (fun r => ∀ c : Dev Cert.KvBranchBwdRefIdeal.nD,
          r.2.mem ((c.tc : Thread Cert.KvBranchBwdRefIdeal.nD Cert.KvBranchBwdRefIdeal.τ).loc Cert.KvBranchBwdRefIdeal.main_v84) = v0 c
          ∧ r.2.mem ((c.tc : Thread Cert.KvBranchBwdRefIdeal.nD Cert.KvBranchBwdRefIdeal.τ).loc Cert.KvBranchBwdRefIdeal.main_v81) = v1 c
          ∧ r.2.mem ((c.tc : Thread Cert.KvBranchBwdRefIdeal.nD Cert.KvBranchBwdRefIdeal.τ).loc Cert.KvBranchBwdRefIdeal.main_v85) = v2 c
          ∧ r.2.mem ((c.tc : Thread Cert.KvBranchBwdRefIdeal.nD Cert.KvBranchBwdRefIdeal.τ).loc Cert.KvBranchBwdRefIdeal.main_v87) = v3 c
          ∧ r.2.mem ((c.tc : Thread Cert.KvBranchBwdRefIdeal.nD Cert.KvBranchBwdRefIdeal.τ).loc Cert.KvBranchBwdRefIdeal.main_arg0) = m' ((c.tc : Thread Cert.KvBranchBwdRefIdeal.nD Cert.KvBranchBwdRefIdeal.τ).loc Cert.KvBranchBwdRefIdeal.main_arg0)
          ∧ r.2.mem ((c.tc : Thread Cert.KvBranchBwdRefIdeal.nD Cert.KvBranchBwdRefIdeal.τ).loc Cert.KvBranchBwdRefIdeal.main_arg1) = m' ((c.tc : Thread Cert.KvBranchBwdRefIdeal.nD Cert.KvBranchBwdRefIdeal.τ).loc Cert.KvBranchBwdRefIdeal.main_arg1)
          ∧ r.2.mem ((c.tc : Thread Cert.KvBranchBwdRefIdeal.nD Cert.KvBranchBwdRefIdeal.τ).loc Cert.KvBranchBwdRefIdeal.main_arg2) = m' ((c.tc : Thread Cert.KvBranchBwdRefIdeal.nD Cert.KvBranchBwdRefIdeal.τ).loc Cert.KvBranchBwdRefIdeal.main_arg2)
          ∧ r.2.mem ((c.tc : Thread Cert.KvBranchBwdRefIdeal.nD Cert.KvBranchBwdRefIdeal.τ).loc Cert.KvBranchBwdRefIdeal.main_arg3) = m' ((c.tc : Thread Cert.KvBranchBwdRefIdeal.nD Cert.KvBranchBwdRefIdeal.τ).loc Cert.KvBranchBwdRefIdeal.main_arg3)
          ∧ r.2.mem ((c.tc : Thread Cert.KvBranchBwdRefIdeal.nD Cert.KvBranchBwdRefIdeal.τ).loc Cert.KvBranchBwdRefIdeal.main_arg4) = m' ((c.tc : Thread Cert.KvBranchBwdRefIdeal.nD Cert.KvBranchBwdRefIdeal.τ).loc Cert.KvBranchBwdRefIdeal.main_arg4)
          ∧ r.2.mem ((c.tc : Thread Cert.KvBranchBwdRefIdeal.nD Cert.KvBranchBwdRefIdeal.τ).loc Cert.KvBranchBwdRefIdeal.main_arg5) = m' ((c.tc : Thread Cert.KvBranchBwdRefIdeal.nD Cert.KvBranchBwdRefIdeal.τ).loc Cert.KvBranchBwdRefIdeal.main_arg5)
          ∧ r.2.mem ((c.tc : Thread Cert.KvBranchBwdRefIdeal.nD Cert.KvBranchBwdRefIdeal.τ).loc Cert.KvBranchBwdRefIdeal.main_arg6) = m' ((c.tc : Thread Cert.KvBranchBwdRefIdeal.nD Cert.KvBranchBwdRefIdeal.τ).loc Cert.KvBranchBwdRefIdeal.main_arg6)
          ∧ r.2.mem ((c.tc : Thread Cert.KvBranchBwdRefIdeal.nD Cert.KvBranchBwdRefIdeal.τ).loc Cert.KvBranchBwdRefIdeal.main_arg7) = m' ((c.tc : Thread Cert.KvBranchBwdRefIdeal.nD Cert.KvBranchBwdRefIdeal.τ).loc Cert.KvBranchBwdRefIdeal.main_arg7))

def preserves_InProjDx_InProjDxIdeal : Prop :=
  True

def algebraic_InProjDxIdeal_InProjDxRefIdeal [hInProjDxIdeal : Cert.InProjDxIdeal.Facts] [hInProjDxRefIdeal : Cert.InProjDxRefIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg)
    (m' : (ℓ : Loc Cert.InProjDxRefIdeal.nD Cert.InProjDxRefIdeal.τ Cert.InProjDxRefIdeal.sig) → Buf (Elt Ideal) ℓ) (g' : Dev Cert.InProjDxRefIdeal.nD → PrngReg), Pre_InProjDxIdeal m →
    (∀ c : Dev Cert.InProjDxIdeal.nD,
      m' ((c.tc : Thread Cert.InProjDxRefIdeal.nD Cert.InProjDxRefIdeal.τ).loc Cert.InProjDxRefIdeal.main_arg0) = m ((c.tc : Thread Cert.InProjDxIdeal.nD Cert.InProjDxIdeal.τ).loc Cert.InProjDxIdeal.main_arg0)
      ∧ m' ((c.tc : Thread Cert.InProjDxRefIdeal.nD Cert.InProjDxRefIdeal.τ).loc Cert.InProjDxRefIdeal.main_arg1) = m ((c.tc : Thread Cert.InProjDxIdeal.nD Cert.InProjDxIdeal.τ).loc Cert.InProjDxIdeal.main_arg1)
      ∧ m' ((c.tc : Thread Cert.InProjDxRefIdeal.nD Cert.InProjDxRefIdeal.τ).loc Cert.InProjDxRefIdeal.main_arg2) = m ((c.tc : Thread Cert.InProjDxIdeal.nD Cert.InProjDxIdeal.τ).loc Cert.InProjDxIdeal.main_arg2)
      ∧ m' ((c.tc : Thread Cert.InProjDxRefIdeal.nD Cert.InProjDxRefIdeal.τ).loc Cert.InProjDxRefIdeal.main_arg3) = m ((c.tc : Thread Cert.InProjDxIdeal.nD Cert.InProjDxIdeal.τ).loc Cert.InProjDxIdeal.main_arg3)
      ∧ m' ((c.tc : Thread Cert.InProjDxRefIdeal.nD Cert.InProjDxRefIdeal.τ).loc Cert.InProjDxRefIdeal.main_arg4) = m ((c.tc : Thread Cert.InProjDxIdeal.nD Cert.InProjDxIdeal.τ).loc Cert.InProjDxIdeal.main_arg4)) →
    ∃ (v0 : (c : Dev Cert.InProjDxIdeal.nD) → Buf (Elt Ideal) ((c.tc : Thread Cert.InProjDxIdeal.nD Cert.InProjDxIdeal.τ).loc Cert.InProjDxIdeal.main_v36_0)) (v1 : (c : Dev Cert.InProjDxIdeal.nD) → Buf (Elt Ideal) ((c.tc : Thread Cert.InProjDxIdeal.nD Cert.InProjDxIdeal.τ).loc Cert.InProjDxIdeal.main_v36_1)),
      θ_run (Cert.InProjDxIdeal.defs (F := Ideal)) (onTc (τ := Cert.InProjDxIdeal.τ) (Cert.InProjDxIdeal.main (F := Ideal))) ⟨m, fun _ => 0, g⟩ (fun r => ∀ c : Dev Cert.InProjDxIdeal.nD,
          r.2.mem ((c.tc : Thread Cert.InProjDxIdeal.nD Cert.InProjDxIdeal.τ).loc Cert.InProjDxIdeal.main_v36_0) = v0 c
          ∧ r.2.mem ((c.tc : Thread Cert.InProjDxIdeal.nD Cert.InProjDxIdeal.τ).loc Cert.InProjDxIdeal.main_v36_1) = v1 c
          ∧ r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
          ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
          ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2)
          ∧ r.2.mem ((c.tc : Thread Cert.InProjDxIdeal.nD Cert.InProjDxIdeal.τ).loc Cert.InProjDxIdeal.main_arg3) = m ((c.tc : Thread Cert.InProjDxIdeal.nD Cert.InProjDxIdeal.τ).loc Cert.InProjDxIdeal.main_arg3)
          ∧ r.2.mem ((c.tc : Thread Cert.InProjDxIdeal.nD Cert.InProjDxIdeal.τ).loc Cert.InProjDxIdeal.main_arg4) = m ((c.tc : Thread Cert.InProjDxIdeal.nD Cert.InProjDxIdeal.τ).loc Cert.InProjDxIdeal.main_arg4))
      ∧ θ_run (Cert.InProjDxRefIdeal.defs (F := Ideal)) (onTc (τ := Cert.InProjDxRefIdeal.τ) (Cert.InProjDxRefIdeal.main (F := Ideal))) ⟨m', fun _ => 0, g'⟩ (fun r => ∀ c : Dev Cert.InProjDxRefIdeal.nD,
          r.2.mem ((c.tc : Thread Cert.InProjDxRefIdeal.nD Cert.InProjDxRefIdeal.τ).loc Cert.InProjDxRefIdeal.main_v44) = v0 c
          ∧ r.2.mem ((c.tc : Thread Cert.InProjDxRefIdeal.nD Cert.InProjDxRefIdeal.τ).loc Cert.InProjDxRefIdeal.main_v42) = v1 c
          ∧ r.2.mem ((c.tc : Thread Cert.InProjDxRefIdeal.nD Cert.InProjDxRefIdeal.τ).loc Cert.InProjDxRefIdeal.main_arg0) = m' ((c.tc : Thread Cert.InProjDxRefIdeal.nD Cert.InProjDxRefIdeal.τ).loc Cert.InProjDxRefIdeal.main_arg0)
          ∧ r.2.mem ((c.tc : Thread Cert.InProjDxRefIdeal.nD Cert.InProjDxRefIdeal.τ).loc Cert.InProjDxRefIdeal.main_arg1) = m' ((c.tc : Thread Cert.InProjDxRefIdeal.nD Cert.InProjDxRefIdeal.τ).loc Cert.InProjDxRefIdeal.main_arg1)
          ∧ r.2.mem ((c.tc : Thread Cert.InProjDxRefIdeal.nD Cert.InProjDxRefIdeal.τ).loc Cert.InProjDxRefIdeal.main_arg2) = m' ((c.tc : Thread Cert.InProjDxRefIdeal.nD Cert.InProjDxRefIdeal.τ).loc Cert.InProjDxRefIdeal.main_arg2)
          ∧ r.2.mem ((c.tc : Thread Cert.InProjDxRefIdeal.nD Cert.InProjDxRefIdeal.τ).loc Cert.InProjDxRefIdeal.main_arg3) = m' ((c.tc : Thread Cert.InProjDxRefIdeal.nD Cert.InProjDxRefIdeal.τ).loc Cert.InProjDxRefIdeal.main_arg3)
          ∧ r.2.mem ((c.tc : Thread Cert.InProjDxRefIdeal.nD Cert.InProjDxRefIdeal.τ).loc Cert.InProjDxRefIdeal.main_arg4) = m' ((c.tc : Thread Cert.InProjDxRefIdeal.nD Cert.InProjDxRefIdeal.τ).loc Cert.InProjDxRefIdeal.main_arg4))

def preserves_FlashBwd_FlashBwdIdeal : Prop :=
  IdealRules.named_const.Statement Cert.FlashBwdIdeal.κ "neg" .f32 0xF149F2CA#32 ⊥
  ∧ IdealRules.named_const.Statement Cert.FlashBwdIdeal.κ "ln2" .f32 0x3F317218#32 ((Real.log 2 : ℝ) : EReal)

def algebraic_FlashBwdIdeal_FlashBwdRefIdeal_pre_finite_flash [hFlashBwdIdeal : Cert.FlashBwdIdeal.Facts] [hFlashBwdRefIdeal : Cert.FlashBwdRefIdeal.Facts] [hPre_finite_flash : Cert.Pre_finite_flash.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg)
    (m' : (ℓ : Loc Cert.FlashBwdRefIdeal.nD Cert.FlashBwdRefIdeal.τ Cert.FlashBwdRefIdeal.sig) → Buf (Elt Ideal) ℓ) (g' : Dev Cert.FlashBwdRefIdeal.nD → PrngReg), Pre_FlashBwdIdeal_finite_flash m →
    (∀ c : Dev Cert.FlashBwdIdeal.nD,
      m' ((c.tc : Thread Cert.FlashBwdRefIdeal.nD Cert.FlashBwdRefIdeal.τ).loc Cert.FlashBwdRefIdeal.main_arg0) = m ((c.tc : Thread Cert.FlashBwdIdeal.nD Cert.FlashBwdIdeal.τ).loc Cert.FlashBwdIdeal.main_arg0)
      ∧ m' ((c.tc : Thread Cert.FlashBwdRefIdeal.nD Cert.FlashBwdRefIdeal.τ).loc Cert.FlashBwdRefIdeal.main_arg1) = m ((c.tc : Thread Cert.FlashBwdIdeal.nD Cert.FlashBwdIdeal.τ).loc Cert.FlashBwdIdeal.main_arg1)
      ∧ m' ((c.tc : Thread Cert.FlashBwdRefIdeal.nD Cert.FlashBwdRefIdeal.τ).loc Cert.FlashBwdRefIdeal.main_arg2) = m ((c.tc : Thread Cert.FlashBwdIdeal.nD Cert.FlashBwdIdeal.τ).loc Cert.FlashBwdIdeal.main_arg2)
      ∧ m' ((c.tc : Thread Cert.FlashBwdRefIdeal.nD Cert.FlashBwdRefIdeal.τ).loc Cert.FlashBwdRefIdeal.main_arg3) = m ((c.tc : Thread Cert.FlashBwdIdeal.nD Cert.FlashBwdIdeal.τ).loc Cert.FlashBwdIdeal.main_arg3)
      ∧ m' ((c.tc : Thread Cert.FlashBwdRefIdeal.nD Cert.FlashBwdRefIdeal.τ).loc Cert.FlashBwdRefIdeal.main_arg4) = m ((c.tc : Thread Cert.FlashBwdIdeal.nD Cert.FlashBwdIdeal.τ).loc Cert.FlashBwdIdeal.main_arg4)
      ∧ m' ((c.tc : Thread Cert.FlashBwdRefIdeal.nD Cert.FlashBwdRefIdeal.τ).loc Cert.FlashBwdRefIdeal.main_arg5) = m ((c.tc : Thread Cert.FlashBwdIdeal.nD Cert.FlashBwdIdeal.τ).loc Cert.FlashBwdIdeal.main_arg5)) →
    ∃ (v0 : (c : Dev Cert.FlashBwdIdeal.nD) → Buf (Elt Ideal) ((c.tc : Thread Cert.FlashBwdIdeal.nD Cert.FlashBwdIdeal.τ).loc Cert.FlashBwdIdeal.main_v51_0)) (v1 : (c : Dev Cert.FlashBwdIdeal.nD) → Buf (Elt Ideal) ((c.tc : Thread Cert.FlashBwdIdeal.nD Cert.FlashBwdIdeal.τ).loc Cert.FlashBwdIdeal.main_v51_1)) (v2 : (c : Dev Cert.FlashBwdIdeal.nD) → Buf (Elt Ideal) ((c.tc : Thread Cert.FlashBwdIdeal.nD Cert.FlashBwdIdeal.τ).loc Cert.FlashBwdIdeal.main_v51_2)),
      θ_run (Cert.FlashBwdIdeal.defs (F := Ideal)) (onTc (τ := Cert.FlashBwdIdeal.τ) (Cert.FlashBwdIdeal.main (F := Ideal))) ⟨m, fun _ => 0, g⟩ (fun r => ∀ c : Dev Cert.FlashBwdIdeal.nD,
          r.2.mem ((c.tc : Thread Cert.FlashBwdIdeal.nD Cert.FlashBwdIdeal.τ).loc Cert.FlashBwdIdeal.main_v51_0) = v0 c
          ∧ r.2.mem ((c.tc : Thread Cert.FlashBwdIdeal.nD Cert.FlashBwdIdeal.τ).loc Cert.FlashBwdIdeal.main_v51_1) = v1 c
          ∧ r.2.mem ((c.tc : Thread Cert.FlashBwdIdeal.nD Cert.FlashBwdIdeal.τ).loc Cert.FlashBwdIdeal.main_v51_2) = v2 c
          ∧ r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
          ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
          ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
          ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3)
          ∧ r.2.mem ((c.tc : Thread Cert.FlashBwdIdeal.nD Cert.FlashBwdIdeal.τ).loc Cert.FlashBwdIdeal.main_arg4) = m ((c.tc : Thread Cert.FlashBwdIdeal.nD Cert.FlashBwdIdeal.τ).loc Cert.FlashBwdIdeal.main_arg4)
          ∧ r.2.mem ((c.tc : Thread Cert.FlashBwdIdeal.nD Cert.FlashBwdIdeal.τ).loc Cert.FlashBwdIdeal.main_arg5) = m ((c.tc : Thread Cert.FlashBwdIdeal.nD Cert.FlashBwdIdeal.τ).loc Cert.FlashBwdIdeal.main_arg5))
      ∧ θ_run (Cert.FlashBwdRefIdeal.defs (F := Ideal)) (onTc (τ := Cert.FlashBwdRefIdeal.τ) (Cert.FlashBwdRefIdeal.main (F := Ideal))) ⟨m', fun _ => 0, g'⟩ (fun r => ∀ c : Dev Cert.FlashBwdRefIdeal.nD,
          r.2.mem ((c.tc : Thread Cert.FlashBwdRefIdeal.nD Cert.FlashBwdRefIdeal.τ).loc Cert.FlashBwdRefIdeal.main_v68) = v0 c
          ∧ r.2.mem ((c.tc : Thread Cert.FlashBwdRefIdeal.nD Cert.FlashBwdRefIdeal.τ).loc Cert.FlashBwdRefIdeal.main_v71) = v1 c
          ∧ r.2.mem ((c.tc : Thread Cert.FlashBwdRefIdeal.nD Cert.FlashBwdRefIdeal.τ).loc Cert.FlashBwdRefIdeal.main_v74) = v2 c
          ∧ r.2.mem ((c.tc : Thread Cert.FlashBwdRefIdeal.nD Cert.FlashBwdRefIdeal.τ).loc Cert.FlashBwdRefIdeal.main_arg0) = m' ((c.tc : Thread Cert.FlashBwdRefIdeal.nD Cert.FlashBwdRefIdeal.τ).loc Cert.FlashBwdRefIdeal.main_arg0)
          ∧ r.2.mem ((c.tc : Thread Cert.FlashBwdRefIdeal.nD Cert.FlashBwdRefIdeal.τ).loc Cert.FlashBwdRefIdeal.main_arg1) = m' ((c.tc : Thread Cert.FlashBwdRefIdeal.nD Cert.FlashBwdRefIdeal.τ).loc Cert.FlashBwdRefIdeal.main_arg1)
          ∧ r.2.mem ((c.tc : Thread Cert.FlashBwdRefIdeal.nD Cert.FlashBwdRefIdeal.τ).loc Cert.FlashBwdRefIdeal.main_arg2) = m' ((c.tc : Thread Cert.FlashBwdRefIdeal.nD Cert.FlashBwdRefIdeal.τ).loc Cert.FlashBwdRefIdeal.main_arg2)
          ∧ r.2.mem ((c.tc : Thread Cert.FlashBwdRefIdeal.nD Cert.FlashBwdRefIdeal.τ).loc Cert.FlashBwdRefIdeal.main_arg3) = m' ((c.tc : Thread Cert.FlashBwdRefIdeal.nD Cert.FlashBwdRefIdeal.τ).loc Cert.FlashBwdRefIdeal.main_arg3)
          ∧ r.2.mem ((c.tc : Thread Cert.FlashBwdRefIdeal.nD Cert.FlashBwdRefIdeal.τ).loc Cert.FlashBwdRefIdeal.main_arg4) = m' ((c.tc : Thread Cert.FlashBwdRefIdeal.nD Cert.FlashBwdRefIdeal.τ).loc Cert.FlashBwdRefIdeal.main_arg4)
          ∧ r.2.mem ((c.tc : Thread Cert.FlashBwdRefIdeal.nD Cert.FlashBwdRefIdeal.τ).loc Cert.FlashBwdRefIdeal.main_arg5) = m' ((c.tc : Thread Cert.FlashBwdRefIdeal.nD Cert.FlashBwdRefIdeal.τ).loc Cert.FlashBwdRefIdeal.main_arg5))

def preserves_FlashFwd_FlashFwdIdeal : Prop :=
  IdealRules.named_const.Statement Cert.FlashFwdIdeal.κ "neg" .f32 0xF149F2CA#32 ⊥
  ∧ IdealRules.named_const.Statement Cert.FlashFwdIdeal.κ "ln2" .f32 0x3F317218#32 ((Real.log 2 : ℝ) : EReal)

def algebraic_FlashFwdIdeal_FlashFwdRefIdeal_pre_finite_flashfwd [hFlashFwdIdeal : Cert.FlashFwdIdeal.Facts] [hFlashFwdRefIdeal : Cert.FlashFwdRefIdeal.Facts] [hPre_finite_flashfwd : Cert.Pre_finite_flashfwd.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg)
    (m' : (ℓ : Loc Cert.FlashFwdRefIdeal.nD Cert.FlashFwdRefIdeal.τ Cert.FlashFwdRefIdeal.sig) → Buf (Elt Ideal) ℓ) (g' : Dev Cert.FlashFwdRefIdeal.nD → PrngReg), Pre_FlashFwdIdeal_finite_flashfwd m →
    (∀ c : Dev Cert.FlashFwdIdeal.nD,
      m' ((c.tc : Thread Cert.FlashFwdRefIdeal.nD Cert.FlashFwdRefIdeal.τ).loc Cert.FlashFwdRefIdeal.main_arg0) = m ((c.tc : Thread Cert.FlashFwdIdeal.nD Cert.FlashFwdIdeal.τ).loc Cert.FlashFwdIdeal.main_arg0)
      ∧ m' ((c.tc : Thread Cert.FlashFwdRefIdeal.nD Cert.FlashFwdRefIdeal.τ).loc Cert.FlashFwdRefIdeal.main_arg1) = m ((c.tc : Thread Cert.FlashFwdIdeal.nD Cert.FlashFwdIdeal.τ).loc Cert.FlashFwdIdeal.main_arg1)
      ∧ m' ((c.tc : Thread Cert.FlashFwdRefIdeal.nD Cert.FlashFwdRefIdeal.τ).loc Cert.FlashFwdRefIdeal.main_arg2) = m ((c.tc : Thread Cert.FlashFwdIdeal.nD Cert.FlashFwdIdeal.τ).loc Cert.FlashFwdIdeal.main_arg2)
      ∧ m' ((c.tc : Thread Cert.FlashFwdRefIdeal.nD Cert.FlashFwdRefIdeal.τ).loc Cert.FlashFwdRefIdeal.main_arg3) = m ((c.tc : Thread Cert.FlashFwdIdeal.nD Cert.FlashFwdIdeal.τ).loc Cert.FlashFwdIdeal.main_arg3)
      ∧ m' ((c.tc : Thread Cert.FlashFwdRefIdeal.nD Cert.FlashFwdRefIdeal.τ).loc Cert.FlashFwdRefIdeal.main_arg4) = m ((c.tc : Thread Cert.FlashFwdIdeal.nD Cert.FlashFwdIdeal.τ).loc Cert.FlashFwdIdeal.main_arg4)) →
    ∃ (v0 : (c : Dev Cert.FlashFwdIdeal.nD) → Buf (Elt Ideal) ((c.tc : Thread Cert.FlashFwdIdeal.nD Cert.FlashFwdIdeal.τ).loc Cert.FlashFwdIdeal.main_v22)) (v1 : (c : Dev Cert.FlashFwdIdeal.nD) → Buf (Elt Ideal) ((c.tc : Thread Cert.FlashFwdIdeal.nD Cert.FlashFwdIdeal.τ).loc Cert.FlashFwdIdeal.main_v24)),
      θ_run (Cert.FlashFwdIdeal.defs (F := Ideal)) (onTc (τ := Cert.FlashFwdIdeal.τ) (Cert.FlashFwdIdeal.main (F := Ideal))) ⟨m, fun _ => 0, g⟩ (fun r => ∀ c : Dev Cert.FlashFwdIdeal.nD,
          r.2.mem ((c.tc : Thread Cert.FlashFwdIdeal.nD Cert.FlashFwdIdeal.τ).loc Cert.FlashFwdIdeal.main_v22) = v0 c
          ∧ r.2.mem ((c.tc : Thread Cert.FlashFwdIdeal.nD Cert.FlashFwdIdeal.τ).loc Cert.FlashFwdIdeal.main_v24) = v1 c
          ∧ r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
          ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
          ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2)
          ∧ r.2.mem ((c.tc : Thread Cert.FlashFwdIdeal.nD Cert.FlashFwdIdeal.τ).loc Cert.FlashFwdIdeal.main_arg3) = m ((c.tc : Thread Cert.FlashFwdIdeal.nD Cert.FlashFwdIdeal.τ).loc Cert.FlashFwdIdeal.main_arg3)
          ∧ r.2.mem ((c.tc : Thread Cert.FlashFwdIdeal.nD Cert.FlashFwdIdeal.τ).loc Cert.FlashFwdIdeal.main_arg4) = m ((c.tc : Thread Cert.FlashFwdIdeal.nD Cert.FlashFwdIdeal.τ).loc Cert.FlashFwdIdeal.main_arg4))
      ∧ θ_run (Cert.FlashFwdRefIdeal.defs (F := Ideal)) (onTc (τ := Cert.FlashFwdRefIdeal.τ) (Cert.FlashFwdRefIdeal.main (F := Ideal))) ⟨m', fun _ => 0, g'⟩ (fun r => ∀ c : Dev Cert.FlashFwdRefIdeal.nD,
          r.2.mem ((c.tc : Thread Cert.FlashFwdRefIdeal.nD Cert.FlashFwdRefIdeal.τ).loc Cert.FlashFwdRefIdeal.main_v28) = v0 c
          ∧ r.2.mem ((c.tc : Thread Cert.FlashFwdRefIdeal.nD Cert.FlashFwdRefIdeal.τ).loc Cert.FlashFwdRefIdeal.main_v35) = v1 c
          ∧ r.2.mem ((c.tc : Thread Cert.FlashFwdRefIdeal.nD Cert.FlashFwdRefIdeal.τ).loc Cert.FlashFwdRefIdeal.main_arg0) = m' ((c.tc : Thread Cert.FlashFwdRefIdeal.nD Cert.FlashFwdRefIdeal.τ).loc Cert.FlashFwdRefIdeal.main_arg0)
          ∧ r.2.mem ((c.tc : Thread Cert.FlashFwdRefIdeal.nD Cert.FlashFwdRefIdeal.τ).loc Cert.FlashFwdRefIdeal.main_arg1) = m' ((c.tc : Thread Cert.FlashFwdRefIdeal.nD Cert.FlashFwdRefIdeal.τ).loc Cert.FlashFwdRefIdeal.main_arg1)
          ∧ r.2.mem ((c.tc : Thread Cert.FlashFwdRefIdeal.nD Cert.FlashFwdRefIdeal.τ).loc Cert.FlashFwdRefIdeal.main_arg2) = m' ((c.tc : Thread Cert.FlashFwdRefIdeal.nD Cert.FlashFwdRefIdeal.τ).loc Cert.FlashFwdRefIdeal.main_arg2)
          ∧ r.2.mem ((c.tc : Thread Cert.FlashFwdRefIdeal.nD Cert.FlashFwdRefIdeal.τ).loc Cert.FlashFwdRefIdeal.main_arg3) = m' ((c.tc : Thread Cert.FlashFwdRefIdeal.nD Cert.FlashFwdRefIdeal.τ).loc Cert.FlashFwdRefIdeal.main_arg3)
          ∧ r.2.mem ((c.tc : Thread Cert.FlashFwdRefIdeal.nD Cert.FlashFwdRefIdeal.τ).loc Cert.FlashFwdRefIdeal.main_arg4) = m' ((c.tc : Thread Cert.FlashFwdRefIdeal.nD Cert.FlashFwdRefIdeal.τ).loc Cert.FlashFwdRefIdeal.main_arg4))

def Claim : Prop :=
  ∃ (hDtBwd : Cert.DtBwd.Facts) (hDtBwdIdeal : Cert.DtBwdIdeal.Facts) (hDtBwdRefIdeal : Cert.DtBwdRefIdeal.Facts) (hFfnDownLoss : Cert.FfnDownLoss.Facts) (hFfnDownLossIdeal : Cert.FfnDownLossIdeal.Facts) (hFfnDownLossRefIdeal : Cert.FfnDownLossRefIdeal.Facts) (hMidBwd : Cert.MidBwd.Facts) (hMidBwdIdeal : Cert.MidBwdIdeal.Facts) (hMidBwdRefIdeal : Cert.MidBwdRefIdeal.Facts) (hAttnOutBwd : Cert.AttnOutBwd.Facts) (hAttnOutBwdIdeal : Cert.AttnOutBwdIdeal.Facts) (hAttnOutBwdRefIdeal : Cert.AttnOutBwdRefIdeal.Facts) (hQBranchBwd : Cert.QBranchBwd.Facts) (hQBranchBwdIdeal : Cert.QBranchBwdIdeal.Facts) (hQBranchBwdRefIdeal : Cert.QBranchBwdRefIdeal.Facts) (hKvBranchBwd : Cert.KvBranchBwd.Facts) (hKvBranchBwdIdeal : Cert.KvBranchBwdIdeal.Facts) (hKvBranchBwdRefIdeal : Cert.KvBranchBwdRefIdeal.Facts) (hInProjDx : Cert.InProjDx.Facts) (hInProjDxIdeal : Cert.InProjDxIdeal.Facts) (hInProjDxRefIdeal : Cert.InProjDxRefIdeal.Facts) (hFlashBwd : Cert.FlashBwd.Facts) (hFlashBwdIdeal : Cert.FlashBwdIdeal.Facts) (hFlashBwdRefIdeal : Cert.FlashBwdRefIdeal.Facts) (hFlashFwd : Cert.FlashFwd.Facts) (hFlashFwdIdeal : Cert.FlashFwdIdeal.Facts) (hFlashFwdRefIdeal : Cert.FlashFwdRefIdeal.Facts) (hPre_finite_flash : Cert.Pre_finite_flash.Facts) (hPre_finite_flashfwd : Cert.Pre_finite_flashfwd.Facts),
    quiescent_DtBwd (hDtBwd := hDtBwd)
    ∧ quiescent_DtBwdIdeal (hDtBwdIdeal := hDtBwdIdeal)
    ∧ quiescent_DtBwdRefIdeal (hDtBwdRefIdeal := hDtBwdRefIdeal)
    ∧ quiescent_FfnDownLoss (hFfnDownLoss := hFfnDownLoss)
    ∧ quiescent_FfnDownLossIdeal (hFfnDownLossIdeal := hFfnDownLossIdeal)
    ∧ quiescent_FfnDownLossRefIdeal (hFfnDownLossRefIdeal := hFfnDownLossRefIdeal)
    ∧ quiescent_MidBwd (hMidBwd := hMidBwd)
    ∧ quiescent_MidBwdIdeal (hMidBwdIdeal := hMidBwdIdeal)
    ∧ quiescent_MidBwdRefIdeal (hMidBwdRefIdeal := hMidBwdRefIdeal)
    ∧ quiescent_AttnOutBwd (hAttnOutBwd := hAttnOutBwd)
    ∧ quiescent_AttnOutBwdIdeal (hAttnOutBwdIdeal := hAttnOutBwdIdeal)
    ∧ quiescent_AttnOutBwdRefIdeal (hAttnOutBwdRefIdeal := hAttnOutBwdRefIdeal)
    ∧ quiescent_QBranchBwd (hQBranchBwd := hQBranchBwd)
    ∧ quiescent_QBranchBwdIdeal (hQBranchBwdIdeal := hQBranchBwdIdeal)
    ∧ quiescent_QBranchBwdRefIdeal (hQBranchBwdRefIdeal := hQBranchBwdRefIdeal)
    ∧ quiescent_KvBranchBwd (hKvBranchBwd := hKvBranchBwd)
    ∧ quiescent_KvBranchBwdIdeal (hKvBranchBwdIdeal := hKvBranchBwdIdeal)
    ∧ quiescent_KvBranchBwdRefIdeal (hKvBranchBwdRefIdeal := hKvBranchBwdRefIdeal)
    ∧ quiescent_InProjDx (hInProjDx := hInProjDx)
    ∧ quiescent_InProjDxIdeal (hInProjDxIdeal := hInProjDxIdeal)
    ∧ quiescent_InProjDxRefIdeal (hInProjDxRefIdeal := hInProjDxRefIdeal)
    ∧ quiescent_FlashBwd (hFlashBwd := hFlashBwd)
    ∧ quiescent_FlashBwdIdeal (hFlashBwdIdeal := hFlashBwdIdeal)
    ∧ quiescent_FlashBwdIdeal_pre_finite_flash (hFlashBwdIdeal := hFlashBwdIdeal) (hPre_finite_flash := hPre_finite_flash)
    ∧ quiescent_FlashBwdRefIdeal (hFlashBwdRefIdeal := hFlashBwdRefIdeal)
    ∧ quiescent_FlashBwdRefIdeal_pre_finite_flash (hFlashBwdRefIdeal := hFlashBwdRefIdeal) (hPre_finite_flash := hPre_finite_flash)
    ∧ quiescent_FlashFwd (hFlashFwd := hFlashFwd)
    ∧ quiescent_FlashFwdIdeal (hFlashFwdIdeal := hFlashFwdIdeal)
    ∧ quiescent_FlashFwdIdeal_pre_finite_flashfwd (hFlashFwdIdeal := hFlashFwdIdeal) (hPre_finite_flashfwd := hPre_finite_flashfwd)
    ∧ quiescent_FlashFwdRefIdeal (hFlashFwdRefIdeal := hFlashFwdRefIdeal)
    ∧ quiescent_FlashFwdRefIdeal_pre_finite_flashfwd (hFlashFwdRefIdeal := hFlashFwdRefIdeal) (hPre_finite_flashfwd := hPre_finite_flashfwd)
    ∧ preserves_DtBwd_DtBwdIdeal
    ∧ algebraic_DtBwdIdeal_DtBwdRefIdeal (hDtBwdIdeal := hDtBwdIdeal) (hDtBwdRefIdeal := hDtBwdRefIdeal)
    ∧ preserves_FfnDownLoss_FfnDownLossIdeal
    ∧ algebraic_FfnDownLossIdeal_FfnDownLossRefIdeal (hFfnDownLossIdeal := hFfnDownLossIdeal) (hFfnDownLossRefIdeal := hFfnDownLossRefIdeal)
    ∧ preserves_MidBwd_MidBwdIdeal
    ∧ algebraic_MidBwdIdeal_MidBwdRefIdeal (hMidBwdIdeal := hMidBwdIdeal) (hMidBwdRefIdeal := hMidBwdRefIdeal)
    ∧ preserves_AttnOutBwd_AttnOutBwdIdeal
    ∧ algebraic_AttnOutBwdIdeal_AttnOutBwdRefIdeal (hAttnOutBwdIdeal := hAttnOutBwdIdeal) (hAttnOutBwdRefIdeal := hAttnOutBwdRefIdeal)
    ∧ preserves_QBranchBwd_QBranchBwdIdeal
    ∧ algebraic_QBranchBwdIdeal_QBranchBwdRefIdeal (hQBranchBwdIdeal := hQBranchBwdIdeal) (hQBranchBwdRefIdeal := hQBranchBwdRefIdeal)
    ∧ preserves_KvBranchBwd_KvBranchBwdIdeal
    ∧ algebraic_KvBranchBwdIdeal_KvBranchBwdRefIdeal (hKvBranchBwdIdeal := hKvBranchBwdIdeal) (hKvBranchBwdRefIdeal := hKvBranchBwdRefIdeal)
    ∧ preserves_InProjDx_InProjDxIdeal
    ∧ algebraic_InProjDxIdeal_InProjDxRefIdeal (hInProjDxIdeal := hInProjDxIdeal) (hInProjDxRefIdeal := hInProjDxRefIdeal)
    ∧ preserves_FlashBwd_FlashBwdIdeal
    ∧ algebraic_FlashBwdIdeal_FlashBwdRefIdeal_pre_finite_flash (hFlashBwdIdeal := hFlashBwdIdeal) (hFlashBwdRefIdeal := hFlashBwdRefIdeal) (hPre_finite_flash := hPre_finite_flash)
    ∧ preserves_FlashFwd_FlashFwdIdeal
    ∧ algebraic_FlashFwdIdeal_FlashFwdRefIdeal_pre_finite_flashfwd (hFlashFwdIdeal := hFlashFwdIdeal) (hFlashFwdRefIdeal := hFlashFwdRefIdeal) (hPre_finite_flashfwd := hPre_finite_flashfwd)
-- ==== Pre_finite_flash.lean ====
abbrev S1x8208x8x128 : Shape := ⟨4, ![1, 8208, 8, 128]⟩
abbrev S1x8208x8x64 : Shape := ⟨4, ![1, 8208, 8, 64]⟩
abbrev S1x8208x64 : Shape := ⟨3, ![1, 8208, 64]⟩
abbrev S_ : Shape := ⟨0, ![]⟩

class Facts : Prop where
  bcast_S_S1x8208x8x128 : S_.BroadcastsInDim S1x8208x8x128 (![] : Fin 0 → Fin S1x8208x8x128.rank)
  bcast_S_S1x8208x8x64 : S_.BroadcastsInDim S1x8208x8x64 (![] : Fin 0 → Fin S1x8208x8x64.rank)
  bcast_S_S1x8208x64 : S_.BroadcastsInDim S1x8208x64 (![] : Fin 0 → Fin S1x8208x64.rank)

variable [Facts]

def fn {F : FTy → Type} [FloatOps F] (main_arg0 : FVec F S1x8208x8x128 .f32) (main_arg1 : FVec F S1x8208x8x64 .f32) (main_arg2 : FVec F S1x8208x8x128 .f32) (main_arg3 : FVec F S1x8208x64 .f32) (main_arg4 : FVec F S1x8208x8x128 .f32) (main_arg5 : FVec F S1x8208x8x128 .f32) : IVec S1x8208x8x128 1 × IVec S1x8208x8x64 1 × IVec S1x8208x8x128 1 × IVec S1x8208x64 1 × IVec S1x8208x8x128 1 × IVec S1x8208x8x128 1 :=
  let main_v0 : FVec F S1x8208x8x128 .f32 := Host.absf main_arg0
  let main_cst : FVec F S_ .f32 := constant S_ .f32 0x7F800000#32
  let main_v1 : FVec F S1x8208x8x128 .f32 := broadcastInDim S1x8208x8x128 ![] bcast_S_S1x8208x8x128 main_cst
  let main_v2 : IVec S1x8208x8x128 1 := cmpf .olt main_v0 main_v1
  let main_v3 : FVec F S1x8208x8x64 .f32 := Host.absf main_arg1
  let main_cst_0 : FVec F S_ .f32 := constant S_ .f32 0x7F800000#32
  let main_v4 : FVec F S1x8208x8x64 .f32 := broadcastInDim S1x8208x8x64 ![] bcast_S_S1x8208x8x64 main_cst_0
  let main_v5 : IVec S1x8208x8x64 1 := cmpf .olt main_v3 main_v4
  let main_v6 : FVec F S1x8208x8x128 .f32 := Host.absf main_arg2
  let main_cst_1 : FVec F S_ .f32 := constant S_ .f32 0x7F800000#32
  let main_v7 : FVec F S1x8208x8x128 .f32 := broadcastInDim S1x8208x8x128 ![] bcast_S_S1x8208x8x128 main_cst_1
  let main_v8 : IVec S1x8208x8x128 1 := cmpf .olt main_v6 main_v7
  let main_v9 : FVec F S1x8208x64 .f32 := Host.absf main_arg3
  let main_cst_2 : FVec F S_ .f32 := constant S_ .f32 0x7F800000#32
  let main_v10 : FVec F S1x8208x64 .f32 := broadcastInDim S1x8208x64 ![] bcast_S_S1x8208x64 main_cst_2
  let main_v11 : IVec S1x8208x64 1 := cmpf .olt main_v9 main_v10
  let main_v12 : FVec F S1x8208x8x128 .f32 := Host.absf main_arg4
  let main_cst_3 : FVec F S_ .f32 := constant S_ .f32 0x7F800000#32
  let main_v13 : FVec F S1x8208x8x128 .f32 := broadcastInDim S1x8208x8x128 ![] bcast_S_S1x8208x8x128 main_cst_3
  let main_v14 : IVec S1x8208x8x128 1 := cmpf .olt main_v12 main_v13
  let main_v15 : FVec F S1x8208x8x128 .f32 := Host.absf main_arg5
  let main_cst_4 : FVec F S_ .f32 := constant S_ .f32 0x7F800000#32
  let main_v16 : FVec F S1x8208x8x128 .f32 := broadcastInDim S1x8208x8x128 ![] bcast_S_S1x8208x8x128 main_cst_4
  let main_v17 : IVec S1x8208x8x128 1 := cmpf .olt main_v15 main_v16
  (main_v2, main_v5, main_v8, main_v11, main_v14, main_v17)
-- ==== Pre_finite_flashfwd.lean ====
abbrev S1x8208x8x128 : Shape := ⟨4, ![1, 8208, 8, 128]⟩
abbrev S1x8208x8x64 : Shape := ⟨4, ![1, 8208, 8, 64]⟩
abbrev S1x8208x64 : Shape := ⟨3, ![1, 8208, 64]⟩
abbrev S_ : Shape := ⟨0, ![]⟩

class Facts : Prop where
  bcast_S_S1x8208x8x128 : S_.BroadcastsInDim S1x8208x8x128 (![] : Fin 0 → Fin S1x8208x8x128.rank)
  bcast_S_S1x8208x8x64 : S_.BroadcastsInDim S1x8208x8x64 (![] : Fin 0 → Fin S1x8208x8x64.rank)
  bcast_S_S1x8208x64 : S_.BroadcastsInDim S1x8208x64 (![] : Fin 0 → Fin S1x8208x64.rank)

variable [Facts]

def fn {F : FTy → Type} [FloatOps F] (main_arg0 : FVec F S1x8208x8x128 .f32) (main_arg1 : FVec F S1x8208x8x64 .f32) (main_arg2 : FVec F S1x8208x8x128 .f32) (main_arg3 : FVec F S1x8208x64 .f32) (main_arg4 : FVec F S1x8208x8x128 .f32) : IVec S1x8208x8x128 1 × IVec S1x8208x8x64 1 × IVec S1x8208x8x128 1 × IVec S1x8208x64 1 :=
  let main_v0 : FVec F S1x8208x8x128 .f32 := Host.absf main_arg0
  let main_cst : FVec F S_ .f32 := constant S_ .f32 0x7F800000#32
  let main_v1 : FVec F S1x8208x8x128 .f32 := broadcastInDim S1x8208x8x128 ![] bcast_S_S1x8208x8x128 main_cst
  let main_v2 : IVec S1x8208x8x128 1 := cmpf .olt main_v0 main_v1
  let main_v3 : FVec F S1x8208x8x64 .f32 := Host.absf main_arg1
  let main_cst_0 : FVec F S_ .f32 := constant S_ .f32 0x7F800000#32
  let main_v4 : FVec F S1x8208x8x64 .f32 := broadcastInDim S1x8208x8x64 ![] bcast_S_S1x8208x8x64 main_cst_0
  let main_v5 : IVec S1x8208x8x64 1 := cmpf .olt main_v3 main_v4
  let main_v6 : FVec F S1x8208x8x128 .f32 := Host.absf main_arg2
  let main_cst_1 : FVec F S_ .f32 := constant S_ .f32 0x7F800000#32
  let main_v7 : FVec F S1x8208x8x128 .f32 := broadcastInDim S1x8208x8x128 ![] bcast_S_S1x8208x8x128 main_cst_1
  let main_v8 : IVec S1x8208x8x128 1 := cmpf .olt main_v6 main_v7
  let main_v9 : FVec F S1x8208x64 .f32 := Host.absf main_arg3
  let main_cst_2 : FVec F S_ .f32 := constant S_ .f32 0x7F800000#32
  let main_v10 : FVec F S1x8208x64 .f32 := broadcastInDim S1x8208x64 ![] bcast_S_S1x8208x64 main_cst_2
  let main_v11 : IVec S1x8208x64 1 := cmpf .olt main_v9 main_v10
  (main_v2, main_v5, main_v8, main_v11)
-- ==== DtBwd.lean ====
abbrev S1x8208x16 : Shape := ⟨3, ![1, 8208, 16]⟩
abbrev S1x16 : Shape := ⟨2, ![1, 16]⟩
abbrev S1x8208x2x8 : Shape := ⟨4, ![1, 8208, 2, 8]⟩
abbrev S_ : Shape := ⟨0, ![]⟩
abbrev S1x128 : Shape := ⟨2, ![1, 128]⟩
abbrev S8208x16 : Shape := ⟨2, ![8208, 16]⟩
abbrev S8448x128 : Shape := ⟨2, ![8448, 128]⟩
abbrev S384x128 : Shape := ⟨2, ![384, 128]⟩
abbrev S128 : Shape := ⟨1, ![128]⟩

abbrev nBuf : Space → Nat
  | .hbm => 16
  | .vmem => 8
  | .smem => 0
  | _ => 0

abbrev bufTy : (tb : Table) → Fin (tcTables nBuf tb) → BufTy
  | .hbm, ⟨0, _⟩ => ⟨S1x8208x16, .f32⟩
  | .hbm, ⟨1, _⟩ => ⟨S1x16, .f32⟩
  | .hbm, ⟨2, _⟩ => ⟨S1x8208x2x8, .f32⟩
  | .hbm, ⟨3, _⟩ => ⟨S_, .i32⟩
  | .hbm, ⟨4, _⟩ => ⟨S_, .f32⟩
  | .hbm, ⟨5, _⟩ => ⟨S1x128, .f32⟩
  | .hbm, ⟨6, _⟩ => ⟨S8208x16, .f32⟩
  | .hbm, ⟨7, _⟩ => ⟨S_, .i32⟩
  | .hbm, ⟨8, _⟩ => ⟨S_, .f32⟩
  | .hbm, ⟨9, _⟩ => ⟨S8448x128, .f32⟩
  | .hbm, ⟨10, _⟩ => ⟨S8208x16, .f32⟩
  | .hbm, ⟨11, _⟩ => ⟨S_, .i32⟩
  | .hbm, ⟨12, _⟩ => ⟨S_, .f32⟩
  | .hbm, ⟨13, _⟩ => ⟨S8448x128, .f32⟩
  | .hbm, ⟨14, _⟩ => ⟨S8448x128, .f32⟩
  | .hbm, ⟨15, _⟩ => ⟨S1x128, .f32⟩
  | .local _ .vmem, ⟨0, _⟩ => ⟨S384x128, .f32⟩
  | .local _ .vmem, ⟨1, _⟩ => ⟨S384x128, .f32⟩
  | .local _ .vmem, ⟨2, _⟩ => ⟨S1x128, .f32⟩
  | .local _ .vmem, ⟨3, _⟩ => ⟨S384x128, .f32⟩
  | .local _ .vmem, ⟨4, _⟩ => ⟨S384x128, .f32⟩
  | .local _ .vmem, ⟨5, _⟩ => ⟨S384x128, .f32⟩
  | .local _ .vmem, ⟨6, _⟩ => ⟨S384x128, .f32⟩
  | .local _ .vmem, ⟨7, _⟩ => ⟨S1x128, .f32⟩
  | _, _ => ⟨S1x8208x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call2_v0 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DtBwdRefIdeal.lean ====
abbrev S1x8208x16 : Shape := ⟨3, ![1, 8208, 16]⟩
abbrev S1x16 : Shape := ⟨2, ![1, 16]⟩
abbrev S1x8208x2x8 : Shape := ⟨4, ![1, 8208, 2, 8]⟩
abbrev S1x1x16 : Shape := ⟨3, ![1, 1, 16]⟩
abbrev S_ : Shape := ⟨0, ![]⟩
abbrev S16 : Shape := ⟨1, ![16]⟩
abbrev S8208x16 : Shape := ⟨2, ![8208, 16]⟩
abbrev S8448x128 : Shape := ⟨2, ![8448, 128]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S1x8208x16, .f32⟩
  | .hbm, ⟨1, _⟩ => ⟨S1x16, .f32⟩
  | .hbm, ⟨2, _⟩ => ⟨S1x8208x2x8, .f32⟩
  | .hbm, ⟨3, _⟩ => ⟨S1x1x16, .f32⟩
  | .hbm, ⟨4, _⟩ => ⟨S1x8208x16, .f32⟩
  | .hbm, ⟨5, _⟩ => ⟨S1x8208x16, .f32⟩
  | .hbm, ⟨6, _⟩ => ⟨S_, .f32⟩
  | .hbm, ⟨7, _⟩ => ⟨S1x8208x16, .f32⟩
  | .hbm, ⟨8, _⟩ => ⟨S1x8208x16, .f32⟩
  | .hbm, ⟨9, _⟩ => ⟨S1x8208x16, .f32⟩
  | .hbm, ⟨10, _⟩ => ⟨S1x8208x16, .f32⟩
  | .hbm, ⟨11, _⟩ => ⟨S1x8208x16, .i1⟩
  | .hbm, ⟨12, _⟩ => ⟨S1x8208x16, .f32⟩
  | .hbm, ⟨13, _⟩ => ⟨S1x8208x16, .f32⟩
  | .hbm, ⟨14, _⟩ => ⟨S1x8208x16, .f32⟩
  | .hbm, ⟨15, _⟩ => ⟨S1x8208x16, .f32⟩
  | .hbm, ⟨16, _⟩ => ⟨S1x8208x16, .f32⟩
  | .hbm, ⟨17, _⟩ => ⟨S1x8208x16, .f32⟩
  | .hbm, ⟨18, _⟩ => ⟨S1x8208x16, .f32⟩
  | .hbm, ⟨19, _⟩ => ⟨S1x8208x16, .f32⟩
  | .hbm, ⟨20, _⟩ => ⟨S_, .f32⟩
  | .hbm, ⟨21, _⟩ => ⟨S1x8208x16, .f32⟩
  | .hbm, ⟨22, _⟩ => ⟨S1x8208x16, .i1⟩
  | .hbm, ⟨23, _⟩ => ⟨S_, .f32⟩
  | .hbm, ⟨24, _⟩ => ⟨S1x8208x16, .f32⟩
  | .hbm, ⟨25, _⟩ => ⟨S1x8208x16, .f32⟩
  | .hbm, ⟨26, _⟩ => ⟨S_, .f32⟩
  | .hbm, ⟨27, _⟩ => ⟨S1x8208x16, .f32⟩
  | .hbm, ⟨28, _⟩ => ⟨S1x8208x16, .i1⟩
  | .hbm, ⟨29, _⟩ => ⟨S_, .f32⟩
  | .hbm, ⟨30, _⟩ => ⟨S1x8208x16, .f32⟩
  | .hbm, ⟨31, _⟩ => ⟨S1x8208x16, .f32⟩
  | .hbm, ⟨32, _⟩ => ⟨S1x8208x16, .f32⟩
  | .hbm, ⟨33, _⟩ => ⟨S1x8208x16, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1x8208x16, .f32⟩
  | .hbm, ⟨42, _⟩ => ⟨S1x8208x16, .i1⟩
  | .hbm, ⟨43, _⟩ => ⟨S_, .f32⟩
  | .hbm, ⟨44, _⟩ => ⟨S1x8208x16, .f32⟩
  | .hbm, ⟨45, _⟩ => ⟨S1x8208x16, .f32⟩
  | .hbm, ⟨46, _⟩ => ⟨S1x8208x16, .f32⟩
  | .hbm, ⟨47, _⟩ => ⟨S1x8208x16, .f32⟩
  | .hbm, ⟨48, _⟩ => ⟨S1x8208x16, .f32⟩
  | .hbm, ⟨49, _⟩ => ⟨S_, .f32⟩
  | .hbm, ⟨50, _⟩ => ⟨S1x8208x16, .f32⟩
  | .hbm, ⟨51, _⟩ => ⟨S1x8208x16, .f32⟩
  | .hbm, ⟨52, _⟩ => ⟨S1x8208x2x8, .f32⟩
  | .hbm, ⟨53, _⟩ => ⟨S1x8208x16, .f32⟩
  | .hbm, ⟨54, _⟩ => ⟨S1x8208x16, .f32⟩
  | .hbm, ⟨55, _⟩ => ⟨S_, .f32⟩
  | .hbm, ⟨56, _⟩ => ⟨S1x16, .f32⟩
  | .hbm, ⟨57, _⟩ => ⟨S1x1x16, .f32⟩
  | .hbm, ⟨58, _⟩ => ⟨S_, .f32⟩
  | .hbm, ⟨59, _⟩ => ⟨S16, .f32⟩
  | .hbm, ⟨60, _⟩ => ⟨S1x16, .f32⟩
  | .hbm, ⟨61, _⟩ => ⟨S8208x16, .f32⟩
  | .hbm, ⟨62, _⟩ => ⟨S_, .i32⟩
  | .hbm, ⟨63, _⟩ => ⟨S_, .f32⟩
  | .hbm, ⟨64, _⟩ => ⟨S8448x128, .f32⟩
  | .hbm, ⟨65, _⟩ => ⟨S_, .i32⟩
  | .hbm, ⟨66, _⟩ => ⟨S_, .f32⟩
  | .hbm, ⟨67, _⟩ => ⟨S1x128, .f32⟩
  | _, _ => ⟨S1x8208x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v3_0 : Ref sig .tc := ⟨.hbm, 19, rfl⟩
abbrev main_call0_cst_0 : Ref sig .tc := ⟨.hbm, 20, rfl⟩
abbrev main_call0_v13 : Ref sig .tc := ⟨.hbm, 21, rfl⟩
abbrev main_call0_v14 : Ref sig .tc := ⟨.hbm, 22, rfl⟩
abbrev main_call0_cst_1 : Ref sig .tc := ⟨.hbm, 23, rfl⟩
abbrev main_call0_v15 : Ref sig .tc := ⟨.hbm, 24, rfl⟩
abbrev main_call0_v16 : Ref sig .tc := ⟨.hbm, 25, rfl⟩
abbrev main_call0_cst_2 : Ref sig .tc := ⟨.hbm, 26, rfl⟩
abbrev main_call0_v17 : Ref sig .tc := ⟨.hbm, 27, rfl⟩
abbrev main_call0_v18 : Ref sig .tc := ⟨.hbm, 28, rfl⟩
abbrev main_call0_cst_3 : Ref sig .tc := ⟨.hbm, 29, rfl⟩
abbrev main_call0_v19 : Ref sig .tc := ⟨.hbm, 30, rfl⟩
abbrev main_call0_v20 : Ref sig .tc := ⟨.hbm, 31, rfl⟩
abbrev main_call0_v21 : Ref sig .tc := ⟨.hbm, 32, rfl⟩
abbrev main_v3_1 : Ref sig .tc := ⟨.hbm, 33, rfl⟩
abbrev main_call0_cst_4 : Ref sig .tc := ⟨.hbm, 34, rfl⟩
abbrev main_call0_cst_5 : Ref sig .tc := ⟨.hbm, 35, rfl⟩
abbrev main_call0_v23 : Ref sig .tc := ⟨.hbm, 36, rfl⟩
abbrev main_call0_cst_6 : Ref sig .tc := ⟨.hbm, 37, rfl⟩
abbrev main_call0_cst_7 : Ref sig .tc := ⟨.hbm, 38, rfl⟩
abbrev main_call0_v24 : Ref sig .tc := ⟨.hbm, 39, rfl⟩
abbrev main_call0_cst_8 : Ref sig .tc := ⟨.hbm, 40, rfl⟩
abbrev main_call0_v25 : Ref sig .tc := ⟨.hbm, 41, rfl⟩
abbrev main_call0_v26 : Ref sig .tc := ⟨.hbm, 42, rfl⟩
abbrev main_call0_cst_9 : Ref sig .tc := ⟨.hbm, 43, rfl⟩
abbrev main_call0_v27 : Ref sig .tc := ⟨.hbm, 44, rfl⟩
abbrev main_call0_v28 : Ref sig .tc := ⟨.hbm, 45, rfl⟩
abbrev main_call0_v29 : Ref sig .tc := ⟨.hbm, 46, rfl⟩
abbrev main_call0_v30 : Ref sig .tc := ⟨.hbm, 47, rfl⟩
abbrev main_call0_v31 : Ref sig .tc := ⟨.hbm, 48, rfl⟩
abbrev main_call0_cst_10 : Ref sig .tc := ⟨.hbm, 49, rfl⟩
abbrev main_call0_v32 : Ref sig .tc := ⟨.hbm, 50, rfl⟩
abbrev main_v3_2 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_cst : Ref sig .tc := ⟨.hbm, 55, rfl⟩
abbrev main_v7 : Ref sig .tc := ⟨.hbm, 56, rfl⟩
abbrev main_v8 : Ref sig .tc := ⟨.hbm, 57, rfl⟩
abbrev main_cst_0 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_c : Ref sig .tc := ⟨.hbm, 62, rfl⟩
abbrev main_call2_v0 : Ref sig .tc := ⟨.hbm, 63, rfl⟩
abbrev main_v12 : Ref sig .tc := ⟨.hbm, 64, rfl⟩
abbrev main_c_1 : Ref sig .tc := ⟨.hbm, 65, rfl⟩
abbrev main_call3_v0 : Ref sig .tc := ⟨.hbm, 66, rfl⟩
abbrev main_v13 : Ref sig .tc := ⟨.hbm, 67, rfl⟩

abbrev nD : Nat := 1
abbrev τ : Topo := Topo.v7x

variable {F : FTy → Type} [FloatOps F]
-- ==== FfnDownLoss.lean ====
abbrev S1x8208x1024 : Shape := ⟨3, ![1, 8208, 1024]⟩
abbrev S1x8208x2816 : Shape := ⟨3, ![1, 8208, 2816]⟩
abbrev S1x2816x1024 : Shape := ⟨3, ![1, 2816, 1024]⟩
abbrev S1x1024 : Shape := ⟨2, ![1, 1024]⟩
abbrev S1x8192x1024 : Shape := ⟨3, ![1, 8192, 1024]⟩
abbrev S8192x1024 : Shape := ⟨2, ![8192, 1024]⟩
abbrev S_ : Shape := ⟨0, ![]⟩
abbrev S8448x1024 : Shape := ⟨2, ![8448, 1024]⟩
abbrev S8208x1024 : Shape := ⟨2, ![8208, 1024]⟩
abbrev S8208x2816 : Shape := ⟨2, ![8208, 2816]⟩
abbrev S8448x2816 : Shape := ⟨2, ![8448, 2816]⟩
abbrev S2816x1024 : Shape := ⟨2, ![2816, 1024]⟩
abbrev S1x128 : Shape := ⟨2, ![1, 128]⟩
abbrev S384x1024 : Shape := ⟨2, ![384, 1024]⟩
abbrev S384x2816 : Shape := ⟨2, ![384, 2816]⟩
abbrev S384 : Shape := ⟨1, ![384]⟩
abbrev S384x1 : Shape := ⟨2, ![384, 1]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 24
  | .vmem => 15
  | .smem => 0
  | _ => 0

abbrev bufTy : (tb : Table) → Fin (tcTables nBuf tb) → BufTy
  | .hbm, ⟨0, _⟩ => ⟨S1x8208x1024, .f32⟩
  | .hbm, ⟨1, _⟩ => ⟨S1x8208x2816, .f32⟩
  | .hbm, ⟨2, _⟩ => ⟨S1x2816x1024, .f32⟩
  | .hbm, ⟨3, _⟩ => ⟨S1x1024, .f32⟩
  | .hbm, ⟨4, _⟩ => ⟨S1x8192x1024, .f32⟩
  | .hbm, ⟨5, _⟩ => ⟨S8192x1024, .f32⟩
  | .hbm, ⟨6, _⟩ => ⟨S_, .i32⟩
  | .hbm, ⟨7, _⟩ => ⟨S_, .f32⟩
  | .hbm, ⟨8, _⟩ => ⟨S8448x1024, .f32⟩
  | .hbm, ⟨9, _⟩ => ⟨S8208x1024, .f32⟩
  | .hbm, ⟨10, _⟩ => ⟨S_, .i32⟩
  | .hbm, ⟨11, _⟩ => ⟨S_, .f32⟩
  | .hbm, ⟨12, _⟩ => ⟨S8448x1024, .f32⟩
  | .hbm, ⟨13, _⟩ => ⟨S8208x2816, .f32⟩
  | .hbm, ⟨14, _⟩ => ⟨S_, .i32⟩
  | .hbm, ⟨15, _⟩ => ⟨S_, .f32⟩
  | .hbm, ⟨16, _⟩ => ⟨S8448x2816, .f32⟩
  | .hbm, ⟨17, _⟩ => ⟨S8448x2816, .bf16⟩
  | .hbm, ⟨18, _⟩ => ⟨S2816x1024, .f32⟩
  | .hbm, ⟨19, _⟩ => ⟨S2816x1024, .bf16⟩
  | .hbm, ⟨20, _⟩ => ⟨S8448x1024, .f32⟩
  | .hbm, ⟨21, _⟩ => ⟨S8448x1024, .bf16⟩
  | .hbm, ⟨22, _⟩ => ⟨S1x1024, .f32⟩
  | .hbm, ⟨23, _⟩ => ⟨S1x128, .f32⟩
  | .local _ .vmem, ⟨0, _⟩ => ⟨S384x1024, .f32⟩
  | .local _ .vmem, ⟨1, _⟩ => ⟨S384x1024, .f32⟩
  | .local _ .vmem, ⟨2, _⟩ => ⟨S384x2816, .bf16⟩
  | .local _ .vmem, ⟨3, _⟩ => ⟨S384x2816, .bf16⟩
  | .local _ .vmem, ⟨4, _⟩ => ⟨S2816x1024, .bf16⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .bf16⟩
  | .local _ .vmem, ⟨11, _⟩ => ⟨S384x1024, .bf16⟩
  | .local _ .vmem, ⟨12, _⟩ => ⟨S1x1024, .f32⟩
  | .local _ .vmem, ⟨13, _⟩ => ⟨S1x128, .f32⟩
  | .local _ .vmem, ⟨14, _⟩ => ⟨S1x1024, .f32⟩
  | _, _ => ⟨S1x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![22], ![false]⟩

def k0_cond2 (i : grid0.Coords) : BitVec 1 :=
  let arg0 : BitVec 32 := BitVec.ofNat 32 (i 0).val
  let c21_i32 : BitVec 32 := 21#32
  let v72 : BitVec 1 := Scalar.cmpi .eq arg0 c21_i32
  let v73 : BitVec 32 := Scalar.extui v72
  let c0_i32_30 : BitVec 32 := 0#32
  let v74 : BitVec 1 := Scalar.cmpi .ne v73 c0_i32_30
  v74

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnDownLossRefIdeal.lean ====
abbrev S1x8208x1024 : Shape := ⟨3, ![1, 8208, 1024]⟩
abbrev S1x8208x2816 : Shape := ⟨3, ![1, 8208, 2816]⟩
abbrev S1x2816x1024 : Shape := ⟨3, ![1, 2816, 1024]⟩
abbrev S1x1024 : Shape := ⟨2, ![1, 1024]⟩
abbrev S1x8192x1024 : Shape := ⟨3, ![1, 8192, 1024]⟩
abbrev S2816x1024 : Shape := ⟨2, ![2816, 1024]⟩
abbrev S1024 : Shape := ⟨1, ![1024]⟩
abbrev S_ : Shape := ⟨0, ![]⟩
abbrev S1x8208 : Shape := ⟨2, ![1, 8208]⟩
abbrev S1x8208x1 : Shape := ⟨3, ![1, 8208, 1]⟩
abbrev S1x1x1024 : Shape := ⟨3, ![1, 1, 1024]⟩
abbrev S1x8192 : Shape := ⟨2, ![1, 8192]⟩
abbrev S8208 : Shape := ⟨1, ![8208]⟩
abbrev S8208x1024 : Shape := ⟨2, ![8208, 1024]⟩
abbrev S8448x1024 : Shape := ⟨2, ![8448, 1024]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S1x8208x1024, .f32⟩
  | .hbm, ⟨1, _⟩ => ⟨S1x8208x2816, .f32⟩
  | .hbm, ⟨2, _⟩ => ⟨S1x2816x1024, .f32⟩
  | .hbm, ⟨3, _⟩ => ⟨S1x1024, .f32⟩
  | .hbm, ⟨4, _⟩ => ⟨S1x8192x1024, .f32⟩
  | .hbm, ⟨5, _⟩ => ⟨S2816x1024, .f32⟩
  | .hbm, ⟨6, _⟩ => ⟨S1x8208x1024, .f32⟩
  | .hbm, ⟨7, _⟩ => ⟨S1024, .f32⟩
  | .hbm, ⟨8, _⟩ => ⟨S1x8208x1024, .f32⟩
  | .hbm, ⟨9, _⟩ => ⟨S_, .f32⟩
  | .hbm, ⟨10, _⟩ => ⟨S1x8208, .f32⟩
  | .hbm, ⟨11, _⟩ => ⟨S1x8208x1, .f32⟩
  | .hbm, ⟨12, _⟩ => ⟨S_, .f32⟩
  | .hbm, ⟨13, _⟩ => ⟨S1x8208x1, .f32⟩
  | .hbm, ⟨14, _⟩ => ⟨S1x8208x1, .f32⟩
  | .hbm, ⟨15, _⟩ => ⟨S_, .f32⟩
  | .hbm, ⟨16, _⟩ => ⟨S1x8208x1, .f32⟩
  | .hbm, ⟨17, _⟩ => ⟨S1x8208x1, .f32⟩
  | .hbm, ⟨18, _⟩ => ⟨S1x8208x1, .f32⟩
  | .hbm, ⟨19, _⟩ => ⟨S1x8208x1, .f32⟩
  | .hbm, ⟨20, _⟩ => ⟨S_, .f32⟩
  | .hbm, ⟨21, _⟩ => ⟨S1x8208x1, .f32⟩
  | .hbm, ⟨22, _⟩ => ⟨S1x8208x1, .f32⟩
  | .hbm, ⟨23, _⟩ => ⟨S1x8208x1024, .f32⟩
  | .hbm, ⟨24, _⟩ => ⟨S1x8208x1024, .f32⟩
  | .hbm, ⟨25, _⟩ => ⟨S1x1x1024, .f32⟩
  | .hbm, ⟨26, _⟩ => ⟨S1x8208x1024, .f32⟩
  | .hbm, ⟨27, _⟩ => ⟨S1x8208x1024, .f32⟩
  | .hbm, ⟨28, _⟩ => ⟨S1x8208x1024, .f32⟩
  | .hbm, ⟨29, _⟩ => ⟨S1x8192x1024, .f32⟩
  | .hbm, ⟨30, _⟩ => ⟨S1x8192x1024, .f32⟩
  | .hbm, ⟨31, _⟩ => ⟨S1x8192x1024, .f32⟩
  | .hbm, ⟨32, _⟩ => ⟨S_, .f32⟩
  | .hbm, ⟨33, _⟩ => ⟨S1x8192x1024, .f32⟩
  | .hbm, ⟨34, _⟩ => ⟨S1x8192x1024, .f32⟩
  | .hbm, ⟨35, _⟩ => ⟨S_, .f32⟩
  | .hbm, ⟨36, _⟩ => ⟨S1x8192, .f32⟩
  | .hbm, ⟨37, _⟩ => ⟨S_, .f32⟩
  | .hbm, ⟨38, _⟩ => ⟨S1x8192, .f32⟩
  | .hbm, ⟨39, _⟩ => ⟨S1x8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1x8192, .f32⟩
  | .hbm, ⟨48, _⟩ => ⟨S_, .f32⟩
  | .hbm, ⟨49, _⟩ => ⟨S1x8192, .f32⟩
  | .hbm, ⟨50, _⟩ => ⟨S1x8192, .f32⟩
  | .hbm, ⟨51, _⟩ => ⟨S1x8192x1024, .f32⟩
  | .hbm, ⟨52, _⟩ => ⟨S1x8192x1024, .f32⟩
  | .hbm, ⟨53, _⟩ => ⟨S_, .f32⟩
  | .hbm, ⟨54, _⟩ => ⟨S1x8208x1024, .f32⟩
  | .hbm, ⟨55, _⟩ => ⟨S1x8208x1024, .f32⟩
  | .hbm, ⟨56, _⟩ => ⟨S_, .f32⟩
  | .hbm, ⟨57, _⟩ => ⟨S1x1024, .f32⟩
  | .hbm, ⟨58, _⟩ => ⟨S1x1x1024, .f32⟩
  | .hbm, ⟨59, _⟩ => ⟨S1x8208x1024, .f32⟩
  | .hbm, ⟨60, _⟩ => ⟨S1x8208x1024, .f32⟩
  | .hbm, ⟨61, _⟩ => ⟨S_, .f32⟩
  | .hbm, ⟨62, _⟩ => ⟨S1024, .f32⟩
  | .hbm, ⟨63, _⟩ => ⟨S1x8208x1024, .f32⟩
  | .hbm, ⟨64, _⟩ => ⟨S_, .f32⟩
  | .hbm, ⟨65, _⟩ => ⟨S1x8208, .f32⟩
  | .hbm, ⟨66, _⟩ => ⟨S1x8208x1, .f32⟩
  | .hbm, ⟨67, _⟩ => ⟨S1x8208x1024, .f32⟩
  | .hbm, ⟨68, _⟩ => ⟨S1x8208x1024, .f32⟩
  | .hbm, ⟨69, _⟩ => ⟨S1x8208x1, .f32⟩
  | .hbm, ⟨70, _⟩ => ⟨S_, .f32⟩
  | .hbm, ⟨71, _⟩ => ⟨S1x8208x1, .f32⟩
  | .hbm, ⟨72, _⟩ => ⟨S1x8208x1, .f32⟩
  | .hbm, ⟨73, _⟩ => ⟨S_, .f32⟩
  | .hbm, ⟨74, _⟩ => ⟨S8208, .f32⟩
  | .hbm, ⟨75, _⟩ => ⟨S1x8208, .f32⟩
  | .hbm, ⟨76, _⟩ => ⟨S1x8208x1024, .f32⟩
  | .hbm, ⟨77, _⟩ => ⟨S1x8208x1024, .f32⟩
  | .hbm, ⟨78, _⟩ => ⟨S1x8208x1024, .f32⟩
  | .hbm, ⟨79, _⟩ => ⟨S1x8208x1024, .f32⟩
  | .hbm, ⟨80, _⟩ => ⟨S1x8208x1024, .f32⟩
  | .hbm, ⟨81, _⟩ => ⟨S1x1024, .f32⟩
  | .hbm, ⟨82, _⟩ => ⟨S8208x1024, .f32⟩
  | .hbm, ⟨83, _⟩ => ⟨S_, .i32⟩
  | .hbm, ⟨84, _⟩ => ⟨S_, .f32⟩
  | .hbm, ⟨85, _⟩ => ⟨S8448x1024, .f32⟩
  | .hbm, ⟨86, _⟩ => ⟨S8208x1024, .f32⟩
  | .hbm, ⟨87, _⟩ => ⟨S_, .i32⟩
  | .hbm, ⟨88, _⟩ => ⟨S_, .f32⟩
  | .hbm, ⟨89, _⟩ => ⟨S8448x1024, .f32⟩
  | .hbm, ⟨90, _⟩ => ⟨S8448x1024, .bf16⟩
  | .hbm, ⟨91, _⟩ => ⟨S1x128, .f32⟩
  | _, _ => ⟨S1x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_cst_14 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_cst_16 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c : Ref sig .tc := ⟨.hbm, 83, rfl⟩
abbrev main_call0_v0 : Ref sig .tc := ⟨.hbm, 84, rfl⟩
abbrev main_v60 : Ref sig .tc := ⟨.hbm, 85, rfl⟩
abbrev main_v61 : Ref sig .tc := ⟨.hbm, 86, rfl⟩
abbrev main_c_17 : Ref sig .tc := ⟨.hbm, 87, rfl⟩
abbrev main_call1_v0 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]
-- ==== MidBwd.lean ====
abbrev S1x8208x1024 : Shape := ⟨3, ![1, 8208, 1024]⟩
abbrev S1x1024 : Shape := ⟨2, ![1, 1024]⟩
abbrev S1x1024x5632 : Shape := ⟨3, ![1, 1024, 5632]⟩
abbrev S1x8208x5632 : Shape := ⟨3, ![1, 8208, 5632]⟩
abbrev S_ : Shape := ⟨0, ![]⟩
abbrev S1x8208 : Shape := ⟨2, ![1, 8208]⟩
abbrev S1x8208x1 : Shape := ⟨3, ![1, 8208, 1]⟩
abbrev S1024 : Shape := ⟨1, ![1024]⟩
abbrev S1x1x1024 : Shape := ⟨3, ![1, 1, 1024]⟩
abbrev S8208x5632 : Shape := ⟨2, ![8208, 5632]⟩
abbrev S8448x5632 : Shape := ⟨2, ![8448, 5632]⟩
abbrev S8208x1024 : Shape := ⟨2, ![8208, 1024]⟩
abbrev S8448x1024 : Shape := ⟨2, ![8448, 1024]⟩
abbrev S8448x2816 : Shape := ⟨2, ![8448, 2816]⟩
abbrev S1024x5632 : Shape := ⟨2, ![1024, 5632]⟩
abbrev S256x1024 : Shape := ⟨2, ![256, 1024]⟩
abbrev S256x2816 : Shape := ⟨2, ![256, 2816]⟩
abbrev S1024x2816 : Shape := ⟨2, ![1024, 2816]⟩
abbrev S256 : Shape := ⟨1, ![256]⟩
abbrev S256x1 : Shape := ⟨2, ![256, 1]⟩

abbrev nBuf : Space → Nat
  | .hbm => 50
  | .vmem => 19
  | .smem => 0
  | _ => 0

abbrev bufTy : (tb : Table) → Fin (tcTables nBuf tb) → BufTy
  | .hbm, ⟨0, _⟩ => ⟨S1x8208x1024, .f32⟩
  | .hbm, ⟨1, _⟩ => ⟨S1x8208x1024, .f32⟩
  | .hbm, ⟨2, _⟩ => ⟨S1x1024, .f32⟩
  | .hbm, ⟨3, _⟩ => ⟨S1x1024, .f32⟩
  | .hbm, ⟨4, _⟩ => ⟨S1x1024x5632, .f32⟩
  | .hbm, ⟨5, _⟩ => ⟨S1x8208x1024, .f32⟩
  | .hbm, ⟨6, _⟩ => ⟨S1x8208x5632, .f32⟩
  | .hbm, ⟨7, _⟩ => ⟨S1x8208x1024, .f32⟩
  | .hbm, ⟨8, _⟩ => ⟨S_, .f32⟩
  | .hbm, ⟨9, _⟩ => ⟨S1x8208, .f32⟩
  | .hbm, ⟨10, _⟩ => ⟨S1x8208x1, .f32⟩
  | .hbm, ⟨11, _⟩ => ⟨S_, .f32⟩
  | .hbm, ⟨12, _⟩ => ⟨S1x8208x1, .f32⟩
  | .hbm, ⟨13, _⟩ => ⟨S1x8208x1, .f32⟩
  | .hbm, ⟨14, _⟩ => ⟨S_, .f32⟩
  | .hbm, ⟨15, _⟩ => ⟨S1x8208x1, .f32⟩
  | .hbm, ⟨16, _⟩ => ⟨S1x8208x1, .f32⟩
  | .hbm, ⟨17, _⟩ => ⟨S1x8208x1, .f32⟩
  | .hbm, ⟨18, _⟩ => ⟨S1x8208x1024, .f32⟩
  | .hbm, ⟨19, _⟩ => ⟨S1x8208x1024, .f32⟩
  | .hbm, ⟨20, _⟩ => ⟨S1024, .f32⟩
  | .hbm, ⟨21, _⟩ => ⟨S1x1x1024, .f32⟩
  | .hbm, ⟨22, _⟩ => ⟨S1x8208x1024, .f32⟩
  | .hbm, ⟨23, _⟩ => ⟨S1x8208x1024, .f32⟩
  | .hbm, ⟨24, _⟩ => ⟨S1x8208x1024, .f32⟩
  | .hbm, ⟨25, _⟩ => ⟨S8208x5632, .f32⟩
  | .hbm, ⟨26, _⟩ => ⟨S_, .i32⟩
  | .hbm, ⟨27, _⟩ => ⟨S_, .f32⟩
  | .hbm, ⟨28, _⟩ => ⟨S8448x5632, .f32⟩
  | .hbm, ⟨29, _⟩ => ⟨S8448x5632, .bf16⟩
  | .hbm, ⟨30, _⟩ => ⟨S8208x1024, .f32⟩
  | .hbm, ⟨31, _⟩ => ⟨S_, .i32⟩
  | .hbm, ⟨32, _⟩ => ⟨S_, .f32⟩
  | .hbm, ⟨33, _⟩ => ⟨S8448x1024, .f32⟩
  | .hbm, ⟨34, _⟩ => ⟨S8448x2816, .bf16⟩
  | .hbm, ⟨35, _⟩ => ⟨S8448x2816, .bf16⟩
  | .hbm, ⟨36, _⟩ => ⟨S1024x5632, .f32⟩
  | .hbm, ⟨37, _⟩ => ⟨S1024x5632, .bf16⟩
  | .hbm, ⟨38, _⟩ => ⟨S8208x1024, .f32⟩
  | .hbm, ⟨39, _⟩ => ⟨S_, .i32⟩
  | .hbm, ⟨40, _⟩ => ⟨S_, .f32⟩
  | .hbm, ⟨41, _⟩ => ⟨S8448x1024, .f32⟩
  | .hbm, ⟨42, _⟩ => ⟨S8208x1024, .f32⟩
  | .hbm, ⟨43, _⟩ => ⟨S_, .i32⟩
  | .hbm, ⟨44, _⟩ => ⟨S_, .f32⟩
  | .hbm, ⟨45, _⟩ => ⟨S8448x1024, .f32⟩
  | .hbm, ⟨46, _⟩ => ⟨S8448x1024, .f32⟩
  | .hbm, ⟨47, _⟩ => ⟨S8448x1024, .bf16⟩
  | .hbm, ⟨48, _⟩ => ⟨S1x1024, .f32⟩
  | .hbm, ⟨49, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S1024x5632, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | _, _ => ⟨S1x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_call1_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_call2_v0 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_call3_v0 : Ref sig .tc := ⟨.hbm, 44, rfl⟩
abbrev main_v27 : Ref sig .tc := ⟨.hbm, 45, rfl⟩
abbrev main_v28_0 : Ref sig .tc := ⟨.hbm, 46, rfl⟩
abbrev main_v28_1 : Ref sig .tc := ⟨.hbm, 47, rfl⟩
abbrev main_v28_2 : Ref sig .tc := ⟨.hbm, 48, rfl⟩
abbrev main_v28_3 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MidBwdRefIdeal.lean ====
abbrev S1x8208x1024 : Shape := ⟨3, ![1, 8208, 1024]⟩
abbrev S1x1024 : Shape := ⟨2, ![1, 1024]⟩
abbrev S1x1024x5632 : Shape := ⟨3, ![1, 1024, 5632]⟩
abbrev S1x8208x5632 : Shape := ⟨3, ![1, 8208, 5632]⟩
abbrev S1024 : Shape := ⟨1, ![1024]⟩
abbrev S_ : Shape := ⟨0, ![]⟩
abbrev S1x8208 : Shape := ⟨2, ![1, 8208]⟩
abbrev S1x8208x1 : Shape := ⟨3, ![1, 8208, 1]⟩
abbrev S1x1x1024 : Shape := ⟨3, ![1, 1, 1024]⟩
abbrev S1024x5632 : Shape := ⟨2, ![1024, 5632]⟩
abbrev S8208 : Shape := ⟨1, ![8208]⟩
abbrev S8208x1024 : Shape := ⟨2, ![8208, 1024]⟩
abbrev S8448x1024 : Shape := ⟨2, ![8448, 1024]⟩

abbrev nBuf : Space → Nat
  | .hbm => 118
  | .vmem => 0
  | .smem => 0
  | _ => 0

abbrev bufTy : (tb : Table) → Fin (tcTables nBuf tb) → BufTy
  | .hbm, ⟨0, _⟩ => ⟨S1x8208x1024, .f32⟩
  | .hbm, ⟨1, _⟩ => ⟨S1x8208x1024, .f32⟩
  | .hbm, ⟨2, _⟩ => ⟨S1x1024, .f32⟩
  | .hbm, ⟨3, _⟩ => ⟨S1x1024, .f32⟩
  | .hbm, ⟨4, _⟩ => ⟨S1x1024x5632, .f32⟩
  | .hbm, ⟨5, _⟩ => ⟨S1x8208x1024, .f32⟩
  | .hbm, ⟨6, _⟩ => ⟨S1x8208x5632, .f32⟩
  | .hbm, ⟨7, _⟩ => ⟨S1024, .f32⟩
  | .hbm, ⟨8, _⟩ => ⟨S1x8208x1024, .f32⟩
  | .hbm, ⟨9, _⟩ => ⟨S_, .f32⟩
  | .hbm, ⟨10, _⟩ => ⟨S1x8208, .f32⟩
  | .hbm, ⟨11, _⟩ => ⟨S1x8208x1, .f32⟩
  | .hbm, ⟨12, _⟩ => ⟨S_, .f32⟩
  | .hbm, ⟨13, _⟩ => ⟨S1x8208x1, .f32⟩
  | .hbm, ⟨14, _⟩ => ⟨S1x8208x1, .f32⟩
  | .hbm, ⟨15, _⟩ => ⟨S_, .f32⟩
  | .hbm, ⟨16, _⟩ => ⟨S1x8208x1, .f32⟩
  | .hbm, ⟨17, _⟩ => ⟨S1x8208x1, .f32⟩
  | .hbm, ⟨18, _⟩ => ⟨S1x8208x1, .f32⟩
  | .hbm, ⟨19, _⟩ => ⟨S1x8208x1, .f32⟩
  | .hbm, ⟨20, _⟩ => ⟨S_, .f32⟩
  | .hbm, ⟨21, _⟩ => ⟨S1x8208x1, .f32⟩
  | .hbm, ⟨22, _⟩ => ⟨S1x8208x1, .f32⟩
  | .hbm, ⟨23, _⟩ => ⟨S1x8208x1024, .f32⟩
  | .hbm, ⟨24, _⟩ => ⟨S1x8208x1024, .f32⟩
  | .hbm, ⟨25, _⟩ => ⟨S1x1x1024, .f32⟩
  | .hbm, ⟨26, _⟩ => ⟨S1x8208x1024, .f32⟩
  | .hbm, ⟨27, _⟩ => ⟨S1x8208x1024, .f32⟩
  | .hbm, ⟨28, _⟩ => ⟨S1x8208x1024, .f32⟩
  | .hbm, ⟨29, _⟩ => ⟨S1024, .f32⟩
  | .hbm, ⟨30, _⟩ => ⟨S1x8208x1024, .f32⟩
  | .hbm, ⟨31, _⟩ => ⟨S_, .f32⟩
  | .hbm, ⟨32, _⟩ => ⟨S1x8208, .f32⟩
  | .hbm, ⟨33, _⟩ => ⟨S1x8208x1, .f32⟩
  | .hbm, ⟨34, _⟩ => ⟨S_, .f32⟩
  | .hbm, ⟨35, _⟩ => ⟨S1x8208x1, .f32⟩
  | .hbm, ⟨36, _⟩ => ⟨S1x8208x1, .f32⟩
  | .hbm, ⟨37, _⟩ => ⟨S_, .f32⟩
  | .hbm, ⟨38, _⟩ => ⟨S1x8208x1, .f32⟩
  | .hbm, ⟨39, _⟩ => ⟨S1x8208x1, .f32⟩
  | .hbm, ⟨40, _⟩ => ⟨S1x8208x1, .f32⟩
  | .hbm, ⟨41, _⟩ => ⟨S1x8208x1, .f32⟩
  | .hbm, ⟨42, _⟩ => ⟨S_, .f32⟩
  | .hbm, ⟨43, _⟩ => ⟨S1x8208x1, .f32⟩
  | .hbm, ⟨44, _⟩ => ⟨S1x8208x1, .f32⟩
  | .hbm, ⟨45, _⟩ => ⟨S1x8208x1024, .f32⟩
  | .hbm, ⟨46, _⟩ => ⟨S1x8208x1024, .f32⟩
  | .hbm, ⟨47, _⟩ => ⟨S1x1x1024, .f32⟩
  | .hbm, ⟨48, _⟩ => ⟨S1x8208x1024, .f32⟩
  | .hbm, ⟨49, _⟩ => ⟨S1x8208x1024, .f32⟩
  | .hbm, ⟨50, _⟩ => ⟨S1024x5632, .f32⟩
  | .hbm, ⟨51, _⟩ => ⟨S1x8208x5632, .f32⟩
  | .hbm, ⟨52, _⟩ => ⟨S1x8208x1024, .f32⟩
  | .hbm, ⟨53, _⟩ => ⟨S1x8208x1024, .f32⟩
  | .hbm, ⟨54, _⟩ => ⟨S_, .f32⟩
  | .hbm, ⟨55, _⟩ => ⟨S1x1024, .f32⟩
  | .hbm, ⟨56, _⟩ => ⟨S1x1x1024, .f32⟩
  | .hbm, ⟨57, _⟩ => ⟨S1x8208x1024, .f32⟩
  | .hbm, ⟨58, _⟩ => ⟨S1x8208x1024, .f32⟩
  | .hbm, ⟨59, _⟩ => ⟨S_, .f32⟩
  | .hbm, ⟨60, _⟩ => ⟨S1024, .f32⟩
  | .hbm, ⟨61, _⟩ => ⟨S1x8208x1024, .f32⟩
  | .hbm, ⟨62, _⟩ => ⟨S_, .f32⟩
  | .hbm, ⟨63, _⟩ => ⟨S1x8208, .f32⟩
  | .hbm, ⟨64, _⟩ => ⟨S1x8208x1, .f32⟩
  | .hbm, ⟨65, _⟩ => ⟨S1x8208x1024, .f32⟩
  | .hbm, ⟨66, _⟩ => ⟨S1x8208x1024, .f32⟩
  | .hbm, ⟨67, _⟩ => ⟨S1x8208x1024, .f32⟩
  | .hbm, ⟨68, _⟩ => ⟨S1x8208x1, .f32⟩
  | .hbm, ⟨69, _⟩ => ⟨S_, .f32⟩
  | .hbm, ⟨70, _⟩ => ⟨S1x8208x1, .f32⟩
  | .hbm, ⟨71, _⟩ => ⟨S1x8208x1, .f32⟩
  | .hbm, ⟨72, _⟩ => ⟨S_, .f32⟩
  | .hbm, ⟨73, _⟩ => ⟨S8208, .f32⟩
  | .hbm, ⟨74, _⟩ => ⟨S1x8208, .f32⟩
  | .hbm, ⟨75, _⟩ => ⟨S1x8208x1024, .f32⟩
  | .hbm, ⟨76, _⟩ => ⟨S1x8208x1024, .f32⟩
  | .hbm, ⟨77, _⟩ => ⟨S1x8208x1024, .f32⟩
  | .hbm, ⟨78, _⟩ => ⟨S1x8208x1024, .f32⟩
  | .hbm, ⟨79, _⟩ => ⟨S1x8208x1024, .f32⟩
  | .hbm, ⟨80, _⟩ => ⟨S1x1024, .f32⟩
  | .hbm, ⟨81, _⟩ => ⟨S1x8208x1024, .f32⟩
  | .hbm, ⟨82, _⟩ => ⟨S1x8208x1024, .f32⟩
  | .hbm, ⟨83, _⟩ => ⟨S_, .f32⟩
  | .hbm, ⟨84, _⟩ => ⟨S1x1024, .f32⟩
  | .hbm, ⟨85, _⟩ => ⟨S1x1x1024, .f32⟩
  | .hbm, ⟨86, _⟩ => ⟨S1x8208x1024, .f32⟩
  | .hbm, ⟨87, _⟩ => ⟨S1x8208x1024, .f32⟩
  | .hbm, ⟨88, _⟩ => ⟨S_, .f32⟩
  | .hbm, ⟨89, _⟩ => ⟨S1024, .f32⟩
  | .hbm, ⟨90, _⟩ => ⟨S1x8208x1024, .f32⟩
  | .hbm, ⟨91, _⟩ => ⟨S_, .f32⟩
  | .hbm, ⟨92, _⟩ => ⟨S1x8208, .f32⟩
  | .hbm, ⟨93, _⟩ => ⟨S1x8208x1, .f32⟩
  | .hbm, ⟨94, _⟩ => ⟨S1x8208x1024, .f32⟩
  | .hbm, ⟨95, _⟩ => ⟨S1x8208x1024, .f32⟩
  | .hbm, ⟨96, _⟩ => ⟨S1x8208x1, .f32⟩
  | .hbm, ⟨97, _⟩ => ⟨S_, .f32⟩
  | .hbm, ⟨98, _⟩ => ⟨S1x8208x1, .f32⟩
  | .hbm, ⟨99, _⟩ => ⟨S1x8208x1, .f32⟩
  | .hbm, ⟨100, _⟩ => ⟨S_, .f32⟩
  | .hbm, ⟨101, _⟩ => ⟨S8208, .f32⟩
  | .hbm, ⟨102, _⟩ => ⟨S1x8208, .f32⟩
  | .hbm, ⟨103, _⟩ => ⟨S1x8208x1024, .f32⟩
  | .hbm, ⟨104, _⟩ => ⟨S1x8208x1024, .f32⟩
  | .hbm, ⟨105, _⟩ => ⟨S1x8208x1024, .f32⟩
  | .hbm, ⟨106, _⟩ => ⟨S1x8208x1024, .f32⟩
  | .hbm, ⟨107, _⟩ => ⟨S1x8208x1024, .f32⟩
  | .hbm, ⟨108, _⟩ => ⟨S1x1024, .f32⟩
  | .hbm, ⟨109, _⟩ => ⟨S8208x1024, .f32⟩
  | .hbm, ⟨110, _⟩ => ⟨S_, .i32⟩
  | .hbm, ⟨111, _⟩ => ⟨S_, .f32⟩
  | .hbm, ⟨112, _⟩ => ⟨S8448x1024, .f32⟩
  | .hbm, ⟨113, _⟩ => ⟨S8208x1024, .f32⟩
  | .hbm, ⟨114, _⟩ => ⟨S_, .i32⟩
  | .hbm, ⟨115, _⟩ => ⟨S_, .f32⟩
  | .hbm, ⟨116, _⟩ => ⟨S8448x1024, .f32⟩
  | .hbm, ⟨117, _⟩ => ⟨S8448x1024, .bf16⟩
  | _, _ => ⟨S1x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_15 : Ref sig .tc := ⟨.hbm, 97, rfl⟩
abbrev main_v74 : Ref sig .tc := ⟨.hbm, 98, rfl⟩
abbrev main_v75 : Ref sig .tc := ⟨.hbm, 99, rfl⟩
abbrev main_cst_16 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_c : Ref sig .tc := ⟨.hbm, 110, rfl⟩
abbrev main_call0_v0 : Ref sig .tc := ⟨.hbm, 111, rfl⟩
abbrev main_v85 : Ref sig .tc := ⟨.hbm, 112, rfl⟩
abbrev main_v86 : Ref sig .tc := ⟨.hbm, 113, rfl⟩
abbrev main_c_17 : Ref sig .tc := ⟨.hbm, 114, rfl⟩
abbrev main_call1_v0 : Ref sig .tc := ⟨.hbm, 115, rfl⟩
abbrev main_v87 : Ref sig .tc := ⟨.hbm, 116, rfl⟩
abbrev main_v88 : Ref sig .tc := ⟨.hbm, 117, rfl⟩

abbrev nD : Nat := 1
abbrev τ : Topo := Topo.v7x

variable {F : FTy → Type} [FloatOps F]
-- ==== AttnOutBwd.lean ====
abbrev S1x8208x1024 : Shape := ⟨3, ![1, 8208, 1024]⟩
abbrev S1x1024 : Shape := ⟨2, ![1, 1024]⟩
abbrev S1x2048x1024 : Shape := ⟨3, ![1, 2048, 1024]⟩
abbrev S8208x1024 : Shape := ⟨2, ![8208, 1024]⟩
abbrev S_ : Shape := ⟨0, ![]⟩
abbrev S8448x1024 : Shape := ⟨2, ![8448, 1024]⟩
abbrev S1x1024x1024 : Shape := ⟨3, ![1, 1024, 1024]⟩
abbrev S1024x1024 : Shape := ⟨2, ![1024, 1024]⟩
abbrev S8x8448x128 : Shape := ⟨3, ![8, 8448, 128]⟩
abbrev S8x11x1x768 : Shape := ⟨4, ![8, 11, 1, 768]⟩
abbrev S768x1024 : Shape := ⟨2, ![768, 1024]⟩
abbrev S8x768x128 : Shape := ⟨3, ![8, 768, 128]⟩
abbrev S8x1x1x768 : Shape := ⟨4, ![8, 1, 1, 768]⟩
abbrev S768 : Shape := ⟨1, ![768]⟩
abbrev S768x1 : Shape := ⟨2, ![768, 1]⟩
abbrev S1024 : Shape := ⟨1, ![1024]⟩
abbrev S768x128 : Shape := ⟨2, ![768, 128]⟩
abbrev S1x768x128 : Shape := ⟨3, ![1, 768, 128]⟩
abbrev S128x768 : Shape := ⟨2, ![128, 768]⟩
abbrev S1x768 : Shape := ⟨2, ![1, 768]⟩
abbrev S1x1x1x768 : Shape := ⟨4, ![1, 1, 1, 768]⟩

abbrev nBuf : Space → Nat
  | .hbm => 19
  | .vmem => 11
  | .smem => 0
  | _ => 0

abbrev bufTy : (tb : Table) → Fin (tcTables nBuf tb) → BufTy
  | .hbm, ⟨0, _⟩ => ⟨S1x8208x1024, .f32⟩
  | .hbm, ⟨1, _⟩ => ⟨S1x1024, .f32⟩
  | .hbm, ⟨2, _⟩ => ⟨S1x2048x1024, .f32⟩
  | .hbm, ⟨3, _⟩ => ⟨S1x8208x1024, .f32⟩
  | .hbm, ⟨4, _⟩ => ⟨S8208x1024, .f32⟩
  | .hbm, ⟨5, _⟩ => ⟨S_, .i32⟩
  | .hbm, ⟨6, _⟩ => ⟨S_, .f32⟩
  | .hbm, ⟨7, _⟩ => ⟨S8448x1024, .f32⟩
  | .hbm, ⟨8, _⟩ => ⟨S8208x1024, .f32⟩
  | .hbm, ⟨9, _⟩ => ⟨S_, .i32⟩
  | .hbm, ⟨10, _⟩ => ⟨S_, .f32⟩
  | .hbm, ⟨11, _⟩ => ⟨S8448x1024, .f32⟩
  | .hbm, ⟨12, _⟩ => ⟨S8448x1024, .bf16⟩
  | .hbm, ⟨13, _⟩ => ⟨S1x1024x1024, .f32⟩
  | .hbm, ⟨14, _⟩ => ⟨S1024x1024, .f32⟩
  | .hbm, ⟨15, _⟩ => ⟨S1024x1024, .bf16⟩
  | .hbm, ⟨16, _⟩ => ⟨S8x8448x128, .bf16⟩
  | .hbm, ⟨17, _⟩ => ⟨S8x11x1x768, .f32⟩
  | .hbm, ⟨18, _⟩ => ⟨S1x1024, .f32⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S768x1024, .bf16⟩
  | .local _ .vmem, ⟨4, _⟩ => ⟨S768x1024, .bf16⟩
  | .local _ .vmem, ⟨5, _⟩ => ⟨S1024x1024, .bf16⟩
  | .local _ .vmem, ⟨6, _⟩ => ⟨S8x768x128, .bf16⟩
  | .local _ .vmem, ⟨7, _⟩ => ⟨S8x768x128, .bf16⟩
  | .local _ .vmem, ⟨8, _⟩ => ⟨S8x1x1x768, .f32⟩
  | .local _ .vmem, ⟨9, _⟩ => ⟨S8x1x1x768, .f32⟩
  | .local _ .vmem, ⟨10, _⟩ => ⟨S1x1024, .f32⟩
  | _, _ => ⟨S1x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x768x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AttnOutBwdRefIdeal.lean ====
abbrev S1x8208x1024 : Shape := ⟨3, ![1, 8208, 1024]⟩
abbrev S1x1024 : Shape := ⟨2, ![1, 1024]⟩
abbrev S1x2048x1024 : Shape := ⟨3, ![1, 2048, 1024]⟩
abbrev S1024 : Shape := ⟨1, ![1024]⟩
abbrev S_ : Shape := ⟨0, ![]⟩
abbrev S1x8208 : Shape := ⟨2, ![1, 8208]⟩
abbrev S1x8208x1 : Shape := ⟨3, ![1, 8208, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S8208 : Shape := ⟨1, ![8208]⟩
abbrev S8208x1024 : Shape := ⟨2, ![8208, 1024]⟩
abbrev S8208x8x128 : Shape := ⟨3, ![8208, 8, 128]⟩
abbrev S8x8208x128 : Shape := ⟨3, ![8, 8208, 128]⟩
abbrev S8x8208 : Shape := ⟨2, ![8, 8208]⟩
abbrev S8x8448x128 : Shape := ⟨3, ![8, 8448, 128]⟩
abbrev S8x8448 : Shape := ⟨2, ![8, 8448]⟩
abbrev S8x11x1x768 : Shape := ⟨4, ![8, 11, 1, 768]⟩

abbrev nBuf : Space → Nat
  | .hbm => 76
  | .vmem => 0
  | .smem => 0
  | _ => 0

abbrev bufTy : (tb : Table) → Fin (tcTables nBuf tb) → BufTy
  | .hbm, ⟨0, _⟩ => ⟨S1x8208x1024, .f32⟩
  | .hbm, ⟨1, _⟩ => ⟨S1x1024, .f32⟩
  | .hbm, ⟨2, _⟩ => ⟨S1x2048x1024, .f32⟩
  | .hbm, ⟨3, _⟩ => ⟨S1x8208x1024, .f32⟩
  | .hbm, ⟨4, _⟩ => ⟨S1024, .f32⟩
  | .hbm, ⟨5, _⟩ => ⟨S1x8208x1024, .f32⟩
  | .hbm, ⟨6, _⟩ => ⟨S_, .f32⟩
  | .hbm, ⟨7, _⟩ => ⟨S1x8208, .f32⟩
  | .hbm, ⟨8, _⟩ => ⟨S1x8208x1, .f32⟩
  | .hbm, ⟨9, _⟩ => ⟨S_, .f32⟩
  | .hbm, ⟨10, _⟩ => ⟨S1x8208x1, .f32⟩
  | .hbm, ⟨11, _⟩ => ⟨S1x8208x1, .f32⟩
  | .hbm, ⟨12, _⟩ => ⟨S_, .f32⟩
  | .hbm, ⟨13, _⟩ => ⟨S1x8208x1, .f32⟩
  | .hbm, ⟨14, _⟩ => ⟨S1x8208x1, .f32⟩
  | .hbm, ⟨15, _⟩ => ⟨S1x8208x1, .f32⟩
  | .hbm, ⟨16, _⟩ => ⟨S1x8208x1, .f32⟩
  | .hbm, ⟨17, _⟩ => ⟨S_, .f32⟩
  | .hbm, ⟨18, _⟩ => ⟨S1x8208x1, .f32⟩
  | .hbm, ⟨19, _⟩ => ⟨S1x8208x1, .f32⟩
  | .hbm, ⟨20, _⟩ => ⟨S1x8208x1024, .f32⟩
  | .hbm, ⟨21, _⟩ => ⟨S1x8208x1024, .f32⟩
  | .hbm, ⟨22, _⟩ => ⟨S1x1x1024, .f32⟩
  | .hbm, ⟨23, _⟩ => ⟨S1x8208x1024, .f32⟩
  | .hbm, ⟨24, _⟩ => ⟨S1x8208x1024, .f32⟩
  | .hbm, ⟨25, _⟩ => ⟨S1x1024x1024, .f32⟩
  | .hbm, ⟨26, _⟩ => ⟨S1024x1024, .f32⟩
  | .hbm, ⟨27, _⟩ => ⟨S1x8208x1024, .f32⟩
  | .hbm, ⟨28, _⟩ => ⟨S1x8208x1024, .f32⟩
  | .hbm, ⟨29, _⟩ => ⟨S1x8208x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x8208x1024, .f32⟩
  | .hbm, ⟨34, _⟩ => ⟨S1x8208x1024, .f32⟩
  | .hbm, ⟨35, _⟩ => ⟨S_, .f32⟩
  | .hbm, ⟨36, _⟩ => ⟨S1024, .f32⟩
  | .hbm, ⟨37, _⟩ => ⟨S1x8208x1024, .f32⟩
  | .hbm, ⟨38, _⟩ => ⟨S_, .f32⟩
  | .hbm, ⟨39, _⟩ => ⟨S1x8208, .f32⟩
  | .hbm, ⟨40, _⟩ => ⟨S1x8208x1, .f32⟩
  | .hbm, ⟨41, _⟩ => ⟨S1x8208x1024, .f32⟩
  | .hbm, ⟨42, _⟩ => ⟨S1x8208x1024, .f32⟩
  | .hbm, ⟨43, _⟩ => ⟨S1x8208x1, .f32⟩
  | .hbm, ⟨44, _⟩ => ⟨S_, .f32⟩
  | .hbm, ⟨45, _⟩ => ⟨S1x8208x1, .f32⟩
  | .hbm, ⟨46, _⟩ => ⟨S1x8208x1, .f32⟩
  | .hbm, ⟨47, _⟩ => ⟨S_, .f32⟩
  | .hbm, ⟨48, _⟩ => ⟨S8208, .f32⟩
  | .hbm, ⟨49, _⟩ => ⟨S1x8208, .f32⟩
  | .hbm, ⟨50, _⟩ => ⟨S1x8208x1024, .f32⟩
  | .hbm, ⟨51, _⟩ => ⟨S1x8208x1024, .f32⟩
  | .hbm, ⟨52, _⟩ => ⟨S1x8208x1024, .f32⟩
  | .hbm, ⟨53, _⟩ => ⟨S1x8208x1024, .f32⟩
  | .hbm, ⟨54, _⟩ => ⟨S1x8208x1024, .f32⟩
  | .hbm, ⟨55, _⟩ => ⟨S1x1024, .f32⟩
  | .hbm, ⟨56, _⟩ => ⟨S8208x1024, .f32⟩
  | .hbm, ⟨57, _⟩ => ⟨S8208x8x128, .f32⟩
  | .hbm, ⟨58, _⟩ => ⟨S8x8208x128, .f32⟩
  | .hbm, ⟨59, _⟩ => ⟨S8208x1024, .f32⟩
  | .hbm, ⟨60, _⟩ => ⟨S8208x8x128, .f32⟩
  | .hbm, ⟨61, _⟩ => ⟨S8x8208x128, .f32⟩
  | .hbm, ⟨62, _⟩ => ⟨S8x8208x128, .f32⟩
  | .hbm, ⟨63, _⟩ => ⟨S_, .f32⟩
  | .hbm, ⟨64, _⟩ => ⟨S8x8208, .f32⟩
  | .hbm, ⟨65, _⟩ => ⟨S8208x1024, .f32⟩
  | .hbm, ⟨66, _⟩ => ⟨S8208x8x128, .f32⟩
  | .hbm, ⟨67, _⟩ => ⟨S8x8208x128, .f32⟩
  | .hbm, ⟨68, _⟩ => ⟨S_, .i32⟩
  | .hbm, ⟨69, _⟩ => ⟨S_, .f32⟩
  | .hbm, ⟨70, _⟩ => ⟨S8x8448x128, .f32⟩
  | .hbm, ⟨71, _⟩ => ⟨S8x8448x128, .bf16⟩
  | .hbm, ⟨72, _⟩ => ⟨S_, .i32⟩
  | .hbm, ⟨73, _⟩ => ⟨S_, .f32⟩
  | .hbm, ⟨74, _⟩ => ⟨S8x8448, .f32⟩
  | .hbm, ⟨75, _⟩ => ⟨S8x11x1x768, .f32⟩
  | _, _ => ⟨S1x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_8 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c : Ref sig .tc := ⟨.hbm, 68, rfl⟩
abbrev main_call0_v0 : Ref sig .tc := ⟨.hbm, 69, rfl⟩
abbrev main_v54 : Ref sig .tc := ⟨.hbm, 70, rfl⟩
abbrev main_v55 : Ref sig .tc := ⟨.hbm, 71, rfl⟩
abbrev main_c_9 : Ref sig .tc := ⟨.hbm, 72, rfl⟩
abbrev main_call1_v0 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== QBranchBwd.lean ====
abbrev S1x8208x384 : Shape := ⟨3, ![1, 8208, 384]⟩
abbrev S1x384 : Shape := ⟨2, ![1, 384]⟩
abbrev S1x384x8x192 : Shape := ⟨4, ![1, 384, 8, 192]⟩
abbrev S8208x32 : Shape := ⟨2, ![8208, 32]⟩
abbrev S1x8208x8x192 : Shape := ⟨4, ![1, 8208, 8, 192]⟩
abbrev S384x8x192 : Shape := ⟨3, ![384, 8, 192]⟩
abbrev S_ : Shape := ⟨0, ![]⟩
abbrev S384x8x256 : Shape := ⟨3, ![384, 8, 256]⟩
abbrev S384x2048 : Shape := ⟨2, ![384, 2048]⟩
abbrev S8208x8x192 : Shape := ⟨3, ![8208, 8, 192]⟩
abbrev S8x8208x192 : Shape := ⟨3, ![8, 8208, 192]⟩
abbrev S8x8448x256 : Shape := ⟨3, ![8, 8448, 256]⟩
abbrev S8208x384 : Shape := ⟨2, ![8208, 384]⟩
abbrev S8448x384 : Shape := ⟨2, ![8448, 384]⟩
abbrev S8448 : Shape := ⟨1, ![8448]⟩
abbrev S8448x1 : Shape := ⟨2, ![8448, 1]⟩
abbrev S8208x64 : Shape := ⟨2, ![8208, 64]⟩
abbrev S8448x128 : Shape := ⟨2, ![8448, 128]⟩
abbrev S8x384x256 : Shape := ⟨3, ![8, 384, 256]⟩
abbrev S384x128 : Shape := ⟨2, ![384, 128]⟩
abbrev S384x384 : Shape := ⟨2, ![384, 384]⟩
abbrev S1x384x128 : Shape := ⟨3, ![1, 384, 128]⟩
abbrev S384 : Shape := ⟨1, ![384]⟩
abbrev S384x1 : Shape := ⟨2, ![384, 1]⟩

abbrev nBuf : Space → Nat
  | .hbm => 51
  | .vmem => 17
  | .smem => 0
  | _ => 0

abbrev bufTy : (tb : Table) → Fin (tcTables nBuf tb) → BufTy
  | .hbm, ⟨0, _⟩ => ⟨S1x8208x384, .f32⟩
  | .hbm, ⟨1, _⟩ => ⟨S1x384, .f32⟩
  | .hbm, ⟨2, _⟩ => ⟨S1x384x8x192, .f32⟩
  | .hbm, ⟨3, _⟩ => ⟨S8208x32, .f32⟩
  | .hbm, ⟨4, _⟩ => ⟨S8208x32, .f32⟩
  | .hbm, ⟨5, _⟩ => ⟨S1x8208x8x192, .f32⟩
  | .hbm, ⟨6, _⟩ => ⟨S384x8x192, .f32⟩
  | .hbm, ⟨7, _⟩ => ⟨S_, .i32⟩
  | .hbm, ⟨8, _⟩ => ⟨S_, .f32⟩
  | .hbm, ⟨9, _⟩ => ⟨S384x8x256, .f32⟩
  | .hbm, ⟨10, _⟩ => ⟨S384x2048, .f32⟩
  | .hbm, ⟨11, _⟩ => ⟨S8208x8x192, .f32⟩
  | .hbm, ⟨12, _⟩ => ⟨S8x8208x192, .f32⟩
  | .hbm, ⟨13, _⟩ => ⟨S_, .i32⟩
  | .hbm, ⟨14, _⟩ => ⟨S_, .f32⟩
  | .hbm, ⟨15, _⟩ => ⟨S8x8448x256, .f32⟩
  | .hbm, ⟨16, _⟩ => ⟨S8208x384, .f32⟩
  | .hbm, ⟨17, _⟩ => ⟨S_, .i32⟩
  | .hbm, ⟨18, _⟩ => ⟨S_, .f32⟩
  | .hbm, ⟨19, _⟩ => ⟨S8448x384, .f32⟩
  | .hbm, ⟨20, _⟩ => ⟨S8448x384, .f32⟩
  | .hbm, ⟨21, _⟩ => ⟨S_, .f32⟩
  | .hbm, ⟨22, _⟩ => ⟨S8448, .f32⟩
  | .hbm, ⟨23, _⟩ => ⟨S8448x1, .f32⟩
  | .hbm, ⟨24, _⟩ => ⟨S_, .f32⟩
  | .hbm, ⟨25, _⟩ => ⟨S8448x1, .f32⟩
  | .hbm, ⟨26, _⟩ => ⟨S8448x1, .f32⟩
  | .hbm, ⟨27, _⟩ => ⟨S_, .f32⟩
  | .hbm, ⟨28, _⟩ => ⟨S8448x1, .f32⟩
  | .hbm, ⟨29, _⟩ => ⟨S8448x1, .f32⟩
  | .hbm, ⟨30, _⟩ => ⟨S8448x1, .f32⟩
  | .hbm, ⟨31, _⟩ => ⟨S8448x384, .f32⟩
  | .hbm, ⟨32, _⟩ => ⟨S8448x384, .f32⟩
  | .hbm, ⟨33, _⟩ => ⟨S8448x384, .f32⟩
  | .hbm, ⟨34, _⟩ => ⟨S8448x384, .f32⟩
  | .hbm, ⟨35, _⟩ => ⟨S8448x384, .bf16⟩
  | .hbm, ⟨36, _⟩ => ⟨S8208x64, .f32⟩
  | .hbm, ⟨37, _⟩ => ⟨S_, .i32⟩
  | .hbm, ⟨38, _⟩ => ⟨S_, .f32⟩
  | .hbm, ⟨39, _⟩ => ⟨S8448x128, .f32⟩
  | .hbm, ⟨40, _⟩ => ⟨S8208x32, .f32⟩
  | .hbm, ⟨41, _⟩ => ⟨S8208x64, .f32⟩
  | .hbm, ⟨42, _⟩ => ⟨S_, .i32⟩
  | .hbm, ⟨43, _⟩ => ⟨S_, .f32⟩
  | .hbm, ⟨44, _⟩ => ⟨S8448x128, .f32⟩
  | .hbm, ⟨45, _⟩ => ⟨S384x2048, .bf16⟩
  | .hbm, ⟨46, _⟩ => ⟨S8448x384, .bf16⟩
  | .hbm, ⟨47, _⟩ => ⟨S1x384, .f32⟩
  | .hbm, ⟨48, _⟩ => ⟨S384x2048, .f32⟩
  | .hbm, ⟨49, _⟩ => ⟨S384x8x256, .f32⟩
  | .hbm, ⟨50, _⟩ => ⟨S384x8x192, .f32⟩
  | .local _ .vmem, ⟨0, _⟩ => ⟨S8x384x256, .f32⟩
  | .local _ .vmem, ⟨1, _⟩ => ⟨S8x384x256, .f32⟩
  | .local _ .vmem, ⟨2, _⟩ => ⟨S384x128, .f32⟩
  | .local _ .vmem, ⟨3, _⟩ => ⟨S384x128, .f32⟩
  | .local _ .vmem, ⟨4, _⟩ => ⟨S384x128, .f32⟩
  | .local _ .vmem, ⟨5, _⟩ => ⟨S384x128, .f32⟩
  | .local _ .vmem, ⟨6, _⟩ => ⟨S384x2048, .bf16⟩
  | .local _ .vmem, ⟨7, _⟩ => ⟨S384x384, .f32⟩
  | .local _ .vmem, ⟨8, _⟩ => ⟨S384x384, .f32⟩
  | .local _ .vmem, ⟨9, _⟩ => ⟨S1x384, .f32⟩
  | .local _ .vmem, ⟨10, _⟩ => ⟨S384x384, .bf16⟩
  | .local _ .vmem, ⟨11, _⟩ => ⟨S384x384, .bf16⟩
  | .local _ .vmem, ⟨12, _⟩ => ⟨S384x384, .bf16⟩
  | .local _ .vmem, ⟨13, _⟩ => ⟨S384x384, .bf16⟩
  | .local _ .vmem, ⟨14, _⟩ => ⟨S1x384, .f32⟩
  | .local _ .vmem, ⟨15, _⟩ => ⟨S384x2048, .f32⟩
  | .local _ .vmem, ⟨16, _⟩ => ⟨S384x2048, .bf16⟩
  | _, _ => ⟨S1x8208x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_call2_v0 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_call3_v0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_call4_v0 : Ref sig .tc := ⟨.hbm, 43, rfl⟩
abbrev main_v25 : Ref sig .tc := ⟨.hbm, 44, rfl⟩
abbrev main_v26 : Ref sig .tc := ⟨.hbm, 45, rfl⟩
abbrev main_v27_0 : Ref sig .tc := ⟨.hbm, 46, rfl⟩
abbrev main_v27_1 : Ref sig .tc := ⟨.hbm, 47, rfl⟩
abbrev main_v27_2 : Ref sig .tc := ⟨.hbm, 48, rfl⟩
abbrev main_v28 : Ref sig .tc := ⟨.hbm, 49, rfl⟩
abbrev main_v29 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![22], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== QBranchBwdRefIdeal.lean ====
abbrev S1x8208x384 : Shape := ⟨3, ![1, 8208, 384]⟩
abbrev S1x384 : Shape := ⟨2, ![1, 384]⟩
abbrev S1x384x8x192 : Shape := ⟨4, ![1, 384, 8, 192]⟩
abbrev S8208x32 : Shape := ⟨2, ![8208, 32]⟩
abbrev S1x8208x8x192 : Shape := ⟨4, ![1, 8208, 8, 192]⟩
abbrev S384 : Shape := ⟨1, ![384]⟩
abbrev S_ : Shape := ⟨0, ![]⟩
abbrev S1x8208 : Shape := ⟨2, ![1, 8208]⟩
abbrev S1x8208x1 : Shape := ⟨3, ![1, 8208, 1]⟩
abbrev S1x1x384 : Shape := ⟨3, ![1, 1, 384]⟩
abbrev S384x8x192 : Shape := ⟨3, ![384, 8, 192]⟩
abbrev S1x8208x8x64 : Shape := ⟨4, ![1, 8208, 8, 64]⟩
abbrev S8208x1x32 : Shape := ⟨3, ![8208, 1, 32]⟩
abbrev S1x8208x8x32 : Shape := ⟨4, ![1, 8208, 8, 32]⟩
abbrev S1x8208x1x32 : Shape := ⟨4, ![1, 8208, 1, 32]⟩
abbrev S1x8208x8x128 : Shape := ⟨4, ![1, 8208, 8, 128]⟩
abbrev S8x192x384 : Shape := ⟨3, ![8, 192, 384]⟩
abbrev S8208 : Shape := ⟨1, ![8208]⟩
abbrev S8208x384 : Shape := ⟨2, ![8208, 384]⟩
abbrev S8448x384 : Shape := ⟨2, ![8448, 384]⟩

abbrev nBuf : Space → Nat
  | .hbm => 115
  | .vmem => 0
  | .smem => 0
  | _ => 0

abbrev bufTy : (tb : Table) → Fin (tcTables nBuf tb) → BufTy
  | .hbm, ⟨0, _⟩ => ⟨S1x8208x384, .f32⟩
  | .hbm, ⟨1, _⟩ => ⟨S1x384, .f32⟩
  | .hbm, ⟨2, _⟩ => ⟨S1x384x8x192, .f32⟩
  | .hbm, ⟨3, _⟩ => ⟨S8208x32, .f32⟩
  | .hbm, ⟨4, _⟩ => ⟨S8208x32, .f32⟩
  | .hbm, ⟨5, _⟩ => ⟨S1x8208x8x192, .f32⟩
  | .hbm, ⟨6, _⟩ => ⟨S384, .f32⟩
  | .hbm, ⟨7, _⟩ => ⟨S1x8208x384, .f32⟩
  | .hbm, ⟨8, _⟩ => ⟨S_, .f32⟩
  | .hbm, ⟨9, _⟩ => ⟨S1x8208, .f32⟩
  | .hbm, ⟨10, _⟩ => ⟨S1x8208x1, .f32⟩
  | .hbm, ⟨11, _⟩ => ⟨S_, .f32⟩
  | .hbm, ⟨12, _⟩ => ⟨S1x8208x1, .f32⟩
  | .hbm, ⟨13, _⟩ => ⟨S1x8208x1, .f32⟩
  | .hbm, ⟨14, _⟩ => ⟨S_, .f32⟩
  | .hbm, ⟨15, _⟩ => ⟨S1x8208x1, .f32⟩
  | .hbm, ⟨16, _⟩ => ⟨S1x8208x1, .f32⟩
  | .hbm, ⟨17, _⟩ => ⟨S1x8208x1, .f32⟩
  | .hbm, ⟨18, _⟩ => ⟨S1x8208x1, .f32⟩
  | .hbm, ⟨19, _⟩ => ⟨S_, .f32⟩
  | .hbm, ⟨20, _⟩ => ⟨S1x8208x1, .f32⟩
  | .hbm, ⟨21, _⟩ => ⟨S1x8208x1, .f32⟩
  | .hbm, ⟨22, _⟩ => ⟨S1x8208x384, .f32⟩
  | .hbm, ⟨23, _⟩ => ⟨S1x8208x384, .f32⟩
  | .hbm, ⟨24, _⟩ => ⟨S1x1x384, .f32⟩
  | .hbm, ⟨25, _⟩ => ⟨S1x8208x384, .f32⟩
  | .hbm, ⟨26, _⟩ => ⟨S1x8208x384, .f32⟩
  | .hbm, ⟨27, _⟩ => ⟨S384x8x192, .f32⟩
  | .hbm, ⟨28, _⟩ => ⟨S1x8208x8x192, .f32⟩
  | .hbm, ⟨29, _⟩ => ⟨S1x8208x8x64, .f32⟩
  | .hbm, ⟨30, _⟩ => ⟨S8208x1x32, .f32⟩
  | .hbm, ⟨31, _⟩ => ⟨S8208x1x32, .f32⟩
  | .hbm, ⟨32, _⟩ => ⟨S1x8208x8x32, .f32⟩
  | .hbm, ⟨33, _⟩ => ⟨S1x8208x8x32, .f32⟩
  | .hbm, ⟨34, _⟩ => ⟨S1x8208x1x32, .f32⟩
  | .hbm, ⟨35, _⟩ => ⟨S1x8208x8x32, .f32⟩
  | .hbm, ⟨36, _⟩ => ⟨S1x8208x8x32, .f32⟩
  | .hbm, ⟨37, _⟩ => ⟨S1x8208x1x32, .f32⟩
  | .hbm, ⟨38, _⟩ => ⟨S1x8208x8x32, .f32⟩
  | .hbm, ⟨39, _⟩ => ⟨S1x8208x8x32, .f32⟩
  | .hbm, ⟨40, _⟩ => ⟨S1x8208x8x32, .f32⟩
  | .hbm, ⟨41, _⟩ => ⟨S1x8208x1x32, .f32⟩
  | .hbm, ⟨42, _⟩ => ⟨S1x8208x8x32, .f32⟩
  | .hbm, ⟨43, _⟩ => ⟨S1x8208x8x32, .f32⟩
  | .hbm, ⟨44, _⟩ => ⟨S1x8208x1x32, .f32⟩
  | .hbm, ⟨45, _⟩ => ⟨S1x8208x8x32, .f32⟩
  | .hbm, ⟨46, _⟩ => ⟨S1x8208x8x32, .f32⟩
  | .hbm, ⟨47, _⟩ => ⟨S1x8208x8x32, .f32⟩
  | .hbm, ⟨48, _⟩ => ⟨S1x8208x8x64, .f32⟩
  | .hbm, ⟨49, _⟩ => ⟨S1x8208x8x128, .f32⟩
  | .hbm, ⟨50, _⟩ => ⟨S1x8208x8x192, .f32⟩
  | .hbm, ⟨51, _⟩ => ⟨S_, .f32⟩
  | .hbm, ⟨52, _⟩ => ⟨S1x8208x8x192, .f32⟩
  | .hbm, ⟨53, _⟩ => ⟨S1x8208x8x192, .f32⟩
  | .hbm, ⟨54, _⟩ => ⟨S_, .f32⟩
  | .hbm, ⟨55, _⟩ => ⟨S1x8208x8x192, .f32⟩
  | .hbm, ⟨56, _⟩ => ⟨S1x8208x8x192, .f32⟩
  | .hbm, ⟨57, _⟩ => ⟨S1x8208x8x128, .f32⟩
  | .hbm, ⟨58, _⟩ => ⟨S1x8208x8x64, .f32⟩
  | .hbm, ⟨59, _⟩ => ⟨S_, .f32⟩
  | .hbm, ⟨60, _⟩ => ⟨S1x8208x8x192, .f32⟩
  | .hbm, ⟨61, _⟩ => ⟨S1x8208x8x32, .f32⟩
  | .hbm, ⟨62, _⟩ => ⟨S1x8208x8x32, .f32⟩
  | .hbm, ⟨63, _⟩ => ⟨S1x8208x8x32, .f32⟩
  | .hbm, ⟨64, _⟩ => ⟨S1x8208x8x32, .f32⟩
  | .hbm, ⟨65, _⟩ => ⟨S1x8208x8x32, .f32⟩
  | .hbm, ⟨66, _⟩ => ⟨S1x8208x8x32, .f32⟩
  | .hbm, ⟨67, _⟩ => ⟨S1x8208x8x32, .f32⟩
  | .hbm, ⟨68, _⟩ => ⟨S1x8208x8x32, .f32⟩
  | .hbm, ⟨69, _⟩ => ⟨S1x8208x8x32, .f32⟩
  | .hbm, ⟨70, _⟩ => ⟨S1x8208x8x32, .f32⟩
  | .hbm, ⟨71, _⟩ => ⟨S1x8208x8x32, .f32⟩
  | .hbm, ⟨72, _⟩ => ⟨S1x8208x8x32, .f32⟩
  | .hbm, ⟨73, _⟩ => ⟨S1x8208x8x32, .f32⟩
  | .hbm, ⟨74, _⟩ => ⟨S1x8208x8x64, .f32⟩
  | .hbm, ⟨75, _⟩ => ⟨S_, .f32⟩
  | .hbm, ⟨76, _⟩ => ⟨S1x8208x8x192, .f32⟩
  | .hbm, ⟨77, _⟩ => ⟨S1x8208x8x192, .f32⟩
  | .hbm, ⟨78, _⟩ => ⟨S8x192x384, .f32⟩
  | .hbm, ⟨79, _⟩ => ⟨S384x8x192, .f32⟩
  | .hbm, ⟨80, _⟩ => ⟨S1x8208x384, .f32⟩
  | .hbm, ⟨81, _⟩ => ⟨S1x384x8x192, .f32⟩
  | .hbm, ⟨82, _⟩ => ⟨S1x8208x384, .f32⟩
  | .hbm, ⟨83, _⟩ => ⟨S_, .f32⟩
  | .hbm, ⟨84, _⟩ => ⟨S1x384, .f32⟩
  | .hbm, ⟨85, _⟩ => ⟨S1x1x384, .f32⟩
  | .hbm, ⟨86, _⟩ => ⟨S1x8208x384, .f32⟩
  | .hbm, ⟨87, _⟩ => ⟨S1x8208x384, .f32⟩
  | .hbm, ⟨88, _⟩ => ⟨S_, .f32⟩
  | .hbm, ⟨89, _⟩ => ⟨S384, .f32⟩
  | .hbm, ⟨90, _⟩ => ⟨S1x8208x384, .f32⟩
  | .hbm, ⟨91, _⟩ => ⟨S_, .f32⟩
  | .hbm, ⟨92, _⟩ => ⟨S1x8208, .f32⟩
  | .hbm, ⟨93, _⟩ => ⟨S1x8208x1, .f32⟩
  | .hbm, ⟨94, _⟩ => ⟨S1x8208x384, .f32⟩
  | .hbm, ⟨95, _⟩ => ⟨S1x8208x384, .f32⟩
  | .hbm, ⟨96, _⟩ => ⟨S1x8208x1, .f32⟩
  | .hbm, ⟨97, _⟩ => ⟨S_, .f32⟩
  | .hbm, ⟨98, _⟩ => ⟨S1x8208x1, .f32⟩
  | .hbm, ⟨99, _⟩ => ⟨S1x8208x1, .f32⟩
  | .hbm, ⟨100, _⟩ => ⟨S_, .f32⟩
  | .hbm, ⟨101, _⟩ => ⟨S8208, .f32⟩
  | .hbm, ⟨102, _⟩ => ⟨S1x8208, .f32⟩
  | .hbm, ⟨103, _⟩ => ⟨S1x8208x384, .f32⟩
  | .hbm, ⟨104, _⟩ => ⟨S1x8208x384, .f32⟩
  | .hbm, ⟨105, _⟩ => ⟨S1x8208x384, .f32⟩
  | .hbm, ⟨106, _⟩ => ⟨S1x8208x384, .f32⟩
  | .hbm, ⟨107, _⟩ => ⟨S1x8208x384, .f32⟩
  | .hbm, ⟨108, _⟩ => ⟨S1x384, .f32⟩
  | .hbm, ⟨109, _⟩ => ⟨S8208x384, .f32⟩
  | .hbm, ⟨110, _⟩ => ⟨S_, .i32⟩
  | .hbm, ⟨111, _⟩ => ⟨S_, .f32⟩
  | .hbm, ⟨112, _⟩ => ⟨S8448x384, .f32⟩
  | .hbm, ⟨113, _⟩ => ⟨S8448x384, .bf16⟩
  | .hbm, ⟨114, _⟩ => ⟨S384x8x192, .f32⟩
  | _, _ => ⟨S1x8208x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_5 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_6 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_7 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_8 : Ref sig .tc := ⟨.hbm, 88, rfl⟩
abbrev main_v73 : Ref sig .tc := ⟨.hbm, 89, rfl⟩
abbrev main_v74 : Ref sig .tc := ⟨.hbm, 90, rfl⟩
abbrev main_cst_9 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_10 : Ref sig .tc := ⟨.hbm, 97, rfl⟩
abbrev main_v80 : Ref sig .tc := ⟨.hbm, 98, rfl⟩
abbrev main_v81 : Ref sig .tc := ⟨.hbm, 99, rfl⟩
abbrev main_cst_11 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_c : Ref sig .tc := ⟨.hbm, 110, rfl⟩
abbrev main_call0_v0 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩

abbrev nD : Nat := 1
abbrev τ : Topo := Topo.v7x

variable {F : FTy → Type} [FloatOps F]
-- ==== KvBranchBwd.lean ====
abbrev S1x8208x256 : Shape := ⟨3, ![1, 8208, 256]⟩
abbrev S1x8208x64 : Shape := ⟨3, ![1, 8208, 64]⟩
abbrev S1x256 : Shape := ⟨2, ![1, 256]⟩
abbrev S1x256x8x256 : Shape := ⟨4, ![1, 256, 8, 256]⟩
abbrev S8208x32 : Shape := ⟨2, ![8208, 32]⟩
abbrev S1x8208x8x192 : Shape := ⟨4, ![1, 8208, 8, 192]⟩
abbrev S1x8208x8x128 : Shape := ⟨4, ![1, 8208, 8, 128]⟩
abbrev S8208x256 : Shape := ⟨2, ![8208, 256]⟩
abbrev S_ : Shape := ⟨0, ![]⟩
abbrev S8448x256 : Shape := ⟨2, ![8448, 256]⟩
abbrev S8448 : Shape := ⟨1, ![8448]⟩
abbrev S8448x1 : Shape := ⟨2, ![8448, 1]⟩
abbrev S256x8x256 : Shape := ⟨3, ![256, 8, 256]⟩
abbrev S256x2048 : Shape := ⟨2, ![256, 2048]⟩
abbrev S8208x8x192 : Shape := ⟨3, ![8208, 8, 192]⟩
abbrev S8x8208x192 : Shape := ⟨3, ![8, 8208, 192]⟩
abbrev S8x8448x256 : Shape := ⟨3, ![8, 8448, 256]⟩
abbrev S8208x8x128 : Shape := ⟨3, ![8208, 8, 128]⟩
abbrev S8x8208x128 : Shape := ⟨3, ![8, 8208, 128]⟩
abbrev S8x8448x128 : Shape := ⟨3, ![8, 8448, 128]⟩
abbrev S8208x64 : Shape := ⟨2, ![8208, 64]⟩
abbrev S8448x128 : Shape := ⟨2, ![8448, 128]⟩
abbrev S8x384x256 : Shape := ⟨3, ![8, 384, 256]⟩
abbrev S8x384x128 : Shape := ⟨3, ![8, 384, 128]⟩
abbrev S384x128 : Shape := ⟨2, ![384, 128]⟩
abbrev S384x256 : Shape := ⟨2, ![384, 256]⟩
abbrev S384x2048 : Shape := ⟨2, ![384, 2048]⟩
abbrev S1x384x128 : Shape := ⟨3, ![1, 384, 128]⟩
abbrev S384 : Shape := ⟨1, ![384]⟩
abbrev S384x1 : Shape := ⟨2, ![384, 1]⟩
abbrev S256 : Shape := ⟨1, ![256]⟩
abbrev S8448x64 : Shape := ⟨2, ![8448, 64]⟩

abbrev nBuf : Space → Nat
  | .hbm => 55
  | .vmem => 21
  | .smem => 0
  | _ => 0

abbrev bufTy : (tb : Table) → Fin (tcTables nBuf tb) → BufTy
  | .hbm, ⟨0, _⟩ => ⟨S1x8208x256, .f32⟩
  | .hbm, ⟨1, _⟩ => ⟨S1x8208x64, .f32⟩
  | .hbm, ⟨2, _⟩ => ⟨S1x256, .f32⟩
  | .hbm, ⟨3, _⟩ => ⟨S1x256x8x256, .f32⟩
  | .hbm, ⟨4, _⟩ => ⟨S8208x32, .f32⟩
  | .hbm, ⟨5, _⟩ => ⟨S8208x32, .f32⟩
  | .hbm, ⟨6, _⟩ => ⟨S1x8208x8x192, .f32⟩
  | .hbm, ⟨7, _⟩ => ⟨S1x8208x8x128, .f32⟩
  | .hbm, ⟨8, _⟩ => ⟨S8208x256, .f32⟩
  | .hbm, ⟨9, _⟩ => ⟨S_, .i32⟩
  | .hbm, ⟨10, _⟩ => ⟨S_, .f32⟩
  | .hbm, ⟨11, _⟩ => ⟨S8448x256, .f32⟩
  | .hbm, ⟨12, _⟩ => ⟨S8448x256, .f32⟩
  | .hbm, ⟨13, _⟩ => ⟨S_, .f32⟩
  | .hbm, ⟨14, _⟩ => ⟨S8448, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S_, .f32⟩
  | .hbm, ⟨20, _⟩ => ⟨S8448x1, .f32⟩
  | .hbm, ⟨21, _⟩ => ⟨S8448x1, .f32⟩
  | .hbm, ⟨22, _⟩ => ⟨S8448x1, .f32⟩
  | .hbm, ⟨23, _⟩ => ⟨S8448x256, .f32⟩
  | .hbm, ⟨24, _⟩ => ⟨S8448x256, .f32⟩
  | .hbm, ⟨25, _⟩ => ⟨S8448x256, .f32⟩
  | .hbm, ⟨26, _⟩ => ⟨S8448x256, .f32⟩
  | .hbm, ⟨27, _⟩ => ⟨S8448x256, .bf16⟩
  | .hbm, ⟨28, _⟩ => ⟨S256x8x256, .f32⟩
  | .hbm, ⟨29, _⟩ => ⟨S256x2048, .f32⟩
  | .hbm, ⟨30, _⟩ => ⟨S256x2048, .bf16⟩
  | .hbm, ⟨31, _⟩ => ⟨S8208x8x192, .f32⟩
  | .hbm, ⟨32, _⟩ => ⟨S8x8208x192, .f32⟩
  | .hbm, ⟨33, _⟩ => ⟨S_, .i32⟩
  | .hbm, ⟨34, _⟩ => ⟨S_, .f32⟩
  | .hbm, ⟨35, _⟩ => ⟨S8x8448x256, .f32⟩
  | .hbm, ⟨36, _⟩ => ⟨S8208x8x128, .f32⟩
  | .hbm, ⟨37, _⟩ => ⟨S8x8208x128, .f32⟩
  | .hbm, ⟨38, _⟩ => ⟨S_, .i32⟩
  | .hbm, ⟨39, _⟩ => ⟨S_, .f32⟩
  | .hbm, ⟨40, _⟩ => ⟨S8x8448x128, .f32⟩
  | .hbm, ⟨41, _⟩ => ⟨S8208x64, .f32⟩
  | .hbm, ⟨42, _⟩ => ⟨S_, .i32⟩
  | .hbm, ⟨43, _⟩ => ⟨S_, .f32⟩
  | .hbm, ⟨44, _⟩ => ⟨S8448x128, .f32⟩
  | .hbm, ⟨45, _⟩ => ⟨S8208x32, .f32⟩
  | .hbm, ⟨46, _⟩ => ⟨S8208x64, .f32⟩
  | .hbm, ⟨47, _⟩ => ⟨S_, .i32⟩
  | .hbm, ⟨48, _⟩ => ⟨S_, .f32⟩
  | .hbm, ⟨49, _⟩ => ⟨S8448x128, .f32⟩
  | .hbm, ⟨50, _⟩ => ⟨S8448x256, .bf16⟩
  | .hbm, ⟨51, _⟩ => ⟨S1x256, .f32⟩
  | .hbm, ⟨52, _⟩ => ⟨S256x2048, .f32⟩
  | .hbm, ⟨53, _⟩ => ⟨S8448x128, .f32⟩
  | .hbm, ⟨54, _⟩ => ⟨S8448x64, .f32⟩
  | .local _ .vmem, ⟨0, _⟩ => ⟨S8x384x256, .f32⟩
  | .local _ .vmem, ⟨1, _⟩ => ⟨S8x384x256, .f32⟩
  | .local _ .vmem, ⟨2, _⟩ => ⟨S8x384x128, .f32⟩
  | .local _ .vmem, ⟨3, _⟩ => ⟨S8x384x128, .f32⟩
  | .local _ .vmem, ⟨4, _⟩ => ⟨S384x128, .f32⟩
  | .local _ .vmem, ⟨5, _⟩ => ⟨S384x128, .f32⟩
  | .local _ .vmem, ⟨6, _⟩ => ⟨S384x128, .f32⟩
  | .local _ .vmem, ⟨7, _⟩ => ⟨S384x128, .f32⟩
  | .local _ .vmem, ⟨8, _⟩ => ⟨S256x2048, .bf16⟩
  | .local _ .vmem, ⟨9, _⟩ => ⟨S384x256, .f32⟩
  | .local _ .vmem, ⟨10, _⟩ => ⟨S384x256, .f32⟩
  | .local _ .vmem, ⟨11, _⟩ => ⟨S1x256, .f32⟩
  | .local _ .vmem, ⟨12, _⟩ => ⟨S384x256, .bf16⟩
  | .local _ .vmem, ⟨13, _⟩ => ⟨S384x256, .bf16⟩
  | .local _ .vmem, ⟨14, _⟩ => ⟨S384x256, .bf16⟩
  | .local _ .vmem, ⟨15, _⟩ => ⟨S384x256, .bf16⟩
  | .local _ .vmem, ⟨16, _⟩ => ⟨S1x256, .f32⟩
  | .local _ .vmem, ⟨17, _⟩ => ⟨S256x2048, .f32⟩
  | .local _ .vmem, ⟨18, _⟩ => ⟨S384x128, .f32⟩
  | .local _ .vmem, ⟨19, _⟩ => ⟨S384x128, .f32⟩
  | .local _ .vmem, ⟨20, _⟩ => ⟨S384x2048, .bf16⟩
  | _, _ => ⟨S1x8208x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_call1_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_call2_v0 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_call3_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_call4_v0 : Ref sig .tc := ⟨.hbm, 48, rfl⟩
abbrev main_v28 : Ref sig .tc := ⟨.hbm, 49, rfl⟩
abbrev main_v29_0 : Ref sig .tc := ⟨.hbm, 50, rfl⟩
abbrev main_v29_1 : Ref sig .tc := ⟨.hbm, 51, rfl⟩
abbrev main_v29_2 : Ref sig .tc := ⟨.hbm, 52, rfl⟩
abbrev main_v29_3 : Ref sig .tc := ⟨.hbm, 53, rfl⟩
abbrev main_v30 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![22], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S384x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KvBranchBwdRefIdeal.lean ====
abbrev S1x8208x256 : Shape := ⟨3, ![1, 8208, 256]⟩
abbrev S1x8208x64 : Shape := ⟨3, ![1, 8208, 64]⟩
abbrev S1x256 : Shape := ⟨2, ![1, 256]⟩
abbrev S1x256x8x256 : Shape := ⟨4, ![1, 256, 8, 256]⟩
abbrev S8208x32 : Shape := ⟨2, ![8208, 32]⟩
abbrev S1x8208x8x192 : Shape := ⟨4, ![1, 8208, 8, 192]⟩
abbrev S1x8208x8x128 : Shape := ⟨4, ![1, 8208, 8, 128]⟩
abbrev S256 : Shape := ⟨1, ![256]⟩
abbrev S_ : Shape := ⟨0, ![]⟩
abbrev S1x8208 : Shape := ⟨2, ![1, 8208]⟩
abbrev S1x8208x1 : Shape := ⟨3, ![1, 8208, 1]⟩
abbrev S1x1x256 : Shape := ⟨3, ![1, 1, 256]⟩
abbrev S256x8x256 : Shape := ⟨3, ![256, 8, 256]⟩
abbrev S1x8208x8x256 : Shape := ⟨4, ![1, 8208, 8, 256]⟩
abbrev S1x8208x32 : Shape := ⟨3, ![1, 8208, 32]⟩
abbrev S1x8208x1x64 : Shape := ⟨4, ![1, 8208, 1, 64]⟩
abbrev S1x8208x8x64 : Shape := ⟨4, ![1, 8208, 8, 64]⟩
abbrev S8208x64 : Shape := ⟨2, ![8208, 64]⟩
abbrev S8x256x256 : Shape := ⟨3, ![8, 256, 256]⟩
abbrev S8208 : Shape := ⟨1, ![8208]⟩
abbrev S8208x256 : Shape := ⟨2, ![8208, 256]⟩
abbrev S8448x256 : Shape := ⟨2, ![8448, 256]⟩
abbrev S256x2048 : Shape := ⟨2, ![256, 2048]⟩
abbrev S8448x64 : Shape := ⟨2, ![8448, 64]⟩

abbrev nBuf : Space → Nat
  | .hbm => 113
  | .vmem => 0
  | .smem => 0
  | _ => 0

abbrev bufTy : (tb : Table) → Fin (tcTables nBuf tb) → BufTy
  | .hbm, ⟨0, _⟩ => ⟨S1x8208x256, .f32⟩
  | .hbm, ⟨1, _⟩ => ⟨S1x8208x64, .f32⟩
  | .hbm, ⟨2, _⟩ => ⟨S1x256, .f32⟩
  | .hbm, ⟨3, _⟩ => ⟨S1x256x8x256, .f32⟩
  | .hbm, ⟨4, _⟩ => ⟨S8208x32, .f32⟩
  | .hbm, ⟨5, _⟩ => ⟨S8208x32, .f32⟩
  | .hbm, ⟨6, _⟩ => ⟨S1x8208x8x192, .f32⟩
  | .hbm, ⟨7, _⟩ => ⟨S1x8208x8x128, .f32⟩
  | .hbm, ⟨8, _⟩ => ⟨S256, .f32⟩
  | .hbm, ⟨9, _⟩ => ⟨S1x8208x256, .f32⟩
  | .hbm, ⟨10, _⟩ => ⟨S_, .f32⟩
  | .hbm, ⟨11, _⟩ => ⟨S1x8208, .f32⟩
  | .hbm, ⟨12, _⟩ => ⟨S1x8208x1, .f32⟩
  | .hbm, ⟨13, _⟩ => ⟨S_, .f32⟩
  | .hbm, ⟨14, _⟩ => ⟨S1x8208x1, .f32⟩
  | .hbm, ⟨15, _⟩ => ⟨S1x8208x1, .f32⟩
  | .hbm, ⟨16, _⟩ => ⟨S_, .f32⟩
  | .hbm, ⟨17, _⟩ => ⟨S1x8208x1, .f32⟩
  | .hbm, ⟨18, _⟩ => ⟨S1x8208x1, .f32⟩
  | .hbm, ⟨19, _⟩ => ⟨S1x8208x1, .f32⟩
  | .hbm, ⟨20, _⟩ => ⟨S1x8208x1, .f32⟩
  | .hbm, ⟨21, _⟩ => ⟨S_, .f32⟩
  | .hbm, ⟨22, _⟩ => ⟨S1x8208x1, .f32⟩
  | .hbm, ⟨23, _⟩ => ⟨S1x8208x1, .f32⟩
  | .hbm, ⟨24, _⟩ => ⟨S1x8208x256, .f32⟩
  | .hbm, ⟨25, _⟩ => ⟨S1x8208x256, .f32⟩
  | .hbm, ⟨26, _⟩ => ⟨S1x1x256, .f32⟩
  | .hbm, ⟨27, _⟩ => ⟨S1x8208x256, .f32⟩
  | .hbm, ⟨28, _⟩ => ⟨S1x8208x256, .f32⟩
  | .hbm, ⟨29, _⟩ => ⟨S256x8x256, .f32⟩
  | .hbm, ⟨30, _⟩ => ⟨S1x8208x8x256, .f32⟩
  | .hbm, ⟨31, _⟩ => ⟨S1x8208x32, .f32⟩
  | .hbm, ⟨32, _⟩ => ⟨S1x8208x32, .f32⟩
  | .hbm, ⟨33, _⟩ => ⟨S1x8208x32, .f32⟩
  | .hbm, ⟨34, _⟩ => ⟨S1x8208x32, .f32⟩
  | .hbm, ⟨35, _⟩ => ⟨S1x8208x32, .f32⟩
  | .hbm, ⟨36, _⟩ => ⟨S1x8208x32, .f32⟩
  | .hbm, ⟨37, _⟩ => ⟨S1x8208x32, .f32⟩
  | .hbm, ⟨38, _⟩ => ⟨S1x8208x32, .f32⟩
  | .hbm, ⟨39, _⟩ => ⟨S1x8208x32, .f32⟩
  | .hbm, ⟨40, _⟩ => ⟨S1x8208x32, .f32⟩
  | .hbm, ⟨41, _⟩ => ⟨S1x8208x32, .f32⟩
  | .hbm, ⟨42, _⟩ => ⟨S1x8208x32, .f32⟩
  | .hbm, ⟨43, _⟩ => ⟨S1x8208x64, .f32⟩
  | .hbm, ⟨44, _⟩ => ⟨S1x8208x1x64, .f32⟩
  | .hbm, ⟨45, _⟩ => ⟨S1x8208x8x64, .f32⟩
  | .hbm, ⟨46, _⟩ => ⟨S1x8208x8x128, .f32⟩
  | .hbm, ⟨47, _⟩ => ⟨S1x8208x8x192, .f32⟩
  | .hbm, ⟨48, _⟩ => ⟨S1x8208x8x128, .f32⟩
  | .hbm, ⟨49, _⟩ => ⟨S_, .f32⟩
  | .hbm, ⟨50, _⟩ => ⟨S1x8208x8x256, .f32⟩
  | .hbm, ⟨51, _⟩ => ⟨S1x8208x8x128, .f32⟩
  | .hbm, ⟨52, _⟩ => ⟨S1x8208x8x64, .f32⟩
  | .hbm, ⟨53, _⟩ => ⟨S_, .f32⟩
  | .hbm, ⟨54, _⟩ => ⟨S1x8208x8x256, .f32⟩
  | .hbm, ⟨55, _⟩ => ⟨S1x8208x8x256, .f32⟩
  | .hbm, ⟨56, _⟩ => ⟨S_, .f32⟩
  | .hbm, ⟨57, _⟩ => ⟨S8208x64, .f32⟩
  | .hbm, ⟨58, _⟩ => ⟨S1x8208x1x64, .f32⟩
  | .hbm, ⟨59, _⟩ => ⟨S_, .f32⟩
  | .hbm, ⟨60, _⟩ => ⟨S8208x64, .f32⟩
  | .hbm, ⟨61, _⟩ => ⟨S1x8208x64, .f32⟩
  | .hbm, ⟨62, _⟩ => ⟨S1x8208x32, .f32⟩
  | .hbm, ⟨63, _⟩ => ⟨S1x8208x32, .f32⟩
  | .hbm, ⟨64, _⟩ => ⟨S1x8208x32, .f32⟩
  | .hbm, ⟨65, _⟩ => ⟨S1x8208x32, .f32⟩
  | .hbm, ⟨66, _⟩ => ⟨S1x8208x32, .f32⟩
  | .hbm, ⟨67, _⟩ => ⟨S1x8208x32, .f32⟩
  | .hbm, ⟨68, _⟩ => ⟨S1x8208x32, .f32⟩
  | .hbm, ⟨69, _⟩ => ⟨S1x8208x32, .f32⟩
  | .hbm, ⟨70, _⟩ => ⟨S1x8208x32, .f32⟩
  | .hbm, ⟨71, _⟩ => ⟨S1x8208x64, .f32⟩
  | .hbm, ⟨72, _⟩ => ⟨S8x256x256, .f32⟩
  | .hbm, ⟨73, _⟩ => ⟨S256x8x256, .f32⟩
  | .hbm, ⟨74, _⟩ => ⟨S1x8208x256, .f32⟩
  | .hbm, ⟨75, _⟩ => ⟨S1x256x8x256, .f32⟩
  | .hbm, ⟨76, _⟩ => ⟨S1x8208x256, .f32⟩
  | .hbm, ⟨77, _⟩ => ⟨S_, .f32⟩
  | .hbm, ⟨78, _⟩ => ⟨S1x256, .f32⟩
  | .hbm, ⟨79, _⟩ => ⟨S1x1x256, .f32⟩
  | .hbm, ⟨80, _⟩ => ⟨S1x8208x256, .f32⟩
  | .hbm, ⟨81, _⟩ => ⟨S1x8208x256, .f32⟩
  | .hbm, ⟨82, _⟩ => ⟨S_, .f32⟩
  | .hbm, ⟨83, _⟩ => ⟨S256, .f32⟩
  | .hbm, ⟨84, _⟩ => ⟨S1x8208x256, .f32⟩
  | .hbm, ⟨85, _⟩ => ⟨S_, .f32⟩
  | .hbm, ⟨86, _⟩ => ⟨S1x8208, .f32⟩
  | .hbm, ⟨87, _⟩ => ⟨S1x8208x1, .f32⟩
  | .hbm, ⟨88, _⟩ => ⟨S1x8208x256, .f32⟩
  | .hbm, ⟨89, _⟩ => ⟨S1x8208x256, .f32⟩
  | .hbm, ⟨90, _⟩ => ⟨S1x8208x1, .f32⟩
  | .hbm, ⟨91, _⟩ => ⟨S_, .f32⟩
  | .hbm, ⟨92, _⟩ => ⟨S1x8208x1, .f32⟩
  | .hbm, ⟨93, _⟩ => ⟨S1x8208x1, .f32⟩
  | .hbm, ⟨94, _⟩ => ⟨S_, .f32⟩
  | .hbm, ⟨95, _⟩ => ⟨S8208, .f32⟩
  | .hbm, ⟨96, _⟩ => ⟨S1x8208, .f32⟩
  | .hbm, ⟨97, _⟩ => ⟨S1x8208x256, .f32⟩
  | .hbm, ⟨98, _⟩ => ⟨S1x8208x256, .f32⟩
  | .hbm, ⟨99, _⟩ => ⟨S1x8208x256, .f32⟩
  | .hbm, ⟨100, _⟩ => ⟨S1x8208x256, .f32⟩
  | .hbm, ⟨101, _⟩ => ⟨S1x8208x256, .f32⟩
  | .hbm, ⟨102, _⟩ => ⟨S1x256, .f32⟩
  | .hbm, ⟨103, _⟩ => ⟨S8208x256, .f32⟩
  | .hbm, ⟨104, _⟩ => ⟨S_, .i32⟩
  | .hbm, ⟨105, _⟩ => ⟨S_, .f32⟩
  | .hbm, ⟨106, _⟩ => ⟨S8448x256, .f32⟩
  | .hbm, ⟨107, _⟩ => ⟨S8448x256, .bf16⟩
  | .hbm, ⟨108, _⟩ => ⟨S256x2048, .f32⟩
  | .hbm, ⟨109, _⟩ => ⟨S8208x64, .f32⟩
  | .hbm, ⟨110, _⟩ => ⟨S_, .i32⟩
  | .hbm, ⟨111, _⟩ => ⟨S_, .f32⟩
  | .hbm, ⟨112, _⟩ => ⟨S8448x64, .f32⟩
  | _, _ => ⟨S1x8208x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_7 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_8 : Ref sig .tc := ⟨.hbm, 82, rfl⟩
abbrev main_v65 : Ref sig .tc := ⟨.hbm, 83, rfl⟩
abbrev main_v66 : Ref sig .tc := ⟨.hbm, 84, rfl⟩
abbrev main_cst_9 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_10 : Ref sig .tc := ⟨.hbm, 91, rfl⟩
abbrev main_v72 : Ref sig .tc := ⟨.hbm, 92, rfl⟩
abbrev main_v73 : Ref sig .tc := ⟨.hbm, 93, rfl⟩
abbrev main_cst_11 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_c : Ref sig .tc := ⟨.hbm, 104, rfl⟩
abbrev main_call0_v0 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_c_12 : Ref sig .tc := ⟨.hbm, 110, rfl⟩
abbrev main_call1_v0 : Ref sig .tc := ⟨.hbm, 111, rfl⟩
abbrev main_v87 : Ref sig .tc := ⟨.hbm, 112, rfl⟩

abbrev nD : Nat := 1
abbrev τ : Topo := Topo.v7x

variable {F : FTy → Type} [FloatOps F]
-- ==== InProjDx.lean ====
abbrev S1x8208x1024 : Shape := ⟨3, ![1, 8208, 1024]⟩
abbrev S1x1024 : Shape := ⟨2, ![1, 1024]⟩
abbrev S1x1024x3280 : Shape := ⟨3, ![1, 1024, 3280]⟩
abbrev S1x8208x3280 : Shape := ⟨3, ![1, 8208, 3280]⟩
abbrev S8208x3280 : Shape := ⟨2, ![8208, 3280]⟩
abbrev S_ : Shape := ⟨0, ![]⟩
abbrev S8448x3280 : Shape := ⟨2, ![8448, 3280]⟩
abbrev S8448x384 : Shape := ⟨2, ![8448, 384]⟩
abbrev S8448x256 : Shape := ⟨2, ![8448, 256]⟩
abbrev S8448x64 : Shape := ⟨2, ![8448, 64]⟩
abbrev S8448x128 : Shape := ⟨2, ![8448, 128]⟩
abbrev S8448x1024 : Shape := ⟨2, ![8448, 1024]⟩
abbrev S8448x1536 : Shape := ⟨2, ![8448, 1536]⟩
abbrev S8448x16 : Shape := ⟨2, ![8448, 16]⟩
abbrev S1024x3280 : Shape := ⟨2, ![1024, 3280]⟩
abbrev S1024x384 : Shape := ⟨2, ![1024, 384]⟩
abbrev S1024x256 : Shape := ⟨2, ![1024, 256]⟩
abbrev S1024x64 : Shape := ⟨2, ![1024, 64]⟩
abbrev S1024x128 : Shape := ⟨2, ![1024, 128]⟩
abbrev S1024x1024 : Shape := ⟨2, ![1024, 1024]⟩
abbrev S1024x1536 : Shape := ⟨2, ![1024, 1536]⟩
abbrev S1024x16 : Shape := ⟨2, ![1024, 16]⟩
abbrev S8208x1024 : Shape := ⟨2, ![8208, 1024]⟩
abbrev S384x384 : Shape := ⟨2, ![384, 384]⟩
abbrev S384x256 : Shape := ⟨2, ![384, 256]⟩
abbrev S384x128 : Shape := ⟨2, ![384, 128]⟩
abbrev S384x1024 : Shape := ⟨2, ![384, 1024]⟩
abbrev S384x1536 : Shape := ⟨2, ![384, 1536]⟩
abbrev S384 : Shape := ⟨1, ![384]⟩
abbrev S384x1 : Shape := ⟨2, ![384, 1]⟩
abbrev S1024 : Shape := ⟨1, ![1024]⟩

abbrev nBuf : Space → Nat
  | .hbm => 73
  | .vmem => 26
  | .smem => 0
  | _ => 0

abbrev bufTy : (tb : Table) → Fin (tcTables nBuf tb) → BufTy
  | .hbm, ⟨0, _⟩ => ⟨S1x8208x1024, .f32⟩
  | .hbm, ⟨1, _⟩ => ⟨S1x1024, .f32⟩
  | .hbm, ⟨2, _⟩ => ⟨S1x1024x3280, .f32⟩
  | .hbm, ⟨3, _⟩ => ⟨S1x8208x1024, .f32⟩
  | .hbm, ⟨4, _⟩ => ⟨S1x8208x3280, .f32⟩
  | .hbm, ⟨5, _⟩ => ⟨S8208x3280, .f32⟩
  | .hbm, ⟨6, _⟩ => ⟨S_, .i32⟩
  | .hbm, ⟨7, _⟩ => ⟨S_, .f32⟩
  | .hbm, ⟨8, _⟩ => ⟨S8448x3280, .f32⟩
  | .hbm, ⟨9, _⟩ => ⟨S8448x384, .f32⟩
  | .hbm, ⟨10, _⟩ => ⟨S_, .i32⟩
  | .hbm, ⟨11, _⟩ => ⟨S_, .f32⟩
  | .hbm, ⟨12, _⟩ => ⟨S8448x384, .f32⟩
  | .hbm, ⟨13, _⟩ => ⟨S8448x256, .f32⟩
  | .hbm, ⟨14, _⟩ => ⟨S_, .i32⟩
  | .hbm, ⟨15, _⟩ => ⟨S_, .f32⟩
  | .hbm, ⟨16, _⟩ => ⟨S8448x256, .f32⟩
  | .hbm, ⟨17, _⟩ => ⟨S8448x64, .f32⟩
  | .hbm, ⟨18, _⟩ => ⟨S_, .i32⟩
  | .hbm, ⟨19, _⟩ => ⟨S_, .f32⟩
  | .hbm, ⟨20, _⟩ => ⟨S8448x128, .f32⟩
  | .hbm, ⟨21, _⟩ => ⟨S8448x1024, .f32⟩
  | .hbm, ⟨22, _⟩ => ⟨S_, .i32⟩
  | .hbm, ⟨23, _⟩ => ⟨S_, .f32⟩
  | .hbm, ⟨24, _⟩ => ⟨S8448x1024, .f32⟩
  | .hbm, ⟨25, _⟩ => ⟨S8448x1536, .f32⟩
  | .hbm, ⟨26, _⟩ => ⟨S_, .i32⟩
  | .hbm, ⟨27, _⟩ => ⟨S_, .f32⟩
  | .hbm, ⟨28, _⟩ => ⟨S8448x1536, .f32⟩
  | .hbm, ⟨29, _⟩ => ⟨S8448x16, .f32⟩
  | .hbm, ⟨30, _⟩ => ⟨S_, .i32⟩
  | .hbm, ⟨31, _⟩ => ⟨S_, .f32⟩
  | .hbm, ⟨32, _⟩ => ⟨S8448x128, .f32⟩
  | .hbm, ⟨33, _⟩ => ⟨S8448x384, .bf16⟩
  | .hbm, ⟨34, _⟩ => ⟨S8448x256, .bf16⟩
  | .hbm, ⟨35, _⟩ => ⟨S8448x1024, .bf16⟩
  | .hbm, ⟨36, _⟩ => ⟨S8448x1536, .bf16⟩
  | .hbm, ⟨37, _⟩ => ⟨S1024x3280, .f32⟩
  | .hbm, ⟨38, _⟩ => ⟨S1024x3280, .bf16⟩
  | .hbm, ⟨39, _⟩ => ⟨S1024x384, .bf16⟩
  | .hbm, ⟨40, _⟩ => ⟨S_, .i32⟩
  | .hbm, ⟨41, _⟩ => ⟨S_, .bf16⟩
  | .hbm, ⟨42, _⟩ => ⟨S1024x384, .bf16⟩
  | .hbm, ⟨43, _⟩ => ⟨S1024x256, .bf16⟩
  | .hbm, ⟨44, _⟩ => ⟨S_, .i32⟩
  | .hbm, ⟨45, _⟩ => ⟨S_, .bf16⟩
  | .hbm, ⟨46, _⟩ => ⟨S1024x256, .bf16⟩
  | .hbm, ⟨47, _⟩ => ⟨S1024x64, .bf16⟩
  | .hbm, ⟨48, _⟩ => ⟨S_, .i32⟩
  | .hbm, ⟨49, _⟩ => ⟨S_, .bf16⟩
  | .hbm, ⟨50, _⟩ => ⟨S1024x128, .bf16⟩
  | .hbm, ⟨51, _⟩ => ⟨S1024x1024, .bf16⟩
  | .hbm, ⟨52, _⟩ => ⟨S_, .i32⟩
  | .hbm, ⟨53, _⟩ => ⟨S_, .bf16⟩
  | .hbm, ⟨54, _⟩ => ⟨S1024x1024, .bf16⟩
  | .hbm, ⟨55, _⟩ => ⟨S1024x1536, .bf16⟩
  | .hbm, ⟨56, _⟩ => ⟨S_, .i32⟩
  | .hbm, ⟨57, _⟩ => ⟨S_, .bf16⟩
  | .hbm, ⟨58, _⟩ => ⟨S1024x1536, .bf16⟩
  | .hbm, ⟨59, _⟩ => ⟨S1024x16, .bf16⟩
  | .hbm, ⟨60, _⟩ => ⟨S_, .i32⟩
  | .hbm, ⟨61, _⟩ => ⟨S_, .bf16⟩
  | .hbm, ⟨62, _⟩ => ⟨S1024x128, .bf16⟩
  | .hbm, ⟨63, _⟩ => ⟨S8208x1024, .f32⟩
  | .hbm, ⟨64, _⟩ => ⟨S_, .i32⟩
  | .hbm, ⟨65, _⟩ => ⟨S_, .f32⟩
  | .hbm, ⟨66, _⟩ => ⟨S8448x1024, .f32⟩
  | .hbm, ⟨67, _⟩ => ⟨S8208x1024, .f32⟩
  | .hbm, ⟨68, _⟩ => ⟨S_, .i32⟩
  | .hbm, ⟨69, _⟩ => ⟨S_, .f32⟩
  | .hbm, ⟨70, _⟩ => ⟨S8448x1024, .f32⟩
  | .hbm, ⟨71, _⟩ => ⟨S8448x1024, .f32⟩
  | .hbm, ⟨72, _⟩ => ⟨S1x1024, .f32⟩
  | .local _ .vmem, ⟨0, _⟩ => ⟨S384x384, .bf16⟩
  | .local _ .vmem, ⟨1, _⟩ => ⟨S384x384, .bf16⟩
  | .local _ .vmem, ⟨2, _⟩ => ⟨S384x256, .bf16⟩
  | .local _ .vmem, ⟨3, _⟩ => ⟨S384x256, .bf16⟩
  | .local _ .vmem, ⟨4, _⟩ => ⟨S384x128, .f32⟩
  | .local _ .vmem, ⟨5, _⟩ => ⟨S384x128, .f32⟩
  | .local _ .vmem, ⟨6, _⟩ => ⟨S384x1024, .bf16⟩
  | .local _ .vmem, ⟨7, _⟩ => ⟨S384x1024, .bf16⟩
  | .local _ .vmem, ⟨8, _⟩ => ⟨S384x1536, .bf16⟩
  | .local _ .vmem, ⟨9, _⟩ => ⟨S384x1536, .bf16⟩
  | .local _ .vmem, ⟨10, _⟩ => ⟨S384x128, .f32⟩
  | .local _ .vmem, ⟨11, _⟩ => ⟨S384x128, .f32⟩
  | .local _ .vmem, ⟨12, _⟩ => ⟨S1024x384, .bf16⟩
  | .local _ .vmem, ⟨13, _⟩ => ⟨S1024x256, .bf16⟩
  | .local _ .vmem, ⟨14, _⟩ => ⟨S1024x128, .bf16⟩
  | .local _ .vmem, ⟨15, _⟩ => ⟨S1024x1024, .bf16⟩
  | .local _ .vmem, ⟨16, _⟩ => ⟨S1024x1536, .bf16⟩
  | .local _ .vmem, ⟨17, _⟩ => ⟨S1024x128, .bf16⟩
  | .local _ .vmem, ⟨18, _⟩ => ⟨S384x1024, .f32⟩
  | .local _ .vmem, ⟨19, _⟩ => ⟨S384x1024, .f32⟩
  | .local _ .vmem, ⟨20, _⟩ => ⟨S1x1024, .f32⟩
  | .local _ .vmem, ⟨21, _⟩ => ⟨S384x1024, .f32⟩
  | .local _ .vmem, ⟨22, _⟩ => ⟨S384x1024, .f32⟩
  | .local _ .vmem, ⟨23, _⟩ => ⟨S384x1024, .f32⟩
  | .local _ .vmem, ⟨24, _⟩ => ⟨S384x1024, .f32⟩
  | .local _ .vmem, ⟨25, _⟩ => ⟨S1x1024, .f32⟩
  | _, _ => ⟨S1x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_call3_v0 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_call4_v0 : Ref sig .tc := ⟨.hbm, 23, rfl⟩
abbrev main_v9 : Ref sig .tc := ⟨.hbm, 24, rfl⟩
abbrev main_v10 : Ref sig .tc := ⟨.hbm, 25, rfl⟩
abbrev main_c_4 : Ref sig .tc := ⟨.hbm, 26, rfl⟩
abbrev main_call5_v0 : Ref sig .tc := ⟨.hbm, 27, rfl⟩
abbrev main_v11 : Ref sig .tc := ⟨.hbm, 28, rfl⟩
abbrev main_v12 : Ref sig .tc := ⟨.hbm, 29, rfl⟩
abbrev main_c_5 : Ref sig .tc := ⟨.hbm, 30, rfl⟩
abbrev main_call6_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_6 : Ref sig .tc := ⟨.hbm, 40, rfl⟩
abbrev main_call7_v0 : Ref sig .tc := ⟨.hbm, 41, rfl⟩
abbrev main_v21 : Ref sig .tc := ⟨.hbm, 42, rfl⟩
abbrev main_v22 : Ref sig .tc := ⟨.hbm, 43, rfl⟩
abbrev main_c_7 : Ref sig .tc := ⟨.hbm, 44, rfl⟩
abbrev main_call8_v0 : Ref sig .tc := ⟨.hbm, 45, rfl⟩
abbrev main_v23 : Ref sig .tc := ⟨.hbm, 46, rfl⟩
abbrev main_v24 : Ref sig .tc := ⟨.hbm, 47, rfl⟩
abbrev main_c_8 : Ref sig .tc := ⟨.hbm, 48, rfl⟩
abbrev main_call9_v0 : Ref sig .tc := ⟨.hbm, 49, rfl⟩
abbrev main_v25 : Ref sig .tc := ⟨.hbm, 50, rfl⟩
abbrev main_v26 : Ref sig .tc := ⟨.hbm, 51, rfl⟩
abbrev main_c_9 : Ref sig .tc := ⟨.hbm, 52, rfl⟩
abbrev main_call10_v0 : Ref sig .tc := ⟨.hbm, 53, rfl⟩
abbrev main_v27 : Ref sig .tc := ⟨.hbm, 54, rfl⟩
abbrev main_v28 : Ref sig .tc := ⟨.hbm, 55, rfl⟩
abbrev main_c_10 : Ref sig .tc := ⟨.hbm, 56, rfl⟩
abbrev main_call11_v0 : Ref sig .tc := ⟨.hbm, 57, rfl⟩
abbrev main_v29 : Ref sig .tc := ⟨.hbm, 58, rfl⟩
abbrev main_v30 : Ref sig .tc := ⟨.hbm, 59, rfl⟩
abbrev main_c_11 : Ref sig .tc := ⟨.hbm, 60, rfl⟩
abbrev main_call12_v0 : Ref sig .tc := ⟨.hbm, 61, rfl⟩
abbrev main_v31 : Ref sig .tc := ⟨.hbm, 62, rfl⟩
abbrev main_v32 : Ref sig .tc := ⟨.hbm, 63, rfl⟩
abbrev main_c_12 : Ref sig .tc := ⟨.hbm, 64, rfl⟩
abbrev main_call13_v0 : Ref sig .tc := ⟨.hbm, 65, rfl⟩
abbrev main_v33 : Ref sig .tc := ⟨.hbm, 66, rfl⟩
abbrev main_v34 : Ref sig .tc := ⟨.hbm, 67, rfl⟩
abbrev main_c_13 : Ref sig .tc := ⟨.hbm, 68, rfl⟩
abbrev main_call14_v0 : Ref sig .tc := ⟨.hbm, 69, rfl⟩
abbrev main_v35 : Ref sig .tc := ⟨.hbm, 70, rfl⟩
abbrev main_v36_0 : Ref sig .tc := ⟨.hbm, 71, rfl⟩
abbrev main_v36_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S384x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S384x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S384x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== InProjDxRefIdeal.lean ====
abbrev S1x8208x1024 : Shape := ⟨3, ![1, 8208, 1024]⟩
abbrev S1x1024 : Shape := ⟨2, ![1, 1024]⟩
abbrev S1x1024x3280 : Shape := ⟨3, ![1, 1024, 3280]⟩
abbrev S1x8208x3280 : Shape := ⟨3, ![1, 8208, 3280]⟩
abbrev S1024 : Shape := ⟨1, ![1024]⟩
abbrev S_ : Shape := ⟨0, ![]⟩
abbrev S1x8208 : Shape := ⟨2, ![1, 8208]⟩
abbrev S1x8208x1 : Shape := ⟨3, ![1, 8208, 1]⟩
abbrev S1x1x1024 : Shape := ⟨3, ![1, 1, 1024]⟩
abbrev S1024x3280 : Shape := ⟨2, ![1024, 3280]⟩
abbrev S8208 : Shape := ⟨1, ![8208]⟩
abbrev S8208x1024 : Shape := ⟨2, ![8208, 1024]⟩
abbrev S8448x1024 : Shape := ⟨2, ![8448, 1024]⟩

abbrev nBuf : Space → Nat
  | .hbm => 61
  | .vmem => 0
  | .smem => 0
  | _ => 0

abbrev bufTy : (tb : Table) → Fin (tcTables nBuf tb) → BufTy
  | .hbm, ⟨0, _⟩ => ⟨S1x8208x1024, .f32⟩
  | .hbm, ⟨1, _⟩ => ⟨S1x1024, .f32⟩
  | .hbm, ⟨2, _⟩ => ⟨S1x1024x3280, .f32⟩
  | .hbm, ⟨3, _⟩ => ⟨S1x8208x1024, .f32⟩
  | .hbm, ⟨4, _⟩ => ⟨S1x8208x3280, .f32⟩
  | .hbm, ⟨5, _⟩ => ⟨S1024, .f32⟩
  | .hbm, ⟨6, _⟩ => ⟨S1x8208x1024, .f32⟩
  | .hbm, ⟨7, _⟩ => ⟨S_, .f32⟩
  | .hbm, ⟨8, _⟩ => ⟨S1x8208, .f32⟩
  | .hbm, ⟨9, _⟩ => ⟨S1x8208x1, .f32⟩
  | .hbm, ⟨10, _⟩ => ⟨S_, .f32⟩
  | .hbm, ⟨11, _⟩ => ⟨S1x8208x1, .f32⟩
  | .hbm, ⟨12, _⟩ => ⟨S1x8208x1, .f32⟩
  | .hbm, ⟨13, _⟩ => ⟨S_, .f32⟩
  | .hbm, ⟨14, _⟩ => ⟨S1x8208x1, .f32⟩
  | .hbm, ⟨15, _⟩ => ⟨S1x8208x1, .f32⟩
  | .hbm, ⟨16, _⟩ => ⟨S1x8208x1, .f32⟩
  | .hbm, ⟨17, _⟩ => ⟨S1x8208x1, .f32⟩
  | .hbm, ⟨18, _⟩ => ⟨S_, .f32⟩
  | .hbm, ⟨19, _⟩ => ⟨S1x8208x1, .f32⟩
  | .hbm, ⟨20, _⟩ => ⟨S1x8208x1, .f32⟩
  | .hbm, ⟨21, _⟩ => ⟨S1x8208x1024, .f32⟩
  | .hbm, ⟨22, _⟩ => ⟨S1x8208x1024, .f32⟩
  | .hbm, ⟨23, _⟩ => ⟨S1x1x1024, .f32⟩
  | .hbm, ⟨24, _⟩ => ⟨S1x8208x1024, .f32⟩
  | .hbm, ⟨25, _⟩ => ⟨S1x8208x1024, .f32⟩
  | .hbm, ⟨26, _⟩ => ⟨S1024x3280, .f32⟩
  | .hbm, ⟨27, _⟩ => ⟨S1x8208x3280, .f32⟩
  | .hbm, ⟨28, _⟩ => ⟨S1x8208x1024, .f32⟩
  | .hbm, ⟨29, _⟩ => ⟨S1x8208x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x8208x1024, .f32⟩
  | .hbm, ⟨34, _⟩ => ⟨S1x8208x1024, .f32⟩
  | .hbm, ⟨35, _⟩ => ⟨S_, .f32⟩
  | .hbm, ⟨36, _⟩ => ⟨S1024, .f32⟩
  | .hbm, ⟨37, _⟩ => ⟨S1x8208x1024, .f32⟩
  | .hbm, ⟨38, _⟩ => ⟨S_, .f32⟩
  | .hbm, ⟨39, _⟩ => ⟨S1x8208, .f32⟩
  | .hbm, ⟨40, _⟩ => ⟨S1x8208x1, .f32⟩
  | .hbm, ⟨41, _⟩ => ⟨S1x8208x1024, .f32⟩
  | .hbm, ⟨42, _⟩ => ⟨S1x8208x1024, .f32⟩
  | .hbm, ⟨43, _⟩ => ⟨S1x8208x1024, .f32⟩
  | .hbm, ⟨44, _⟩ => ⟨S1x8208x1, .f32⟩
  | .hbm, ⟨45, _⟩ => ⟨S_, .f32⟩
  | .hbm, ⟨46, _⟩ => ⟨S1x8208x1, .f32⟩
  | .hbm, ⟨47, _⟩ => ⟨S1x8208x1, .f32⟩
  | .hbm, ⟨48, _⟩ => ⟨S_, .f32⟩
  | .hbm, ⟨49, _⟩ => ⟨S8208, .f32⟩
  | .hbm, ⟨50, _⟩ => ⟨S1x8208, .f32⟩
  | .hbm, ⟨51, _⟩ => ⟨S1x8208x1024, .f32⟩
  | .hbm, ⟨52, _⟩ => ⟨S1x8208x1024, .f32⟩
  | .hbm, ⟨53, _⟩ => ⟨S1x8208x1024, .f32⟩
  | .hbm, ⟨54, _⟩ => ⟨S1x8208x1024, .f32⟩
  | .hbm, ⟨55, _⟩ => ⟨S1x8208x1024, .f32⟩
  | .hbm, ⟨56, _⟩ => ⟨S1x1024, .f32⟩
  | .hbm, ⟨57, _⟩ => ⟨S8208x1024, .f32⟩
  | .hbm, ⟨58, _⟩ => ⟨S_, .i32⟩
  | .hbm, ⟨59, _⟩ => ⟨S_, .f32⟩
  | .hbm, ⟨60, _⟩ => ⟨S8448x1024, .f32⟩
  | _, _ => ⟨S1x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c : Ref sig .tc := ⟨.hbm, 58, rfl⟩
abbrev main_call0_v0 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== FlashBwd.lean ====
abbrev S1x8208x8x128 : Shape := ⟨4, ![1, 8208, 8, 128]⟩
abbrev S1x8208x8x64 : Shape := ⟨4, ![1, 8208, 8, 64]⟩
abbrev S1x8208x64 : Shape := ⟨3, ![1, 8208, 64]⟩
abbrev S_ : Shape := ⟨0, ![]⟩
abbrev S1x8208x1x64 : Shape := ⟨4, ![1, 8208, 1, 64]⟩
abbrev S1x8208x8x192 : Shape := ⟨4, ![1, 8208, 8, 192]⟩
abbrev S8208x8x192 : Shape := ⟨3, ![8208, 8, 192]⟩
abbrev S8x8208x192 : Shape := ⟨3, ![8, 8208, 192]⟩
abbrev S8x8448x256 : Shape := ⟨3, ![8, 8448, 256]⟩
abbrev S8208x8x128 : Shape := ⟨3, ![8208, 8, 128]⟩
abbrev S8x8208x128 : Shape := ⟨3, ![8, 8208, 128]⟩
abbrev S8x8448x128 : Shape := ⟨3, ![8, 8448, 128]⟩
abbrev S8x8448x8448 : Shape := ⟨3, ![8, 8448, 8448]⟩
abbrev S8448x8448 : Shape := ⟨2, ![8448, 8448]⟩
abbrev S8x8448 : Shape := ⟨2, ![8, 8448]⟩
abbrev S8x8448x1 : Shape := ⟨3, ![8, 8448, 1]⟩
abbrev S8x11x1x768 : Shape := ⟨4, ![8, 11, 1, 768]⟩
abbrev S1x8448x256 : Shape := ⟨3, ![1, 8448, 256]⟩
abbrev S1x8448x128 : Shape := ⟨3, ![1, 8448, 128]⟩
abbrev S1x11x1x768 : Shape := ⟨4, ![1, 11, 1, 768]⟩
abbrev S1x768x256 : Shape := ⟨3, ![1, 768, 256]⟩
abbrev S1x768x128 : Shape := ⟨3, ![1, 768, 128]⟩
abbrev S768x256 : Shape := ⟨2, ![768, 256]⟩
abbrev S768x128 : Shape := ⟨2, ![768, 128]⟩
abbrev S768x768 : Shape := ⟨2, ![768, 768]⟩
abbrev S1x1x1x768 : Shape := ⟨4, ![1, 1, 1, 768]⟩
abbrev S1x768 : Shape := ⟨2, ![1, 768]⟩

abbrev nBuf : Space → Nat
  | .hbm => 77
  | .vmem => 20
  | .smem => 0
  | _ => 0

abbrev bufTy : (tb : Table) → Fin (tcTables nBuf tb) → BufTy
  | .hbm, ⟨0, _⟩ => ⟨S1x8208x8x128, .f32⟩
  | .hbm, ⟨1, _⟩ => ⟨S1x8208x8x64, .f32⟩
  | .hbm, ⟨2, _⟩ => ⟨S1x8208x8x128, .f32⟩
  | .hbm, ⟨3, _⟩ => ⟨S1x8208x64, .f32⟩
  | .hbm, ⟨4, _⟩ => ⟨S1x8208x8x128, .f32⟩
  | .hbm, ⟨5, _⟩ => ⟨S1x8208x8x128, .f32⟩
  | .hbm, ⟨6, _⟩ => ⟨S_, .f32⟩
  | .hbm, ⟨7, _⟩ => ⟨S_, .f32⟩
  | .hbm, ⟨8, _⟩ => ⟨S1x8208x1x64, .f32⟩
  | .hbm, ⟨9, _⟩ => ⟨S1x8208x8x64, .f32⟩
  | .hbm, ⟨10, _⟩ => ⟨S1x8208x8x192, .f32⟩
  | .hbm, ⟨11, _⟩ => ⟨S_, .f32⟩
  | .hbm, ⟨12, _⟩ => ⟨S1x8208x8x192, .f32⟩
  | .hbm, ⟨13, _⟩ => ⟨S1x8208x8x192, .f32⟩
  | .hbm, ⟨14, _⟩ => ⟨S1x8208x8x192, .f32⟩
  | .hbm, ⟨15, _⟩ => ⟨S1x8208x8x192, .f32⟩
  | .hbm, ⟨16, _⟩ => ⟨S8208x8x192, .f32⟩
  | .hbm, ⟨17, _⟩ => ⟨S8x8208x192, .f32⟩
  | .hbm, ⟨18, _⟩ => ⟨S_, .i32⟩
  | .hbm, ⟨19, _⟩ => ⟨S_, .f32⟩
  | .hbm, ⟨20, _⟩ => ⟨S8x8448x256, .f32⟩
  | .hbm, ⟨21, _⟩ => ⟨S8x8448x256, .bf16⟩
  | .hbm, ⟨22, _⟩ => ⟨S1x8208x8x192, .f32⟩
  | .hbm, ⟨23, _⟩ => ⟨S8208x8x192, .f32⟩
  | .hbm, ⟨24, _⟩ => ⟨S8x8208x192, .f32⟩
  | .hbm, ⟨25, _⟩ => ⟨S_, .i32⟩
  | .hbm, ⟨26, _⟩ => ⟨S_, .f32⟩
  | .hbm, ⟨27, _⟩ => ⟨S8x8448x256, .f32⟩
  | .hbm, ⟨28, _⟩ => ⟨S8x8448x256, .bf16⟩
  | .hbm, ⟨29, _⟩ => ⟨S8208x8x128, .f32⟩
  | .hbm, ⟨30, _⟩ => ⟨S8x8208x128, .f32⟩
  | .hbm, ⟨31, _⟩ => ⟨S_, .i32⟩
  | .hbm, ⟨32, _⟩ => ⟨S_, .f32⟩
  | .hbm, ⟨33, _⟩ => ⟨S8x8448x128, .f32⟩
  | .hbm, ⟨34, _⟩ => ⟨S8x8448x128, .bf16⟩
  | .hbm, ⟨35, _⟩ => ⟨S8208x8x128, .f32⟩
  | .hbm, ⟨36, _⟩ => ⟨S8x8208x128, .f32⟩
  | .hbm, ⟨37, _⟩ => ⟨S_, .i32⟩
  | .hbm, ⟨38, _⟩ => ⟨S_, .f32⟩
  | .hbm, ⟨39, _⟩ => ⟨S8x8448x128, .f32⟩
  | .hbm, ⟨40, _⟩ => ⟨S8x8448x8448, .f32⟩
  | .hbm, ⟨41, _⟩ => ⟨S8448x8448, .i32⟩
  | .hbm, ⟨42, _⟩ => ⟨S8448x8448, .i32⟩
  | .hbm, ⟨43, _⟩ => ⟨S8448x8448, .i1⟩
  | .hbm, ⟨44, _⟩ => ⟨S_, .f32⟩
  | .hbm, ⟨45, _⟩ => ⟨S_, .f32⟩
  | .hbm, ⟨46, _⟩ => ⟨S8x8448x8448, .i1⟩
  | .hbm, ⟨47, _⟩ => ⟨S8x8448x8448, .f32⟩
  | .hbm, ⟨48, _⟩ => ⟨S8x8448x8448, .f32⟩
  | .hbm, ⟨49, _⟩ => ⟨S_, .f32⟩
  | .hbm, ⟨50, _⟩ => ⟨S8x8448, .f32⟩
  | .hbm, ⟨51, _⟩ => ⟨S8x8448x1, .f32⟩
  | .hbm, ⟨52, _⟩ => ⟨S8x8448x8448, .f32⟩
  | .hbm, ⟨53, _⟩ => ⟨S8x8448x8448, .f32⟩
  | .hbm, ⟨54, _⟩ => ⟨S8x8448x8448, .f32⟩
  | .hbm, ⟨55, _⟩ => ⟨S8x8448x8448, .f32⟩
  | .hbm, ⟨56, _⟩ => ⟨S8x8448x8448, .f32⟩
  | .hbm, ⟨57, _⟩ => ⟨S_, .f32⟩
  | .hbm, ⟨58, _⟩ => ⟨S8x8448, .f32⟩
  | .hbm, ⟨59, _⟩ => ⟨S8x8448x1, .f32⟩
  | .hbm, ⟨60, _⟩ => ⟨S8x8448x8448, .bf16⟩
  | .hbm, ⟨61, _⟩ => ⟨S8x8448x128, .f32⟩
  | .hbm, ⟨62, _⟩ => ⟨S8x8448x128, .f32⟩
  | .hbm, ⟨63, _⟩ => ⟨S8x8448x128, .f32⟩
  | .hbm, ⟨64, _⟩ => ⟨S8x8448x1, .f32⟩
  | .hbm, ⟨65, _⟩ => ⟨S8x8448x1, .f32⟩
  | .hbm, ⟨66, _⟩ => ⟨S8x8448x1, .f32⟩
  | .hbm, ⟨67, _⟩ => ⟨S8x8448x1, .f32⟩
  | .hbm, ⟨68, _⟩ => ⟨S8x8448x128, .f32⟩
  | .hbm, ⟨69, _⟩ => ⟨S_, .f32⟩
  | .hbm, ⟨70, _⟩ => ⟨S8x8448, .f32⟩
  | .hbm, ⟨71, _⟩ => ⟨S8x8448x128, .bf16⟩
  | .hbm, ⟨72, _⟩ => ⟨S8x11x1x768, .f32⟩
  | .hbm, ⟨73, _⟩ => ⟨S8x11x1x768, .f32⟩
  | .hbm, ⟨74, _⟩ => ⟨S8x8448x256, .f32⟩
  | .hbm, ⟨75, _⟩ => ⟨S8x8448x256, .f32⟩
  | .hbm, ⟨76, _⟩ => ⟨S8x8448x128, .f32⟩
  | .local _ .vmem, ⟨0, _⟩ => ⟨S1x8448x256, .bf16⟩
  | .local _ .vmem, ⟨1, _⟩ => ⟨S1x8448x256, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x11x1x768, .f32⟩
  | .local _ .vmem, ⟨5, _⟩ => ⟨S1x11x1x768, .f32⟩
  | .local _ .vmem, ⟨6, _⟩ => ⟨S1x11x1x768, .f32⟩
  | .local _ .vmem, ⟨7, _⟩ => ⟨S1x11x1x768, .f32⟩
  | .local _ .vmem, ⟨8, _⟩ => ⟨S1x768x256, .bf16⟩
  | .local _ .vmem, ⟨9, _⟩ => ⟨S1x768x256, .bf16⟩
  | .local _ .vmem, ⟨10, _⟩ => ⟨S1x768x128, .bf16⟩
  | .local _ .vmem, ⟨11, _⟩ => ⟨S1x768x128, .bf16⟩
  | .local _ .vmem, ⟨12, _⟩ => ⟨S1x8448x256, .f32⟩
  | .local _ .vmem, ⟨13, _⟩ => ⟨S1x8448x256, .f32⟩
  | .local _ .vmem, ⟨14, _⟩ => ⟨S1x768x256, .f32⟩
  | .local _ .vmem, ⟨15, _⟩ => ⟨S1x768x256, .f32⟩
  | .local _ .vmem, ⟨16, _⟩ => ⟨S1x768x128, .f32⟩
  | .local _ .vmem, ⟨17, _⟩ => ⟨S1x768x128, .f32⟩
  | .local _ .vmem, ⟨18, _⟩ => ⟨S768x256, .f32⟩
  | .local _ .vmem, ⟨19, _⟩ => ⟨S768x128, .f32⟩
  | _, _ => ⟨S1x8208x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_call2_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_call3_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_call4_v0 : Ref sig .tc := ⟨.hbm, 45, rfl⟩
abbrev main_call4_v1 : Ref sig .tc := ⟨.hbm, 46, rfl⟩
abbrev main_call4_v2 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51_0 : Ref sig .tc := ⟨.hbm, 74, rfl⟩
abbrev main_v51_1 : Ref sig .tc := ⟨.hbm, 75, rfl⟩
abbrev main_v51_2 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 11], ![false, false]⟩

def k0_mult1 (i : grid0.Coords) : BitVec 32 :=
  let arg1 : BitVec 32 := BitVec.ofNat 32 (i 1).val
  let c768_i32 : BitVec 32 := 768#32
  let v15 : BitVec 32 := Scalar.muli arg1 c768_i32
  v15
def k0_off1 (i : grid0.Coords) : Fin 3 → Nat :=
  let c0_11 : Index := 0#32
  let arg1 : BitVec 32 := BitVec.ofNat 32 (i 1).val
  let c768_i32 : BitVec 32 := 768#32
  let v15 : BitVec 32 := Scalar.muli arg1 c768_i32
  let v16 : BitVec 32 := v15
  let v17 : Index := Scalar.indexCast v16
  let c0_12 : Index := 0#32
  ![0, v17.toNat, 0]
def k0_off2 (i : grid0.Coords) : Fin 3 → Nat :=
  let c0_13 : Index := 0#32
  let arg1 : BitVec 32 := BitVec.ofNat 32 (i 1).val
  let c768_i32 : BitVec 32 := 768#32
  let v15 : BitVec 32 := Scalar.muli arg1 c768_i32
  let v16 : BitVec 32 := v15
  let v20 : Index := Scalar.indexCast v16
  let c0_14 : Index := 0#32
  ![0, v20.toNat, 0]
def k0_off3 (i : grid0.Coords) : Fin 4 → Nat :=
  let c0_17 : Index := 0#32
  let arg1 : BitVec 32 := BitVec.ofNat 32 (i 1).val
  let v29 : Index := Scalar.indexCast arg1
  let c0_18 : Index := 0#32
  let c0_19 : Index := 0#32
  ![0, v29.toNat, 0, 0]
@[reducible] def k0_t1_loop (i : grid0.Coords) : Scf.Loop 32 :=
  let arg1 : BitVec 32 := BitVec.ofNat 32 (i 1).val
  let c1_i32 : BitVec 32 := 1#32
  let v65 : BitVec 32 := Scalar.addi arg1 c1_i32
  let c11_i32 : BitVec 32 := 11#32
  let v66 : BitVec 32 := Scalar.subi c11_i32 v65
  let c1_i32_40 : BitVec 32 := 1#32
  let v68 : BitVec 32 := Scalar.divsi v66 c1_i32_40
  let v69 : BitVec 32 := Scalar.muli v68 c1_i32_40
  let v70 : BitVec 32 := Scalar.addi v65 v69
  let c1_i32_41 : BitVec 32 := 1#32
  ⟨v65, v70, c1_i32_41⟩
def k0_mult2 (i : grid0.Coords) (k0_t1 : Fin (k0_t1_loop i).trips) : BitVec 32 :=
  let arg1 : BitVec 32 := BitVec.ofNat 32 (i 1).val
  let c1_i32 : BitVec 32 := 1#32
  let v65 : BitVec 32 := Scalar.addi arg1 c1_i32
  let c1_i32_41 : BitVec 32 := 1#32
  let arg13 : BitVec 32 := Scf.iv v65 c1_i32_41 k0_t1
  let c768_i32_54 : BitVec 32 := 768#32
  let v81 : BitVec 32 := Scalar.muli arg13 c768_i32_54
  v81
def k0_off4 (i : grid0.Coords) (k0_t1 : Fin (k0_t1_loop i).trips) : Fin 3 → Nat :=
  let c0_55 : Index := 0#32
  let arg1 : BitVec 32 := BitVec.ofNat 32 (i 1).val
  let c1_i32 : BitVec 32 := 1#32
  let v65 : BitVec 32 := Scalar.addi arg1 c1_i32
  let c1_i32_41 : BitVec 32 := 1#32
  let arg13 : BitVec 32 := Scf.iv v65 c1_i32_41 k0_t1
  let c768_i32_54 : BitVec 32 := 768#32
  let v81 : BitVec 32 := Scalar.muli arg13 c768_i32_54
  let v82 : BitVec 32 := v81
  let v83 : Index := Scalar.indexCast v82
  let c0_56 : Index := 0#32
  ![0, v83.toNat, 0]
def k0_off5 (i : grid0.Coords) (k0_t1 : Fin (k0_t1_loop i).trips) : Fin 3 → Nat :=
  let c0_57 : Index := 0#32
  let arg1 : BitVec 32 := BitVec.ofNat 32 (i 1).val
  let c1_i32 : BitVec 32 := 1#32
  let v65 : BitVec 32 := Scalar.addi arg1 c1_i32
  let c1_i32_41 : BitVec 32 := 1#32
  let arg13 : BitVec 32 := Scf.iv v65 c1_i32_41 k0_t1
  let c768_i32_54 : BitVec 32 := 768#32
  let v81 : BitVec 32 := Scalar.muli arg13 c768_i32_54
  let v82 : BitVec 32 := v81
  let v86 : Index := Scalar.indexCast v82
  let c0_58 : Index := 0#32
  ![0, v86.toNat, 0]
def k0_off6 (i : grid0.Coords) (k0_t1 : Fin (k0_t1_loop i).trips) : Fin 4 → Nat :=
  let c0_60 : Index := 0#32
  let arg1 : BitVec 32 := BitVec.ofNat 32 (i 1).val
  let c1_i32 : BitVec 32 := 1#32
  let v65 : BitVec 32 := Scalar.addi arg1 c1_i32
  let c1_i32_41 : BitVec 32 := 1#32
  let arg13 : BitVec 32 := Scf.iv v65 c1_i32_41 k0_t1
  let v90 : Index := Scalar.indexCast arg13
  let c0_61 : Index := 0#32
  let c0_62 : Index := 0#32
  ![0, v90.toNat, 0, 0]
@[reducible] def k0_t2_loop (i : grid0.Coords) : Scf.Loop 32 :=
  let arg1 : BitVec 32 := BitVec.ofNat 32 (i 1).val
  let c1_i32 : BitVec 32 := 1#32
  let v65 : BitVec 32 := Scalar.addi arg1 c1_i32
  let c11_i32 : BitVec 32 := 11#32
  let v66 : BitVec 32 := Scalar.subi c11_i32 v65
  let c1_i32_40 : BitVec 32 := 1#32
  let v68 : BitVec 32 := Scalar.divsi v66 c1_i32_40
  let v69 : BitVec 32 := Scalar.muli v68 c1_i32_40
  let v70 : BitVec 32 := Scalar.addi v65 v69
  let v67 : BitVec 32 := Scalar.addi v65 v66
  let c1_i32_42 : BitVec 32 := 1#32
  ⟨v70, v67, c1_i32_42⟩
def k0_mult3 (i : grid0.Coords) (k0_t2 : Fin (k0_t2_loop i).trips) : BitVec 32 :=
  let arg1 : BitVec 32 := BitVec.ofNat 32 (i 1).val
  let c1_i32 : BitVec 32 := 1#32
  let v65 : BitVec 32 := Scalar.addi arg1 c1_i32
  let c11_i32 : BitVec 32 := 11#32
  let v66 : BitVec 32 := Scalar.subi c11_i32 v65
  let c1_i32_40 : BitVec 32 := 1#32
  let v68 : BitVec 32 := Scalar.divsi v66 c1_i32_40
  let v69 : BitVec 32 := Scalar.muli v68 c1_i32_40
  let v70 : BitVec 32 := Scalar.addi v65 v69
  let c1_i32_42 : BitVec 32 := 1#32
  let arg13 : BitVec 32 := Scf.iv v70 c1_i32_42 k0_t2
  let c768_i32_54 : BitVec 32 := 768#32
  let v81 : BitVec 32 := Scalar.muli arg13 c768_i32_54
  v81
def k0_off7 (i : grid0.Coords) (k0_t2 : Fin (k0_t2_loop i).trips) : Fin 3 → Nat :=
  let c0_55 : Index := 0#32
  let arg1 : BitVec 32 := BitVec.ofNat 32 (i 1).val
  let c1_i32 : BitVec 32 := 1#32
  let v65 : BitVec 32 := Scalar.addi arg1 c1_i32
  let c11_i32 : BitVec 32 := 11#32
  let v66 : BitVec 32 := Scalar.subi c11_i32 v65
  let c1_i32_40 : BitVec 32 := 1#32
  let v68 : BitVec 32 := Scalar.divsi v66 c1_i32_40
  let v69 : BitVec 32 := Scalar.muli v68 c1_i32_40
  let v70 : BitVec 32 := Scalar.addi v65 v69
  let c1_i32_42 : BitVec 32 := 1#32
  let arg13 : BitVec 32 := Scf.iv v70 c1_i32_42 k0_t2
  let c768_i32_54 : BitVec 32 := 768#32
  let v81 : BitVec 32 := Scalar.muli arg13 c768_i32_54
  let v82 : BitVec 32 := v81
  let v83 : Index := Scalar.indexCast v82
  let c0_56 : Index := 0#32
  ![0, v83.toNat, 0]
def k0_off8 (i : grid0.Coords) (k0_t2 : Fin (k0_t2_loop i).trips) : Fin 3 → Nat :=
  let c0_57 : Index := 0#32
  let arg1 : BitVec 32 := BitVec.ofNat 32 (i 1).val
  let c1_i32 : BitVec 32 := 1#32
  let v65 : BitVec 32 := Scalar.addi arg1 c1_i32
  let c11_i32 : BitVec 32 := 11#32
  let v66 : BitVec 32 := Scalar.subi c11_i32 v65
  let c1_i32_40 : BitVec 32 := 1#32
  let v68 : BitVec 32 := Scalar.divsi v66 c1_i32_40
  let v69 : BitVec 32 := Scalar.muli v68 c1_i32_40
  let v70 : BitVec 32 := Scalar.addi v65 v69
  let c1_i32_42 : BitVec 32 := 1#32
  let arg13 : BitVec 32 := Scf.iv v70 c1_i32_42 k0_t2
  let c768_i32_54 : BitVec 32 := 768#32
  let v81 : BitVec 32 := Scalar.muli arg13 c768_i32_54
  let v82 : BitVec 32 := v81
  let v86 : Index := Scalar.indexCast v82
  let c0_58 : Index := 0#32
  ![0, v86.toNat, 0]
def k0_off9 (i : grid0.Coords) (k0_t2 : Fin (k0_t2_loop i).trips) : Fin 4 → Nat :=
  let c0_60 : Index := 0#32
  let arg1 : BitVec 32 := BitVec.ofNat 32 (i 1).val
  let c1_i32 : BitVec 32 := 1#32
  let v65 : BitVec 32 := Scalar.addi arg1 c1_i32
  let c11_i32 : BitVec 32 := 11#32
  let v66 : BitVec 32 := Scalar.subi c11_i32 v65
  let c1_i32_40 : BitVec 32 := 1#32
  let v68 : BitVec 32 := Scalar.divsi v66 c1_i32_40
  let v69 : BitVec 32 := Scalar.muli v68 c1_i32_40
  let v70 : BitVec 32 := Scalar.addi v65 v69
  let c1_i32_42 : BitVec 32 := 1#32
  let arg13 : BitVec 32 := Scf.iv v70 c1_i32_42 k0_t2
  let v90 : Index := Scalar.indexCast arg13
  let c0_61 : Index := 0#32
  let c0_62 : Index := 0#32
  ![0, v90.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8448x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x11x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x11x1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x768x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x768x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8448x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x768x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x768x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FlashBwdIdeal.lean ====
variable {F : FTy → Type} [FloatOps F] [Named F]
def κ : String → Option EReal := fun
  | "ln2" => some ((Real.log 2 : ℝ) : EReal)
  | "neg" => some ⊥
  | _ => none
-- ==== FlashBwdRefIdeal.lean ====
abbrev S1x8208x8x128 : Shape := ⟨4, ![1, 8208, 8, 128]⟩
abbrev S1x8208x8x64 : Shape := ⟨4, ![1, 8208, 8, 64]⟩
abbrev S1x8208x64 : Shape := ⟨3, ![1, 8208, 64]⟩
abbrev S1x8208x1x64 : Shape := ⟨4, ![1, 8208, 1, 64]⟩
abbrev S1x8208x8x192 : Shape := ⟨4, ![1, 8208, 8, 192]⟩
abbrev S_ : Shape := ⟨0, ![]⟩
abbrev S1x8x8208x8208 : Shape := ⟨4, ![1, 8, 8208, 8208]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S1x8x8208 : Shape := ⟨3, ![1, 8, 8208]⟩
abbrev S1x8x8208x1 : Shape := ⟨4, ![1, 8, 8208, 1]⟩
abbrev S1x8x128x8208 : Shape := ⟨4, ![1, 8, 128, 8208]⟩
abbrev S8x8208 : Shape := ⟨2, ![8, 8208]⟩
abbrev S1x8x8208x192 : Shape := ⟨4, ![1, 8, 8208, 192]⟩
abbrev S8208x8x192 : Shape := ⟨3, ![8208, 8, 192]⟩
abbrev S8x8208x192 : Shape := ⟨3, ![8, 8208, 192]⟩
abbrev S8x8448x256 : Shape := ⟨3, ![8, 8448, 256]⟩
abbrev S8208x8x128 : Shape := ⟨3, ![8208, 8, 128]⟩
abbrev S8x8208x128 : Shape := ⟨3, ![8, 8208, 128]⟩
abbrev S8x8448x128 : Shape := ⟨3, ![8, 8448, 128]⟩

abbrev nBuf : Space → Nat
  | .hbm => 108
  | .vmem => 0
  | .smem => 0
  | _ => 0

abbrev bufTy : (tb : Table) → Fin (tcTables nBuf tb) → BufTy
  | .hbm, ⟨0, _⟩ => ⟨S1x8208x8x128, .f32⟩
  | .hbm, ⟨1, _⟩ => ⟨S1x8208x8x64, .f32⟩
  | .hbm, ⟨2, _⟩ => ⟨S1x8208x8x128, .f32⟩
  | .hbm, ⟨3, _⟩ => ⟨S1x8208x64, .f32⟩
  | .hbm, ⟨4, _⟩ => ⟨S1x8208x8x128, .f32⟩
  | .hbm, ⟨5, _⟩ => ⟨S1x8208x8x128, .f32⟩
  | .hbm, ⟨6, _⟩ => ⟨S1x8208x1x64, .f32⟩
  | .hbm, ⟨7, _⟩ => ⟨S1x8208x8x64, .f32⟩
  | .hbm, ⟨8, _⟩ => ⟨S1x8208x8x192, .f32⟩
  | .hbm, ⟨9, _⟩ => ⟨S_, .f32⟩
  | .hbm, ⟨10, _⟩ => ⟨S1x8208x8x192, .f32⟩
  | .hbm, ⟨11, _⟩ => ⟨S1x8208x8x192, .f32⟩
  | .hbm, ⟨12, _⟩ => ⟨S1x8208x8x192, .f32⟩
  | .hbm, ⟨13, _⟩ => ⟨S1x8x8208x8208, .f32⟩
  | .hbm, ⟨14, _⟩ => ⟨S8208, .i32⟩
  | .hbm, ⟨15, _⟩ => ⟨S1x8208, .i32⟩
  | .hbm, ⟨16, _⟩ => ⟨S8208x1, .i32⟩
  | .hbm, ⟨17, _⟩ => ⟨S8208x8208, .i32⟩
  | .hbm, ⟨18, _⟩ => ⟨S8208x8208, .i32⟩
  | .hbm, ⟨19, _⟩ => ⟨S8208x8208, .i1⟩
  | .hbm, ⟨20, _⟩ => ⟨S_, .f32⟩
  | .hbm, ⟨21, _⟩ => ⟨S_, .f32⟩
  | .hbm, ⟨22, _⟩ => ⟨S1x8x8208x8208, .i1⟩
  | .hbm, ⟨23, _⟩ => ⟨S1x8x8208x8208, .f32⟩
  | .hbm, ⟨24, _⟩ => ⟨S1x8x8208x8208, .f32⟩
  | .hbm, ⟨25, _⟩ => ⟨S_, .f32⟩
  | .hbm, ⟨26, _⟩ => ⟨S1x8x8208x8208, .f32⟩
  | .hbm, ⟨27, _⟩ => ⟨S_, .f32⟩
  | .hbm, ⟨28, _⟩ => ⟨S1x8x8208, .f32⟩
  | .hbm, ⟨29, _⟩ => ⟨S1x8x8208x1, .f32⟩
  | .hbm, ⟨30, _⟩ => ⟨S1x8x8208x8208, .f32⟩
  | .hbm, ⟨31, _⟩ => ⟨S1x8x8208x8208, .i1⟩
  | .hbm, ⟨32, _⟩ => ⟨S1x8x8208x8208, .f32⟩
  | .hbm, ⟨33, _⟩ => ⟨S_, .f32⟩
  | .hbm, ⟨34, _⟩ => ⟨S1x8x8208, .f32⟩
  | .hbm, ⟨35, _⟩ => ⟨S_, .f32⟩
  | .hbm, ⟨36, _⟩ => ⟨S1x8x8208, .f32⟩
  | .hbm, ⟨37, _⟩ => ⟨S1x8x8208, .f32⟩
  | .hbm, ⟨38, _⟩ => ⟨S_, .f32⟩
  | .hbm, ⟨39, _⟩ => ⟨S1x8x8208, .f32⟩
  | .hbm, ⟨40, _⟩ => ⟨S1x8x8208, .i1⟩
  | .hbm, ⟨41, _⟩ => ⟨S_, .f32⟩
  | .hbm, ⟨42, _⟩ => ⟨S1x8x8208, .f32⟩
  | .hbm, ⟨43, _⟩ => ⟨S1x8x8208, .i1⟩
  | .hbm, ⟨44, _⟩ => ⟨S_, .f32⟩
  | .hbm, ⟨45, _⟩ => ⟨S1x8x8208, .f32⟩
  | .hbm, ⟨46, _⟩ => ⟨S_, .f32⟩
  | .hbm, ⟨47, _⟩ => ⟨S1x8x8208, .f32⟩
  | .hbm, ⟨48, _⟩ => ⟨S_, .f32⟩
  | .hbm, ⟨49, _⟩ => ⟨S1x8x8208, .f32⟩
  | .hbm, ⟨50, _⟩ => ⟨S1x8x8208, .f32⟩
  | .hbm, ⟨51, _⟩ => ⟨S1x8x8208, .f32⟩
  | .hbm, ⟨52, _⟩ => ⟨S1x8x8208x1, .f32⟩
  | .hbm, ⟨53, _⟩ => ⟨S1x8x8208x8208, .f32⟩
  | .hbm, ⟨54, _⟩ => ⟨S1x8x8208x8208, .f32⟩
  | .hbm, ⟨55, _⟩ => ⟨S1x8x8208x8208, .f32⟩
  | .hbm, ⟨56, _⟩ => ⟨S_, .f32⟩
  | .hbm, ⟨57, _⟩ => ⟨S1x8x8208, .f32⟩
  | .hbm, ⟨58, _⟩ => ⟨S1x8x8208x1, .f32⟩
  | .hbm, ⟨59, _⟩ => ⟨S1x8x8208x8208, .f32⟩
  | .hbm, ⟨60, _⟩ => ⟨S1x8x8208x8208, .f32⟩
  | .hbm, ⟨61, _⟩ => ⟨S1x8x8208x1, .f32⟩
  | .hbm, ⟨62, _⟩ => ⟨S_, .f32⟩
  | .hbm, ⟨63, _⟩ => ⟨S1x8x8208x1, .f32⟩
  | .hbm, ⟨64, _⟩ => ⟨S1x8x8208x1, .f32⟩
  | .hbm, ⟨65, _⟩ => ⟨S1x8x128x8208, .f32⟩
  | .hbm, ⟨66, _⟩ => ⟨S1x8208x8x128, .f32⟩
  | .hbm, ⟨67, _⟩ => ⟨S1x8x128x8208, .f32⟩
  | .hbm, ⟨68, _⟩ => ⟨S1x8x8208x8208, .f32⟩
  | .hbm, ⟨69, _⟩ => ⟨S1x8x128x8208, .f32⟩
  | .hbm, ⟨70, _⟩ => ⟨S1x8208x8x128, .f32⟩
  | .hbm, ⟨71, _⟩ => ⟨S1x8x8208x8208, .f32⟩
  | .hbm, ⟨72, _⟩ => ⟨S1x8x8208x8208, .f32⟩
  | .hbm, ⟨73, _⟩ => ⟨S1x8x8208x8208, .f32⟩
  | .hbm, ⟨74, _⟩ => ⟨S_, .f32⟩
  | .hbm, ⟨75, _⟩ => ⟨S1x8x8208, .f32⟩
  | .hbm, ⟨76, _⟩ => ⟨S1x8x8208x1, .f32⟩
  | .hbm, ⟨77, _⟩ => ⟨S1x8x8208x1, .f32⟩
  | .hbm, ⟨78, _⟩ => ⟨S1x8x8208x8208, .f32⟩
  | .hbm, ⟨79, _⟩ => ⟨S1x8x8208x8208, .f32⟩
  | .hbm, ⟨80, _⟩ => ⟨S_, .f32⟩
  | .hbm, ⟨81, _⟩ => ⟨S8x8208, .f32⟩
  | .hbm, ⟨82, _⟩ => ⟨S1x8x8208, .f32⟩
  | .hbm, ⟨83, _⟩ => ⟨S1x8x8208x8208, .f32⟩
  | .hbm, ⟨84, _⟩ => ⟨S1x8x8208x8208, .f32⟩
  | .hbm, ⟨85, _⟩ => ⟨S1x8x8208x8208, .f32⟩
  | .hbm, ⟨86, _⟩ => ⟨S_, .f32⟩
  | .hbm, ⟨87, _⟩ => ⟨S1x8x8208x8208, .f32⟩
  | .hbm, ⟨88, _⟩ => ⟨S1x8x8208x8208, .f32⟩
  | .hbm, ⟨89, _⟩ => ⟨S1x8x8208x192, .f32⟩
  | .hbm, ⟨90, _⟩ => ⟨S1x8208x8x192, .f32⟩
  | .hbm, ⟨91, _⟩ => ⟨S1x8x8208x192, .f32⟩
  | .hbm, ⟨92, _⟩ => ⟨S1x8208x8x192, .f32⟩
  | .hbm, ⟨93, _⟩ => ⟨S8208x8x192, .f32⟩
  | .hbm, ⟨94, _⟩ => ⟨S8x8208x192, .f32⟩
  | .hbm, ⟨95, _⟩ => ⟨S_, .i32⟩
  | .hbm, ⟨96, _⟩ => ⟨S_, .f32⟩
  | .hbm, ⟨97, _⟩ => ⟨S8x8448x256, .f32⟩
  | .hbm, ⟨98, _⟩ => ⟨S8208x8x192, .f32⟩
  | .hbm, ⟨99, _⟩ => ⟨S8x8208x192, .f32⟩
  | .hbm, ⟨100, _⟩ => ⟨S_, .i32⟩
  | .hbm, ⟨101, _⟩ => ⟨S_, .f32⟩
  | .hbm, ⟨102, _⟩ => ⟨S8x8448x256, .f32⟩
  | .hbm, ⟨103, _⟩ => ⟨S8208x8x128, .f32⟩
  | .hbm, ⟨104, _⟩ => ⟨S8x8208x128, .f32⟩
  | .hbm, ⟨105, _⟩ => ⟨S_, .i32⟩
  | .hbm, ⟨106, _⟩ => ⟨S_, .f32⟩
  | .hbm, ⟨107, _⟩ => ⟨S8x8448x128, .f32⟩
  | _, _ => ⟨S1x8208x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_v13_1 : Ref sig .tc := ⟨.hbm, 22, rfl⟩
abbrev main_call0_v2 : Ref sig .tc := ⟨.hbm, 23, rfl⟩
abbrev main_v13_0 : Ref sig .tc := ⟨.hbm, 24, rfl⟩
abbrev main_call0_cst : Ref sig .tc := ⟨.hbm, 25, rfl⟩
abbrev main_v13_2 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_cst : Ref sig .tc := ⟨.hbm, 86, rfl⟩
abbrev main_call1_v0 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c : Ref sig .tc := ⟨.hbm, 95, rfl⟩
abbrev main_call2_v0 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_13 : Ref sig .tc := ⟨.hbm, 100, rfl⟩
abbrev main_call3_v0 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_14 : Ref sig .tc := ⟨.hbm, 105, rfl⟩
abbrev main_call4_v0 : Ref sig .tc := ⟨.hbm, 106, rfl⟩
abbrev main_v74 : Ref sig .tc := ⟨.hbm, 107, rfl⟩

abbrev nD : Nat := 1
abbrev τ : Topo := Topo.v7x

variable {F : FTy → Type} [FloatOps F]
-- ==== FlashFwd.lean ====
abbrev S1x8208x8x128 : Shape := ⟨4, ![1, 8208, 8, 128]⟩
abbrev S1x8208x8x64 : Shape := ⟨4, ![1, 8208, 8, 64]⟩
abbrev S1x8208x64 : Shape := ⟨3, ![1, 8208, 64]⟩
abbrev S_ : Shape := ⟨0, ![]⟩
abbrev S1x8208x1x64 : Shape := ⟨4, ![1, 8208, 1, 64]⟩
abbrev S1x8208x8x192 : Shape := ⟨4, ![1, 8208, 8, 192]⟩
abbrev S8208x8x192 : Shape := ⟨3, ![8208, 8, 192]⟩
abbrev S8x8208x192 : Shape := ⟨3, ![8, 8208, 192]⟩
abbrev S8x8448x256 : Shape := ⟨3, ![8, 8448, 256]⟩
abbrev S8208x8x128 : Shape := ⟨3, ![8208, 8, 128]⟩
abbrev S8x8208x128 : Shape := ⟨3, ![8, 8208, 128]⟩
abbrev S8x8448x128 : Shape := ⟨3, ![8, 8448, 128]⟩
abbrev S8448x1024 : Shape := ⟨2, ![8448, 1024]⟩
abbrev S8x11x1x768 : Shape := ⟨4, ![8, 11, 1, 768]⟩
abbrev S1x768x256 : Shape := ⟨3, ![1, 768, 256]⟩
abbrev S1x8448x256 : Shape := ⟨3, ![1, 8448, 256]⟩
abbrev S1x8448x128 : Shape := ⟨3, ![1, 8448, 128]⟩
abbrev S768x128 : Shape := ⟨2, ![768, 128]⟩
abbrev S1x1x1x768 : Shape := ⟨4, ![1, 1, 1, 768]⟩
abbrev S768x768 : Shape := ⟨2, ![768, 768]⟩
abbrev S768x256 : Shape := ⟨2, ![768, 256]⟩
abbrev S768 : Shape := ⟨1, ![768]⟩
abbrev S768x1 : Shape := ⟨2, ![768, 1]⟩
abbrev S1x768x128 : Shape := ⟨3, ![1, 768, 128]⟩
abbrev S128x768 : Shape := ⟨2, ![128, 768]⟩
abbrev S1x768 : Shape := ⟨2, ![1, 768]⟩
abbrev S8208x1024 : Shape := ⟨2, ![8208, 1024]⟩
abbrev S8x8448 : Shape := ⟨2, ![8, 8448]⟩
abbrev S8x8208 : Shape := ⟨2, ![8, 8208]⟩

abbrev nBuf : Space → Nat
  | .hbm => 39
  | .vmem => 15
  | .smem => 0
  | _ => 0

abbrev bufTy : (tb : Table) → Fin (tcTables nBuf tb) → BufTy
  | .hbm, ⟨0, _⟩ => ⟨S1x8208x8x128, .f32⟩
  | .hbm, ⟨1, _⟩ => ⟨S1x8208x8x64, .f32⟩
  | .hbm, ⟨2, _⟩ => ⟨S1x8208x8x128, .f32⟩
  | .hbm, ⟨3, _⟩ => ⟨S1x8208x64, .f32⟩
  | .hbm, ⟨4, _⟩ => ⟨S1x8208x8x128, .f32⟩
  | .hbm, ⟨5, _⟩ => ⟨S_, .f32⟩
  | .hbm, ⟨6, _⟩ => ⟨S_, .f32⟩
  | .hbm, ⟨7, _⟩ => ⟨S1x8208x1x64, .f32⟩
  | .hbm, ⟨8, _⟩ => ⟨S1x8208x8x64, .f32⟩
  | .hbm, ⟨9, _⟩ => ⟨S1x8208x8x192, .f32⟩
  | .hbm, ⟨10, _⟩ => ⟨S_, .f32⟩
  | .hbm, ⟨11, _⟩ => ⟨S1x8208x8x192, .f32⟩
  | .hbm, ⟨12, _⟩ => ⟨S1x8208x8x192, .f32⟩
  | .hbm, ⟨13, _⟩ => ⟨S1x8208x8x192, .f32⟩
  | .hbm, ⟨14, _⟩ => ⟨S1x8208x8x192, .f32⟩
  | .hbm, ⟨15, _⟩ => ⟨S8208x8x192, .f32⟩
  | .hbm, ⟨16, _⟩ => ⟨S8x8208x192, .f32⟩
  | .hbm, ⟨17, _⟩ => ⟨S_, .i32⟩
  | .hbm, ⟨18, _⟩ => ⟨S_, .f32⟩
  | .hbm, ⟨19, _⟩ => ⟨S8x8448x256, .f32⟩
  | .hbm, ⟨20, _⟩ => ⟨S8x8448x256, .bf16⟩
  | .hbm, ⟨21, _⟩ => ⟨S1x8208x8x192, .f32⟩
  | .hbm, ⟨22, _⟩ => ⟨S8208x8x192, .f32⟩
  | .hbm, ⟨23, _⟩ => ⟨S8x8208x192, .f32⟩
  | .hbm, ⟨24, _⟩ => ⟨S_, .i32⟩
  | .hbm, ⟨25, _⟩ => ⟨S_, .f32⟩
  | .hbm, ⟨26, _⟩ => ⟨S8x8448x256, .f32⟩
  | .hbm, ⟨27, _⟩ => ⟨S8x8448x256, .bf16⟩
  | .hbm, ⟨28, _⟩ => ⟨S8208x8x128, .f32⟩
  | .hbm, ⟨29, _⟩ => ⟨S8x8208x128, .f32⟩
  | .hbm, ⟨30, _⟩ => ⟨S_, .i32⟩
  | .hbm, ⟨31, _⟩ => ⟨S_, .f32⟩
  | .hbm, ⟨32, _⟩ => ⟨S8x8448x128, .f32⟩
  | .hbm, ⟨33, _⟩ => ⟨S8x8448x128, .bf16⟩
  | .hbm, ⟨34, _⟩ => ⟨S8448x1024, .f32⟩
  | .hbm, ⟨35, _⟩ => ⟨S8x11x1x768, .f32⟩
  | .hbm, ⟨36, _⟩ => ⟨S8208x1024, .f32⟩
  | .hbm, ⟨37, _⟩ => ⟨S8x8448, .f32⟩
  | .hbm, ⟨38, _⟩ => ⟨S8x8208, .f32⟩
  | .local _ .vmem, ⟨0, _⟩ => ⟨S1x768x256, .bf16⟩
  | .local _ .vmem, ⟨1, _⟩ => ⟨S1x768x256, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x8448x128, .bf16⟩
  | .local _ .vmem, ⟨5, _⟩ => ⟨S1x8448x128, .bf16⟩
  | .local _ .vmem, ⟨6, _⟩ => ⟨S768x128, .f32⟩
  | .local _ .vmem, ⟨7, _⟩ => ⟨S768x128, .f32⟩
  | .local _ .vmem, ⟨8, _⟩ => ⟨S1x1x1x768, .f32⟩
  | .local _ .vmem, ⟨9, _⟩ => ⟨S1x1x1x768, .f32⟩
  | .local _ .vmem, ⟨10, _⟩ => ⟨S768x768, .f32⟩
  | .local _ .vmem, ⟨11, _⟩ => ⟨S768x768, .f32⟩
  | .local _ .vmem, ⟨12, _⟩ => ⟨S768x128, .f32⟩
  | .local _ .vmem, ⟨13, _⟩ => ⟨S768x128, .f32⟩
  | .local _ .vmem, ⟨14, _⟩ => ⟨S768x128, .f32⟩
  | _, _ => ⟨S1x8208x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_call1_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_call2_v0 : Ref sig .tc := ⟨.hbm, 31, rfl⟩
abbrev main_v19 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 11], ![false, false]⟩

def k0_mult1 : BitVec 32 :=
  let c0_i32 : BitVec 32 := 0#32
  c0_i32
@[reducible] def k0_t1_loop (i : grid0.Coords) : Scf.Loop 32 :=
  let c0_i32_21 : BitVec 32 := 0#32
  let arg1 : BitVec 32 := BitVec.ofNat 32 (i 1).val
  let c0_i32_15 : BitVec 32 := 0#32
  let v23 : BitVec 1 := Scalar.cmpi .sgt arg1 c0_i32_15
  let v24 : BitVec 32 := Scalar.extui v23
  let c0_i32_16 : BitVec 32 := 0#32
  let v25 : BitVec 1 := Scalar.cmpi .slt arg1 c0_i32_16
  let v26 : BitVec 32 := Scalar.extui v25
  let v27 : BitVec 32 := Scalar.subi v24 v26
  let c2_i32 : BitVec 32 := 2#32
  let c0_i32_17 : BitVec 32 := 0#32
  let v28 : BitVec 1 := Scalar.cmpi .sgt c2_i32 c0_i32_17
  let v29 : BitVec 32 := Scalar.extui v28
  let c0_i32_18 : BitVec 32 := 0#32
  let v30 : BitVec 1 := Scalar.cmpi .slt c2_i32 c0_i32_18
  let v31 : BitVec 32 := Scalar.extui v30
  let v32 : BitVec 32 := Scalar.subi v29 v31
  let v33 : BitVec 1 := Scalar.cmpi .ne v27 v32
  let v34 : BitVec 32 := Scalar.remsi arg1 c2_i32
  let c0_i32_19 : BitVec 32 := 0#32
  let v35 : BitVec 1 := Scalar.cmpi .ne v34 c0_i32_19
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let c1_i32_23 : BitVec 32 := 1#32
  ⟨c0_i32_21, v43, c1_i32_23⟩
def k0_mult2 (i : grid0.Coords) (k0_t1 : Fin (k0_t1_loop i).trips) : BitVec 32 :=
  let c2_i32_54 : BitVec 32 := 2#32
  let c0_i32_21 : BitVec 32 := 0#32
  let c1_i32_23 : BitVec 32 := 1#32
  let arg12 : BitVec 32 := Scf.iv c0_i32_21 c1_i32_23 k0_t1
  let v84 : BitVec 32 := Scalar.muli c2_i32_54 arg12
  let c1_i32_55 : BitVec 32 := 1#32
  let v85 : BitVec 32 := Scalar.addi v84 c1_i32_55
  let c768_i32 : BitVec 32 := 768#32
  let v86 : BitVec 32 := Scalar.muli v85 c768_i32
  v86
def k0_off1 (i : grid0.Coords) (k0_t1 : Fin (k0_t1_loop i).trips) (c1_i32_55 : BitVec 32) : Fin 3 → Nat :=
  let c0_56 : Index := 0#32
  let c2_i32_54 : BitVec 32 := 2#32
  let c0_i32_21 : BitVec 32 := 0#32
  let c1_i32_23 : BitVec 32 := 1#32
  let arg12 : BitVec 32 := Scf.iv c0_i32_21 c1_i32_23 k0_t1
  let v84 : BitVec 32 := Scalar.muli c2_i32_54 arg12
  let v85 : BitVec 32 := Scalar.addi v84 c1_i32_55
  let c768_i32 : BitVec 32 := 768#32
  let v86 : BitVec 32 := Scalar.muli v85 c768_i32
  let v87 : BitVec 32 := v86
  let v88 : Index := Scalar.indexCast v87
  let c0_57 : Index := 0#32
  ![0, v88.toNat, 0]
def k0_mult3 (i : grid0.Coords) (k0_t1 : Fin (k0_t1_loop i).trips) : BitVec 32 :=
  let c2_i32_54 : BitVec 32 := 2#32
  let c0_i32_21 : BitVec 32 := 0#32
  let c1_i32_23 : BitVec 32 := 1#32
  let arg12 : BitVec 32 := Scf.iv c0_i32_21 c1_i32_23 k0_t1
  let v84 : BitVec 32 := Scalar.muli c2_i32_54 arg12
  let c768_i32_61 : BitVec 32 := 768#32
  let v95 : BitVec 32 := Scalar.muli v84 c768_i32_61
  v95
def k0_off2 (i : grid0.Coords) (k0_t1 : Fin (k0_t1_loop i).trips) : Fin 3 → Nat :=
  let c0_74 : Index := 0#32
  let c2_i32_54 : BitVec 32 := 2#32
  let c0_i32_21 : BitVec 32 := 0#32
  let c1_i32_23 : BitVec 32 := 1#32
  let arg12 : BitVec 32 := Scf.iv c0_i32_21 c1_i32_23 k0_t1
  let v84 : BitVec 32 := Scalar.muli c2_i32_54 arg12
  let c768_i32_61 : BitVec 32 := 768#32
  let v95 : BitVec 32 := Scalar.muli v84 c768_i32_61
  let v96 : BitVec 32 := v95
  let v121 : Index := Scalar.indexCast v96
  let c0_75 : Index := 0#32
  ![0, v121.toNat, 0]
def k0_mult4 (i : grid0.Coords) (k0_t1 : Fin (k0_t1_loop i).trips) : BitVec 32 :=
  let c2_i32_54 : BitVec 32 := 2#32
  let c0_i32_21 : BitVec 32 := 0#32
  let c1_i32_23 : BitVec 32 := 1#32
  let arg12 : BitVec 32 := Scf.iv c0_i32_21 c1_i32_23 k0_t1
  let v84 : BitVec 32 := Scalar.muli c2_i32_54 arg12
  let c2_i32_81 : BitVec 32 := 2#32
  let v132 : BitVec 32 := Scalar.addi v84 c2_i32_81
  let c768_i32_82 : BitVec 32 := 768#32
  let v133 : BitVec 32 := Scalar.muli v132 c768_i32_82
  v133
def k0_mult5 (i : grid0.Coords) (k0_t1 : Fin (k0_t1_loop i).trips) : BitVec 32 :=
  let c2_i32_54 : BitVec 32 := 2#32
  let c0_i32_21 : BitVec 32 := 0#32
  let c1_i32_23 : BitVec 32 := 1#32
  let arg12 : BitVec 32 := Scf.iv c0_i32_21 c1_i32_23 k0_t1
  let v84 : BitVec 32 := Scalar.muli c2_i32_54 arg12
  let c1_i32_88 : BitVec 32 := 1#32
  let v142 : BitVec 32 := Scalar.addi v84 c1_i32_88
  let c768_i32_89 : BitVec 32 := 768#32
  let v143 : BitVec 32 := Scalar.muli v142 c768_i32_89
  v143
def k0_off3 (i : grid0.Coords) (k0_t1 : Fin (k0_t1_loop i).trips) : Fin 3 → Nat :=
  let c0_102 : Index := 0#32
  let c2_i32_54 : BitVec 32 := 2#32
  let c0_i32_21 : BitVec 32 := 0#32
  let c1_i32_23 : BitVec 32 := 1#32
  let arg12 : BitVec 32 := Scf.iv c0_i32_21 c1_i32_23 k0_t1
  let v84 : BitVec 32 := Scalar.muli c2_i32_54 arg12
  let c1_i32_88 : BitVec 32 := 1#32
  let v142 : BitVec 32 := Scalar.addi v84 c1_i32_88
  let c768_i32_89 : BitVec 32 := 768#32
  let v143 : BitVec 32 := Scalar.muli v142 c768_i32_89
  let v144 : BitVec 32 := v143
  let v169 : Index := Scalar.indexCast v144
  let c0_103 : Index := 0#32
  ![0, v169.toNat, 0]
@[reducible] def k0_t2_loop (i : grid0.Coords) : Scf.Loop 32 :=
  let c0_i32_21 : BitVec 32 := 0#32
  let arg1 : BitVec 32 := BitVec.ofNat 32 (i 1).val
  let c0_i32_15 : BitVec 32 := 0#32
  let v23 : BitVec 1 := Scalar.cmpi .sgt arg1 c0_i32_15
  let v24 : BitVec 32 := Scalar.extui v23
  let c0_i32_16 : BitVec 32 := 0#32
  let v25 : BitVec 1 := Scalar.cmpi .slt arg1 c0_i32_16
  let v26 : BitVec 32 := Scalar.extui v25
  let v27 : BitVec 32 := Scalar.subi v24 v26
  let c2_i32 : BitVec 32 := 2#32
  let c0_i32_17 : BitVec 32 := 0#32
  let v28 : BitVec 1 := Scalar.cmpi .sgt c2_i32 c0_i32_17
  let v29 : BitVec 32 := Scalar.extui v28
  let c0_i32_18 : BitVec 32 := 0#32
  let v30 : BitVec 1 := Scalar.cmpi .slt c2_i32 c0_i32_18
  let v31 : BitVec 32 := Scalar.extui v30
  let v32 : BitVec 32 := Scalar.subi v29 v31
  let v33 : BitVec 1 := Scalar.cmpi .ne v27 v32
  let v34 : BitVec 32 := Scalar.remsi arg1 c2_i32
  let c0_i32_19 : BitVec 32 := 0#32
  let v35 : BitVec 1 := Scalar.cmpi .ne v34 c0_i32_19
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let v40 : BitVec 32 := Scalar.addi c0_i32_21 v39
  let c1_i32_24 : BitVec 32 := 1#32
  ⟨v43, v40, c1_i32_24⟩
def k0_mult6 (i : grid0.Coords) (k0_t2 : Fin (k0_t2_loop i).trips) : BitVec 32 :=
  let c2_i32_54 : BitVec 32 := 2#32
  let c0_i32_21 : BitVec 32 := 0#32
  let arg1 : BitVec 32 := BitVec.ofNat 32 (i 1).val
  let c0_i32_15 : BitVec 32 := 0#32
  let v23 : BitVec 1 := Scalar.cmpi .sgt arg1 c0_i32_15
  let v24 : BitVec 32 := Scalar.extui v23
  let c0_i32_16 : BitVec 32 := 0#32
  let v25 : BitVec 1 := Scalar.cmpi .slt arg1 c0_i32_16
  let v26 : BitVec 32 := Scalar.extui v25
  let v27 : BitVec 32 := Scalar.subi v24 v26
  let c2_i32 : BitVec 32 := 2#32
  let c0_i32_17 : BitVec 32 := 0#32
  let v28 : BitVec 1 := Scalar.cmpi .sgt c2_i32 c0_i32_17
  let v29 : BitVec 32 := Scalar.extui v28
  let c0_i32_18 : BitVec 32 := 0#32
  let v30 : BitVec 1 := Scalar.cmpi .slt c2_i32 c0_i32_18
  let v31 : BitVec 32 := Scalar.extui v30
  let v32 : BitVec 32 := Scalar.subi v29 v31
  let v33 : BitVec 1 := Scalar.cmpi .ne v27 v32
  let v34 : BitVec 32 := Scalar.remsi arg1 c2_i32
  let c0_i32_19 : BitVec 32 := 0#32
  let v35 : BitVec 1 := Scalar.cmpi .ne v34 c0_i32_19
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let c1_i32_24 : BitVec 32 := 1#32
  let arg12 : BitVec 32 := Scf.iv v43 c1_i32_24 k0_t2
  let v84 : BitVec 32 := Scalar.muli c2_i32_54 arg12
  let c1_i32_55 : BitVec 32 := 1#32
  let v85 : BitVec 32 := Scalar.addi v84 c1_i32_55
  let c768_i32 : BitVec 32 := 768#32
  let v86 : BitVec 32 := Scalar.muli v85 c768_i32
  v86
def k0_off4 (i : grid0.Coords) (k0_t2 : Fin (k0_t2_loop i).trips) (c1_i32_55 : BitVec 32) : Fin 3 → Nat :=
  let c0_56 : Index := 0#32
  let c2_i32_54 : BitVec 32 := 2#32
  let c0_i32_21 : BitVec 32 := 0#32
  let arg1 : BitVec 32 := BitVec.ofNat 32 (i 1).val
  let c0_i32_15 : BitVec 32 := 0#32
  let v23 : BitVec 1 := Scalar.cmpi .sgt arg1 c0_i32_15
  let v24 : BitVec 32 := Scalar.extui v23
  let c0_i32_16 : BitVec 32 := 0#32
  let v25 : BitVec 1 := Scalar.cmpi .slt arg1 c0_i32_16
  let v26 : BitVec 32 := Scalar.extui v25
  let v27 : BitVec 32 := Scalar.subi v24 v26
  let c2_i32 : BitVec 32 := 2#32
  let c0_i32_17 : BitVec 32 := 0#32
  let v28 : BitVec 1 := Scalar.cmpi .sgt c2_i32 c0_i32_17
  let v29 : BitVec 32 := Scalar.extui v28
  let c0_i32_18 : BitVec 32 := 0#32
  let v30 : BitVec 1 := Scalar.cmpi .slt c2_i32 c0_i32_18
  let v31 : BitVec 32 := Scalar.extui v30
  let v32 : BitVec 32 := Scalar.subi v29 v31
  let v33 : BitVec 1 := Scalar.cmpi .ne v27 v32
  let v34 : BitVec 32 := Scalar.remsi arg1 c2_i32
  let c0_i32_19 : BitVec 32 := 0#32
  let v35 : BitVec 1 := Scalar.cmpi .ne v34 c0_i32_19
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let c1_i32_24 : BitVec 32 := 1#32
  let arg12 : BitVec 32 := Scf.iv v43 c1_i32_24 k0_t2
  let v84 : BitVec 32 := Scalar.muli c2_i32_54 arg12
  let v85 : BitVec 32 := Scalar.addi v84 c1_i32_55
  let c768_i32 : BitVec 32 := 768#32
  let v86 : BitVec 32 := Scalar.muli v85 c768_i32
  let v87 : BitVec 32 := v86
  let v88 : Index := Scalar.indexCast v87
  let c0_57 : Index := 0#32
  ![0, v88.toNat, 0]
def k0_mult7 (i : grid0.Coords) (k0_t2 : Fin (k0_t2_loop i).trips) : BitVec 32 :=
  let c2_i32_54 : BitVec 32 := 2#32
  let c0_i32_21 : BitVec 32 := 0#32
  let arg1 : BitVec 32 := BitVec.ofNat 32 (i 1).val
  let c0_i32_15 : BitVec 32 := 0#32
  let v23 : BitVec 1 := Scalar.cmpi .sgt arg1 c0_i32_15
  let v24 : BitVec 32 := Scalar.extui v23
  let c0_i32_16 : BitVec 32 := 0#32
  let v25 : BitVec 1 := Scalar.cmpi .slt arg1 c0_i32_16
  let v26 : BitVec 32 := Scalar.extui v25
  let v27 : BitVec 32 := Scalar.subi v24 v26
  let c2_i32 : BitVec 32 := 2#32
  let c0_i32_17 : BitVec 32 := 0#32
  let v28 : BitVec 1 := Scalar.cmpi .sgt c2_i32 c0_i32_17
  let v29 : BitVec 32 := Scalar.extui v28
  let c0_i32_18 : BitVec 32 := 0#32
  let v30 : BitVec 1 := Scalar.cmpi .slt c2_i32 c0_i32_18
  let v31 : BitVec 32 := Scalar.extui v30
  let v32 : BitVec 32 := Scalar.subi v29 v31
  let v33 : BitVec 1 := Scalar.cmpi .ne v27 v32
  let v34 : BitVec 32 := Scalar.remsi arg1 c2_i32
  let c0_i32_19 : BitVec 32 := 0#32
  let v35 : BitVec 1 := Scalar.cmpi .ne v34 c0_i32_19
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let c1_i32_24 : BitVec 32 := 1#32
  let arg12 : BitVec 32 := Scf.iv v43 c1_i32_24 k0_t2
  let v84 : BitVec 32 := Scalar.muli c2_i32_54 arg12
  let c768_i32_61 : BitVec 32 := 768#32
  let v95 : BitVec 32 := Scalar.muli v84 c768_i32_61
  v95
def k0_off5 (i : grid0.Coords) (k0_t2 : Fin (k0_t2_loop i).trips) : Fin 3 → Nat :=
  let c0_74 : Index := 0#32
  let c2_i32_54 : BitVec 32 := 2#32
  let c0_i32_21 : BitVec 32 := 0#32
  let arg1 : BitVec 32 := BitVec.ofNat 32 (i 1).val
  let c0_i32_15 : BitVec 32 := 0#32
  let v23 : BitVec 1 := Scalar.cmpi .sgt arg1 c0_i32_15
  let v24 : BitVec 32 := Scalar.extui v23
  let c0_i32_16 : BitVec 32 := 0#32
  let v25 : BitVec 1 := Scalar.cmpi .slt arg1 c0_i32_16
  let v26 : BitVec 32 := Scalar.extui v25
  let v27 : BitVec 32 := Scalar.subi v24 v26
  let c2_i32 : BitVec 32 := 2#32
  let c0_i32_17 : BitVec 32 := 0#32
  let v28 : BitVec 1 := Scalar.cmpi .sgt c2_i32 c0_i32_17
  let v29 : BitVec 32 := Scalar.extui v28
  let c0_i32_18 : BitVec 32 := 0#32
  let v30 : BitVec 1 := Scalar.cmpi .slt c2_i32 c0_i32_18
  let v31 : BitVec 32 := Scalar.extui v30
  let v32 : BitVec 32 := Scalar.subi v29 v31
  let v33 : BitVec 1 := Scalar.cmpi .ne v27 v32
  let v34 : BitVec 32 := Scalar.remsi arg1 c2_i32
  let c0_i32_19 : BitVec 32 := 0#32
  let v35 : BitVec 1 := Scalar.cmpi .ne v34 c0_i32_19
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let c1_i32_24 : BitVec 32 := 1#32
  let arg12 : BitVec 32 := Scf.iv v43 c1_i32_24 k0_t2
  let v84 : BitVec 32 := Scalar.muli c2_i32_54 arg12
  let c768_i32_61 : BitVec 32 := 768#32
  let v95 : BitVec 32 := Scalar.muli v84 c768_i32_61
  let v96 : BitVec 32 := v95
  let v121 : Index := Scalar.indexCast v96
  let c0_75 : Index := 0#32
  ![0, v121.toNat, 0]
def k0_mult8 (i : grid0.Coords) (k0_t2 : Fin (k0_t2_loop i).trips) : BitVec 32 :=
  let c2_i32_54 : BitVec 32 := 2#32
  let c0_i32_21 : BitVec 32 := 0#32
  let arg1 : BitVec 32 := BitVec.ofNat 32 (i 1).val
  let c0_i32_15 : BitVec 32 := 0#32
  let v23 : BitVec 1 := Scalar.cmpi .sgt arg1 c0_i32_15
  let v24 : BitVec 32 := Scalar.extui v23
  let c0_i32_16 : BitVec 32 := 0#32
  let v25 : BitVec 1 := Scalar.cmpi .slt arg1 c0_i32_16
  let v26 : BitVec 32 := Scalar.extui v25
  let v27 : BitVec 32 := Scalar.subi v24 v26
  let c2_i32 : BitVec 32 := 2#32
  let c0_i32_17 : BitVec 32 := 0#32
  let v28 : BitVec 1 := Scalar.cmpi .sgt c2_i32 c0_i32_17
  let v29 : BitVec 32 := Scalar.extui v28
  let c0_i32_18 : BitVec 32 := 0#32
  let v30 : BitVec 1 := Scalar.cmpi .slt c2_i32 c0_i32_18
  let v31 : BitVec 32 := Scalar.extui v30
  let v32 : BitVec 32 := Scalar.subi v29 v31
  let v33 : BitVec 1 := Scalar.cmpi .ne v27 v32
  let v34 : BitVec 32 := Scalar.remsi arg1 c2_i32
  let c0_i32_19 : BitVec 32 := 0#32
  let v35 : BitVec 1 := Scalar.cmpi .ne v34 c0_i32_19
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let c1_i32_24 : BitVec 32 := 1#32
  let arg12 : BitVec 32 := Scf.iv v43 c1_i32_24 k0_t2
  let v84 : BitVec 32 := Scalar.muli c2_i32_54 arg12
  let c2_i32_81 : BitVec 32 := 2#32
  let v132 : BitVec 32 := Scalar.addi v84 c2_i32_81
  let c768_i32_82 : BitVec 32 := 768#32
  let v133 : BitVec 32 := Scalar.muli v132 c768_i32_82
  v133
def k0_mult9 (i : grid0.Coords) (k0_t2 : Fin (k0_t2_loop i).trips) : BitVec 32 :=
  let c2_i32_54 : BitVec 32 := 2#32
  let c0_i32_21 : BitVec 32 := 0#32
  let arg1 : BitVec 32 := BitVec.ofNat 32 (i 1).val
  let c0_i32_15 : BitVec 32 := 0#32
  let v23 : BitVec 1 := Scalar.cmpi .sgt arg1 c0_i32_15
  let v24 : BitVec 32 := Scalar.extui v23
  let c0_i32_16 : BitVec 32 := 0#32
  let v25 : BitVec 1 := Scalar.cmpi .slt arg1 c0_i32_16
  let v26 : BitVec 32 := Scalar.extui v25
  let v27 : BitVec 32 := Scalar.subi v24 v26
  let c2_i32 : BitVec 32 := 2#32
  let c0_i32_17 : BitVec 32 := 0#32
  let v28 : BitVec 1 := Scalar.cmpi .sgt c2_i32 c0_i32_17
  let v29 : BitVec 32 := Scalar.extui v28
  let c0_i32_18 : BitVec 32 := 0#32
  let v30 : BitVec 1 := Scalar.cmpi .slt c2_i32 c0_i32_18
  let v31 : BitVec 32 := Scalar.extui v30
  let v32 : BitVec 32 := Scalar.subi v29 v31
  let v33 : BitVec 1 := Scalar.cmpi .ne v27 v32
  let v34 : BitVec 32 := Scalar.remsi arg1 c2_i32
  let c0_i32_19 : BitVec 32 := 0#32
  let v35 : BitVec 1 := Scalar.cmpi .ne v34 c0_i32_19
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let c1_i32_24 : BitVec 32 := 1#32
  let arg12 : BitVec 32 := Scf.iv v43 c1_i32_24 k0_t2
  let v84 : BitVec 32 := Scalar.muli c2_i32_54 arg12
  let c1_i32_88 : BitVec 32 := 1#32
  let v142 : BitVec 32 := Scalar.addi v84 c1_i32_88
  let c768_i32_89 : BitVec 32 := 768#32
  let v143 : BitVec 32 := Scalar.muli v142 c768_i32_89
  v143
def k0_off6 (i : grid0.Coords) (k0_t2 : Fin (k0_t2_loop i).trips) : Fin 3 → Nat :=
  let c0_102 : Index := 0#32
  let c2_i32_54 : BitVec 32 := 2#32
  let c0_i32_21 : BitVec 32 := 0#32
  let arg1 : BitVec 32 := BitVec.ofNat 32 (i 1).val
  let c0_i32_15 : BitVec 32 := 0#32
  let v23 : BitVec 1 := Scalar.cmpi .sgt arg1 c0_i32_15
  let v24 : BitVec 32 := Scalar.extui v23
  let c0_i32_16 : BitVec 32 := 0#32
  let v25 : BitVec 1 := Scalar.cmpi .slt arg1 c0_i32_16
  let v26 : BitVec 32 := Scalar.extui v25
  let v27 : BitVec 32 := Scalar.subi v24 v26
  let c2_i32 : BitVec 32 := 2#32
  let c0_i32_17 : BitVec 32 := 0#32
  let v28 : BitVec 1 := Scalar.cmpi .sgt c2_i32 c0_i32_17
  let v29 : BitVec 32 := Scalar.extui v28
  let c0_i32_18 : BitVec 32 := 0#32
  let v30 : BitVec 1 := Scalar.cmpi .slt c2_i32 c0_i32_18
  let v31 : BitVec 32 := Scalar.extui v30
  let v32 : BitVec 32 := Scalar.subi v29 v31
  let v33 : BitVec 1 := Scalar.cmpi .ne v27 v32
  let v34 : BitVec 32 := Scalar.remsi arg1 c2_i32
  let c0_i32_19 : BitVec 32 := 0#32
  let v35 : BitVec 1 := Scalar.cmpi .ne v34 c0_i32_19
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let c1_i32_24 : BitVec 32 := 1#32
  let arg12 : BitVec 32 := Scf.iv v43 c1_i32_24 k0_t2
  let v84 : BitVec 32 := Scalar.muli c2_i32_54 arg12
  let c1_i32_88 : BitVec 32 := 1#32
  let v142 : BitVec 32 := Scalar.addi v84 c1_i32_88
  let c768_i32_89 : BitVec 32 := 768#32
  let v143 : BitVec 32 := Scalar.muli v142 c768_i32_89
  let v144 : BitVec 32 := v143
  let v169 : Index := Scalar.indexCast v144
  let c0_103 : Index := 0#32
  ![0, v169.toNat, 0]
def k0_cond1 (i : grid0.Coords) : BitVec 1 :=
  let arg1 : BitVec 32 := BitVec.ofNat 32 (i 1).val
  let c2_i32_25 : BitVec 32 := 2#32
  let c0_i32_26 : BitVec 32 := 0#32
  let v44 : BitVec 1 := Scalar.cmpi .eq c2_i32_25 c0_i32_26
  let c1_i32_27 : BitVec 32 := 1#32
  let v45 : BitVec 32 := Scalar.select v44 c1_i32_27 c2_i32_25
  let v46 : BitVec 32 := Scalar.remsi arg1 v45
  let c0_i32_29 : BitVec 32 := 0#32
  let v48 : BitVec 1 := Scalar.cmpi .slt v46 c0_i32_29
  let c0_i32_30 : BitVec 32 := 0#32
  let v49 : BitVec 1 := Scalar.cmpi .slt v45 c0_i32_30
  let v50 : BitVec 1 := Scalar.xori v48 v49
  let c0_i32_28 : BitVec 32 := 0#32
  let v47 : BitVec 1 := Scalar.cmpi .ne v46 c0_i32_28
  let v51 : BitVec 1 := Scalar.andi v50 v47
  let v52 : BitVec 32 := Scalar.addi v46 v45
  let v53 : BitVec 32 := Scalar.select v51 v52 v46
  let c0_i32_31 : BitVec 32 := 0#32
  let v54 : BitVec 1 := Scalar.cmpi .eq v53 c0_i32_31
  let v55 : BitVec 32 := Scalar.extui v54
  let c0_i32_32 : BitVec 32 := 0#32
  let v56 : BitVec 1 := Scalar.cmpi .ne v55 c0_i32_32
  v56

def k0_mult10 (i : grid0.Coords) : BitVec 32 :=
  let arg1 : BitVec 32 := BitVec.ofNat 32 (i 1).val
  let c768_i32 : BitVec 32 := 768#32
  let v84 : BitVec 32 := Scalar.muli arg1 c768_i32
  v84
def k0_off7 (i : grid0.Coords) : Fin 3 → Nat :=
  let c0_67 : Index := 0#32
  let arg1 : BitVec 32 := BitVec.ofNat 32 (i 1).val
  let c768_i32 : BitVec 32 := 768#32
  let v84 : BitVec 32 := Scalar.muli arg1 c768_i32
  let v85 : BitVec 32 := v84
  let v115 : Index := Scalar.indexCast v85
  let c0_68 : Index := 0#32
  ![0, v115.toNat, 0]
def k0_cond2 (i : grid0.Coords) : BitVec 1 :=
  let arg1 : BitVec 32 := BitVec.ofNat 32 (i 1).val
  let c2_i32_33 : BitVec 32 := 2#32
  let c0_i32_34 : BitVec 32 := 0#32
  let v57 : BitVec 1 := Scalar.cmpi .eq c2_i32_33 c0_i32_34
  let c1_i32_35 : BitVec 32 := 1#32
  let v58 : BitVec 32 := Scalar.select v57 c1_i32_35 c2_i32_33
  let v59 : BitVec 32 := Scalar.remsi arg1 v58
  let c0_i32_37 : BitVec 32 := 0#32
  let v61 : BitVec 1 := Scalar.cmpi .slt v59 c0_i32_37
  let c0_i32_38 : BitVec 32 := 0#32
  let v62 : BitVec 1 := Scalar.cmpi .slt v58 c0_i32_38
  let v63 : BitVec 1 := Scalar.xori v61 v62
  let c0_i32_36 : BitVec 32 := 0#32
  let v60 : BitVec 1 := Scalar.cmpi .ne v59 c0_i32_36
  let v64 : BitVec 1 := Scalar.andi v63 v60
  let v65 : BitVec 32 := Scalar.addi v59 v58
  let v66 : BitVec 32 := Scalar.select v64 v65 v59
  let c1_i32_39 : BitVec 32 := 1#32
  let v67 : BitVec 1 := Scalar.cmpi .eq v66 c1_i32_39
  let v68 : BitVec 32 := Scalar.extui v67
  let c0_i32_40 : BitVec 32 := 0#32
  let v69 : BitVec 1 := Scalar.cmpi .ne v68 c0_i32_40
  v69

def k0_mult11 (i : grid0.Coords) : BitVec 32 :=
  let arg1 : BitVec 32 := BitVec.ofNat 32 (i 1).val
  let c768_i32 : BitVec 32 := 768#32
  let v84 : BitVec 32 := Scalar.muli arg1 c768_i32
  v84
def k0_off8 (i : grid0.Coords) : Fin 3 → Nat :=
  let c0_54 : Index := 0#32
  let arg1 : BitVec 32 := BitVec.ofNat 32 (i 1).val
  let c768_i32 : BitVec 32 := 768#32
  let v84 : BitVec 32 := Scalar.muli arg1 c768_i32
  let v85 : BitVec 32 := v84
  let v86 : Index := Scalar.indexCast v85
  let c0_55 : Index := 0#32
  ![0, v86.toNat, 0]
def k0_mult12 (i : grid0.Coords) : BitVec 32 :=
  let arg1 : BitVec 32 := BitVec.ofNat 32 (i 1).val
  let c1_i32_59 : BitVec 32 := 1#32
  let v93 : BitVec 32 := Scalar.subi arg1 c1_i32_59
  let c768_i32_60 : BitVec 32 := 768#32
  let v94 : BitVec 32 := Scalar.muli v93 c768_i32_60
  v94
def k0_off9 (i : grid0.Coords) : Fin 3 → Nat :=
  let c0_73 : Index := 0#32
  let arg1 : BitVec 32 := BitVec.ofNat 32 (i 1).val
  let c1_i32_59 : BitVec 32 := 1#32
  let v93 : BitVec 32 := Scalar.subi arg1 c1_i32_59
  let c768_i32_60 : BitVec 32 := 768#32
  let v94 : BitVec 32 := Scalar.muli v93 c768_i32_60
  let v95 : BitVec 32 := v94
  let v120 : Index := Scalar.indexCast v95
  let c0_74 : Index := 0#32
  ![0, v120.toNat, 0]
def k0_mult13 (i : grid0.Coords) : BitVec 32 :=
  let arg1 : BitVec 32 := BitVec.ofNat 32 (i 1).val
  let c768_i32_80 : BitVec 32 := 768#32
  let v131 : BitVec 32 := Scalar.muli arg1 c768_i32_80
  v131
def k0_off10 (i : grid0.Coords) : Fin 3 → Nat :=
  let c0_94 : Index := 0#32
  let arg1 : BitVec 32 := BitVec.ofNat 32 (i 1).val
  let c768_i32_80 : BitVec 32 := 768#32
  let v131 : BitVec 32 := Scalar.muli arg1 c768_i32_80
  let v132 : BitVec 32 := v131
  let v162 : Index := Scalar.indexCast v132
  let c0_95 : Index := 0#32
  ![0, v162.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FlashFwdIdeal.lean ====
variable {F : FTy → Type} [FloatOps F] [Named F]
def κ : String → Option EReal := fun
  | "ln2" => some ((Real.log 2 : ℝ) : EReal)
  | "neg" => some ⊥
  | _ => none
-- ==== FlashFwdRefIdeal.lean ====
abbrev S1x8208x8x128 : Shape := ⟨4, ![1, 8208, 8, 128]⟩
abbrev S1x8208x8x64 : Shape := ⟨4, ![1, 8208, 8, 64]⟩
abbrev S1x8208x64 : Shape := ⟨3, ![1, 8208, 64]⟩
abbrev S1x8208x1x64 : Shape := ⟨4, ![1, 8208, 1, 64]⟩
abbrev S1x8208x8x192 : Shape := ⟨4, ![1, 8208, 8, 192]⟩
abbrev S_ : Shape := ⟨0, ![]⟩
abbrev S1x8x8208x8208 : Shape := ⟨4, ![1, 8, 8208, 8208]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S1x8x8208 : Shape := ⟨3, ![1, 8, 8208]⟩
abbrev S1x8x8208x1 : Shape := ⟨4, ![1, 8, 8208, 1]⟩
abbrev S1x8x128x8208 : Shape := ⟨4, ![1, 8, 128, 8208]⟩
abbrev S8208x8x128 : Shape := ⟨3, ![8208, 8, 128]⟩
abbrev S8208x1024 : Shape := ⟨2, ![8208, 1024]⟩
abbrev S8x8208 : Shape := ⟨2, ![8, 8208]⟩

abbrev nBuf : Space → Nat
  | .hbm => 51
  | .vmem => 0
  | .smem => 0
  | _ => 0

abbrev bufTy : (tb : Table) → Fin (tcTables nBuf tb) → BufTy
  | .hbm, ⟨0, _⟩ => ⟨S1x8208x8x128, .f32⟩
  | .hbm, ⟨1, _⟩ => ⟨S1x8208x8x64, .f32⟩
  | .hbm, ⟨2, _⟩ => ⟨S1x8208x8x128, .f32⟩
  | .hbm, ⟨3, _⟩ => ⟨S1x8208x64, .f32⟩
  | .hbm, ⟨4, _⟩ => ⟨S1x8208x8x128, .f32⟩
  | .hbm, ⟨5, _⟩ => ⟨S1x8208x1x64, .f32⟩
  | .hbm, ⟨6, _⟩ => ⟨S1x8208x8x64, .f32⟩
  | .hbm, ⟨7, _⟩ => ⟨S1x8208x8x192, .f32⟩
  | .hbm, ⟨8, _⟩ => ⟨S_, .f32⟩
  | .hbm, ⟨9, _⟩ => ⟨S1x8208x8x192, .f32⟩
  | .hbm, ⟨10, _⟩ => ⟨S1x8208x8x192, .f32⟩
  | .hbm, ⟨11, _⟩ => ⟨S1x8208x8x192, .f32⟩
  | .hbm, ⟨12, _⟩ => ⟨S1x8x8208x8208, .f32⟩
  | .hbm, ⟨13, _⟩ => ⟨S8208, .i32⟩
  | .hbm, ⟨14, _⟩ => ⟨S1x8208, .i32⟩
  | .hbm, ⟨15, _⟩ => ⟨S8208x1, .i32⟩
  | .hbm, ⟨16, _⟩ => ⟨S8208x8208, .i32⟩
  | .hbm, ⟨17, _⟩ => ⟨S8208x8208, .i32⟩
  | .hbm, ⟨18, _⟩ => ⟨S8208x8208, .i1⟩
  | .hbm, ⟨19, _⟩ => ⟨S_, .f32⟩
  | .hbm, ⟨20, _⟩ => ⟨S_, .f32⟩
  | .hbm, ⟨21, _⟩ => ⟨S1x8x8208x8208, .i1⟩
  | .hbm, ⟨22, _⟩ => ⟨S1x8x8208x8208, .f32⟩
  | .hbm, ⟨23, _⟩ => ⟨S1x8x8208x8208, .f32⟩
  | .hbm, ⟨24, _⟩ => ⟨S_, .f32⟩
  | .hbm, ⟨25, _⟩ => ⟨S1x8x8208, .f32⟩
  | .hbm, ⟨26, _⟩ => ⟨S_, .f32⟩
  | .hbm, ⟨27, _⟩ => ⟨S1x8x8208, .f32⟩
  | .hbm, ⟨28, _⟩ => ⟨S1x8x8208, .f32⟩
  | .hbm, ⟨29, _⟩ => ⟨S1x8x8208x1, .f32⟩
  | .hbm, ⟨30, _⟩ => ⟨S1x8x8208x8208, .f32⟩
  | .hbm, ⟨31, _⟩ => ⟨S1x8x8208x8208, .f32⟩
  | .hbm, ⟨32, _⟩ => ⟨S1x8x8208x8208, .f32⟩
  | .hbm, ⟨33, _⟩ => ⟨S_, .f32⟩
  | .hbm, ⟨34, _⟩ => ⟨S1x8x8208, .f32⟩
  | .hbm, ⟨35, _⟩ => ⟨S1x8x8208x1, .f32⟩
  | .hbm, ⟨36, _⟩ => ⟨S1x8x8208x8208, .f32⟩
  | .hbm, ⟨37, _⟩ => ⟨S1x8x8208x8208, .f32⟩
  | .hbm, ⟨38, _⟩ => ⟨S1x8x128x8208, .f32⟩
  | .hbm, ⟨39, _⟩ => ⟨S1x8208x8x128, .f32⟩
  | .hbm, ⟨40, _⟩ => ⟨S8208x8x128, .f32⟩
  | .hbm, ⟨41, _⟩ => ⟨S8208x1024, .f32⟩
  | .hbm, ⟨42, _⟩ => ⟨S1x8x8208x8208, .f32⟩
  | .hbm, ⟨43, _⟩ => ⟨S_, .f32⟩
  | .hbm, ⟨44, _⟩ => ⟨S1x8x8208, .f32⟩
  | .hbm, ⟨45, _⟩ => ⟨S1x8x8208, .f32⟩
  | .hbm, ⟨46, _⟩ => ⟨S8x8208, .f32⟩
  | .hbm, ⟨47, _⟩ => ⟨S_, .f32⟩
  | .hbm, ⟨48, _⟩ => ⟨S_, .f32⟩
  | .hbm, ⟨49, _⟩ => ⟨S8x8208, .f32⟩
  | .hbm, ⟨50, _⟩ => ⟨S8x8208, .f32⟩
  | _, _ => ⟨S1x8208x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Proof.Common.lean ====
module

public import Idealize.ShloMosaic.Lib.Pointwise

@[expose] public section

namespace Cert.Proof

open Idealize.ShloMosaic

/-- A host sum over the two unit axes in front of a row reads the row. -/
@[pointwise] theorem hostReduceAdd_unit_unit {n : Nat} (h : (⟨3, ![1, 1, n]⟩ : Shape).ReducesTo [0, 1] ⟨1, ![n]⟩)
    (v : (⟨3, ![1, 1, n]⟩ : Shape).Idx → EReal) (init : EReal) (j : Fin n) :
    Ideal.hostReduceAdd h v init (ix1 j) = init + v (ix3 (0 : Fin 1) (0 : Fin 1) j) := by
  refine congrArg (init + ·) ?_
  refine (Finset.sum_filter_eq_sum_of_fiber _ (fun _ : Fin 1 => ix3 (0 : Fin 1) (0 : Fin 1) j)
    (fun a b _ => Subsingleton.elim a b) (fun i => ?_) v).trans (by simp)
  constructor
  · intro e
    refine ⟨0, ?_⟩
    funext a; apply Fin.ext
    match a with
    | ⟨0, _⟩ => exact (Nat.lt_one_iff.mp (i 0).isLt).symm
    | ⟨1, _⟩ => exact (Nat.lt_one_iff.mp (i 1).isLt).symm
    | ⟨2, _⟩ => exact (congrArg Fin.val (congrFun e ⟨0, Nat.one_pos⟩)).symm
  · rintro ⟨k, rfl⟩
    funext b
    apply Fin.ext
    match b with
    | ⟨0, _⟩ => rfl

/-! The operations on real values. -/

theorem exp_coe (r : ℝ) : Ideal.exp (r : EReal) = ((Real.exp r : ℝ) : EReal) := rfl
theorem exp_bot : Ideal.exp ⊥ = 0 := rfl
theorem exp_top : Ideal.exp ⊤ = ⊤ := rfl
theorem exp_zero : Ideal.exp 0 = 1 := by
  rw [← EReal.coe_zero, exp_coe, Real.exp_zero, EReal.coe_one]

theorem log_coe {r : ℝ} (h : 0 < r) : Ideal.log (r : EReal) = ((Real.log r : ℝ) : EReal) := by
  show (if r ≤ 0 then ⊥ else ((Real.log r : ℝ) : EReal)) = _
  rw [if_neg (not_le.mpr h)]

theorem log1p_coe {r : ℝ} (h : 0 < 1 + r) : Ideal.log1p (r : EReal) = ((Real.log (1 + r) : ℝ) : EReal) := by
  rw [Ideal.log1p, ← EReal.coe_one, ← EReal.coe_add, log_coe h]

theorem log1p_zero : Ideal.log1p 0 = 0 := by
  rw [← EReal.coe_zero, log1p_coe (by norm_num), add_zero, Real.log_one]

theorem div_coe (a : ℝ) {b : ℝ} (h : b ≠ 0) : Ideal.div (a : EReal) (b : EReal) = ((a / b : ℝ) : EReal) := by
  rw [Ideal.div, if_neg (by exact_mod_cast h), ← EReal.coe_inv, ← EReal.coe_mul, div_eq_mul_inv]

theorem rsqrt_coe {r : ℝ} (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg (not_lt.mpr h.le), if_neg h.ne']

theorem coe_max (a b : ℝ) : ((max a b : ℝ) : EReal) = max (a : EReal) (b : EReal) :=
  EReal.coe_strictMono.monotone.map_max

theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A sum whose terms beyond a bound are zero is the sum up to the bound. -/
theorem sum_pad {M : Type*} [AddCommMonoid M] {n N : Nat} (hN : n ≤ N) (g : Fin N → M) (f : Fin n → M)
    (hf : ∀ i : Fin n, g ⟨i.val, lt_of_lt_of_le i.isLt hN⟩ = f i) (hz : ∀ k : Fin N, n ≤ k.val → g k = 0) : ∑ k, g k = ∑ i, f i := by
  obtain ⟨e, rfl⟩ := Nat.exists_eq_add_of_le hN
  rw [Fin.sum_univ_add, Finset.sum_eq_zero (fun i _ => hz (Fin.natAdd n i) (Nat.le_add_right n i.val)), add_zero]
  exact Finset.sum_congr rfl fun i _ => hf i

/-- An argument's integer zero, cast, is zero. -/
theorem sitofp_zero : (FloatOps.sitofp (F := Ideal) FTy.f32 (0#32) : EReal) = 0 := by
  simp [FloatOps.sitofp]

end Cert.Proof
-- ==== Proof.DtRef.lean ====
module

public import proofs.«01_k».proof.Proof.Gen.DtBwdRefIdeal.Read
public import Idealize.ShloMosaic.Lib.Pointwise
public import Idealize.ShloMosaic.Lib.Claim
public import proofs.«01_k».proof.Proof.Common

@[expose] public section

set_option maxRecDepth 16384

noncomputable section

namespace Cert.Proof.DtRef

open Cert.Proof
open Idealize.ShloMosaic Idealize.ShloMosaic.TcCoe Idealize.SL.Sem
open Cert.DtBwdRefIdeal Cert.DtBwdRefIdeal.Gen Cert.DtBwdRefIdeal.Read

/-- The slope of `softplus` as its derivative is computed, `exp (u - softplus u)` with infinite values replaced by zero, is the
logistic function: at every extended real. -/
theorem softplus_slope (u : EReal) :
    Ideal.exp ((if u = ⊤ then 0 else u) -
      if max u 0 + Ideal.log1p (Ideal.exp (-max u (-u))) = ⊤ then 0 else max u 0 + Ideal.log1p (Ideal.exp (-max u (-u))))
      = Ideal.div 1 (1 + Ideal.exp (0 - u)) := by
  induction u using EReal.rec with
  | bot =>
    rw [EReal.neg_bot, max_eq_right bot_le, max_eq_right bot_le, EReal.neg_top, exp_bot, log1p_zero, add_zero,
      if_neg (by simp), if_neg (by simp), sub_zero, exp_bot, zero_sub, EReal.neg_bot, exp_top,
      EReal.add_top_of_ne_bot (show (1 : EReal) ≠ ⊥ from EReal.coe_ne_bot 1), Ideal.div]
    simp
  | top =>
    rw [EReal.neg_top, max_eq_left bot_le, max_eq_left le_top, EReal.neg_top, exp_bot, log1p_zero, add_zero, if_pos rfl,
      sub_zero, exp_zero, zero_sub, EReal.neg_top, exp_bot, add_zero, Ideal.div]
    simp
  | coe r =>
    rw [← EReal.coe_neg, ← EReal.coe_zero, ← coe_max, ← coe_max, ← EReal.coe_neg, exp_coe, log1p_coe (by positivity), ← EReal.coe_add,
      if_neg (EReal.coe_ne_top r), if_neg (EReal.coe_ne_top _), ← EReal.coe_sub, ← EReal.coe_sub, exp_coe, exp_coe,
      ← EReal.coe_one, ← EReal.coe_add, div_coe _ (by positivity)]
    congr 1
    rw [Real.exp_sub, Real.exp_add, Real.exp_log (by positivity), zero_sub]
    rcases le_total r 0 with h | h
    · rw [max_eq_right h, max_eq_right (by linarith), Real.exp_zero, neg_neg, Real.exp_neg]
      have := Real.exp_pos r
      field_simp
      ring
    · rw [max_eq_left h, max_eq_left (by linarith), Real.exp_neg]
      have := Real.exp_pos r
      field_simp

theorem inf_word : Ideal.ofBits FTy.f32 2139095040#32 = ⊤ := by
  simp [Ideal.ofBits, Ideal.ieee]

variable (x0 : (⟨S1x8208x16, .f32⟩ : BufTy).Contents (Elt Ideal)) (x1 : (⟨S1x16, .f32⟩ : BufTy).Contents (Elt Ideal)) (x2 : (⟨S1x8208x2x8, .f32⟩ : BufTy).Contents (Elt Ideal))

theorem slope_at (i : Fin 8208) (j : Fin 16) : val_main_v3_1 x0 x1 (ix3 (0 : Fin 1) i j) =
    Ideal.div 1 (1 + Ideal.exp (0 - (x0 (ix3 (0 : Fin 1) i j) + x1 (ix2 (0 : Fin 1) j) : EReal))) := by
  rw [← softplus_slope]
  conv_lhs => unfold val_main_v3_1
  pointwise [val_main_call0_v21, val_main_call0_v20, val_main_call0_v18, val_main_call0_v16, val_main_call0_v14, val_main_v3_0, val_main_call0_v11, val_main_call0_v10, val_main_call0_v9, val_main_call0_v8, val_main_call0_v7, val_main_call0_v6, val_main_call0_v4, val_main_call0_v3, val_main_call0_v1, val_main_v2, val_main_v1, val_main_v0, val_main_call0_v0, val_main_call0_v2, val_main_call0_v5, val_main_call0_v13, val_main_call0_v15, val_main_call0_v17, val_main_call0_v19, val_main_call0_cst, val_main_call0_cst_0, val_main_call0_cst_1, val_main_call0_cst_2, val_main_call0_cst_3]
  simp only [ne_eq, not_true_eq_false, if_false, inf_word]
  rfl

theorem refread0 (i : Fin 8448) (j : Fin 128) : val_main_v12 x0 x1 x2 (ix2 i j) =
    if h : i.val < 8208 ∧ j.val < 16 then
      (x2 (ix4 (0 : Fin 1) (⟨i.val, h.1⟩ : Fin 8208) (⟨j.val / 8, by omega⟩ : Fin 2) (⟨j.val % 8, by omega⟩ : Fin 8)) : EReal)
        * val_main_v3_1 x0 x1 (ix3 (0 : Fin 1) (⟨i.val, h.1⟩ : Fin 8208) (⟨j.val, h.2⟩ : Fin 16))
    else 0 := by
  rw [← sitofp_zero]
  conv_lhs => unfold val_main_v12
  pointwise [val_main_v11, val_main_v6, val_main_call2_v0, val_main_v5, val_main_c]

theorem refread1 (j : Fin 128) : val_main_v13 x0 x1 x2 (ix2 (0 : Fin 1) j) =
    if h : j.val < 16 then
      ∑ i : Fin 8208, ((x2 (ix4 (0 : Fin 1) i (⟨j.val / 8, by omega⟩ : Fin 2) (⟨j.val % 8, by omega⟩ : Fin 8)) : EReal)
        * val_main_v3_1 x0 x1 (ix3 (0 : Fin 1) i (⟨j.val, h⟩ : Fin 16)))
    else 0 := by
  rw [← sitofp_zero]
  conv_lhs => unfold val_main_v13
  pointwise [val_main_v10, val_main_v9, val_main_v8, val_main_v7, val_main_v6, val_main_call3_v0, val_main_v5, val_main_c_1, val_main_cst, val_main_cst_0, hostReduceAdd_unit_unit]

end Cert.Proof.DtRef
-- ==== Proof.DtBwd.lean ====
module

public import proofs.«01_k».proof.Proof.Gen.DtBwdIdeal.Value
public import proofs.«01_k».proof.Proof.DtRef
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

namespace Cert.Proof.DtBwd

open Cert.Proof Idealize.ShloMosaic Idealize.ShloMosaic.TcCoe Idealize.SL.Sem
open Cert.DtBwdIdeal Cert.DtBwdIdeal.Gen

variable (m : (ℓ : Loc nD τ sig) → Buf (Elt Ideal) ℓ)

theorem idx : ∀ t : Fin grid0.N, win0_0.index t = ![(grid0.coords t 0).val, 0] ∧ win0_1.index t = ![0, 0]
    ∧ win0_2.index t = ![(grid0.coords t 0).val, 0] ∧ win0_3.index t = ![(grid0.coords t 0).val, 0] ∧ win0_4.index t = ![0, 0] ∧ (grid0.coords t 0).val = t.val := by
  decide +kernel

/-- The input, the bias and the cotangent as the arguments hold them. -/
def raw (c : Dev nD) (i : Fin 8208) (j : Fin 16) : EReal := m ((c.tc : Thread nD τ).loc main_arg0) (ix3 (0 : Fin 1) i j)

def bias (c : Dev nD) (j : Fin 16) : EReal := m ((c.tc : Thread nD τ).loc main_arg1) (ix2 (0 : Fin 1) j)

def ct (c : Dev nD) (i : Fin 8208) (j : Fin 16) : EReal := m ((c.tc : Thread nD τ).loc main_arg2)
  (ix4 (0 : Fin 1) i (⟨j.val / 8, by omega⟩ : Fin 2) (⟨j.val % 8, by omega⟩ : Fin 8))

/-- One element of the kernel's input gradient, read off the arguments: the cotangent times the logistic function of
the biased input inside the true box, zero on the padding. -/
def term (c : Dev nD) (i : Fin 8448) (j : Fin 128) : EReal :=
  if h : i.val < 8208 ∧ j.val < 16 then
    ct m c ⟨i.val, h.1⟩ ⟨j.val, h.2⟩ * Ideal.div 1 (1 + Ideal.exp (0 - (raw m c ⟨i.val, h.1⟩ ⟨j.val, h.2⟩ + bias m c ⟨j.val, h.2⟩)))
  else 0

theorem zero_cast : (FloatOps.sitofp (F := Ideal) FTy.f32 (0#32) : EReal) = 0 := by
  simp [FloatOps.sitofp]

/-- The padded operands at an index. -/
theorem in0 (c : Dev nD) (i : Fin 8448) (j : Fin 128) (h : i.val < 8208 ∧ j.val < 16) :
    V m c main_v2 (ix2 i j) = raw m c ⟨i.val, h.1⟩ ⟨j.val, h.2⟩ := by
  simp only [V, List.flatten_cons, List.flatten_nil, List.append_nil, hostOps0, hostOps0_1, hostOps0_2, hostOps0_3,
    hostOps0_4, hostOps0_5, List.cons_append, List.nil_append]
  after_reads_at
  rw [dif_pos h]
  rfl

theorem in1 (c : Dev nD) (j : Fin 128) (h : j.val < 16) : V m c main_v0 (ix2 (0 : Fin 1) j) = bias m c ⟨j.val, h⟩ := by
  simp only [V, List.flatten_cons, List.flatten_nil, List.append_nil, hostOps0, hostOps0_1, hostOps0_2, hostOps0_3,
    hostOps0_4, hostOps0_5, List.cons_append, List.nil_append]
  after_reads_at
  rw [dif_pos (by simpa using h)]
  rfl

theorem in2 (c : Dev nD) (i : Fin 8448) (j : Fin 128) : V m c main_v4 (ix2 i j) =
    if h : i.val < 8208 ∧ j.val < 16 then ct m c ⟨i.val, h.1⟩ ⟨j.val, h.2⟩ else 0 := by
  rw [← zero_cast]
  simp only [V, List.flatten_cons, List.flatten_nil, List.append_nil, hostOps0, hostOps0_1, hostOps0_2, hostOps0_3,
    hostOps0_4, hostOps0_5, List.cons_append, List.nil_append]
  after_reads_at
  rfl

/-- A grid point's blocks of the operands. -/
theorem blk0 (c : Dev nD) (t : Fin cfg0.N) (y0 : Fin 384) (y1 : Fin 128) (hh : 384 * t.val + y0.val < 8448) :
    iblk m c 0 t (ix2 y0 y1) = V m c main_v2 (ix2 (⟨384 * t.val + y0.val, hh⟩ : Fin 8448) y1) := by
  have e := idx t
  blk_ext [iblk, V, e]

theorem blk1 (c : Dev nD) (t : Fin cfg0.N) (y1 : Fin 128) :
    iblk m c 1 t (ix2 (0 : Fin 1) y1) = V m c main_v0 (ix2 (0 : Fin 1) y1) := by
  have e := idx t
  blk_ext [iblk, V, e]

theorem blk2 (c : Dev nD) (t : Fin cfg0.N) (y0 : Fin 384) (y1 : Fin 128) (hh : 384 * t.val + y0.val < 8448) :
    iblk m c 2 t (ix2 y0 y1) = V m c main_v4 (ix2 (⟨384 * t.val + y0.val, hh⟩ : Fin 8448) y1) := by
  have e := idx t
  blk_ext [iblk, V, e]

theorem elt (c : Dev nD) (t : Fin cfg0.N) (y0 : Fin 384) (y1 : Fin 128) (hh : 384 * t.val + y0.val < 8448) (a b d : EReal)
    (ha : a = iblk m c 2 t (ix2 y0 y1)) (hb : b = iblk m c 0 t (ix2 y0 y1)) (hd : d = iblk m c 1 t (ix2 (0 : Fin 1) y1)) :
    Scalar.select (IntOp.cmpi .slt (BitVec.ofNat 32 y1.val) 16#32) (a * Ideal.div 1 (1 + Ideal.exp (0 - (b + d)))) (0 : EReal)
      = term m c ⟨384 * t.val + y0.val, hh⟩ y1 := by
  rw [ha, hb, hd, blk0 m c t y0 y1 hh, blk1, blk2 m c t y0 y1 hh, in2]
  unfold term
  by_cases hj : y1.val < 16
  · by_cases hi : 384 * t.val + y0.val < 8208
    · rw [in0 m c _ _ ⟨hi, hj⟩, in1 m c _ hj, dif_pos ⟨hi, hj⟩, dif_pos ⟨hi, hj⟩]
      rw [(by decide +kernel : ∀ y : Fin 128, y.val < 16 → IntOp.cmpi .slt (BitVec.ofNat 32 y.val) 16#32 = 1#1) y1 hj]
      rfl
    · rw [dif_neg (fun h => hi h.1), dif_neg (fun h => hi h.1), zero_mul]
      simp [Scalar.select]
  · rw [dif_neg (fun h => hj h.2), dif_neg (fun h => hj h.2), zero_mul]
    simp [Scalar.select]

/-- The grid's row blocks, one after another, are the rows. -/
theorem sum_points (f : Fin 8448 → EReal) (hh : ∀ (t : Fin 22) (k : Fin 384), 384 * t.val + k.val < 8448) :
    ∑ t : Fin 22, ∑ k : Fin 384, f ⟨384 * t.val + k.val, hh t k⟩ = ∑ k : Fin 8448, f k := by
  rw [← Fin.sum_mul_add_fin 22 384 f]
  exact Finset.sum_congr rfl fun t _ => Finset.sum_congr rfl fun k _ => congrArg f (Fin.ext (by
    show 384 * t.val + k.val = t.val * 384 + k.val; omega))

def tL : Fin cfg0.N := ⟨21, by decide⟩

/-- The two results, as arrays. -/
def dRaw (c : Dev nD) : (⟨S8448x128, .f32⟩ : BufTy).Contents (Elt Ideal) := fun i => term m c (i 0) (i 1)

def dBias (c : Dev nD) : (⟨S1x128, .f32⟩ : BufTy).Contents (Elt Ideal) := fun i => (∑ k : Fin 8448, term m c k (i 1) : EReal)

theorem out3 (c : Dev nD) : (dats m 0 c).arrAt 3 (cfgs 0).N = dRaw m c := by
  refine (dats m 0 c).arrAt_eq_of_covers 3 _ (by decide +kernel) fun t hf y => ?_
  blk_simp
  rw [after0_3]
  have e := idx t
  idx_vars y
  have hh : 384 * t.val + y0.val < 8448 := by have := t.isLt; have : t.val < 22 := this; omega
  have key : (outsAt0 m c t.val t.isLt).1 (ix2 y0 y1) = dRaw m c (ix2 (⟨384 * t.val + y0.val, hh⟩ : Fin 8448) y1) := by
    by_cases h0 : t.val % 22 = 0
    · rw [outsAt0_A m c t h0]; frame_out; unfold_payloads; pointwise; exact elt m c t y0 y1 hh _ _ _ rfl rfl rfl
    · rw [outsAt0_B m c t h0]; frame_out; unfold_payloads; pointwise; exact elt m c t y0 y1 hh _ _ _ rfl rfl rfl
  rw [key]
  blk_ext [e]

theorem out4 (c : Dev nD) : (dats m 0 c).arrAt 4 (cfgs 0).N = dBias m c := by
  refine (dats m 0 c).arrAt_eq_of_after_last 4 tL (by decide +kernel) _ fun j => ?_
  blk_simp
  rw [after0_4]
  idx_vars j
  have hh (t : Fin cfg0.N) (k : Fin 384) : 384 * t.val + k.val < 8448 := by have := t.isLt; have : t.val < 22 := this; omega
  rw [Pipeline.eq_sum_fin_of_reset_step_apply_last (fun n h => (outsAt0 m c n h).2) 22 (fun _ => (0 : EReal))
    (fun t (j : S1x128.Idx) => ∑ k : Fin 384, term m c ⟨384 * t.val + k.val, hh t k⟩ (j 1)) (fun t h j => by
      rw [outsAt0_A m c t h]; frame_out; idx_vars j; unfold_payloads; pointwise
      refine Finset.sum_congr rfl fun k _ => ?_
      exact elt m c t k j1 (hh t k) _ _ _ rfl rfl rfl) (fun t h j => by
      rw [outsAt0_B m c t h]; frame_out; idx_vars j; unfold_payloads; pointwise
      congr 1
      refine Finset.sum_congr rfl fun k _ => ?_
      exact elt m c t k j1 (hh t k) _ _ _ rfl rfl rfl) (by decide) tL rfl (ix2 j0 j1), zero_add]
  exact sum_points (fun k => term m c k j1) (hh := hh)

/-- The kernel's results are the reference's of the same arguments. -/
theorem dRaw_eq (c : Dev nD) : dRaw m c = Cert.DtBwdRefIdeal.Read.val_main_v12 (F := Ideal) (m ((c.tc : Thread nD τ).loc main_arg0))
    (m ((c.tc : Thread nD τ).loc main_arg1)) (m ((c.tc : Thread nD τ).loc main_arg2)) := by
  funext i
  idx_vars i
  rw [DtRef.refread0]
  show term m c i0 i1 = _
  unfold term
  by_cases h : i0.val < 8208 ∧ i1.val < 16
  · rw [dif_pos h, dif_pos h, DtRef.slope_at]
    rfl
  · rw [dif_neg h, dif_neg h]

theorem dBias_eq (c : Dev nD) : dBias m c = Cert.DtBwdRefIdeal.Read.val_main_v13 (F := Ideal) (m ((c.tc : Thread nD τ).loc main_arg0))
    (m ((c.tc : Thread nD τ).loc main_arg1)) (m ((c.tc : Thread nD τ).loc main_arg2)) := by
  funext i
  idx_vars i
  obtain rfl : i0 = 0 := Subsingleton.elim _ _
  rw [DtRef.refread1]
  show ∑ k : Fin 8448, term m c k i1 = _
  by_cases h : i1.val < 16
  · rw [dif_pos h]
    refine sum_pad (by decide) _ _ (fun i => ?_) (fun k hk => ?_)
    · rw [term, dif_pos ⟨i.isLt, h⟩, DtRef.slope_at]
      rfl
    · rw [term, dif_neg (fun e => absurd e.1 (not_lt.mpr hk))]
  · rw [dif_neg h]
    exact Finset.sum_eq_zero fun k _ => by rw [term, dif_neg (fun e => h e.2)]

end Cert.Proof.DtBwd
-- ==== Proof.NormMath.lean ====
module

public import proofs.«01_k».proof.Proof.Common

@[expose] public section

noncomputable section

namespace Cert.Proof.NormMath

open Cert.Proof Idealize.ShloMosaic

variable {n : Nat}

/-- The regularised mean square of a row, its reciprocal root, and the row's gradient as the hand-written kernels compute
it: `r * (d - xh * mean (d * xh))` with `xh = x * r`. -/
def meanSq (K e : EReal) (x : Fin n → EReal) : EReal := Ideal.div (∑ j, x j * x j) K + e

def rstd (K e : EReal) (x : Fin n → EReal) : EReal := Ideal.rsqrt (meanSq K e x)

def gradRow (K e : EReal) (x d : Fin n → EReal) (i : Fin n) : EReal :=
  rstd K e x * (d i - x i * rstd K e x * Ideal.div (∑ j, d j * (x j * rstd K e x)) K)

/-- The same gradient by the chain rule: `c` is the cotangent of the sum of squares. -/
def slope (K e h : EReal) (x d : Fin n → EReal) : EReal :=
  Ideal.div ((∑ j, x j * d j) * (h * Ideal.div (rstd K e x) (meanSq K e x))) K

theorem sq_nonneg (x : EReal) : 0 ≤ x * x := by
  induction x using EReal.rec with
  | bot => simp
  | top => simp
  | coe r => exact_mod_cast mul_self_nonneg r

theorem div_real (a : EReal) {k : ℝ} (hk : k ≠ 0) : Ideal.div a (k : EReal) = a * ((k⁻¹ : ℝ) : EReal) := by
  rw [Ideal.div, if_neg (by exact_mod_cast hk), EReal.coe_inv]

theorem sum_mul_real {ι : Type*} (s : Finset ι) (f : ι → EReal) {r : ℝ} (hr : 0 ≤ r) :
    ∑ j ∈ s, f j * (r : EReal) = (∑ j ∈ s, f j) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

theorem meanSq_cases {k e : ℝ} (hk : 0 < k) (he : 0 < e) (x : Fin n → EReal) :
    meanSq (k : EReal) (e : EReal) x = ⊤ ∨ ∃ u : ℝ, 0 < u ∧ meanSq (k : EReal) (e : EReal) x = (u : EReal) := by
  have h0 : (0 : EReal) ≤ ∑ j, x j * x j := Finset.sum_nonneg fun j _ => sq_nonneg _
  unfold meanSq
  rw [div_real _ hk.ne']
  generalize ∑ j, x j * x j = s at h0
  induction s using EReal.rec with
  | bot => exact absurd h0 (by simp)
  | top =>
    left
    rw [EReal.top_mul_coe_of_pos (inv_pos.mpr hk), EReal.top_add_coe]
  | coe r =>
    right
    have hr : 0 ≤ r := by exact_mod_cast h0
    exact ⟨r * k⁻¹ + e, by positivity, by rw [EReal.coe_add, EReal.coe_mul]⟩

/-- At every row, infinite values included, the reciprocal root is a real number `r ≥ 0` and the root's slope `r / u` is `r³`. -/
theorem rstd_real {k e : ℝ} (hk : 0 < k) (he : 0 < e) (x : Fin n → EReal) : ∃ r : ℝ, 0 ≤ r ∧
    rstd (k : EReal) (e : EReal) x = (r : EReal) ∧ Ideal.div (rstd (k : EReal) (e : EReal) x) (meanSq (k : EReal) (e : EReal) x) = ((r ^ 3 : ℝ) : EReal) := by
  rcases meanSq_cases hk he x with h | ⟨u, hu, h⟩
  · refine ⟨0, le_rfl, ?_, ?_⟩
    · rw [rstd, h]; rfl
    · rw [rstd, h, show Ideal.rsqrt ⊤ = 0 from rfl, Ideal.div, zero_mul]
      simp
  · refine ⟨(Real.sqrt u)⁻¹, by positivity, by rw [rstd, h, rsqrt_coe hu], ?_⟩
    rw [rstd, h, rsqrt_coe hu, div_coe _ hu.ne']
    congr 1
    have hs : Real.sqrt u ≠ 0 := (Real.sqrt_pos.mpr hu).ne'
    have h2 := Real.sq_sqrt hu.le
    field_simp
    exact h2

theorem add_self (a : EReal) : a + a = a * ((2 : ℝ) : EReal) := by
  induction a using EReal.rec with
  | bot => rw [EReal.bot_mul_coe_of_pos (by norm_num)]; rfl
  | top => rw [EReal.top_mul_coe_of_pos (by norm_num)]; rfl
  | coe r => rw [← EReal.coe_add, ← EReal.coe_mul]; congr 1; ring

theorem gradRow_eq {k e : ℝ} (hk : 0 < k) (he : 0 < e) (x d : Fin n → EReal) (i : Fin n) :
    gradRow (k : EReal) (e : EReal) x d i = d i * rstd (k : EReal) (e : EReal) x
      + x i * slope (k : EReal) (e : EReal) ((-(1 / 2) : ℝ) : EReal) x d
      + slope (k : EReal) (e : EReal) ((-(1 / 2) : ℝ) : EReal) x d * x i := by
  obtain ⟨r, hr, h1, h2⟩ := rstd_real hk he x
  unfold gradRow slope
  rw [h2, h1, div_real _ hk.ne', div_real _ hk.ne']
  have hs : ∑ j, d j * (x j * (r : EReal)) = (∑ j, x j * d j) * (r : EReal) := by
    rw [← sum_mul_real _ _ hr]
    exact Finset.sum_congr rfl fun j _ => by rw [← mul_assoc, mul_comm (d j)]
  rw [hs]
  generalize ∑ j, x j * d j = T
  rw [sub_eq_add_neg, EReal.left_distrib_of_nonneg_of_ne_top (by exact_mod_cast hr) (EReal.coe_ne_top r), mul_comm (r : EReal) (d i),
    add_assoc]
  congr 1
  rw [mul_comm _ (x i), add_self, ← EReal.coe_mul, mul_neg]
  have e1 : (r : EReal) * (x i * (r : EReal) * (T * (r : EReal) * ((k⁻¹ : ℝ) : EReal))) = x i * T * ((r ^ 3 * k⁻¹ : ℝ) : EReal) := by
    rw [show (r ^ 3 * k⁻¹ : ℝ) = r * (r * (r * k⁻¹)) by ring, EReal.coe_mul, EReal.coe_mul, EReal.coe_mul]
    ac_rfl
  have e2 : x i * (T * ((-(1 / 2) * r ^ 3 : ℝ) : EReal) * ((k⁻¹ : ℝ) : EReal)) * ((2 : ℝ) : EReal)
      = x i * T * ((-(r ^ 3 * k⁻¹) : ℝ) : EReal) := by
    rw [show (-(r ^ 3 * k⁻¹) : ℝ) = (-(1 / 2) * r ^ 3) * (k⁻¹ * 2) by ring, EReal.coe_mul (-(1 / 2) * r ^ 3), EReal.coe_mul k⁻¹]
    ac_rfl
  rw [e1, e2, EReal.coe_neg, mul_neg]

/-- The chain rule's spelling, with the constants as the words of a program. -/
theorem gradRow_spelled {K e h : EReal} {k ε : ℝ} (hK : K = (k : EReal)) (hk : 0 < k) (he : e = (ε : EReal)) (hε : 0 < ε)
    (hh : h = ((-(1 / 2) : ℝ) : EReal)) (x d : Fin n → EReal) (i : Fin n) :
    d i * rstd K e x + x i * slope K e h x d + slope K e h x d * x i = gradRow K e x d i := by
  rw [hK, he, hh, gradRow_eq hk hε]

theorem norm_eps_pos : (0 : ℝ) < 8796093 * 2 ^ (-43 : ℤ) := by positivity

/-- The words of the row length 1024, of the regulariser and of minus a half. -/
theorem k1024_word : Ideal.ofBits FTy.f32 1149239296#32 = ((1024 : ℝ) : EReal) := by
  simp [Ideal.ofBits, Ideal.ieee, -EReal.coe_mul]; norm_num

theorem eps_word : Ideal.ofBits FTy.f32 897988541#32 = ((8796093 * 2 ^ (-43 : ℤ) : ℝ) : EReal) := by
  simp [Ideal.ofBits, Ideal.ieee, -EReal.coe_mul]

theorem half_word : Ideal.ofBits FTy.f32 3204448256#32 = ((-(1 / 2) : ℝ) : EReal) := by
  simp [Ideal.ofBits, Ideal.ieee, -EReal.coe_mul]; norm_num

/-- A host sum over the unit axes around a column reads the column. -/
@[pointwise] theorem hostReduceAdd_unit_around {n : Nat} (h : (⟨3, ![1, n, 1]⟩ : Shape).ReducesTo [0, 2] ⟨1, ![n]⟩)
    (v : (⟨3, ![1, n, 1]⟩ : Shape).Idx → EReal) (init : EReal) (j : Fin n) :
    Ideal.hostReduceAdd h v init (ix1 j) = init + v (ix3 (0 : Fin 1) j (0 : Fin 1)) := by
  refine congrArg (init + ·) ?_
  refine (Finset.sum_filter_eq_sum_of_fiber _ (fun _ : Fin 1 => ix3 (0 : Fin 1) j (0 : Fin 1))
    (fun a b _ => Subsingleton.elim a b) (fun i => ?_) v).trans (by simp)
  constructor
  · intro e
    refine ⟨0, ?_⟩
    funext a; apply Fin.ext
    match a with
    | ⟨0, _⟩ => exact (Nat.lt_one_iff.mp (i 0).isLt).symm
    | ⟨1, _⟩ => exact (congrArg Fin.val (congrFun e ⟨0, Nat.one_pos⟩)).symm
    | ⟨2, _⟩ => exact (Nat.lt_one_iff.mp (i 2).isLt).symm
  · rintro ⟨k, rfl⟩
    funext b
    apply Fin.ext
    match b with
    | ⟨0, _⟩ => rfl

/-- A row of zeros with a zero cotangent has the zero gradient. -/
theorem gradRow_zero (K e : EReal) (x d : Fin n → EReal) (i : Fin n) (hx : ∀ j, x j = 0) (hd : ∀ j, d j = 0) :
    gradRow K e x d i = 0 := by
  unfold gradRow
  rw [hx, hd, zero_mul, zero_mul, sub_zero, mul_zero]

end Cert.Proof.NormMath
-- ==== Proof.FinalRef.lean ====
module

public import proofs.«01_k».proof.Proof.Gen.FfnDownLossRefIdeal.Read
public import proofs.«01_k».proof.Proof.NormMath
public import Idealize.ShloMosaic.Lib.Pointwise
public import Idealize.ShloMosaic.Lib.Claim

@[expose] public section

set_option maxRecDepth 16384

noncomputable section

namespace Cert.Proof.FinalRef

open Cert.Proof Cert.Proof.NormMath Idealize.ShloMosaic Idealize.ShloMosaic.TcCoe Idealize.SL.Sem
open Cert.FfnDownLossRefIdeal Cert.FfnDownLossRefIdeal.Gen Cert.FfnDownLossRefIdeal.Read

variable (x0 : (⟨S1x8208x1024, .f32⟩ : BufTy).Contents (Elt Ideal)) (x1 : (⟨S1x8208x2816, .f32⟩ : BufTy).Contents (Elt Ideal))
  (x2 : (⟨S1x2816x1024, .f32⟩ : BufTy).Contents (Elt Ideal)) (x3 : (⟨S1x1024, .f32⟩ : BufTy).Contents (Elt Ideal))
  (x4 : (⟨S1x8192x1024, .f32⟩ : BufTy).Contents (Elt Ideal))

abbrev K : EReal := Ideal.ofBits FTy.f32 1149239296#32

abbrev E : EReal := Ideal.ofBits FTy.f32 897988541#32

/-- The word of 1/1024. -/
abbrev U : EReal := Ideal.ofBits FTy.f32 981467136#32

theorem unit_word : U = ((2 ^ (-10 : ℤ) : ℝ) : EReal) := by
  simp [Ideal.ofBits, Ideal.ieee, -EReal.coe_mul]; norm_num

theorem half_pos_word : Ideal.ofBits FTy.f32 1056964608#32 = ((1 / 2 : ℝ) : EReal) := by
  simp [Ideal.ofBits, Ideal.ieee, -EReal.coe_mul]; norm_num

theorem two_word : Ideal.ofBits FTy.f32 1073741824#32 = ((2 : ℝ) : EReal) := by
  simp [Ideal.ofBits, Ideal.ieee, -EReal.coe_mul]; norm_num

theorem loss_word : Ideal.ofBits FTy.f32 973078528#32 = ((2 ^ (-11 : ℤ) : ℝ) : EReal) := by
  simp [Ideal.ofBits, Ideal.ieee, -EReal.coe_mul]; norm_num

/-- A row of the stream, an element of the gain, of the target. -/
def hRow (l : Fin 8208) (j : Fin 1024) : EReal := x0 (ix3 (0 : Fin 1) l j)

def gain (j : Fin 1024) : EReal := x3 (ix2 (0 : Fin 1) j)

def tgt (l : Fin 8192) (j : Fin 1024) : EReal := x4 (ix3 (0 : Fin 1) l j)

/-- A row of the down projection, and of the last stream. -/
def prod (l : Fin 8208) (j : Fin 1024) (k : Fin 2816) : EReal := (x1 (ix3 (0 : Fin 1) l k) * x2 (ix3 (0 : Fin 1) k j) : EReal)

def vRow (l : Fin 8208) (j : Fin 1024) : EReal := ∑ k : Fin 2816, prod x1 x2 l j k

def sRow (l : Fin 8208) (j : Fin 1024) : EReal := hRow x0 l j + vRow x1 x2 l j * rstd K E (vRow x1 x2 l) * gain x3 j

/-- The difference with the target, zero in the sixteen leading rows. -/
def diff (l : Fin 8208) (j : Fin 1024) : EReal :=
  if h : 16 ≤ l.val then sRow x0 x1 x2 x3 l j - tgt x4 ⟨l.val - 16, by omega⟩ j else 0

def dh (l : Fin 8208) (j : Fin 1024) : EReal := diff x0 x1 x2 x3 x4 l j * U

def dd (l : Fin 8208) (j : Fin 1024) : EReal := gradRow K E (vRow x1 x2 l) (fun k => dh x0 x1 x2 x3 x4 l k * gain x3 k) j

theorem v_at (l : Fin 8208) (j : Fin 1024) : val_main_v1 x1 x2 (ix3 (0 : Fin 1) l j) = vRow x1 x2 l j := by
  conv_lhs => unfold val_main_v1
  pointwise [val_main_v0]
  rfl

theorem r_at (l : Fin 8208) : val_main_v10 x1 x2 (ix3 (0 : Fin 1) l (0 : Fin 1)) = rstd K E (vRow x1 x2 l) := by
  conv_lhs => unfold val_main_v10
  pointwise [val_main_v9, val_main_v8, val_main_cst_1, val_main_v7, val_main_v6, val_main_cst_0, val_main_v5, val_main_v4, val_main_cst, val_main_v3]
  simp only [v_at]
  rfl

theorem s_at (l : Fin 8208) (j : Fin 1024) : val_main_v19 x0 x1 x2 x3 (ix3 (0 : Fin 1) l j) = sRow x0 x1 x2 x3 l j := by
  conv_lhs => unfold val_main_v19
  pointwise [val_main_v18, val_main_v17, val_main_v16, val_main_v15, val_main_v14, val_main_v2]
  simp only [v_at, r_at]
  rfl

theorem e_at (l : Fin 8192) (j : Fin 1024) : val_main_v21 x0 x1 x2 x3 x4 (ix3 (0 : Fin 1) l j) =
    sRow x0 x1 x2 x3 ⟨16 + l.val, by omega⟩ j - tgt x4 l j := by
  conv_lhs => unfold val_main_v21
  pointwise [val_main_v20]
  simp only [s_at]
  rfl

theorem dh_at (l : Fin 8208) (j : Fin 1024) : val_main_v36 x0 x1 x2 x3 x4 (ix3 (0 : Fin 1) l j) = dh x0 x1 x2 x3 x4 l j := by
  conv_lhs => unfold val_main_v36
  pointwise [val_main_v35, val_main_v34, val_main_v33, val_main_v32, val_main_cst_10, val_main_v31, val_main_v30, val_main_cst_9, val_main_cst_8, val_main_v24, val_main_v23, val_main_cst_3, val_main_cst_11]
  simp only [e_at]
  unfold dh diff
  by_cases h : 16 ≤ l.val
  · rw [dif_pos ⟨h, by omega⟩, dif_pos h, k1024_word, div_real _ (by norm_num), half_pos_word, two_word, ← mul_assoc, ← EReal.coe_mul,
      ← EReal.coe_mul, mul_comm, show (⟨16 + (l.val - 16), by omega⟩ : Fin 8208) = l from Fin.ext (Nat.add_sub_cancel' h), unit_word]
    norm_num
  · rw [dif_neg (fun e => h e.1), dif_neg h, zero_mul]

theorem dd_at (l : Fin 8208) (j : Fin 1024) : val_main_v57 x0 x1 x2 x3 x4 (ix3 (0 : Fin 1) l j) = dd x0 x1 x2 x3 x4 l j := by
  unfold dd
  rw [← gradRow_spelled k1024_word (by norm_num) eps_word norm_eps_pos half_word (vRow x1 x2 l) _ j]
  conv_lhs => unfold val_main_v57
  pointwise [val_main_v56, val_main_v55, val_main_v54, val_main_v53, val_main_v52, val_main_v51, val_main_cst_16, val_main_v50, val_main_v49, val_main_cst_15, val_main_v48, val_main_v47, val_main_v46, val_main_v45, val_main_v44, val_main_cst_14, val_main_v43, val_main_v41, val_main_v40, val_main_v16, val_main_v2, val_main_v13, val_main_v12, val_main_cst_2, val_main_v11, val_main_v10, val_main_v9, val_main_v8, val_main_cst_1, val_main_v7, val_main_v6, val_main_cst_0, val_main_v5, val_main_v4, val_main_cst, val_main_v3]
  simp only [dh_at, v_at]
  rfl

/-- Half the sum of the rows' means is the sum times 1/2048. -/
theorem half_mean {n : Nat} (T : Fin n → EReal) :
    Ideal.ofBits FTy.f32 1056964608#32 * ∑ l, Ideal.div (T l) K = (∑ l, T l) * Ideal.ofBits FTy.f32 973078528#32 := by
  have d : ∀ l, Ideal.div (T l) K = T l * ((1024⁻¹ : ℝ) : EReal) := fun l => by rw [show K = ((1024 : ℝ) : EReal) from k1024_word, div_real _ (by norm_num)]
  rw [Finset.sum_congr rfl fun l _ => d l, sum_mul_real _ _ (by norm_num), half_pos_word, mul_left_comm, ← EReal.coe_mul, loss_word]
  norm_num

/-- The four results at an index. -/
theorem refread_dh (i : Fin 8448) (j : Fin 1024) : val_main_v60 x0 x1 x2 x3 x4 (ix2 i j) =
    if hi : i.val < 8208 then dh x0 x1 x2 x3 x4 ⟨i.val, hi⟩ j else 0 := by
  rw [← sitofp_zero]
  conv_lhs => unfold val_main_v60
  pointwise [val_main_v59, val_main_call0_v0, val_main_c]
  simp only [dh_at]

theorem refread_dd (i : Fin 8448) (j : Fin 1024) : val_main_v63 x0 x1 x2 x3 x4 (ix2 i j) =
    if hi : i.val < 8208 then dd x0 x1 x2 x3 x4 ⟨i.val, hi⟩ j else 0 := by
  rw [← sitofp_zero]
  conv_lhs => unfold val_main_v63
  pointwise [val_main_v62, val_main_v61, val_main_call1_v0, val_main_c_17]
  simp only [dd_at]

theorem refread_dg (j : Fin 1024) : val_main_v58 x0 x1 x2 x3 x4 (ix2 (0 : Fin 1) j) =
    ∑ l : Fin 8208, vRow x1 x2 l j * rstd K E (vRow x1 x2 l) * dh x0 x1 x2 x3 x4 l j := by
  conv_lhs => unfold val_main_v58
  pointwise [val_main_v39, val_main_v38, val_main_cst_12, val_main_v37, val_main_v42, val_main_cst_13, val_main_v15, val_main_v14]
  simp only [r_at, v_at, dh_at]

theorem refread_loss (k : Fin 128) : val_main_v64 x0 x1 x2 x3 x4 (ix2 (0 : Fin 1) k) =
    (∑ l : Fin 8208, ∑ j : Fin 1024, diff x0 x1 x2 x3 x4 l j * diff x0 x1 x2 x3 x4 l j) * Ideal.ofBits FTy.f32 973078528#32 := by
  conv_lhs => unfold val_main_v64
  pointwise [val_main_v29, val_main_cst_7, val_main_v28, val_main_cst_6, val_main_v27, val_main_v26, val_main_cst_5, val_main_v25, val_main_cst_4, val_main_v22]
  simp only [e_at]
  rw [Fin.sum_univ_one]
  have e : ∀ l : Fin 8192, diff x0 x1 x2 x3 x4 (Fin.natAdd 16 l) = fun j => sRow x0 x1 x2 x3 ⟨16 + l.val, by omega⟩ j - tgt x4 l j := by
    intro l
    funext j
    unfold diff
    refine (dif_pos (Nat.le_add_right 16 l.val)).trans ?_
    have e : (⟨(Fin.natAdd 16 l).val - 16, by omega⟩ : Fin 8192) = l := Fin.ext (Nat.add_sub_cancel_left 16 l.val)
    rw [e]
    rfl
  have z : ∀ l : Fin 16, ∀ j, diff x0 x1 x2 x3 x4 (Fin.castAdd 8192 l) j = 0 := fun l j => dif_neg (not_le.mpr l.isLt)
  rw [show ∑ l : Fin 8208, ∑ j : Fin 1024, diff x0 x1 x2 x3 x4 l j * diff x0 x1 x2 x3 x4 l j
    = ∑ l : Fin 8192, ∑ j : Fin 1024, (sRow x0 x1 x2 x3 ⟨16 + l.val, by omega⟩ j - tgt x4 l j) * (sRow x0 x1 x2 x3 ⟨16 + l.val, by omega⟩ j - tgt x4 l j) from by
      refine (Fin.sum_univ_add (fun l : Fin (16 + 8192) => ∑ j : Fin 1024, diff x0 x1 x2 x3 x4 l j * diff x0 x1 x2 x3 x4 l j)).trans ?_
      rw [Finset.sum_eq_zero (fun l _ => Finset.sum_eq_zero fun j _ => by rw [z, zero_mul]), zero_add]
      exact Finset.sum_congr rfl fun l _ => by rw [e]]
  exact half_mean _

end Cert.Proof.FinalRef
-- ==== Proof.FinalBwd.lean ====
module

public import proofs.«01_k».proof.Proof.Gen.FfnDownLossIdeal.Value
public import proofs.«01_k».proof.Proof.FinalRef
public import Idealize.ShloMosaic.Lib.Pipeline.ReadBack
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

namespace Cert.Proof.FinalBwd

open Cert.Proof Cert.Proof.NormMath Idealize.ShloMosaic Idealize.ShloMosaic.TcCoe Idealize.SL.Sem
open Cert.FfnDownLossIdeal Cert.FfnDownLossIdeal.Gen
open Cert.Proof.FinalRef (hRow gain tgt prod vRow sRow diff dh dd K E U)

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)

theorem idx : ∀ t : Fin grid0.N, win0_0.index t = ![(grid0.coords t 0).val, 0] ∧ win0_1.index t = ![(grid0.coords t 0).val, 0]
    ∧ win0_2.index t = ![0, 0] ∧ win0_3.index t = ![0, 0] ∧ win0_4.index t = ![(grid0.coords t 0).val, 0]
    ∧ win0_5.index t = ![(grid0.coords t 0).val, 0] ∧ win0_6.index t = ![(grid0.coords t 0).val, 0]
    ∧ win0_7.index t = ![0, 0] ∧ win0_8.index t = ![0, 0] ∧ (grid0.coords t 0).val = t.val := by
  decide +kernel

/-- The operands as the kernel holds them: the stream, the activations and the target padded with zero rows, the projection. -/
def kh (c : Dev nD) (i : Fin 8448) (j : Fin 1024) : EReal := V m c main_v3 (ix2 i j)
def ka (c : Dev nD) (i : Fin 8448) (k : Fin 2816) : EReal := V m c main_v6 (ix2 i k)
def kw (c : Dev nD) (k : Fin 2816) (j : Fin 1024) : EReal := V m c main_v8 (ix2 k j)
def kt (c : Dev nD) (i : Fin 8448) (j : Fin 1024) : EReal := V m c main_v1 (ix2 i j)

/-- An element of the activations. -/
def act (x : (⟨S1x8208x2816, .f32⟩ : BufTy).Contents (Elt Ideal)) (l : Fin 8208) (k : Fin 2816) : EReal := x (ix3 (0 : Fin 1) l k)

theorem kw_at (c : Dev nD) (k : Fin 2816) (j : Fin 1024) : kw m c k j = a2 m c (ix3 (0 : Fin 1) k j) := by
  unfold kw
  simp only [V, List.flatten_cons, List.flatten_nil, List.append_nil, hostOps0, hostOps0_1, hostOps0_2, hostOps0_3, hostOps0_4, hostOps0_5, hostOps0_6, List.cons_append, List.nil_append]
  after_reads_at

theorem rows_at (c : Dev nD) (i : Fin 8448) (j : Fin 1024) :
    kh m c i j = (if h : i.val < 8208 then hRow (a0 m c) ⟨i.val, h⟩ j else 0)
    ∧ kt m c i j = (if h : 16 ≤ i.val ∧ i.val - 16 < 8192 then tgt (a4 m c) ⟨i.val - 16, h.2⟩ j else 0) := by
  rw [← sitofp_zero]
  unfold kh kt
  simp only [V, List.flatten_cons, List.flatten_nil, List.append_nil, hostOps0, hostOps0_1, hostOps0_2, hostOps0_3, hostOps0_4, hostOps0_5, hostOps0_6, List.cons_append, List.nil_append]
  refine ⟨?_, ?_⟩
  all_goals after_reads_at; rfl

theorem ka_at (c : Dev nD) (i : Fin 8448) (k : Fin 2816) : ka m c i k = if h : i.val < 8208 then act (a1 m c) ⟨i.val, h⟩ k else 0 := by
  rw [← sitofp_zero]
  unfold ka
  simp only [V, List.flatten_cons, List.flatten_nil, List.append_nil, hostOps0, hostOps0_1, hostOps0_2, hostOps0_3, hostOps0_4, hostOps0_5, hostOps0_6, List.cons_append, List.nil_append]
  after_reads_at
  rfl

theorem row_lt (t : Fin cfg0.N) (k : Fin 384) : 384 * t.val + k.val < 8448 := by
  have : t.val < 22 := t.isLt
  omega

theorem blk0 (c : Dev nD) (t : Fin cfg0.N) (y : Fin 384) (j : Fin 1024) : iblk m c 0 t (ix2 y j) = kh m c ⟨384 * t.val + y.val, row_lt t y⟩ j := by
  have e := idx t
  unfold kh
  blk_ext [iblk, V, e]

theorem blk1 (c : Dev nD) (t : Fin cfg0.N) (y : Fin 384) (k : Fin 2816) : iblk m c 1 t (ix2 y k) = ka m c ⟨384 * t.val + y.val, row_lt t y⟩ k := by
  have e := idx t
  unfold ka
  blk_ext [iblk, V, e]

theorem blk2 (c : Dev nD) (t : Fin cfg0.N) (k : Fin 2816) (j : Fin 1024) : iblk m c 2 t (ix2 k j) = kw m c k j := by
  have e := idx t
  unfold kw
  blk_ext [iblk, V, e]

theorem blk3 (c : Dev nD) (t : Fin cfg0.N) (j : Fin 1024) : iblk m c 3 t (ix2 (0 : Fin 1) j) = gain (a3 m c) j := by
  have e := idx t
  unfold gain a3
  rw [← V_main_arg3 m c]
  blk_ext [iblk, V, e]

theorem blk4 (c : Dev nD) (t : Fin cfg0.N) (y : Fin 384) (j : Fin 1024) : iblk m c 4 t (ix2 y j) = kt m c ⟨384 * t.val + y.val, row_lt t y⟩ j := by
  have e := idx t
  unfold kt
  blk_ext [iblk, V, e]

/-- The kernel's row of the projection, its difference with the target, and the gradients it computes from them. -/
def kv (c : Dev nD) (i : Fin 8448) (j : Fin 1024) : EReal := ∑ k : Fin 2816, ka m c i k * kw m c k j

def kdiff (c : Dev nD) (i : Fin 8448) (j : Fin 1024) : EReal :=
  if 16 ≤ i.val ∧ i.val < 8208 then kh m c i j + kv m c i j * rstd K E (kv m c i) * gain (a3 m c) j - kt m c i j else 0

def kdh (c : Dev nD) (i : Fin 8448) (j : Fin 1024) : EReal := kdiff m c i j * U

def kdd (c : Dev nD) (i : Fin 8448) (j : Fin 1024) : EReal := gradRow K E (kv m c i) (fun k => kdh m c i k * gain (a3 m c) k) j

theorem kv_at (c : Dev nD) (i : Fin 8448) (j : Fin 1024) : kv m c i j =
    if h : i.val < 8208 then vRow (a1 m c) (a2 m c) ⟨i.val, h⟩ j else 0 := by
  unfold kv
  by_cases h : i.val < 8208
  · rw [dif_pos h]
    unfold vRow
    refine Finset.sum_congr rfl fun k _ => ?_
    rw [ka_at, dif_pos h, kw_at]
    rfl
  · rw [dif_neg h]
    exact Finset.sum_eq_zero fun k _ => by rw [ka_at, dif_neg h, zero_mul]

theorem kdiff_at (c : Dev nD) (i : Fin 8448) (j : Fin 1024) : kdiff m c i j =
    if h : i.val < 8208 then diff (a0 m c) (a1 m c) (a2 m c) (a3 m c) (a4 m c) ⟨i.val, h⟩ j else 0 := by
  unfold kdiff
  by_cases h : i.val < 8208
  · rw [dif_pos h]
    unfold diff
    by_cases h2 : 16 ≤ i.val
    · have e : kv m c i = vRow (a1 m c) (a2 m c) ⟨i.val, h⟩ := by
        funext k; rw [kv_at, dif_pos h]
      rw [if_pos ⟨h2, h⟩, dif_pos h2, e, (rows_at m c i j).1, dif_pos h, (rows_at m c i j).2, dif_pos ⟨h2, by omega⟩]
      rfl
    · rw [if_neg fun e => h2 e.1, dif_neg h2]
  · rw [dif_neg h, if_neg fun e => h e.2]

theorem kdh_at (c : Dev nD) (i : Fin 8448) (j : Fin 1024) : kdh m c i j =
    if h : i.val < 8208 then dh (a0 m c) (a1 m c) (a2 m c) (a3 m c) (a4 m c) ⟨i.val, h⟩ j else 0 := by
  unfold kdh
  rw [kdiff_at]
  by_cases h : i.val < 8208
  · rw [dif_pos h, dif_pos h]; rfl
  · rw [dif_neg h, dif_neg h, zero_mul]

theorem kdd_at (c : Dev nD) (i : Fin 8448) (j : Fin 1024) : kdd m c i j =
    if h : i.val < 8208 then dd (a0 m c) (a1 m c) (a2 m c) (a3 m c) (a4 m c) ⟨i.val, h⟩ j else 0 := by
  unfold kdd
  by_cases h : i.val < 8208
  · rw [dif_pos h]
    unfold dd
    congr 1
    · funext k; rw [kv_at, dif_pos h]
    · funext k; rw [kdh_at, dif_pos h]
  · rw [dif_neg h]
    exact gradRow_zero _ _ _ _ _ (fun k => by rw [kv_at, dif_neg h]) (fun k => by rw [kdh_at, dif_neg h, zero_mul])

/-- The mask's word of a row of a tile: one from the sixteenth row up to the last row of the stream. -/
theorem mask_word : ∀ (i : Fin 22) (y : Fin 384), BitVec.setWidth 32
    (IntOp.andi (IntOp.cmpi CmpIPredicate.sge (IntOp.addi (Scalar.muli (BitVec.ofNat 32 i.val) 384#32) (BitVec.ofNat 32 y.val)) 16#32)
      (IntOp.cmpi CmpIPredicate.slt (IntOp.addi (Scalar.muli (BitVec.ofNat 32 i.val) 384#32) (BitVec.ofNat 32 y.val)) 8208#32))
    = if 16 ≤ 384 * i.val + y.val ∧ 384 * i.val + y.val < 8208 then 1#32 else 0#32 := by
  decide +kernel

theorem mask_at (t : Fin cfg0.N) (y : Fin 384) (j : Fin 1024) : (k0_pay7 (F := Ideal) (grid0.coords t) (ix2 y j) : EReal) =
    if 16 ≤ 384 * t.val + y.val ∧ 384 * t.val + y.val < 8208 then 1 else 0 := by
  have e := mask_word (grid0.coords t 0) y
  have et : (grid0.coords t 0).val = t.val := (idx t).2.2.2.2.2.2.2.2.2
  unfold k0_pay7
  pointwise
  rw [e, et]
  split
  · simp [FloatOps.sitofp]
  · exact sitofp_zero

/-- The body's pieces at an index: the projection, the difference, its squares' sums, the gradients and the gain's row. -/
theorem pay3_of (v3 : Vec Ideal S384x2816 .bf16) (v5 : Vec Ideal S2816x1024 .bf16) (y : Fin 384) (j : Fin 1024) :
    k0_pay3 v3 v5 (ix2 y j) = (∑ k : Fin 2816, v3 (ix2 y k) * v5 (ix2 k j) : EReal) := by
  unfold k0_pay3
  pointwise

theorem pay6_of (v3 : Vec Ideal S384x2816 .bf16) (v5 : Vec Ideal S2816x1024 .bf16) (g : Vec Ideal S1x1024 .f32) (h s : Vec Ideal S384x1024 .f32)
    (y : Fin 384) (j : Fin 1024) : k0_pay6 v3 v5 g h s (ix2 y j) =
    (h (ix2 y j) + k0_pay3 v3 v5 (ix2 y j) * rstd K E (fun k => k0_pay3 v3 v5 (ix2 y k)) * g (ix2 (0 : Fin 1) j) - s (ix2 y j) : EReal) := by
  unfold k0_pay6 k0_pay5 k0_pay4
  generalize k0_pay3 v3 v5 = D
  pointwise
  rfl

theorem pay9_of (d s : FVec Ideal S384x1024 .f32) (g : Vec Ideal S1x1024 .f32) (j : Fin 1024) : k0_pay9 d s g (ix2 (0 : Fin 1) j) =
    (g (ix2 (0 : Fin 1) j) + ∑ y : Fin 384, (d (ix2 y j) * s (ix2 y j)) * (d (ix2 y j) * s (ix2 y j)) : EReal) := by
  unfold k0_pay9 k0_pay8
  pointwise

theorem pay10_of (d s : FVec Ideal S384x1024 .f32) (y : Fin 384) (j : Fin 1024) : k0_pay10 d s (ix2 y j) =
    (d (ix2 y j) * s (ix2 y j) * U : EReal) := by
  unfold k0_pay10 k0_pay8
  pointwise

theorem pay11_of (v3 : Vec Ideal S384x2816 .bf16) (v5 : Vec Ideal S2816x1024 .bf16) (g : Vec Ideal S1x1024 .f32) (d s : FVec Ideal S384x1024 .f32)
    (y : Fin 384) (j : Fin 1024) : k0_pay11 g (k0_pay4 v3 v5) (k0_pay5 v3 v5) d s (ix2 y j) =
    gradRow K E (fun k => k0_pay3 v3 v5 (ix2 y k)) (fun k => (k0_pay10 d s (ix2 y k) * g (ix2 (0 : Fin 1) k) : EReal)) j := by
  unfold k0_pay11 k0_pay5 k0_pay4
  generalize k0_pay3 v3 v5 = D
  generalize k0_pay10 d s = X
  pointwise
  rfl

theorem pay12_of (v3 : Vec Ideal S384x2816 .bf16) (v5 : Vec Ideal S2816x1024 .bf16) (g : Vec Ideal S1x1024 .f32) (d s : FVec Ideal S384x1024 .f32)
    (j : Fin 1024) : k0_pay12 (k0_pay5 v3 v5) d s g (ix2 (0 : Fin 1) j) = (g (ix2 (0 : Fin 1) j)
      + ∑ y : Fin 384, k0_pay10 d s (ix2 y j) * (k0_pay3 v3 v5 (ix2 y j) * rstd K E (fun k => k0_pay3 v3 v5 (ix2 y k))) : EReal) := by
  unfold k0_pay12 k0_pay5 k0_pay4
  generalize k0_pay3 v3 v5 = D
  generalize k0_pay10 d s = X
  pointwise
  rfl

theorem pay13_of (g : Vec Ideal S1x1024 .f32) (j : Fin 128) : k0_pay13 g (ix2 (0 : Fin 1) j) =
    ((∑ k : Fin 1024, g (ix2 (0 : Fin 1) k)) * Ideal.ofBits FTy.f32 973078528#32 : EReal) := by
  unfold k0_pay13
  pointwise
  rw [Fin.sum_univ_one]

/-- A tile's projection, difference, mask and gradient, as the body holds them. -/
abbrev vT (c : Dev nD) (t : Fin cfg0.N) : FVec Ideal S384x1024 .f32 := k0_pay3 (iblk m c 1 t) (iblk m c 2 t)
abbrev dT (c : Dev nD) (t : Fin cfg0.N) : FVec Ideal S384x1024 .f32 :=
  k0_pay6 (iblk m c 1 t) (iblk m c 2 t) (iblk m c 3 t) (iblk m c 0 t) (iblk m c 4 t)
abbrev sT (t : Fin cfg0.N) : FVec Ideal S384x1024 .f32 := k0_pay7 (grid0.coords t)
abbrev hT (c : Dev nD) (t : Fin cfg0.N) : FVec Ideal S384x1024 .f32 := k0_pay10 (dT m c t) (sT t)

theorem vT_at (c : Dev nD) (t : Fin cfg0.N) (y : Fin 384) (j : Fin 1024) : vT m c t (ix2 y j) = kv m c ⟨384 * t.val + y.val, row_lt t y⟩ j := by
  rw [vT, pay3_of]
  simp only [blk1, blk2]
  rfl

theorem masked_at (c : Dev nD) (t : Fin cfg0.N) (y : Fin 384) (j : Fin 1024) :
    (dT m c t (ix2 y j) * sT t (ix2 y j) : EReal) = kdiff m c ⟨384 * t.val + y.val, row_lt t y⟩ j := by
  rw [sT, mask_at, dT, pay6_of]
  change ((_ + vT m c t (ix2 y j) * rstd K E (fun k => vT m c t (ix2 y k)) * _ - _) * _ : EReal) = _
  simp only [vT_at, blk0, blk3, blk4]
  unfold kdiff
  split
  · rw [mul_one]
  · rw [mul_zero]

theorem hT_at (c : Dev nD) (t : Fin cfg0.N) (y : Fin 384) (j : Fin 1024) : hT m c t (ix2 y j) = kdh m c ⟨384 * t.val + y.val, row_lt t y⟩ j := by
  rw [hT, pay10_of, masked_at]
  rfl

theorem dh_at (c : Dev nD) (t : Fin cfg0.N) (y : Fin 384) (j : Fin 1024) :
    (outsAt0 m c t.val t.isLt).1 (ix2 y j) = kdh m c ⟨384 * t.val + y.val, row_lt t y⟩ j := by
  by_cases h1 : t.val % 22 = 21
  · rw [outsAt0_C m c t (by omega) h1]; frame_out; exact hT_at m c t y j
  · by_cases h0 : t.val % 22 = 0
    · rw [outsAt0_A m c t h0 h1]; frame_out; exact hT_at m c t y j
    · rw [outsAt0_B m c t h0 h1]; frame_out; exact hT_at m c t y j

theorem dd_at (c : Dev nD) (t : Fin cfg0.N) (y : Fin 384) (j : Fin 1024) :
    (outsAt0 m c t.val t.isLt).2.1 (ix2 y j) = kdd m c ⟨384 * t.val + y.val, row_lt t y⟩ j := by
  have e : k0_pay11 (iblk m c 3 t) (k0_pay4 (iblk m c 1 t) (iblk m c 2 t)) (k0_pay5 (iblk m c 1 t) (iblk m c 2 t)) (dT m c t) (sT t) (ix2 y j)
      = kdd m c ⟨384 * t.val + y.val, row_lt t y⟩ j := by
    rw [pay11_of]
    change (gradRow K E (fun k => vT m c t (ix2 y k)) (fun k => hT m c t (ix2 y k) * _) j : EReal) = _
    simp only [vT_at, hT_at, blk3]
    rfl
  by_cases h1 : t.val % 22 = 21
  · rw [outsAt0_C m c t (by omega) h1]; frame_out; exact e
  · by_cases h0 : t.val % 22 = 0
    · rw [outsAt0_A m c t h0 h1]; frame_out; exact e
    · rw [outsAt0_B m c t h0 h1]; frame_out; exact e

/-- The four results, as arrays. -/
def dH (c : Dev nD) : (⟨S8448x1024, .f32⟩ : BufTy).Contents (Elt Ideal) := fun i => kdh m c (i 0) (i 1)

def dD (c : Dev nD) : (⟨S8448x1024, .bf16⟩ : BufTy).Contents (Elt Ideal) := fun i => kdd m c (i 0) (i 1)

def gTerm (c : Dev nD) (i : Fin 8448) (j : Fin 1024) : EReal := kdh m c i j * (kv m c i j * rstd K E (kv m c i))

def sqTerm (c : Dev nD) (i : Fin 8448) (j : Fin 1024) : EReal := kdiff m c i j * kdiff m c i j

def dG (c : Dev nD) : (⟨S1x1024, .f32⟩ : BufTy).Contents (Elt Ideal) := fun i => (∑ k : Fin 8448, gTerm m c k (i 1) : EReal)

def loss (c : Dev nD) : (⟨S1x128, .f32⟩ : BufTy).Contents (Elt Ideal) := fun _ =>
  ((∑ j : Fin 1024, ∑ k : Fin 8448, sqTerm m c k j) * Ideal.ofBits FTy.f32 973078528#32 : EReal)

theorem out5 (c : Dev nD) : (dats m 0 c).arrAt 5 (cfgs 0).N = dH m c := by
  refine (dats m 0 c).arrAt_eq_of_covers 5 _ (by decide +kernel) fun t hf y => ?_
  blk_simp
  rw [after0_5]
  have e := idx t
  idx_vars y
  have key : (outsAt0 m c t.val t.isLt).1 (ix2 y0 y1) = dH m c (ix2 (⟨384 * t.val + y0.val, row_lt t y0⟩ : Fin 8448) y1) := dh_at m c t y0 y1
  rw [key]
  blk_ext [e]

theorem out6 (c : Dev nD) : (dats m 0 c).arrAt 6 (cfgs 0).N = dD m c := by
  refine (dats m 0 c).arrAt_eq_of_covers 6 _ (by decide +kernel) fun t hf y => ?_
  blk_simp
  rw [after0_6]
  have e := idx t
  idx_vars y
  have key : (outsAt0 m c t.val t.isLt).2.1 (ix2 y0 y1) = dD m c (ix2 (⟨384 * t.val + y0.val, row_lt t y0⟩ : Fin 8448) y1) := dd_at m c t y0 y1
  rw [key]
  blk_ext [e]

/-- The grid's row blocks, one after another, are the rows. -/
theorem sum_points (f : Fin 8448 → EReal) (hh : ∀ (t : Fin 22) (k : Fin 384), 384 * t.val + k.val < 8448) :
    ∑ t : Fin 22, ∑ k : Fin 384, f ⟨384 * t.val + k.val, hh t k⟩ = ∑ k : Fin 8448, f k := by
  rw [← Fin.sum_mul_add_fin 22 384 f]
  exact Finset.sum_congr rfl fun t _ => Finset.sum_congr rfl fun k _ => congrArg f (Fin.ext (by
    show 384 * t.val + k.val = t.val * 384 + k.val; omega))

def tL : Fin cfg0.N := ⟨21, by decide⟩

/-- The tile's summands of the gain's gradient and of the squares, added to what the row holds. -/
theorem g_tile (c : Dev nD) (t : Fin cfg0.N) (g : Vec Ideal S1x1024 .f32) (j : Fin 1024) :
    k0_pay12 (k0_pay5 (iblk m c 1 t) (iblk m c 2 t)) (dT m c t) (sT t) g (ix2 (0 : Fin 1) j)
      = (g (ix2 (0 : Fin 1) j) + ∑ k : Fin 384, gTerm m c ⟨384 * t.val + k.val, row_lt t k⟩ j : EReal) := by
  rw [pay12_of]
  refine congrArg₂ (HAdd.hAdd : EReal → EReal → EReal) rfl (Finset.sum_congr rfl fun y _ => ?_)
  change (hT m c t (ix2 y j) * (vT m c t (ix2 y j) * rstd K E (fun k => vT m c t (ix2 y k))) : EReal) = _
  simp only [hT_at, vT_at]
  rfl

theorem sq_tile (c : Dev nD) (t : Fin cfg0.N) (g : Vec Ideal S1x1024 .f32) (j : Fin 1024) :
    k0_pay9 (dT m c t) (sT t) g (ix2 (0 : Fin 1) j)
      = (g (ix2 (0 : Fin 1) j) + ∑ k : Fin 384, sqTerm m c ⟨384 * t.val + k.val, row_lt t k⟩ j : EReal) := by
  rw [pay9_of]
  refine congrArg₂ (HAdd.hAdd : EReal → EReal → EReal) rfl (Finset.sum_congr rfl fun y _ => ?_)
  rw [masked_at]
  rfl

theorem gain_A (c : Dev nD) (t : Fin cfg0.N) (h : t.val % 22 = 0) (j : Fin 1024) : (outsAt0 m c t.val t.isLt).2.2.1 (ix2 (0 : Fin 1) j)
    = (0 : EReal) + ∑ k : Fin 384, gTerm m c ⟨384 * t.val + k.val, row_lt t k⟩ j := by
  rw [outsAt0_A m c t h (by omega)]; frame_out
  refine (g_tile m c t _ j).trans (congrArg₂ (HAdd.hAdd : EReal → EReal → EReal) ?_ rfl)
  unfold_payloads; pointwise

theorem gain_B (c : Dev nD) (t : Fin cfg0.N) (h : ¬ t.val % 22 = 0) (j : Fin 1024) : (outsAt0 m c t.val t.isLt).2.2.1 (ix2 (0 : Fin 1) j)
    = ((outsAt0 m c (t.val - 1) (by omega)).2.2.1 (ix2 (0 : Fin 1) j) : EReal) + ∑ k : Fin 384, gTerm m c ⟨384 * t.val + k.val, row_lt t k⟩ j := by
  by_cases h1 : t.val % 22 = 21
  · rw [outsAt0_C m c t h h1]; frame_out; exact g_tile m c t _ j
  · rw [outsAt0_B m c t h h1]; frame_out; exact g_tile m c t _ j

theorem sq_A (c : Dev nD) (t : Fin cfg0.N) (h : t.val % 22 = 0) (j : Fin 1024) : (outsAt0 m c t.val t.isLt).2.2.2.2 (ix2 (0 : Fin 1) j)
    = (0 : EReal) + ∑ k : Fin 384, sqTerm m c ⟨384 * t.val + k.val, row_lt t k⟩ j := by
  rw [outsAt0_A m c t h (by omega)]; frame_out
  refine (sq_tile m c t _ j).trans (congrArg₂ (HAdd.hAdd : EReal → EReal → EReal) ?_ rfl)
  unfold_payloads; pointwise

theorem sq_B (c : Dev nD) (t : Fin cfg0.N) (h : ¬ t.val % 22 = 0) (j : Fin 1024) : (outsAt0 m c t.val t.isLt).2.2.2.2 (ix2 (0 : Fin 1) j)
    = ((outsAt0 m c (t.val - 1) (by omega)).2.2.2.2 (ix2 (0 : Fin 1) j) : EReal) + ∑ k : Fin 384, sqTerm m c ⟨384 * t.val + k.val, row_lt t k⟩ j := by
  by_cases h1 : t.val % 22 = 21
  · rw [outsAt0_C m c t h h1]; frame_out; rw [read_unread_whole]; exact sq_tile m c t _ j
  · rw [outsAt0_B m c t h h1]; frame_out; rw [read_unread_whole]; exact sq_tile m c t _ j

/-- The last point's loss is the sum over the columns of the row of squares it holds by then. -/
theorem loss_C (c : Dev nD) (t : Fin cfg0.N) (h : t.val % 22 = 21) (k : Fin 128) : (outsAt0 m c t.val t.isLt).2.2.2.1 (ix2 (0 : Fin 1) k)
    = ((∑ j : Fin 1024, (outsAt0 m c t.val t.isLt).2.2.2.2 (ix2 (0 : Fin 1) j)) * Ideal.ofBits FTy.f32 973078528#32 : EReal) := by
  rw [outsAt0_C m c t (by omega) h]; frame_out
  exact pay13_of _ k

theorem out7 (c : Dev nD) : (dats m 0 c).arrAt 7 (cfgs 0).N = dG m c := by
  refine (dats m 0 c).arrAt_eq_of_after_last 7 tL (by decide +kernel) _ fun j => ?_
  blk_simp
  rw [after0_7]
  idx_vars j
  obtain rfl : j0 = 0 := Subsingleton.elim _ _
  rw [Pipeline.eq_sum_fin_of_reset_step_apply_last (fun n h => (outsAt0 m c n h).2.2.1) 22 (fun _ => (0 : EReal))
    (fun t (j : S1x1024.Idx) => ∑ k : Fin 384, gTerm m c ⟨384 * t.val + k.val, row_lt t k⟩ (j 1))
    (fun t h j => by
      idx_vars j
      obtain rfl : j0 = 0 := Subsingleton.elim _ _
      exact gain_A m c t h j1)
    (fun t h j => by
      idx_vars j
      obtain rfl : j0 = 0 := Subsingleton.elim _ _
      exact gain_B m c t h j1) (by decide) tL rfl (ix2 (0 : Fin 1) j1), zero_add]
  exact sum_points (fun k => gTerm m c k j1) (hh := fun t k => row_lt t k)

theorem sq_last (c : Dev nD) (j : Fin 1024) : (outsAt0 m c tL.val tL.isLt).2.2.2.2 (ix2 (0 : Fin 1) j) = (∑ k : Fin 8448, sqTerm m c k j : EReal) := by
  rw [Pipeline.eq_sum_fin_of_reset_step_apply_last (fun n h => (outsAt0 m c n h).2.2.2.2) 22 (fun _ => (0 : EReal))
    (fun t (j : S1x1024.Idx) => ∑ k : Fin 384, sqTerm m c ⟨384 * t.val + k.val, row_lt t k⟩ (j 1))
    (fun t h j => by
      idx_vars j
      obtain rfl : j0 = 0 := Subsingleton.elim _ _
      exact sq_A m c t h j1)
    (fun t h j => by
      idx_vars j
      obtain rfl : j0 = 0 := Subsingleton.elim _ _
      exact sq_B m c t h j1) (by decide) tL rfl (ix2 (0 : Fin 1) j), zero_add]
  exact sum_points (fun k => sqTerm m c k j) (hh := fun t k => row_lt t k)

theorem out8 (c : Dev nD) : (dats m 0 c).arrAt 8 (cfgs 0).N = loss m c := by
  refine (dats m 0 c).arrAt_eq_of_after_last 8 tL (by decide +kernel) _ fun j => ?_
  blk_simp
  rw [after0_8]
  idx_vars j
  obtain rfl : j0 = 0 := Subsingleton.elim _ _
  rw [loss_C m c tL rfl j1]
  simp only [sq_last]
  rfl

/-- The kernel's results are the reference's of the same arguments. -/
theorem dH_eq (c : Dev nD) : dH m c = Cert.FfnDownLossRefIdeal.Read.val_main_v60 (F := Ideal) (a0 m c) (a1 m c) (a2 m c) (a3 m c) (a4 m c) := by
  funext i
  idx_vars i
  rw [FinalRef.refread_dh]
  exact kdh_at m c i0 i1

theorem dD_eq (c : Dev nD) : dD m c = Cert.FfnDownLossRefIdeal.Read.val_main_v63 (F := Ideal) (a0 m c) (a1 m c) (a2 m c) (a3 m c) (a4 m c) := by
  funext i
  idx_vars i
  rw [FinalRef.refread_dd]
  exact kdd_at m c i0 i1

theorem dG_eq (c : Dev nD) : dG m c = Cert.FfnDownLossRefIdeal.Read.val_main_v58 (F := Ideal) (a0 m c) (a1 m c) (a2 m c) (a3 m c) (a4 m c) := by
  funext i
  idx_vars i
  obtain rfl : i0 = 0 := Subsingleton.elim _ _
  rw [FinalRef.refread_dg]
  refine sum_pad (by decide) _ _ (fun l => ?_) (fun k hk => ?_)
  · have e : kv m c ⟨l.val, by omega⟩ = vRow (a1 m c) (a2 m c) l := by
      funext k; rw [kv_at, dif_pos l.isLt]
    show kdh m c ⟨l.val, by omega⟩ i1 * (kv m c ⟨l.val, by omega⟩ i1 * rstd K E (kv m c ⟨l.val, by omega⟩)) = _
    rw [e, kdh_at, dif_pos l.isLt, mul_comm]
  · show kdh m c k i1 * _ = 0
    rw [kdh_at, dif_neg (not_lt.mpr hk), zero_mul]

theorem loss_eq (c : Dev nD) : loss m c = Cert.FfnDownLossRefIdeal.Read.val_main_v64 (F := Ideal) (a0 m c) (a1 m c) (a2 m c) (a3 m c) (a4 m c) := by
  funext i
  idx_vars i
  obtain rfl : i0 = 0 := Subsingleton.elim _ _
  rw [FinalRef.refread_loss]
  refine congrArg (fun x : EReal => x * Ideal.ofBits FTy.f32 973078528#32) (Finset.sum_comm.trans ?_)
  refine sum_pad (by decide) _ _ (fun l => Finset.sum_congr rfl fun j _ => ?_) (fun k hk => Finset.sum_eq_zero fun j _ => ?_)
  · show kdiff m c ⟨l.val, by omega⟩ j * kdiff m c ⟨l.val, by omega⟩ j = _
    rw [kdiff_at, dif_pos l.isLt]
  · show kdiff m c k j * kdiff m c k j = 0
    rw [kdiff_at, dif_neg (not_lt.mpr hk), zero_mul]

end Cert.Proof.FinalBwd
-- ==== Proof.MidRef.lean ====
module

public import proofs.«01_k».proof.Proof.Gen.MidBwdRefIdeal.Read
public import proofs.«01_k».proof.Proof.NormMath
public import Idealize.ShloMosaic.Lib.Pointwise
public import Idealize.ShloMosaic.Lib.Claim

@[expose] public section

set_option maxRecDepth 16384

noncomputable section

namespace Cert.Proof.MidRef

open Cert.Proof Cert.Proof.NormMath Idealize.ShloMosaic Idealize.ShloMosaic.TcCoe Idealize.SL.Sem
open Cert.MidBwdRefIdeal Cert.MidBwdRefIdeal.Gen Cert.MidBwdRefIdeal.Read

variable (x0 x1 : (⟨S1x8208x1024, .f32⟩ : BufTy).Contents (Elt Ideal)) (x2 x3 : (⟨S1x1024, .f32⟩ : BufTy).Contents (Elt Ideal))
  (x4 : (⟨S1x1024x5632, .f32⟩ : BufTy).Contents (Elt Ideal)) (x5 : (⟨S1x8208x1024, .f32⟩ : BufTy).Contents (Elt Ideal))
  (x6 : (⟨S1x8208x5632, .f32⟩ : BufTy).Contents (Elt Ideal))

abbrev K : EReal := Ideal.ofBits FTy.f32 1149239296#32

abbrev E : EReal := Ideal.ofBits FTy.f32 897988541#32

/-- A row of an array, an element of a gain. -/
def row (x : (⟨S1x8208x1024, .f32⟩ : BufTy).Contents (Elt Ideal)) (l : Fin 8208) (j : Fin 1024) : EReal := x (ix3 (0 : Fin 1) l j)

def gain (x : (⟨S1x1024, .f32⟩ : BufTy).Contents (Elt Ideal)) (j : Fin 1024) : EReal := x (ix2 (0 : Fin 1) j)

/-- The middle residual stream's row: the incoming one with the mixers' sum, normalised and scaled, added. -/
def hRow (l : Fin 8208) (j : Fin 1024) : EReal := row x0 l j + row x1 l j * rstd K E (row x1 l) * gain x2 j

/-- The normalised row's cotangent through the up projection. -/
def prod (l : Fin 8208) (j : Fin 1024) (k : Fin 5632) : EReal := (x6 (ix3 (0 : Fin 1) l k) * x4 (ix3 (0 : Fin 1) j k) : EReal)

def yRow (l : Fin 8208) (j : Fin 1024) : EReal := ∑ k : Fin 5632, prod x4 x6 l j k

def dRow (l : Fin 8208) (j : Fin 1024) : EReal := yRow x4 x6 l j * gain x3 j

/-- The middle stream's gradient and the mixers' sum's. -/
def dh (l : Fin 8208) (j : Fin 1024) : EReal := row x5 l j + gradRow K E (hRow x0 x1 x2 l) (dRow x3 x4 x6 l) j

def dm (l : Fin 8208) (j : Fin 1024) : EReal := gradRow K E (row x1 l) (fun k => dh x0 x1 x2 x3 x4 x5 x6 l k * gain x2 k) j

theorem r2_at (l : Fin 8208) : val_main_v8 x1 (ix3 (0 : Fin 1) l (0 : Fin 1)) = rstd K E (row x1 l) := by
  conv_lhs => unfold val_main_v8
  pointwise [val_main_v7, val_main_v6, val_main_cst_1, val_main_v5, val_main_v4, val_main_cst_0, val_main_v3, val_main_v2, val_main_cst, val_main_v1]
  rfl

theorem h1_at (l : Fin 8208) (j : Fin 1024) : val_main_v17 x0 x1 x2 (ix3 (0 : Fin 1) l j) = hRow x0 x1 x2 l j := by
  conv_lhs => unfold val_main_v17
  pointwise [val_main_v16, val_main_v15, val_main_v14, val_main_v13, val_main_v12, val_main_v0]
  simp only [r2_at]
  rfl

theorem r3_at (l : Fin 8208) : val_main_v26 x0 x1 x2 (ix3 (0 : Fin 1) l (0 : Fin 1)) = rstd K E (hRow x0 x1 x2 l) := by
  conv_lhs => unfold val_main_v26
  pointwise [val_main_v25, val_main_v24, val_main_cst_5, val_main_v23, val_main_v22, val_main_cst_4, val_main_v21, val_main_v20, val_main_cst_3, val_main_v19]
  simp only [h1_at]
  rfl

theorem y_at (l : Fin 8208) (j : Fin 1024) : val_main_v37 x4 x6 (ix3 (0 : Fin 1) l j) = yRow x4 x6 l j := by
  conv_lhs => unfold val_main_v37
  pointwise [val_main_v35]
  rfl

theorem d_at (l : Fin 8208) (j : Fin 1024) : val_main_v42 x3 x4 x6 (ix3 (0 : Fin 1) l j) = dRow x3 x4 x6 l j := by
  conv_lhs => unfold val_main_v42
  pointwise [val_main_v41, val_main_v32, val_main_v18]
  simp only [y_at]
  rfl

theorem dh_at (l : Fin 8208) (j : Fin 1024) : val_main_v59 x0 x1 x2 x3 x4 x5 x6 (ix3 (0 : Fin 1) l j) = dh x0 x1 x2 x3 x4 x5 x6 l j := by
  unfold dh
  rw [← gradRow_spelled k1024_word (by norm_num) eps_word norm_eps_pos half_word (hRow x0 x1 x2 l) (dRow x3 x4 x6 l) j]
  conv_lhs => unfold val_main_v59
  pointwise [val_main_v58, val_main_v57, val_main_v56, val_main_v55, val_main_v54, val_main_v53, val_main_cst_11, val_main_v52, val_main_v51, val_main_cst_10, val_main_v50, val_main_v49, val_main_v48, val_main_v47, val_main_v46, val_main_v45, val_main_cst_9, val_main_v44, val_main_v29, val_main_v28, val_main_cst_6, val_main_v27, val_main_v26, val_main_v25, val_main_v24, val_main_cst_5, val_main_v23, val_main_v22, val_main_cst_4, val_main_v21, val_main_v20, val_main_cst_3, val_main_v19]
  simp only [d_at, h1_at]
  rw [add_assoc, add_assoc, ← add_assoc (_ * _ : EReal)]
  rfl

theorem dg_at (l : Fin 8208) (j : Fin 1024) : val_main_v66 x0 x1 x2 x3 x4 x5 x6 (ix3 (0 : Fin 1) l j) =
    dh x0 x1 x2 x3 x4 x5 x6 l j * gain x2 j := by
  conv_lhs => unfold val_main_v66
  pointwise [val_main_v65, val_main_v61, val_main_v14, val_main_v0]
  simp only [dh_at]
  rfl

theorem dm_at (l : Fin 8208) (j : Fin 1024) : val_main_v82 x0 x1 x2 x3 x4 x5 x6 (ix3 (0 : Fin 1) l j) = dm x0 x1 x2 x3 x4 x5 x6 l j := by
  unfold dm
  rw [← gradRow_spelled k1024_word (by norm_num) eps_word norm_eps_pos half_word (row x1 l) _ j]
  conv_lhs => unfold val_main_v82
  pointwise [val_main_v81, val_main_v80, val_main_v79, val_main_v78, val_main_v77, val_main_v76, val_main_cst_16, val_main_v75, val_main_v74, val_main_cst_15, val_main_v73, val_main_v72, val_main_v71, val_main_v70, val_main_v69, val_main_cst_14, val_main_v68, val_main_v11, val_main_v10, val_main_cst_2, val_main_v9, val_main_v8, val_main_v7, val_main_v6, val_main_cst_1, val_main_v5, val_main_v4, val_main_cst_0, val_main_v3, val_main_v2, val_main_cst, val_main_v1]
  simp only [dg_at]
  rfl

/-- The four results at an index. -/
theorem refread_dh (i : Fin 8448) (j : Fin 1024) : val_main_v85 x0 x1 x2 x3 x4 x5 x6 (ix2 i j) =
    if hi : i.val < 8208 then dh x0 x1 x2 x3 x4 x5 x6 ⟨i.val, hi⟩ j else 0 := by
  rw [← sitofp_zero]
  conv_lhs => unfold val_main_v85
  pointwise [val_main_v84, val_main_call0_v0, val_main_c]
  simp only [dh_at]

theorem refread_dm (i : Fin 8448) (j : Fin 1024) : val_main_v88 x0 x1 x2 x3 x4 x5 x6 (ix2 i j) =
    if hi : i.val < 8208 then dm x0 x1 x2 x3 x4 x5 x6 ⟨i.val, hi⟩ j else 0 := by
  rw [← sitofp_zero]
  conv_lhs => unfold val_main_v88
  pointwise [val_main_v87, val_main_v86, val_main_call1_v0, val_main_c_17]
  simp only [dm_at]

theorem refread_dg3 (j : Fin 1024) : val_main_v60 x0 x1 x2 x4 x6 (ix2 (0 : Fin 1) j) =
    ∑ l : Fin 8208, hRow x0 x1 x2 l j * rstd K E (hRow x0 x1 x2 l) * yRow x4 x6 l j := by
  conv_lhs => unfold val_main_v60
  pointwise [val_main_v31, val_main_v30, val_main_v40, val_main_v39, val_main_cst_7, val_main_v38, val_main_v43, val_main_cst_8]
  simp only [r3_at, h1_at, y_at]

theorem refread_dg2 (j : Fin 1024) : val_main_v83 x0 x1 x2 x3 x4 x5 x6 (ix2 (0 : Fin 1) j) =
    ∑ l : Fin 8208, row x1 l j * rstd K E (row x1 l) * dh x0 x1 x2 x3 x4 x5 x6 l j := by
  conv_lhs => unfold val_main_v83
  pointwise [val_main_v67, val_main_cst_13, val_main_cst_12, val_main_v64, val_main_v63, val_main_v62, val_main_v61, val_main_v13, val_main_v12]
  simp only [r2_at, dh_at]
  rfl

end Cert.Proof.MidRef
-- ==== Proof.MidBwd.lean ====
module

public import proofs.«01_k».proof.Proof.Gen.MidBwdIdeal.Value
public import proofs.«01_k».proof.Proof.MidRef
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

namespace Cert.Proof.MidBwd

open Cert.Proof Cert.Proof.NormMath Idealize.ShloMosaic Idealize.ShloMosaic.TcCoe Idealize.SL.Sem
open Cert.MidBwdIdeal Cert.MidBwdIdeal.Gen
open Cert.Proof.MidRef (row gain hRow prod yRow dRow dh dm K E)

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)

theorem idx : ∀ t : Fin grid0.N, win0_0.index t = ![(grid0.coords t 0).val, 0] ∧ win0_1.index t = ![0, 0]
    ∧ win0_2.index t = ![(grid0.coords t 0).val, 0] ∧ win0_3.index t = ![(grid0.coords t 0).val, 0] ∧ win0_4.index t = ![0, 0]
    ∧ win0_5.index t = ![(grid0.coords t 0).val, 0] ∧ win0_6.index t = ![(grid0.coords t 0).val, 0] ∧ win0_7.index t = ![0, 0]
    ∧ win0_8.index t = ![(grid0.coords t 0).val, 0] ∧ win0_9.index t = ![(grid0.coords t 0).val, 0]
    ∧ win0_10.index t = ![0, 0] ∧ win0_11.index t = ![0, 0] ∧ (grid0.coords t 0).val = t.val := by
  decide +kernel

/-- An element of the up projection's cotangent. -/
def cot (x : (⟨S1x8208x5632, .f32⟩ : BufTy).Contents (Elt Ideal)) (l : Fin 8208) (k : Fin 5632) : EReal := x (ix3 (0 : Fin 1) l k)

/-- The operands as the kernel holds them: the middle stream, the incoming gradient and the mixers' sum, padded with zero rows,
    the two halves of the up projection's cotangent, the projection. -/
def kx (c : Dev nD) (i : Fin 8448) (j : Fin 1024) : EReal := V m c main_v19 (ix2 i j)
def kr (c : Dev nD) (i : Fin 8448) (j : Fin 1024) : EReal := V m c main_v25 (ix2 i j)
def km (c : Dev nD) (i : Fin 8448) (j : Fin 1024) : EReal := V m c main_v27 (ix2 i j)
def kw (c : Dev nD) (j : Fin 1024) (k : Fin 5632) : EReal := V m c main_v23 (ix2 j k)
def kc (c : Dev nD) (i : Fin 8448) (k : Fin 5632) : EReal :=
  if h : i.val < 8208 ∧ k.val < 5632 then cot (a6 m c) ⟨i.val, h.1⟩ ⟨k.val, h.2⟩ else 0

theorem kw_at (c : Dev nD) (j : Fin 1024) (k : Fin 5632) : kw m c j k = a4 m c (ix3 (0 : Fin 1) j k) := by
  unfold kw
  simp only [V, List.flatten_cons, List.flatten_nil, List.append_nil, hostOps0, hostOps0_1, hostOps0_2, hostOps0_3, hostOps0_4, hostOps0_5, hostOps0_6, hostOps0_7, List.cons_append, List.nil_append]
  after_reads_at

theorem kp_at (c : Dev nD) (i : Fin 8448) (k : Fin 2816) :
    V m c main_v20 (ix2 i k) = kc m c i ⟨k.val, by omega⟩ ∧ V m c main_v21 (ix2 i k) = kc m c i ⟨2816 + k.val, by omega⟩ := by
  unfold kc
  rw [← sitofp_zero]
  simp only [V, List.flatten_cons, List.flatten_nil, List.append_nil, hostOps0, hostOps0_1, hostOps0_2, hostOps0_3, hostOps0_4, hostOps0_5, hostOps0_6, hostOps0_7, List.cons_append, List.nil_append]
  refine ⟨?_, ?_⟩
  all_goals after_reads_at; rfl

theorem rows_at (c : Dev nD) (i : Fin 8448) (j : Fin 1024) :
    kr m c i j = (if h : i.val < 8208 then row (a5 m c) ⟨i.val, h⟩ j else 0) ∧ km m c i j = (if h : i.val < 8208 then row (a1 m c) ⟨i.val, h⟩ j else 0) := by
  rw [← sitofp_zero]
  unfold kr km
  simp only [V, List.flatten_cons, List.flatten_nil, List.append_nil, hostOps0, hostOps0_1, hostOps0_2, hostOps0_3, hostOps0_4, hostOps0_5, hostOps0_6, hostOps0_7, List.cons_append, List.nil_append]
  refine ⟨?_, ?_⟩
  all_goals after_reads_at; rfl

theorem kx_at (c : Dev nD) (i : Fin 8448) (j : Fin 1024) : kx m c i j = if h : i.val < 8208 then hRow (a0 m c) (a1 m c) (a2 m c) ⟨i.val, h⟩ j else 0 := by
  rw [← sitofp_zero]
  unfold kx
  simp only [V, List.flatten_cons, List.flatten_nil, List.append_nil, hostOps0, hostOps0_1, hostOps0_2, hostOps0_3, hostOps0_4, hostOps0_5, hostOps0_6, hostOps0_7, List.cons_append, List.nil_append]
  after_reads_at
  rfl

theorem row_lt (t : Fin cfg0.N) (k : Fin 256) : 256 * t.val + k.val < 8448 := by
  have : t.val < 33 := t.isLt
  omega

theorem blk0 (c : Dev nD) (t : Fin cfg0.N) (y : Fin 256) (j : Fin 1024) :
    iblk m c 0 t (ix2 y j) = kx m c ⟨256 * t.val + y.val, row_lt t y⟩ j := by
  have e := idx t
  unfold kx
  blk_ext [iblk, V, e]

theorem blk5 (c : Dev nD) (t : Fin cfg0.N) (y : Fin 256) (j : Fin 1024) :
    iblk m c 5 t (ix2 y j) = kr m c ⟨256 * t.val + y.val, row_lt t y⟩ j := by
  have e := idx t
  unfold kr
  blk_ext [iblk, V, e]

theorem blk6 (c : Dev nD) (t : Fin cfg0.N) (y : Fin 256) (j : Fin 1024) :
    iblk m c 6 t (ix2 y j) = km m c ⟨256 * t.val + y.val, row_lt t y⟩ j := by
  have e := idx t
  unfold km
  blk_ext [iblk, V, e]

theorem blk1 (c : Dev nD) (t : Fin cfg0.N) (j : Fin 1024) : iblk m c 1 t (ix2 (0 : Fin 1) j) = gain (a3 m c) j := by
  have e := idx t
  unfold gain a3
  rw [← V_main_arg3 m c]
  blk_ext [iblk, V, e]

theorem blk7 (c : Dev nD) (t : Fin cfg0.N) (j : Fin 1024) : iblk m c 7 t (ix2 (0 : Fin 1) j) = gain (a2 m c) j := by
  have e := idx t
  unfold gain a2
  rw [← V_main_arg2 m c]
  blk_ext [iblk, V, e]

theorem blk2 (c : Dev nD) (t : Fin cfg0.N) (y : Fin 256) (k : Fin 2816) :
    iblk m c 2 t (ix2 y k) = kc m c ⟨256 * t.val + y.val, row_lt t y⟩ ⟨k.val, by omega⟩ := by
  have e := idx t
  rw [← (kp_at m c _ k).1]
  blk_ext [iblk, V, e]

theorem blk3 (c : Dev nD) (t : Fin cfg0.N) (y : Fin 256) (k : Fin 2816) :
    iblk m c 3 t (ix2 y k) = kc m c ⟨256 * t.val + y.val, row_lt t y⟩ ⟨2816 + k.val, by omega⟩ := by
  have e := idx t
  rw [← (kp_at m c _ k).2]
  blk_ext [iblk, V, e]

theorem blk4w (c : Dev nD) (t : Fin cfg0.N) (j : Fin 1024) (k : Fin 5632) : iblk m c 4 t (ix2 j k) = kw m c j k := by
  have e := idx t
  unfold kw
  blk_ext [iblk, V, e]

/-- The two halves of the projection's columns, as loaded. -/
theorem blk4 (c : Dev nD) (t : Fin cfg0.N) (j : Fin 1024) (k : Fin 2816) :
    (View.ld (iblk m c 4 t) (Rect.unit ![0, 0] ![1024, 2816] inb_S1024x5632_S1024x2816_0_0)) (ix2 j k) = kw m c j ⟨k.val, by omega⟩
    ∧ (View.ld (iblk m c 4 t) (Rect.unit ![0, 2816] ![1024, 2816] inb_S1024x5632_S1024x2816_0_2816)) (ix2 j k) = kw m c j ⟨2816 + k.val, by omega⟩ := by
  rw [← blk4w m c t, ← blk4w m c t]
  generalize iblk m c 4 t = X
  refine ⟨View.ld_unit_apply_of X _ _ _ _ _ fun a => ?_, View.ld_unit_apply_of X _ _ _ _ _ fun a => ?_⟩
  all_goals
    match a with
    | ⟨0, _⟩ => exact (Nat.zero_add _).symm
    | ⟨1, _⟩ => first | rfl | exact (Nat.zero_add _).symm

/-- The kernel's row of cotangents and the gradients it computes from them. -/
def ky (c : Dev nD) (i : Fin 8448) (j : Fin 1024) : EReal := ∑ k : Fin 5632, kc m c i k * kw m c j k

def kdh (c : Dev nD) (i : Fin 8448) (j : Fin 1024) : EReal :=
  kr m c i j + gradRow K E (kx m c i) (fun k => ky m c i k * gain (a3 m c) k) j

def kdm (c : Dev nD) (i : Fin 8448) (j : Fin 1024) : EReal := gradRow K E (km m c i) (fun k => kdh m c i k * gain (a2 m c) k) j

theorem ky_at (c : Dev nD) (i : Fin 8448) (j : Fin 1024) : ky m c i j =
    if h : i.val < 8208 then yRow (a4 m c) (a6 m c) ⟨i.val, h⟩ j else 0 := by
  unfold ky
  by_cases h : i.val < 8208
  · rw [dif_pos h]
    unfold yRow
    refine Finset.sum_congr rfl fun k _ => ?_
    have e : kc m c i k = cot (a6 m c) ⟨i.val, h⟩ k := dif_pos ⟨h, k.isLt⟩
    rw [e, kw_at]
    rfl
  · rw [dif_neg h]
    exact Finset.sum_eq_zero fun k _ => by rw [kc, dif_neg (fun e => h e.1), zero_mul]

theorem kdh_at (c : Dev nD) (i : Fin 8448) (j : Fin 1024) : kdh m c i j =
    if h : i.val < 8208 then dh (a0 m c) (a1 m c) (a2 m c) (a3 m c) (a4 m c) (a5 m c) (a6 m c) ⟨i.val, h⟩ j else 0 := by
  unfold kdh
  rw [(rows_at m c i j).1]
  by_cases h : i.val < 8208
  · rw [dif_pos h, dif_pos h]
    unfold dh
    refine congrArg₂ (HAdd.hAdd : EReal → EReal → EReal) rfl ?_
    congr 1
    · funext k; rw [kx_at, dif_pos h]
    · funext k; rw [ky_at, dif_pos h]; rfl
  · rw [dif_neg h, dif_neg h, zero_add]
    exact gradRow_zero _ _ _ _ _ (fun k => by rw [kx_at, dif_neg h]) (fun k => by rw [ky_at, dif_neg h, zero_mul])

theorem kdm_at (c : Dev nD) (i : Fin 8448) (j : Fin 1024) : kdm m c i j =
    if h : i.val < 8208 then dm (a0 m c) (a1 m c) (a2 m c) (a3 m c) (a4 m c) (a5 m c) (a6 m c) ⟨i.val, h⟩ j else 0 := by
  unfold kdm
  by_cases h : i.val < 8208
  · rw [dif_pos h]
    unfold dm
    congr 1
    · funext k; rw [(rows_at m c i k).2, dif_pos h]
    · funext k; rw [kdh_at, dif_pos h]
  · rw [dif_neg h]
    exact gradRow_zero _ _ _ _ _ (fun k => by rw [(rows_at m c i k).2, dif_neg h]) (fun k => by rw [kdh_at, dif_neg h, zero_mul])

/-- The body's pieces at an index: the cotangent's products, the gradients from them, the gains' rows. -/
theorem pay4_of (v3 : Vec Ideal S256x2816 .bf16) (v5 : Vec Ideal S1024x2816 .bf16) (v8 : Vec Ideal S256x2816 .bf16) (v10 : Vec Ideal S1024x2816 .bf16) (y : Fin 256) (j : Fin 1024) :
    k0_pay4 v3 v5 v8 v10 (ix2 y j) = ((∑ k : Fin 2816, v3 (ix2 y k) * v5 (ix2 j k)) + (∑ k : Fin 2816, v8 (ix2 y k) * v10 (ix2 j k)) : EReal) := by
  unfold k0_pay4
  pointwise

theorem pay9_of (v3 : Vec Ideal S256x2816 .bf16) (v5 : Vec Ideal S1024x2816 .bf16) (v8 : Vec Ideal S256x2816 .bf16) (v10 : Vec Ideal S1024x2816 .bf16) (v14 : Vec Ideal S256x1024 .f32) (v16 : Vec Ideal S1x1024 .f32)
    (v40 : Vec Ideal S256x1024 .f32) (y : Fin 256) (j : Fin 1024) : k0_pay9 (k0_pay6 v14) (k0_pay8 v3 v5 v8 v10 v14 v16) v40 (ix2 y j) =
    (v40 (ix2 y j) + gradRow K E (fun k => v14 (ix2 y k)) (fun k => (k0_pay4 v3 v5 v8 v10 (ix2 y k) * v16 (ix2 (0 : Fin 1) k) : EReal)) j : EReal) := by
  unfold k0_pay9 k0_pay8 k0_pay7 k0_pay6 k0_pay5
  generalize k0_pay4 v3 v5 v8 v10 = D
  pointwise
  rfl

theorem pay10_of (D : FVec Ideal S256x1024 .f32) (v14 : Vec Ideal S256x1024 .f32) (g : Vec Ideal S1x1024 .f32) (j : Fin 1024) :
    k0_pay10 D (k0_pay7 v14) g (ix2 (0 : Fin 1) j) =
    (g (ix2 (0 : Fin 1) j) + ∑ y : Fin 256, D (ix2 y j) * (v14 (ix2 y j) * rstd K E (fun k => v14 (ix2 y k))) : EReal) := by
  unfold k0_pay10 k0_pay7 k0_pay6 k0_pay5
  pointwise
  rfl

theorem pay15_of (v24 : FVec Ideal S256x1 .f32) (v36 : FVec Ideal S256x1024 .f32) (v40 v50 : Vec Ideal S256x1024 .f32) (v52 : Vec Ideal S1x1024 .f32)
    (y : Fin 256) (j : Fin 1024) : k0_pay15 v24 v36 v40 v50 v52 (ix2 y j) =
    gradRow K E (fun k => v50 (ix2 y k)) (fun k => (k0_pay9 v24 v36 v40 (ix2 y k) * v52 (ix2 (0 : Fin 1) k) : EReal)) j := by
  unfold k0_pay15 k0_pay13 k0_pay12 k0_pay11
  generalize k0_pay9 v24 v36 v40 = D
  pointwise
  rfl

theorem pay1_of (v24 : FVec Ideal S256x1 .f32) (v36 : FVec Ideal S256x1024 .f32) (v40 v50 : Vec Ideal S256x1024 .f32) (g : Vec Ideal S1x1024 .f32)
    (j : Fin 1024) : k0_pay1 (k0_pay14 v24 v36 v40 v50) g (ix2 (0 : Fin 1) j) =
    (g (ix2 (0 : Fin 1) j) + ∑ y : Fin 256, k0_pay9 v24 v36 v40 (ix2 y j) * (v50 (ix2 y j) * rstd K E (fun k => v50 (ix2 y k))) : EReal) := by
  unfold k0_pay1 k0_pay14 k0_pay13 k0_pay12 k0_pay11
  generalize k0_pay9 v24 v36 v40 = D
  pointwise
  rfl

/-- The body's rows of cotangents and of the middle stream's gradients of a tile. -/
abbrev kd (c : Dev nD) (t : Fin cfg0.N) : FVec Ideal S256x1024 .f32 :=
  k0_pay4 (iblk m c 2 t) (View.ld (iblk m c 4 t) (Rect.unit ![0, 0] ![1024, 2816] inb_S1024x5632_S1024x2816_0_0))
    (iblk m c 3 t) (View.ld (iblk m c 4 t) (Rect.unit ![0, 2816] ![1024, 2816] inb_S1024x5632_S1024x2816_0_2816))

abbrev kh (c : Dev nD) (t : Fin cfg0.N) : FVec Ideal S256x1024 .f32 :=
  k0_pay9 (k0_pay6 (iblk m c 0 t)) (k0_pay8 (iblk m c 2 t) (View.ld (iblk m c 4 t) (Rect.unit ![0, 0] ![1024, 2816] inb_S1024x5632_S1024x2816_0_0))
    (iblk m c 3 t) (View.ld (iblk m c 4 t) (Rect.unit ![0, 2816] ![1024, 2816] inb_S1024x5632_S1024x2816_0_2816))
    (iblk m c 0 t) (iblk m c 1 t)) (iblk m c 5 t)

theorem kd_at (c : Dev nD) (t : Fin cfg0.N) (y : Fin 256) (j : Fin 1024) : kd m c t (ix2 y j) = ky m c ⟨256 * t.val + y.val, row_lt t y⟩ j := by
  rw [kd, pay4_of]
  simp only [blk2, blk3, (blk4 m c t j _).1, (blk4 m c t j _).2]
  exact (Fin.sum_univ_add (fun k : Fin (2816 + 2816) => kc m c ⟨256 * t.val + y.val, row_lt t y⟩ k * kw m c j k)).symm

theorem kh_at (c : Dev nD) (t : Fin cfg0.N) (y : Fin 256) (j : Fin 1024) : kh m c t (ix2 y j) = kdh m c ⟨256 * t.val + y.val, row_lt t y⟩ j := by
  rw [kh, pay9_of]
  change (_ + gradRow K E _ (fun k => kd m c t (ix2 y k) * _) j : EReal) = _
  simp only [kd_at, blk0, blk1, blk5]
  rfl

theorem dh_at (c : Dev nD) (t : Fin cfg0.N) (y : Fin 256) (j : Fin 1024) :
    (outsAt0 m c t.val t.isLt).1 (ix2 y j) = kdh m c ⟨256 * t.val + y.val, row_lt t y⟩ j := by
  by_cases h0 : t.val % 33 = 0
  · rw [outsAt0_A m c t h0]; frame_out; exact kh_at m c t y j
  · rw [outsAt0_B m c t h0]; frame_out; exact kh_at m c t y j

theorem dm_at (c : Dev nD) (t : Fin cfg0.N) (y : Fin 256) (j : Fin 1024) :
    (outsAt0 m c t.val t.isLt).2.1 (ix2 y j) = kdm m c ⟨256 * t.val + y.val, row_lt t y⟩ j := by
  have e : k0_pay15 (k0_pay6 (iblk m c 0 t)) (k0_pay8 (iblk m c 2 t) (View.ld (iblk m c 4 t) (Rect.unit ![0, 0] ![1024, 2816] inb_S1024x5632_S1024x2816_0_0))
      (iblk m c 3 t) (View.ld (iblk m c 4 t) (Rect.unit ![0, 2816] ![1024, 2816] inb_S1024x5632_S1024x2816_0_2816))
      (iblk m c 0 t) (iblk m c 1 t)) (iblk m c 5 t) (iblk m c 6 t) (iblk m c 7 t) (ix2 y j) = kdm m c ⟨256 * t.val + y.val, row_lt t y⟩ j := by
    rw [pay15_of]
    change (gradRow K E _ (fun k => kh m c t (ix2 y k) * _) j : EReal) = _
    simp only [kh_at, blk6, blk7]
    rfl
  by_cases h0 : t.val % 33 = 0
  · rw [outsAt0_A m c t h0]; frame_out; exact e
  · rw [outsAt0_B m c t h0]; frame_out; exact e

/-- The four results, as arrays. -/
def dH (c : Dev nD) : (⟨S8448x1024, .f32⟩ : BufTy).Contents (Elt Ideal) := fun i => kdh m c (i 0) (i 1)

def dM (c : Dev nD) : (⟨S8448x1024, .bf16⟩ : BufTy).Contents (Elt Ideal) := fun i => kdm m c (i 0) (i 1)

def g3Term (c : Dev nD) (i : Fin 8448) (j : Fin 1024) : EReal := ky m c i j * (kx m c i j * rstd K E (kx m c i))

def g2Term (c : Dev nD) (i : Fin 8448) (j : Fin 1024) : EReal := kdh m c i j * (km m c i j * rstd K E (km m c i))

def dG3 (c : Dev nD) : (⟨S1x1024, .f32⟩ : BufTy).Contents (Elt Ideal) := fun i => (∑ k : Fin 8448, g3Term m c k (i 1) : EReal)

def dG2 (c : Dev nD) : (⟨S1x1024, .f32⟩ : BufTy).Contents (Elt Ideal) := fun i => (∑ k : Fin 8448, g2Term m c k (i 1) : EReal)

theorem out8 (c : Dev nD) : (dats m 0 c).arrAt 8 (cfgs 0).N = dH m c := by
  refine (dats m 0 c).arrAt_eq_of_covers 8 _ (by decide +kernel) fun t hf y => ?_
  blk_simp
  rw [after0_8]
  have e := idx t
  idx_vars y
  have key : (outsAt0 m c t.val t.isLt).1 (ix2 y0 y1) = dH m c (ix2 (⟨256 * t.val + y0.val, row_lt t y0⟩ : Fin 8448) y1) := dh_at m c t y0 y1
  rw [key]
  blk_ext [e]

theorem out9 (c : Dev nD) : (dats m 0 c).arrAt 9 (cfgs 0).N = dM m c := by
  refine (dats m 0 c).arrAt_eq_of_covers 9 _ (by decide +kernel) fun t hf y => ?_
  blk_simp
  rw [after0_9]
  have e := idx t
  idx_vars y
  have key : (outsAt0 m c t.val t.isLt).2.1 (ix2 y0 y1) = dM m c (ix2 (⟨256 * t.val + y0.val, row_lt t y0⟩ : Fin 8448) y1) := dm_at m c t y0 y1
  rw [key]
  blk_ext [e]

/-- The grid's row blocks, one after another, are the rows. -/
theorem sum_points (f : Fin 8448 → EReal) (hh : ∀ (t : Fin 33) (k : Fin 256), 256 * t.val + k.val < 8448) :
    ∑ t : Fin 33, ∑ k : Fin 256, f ⟨256 * t.val + k.val, hh t k⟩ = ∑ k : Fin 8448, f k := by
  rw [← Fin.sum_mul_add_fin 33 256 f]
  exact Finset.sum_congr rfl fun t _ => Finset.sum_congr rfl fun k _ => congrArg f (Fin.ext (by
    show 256 * t.val + k.val = t.val * 256 + k.val; omega))

def tL : Fin cfg0.N := ⟨32, by decide⟩

/-- The tile's summands of the two gains' gradients, added to what the row holds. -/
theorem g3_tile (c : Dev nD) (t : Fin cfg0.N) (g : Vec Ideal S1x1024 .f32) (j : Fin 1024) :
    k0_pay10 (kd m c t) (k0_pay7 (iblk m c 0 t)) g (ix2 (0 : Fin 1) j)
      = (g (ix2 (0 : Fin 1) j) + ∑ k : Fin 256, g3Term m c ⟨256 * t.val + k.val, row_lt t k⟩ j : EReal) := by
  rw [pay10_of]
  refine congrArg₂ (HAdd.hAdd : EReal → EReal → EReal) rfl (Finset.sum_congr rfl fun y _ => ?_)
  simp only [kd_at, blk0]
  rfl

theorem g2_tile (c : Dev nD) (t : Fin cfg0.N) (g : Vec Ideal S1x1024 .f32) (j : Fin 1024) :
    k0_pay1 (k0_pay14 (k0_pay6 (iblk m c 0 t)) (k0_pay8 (iblk m c 2 t) (View.ld (iblk m c 4 t) (Rect.unit ![0, 0] ![1024, 2816] inb_S1024x5632_S1024x2816_0_0))
      (iblk m c 3 t) (View.ld (iblk m c 4 t) (Rect.unit ![0, 2816] ![1024, 2816] inb_S1024x5632_S1024x2816_0_2816))
      (iblk m c 0 t) (iblk m c 1 t)) (iblk m c 5 t) (iblk m c 6 t)) g (ix2 (0 : Fin 1) j)
      = (g (ix2 (0 : Fin 1) j) + ∑ k : Fin 256, g2Term m c ⟨256 * t.val + k.val, row_lt t k⟩ j : EReal) := by
  rw [pay1_of]
  refine congrArg₂ (HAdd.hAdd : EReal → EReal → EReal) rfl (Finset.sum_congr rfl fun y _ => ?_)
  change (kh m c t (ix2 y j) * _ : EReal) = _
  simp only [kh_at, blk6]
  rfl

theorem gain3_A (c : Dev nD) (t : Fin cfg0.N) (h : t.val % 33 = 0) (j : Fin 1024) : (outsAt0 m c t.val t.isLt).2.2.1 (ix2 (0 : Fin 1) j)
    = (0 : EReal) + ∑ k : Fin 256, g3Term m c ⟨256 * t.val + k.val, row_lt t k⟩ j := by
  rw [outsAt0_A m c t h]; frame_out
  refine (g3_tile m c t _ j).trans (congrArg₂ (HAdd.hAdd : EReal → EReal → EReal) ?_ rfl)
  unfold_payloads; pointwise

theorem gain3_B (c : Dev nD) (t : Fin cfg0.N) (h : ¬ t.val % 33 = 0) (j : Fin 1024) : (outsAt0 m c t.val t.isLt).2.2.1 (ix2 (0 : Fin 1) j)
    = ((outsAt0 m c (t.val - 1) (by omega)).2.2.1 (ix2 (0 : Fin 1) j) : EReal) + ∑ k : Fin 256, g3Term m c ⟨256 * t.val + k.val, row_lt t k⟩ j := by
  rw [outsAt0_B m c t h]; frame_out
  exact g3_tile m c t _ j

theorem out10 (c : Dev nD) : (dats m 0 c).arrAt 10 (cfgs 0).N = dG3 m c := by
  refine (dats m 0 c).arrAt_eq_of_after_last 10 tL (by decide +kernel) _ fun j => ?_
  blk_simp
  rw [after0_10]
  idx_vars j
  obtain rfl : j0 = 0 := Subsingleton.elim _ _
  rw [Pipeline.eq_sum_fin_of_reset_step_apply_last (fun n h => (outsAt0 m c n h).2.2.1) 33 (fun _ => (0 : EReal))
    (fun t (j : S1x1024.Idx) => ∑ k : Fin 256, g3Term m c ⟨256 * t.val + k.val, row_lt t k⟩ (j 1))
    (fun t h j => by
      idx_vars j
      obtain rfl : j0 = 0 := Subsingleton.elim _ _
      exact gain3_A m c t h j1)
    (fun t h j => by
      idx_vars j
      obtain rfl : j0 = 0 := Subsingleton.elim _ _
      exact gain3_B m c t h j1) (by decide) tL rfl (ix2 (0 : Fin 1) j1), zero_add]
  exact sum_points (fun k => g3Term m c k j1) (hh := fun t k => row_lt t k)

theorem gain2_A (c : Dev nD) (t : Fin cfg0.N) (h : t.val % 33 = 0) (j : Fin 1024) : (outsAt0 m c t.val t.isLt).2.2.2 (ix2 (0 : Fin 1) j)
    = (0 : EReal) + ∑ k : Fin 256, g2Term m c ⟨256 * t.val + k.val, row_lt t k⟩ j := by
  rw [outsAt0_A m c t h]; frame_out
  refine (g2_tile m c t _ j).trans (congrArg₂ (HAdd.hAdd : EReal → EReal → EReal) ?_ rfl)
  unfold_payloads; pointwise

theorem gain2_B (c : Dev nD) (t : Fin cfg0.N) (h : ¬ t.val % 33 = 0) (j : Fin 1024) : (outsAt0 m c t.val t.isLt).2.2.2 (ix2 (0 : Fin 1) j)
    = ((outsAt0 m c (t.val - 1) (by omega)).2.2.2 (ix2 (0 : Fin 1) j) : EReal) + ∑ k : Fin 256, g2Term m c ⟨256 * t.val + k.val, row_lt t k⟩ j := by
  rw [outsAt0_B m c t h]; frame_out
  exact g2_tile m c t _ j

theorem out11 (c : Dev nD) : (dats m 0 c).arrAt 11 (cfgs 0).N = dG2 m c := by
  refine (dats m 0 c).arrAt_eq_of_after_last 11 tL (by decide +kernel) _ fun j => ?_
  blk_simp
  rw [after0_11]
  idx_vars j
  obtain rfl : j0 = 0 := Subsingleton.elim _ _
  rw [Pipeline.eq_sum_fin_of_reset_step_apply_last (fun n h => (outsAt0 m c n h).2.2.2) 33 (fun _ => (0 : EReal))
    (fun t (j : S1x1024.Idx) => ∑ k : Fin 256, g2Term m c ⟨256 * t.val + k.val, row_lt t k⟩ (j 1))
    (fun t h j => by
      idx_vars j
      obtain rfl : j0 = 0 := Subsingleton.elim _ _
      exact gain2_A m c t h j1)
    (fun t h j => by
      idx_vars j
      obtain rfl : j0 = 0 := Subsingleton.elim _ _
      exact gain2_B m c t h j1) (by decide) tL rfl (ix2 (0 : Fin 1) j1), zero_add]
  exact sum_points (fun k => g2Term m c k j1) (hh := fun t k => row_lt t k)

/-- The kernel's results are the reference's of the same arguments. -/
theorem dH_eq (c : Dev nD) : dH m c = Cert.MidBwdRefIdeal.Read.val_main_v85 (F := Ideal) (a0 m c) (a1 m c) (a2 m c) (a3 m c) (a4 m c) (a5 m c) (a6 m c) := by
  funext i
  idx_vars i
  rw [MidRef.refread_dh]
  exact kdh_at m c i0 i1

theorem dM_eq (c : Dev nD) : dM m c = Cert.MidBwdRefIdeal.Read.val_main_v88 (F := Ideal) (a0 m c) (a1 m c) (a2 m c) (a3 m c) (a4 m c) (a5 m c) (a6 m c) := by
  funext i
  idx_vars i
  rw [MidRef.refread_dm]
  exact kdm_at m c i0 i1

theorem dG3_eq (c : Dev nD) : dG3 m c = Cert.MidBwdRefIdeal.Read.val_main_v60 (F := Ideal) (a0 m c) (a1 m c) (a2 m c) (a4 m c) (a6 m c) := by
  funext i
  idx_vars i
  obtain rfl : i0 = 0 := Subsingleton.elim _ _
  rw [MidRef.refread_dg3]
  refine sum_pad (by decide) _ _ (fun l => ?_) (fun k hk => ?_)
  · have e : kx m c ⟨l.val, by omega⟩ = hRow (a0 m c) (a1 m c) (a2 m c) l := by
      funext k; rw [kx_at, dif_pos l.isLt]
    show ky m c ⟨l.val, by omega⟩ i1 * (kx m c ⟨l.val, by omega⟩ i1 * rstd K E (kx m c ⟨l.val, by omega⟩)) = _
    rw [e, ky_at, dif_pos l.isLt, mul_comm]
  · show ky m c k i1 * _ = 0
    rw [ky_at, dif_neg (not_lt.mpr hk), zero_mul]

theorem dG2_eq (c : Dev nD) : dG2 m c = Cert.MidBwdRefIdeal.Read.val_main_v83 (F := Ideal) (a0 m c) (a1 m c) (a2 m c) (a3 m c) (a4 m c) (a5 m c) (a6 m c) := by
  funext i
  idx_vars i
  obtain rfl : i0 = 0 := Subsingleton.elim _ _
  rw [MidRef.refread_dg2]
  refine sum_pad (by decide) _ _ (fun l => ?_) (fun k hk => ?_)
  · have e : km m c ⟨l.val, by omega⟩ = row (a1 m c) l := by
      funext k; rw [(rows_at m c _ k).2, dif_pos l.isLt]
    show kdh m c ⟨l.val, by omega⟩ i1 * (km m c ⟨l.val, by omega⟩ i1 * rstd K E (km m c ⟨l.val, by omega⟩)) = _
    rw [e, kdh_at, dif_pos l.isLt, mul_comm]
  · show kdh m c k i1 * _ = 0
    rw [kdh_at, dif_neg (not_lt.mpr hk), zero_mul]

end Cert.Proof.MidBwd
-- ==== Proof.AttnOutRef.lean ====
module

public import proofs.«01_k».proof.Proof.Gen.AttnOutBwdRefIdeal.Read
public import proofs.«01_k».proof.Proof.NormMath
public import Idealize.ShloMosaic.Lib.Pointwise
public import Idealize.ShloMosaic.Lib.Claim

@[expose] public section

set_option maxRecDepth 16384

noncomputable section

namespace Cert.Proof.AttnOutRef

open Cert.Proof Cert.Proof.NormMath Idealize.ShloMosaic Idealize.ShloMosaic.TcCoe Idealize.SL.Sem
open Cert.AttnOutBwdRefIdeal Cert.AttnOutBwdRefIdeal.Gen Cert.AttnOutBwdRefIdeal.Read

variable (x0 : (⟨S1x8208x1024, .f32⟩ : BufTy).Contents (Elt Ideal)) (x1 : (⟨S1x1024, .f32⟩ : BufTy).Contents (Elt Ideal))
  (x2 : (⟨S1x2048x1024, .f32⟩ : BufTy).Contents (Elt Ideal)) (x3 : (⟨S1x8208x1024, .f32⟩ : BufTy).Contents (Elt Ideal))

/-- A row of attention outputs, its cotangent through the output projection, and that times the gain. -/
def xRow (l : Fin 8208) (j : Fin 1024) : EReal := x0 (ix3 (0 : Fin 1) l j)

def yRow (l : Fin 8208) (j : Fin 1024) : EReal :=
  ∑ k : Fin 1024, (x3 (ix3 (0 : Fin 1) l k) * x2 (ix3 (0 : Fin 1) (⟨j.val, by omega⟩ : Fin 2048) k) : EReal)

def dRow (l : Fin 8208) (j : Fin 1024) : EReal := yRow x2 x3 l j * (x1 (ix2 (0 : Fin 1) j) : EReal)

abbrev K : EReal := Ideal.ofBits FTy.f32 1149239296#32

abbrev E : EReal := Ideal.ofBits FTy.f32 897988541#32

/-- The gradient of the attention outputs. -/
def dx (l : Fin 8208) (j : Fin 1024) : EReal := gradRow K E (xRow x0 l) (dRow x1 x2 x3 l) j

theorem v25_at (l : Fin 8208) (j : Fin 1024) : val_main_v25 x1 x2 x3 (ix3 (0 : Fin 1) l j) = dRow x1 x2 x3 l j := by
  conv_lhs => unfold val_main_v25
  pointwise [val_main_v24, val_main_v20, val_main_v18, val_main_v17, val_main_v14, val_main_v0]
  rfl

theorem v41_at (l : Fin 8208) (j : Fin 1024) : val_main_v41 x0 x1 x2 x3 (ix3 (0 : Fin 1) l j) = dx x0 x1 x2 x3 l j := by
  conv_lhs => unfold val_main_v41
  pointwise [val_main_v40, val_main_v39, val_main_v38, val_main_v37, val_main_v36, val_main_v35, val_main_v34, val_main_v33, val_main_v32, val_main_v31, val_main_v30, val_main_v29, val_main_v28, val_main_v27, val_main_v11, val_main_v10, val_main_v9, val_main_v8, val_main_v7, val_main_v6, val_main_v5, val_main_v4, val_main_v3, val_main_v2, val_main_v1, val_main_cst, val_main_cst_0, val_main_cst_1, val_main_cst_2, val_main_cst_5, val_main_cst_6, val_main_cst_7]
  simp only [v25_at]
  exact gradRow_spelled k1024_word (by norm_num) eps_word norm_eps_pos half_word (xRow x0 l) (dRow x1 x2 x3 l) j

theorem rstd_at (l : Fin 8208) : val_main_v8 x0 (ix3 (0 : Fin 1) l (0 : Fin 1)) = rstd K E (xRow x0 l) := by
  conv_lhs => unfold val_main_v8
  pointwise [val_main_v7, val_main_v6, val_main_v5, val_main_v4, val_main_v3, val_main_v2, val_main_v1, val_main_cst, val_main_cst_0, val_main_cst_1]
  rfl

/-- The three results at an index. -/
theorem refread_dh (h : Fin 8) (i : Fin 8448) (d : Fin 128) : val_main_v55 x0 x1 x2 x3 (ix3 h i d) =
    if hi : i.val < 8208 then dx x0 x1 x2 x3 ⟨i.val, hi⟩ ⟨h.val * 128 + d.val, by omega⟩ else 0 := by
  rw [← sitofp_zero]
  conv_lhs => unfold val_main_v55
  pointwise [val_main_v54, val_main_v53, val_main_v52, val_main_v51, val_main_call0_v0, val_main_c]
  simp only [v41_at]

theorem refread_delta (h : Fin 8) (i : Fin 11) (k : Fin 768) : val_main_v57 x0 x1 x2 x3 (ix4 h i (0 : Fin 1) k) =
    if hi : i.val * 768 + k.val < 8208 then
      ∑ d : Fin 128, xRow x0 ⟨i.val * 768 + k.val, hi⟩ ⟨h.val * 128 + d.val, by omega⟩ * dx x0 x1 x2 x3 ⟨i.val * 768 + k.val, hi⟩ ⟨h.val * 128 + d.val, by omega⟩
    else 0 := by
  rw [← sitofp_zero]
  conv_lhs => unfold val_main_v57
  pointwise [val_main_v56, val_main_v50, val_main_v49, val_main_v48, val_main_v47, val_main_v46, val_main_v45, val_main_v44, val_main_v43, val_main_call1_v0, val_main_c_9, val_main_cst_8]
  simp only [v41_at]
  rfl

theorem refread_dg (j : Fin 1024) : val_main_v42 x0 x2 x3 (ix2 (0 : Fin 1) j) =
    ∑ l : Fin 8208, xRow x0 l j * rstd K E (xRow x0 l) * yRow x2 x3 l j := by
  conv_lhs => unfold val_main_v42
  pointwise [val_main_v26, val_main_v23, val_main_v22, val_main_v21, val_main_v20, val_main_v18, val_main_v17, val_main_v13, val_main_v12, val_main_cst_3, val_main_cst_4]
  simp only [rstd_at]
  rfl

end Cert.Proof.AttnOutRef
-- ==== Proof.AttnOutBwd.lean ====
module

public import proofs.«01_k».proof.Proof.Gen.AttnOutBwdIdeal.Value
public import proofs.«01_k».proof.Proof.AttnOutRef
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

namespace Cert.Proof.AttnOutBwd

open Cert.Proof Cert.Proof.NormMath Idealize.ShloMosaic Idealize.ShloMosaic.TcCoe Idealize.SL.Sem
open Cert.AttnOutBwdIdeal Cert.AttnOutBwdIdeal.Gen
open Cert.Proof.AttnOutRef (xRow yRow dRow dx K E)

variable (m : (ℓ : Loc nD τ sig) → Buf (Elt Ideal) ℓ)

theorem idx : ∀ t : Fin grid0.N, win0_0.index t = ![(grid0.coords t 0).val, 0] ∧ win0_1.index t = ![0, 0]
    ∧ win0_2.index t = ![(grid0.coords t 0).val, 0] ∧ win0_3.index t = ![0, 0] ∧ win0_4.index t = ![0, (grid0.coords t 0).val, 0]
    ∧ win0_5.index t = ![0, (grid0.coords t 0).val, 0, 0] ∧ win0_6.index t = ![0, 0] ∧ (grid0.coords t 0).val = t.val := by
  decide +kernel

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)

/-- The operands as the kernel holds them: the rows padded with zeros, the gain, the cotangent padded, the projection. -/
def kx (c : Dev nD) (i : Fin 8448) (j : Fin 1024) : EReal := V m c main_v1 (ix2 i j)
def kc (c : Dev nD) (i : Fin 8448) (j : Fin 1024) : EReal := V m c main_v4 (ix2 i j)
def kw (c : Dev nD) (i : Fin 1024) (j : Fin 1024) : EReal := V m c main_v7 (ix2 i j)
def kg (c : Dev nD) (j : Fin 1024) : EReal := V m c main_arg1 (ix2 (0 : Fin 1) j)

theorem kx_at (c : Dev nD) (i : Fin 8448) (j : Fin 1024) : kx m c i j =
    if h : i.val < 8208 then xRow (a0 m c) ⟨i.val, h⟩ j else 0 := by
  rw [← sitofp_zero]
  unfold kx
  simp only [V, List.flatten_cons, List.flatten_nil, List.append_nil, hostOps0, hostOps0_1, hostOps0_2, hostOps0_3,
    hostOps0_4, List.cons_append, List.nil_append]
  after_reads_at
  rfl

theorem kc_at (c : Dev nD) (i : Fin 8448) (j : Fin 1024) : kc m c i j =
    if h : i.val < 8208 then xRow (a3 m c) ⟨i.val, h⟩ j else 0 := by
  rw [← sitofp_zero]
  unfold kc
  simp only [V, List.flatten_cons, List.flatten_nil, List.append_nil, hostOps0, hostOps0_1, hostOps0_2, hostOps0_3,
    hostOps0_4, List.cons_append, List.nil_append]
  after_reads_at
  rfl

theorem kw_at (c : Dev nD) (i j : Fin 1024) : kw m c i j = a2 m c (ix3 (0 : Fin 1) (⟨i.val, by omega⟩ : Fin 2048) j) := by
  unfold kw
  simp only [V, List.flatten_cons, List.flatten_nil, List.append_nil, hostOps0, hostOps0_1, hostOps0_2, hostOps0_3,
    hostOps0_4, List.cons_append, List.nil_append]
  after_reads_at

theorem kg_at (c : Dev nD) (j : Fin 1024) : kg m c j = a1 m c (ix2 (0 : Fin 1) j) := by
  unfold kg
  rw [V_main_arg1]

theorem blk0 (c : Dev nD) (t : Fin cfg0.N) (y0 : Fin 768) (y1 : Fin 1024) (hh : 768 * t.val + y0.val < 8448) :
    iblk m c 0 t (ix2 y0 y1) = kx m c ⟨768 * t.val + y0.val, hh⟩ y1 := by
  have e := idx t
  unfold kx
  blk_ext [iblk, V, e]

theorem blk1 (c : Dev nD) (t : Fin cfg0.N) (y1 : Fin 1024) : iblk m c 1 t (ix2 (0 : Fin 1) y1) = kg m c y1 := by
  have e := idx t
  unfold kg
  blk_ext [iblk, V, e]

theorem blk2 (c : Dev nD) (t : Fin cfg0.N) (y0 : Fin 768) (y1 : Fin 1024) (hh : 768 * t.val + y0.val < 8448) :
    iblk m c 2 t (ix2 y0 y1) = kc m c ⟨768 * t.val + y0.val, hh⟩ y1 := by
  have e := idx t
  unfold kc
  blk_ext [iblk, V, e]

theorem blk3 (c : Dev nD) (t : Fin cfg0.N) (y0 y1 : Fin 1024) : iblk m c 3 t (ix2 y0 y1) = kw m c y0 y1 := by
  have e := idx t
  unfold kw
  blk_ext [iblk, V, e]

/-- The kernel's row of cotangents and the gradient it computes from them. -/
def ky (c : Dev nD) (i : Fin 8448) (j : Fin 1024) : EReal := ∑ k : Fin 1024, kc m c i k * kw m c j k

def kdx (c : Dev nD) (i : Fin 8448) (j : Fin 1024) : EReal := gradRow K E (kx m c i) (fun k => ky m c i k * kg m c k) j

theorem ky_at (c : Dev nD) (i : Fin 8448) (j : Fin 1024) : ky m c i j =
    if h : i.val < 8208 then yRow (a2 m c) (a3 m c) ⟨i.val, h⟩ j else 0 := by
  unfold ky
  by_cases h : i.val < 8208
  · rw [dif_pos h]
    exact Finset.sum_congr rfl fun k _ => by rw [kc_at, dif_pos h, kw_at]; rfl
  · rw [dif_neg h]
    exact Finset.sum_eq_zero fun k _ => by rw [kc_at, dif_neg h, zero_mul]

theorem kdx_at (c : Dev nD) (i : Fin 8448) (j : Fin 1024) : kdx m c i j =
    if h : i.val < 8208 then dx (a0 m c) (a1 m c) (a2 m c) (a3 m c) ⟨i.val, h⟩ j else 0 := by
  unfold kdx
  by_cases h : i.val < 8208
  · rw [dif_pos h]
    unfold dx
    congr 1
    · funext k; rw [kx_at, dif_pos h]
    · funext k; rw [ky_at, dif_pos h, kg_at]; rfl
  · rw [dif_neg h]
    exact gradRow_zero _ _ _ _ _ (fun k => by rw [kx_at, dif_neg h]) (fun k => by rw [ky_at, dif_neg h, zero_mul])

/-- The body's gradient tile. -/
theorem pay_at (c : Dev nD) (t : Fin cfg0.N) (y0 : Fin 768) (y1 : Fin 1024) (hh : 768 * t.val + y0.val < 8448) :
    k0_pay10 (iblk m c 0 t) (iblk m c 1 t) (iblk m c 2 t) (iblk m c 3 t) (ix2 y0 y1) = kdx m c ⟨768 * t.val + y0.val, hh⟩ y1 := by
  unfold_payloads
  pointwise
  simp only [blk0 m c t y0 _ hh, blk2 m c t y0 _ hh, blk1, blk3]
  rfl

/-- The tile of head `k` in a stack of eight is the columns from `128 k` on. -/
theorem head_tile (P : S768x1024.Idx → EReal) (w : S1x768x128.Idx → EReal) (k h : Fin 8) (y0 : Fin 768) (d : Fin 128)
    (hw : ∀ (y : Fin 768) (d : Fin 128), w (ix3 (0 : Fin 1) y d) = P (ix2 y (⟨k.val * 128 + d.val, by omega⟩ : Fin 1024))) :
    View.TileAt (Val := Elt Ideal) (e := .bf16) (S := S8x768x128) (ix3 h y0 d) ![k.val, 0, 0] ![1, 768, 128] w (P (ix2 y0 (⟨h.val * 128 + d.val, by omega⟩ : Fin 1024))) := by
  intro x hx
  have e0 : h.val = k.val + (x 0).val := hx 0
  have e1 : y0.val = 0 + (x 1).val := hx 1
  have e2 : d.val = 0 + (x 2).val := hx 2
  have hx0 : (x 0).val < 1 := (x 0).isLt
  obtain rfl : k = h := Fin.ext (by omega)
  rw [← hw]
  congr 1
  funext a
  apply Fin.ext
  match a with
  | ⟨0, _⟩ => exact (by omega : (x 0).val = 0)
  | ⟨1, _⟩ => exact (by omega : (x 1).val = y0.val)
  | ⟨2, _⟩ => exact (by omega : (x 2).val = d.val)

/-- Read at an index, the stack of the eight heads' tiles is the gradient tile. -/
theorem dh_stack (P : FVec Ideal S768x1024 .f32) (h : Fin 8) (y0 : Fin 768) (d : Fin 128) : View.canon (Val := Elt Ideal) (e := .bf16) (s := S8x768x128)
      [⟨Rect.unit ![7, 0, 0] ![1, 768, 128] inb_S8x768x128_S1x768x128_7_0_0, k0_pay3 P⟩,
        ⟨Rect.unit ![6, 0, 0] ![1, 768, 128] inb_S8x768x128_S1x768x128_6_0_0, k0_pay32 P⟩,
        ⟨Rect.unit ![5, 0, 0] ![1, 768, 128] inb_S8x768x128_S1x768x128_5_0_0, k0_pay29 P⟩,
        ⟨Rect.unit ![4, 0, 0] ![1, 768, 128] inb_S8x768x128_S1x768x128_4_0_0, k0_pay26 (k0_pay25 P)⟩,
        ⟨Rect.unit ![3, 0, 0] ![1, 768, 128] inb_S8x768x128_S1x768x128_3_0_0, k0_pay22 P⟩,
        ⟨Rect.unit ![2, 0, 0] ![1, 768, 128] inb_S8x768x128_S1x768x128_2_0_0, k0_pay19 P⟩,
        ⟨Rect.unit ![1, 0, 0] ![1, 768, 128] inb_S8x768x128_S1x768x128_1_0_0, k0_pay16 P⟩,
        ⟨Rect.unit ![0, 0, 0] ![1, 768, 128] inb_S8x768x128_S1x768x128_0_0_0, k0_pay13 P⟩]
      (ix3 h y0 d) = P (ix2 y0 (⟨h.val * 128 + d.val, by omega⟩ : Fin 1024)) := by
  refine View.canon_eq_of_allAt _ _ _ (View.cover_of_tiled_head _ _ _ (by rfl) _) ?_
  refine View.allAt_cons_unit _ _ _ _ _ (head_tile P _ 7 h y0 d fun y d => ?_) ?_
  · unfold_payloads; pointwise
  refine View.allAt_cons_unit _ _ _ _ _ (head_tile P _ 6 h y0 d fun y d => ?_) ?_
  · unfold_payloads; pointwise
  refine View.allAt_cons_unit _ _ _ _ _ (head_tile P _ 5 h y0 d fun y d => ?_) ?_
  · unfold_payloads; pointwise
  refine View.allAt_cons_unit _ _ _ _ _ (head_tile P _ 4 h y0 d fun y d => ?_) ?_
  · unfold_payloads; pointwise
  refine View.allAt_cons_unit _ _ _ _ _ (head_tile P _ 3 h y0 d fun y d => ?_) ?_
  · unfold_payloads; pointwise
  refine View.allAt_cons_unit _ _ _ _ _ (head_tile P _ 2 h y0 d fun y d => ?_) ?_
  · unfold_payloads; pointwise
  refine View.allAt_cons_unit _ _ _ _ _ (head_tile P _ 1 h y0 d fun y d => ?_) ?_
  · unfold_payloads; pointwise
  refine View.allAt_cons_unit _ _ _ _ _ (head_tile P _ 0 h y0 d fun y d => ?_) (View.allAt_nil _ _)
  · unfold_payloads; pointwise

/-- The same of the stack of the row sums. -/
theorem sum_tile (T : Fin 8 → Fin 768 → EReal) (w : S1x1x1x768.Idx → EReal) (k h : Fin 8) (y0 : Fin 768)
    (hw : ∀ (y : Fin 768), w (ix4 (0 : Fin 1) (0 : Fin 1) (0 : Fin 1) y) = T k y) :
    View.TileAt (Val := Elt Ideal) (e := .f32) (S := S8x1x1x768) (ix4 h (0 : Fin 1) (0 : Fin 1) y0) ![k.val, 0, 0, 0] ![1, 1, 1, 768] w (T h y0) := by
  intro x hx
  have e0 : h.val = k.val + (x 0).val := hx 0
  have e3 : y0.val = 0 + (x 3).val := hx 3
  have hx0 : (x 0).val < 1 := (x 0).isLt
  have hx1 : (x 1).val < 1 := (x 1).isLt
  have hx2 : (x 2).val < 1 := (x 2).isLt
  obtain rfl : k = h := Fin.ext (by omega)
  rw [← hw]
  congr 1
  funext a
  apply Fin.ext
  match a with
  | ⟨0, _⟩ => exact (by omega : (x 0).val = 0)
  | ⟨1, _⟩ => exact (by omega : (x 1).val = 0)
  | ⟨2, _⟩ => exact (by omega : (x 2).val = 0)
  | ⟨3, _⟩ => exact (by omega : (x 3).val = y0.val)

theorem delta_stack (X P : FVec Ideal S768x1024 .f32) (h : Fin 8) (y0 : Fin 768) : View.canon (Val := Elt Ideal) (e := .f32) (s := S8x1x1x768)
      [⟨Rect.unit ![7, 0, 0, 0] ![1, 1, 1, 768] inb_S8x1x1x768_S1x1x1x768_7_0_0_0, k0_pay4 X P⟩,
        ⟨Rect.unit ![6, 0, 0, 0] ![1, 1, 1, 768] inb_S8x1x1x768_S1x1x1x768_6_0_0_0, k0_pay1 X (k0_pay31 P)⟩,
        ⟨Rect.unit ![5, 0, 0, 0] ![1, 1, 1, 768] inb_S8x1x1x768_S1x1x1x768_5_0_0_0, k0_pay30 X P⟩,
        ⟨Rect.unit ![4, 0, 0, 0] ![1, 1, 1, 768] inb_S8x1x1x768_S1x1x1x768_4_0_0_0, k0_pay27 X (k0_pay24 P)⟩,
        ⟨Rect.unit ![3, 0, 0, 0] ![1, 1, 1, 768] inb_S8x1x1x768_S1x1x1x768_3_0_0_0, k0_pay23 X P⟩,
        ⟨Rect.unit ![2, 0, 0, 0] ![1, 1, 1, 768] inb_S8x1x1x768_S1x1x1x768_2_0_0_0, k0_pay20 X P⟩,
        ⟨Rect.unit ![1, 0, 0, 0] ![1, 1, 1, 768] inb_S8x1x1x768_S1x1x1x768_1_0_0_0, k0_pay17 X P⟩,
        ⟨Rect.unit ![0, 0, 0, 0] ![1, 1, 1, 768] inb_S8x1x1x768_S1x1x1x768_0_0_0_0, k0_pay14 X P⟩]
      (ix4 h (0 : Fin 1) (0 : Fin 1) y0) =
    ∑ d : Fin 128, (X (ix2 y0 (⟨h.val * 128 + d.val, by omega⟩ : Fin 1024)) * P (ix2 y0 (⟨h.val * 128 + d.val, by omega⟩ : Fin 1024)) : EReal) := by
  refine View.canon_eq_of_allAt _ _ _ (View.cover_of_tiled_head _ _ _ (by rfl) _) ?_
  refine View.allAt_cons_unit _ _ _ _ _ (sum_tile (fun h y => ∑ d : Fin 128, (X (ix2 y (⟨h.val * 128 + d.val, by omega⟩ : Fin 1024)) * P (ix2 y (⟨h.val * 128 + d.val, by omega⟩ : Fin 1024)) : EReal)) _ 7 h y0 fun y => ?_) ?_
  · unfold_payloads; pointwise
  refine View.allAt_cons_unit _ _ _ _ _ (sum_tile (fun h y => ∑ d : Fin 128, (X (ix2 y (⟨h.val * 128 + d.val, by omega⟩ : Fin 1024)) * P (ix2 y (⟨h.val * 128 + d.val, by omega⟩ : Fin 1024)) : EReal)) _ 6 h y0 fun y => ?_) ?_
  · unfold_payloads; pointwise
  refine View.allAt_cons_unit _ _ _ _ _ (sum_tile (fun h y => ∑ d : Fin 128, (X (ix2 y (⟨h.val * 128 + d.val, by omega⟩ : Fin 1024)) * P (ix2 y (⟨h.val * 128 + d.val, by omega⟩ : Fin 1024)) : EReal)) _ 5 h y0 fun y => ?_) ?_
  · unfold_payloads; pointwise
  refine View.allAt_cons_unit _ _ _ _ _ (sum_tile (fun h y => ∑ d : Fin 128, (X (ix2 y (⟨h.val * 128 + d.val, by omega⟩ : Fin 1024)) * P (ix2 y (⟨h.val * 128 + d.val, by omega⟩ : Fin 1024)) : EReal)) _ 4 h y0 fun y => ?_) ?_
  · unfold_payloads; pointwise
  refine View.allAt_cons_unit _ _ _ _ _ (sum_tile (fun h y => ∑ d : Fin 128, (X (ix2 y (⟨h.val * 128 + d.val, by omega⟩ : Fin 1024)) * P (ix2 y (⟨h.val * 128 + d.val, by omega⟩ : Fin 1024)) : EReal)) _ 3 h y0 fun y => ?_) ?_
  · unfold_payloads; pointwise
  refine View.allAt_cons_unit _ _ _ _ _ (sum_tile (fun h y => ∑ d : Fin 128, (X (ix2 y (⟨h.val * 128 + d.val, by omega⟩ : Fin 1024)) * P (ix2 y (⟨h.val * 128 + d.val, by omega⟩ : Fin 1024)) : EReal)) _ 2 h y0 fun y => ?_) ?_
  · unfold_payloads; pointwise
  refine View.allAt_cons_unit _ _ _ _ _ (sum_tile (fun h y => ∑ d : Fin 128, (X (ix2 y (⟨h.val * 128 + d.val, by omega⟩ : Fin 1024)) * P (ix2 y (⟨h.val * 128 + d.val, by omega⟩ : Fin 1024)) : EReal)) _ 1 h y0 fun y => ?_) ?_
  · unfold_payloads; pointwise
  refine View.allAt_cons_unit _ _ _ _ _ (sum_tile (fun h y => ∑ d : Fin 128, (X (ix2 y (⟨h.val * 128 + d.val, by omega⟩ : Fin 1024)) * P (ix2 y (⟨h.val * 128 + d.val, by omega⟩ : Fin 1024)) : EReal)) _ 0 h y0 fun y => ?_) (View.allAt_nil _ _)
  · unfold_payloads; pointwise

theorem dh_at (c : Dev nD) (t : Fin cfg0.N) (h : Fin 8) (y0 : Fin 768) (d : Fin 128) (hh : 768 * t.val + y0.val < 8448) :
    (outsAt0 m c t.val t.isLt).1 (ix3 h y0 d) = kdx m c ⟨768 * t.val + y0.val, hh⟩ ⟨h.val * 128 + d.val, by omega⟩ := by
  rw [← pay_at m c t y0 _ hh]
  by_cases h0 : t.val % 11 = 0
  · rw [outsAt0_A m c t h0]; frame_out; exact dh_stack _ h y0 d
  · rw [outsAt0_B m c t h0]; frame_out; exact dh_stack _ h y0 d

def kdelta (c : Dev nD) (h : Fin 8) (i : Fin 8448) : EReal :=
  ∑ d : Fin 128, kx m c i ⟨h.val * 128 + d.val, by omega⟩ * kdx m c i ⟨h.val * 128 + d.val, by omega⟩

theorem delta_at (c : Dev nD) (t : Fin cfg0.N) (h : Fin 8) (y0 : Fin 768) (hh : 768 * t.val + y0.val < 8448) :
    (outsAt0 m c t.val t.isLt).2.1 (ix4 h (0 : Fin 1) (0 : Fin 1) y0) = kdelta m c h ⟨768 * t.val + y0.val, hh⟩ := by
  have e : kdelta m c h ⟨768 * t.val + y0.val, hh⟩ = ∑ d : Fin 128, (k0_pay6 (iblk m c 0 t) (ix2 y0 (⟨h.val * 128 + d.val, by omega⟩ : Fin 1024))
      * k0_pay10 (iblk m c 0 t) (iblk m c 1 t) (iblk m c 2 t) (iblk m c 3 t) (ix2 y0 (⟨h.val * 128 + d.val, by omega⟩ : Fin 1024)) : EReal) := by
    refine Finset.sum_congr rfl fun d _ => ?_
    rw [pay_at m c t y0 _ hh, ← blk0 m c t y0 _ hh]
    unfold_payloads
    pointwise
  rw [e]
  by_cases h0 : t.val % 11 = 0
  · rw [outsAt0_A m c t h0]; frame_out; exact delta_stack _ _ h y0
  · rw [outsAt0_B m c t h0]; frame_out; exact delta_stack _ _ h y0

/-- The three results, as arrays. -/
def dHeads (c : Dev nD) : (⟨S8x8448x128, .bf16⟩ : BufTy).Contents (Elt Ideal) := fun i => kdx m c (i 1) ⟨(i 0).val * 128 + (i 2).val, by
  have h0 : (i 0).val < 8 := (i 0).isLt
  have h2 : (i 2).val < 128 := (i 2).isLt
  omega⟩

def dDelta (c : Dev nD) : (⟨S8x11x1x768, .f32⟩ : BufTy).Contents (Elt Ideal) := fun i => kdelta m c (i 0) ⟨768 * (i 1).val + (i 3).val, by
  have h1 : (i 1).val < 11 := (i 1).isLt
  have h3 : (i 3).val < 768 := (i 3).isLt
  omega⟩

def gTerm (c : Dev nD) (i : Fin 8448) (j : Fin 1024) : EReal := ky m c i j * (kx m c i j * rstd K E (kx m c i))

def dGain (c : Dev nD) : (⟨S1x1024, .f32⟩ : BufTy).Contents (Elt Ideal) := fun i => (∑ k : Fin 8448, gTerm m c k (i 1) : EReal)

theorem row_lt (t : Fin cfg0.N) (k : Fin 768) : 768 * t.val + k.val < 8448 := by
  have : t.val < 11 := t.isLt
  omega

theorem out4 (c : Dev nD) : (dats m 0 c).arrAt 4 (cfgs 0).N = dHeads m c := by
  refine (dats m 0 c).arrAt_eq_of_covers 4 _ (by decide +kernel) fun t hf y => ?_
  blk_simp
  rw [after0_4]
  have e := idx t
  idx_vars y
  have key : (outsAt0 m c t.val t.isLt).1 (ix3 y0 y1 y2) = dHeads m c (ix3 y0 (⟨768 * t.val + y1.val, row_lt t y1⟩ : Fin 8448) y2) :=
    dh_at m c t y0 y1 y2 (row_lt t y1)
  rw [key]
  blk_ext [e]

theorem out5 (c : Dev nD) : (dats m 0 c).arrAt 5 (cfgs 0).N = dDelta m c := by
  refine (dats m 0 c).arrAt_eq_of_covers 5 _ (by decide +kernel) fun t hf y => ?_
  blk_simp
  rw [after0_5]
  have e := idx t
  idx_vars y
  obtain rfl : y1 = 0 := Subsingleton.elim _ _
  obtain rfl : y2 = 0 := Subsingleton.elim _ _
  have key : (outsAt0 m c t.val t.isLt).2.1 (ix4 y0 (0 : Fin 1) (0 : Fin 1) y3) = dDelta m c (ix4 y0 (⟨t.val, t.isLt⟩ : Fin 11) (0 : Fin 1) y3) :=
    delta_at m c t y0 y3 (row_lt t y3)
  rw [key]
  blk_ext [e]

/-- The grid's row blocks, one after another, are the rows. -/
theorem sum_points (f : Fin 8448 → EReal) (hh : ∀ (t : Fin 11) (k : Fin 768), 768 * t.val + k.val < 8448) :
    ∑ t : Fin 11, ∑ k : Fin 768, f ⟨768 * t.val + k.val, hh t k⟩ = ∑ k : Fin 8448, f k := by
  rw [← Fin.sum_mul_add_fin 11 768 f]
  exact Finset.sum_congr rfl fun t _ => Finset.sum_congr rfl fun k _ => congrArg f (Fin.ext (by
    show 768 * t.val + k.val = t.val * 768 + k.val; omega))

def tL : Fin cfg0.N := ⟨10, by decide⟩

theorem gain_A (c : Dev nD) (t : Fin cfg0.N) (h : t.val % 11 = 0) (j : Fin 1024) : (outsAt0 m c t.val t.isLt).2.2 (ix2 (0 : Fin 1) j)
    = (0 : EReal) + ∑ k : Fin 768, gTerm m c ⟨768 * t.val + k.val, row_lt t k⟩ j := by
  rw [outsAt0_A m c t h, zero_add]; frame_out; unfold_payloads; pointwise
  refine Finset.sum_congr rfl fun k _ => ?_
  simp only [blk0 m c t k _ (row_lt t k), blk2 m c t k _ (row_lt t k), blk3]
  rfl

theorem gain_B (c : Dev nD) (t : Fin cfg0.N) (h : ¬ t.val % 11 = 0) (j : Fin 1024) : (outsAt0 m c t.val t.isLt).2.2 (ix2 (0 : Fin 1) j)
    = ((outsAt0 m c (t.val - 1) (by omega)).2.2 (ix2 (0 : Fin 1) j) : EReal) + ∑ k : Fin 768, gTerm m c ⟨768 * t.val + k.val, row_lt t k⟩ j := by
  rw [outsAt0_B m c t h]; frame_out; unfold_payloads; pointwise
  refine congrArg₂ (HAdd.hAdd : EReal → EReal → EReal) rfl ?_
  refine Finset.sum_congr rfl fun k _ => ?_
  simp only [blk0 m c t k _ (row_lt t k), blk2 m c t k _ (row_lt t k), blk3]
  rfl

theorem out6 (c : Dev nD) : (dats m 0 c).arrAt 6 (cfgs 0).N = dGain m c := by
  refine (dats m 0 c).arrAt_eq_of_after_last 6 tL (by decide +kernel) _ fun j => ?_
  blk_simp
  rw [after0_6]
  idx_vars j
  obtain rfl : j0 = 0 := Subsingleton.elim _ _
  rw [Pipeline.eq_sum_fin_of_reset_step_apply_last (fun n h => (outsAt0 m c n h).2.2) 11 (fun _ => (0 : EReal))
    (fun t (j : S1x1024.Idx) => ∑ k : Fin 768, gTerm m c ⟨768 * t.val + k.val, row_lt t k⟩ (j 1))
    (fun t h j => by
      idx_vars j
      obtain rfl : j0 = 0 := Subsingleton.elim _ _
      exact gain_A m c t h j1)
    (fun t h j => by
      idx_vars j
      obtain rfl : j0 = 0 := Subsingleton.elim _ _
      exact gain_B m c t h j1) (by decide) tL rfl (ix2 (0 : Fin 1) j1), zero_add]
  exact sum_points (fun k => gTerm m c k j1) (hh := fun t k => row_lt t k)

/-- The kernel's results are the reference's of the same arguments. -/
theorem dHeads_eq (c : Dev nD) : dHeads m c = Cert.AttnOutBwdRefIdeal.Read.val_main_v55 (F := Ideal) (a0 m c) (a1 m c) (a2 m c) (a3 m c) := by
  funext i
  idx_vars i
  rw [AttnOutRef.refread_dh]
  exact kdx_at m c i1 _

theorem dDelta_eq (c : Dev nD) : dDelta m c = Cert.AttnOutBwdRefIdeal.Read.val_main_v57 (F := Ideal) (a0 m c) (a1 m c) (a2 m c) (a3 m c) := by
  funext i
  idx_vars i
  obtain rfl : i2 = 0 := Subsingleton.elim _ _
  rw [AttnOutRef.refread_delta]
  show kdelta m c i0 ⟨768 * i1.val + i3.val, row_lt i1 i3⟩ = _
  simp only [mul_comm i1.val 768]
  unfold kdelta
  by_cases h : 768 * i1.val + i3.val < 8208
  · rw [dif_pos h]
    exact Finset.sum_congr rfl fun d _ => by rw [kx_at, dif_pos h, kdx_at, dif_pos h]
  · rw [dif_neg h]
    exact Finset.sum_eq_zero fun d _ => by rw [kx_at, dif_neg h, zero_mul]

theorem dGain_eq (c : Dev nD) : dGain m c = Cert.AttnOutBwdRefIdeal.Read.val_main_v42 (F := Ideal) (a0 m c) (a2 m c) (a3 m c) := by
  funext i
  idx_vars i
  obtain rfl : i0 = 0 := Subsingleton.elim _ _
  rw [AttnOutRef.refread_dg]
  refine sum_pad (by decide) _ _ (fun l => ?_) (fun k hk => ?_)
  · have e : kx m c ⟨l.val, by omega⟩ = xRow (a0 m c) l := by
      funext k; rw [kx_at, dif_pos l.isLt]
    show ky m c ⟨l.val, by omega⟩ i1 * (kx m c ⟨l.val, by omega⟩ i1 * rstd K E (kx m c ⟨l.val, by omega⟩)) = _
    rw [e, ky_at, dif_pos l.isLt, mul_comm]
  · show ky m c k i1 * _ = 0
    rw [ky_at, dif_neg (not_lt.mpr hk), zero_mul]

end Cert.Proof.AttnOutBwd
-- ==== Proof.QRef.lean ====
module

public import proofs.«01_k».proof.Proof.Gen.QBranchBwdRefIdeal.Read
public import proofs.«01_k».proof.Proof.NormMath
public import Idealize.ShloMosaic.Lib.Pointwise
public import Idealize.ShloMosaic.Lib.Claim

@[expose] public section

set_option maxRecDepth 16384

noncomputable section

namespace Cert.Proof.QRef

open Cert.Proof Cert.Proof.NormMath Idealize.ShloMosaic Idealize.ShloMosaic.TcCoe Idealize.SL.Sem
open Cert.QBranchBwdRefIdeal Cert.QBranchBwdRefIdeal.Gen Cert.QBranchBwdRefIdeal.Read

variable (x0 : (⟨S1x8208x384, .f32⟩ : BufTy).Contents (Elt Ideal)) (x1 : (⟨S1x384, .f32⟩ : BufTy).Contents (Elt Ideal))
  (x2 : (⟨S1x384x8x192, .f32⟩ : BufTy).Contents (Elt Ideal)) (x3 x4 : (⟨S8208x32, .f32⟩ : BufTy).Contents (Elt Ideal))
  (x5 : (⟨S1x8208x8x192, .f32⟩ : BufTy).Contents (Elt Ideal))

abbrev K : EReal := Ideal.ofBits FTy.f32 1136656384#32

abbrev E : EReal := Ideal.ofBits FTy.f32 897988541#32

/-- The scale of the softmax. -/
abbrev C : EReal := Ideal.ofBits FTy.f32 1033096506#32

theorem k384_word : K = ((384 : ℝ) : EReal) := by
  simp [Ideal.ofBits, Ideal.ieee, -EReal.coe_mul]; norm_num

theorem scale_real : ∃ r : ℝ, 0 ≤ r ∧ C = (r : EReal) := by
  refine ⟨9686330 / 2 ^ 27, by norm_num, ?_⟩
  simp [Ideal.ofBits, Ideal.ieee, -EReal.coe_mul]; norm_num

/-- A row of the latent, an element of the gain, of the up projection, of a table and of the cotangent. -/
def xRow (l : Fin 8208) (j : Fin 384) : EReal := x0 (ix3 (0 : Fin 1) l j)

def gain (j : Fin 384) : EReal := x1 (ix2 (0 : Fin 1) j)

def up (j : Fin 384) (h : Fin 8) (n : Fin 192) : EReal := x2 (ix4 (0 : Fin 1) j h n)

def tab (x : (⟨S8208x32, .f32⟩ : BufTy).Contents (Elt Ideal)) (l : Fin 8208) (p : Fin 32) : EReal := x (ix2 l p)

def ct (l : Fin 8208) (h : Fin 8) (n : Fin 192) : EReal := x5 (ix4 (0 : Fin 1) l h n)

/-- A row of 192 elements, its last 64 taken back through the rotation. -/
def unrot (D : Fin 192 → EReal) (co si : Fin 32 → EReal) (n : Fin 192) : EReal :=
  if n.val < 128 then D n
  else if e : n.val < 160 then D ⟨n.val + 32, by omega⟩ * si ⟨n.val - 128, by omega⟩ + D n * co ⟨n.val - 128, by omega⟩
  else D n * co ⟨n.val - 160, by omega⟩ + -D ⟨n.val - 32, by omega⟩ * si ⟨n.val - 160, by omega⟩

/-- The cotangent of the projected latent: scaled, its last 64 elements taken back through the rotation. -/
def cot (l : Fin 8208) (h : Fin 8) (n : Fin 192) : EReal := unrot (fun k => ct x5 l h k * C) (tab x3 l) (tab x4 l) n

theorem unrot_split (D : Fin 192 → EReal) (co si : Fin 32 → EReal) (n : Fin 192) :
    ((if _ : n.val < 128 then D n else 0) + if _ : 128 ≤ n.val ∧ n.val - 128 < 64 then
        if _ : n.val - 128 < 32 then D ⟨128 + (32 + (n.val - 128)), by omega⟩ * si ⟨n.val - 128, by omega⟩ + D ⟨128 + (n.val - 128), by omega⟩ * co ⟨n.val - 128, by omega⟩
        else D ⟨128 + (32 + (n.val - 128 - 32)), by omega⟩ * co ⟨n.val - 128 - 32, by omega⟩
          + -D ⟨128 + (n.val - 128 - 32), by omega⟩ * si ⟨n.val - 128 - 32, by omega⟩
      else 0) = unrot D co si n := by
  unfold unrot
  by_cases h1 : n.val < 128
  · rw [dif_pos h1, dif_neg (fun e => absurd e.1 (by omega)), if_pos h1, add_zero]
  · rw [dif_neg h1, dif_pos ⟨by omega, by omega⟩, if_neg h1, zero_add]
    by_cases h2 : n.val < 160
    · have h3 : n.val - 128 < 32 := by omega
      rw [dif_pos h3, dif_pos h2]
      have e1 : (⟨128 + (32 + (n.val - 128)), by omega⟩ : Fin 192) = ⟨n.val + 32, by omega⟩ := Fin.ext (by show 128 + (32 + (n.val - 128)) = n.val + 32; omega)
      have e2 : (⟨128 + (n.val - 128), by omega⟩ : Fin 192) = n := Fin.ext (by show 128 + (n.val - 128) = n.val; omega)
      rw [e1, e2]
    · have h3 : ¬ n.val - 128 < 32 := by omega
      rw [dif_neg h3, dif_neg h2]
      have e1 : (⟨128 + (32 + (n.val - 128 - 32)), by omega⟩ : Fin 192) = n := Fin.ext (by show 128 + (32 + (n.val - 128 - 32)) = n.val; omega)
      have e2 : (⟨128 + (n.val - 128 - 32), by omega⟩ : Fin 192) = ⟨n.val - 32, by omega⟩ := Fin.ext (by show 128 + (n.val - 128 - 32) = n.val - 32; omega)
      have e3 : (⟨n.val - 128 - 32, by omega⟩ : Fin 32) = ⟨n.val - 160, by omega⟩ := Fin.ext (by show n.val - 128 - 32 = n.val - 160; omega)
      rw [e1, e2, e3]

/-- The cotangent of the normed latent. -/
def yRow (l : Fin 8208) (j : Fin 384) : EReal := ∑ h : Fin 8, ∑ n : Fin 192, cot x3 x4 x5 l h n * up x2 j h n

def dRow (l : Fin 8208) (j : Fin 384) : EReal := yRow x2 x3 x4 x5 l j * gain x1 j

def dx (l : Fin 8208) (j : Fin 384) : EReal := gradRow K E (xRow x0 l) (dRow x1 x2 x3 x4 x5 l) j

/-- The normed latent. -/
def nRow (l : Fin 8208) (j : Fin 384) : EReal := xRow x0 l j * rstd K E (xRow x0 l) * gain x1 j

theorem cot_at (l : Fin 8208) (h : Fin 8) (n : Fin 192) : val_main_v63 x3 x4 x5 (ix4 (0 : Fin 1) l h n) = cot x3 x4 x5 l h n := by
  conv_lhs => unfold val_main_v63
  pointwise [val_main_v62, val_main_cst_6, val_main_v61, val_main_v60, val_main_v59, val_main_v58, val_main_v57, val_main_v56, val_main_v55, val_main_v54, val_main_v53, val_main_v52, val_main_v51, val_main_v50, val_main_v49, val_main_v48, val_main_v47, val_main_cst_5, val_main_v46, val_main_v45, val_main_v44, val_main_v43, val_main_cst_4, val_main_v42, val_main_v34, val_main_v31, val_main_v27, val_main_v24, val_main_v21, val_main_v20, val_main_cst_6, val_main_cst_5, val_main_cst_4]
  exact unrot_split (fun k => ct x5 l h k * C) (tab x3 l) (tab x4 l) n

theorem y_at (l : Fin 8208) (j : Fin 384) : val_main_v66 x2 x3 x4 x5 (ix3 (0 : Fin 1) l j) = yRow x2 x3 x4 x5 l j := by
  conv_lhs => unfold val_main_v66
  pointwise [val_main_v17]
  simp only [cot_at]
  rfl

theorem d_at (l : Fin 8208) (j : Fin 384) : val_main_v72 x1 x2 x3 x4 x5 (ix3 (0 : Fin 1) l j) = dRow x1 x2 x3 x4 x5 l j := by
  conv_lhs => unfold val_main_v72
  pointwise [val_main_v71, val_main_v14, val_main_v0]
  simp only [y_at]
  rfl

theorem dx_at (l : Fin 8208) (j : Fin 384) : val_main_v88 x0 x1 x2 x3 x4 x5 (ix3 (0 : Fin 1) l j) = dx x0 x1 x2 x3 x4 x5 l j := by
  conv_lhs => unfold val_main_v88
  pointwise [val_main_v87, val_main_v86, val_main_v85, val_main_v84, val_main_v83, val_main_v82, val_main_cst_11, val_main_v81, val_main_v80, val_main_cst_10, val_main_v79, val_main_v78, val_main_v77, val_main_v76, val_main_v75, val_main_cst_9, val_main_v74, val_main_v11, val_main_v10, val_main_cst_2, val_main_v9, val_main_v8, val_main_v7, val_main_v6, val_main_cst_1, val_main_v5, val_main_v4, val_main_cst_0, val_main_v3, val_main_v2, val_main_cst, val_main_v1]
  simp only [d_at]
  exact gradRow_spelled k384_word (by norm_num) eps_word norm_eps_pos half_word (xRow x0 l) (dRow x1 x2 x3 x4 x5 l) j

theorem rstd_at (l : Fin 8208) : val_main_v8 x0 (ix3 (0 : Fin 1) l (0 : Fin 1)) = rstd K E (xRow x0 l) := by
  conv_lhs => unfold val_main_v8
  pointwise [val_main_v7, val_main_v6, val_main_cst_1, val_main_v5, val_main_v4, val_main_cst_0, val_main_v3, val_main_v2, val_main_cst, val_main_v1]
  rfl

theorem n_at (l : Fin 8208) (j : Fin 384) : val_main_v16 x0 x1 (ix3 (0 : Fin 1) l j) = nRow x0 x1 l j := by
  conv_lhs => unfold val_main_v16
  pointwise [val_main_v15, val_main_v14, val_main_v13, val_main_v12, val_main_v0]
  simp only [rstd_at]
  rfl

/-- The results at an index. -/
theorem refread_dx (i : Fin 8448) (j : Fin 384) : val_main_v92 x0 x1 x2 x3 x4 x5 (ix2 i j) =
    if hi : i.val < 8208 then dx x0 x1 x2 x3 x4 x5 ⟨i.val, hi⟩ j else 0 := by
  rw [← sitofp_zero]
  conv_lhs => unfold val_main_v92
  pointwise [val_main_v91, val_main_v90, val_main_call0_v0, val_main_c]
  simp only [dx_at]

theorem refread_dg (j : Fin 384) : val_main_v89 x0 x2 x3 x4 x5 (ix2 (0 : Fin 1) j) =
    ∑ l : Fin 8208, xRow x0 l j * rstd K E (xRow x0 l) * yRow x2 x3 x4 x5 l j := by
  conv_lhs => unfold val_main_v89
  pointwise [val_main_v73, val_main_cst_8, val_main_v70, val_main_v69, val_main_cst_7, val_main_v68, val_main_v13, val_main_v12]
  simp only [rstd_at, y_at]
  rfl

theorem refread_dw (j : Fin 384) (h : Fin 8) (n : Fin 192) : val_main_v93 x0 x1 x3 x4 x5 (ix3 j h n) =
    ∑ l : Fin 8208, cot x3 x4 x5 l h n * nRow x0 x1 l j := by
  conv_lhs => unfold val_main_v93
  pointwise [val_main_v67, val_main_v65, val_main_v64]
  rw [Fin.sum_univ_one]
  exact Finset.sum_congr rfl fun l _ => by rw [← cot_at, ← n_at]

end Cert.Proof.QRef
-- ==== Proof.QBwd.lean ====
module

public import proofs.«01_k».proof.Proof.Gen.QBranchBwdIdeal.Frame
public import proofs.«01_k».proof.Proof.QRef
public import Idealize.ShloMosaic.Lib.Pipeline.ReadBack
public import Idealize.ShloMosaic.Lib.Pipeline.ValueKit

public import Idealize.ShloMosaic.Lib.Pointwise
public import Idealize.ShloMosaic.Lib.Claim
public import Idealize.ShloMosaic.Lib.StableHlo.ReadAt

@[expose] public section

set_option maxRecDepth 16384

noncomputable section

namespace Cert.Proof.QBwd

open Cert.Proof Cert.Proof.NormMath Idealize.ShloMosaic Idealize.ShloMosaic.TcCoe Idealize.SL.Sem
open Cert.QBranchBwdIdeal Cert.QBranchBwdIdeal.Gen
open Cert.Proof.QRef (xRow gain up tab ct unrot cot yRow dRow dx nRow K E C)

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)

theorem idx : ∀ t : Fin grid0.N, win0_0.index t = ![0, (grid0.coords t 0).val, 0] ∧ win0_1.index t = ![(grid0.coords t 0).val, 0] ∧ win0_2.index t = ![(grid0.coords t 0).val, 0]
    ∧ win0_3.index t = ![0, 0] ∧ win0_4.index t = ![(grid0.coords t 0).val, 0] ∧ win0_5.index t = ![0, 0] ∧ win0_6.index t = ![(grid0.coords t 0).val, 0]
    ∧ win0_7.index t = ![(grid0.coords t 0).val, 0] ∧ win0_8.index t = ![0, 0] ∧ win0_9.index t = ![0, 0] ∧ (grid0.coords t 0).val = t.val := by
  decide +kernel

/-- The operands as the kernel holds them: the cotangent head by head, the two tables, the projection, the stream and its norm. -/
def kd (c : Dev nD) (h : Fin 8) (i : Fin 8448) (n : Fin 256) : EReal := V m c main_v5 (ix3 h i n)
def kcos (c : Dev nD) (i : Fin 8448) (p : Fin 128) : EReal := V m c main_v22 (ix2 i p)
def ksin (c : Dev nD) (i : Fin 8448) (p : Fin 128) : EReal := V m c main_v25 (ix2 i p)
def kw (c : Dev nD) (j : Fin 384) (k : Fin 2048) : EReal := V m c main_v26 (ix2 j k)
def kx (c : Dev nD) (i : Fin 8448) (j : Fin 384) : EReal := V m c main_v7 (ix2 i j)
def kn (c : Dev nD) (i : Fin 8448) (j : Fin 384) : EReal := V m c main_v20 (ix2 i j)

theorem kw_at (c : Dev nD) (j : Fin 384) (k : Fin 2048) : kw m c j k =
    if e : k.val % 256 < 192 then up (a2 m c) j ⟨k.val / 256, by omega⟩ ⟨k.val % 256, e⟩ else 0 := by
  rw [← sitofp_zero]
  unfold kw
  simp only [V, List.flatten_cons, List.flatten_nil, List.append_nil, hostOps0, hostOps0_1, hostOps0_2, hostOps0_3, hostOps0_4, hostOps0_5, hostOps0_6, hostOps0_7, hostOps0_8, hostOps0_9,
    hostOps0_10, List.cons_append, List.nil_append]
  after_reads_at
  by_cases e : k.val % 256 < 192
  · rw [dif_pos e]
    exact dif_pos ⟨by omega, e⟩
  · rw [dif_neg e]
    exact dif_neg fun h => e h.2

theorem kx_at (c : Dev nD) (i : Fin 8448) (j : Fin 384) : kx m c i j =
    if h : i.val < 8208 then xRow (a0 m c) ⟨i.val, h⟩ j else 0 := by
  rw [← sitofp_zero]
  unfold kx
  simp only [V, List.flatten_cons, List.flatten_nil, List.append_nil, hostOps0, hostOps0_1, hostOps0_2, hostOps0_3, hostOps0_4, hostOps0_5, hostOps0_6, hostOps0_7, hostOps0_8, hostOps0_9,
    hostOps0_10, List.cons_append, List.nil_append]
  after_reads_at
  rfl

theorem kn_read (c : Dev nD) (i : Fin 8448) (j : Fin 384) : kn m c i j =
    kx m c i j * rstd K E (kx m c i) * gain (a1 m c) j := by
  unfold kn kx
  simp only [V, List.flatten_cons, List.flatten_nil, List.append_nil, hostOps0, hostOps0_1, hostOps0_2, hostOps0_3, hostOps0_4, hostOps0_5, hostOps0_6, hostOps0_7, hostOps0_8, hostOps0_9,
    hostOps0_10, List.cons_append, List.nil_append]
  after_reads_at
  rfl

theorem kd_at (c : Dev nD) (h : Fin 8) (i : Fin 8448) (n : Fin 256) : kd m c h i n =
    if e : i.val < 8208 ∧ n.val < 192 then ct (a5 m c) ⟨i.val, e.1⟩ h ⟨n.val, e.2⟩ else 0 := by
  rw [← sitofp_zero]
  unfold kd
  simp only [V, List.flatten_cons, List.flatten_nil, List.append_nil, hostOps0, hostOps0_1, hostOps0_2, hostOps0_3, hostOps0_4, hostOps0_5, hostOps0_6, hostOps0_7, hostOps0_8, hostOps0_9,
    hostOps0_10, List.cons_append, List.nil_append]
  after_reads_at
  rfl

theorem kcos_at (c : Dev nD) (i : Fin 8448) (p : Fin 128) : kcos m c i p =
    if e : i.val < 8208 ∧ p.val < 64 then (if e2 : p.val < 32 then tab (a3 m c) ⟨i.val, e.1⟩ ⟨p.val, e2⟩ else tab (a3 m c) ⟨i.val, e.1⟩ ⟨p.val - 32, by omega⟩) else 0 := by
  rw [← sitofp_zero]
  unfold kcos
  simp only [V, List.flatten_cons, List.flatten_nil, List.append_nil, hostOps0, hostOps0_1, hostOps0_2, hostOps0_3, hostOps0_4, hostOps0_5, hostOps0_6, hostOps0_7, hostOps0_8, hostOps0_9,
    hostOps0_10, List.cons_append, List.nil_append]
  after_reads_at
  rfl

theorem ksin_at (c : Dev nD) (i : Fin 8448) (p : Fin 128) : ksin m c i p =
    if e : i.val < 8208 ∧ p.val < 64 then (if e2 : p.val < 32 then - tab (a4 m c) ⟨i.val, e.1⟩ ⟨p.val, e2⟩ else tab (a4 m c) ⟨i.val, e.1⟩ ⟨p.val - 32, by omega⟩) else 0 := by
  rw [← sitofp_zero]
  unfold ksin
  simp only [V, List.flatten_cons, List.flatten_nil, List.append_nil, hostOps0, hostOps0_1, hostOps0_2, hostOps0_3, hostOps0_4, hostOps0_5, hostOps0_6, hostOps0_7, hostOps0_8, hostOps0_9,
    hostOps0_10, List.cons_append, List.nil_append]
  after_reads_at
  rfl

theorem row_lt (t : Fin cfg0.N) (k : Fin 384) : 384 * t.val + k.val < 8448 := by
  have : t.val < 22 := t.isLt
  omega

theorem blk0 (c : Dev nD) (t : Fin cfg0.N) (h : Fin 8) (y : Fin 384) (n : Fin 256) : iblk m c 0 t (ix3 h y n) = kd m c h ⟨384 * t.val + y.val, row_lt t y⟩ n := by
  have e := idx t
  unfold kd
  blk_ext [iblk, V, e]

theorem blk1 (c : Dev nD) (t : Fin cfg0.N) (y : Fin 384) (n : Fin 128) : iblk m c 1 t (ix2 y n) = kcos m c ⟨384 * t.val + y.val, row_lt t y⟩ n := by
  have e := idx t
  unfold kcos
  blk_ext [iblk, V, e]

theorem blk2 (c : Dev nD) (t : Fin cfg0.N) (y : Fin 384) (n : Fin 128) : iblk m c 2 t (ix2 y n) = ksin m c ⟨384 * t.val + y.val, row_lt t y⟩ n := by
  have e := idx t
  unfold ksin
  blk_ext [iblk, V, e]

theorem blk3 (c : Dev nD) (t : Fin cfg0.N) (j : Fin 384) (k : Fin 2048) : iblk m c 3 t (ix2 j k) = kw m c j k := by
  have e := idx t
  unfold kw
  blk_ext [iblk, V, e]

theorem blk4 (c : Dev nD) (t : Fin cfg0.N) (y : Fin 384) (j : Fin 384) : iblk m c 4 t (ix2 y j) = kx m c ⟨384 * t.val + y.val, row_lt t y⟩ j := by
  have e := idx t
  unfold kx
  blk_ext [iblk, V, e]

theorem blk5 (c : Dev nD) (t : Fin cfg0.N) (j : Fin 384) : iblk m c 5 t (ix2 (0 : Fin 1) j) = gain (a1 m c) j := by
  have e := idx t
  unfold gain a1
  rw [← V_main_arg1 m c]
  blk_ext [iblk, V, e]

theorem blk6 (c : Dev nD) (t : Fin cfg0.N) (y : Fin 384) (j : Fin 384) : iblk m c 6 t (ix2 y j) = kn m c ⟨384 * t.val + y.val, row_lt t y⟩ j := by
  have e := idx t
  unfold kn
  blk_ext [iblk, V, e]

/-- A head's 128 columns that hold the rotary part, taken back through the rotation with the two tables. -/
def rotK (a co si : Fin 128 → EReal) (p : Fin 128) : EReal := a p * co p
  + if p.val < 32 then a ⟨(p.val + 128 - 96) % 128, by omega⟩ * si ⟨(p.val + 128 - 96) % 128, by omega⟩
    else a ⟨(p.val + 128 - 32) % 128, by omega⟩ * si ⟨(p.val + 128 - 32) % 128, by omega⟩

/-- The scratch's columns: head after head, the scaled cotangent, its second half taken back through the rotation. -/
def cols (A : Vec Ideal S8x384x256 .f32) (co si : Vec Ideal S384x128 .f32) (q : S384x2048.Idx) : EReal :=
  if hn : (q 1).val % 256 < 128 then A (ix3 (⟨(q 1).val / 256, by have : (q 1).val < 2048 := (q 1).isLt; omega⟩ : Fin 8) (q 0) (⟨(q 1).val % 256, by omega⟩ : Fin 256)) * C
  else rotK (fun p => A (ix3 (⟨(q 1).val / 256, by have : (q 1).val < 2048 := (q 1).isLt; omega⟩ : Fin 8) (q 0) (⟨128 + p.val, by omega⟩ : Fin 256)))
    (fun p => co (ix2 (q 0) p)) (fun p => si (ix2 (q 0) p)) (⟨(q 1).val % 256 - 128, by omega⟩ : Fin 128) * C

theorem col_tile (P : S384x2048.Idx → EReal) (w : S384x128.Idx → EReal) (k : Fin 16) (y : Fin 384) (q : Fin 2048)
    (hw : ∀ (y : Fin 384) (d : Fin 128), w (ix2 y d) = P (ix2 y (⟨k.val * 128 + d.val, by omega⟩ : Fin 2048))) :
    View.TileAt (Val := Elt Ideal) (e := .bf16) (S := S384x2048) (ix2 y q) ![0, k.val * 128] ![384, 128] w (P (ix2 y q)) := by
  intro x hx
  have e0 : y.val = 0 + (x 0).val := hx 0
  have e1 : q.val = k.val * 128 + (x 1).val := hx 1
  have hx1 : (x 1).val < 128 := (x 1).isLt
  rw [show (ix2 y q : S384x2048.Idx) = ix2 y (⟨k.val * 128 + (⟨(x 1).val, hx1⟩ : Fin 128).val, by omega⟩ : Fin 2048) from congrArg (ix2 y) (Fin.ext e1), ← hw]
  congr 1
  funext a
  apply Fin.ext
  match a with
  | ⟨0, _⟩ => exact (by omega : (x 0).val = y.val)
  | ⟨1, _⟩ => rfl

theorem lane_word : ∀ j : Fin 128, IntOp.cmpi CmpIPredicate.slt (BitVec.ofNat 32 j.val) 32#32 = if j.val < 32 then 1#1 else 0#1 := by
  decide +kernel

theorem pay6_of (w : Vec Ideal S1x384x128 .f32) (y : Fin 384) (d : Fin 128) : k0_pay6 w (ix2 y d) = (w (ix3 (0 : Fin 1) y d) * C : EReal) := by
  unfold k0_pay6
  pointwise

theorem pay7_of (co si : Vec Ideal S384x128 .f32) (w : Vec Ideal S1x384x128 .f32) (y : Fin 384) (d : Fin 128) :
    k0_pay7 co si w (ix2 y d) = (rotK (fun p => w (ix3 (0 : Fin 1) y p)) (fun p => co (ix2 y p)) (fun p => si (ix2 y p)) d * C : EReal) := by
  unfold k0_pay7 k0_pay4 k0_pay5 rotK
  pointwise
  rw [lane_word]
  split
  · rfl
  · rfl

theorem ld_first (A : Vec Ideal S8x384x256 .f32) (h : Fin 8)
    (inb : ∀ a, (![h.val, 0, 0] : Fin 3 → ℕ) a + (![1, 384, 128] : Fin 3 → ℕ) a ≤ S8x384x256.size a) (y : Fin 384) (d : Fin 128) :
    View.ld A (Rect.unit ![h.val, 0, 0] ![1, 384, 128] inb) (ix3 (0 : Fin 1) y d) = A (ix3 h y (⟨d.val, by omega⟩ : Fin 256)) := by
  refine congrArg A (funext fun a => Fin.ext ?_)
  match a with
  | ⟨0, _⟩ => exact (by show h.val + 1 * 0 = h.val; omega)
  | ⟨1, _⟩ => exact (by show 0 + 1 * y.val = y.val; omega)
  | ⟨2, _⟩ => exact (by show 0 + 1 * d.val = d.val; omega)

theorem ld_second (A : Vec Ideal S8x384x256 .f32) (h : Fin 8)
    (inb : ∀ a, (![h.val, 0, 128] : Fin 3 → ℕ) a + (![1, 384, 128] : Fin 3 → ℕ) a ≤ S8x384x256.size a) (y : Fin 384) (d : Fin 128) :
    View.ld A (Rect.unit ![h.val, 0, 128] ![1, 384, 128] inb) (ix3 (0 : Fin 1) y d) = A (ix3 h y (⟨128 + d.val, by omega⟩ : Fin 256)) := by
  refine congrArg A (funext fun a => Fin.ext ?_)
  match a with
  | ⟨0, _⟩ => exact (by show h.val + 1 * 0 = h.val; omega)
  | ⟨1, _⟩ => exact (by show 0 + 1 * y.val = y.val; omega)
  | ⟨2, _⟩ => exact (by show 128 + 1 * d.val = 128 + d.val; omega)

theorem first_piece (A : Vec Ideal S8x384x256 .f32) (co si : Vec Ideal S384x128 .f32) (h : Fin 8)
    (inb : ∀ a, (![h.val, 0, 0] : Fin 3 → ℕ) a + (![1, 384, 128] : Fin 3 → ℕ) a ≤ S8x384x256.size a) (y : Fin 384) (d : Fin 128) :
    k0_pay6 (View.ld A (Rect.unit ![h.val, 0, 0] ![1, 384, 128] inb)) (ix2 y d) = cols A co si (ix2 y (⟨h.val * 2 * 128 + d.val, by omega⟩ : Fin 2048)) := by
  have e : (⟨(h.val * 2 * 128 + d.val) % 256, by omega⟩ : Fin 256) = ⟨d.val, by omega⟩ := Fin.ext (by show (h.val * 2 * 128 + d.val) % 256 = d.val; omega)
  have e' : (⟨(h.val * 2 * 128 + d.val) / 256, by omega⟩ : Fin 8) = h := Fin.ext (by show (h.val * 2 * 128 + d.val) / 256 = h.val; omega)
  unfold cols
  refine Eq.trans ?_ (dif_pos (by show (h.val * 2 * 128 + d.val) % 256 < 128; omega)).symm
  refine ((pay6_of _ y d).trans (congrArg (· * C) (ld_first A h inb y d))).trans ?_
  show _ = A (ix3 (⟨(h.val * 2 * 128 + d.val) / 256, by omega⟩ : Fin 8) y (⟨(h.val * 2 * 128 + d.val) % 256, by omega⟩ : Fin 256)) * C
  rw [e, e']

theorem second_piece (A : Vec Ideal S8x384x256 .f32) (co si : Vec Ideal S384x128 .f32) (h : Fin 8)
    (inb : ∀ a, (![h.val, 0, 128] : Fin 3 → ℕ) a + (![1, 384, 128] : Fin 3 → ℕ) a ≤ S8x384x256.size a) (y : Fin 384) (d : Fin 128) :
    k0_pay7 co si (View.ld A (Rect.unit ![h.val, 0, 128] ![1, 384, 128] inb)) (ix2 y d)
      = cols A co si (ix2 y (⟨(h.val * 2 + 1) * 128 + d.val, by omega⟩ : Fin 2048)) := by
  have e : (⟨((h.val * 2 + 1) * 128 + d.val) % 256 - 128, by omega⟩ : Fin 128) = d := Fin.ext (by show ((h.val * 2 + 1) * 128 + d.val) % 256 - 128 = d.val; omega)
  have e' : (⟨((h.val * 2 + 1) * 128 + d.val) / 256, by omega⟩ : Fin 8) = h := Fin.ext (by show ((h.val * 2 + 1) * 128 + d.val) / 256 = h.val; omega)
  unfold cols
  refine Eq.trans ?_ (dif_neg (by show ¬ ((h.val * 2 + 1) * 128 + d.val) % 256 < 128; omega)).symm
  rw [pay7_of]
  simp only [ld_second A h inb]
  show _ = rotK (fun p => A (ix3 (⟨((h.val * 2 + 1) * 128 + d.val) / 256, by omega⟩ : Fin 8) y (⟨128 + p.val, by omega⟩ : Fin 256)))
    (fun p => co (ix2 y p)) (fun p => si (ix2 y p)) (⟨((h.val * 2 + 1) * 128 + d.val) % 256 - 128, by omega⟩ : Fin 128) * C
  rw [e, e']

/-- The scratch as the body reads it back. -/
abbrev full (A : Vec Ideal S8x384x256 .f32) (co si : Vec Ideal S384x128 .f32) : Vec Ideal S384x2048 .bf16 :=
  (View.whole cc0_scratch0).readCov
        [⟨Rect.unit ![0, 1920] ![384, 128] inb_S384x2048_S384x128_0_1920,
            k0_pay25 (k0_pay4 co) (k0_pay5 si)
              (View.ld A (Rect.unit ![7, 0, 128] ![1, 384, 128] inb_S8x384x256_S1x384x128_7_0_128))⟩,
          ⟨Rect.unit ![0, 1792] ![384, 128] inb_S384x2048_S384x128_0_1792,
            k0_pay24 (View.ld A (Rect.unit ![7, 0, 0] ![1, 384, 128] inb_S8x384x256_S1x384x128_7_0_0))⟩,
          ⟨Rect.unit ![0, 1664] ![384, 128] inb_S384x2048_S384x128_0_1664,
            k0_pay23
              (k0_pay22 (k0_pay4 co) (k0_pay5 si)
                (View.ld A (Rect.unit ![6, 0, 128] ![1, 384, 128] inb_S8x384x256_S1x384x128_6_0_128)))
              ((FloatOps.ofBits FTy.f32 1033096506#32 : Ideal .f32))⟩,
          ⟨Rect.unit ![0, 1536] ![384, 128] inb_S384x2048_S384x128_0_1536,
            k0_pay21 (View.ld A (Rect.unit ![6, 0, 0] ![1, 384, 128] inb_S8x384x256_S1x384x128_6_0_0))⟩,
          ⟨Rect.unit ![0, 1408] ![384, 128] inb_S384x2048_S384x128_0_1408,
            k0_pay20 (k0_pay4 co) (k0_pay5 si)
              (View.ld A (Rect.unit ![5, 0, 128] ![1, 384, 128] inb_S8x384x256_S1x384x128_5_0_128))⟩,
          ⟨Rect.unit ![0, 1280] ![384, 128] inb_S384x2048_S384x128_0_1280,
            k0_pay19 (View.ld A (Rect.unit ![5, 0, 0] ![1, 384, 128] inb_S8x384x256_S1x384x128_5_0_0))⟩,
          ⟨Rect.unit ![0, 1152] ![384, 128] inb_S384x2048_S384x128_0_1152,
            k0_pay18 (k0_pay4 co) (k0_pay5 si)
              (View.ld A (Rect.unit ![4, 0, 128] ![1, 384, 128] inb_S8x384x256_S1x384x128_4_0_128))⟩,
          ⟨Rect.unit ![0, 1024] ![384, 128] inb_S384x2048_S384x128_0_1024,
            k0_pay17 (View.ld A (Rect.unit ![4, 0, 0] ![1, 384, 128] inb_S8x384x256_S1x384x128_4_0_0))⟩,
          ⟨Rect.unit ![0, 896] ![384, 128] inb_S384x2048_S384x128_0_896,
            k0_pay16
              (k0_pay15 (k0_pay4 co) (k0_pay5 si)
                (View.ld A (Rect.unit ![3, 0, 128] ![1, 384, 128] inb_S8x384x256_S1x384x128_3_0_128)))⟩,
          ⟨Rect.unit ![0, 768] ![384, 128] inb_S384x2048_S384x128_0_768,
            k0_pay14 (View.ld A (Rect.unit ![3, 0, 0] ![1, 384, 128] inb_S8x384x256_S1x384x128_3_0_0))⟩,
          ⟨Rect.unit ![0, 640] ![384, 128] inb_S384x2048_S384x128_0_640,
            k0_pay13 (k0_pay4 co)
              (k0_pay11
                (View.ld A (Rect.unit ![2, 0, 128] ![1, 384, 128] inb_S8x384x256_S1x384x128_2_0_128)))
              (k0_pay12 (k0_pay5 si)
                (View.ld A (Rect.unit ![2, 0, 128] ![1, 384, 128] inb_S8x384x256_S1x384x128_2_0_128)))⟩,
          ⟨Rect.unit ![0, 512] ![384, 128] inb_S384x2048_S384x128_0_512,
            k0_pay10 (View.ld A (Rect.unit ![2, 0, 0] ![1, 384, 128] inb_S8x384x256_S1x384x128_2_0_0))⟩,
          ⟨Rect.unit ![0, 384] ![384, 128] inb_S384x2048_S384x128_0_384,
            k0_pay9 (k0_pay4 co) (k0_pay5 si)
              (View.ld A (Rect.unit ![1, 0, 128] ![1, 384, 128] inb_S8x384x256_S1x384x128_1_0_128))⟩,
          ⟨Rect.unit ![0, 256] ![384, 128] inb_S384x2048_S384x128_0_256,
            k0_pay8 (View.ld A (Rect.unit ![1, 0, 0] ![1, 384, 128] inb_S8x384x256_S1x384x128_1_0_0))⟩,
          ⟨Rect.unit ![0, 128] ![384, 128] inb_S384x2048_S384x128_0_128,
            k0_pay7 co si
              (View.ld A (Rect.unit ![0, 0, 128] ![1, 384, 128] inb_S8x384x256_S1x384x128_0_0_128))⟩,
          ⟨Rect.unit ![0, 0] ![384, 128] inb_S384x2048_S384x128_0_0,
            k0_pay6 (View.ld A (Rect.unit ![0, 0, 0] ![1, 384, 128] inb_S8x384x256_S1x384x128_0_0_0))⟩]
        (Rect.unit ![0, 0] ![384, 2048] inb_S384x2048_S384x2048_0_0).toLoadRect

theorem full_at (A : Vec Ideal S8x384x256 .f32) (co si : Vec Ideal S384x128 .f32) (y : Fin 384) (q : Fin 2048) : full A co si (ix2 y q) = cols A co si (ix2 y q) := by
  unfold full
  rw [View.readCov_eq_canon']
  refine (congrArg (View.canon (Val := Elt Ideal) _) (?_ : _ = (ix2 y q : S384x2048.Idx))).trans ?_
  · funext a
    apply Fin.ext
    match a with
    | ⟨0, _⟩ => exact (by show 0 + 1 * y.val = y.val; omega)
    | ⟨1, _⟩ => exact (by show 0 + 1 * q.val = q.val; omega)
  refine View.canon_eq_of_allAt _ _ _ (View.cover_of_tiled_head _ _ _ (by rfl) _) ?_
  refine View.allAt_cons_unit _ _ _ _ _ (col_tile _ _ 15 y q fun y d => second_piece A co si 7 _ y d) ?_
  refine View.allAt_cons_unit _ _ _ _ _ (col_tile _ _ 14 y q fun y d => first_piece A co si 7 _ y d) ?_
  refine View.allAt_cons_unit _ _ _ _ _ (col_tile _ _ 13 y q fun y d => second_piece A co si 6 _ y d) ?_
  refine View.allAt_cons_unit _ _ _ _ _ (col_tile _ _ 12 y q fun y d => first_piece A co si 6 _ y d) ?_
  refine View.allAt_cons_unit _ _ _ _ _ (col_tile _ _ 11 y q fun y d => second_piece A co si 5 _ y d) ?_
  refine View.allAt_cons_unit _ _ _ _ _ (col_tile _ _ 10 y q fun y d => first_piece A co si 5 _ y d) ?_
  refine View.allAt_cons_unit _ _ _ _ _ (col_tile _ _ 9 y q fun y d => second_piece A co si 4 _ y d) ?_
  refine View.allAt_cons_unit _ _ _ _ _ (col_tile _ _ 8 y q fun y d => first_piece A co si 4 _ y d) ?_
  refine View.allAt_cons_unit _ _ _ _ _ (col_tile _ _ 7 y q fun y d => second_piece A co si 3 _ y d) ?_
  refine View.allAt_cons_unit _ _ _ _ _ (col_tile _ _ 6 y q fun y d => first_piece A co si 3 _ y d) ?_
  refine View.allAt_cons_unit _ _ _ _ _ (col_tile _ _ 5 y q fun y d => second_piece A co si 2 _ y d) ?_
  refine View.allAt_cons_unit _ _ _ _ _ (col_tile _ _ 4 y q fun y d => first_piece A co si 2 _ y d) ?_
  refine View.allAt_cons_unit _ _ _ _ _ (col_tile _ _ 3 y q fun y d => second_piece A co si 1 _ y d) ?_
  refine View.allAt_cons_unit _ _ _ _ _ (col_tile _ _ 2 y q fun y d => first_piece A co si 1 _ y d) ?_
  refine View.allAt_cons_unit _ _ _ _ _ (col_tile _ _ 1 y q fun y d => second_piece A co si 0 _ y d) ?_
  refine View.allAt_cons_unit _ _ _ _ _ (col_tile _ _ 0 y q fun y d => first_piece A co si 0 _ y d) (View.allAt_nil _ _)

/-- The cotangent's row of 2048 columns, and the gradients the kernel computes from it. -/
def kc (c : Dev nD) (i : Fin 8448) (k : Fin 2048) : EReal :=
  if hn : k.val % 256 < 128 then kd m c ⟨k.val / 256, by omega⟩ i ⟨k.val % 256, by omega⟩ * C
  else rotK (fun p => kd m c ⟨k.val / 256, by omega⟩ i ⟨128 + p.val, by omega⟩) (kcos m c i) (ksin m c i) ⟨k.val % 256 - 128, by omega⟩ * C

def ky (c : Dev nD) (i : Fin 8448) (j : Fin 384) : EReal := ∑ k : Fin 2048, kc m c i k * kw m c j k

def kdx (c : Dev nD) (i : Fin 8448) (j : Fin 384) : EReal := gradRow K E (kx m c i) (fun k => ky m c i k * gain (a1 m c) k) j

theorem scale_add (a b u v : EReal) : (a * u + b * v) * C = a * C * u + b * C * v := by
  obtain ⟨r, hr, hC⟩ := QRef.scale_real
  rw [hC, EReal.right_distrib_of_nonneg_of_ne_top (by exact_mod_cast hr) (EReal.coe_ne_top r), mul_right_comm a, mul_right_comm b]

theorem kc_zero (c : Dev nD) (i : Fin 8448) (k : Fin 2048) (h : ¬ i.val < 8208) : kc m c i k = 0 := by
  have hk : ∀ (a : Fin 8) (n : Fin 256), kd m c a i n = 0 := fun a n => by rw [kd_at, dif_neg fun e => h e.1]
  unfold kc rotK
  simp only [hk, zero_mul, add_zero, ite_self, dite_eq_ite]

theorem kc_at (c : Dev nD) (i : Fin 8448) (k : Fin 2048) (h : i.val < 8208) (hk : k.val % 256 < 192) :
    kc m c i k = cot (a3 m c) (a4 m c) (a5 m c) ⟨i.val, h⟩ ⟨k.val / 256, by omega⟩ ⟨k.val % 256, hk⟩ := by
  unfold kc cot unrot
  by_cases h1 : k.val % 256 < 128
  · rw [dif_pos h1, if_pos (by exact h1), kd_at, dif_pos ⟨h, hk⟩]
  · rw [dif_neg h1, if_neg (by exact h1)]
    unfold rotK
    dsimp only
    have hd : ∀ (a : Fin 8) (n : Fin 256) (hn : n.val < 192), kd m c a i n = ct (a5 m c) ⟨i.val, h⟩ a ⟨n.val, hn⟩ := fun a n hn => by
      rw [kd_at, dif_pos ⟨h, hn⟩]
    have e0 : (⟨128 + (k.val % 256 - 128), by omega⟩ : Fin 192) = ⟨k.val % 256, hk⟩ := Fin.ext (by show 128 + (k.val % 256 - 128) = k.val % 256; omega)
    rw [hd _ ⟨128 + (k.val % 256 - 128), by omega⟩ (by show 128 + (k.val % 256 - 128) < 192; omega), kcos_at, dif_pos ⟨h, by show k.val % 256 - 128 < 64; omega⟩]
    by_cases h2 : k.val % 256 < 160
    · have e : (k.val % 256 - 128 + 128 - 96) % 128 = k.val % 256 - 96 := by omega
      rw [dif_pos (by show k.val % 256 - 128 < 32; omega), dif_pos (by exact h2), if_pos (by show k.val % 256 - 128 < 32; omega),
        hd _ ⟨128 + (k.val % 256 - 128 + 128 - 96) % 128, by omega⟩ (by show 128 + (k.val % 256 - 128 + 128 - 96) % 128 < 192; omega), ksin_at,
        dif_pos ⟨h, by show (k.val % 256 - 128 + 128 - 96) % 128 < 64; omega⟩, dif_neg (by show ¬ (k.val % 256 - 128 + 128 - 96) % 128 < 32; omega), scale_add, add_comm]
      have e1 : (⟨128 + (k.val % 256 - 128 + 128 - 96) % 128, by omega⟩ : Fin 192) = ⟨k.val % 256 + 32, by omega⟩ := Fin.ext (by show 128 + (k.val % 256 - 128 + 128 - 96) % 128 = k.val % 256 + 32; omega)
      have e2 : (⟨(k.val % 256 - 128 + 128 - 96) % 128 - 32, by omega⟩ : Fin 32) = ⟨k.val % 256 - 128, by omega⟩ := Fin.ext (by show (k.val % 256 - 128 + 128 - 96) % 128 - 32 = k.val % 256 - 128; omega)
      rw [e0, e1, e2]
    · have e : (k.val % 256 - 128 + 128 - 32) % 128 = k.val % 256 - 160 := by omega
      rw [dif_neg (by show ¬ k.val % 256 - 128 < 32; omega), dif_neg (by exact h2), if_neg (by show ¬ k.val % 256 - 128 < 32; omega),
        hd _ ⟨128 + (k.val % 256 - 128 + 128 - 32) % 128, by omega⟩ (by show 128 + (k.val % 256 - 128 + 128 - 32) % 128 < 192; omega), ksin_at,
        dif_pos ⟨h, by show (k.val % 256 - 128 + 128 - 32) % 128 < 64; omega⟩, dif_pos (by show (k.val % 256 - 128 + 128 - 32) % 128 < 32; omega), scale_add, mul_neg, ← neg_mul]
      have e1 : (⟨128 + (k.val % 256 - 128 + 128 - 32) % 128, by omega⟩ : Fin 192) = ⟨k.val % 256 - 32, by omega⟩ := Fin.ext (by show 128 + (k.val % 256 - 128 + 128 - 32) % 128 = k.val % 256 - 32; omega)
      have e2 : (⟨(k.val % 256 - 128 + 128 - 32) % 128, by omega⟩ : Fin 32) = ⟨k.val % 256 - 160, by omega⟩ := Fin.ext e
      have e3 : (⟨k.val % 256 - 128 - 32, by omega⟩ : Fin 32) = ⟨k.val % 256 - 160, by omega⟩ := Fin.ext (by show k.val % 256 - 128 - 32 = k.val % 256 - 160; omega)
      rw [e0, e1, e2, e3]

theorem ky_at (c : Dev nD) (i : Fin 8448) (j : Fin 384) : ky m c i j =
    if h : i.val < 8208 then yRow (a2 m c) (a3 m c) (a4 m c) (a5 m c) ⟨i.val, h⟩ j else 0 := by
  unfold ky
  by_cases h : i.val < 8208
  · rw [dif_pos h]
    unfold yRow
    rw [← Fin.sum_mul_add_fin 8 256 (fun k => kc m c i k * kw m c j k)]
    refine Finset.sum_congr rfl fun a _ => ?_
    refine sum_pad (by decide) _ _ (fun n => ?_) (fun n hn => ?_)
    · have e1 : (⟨(a.val * 256 + n.val) / 256, by omega⟩ : Fin 8) = a := Fin.ext (by show (a.val * 256 + n.val) / 256 = a.val; omega)
      have e2 : (⟨(a.val * 256 + n.val) % 256, by omega⟩ : Fin 192) = n := Fin.ext (by show (a.val * 256 + n.val) % 256 = n.val; omega)
      have hn : (a.val * 256 + n.val) % 256 < 192 := by omega
      show kc m c i ⟨a.val * 256 + n.val, by omega⟩ * kw m c j ⟨a.val * 256 + n.val, by omega⟩ = _
      rw [kc_at m c i _ h (by exact hn), kw_at, dif_pos (by exact hn)]
      rw [e1, e2]
    · show _ * kw m c j ⟨a.val * 256 + n.val, by omega⟩ = 0
      have hn' : 192 ≤ n.val := hn
      rw [kw_at, dif_neg (by show ¬ (a.val * 256 + n.val) % 256 < 192; omega), mul_zero]
  · rw [dif_neg h]
    exact Finset.sum_eq_zero fun k _ => by rw [kc_zero m c i k h, zero_mul]

theorem kx_row (c : Dev nD) (i : Fin 8448) (h : i.val < 8208) : kx m c i = xRow (a0 m c) ⟨i.val, h⟩ := by
  funext k; rw [kx_at, dif_pos h]

theorem kdx_at (c : Dev nD) (i : Fin 8448) (j : Fin 384) : kdx m c i j =
    if h : i.val < 8208 then dx (a0 m c) (a1 m c) (a2 m c) (a3 m c) (a4 m c) (a5 m c) ⟨i.val, h⟩ j else 0 := by
  unfold kdx
  by_cases h : i.val < 8208
  · rw [dif_pos h, kx_row m c i h]
    unfold dx
    have e : (fun k => ky m c i k * gain (a1 m c) k) = dRow (a1 m c) (a2 m c) (a3 m c) (a4 m c) (a5 m c) ⟨i.val, h⟩ := by
      funext k; rw [ky_at, dif_pos h]; rfl
    rw [e]
  · rw [dif_neg h]
    exact gradRow_zero _ _ _ _ _ (fun k => by rw [kx_at, dif_neg h]) (fun k => by rw [ky_at, dif_neg h, zero_mul])

/-- The body's pieces at an index. -/
theorem pay27_of (D : Vec Ideal S384x2048 .bf16) (w : Vec Ideal S384x2048 .bf16) (y j : Fin 384) :
    k0_pay27 D w (ix2 y j) = (∑ k : Fin 2048, D (ix2 y k) * w (ix2 j k) : EReal) := by
  unfold k0_pay27
  pointwise

theorem pay30_of (D : Vec Ideal S384x2048 .bf16) (x : Vec Ideal S384x384 .f32) (g : Vec Ideal S1x384 .f32) (w : Vec Ideal S384x2048 .bf16) (y j : Fin 384) :
    k0_pay30 D (k0_pay26 x) g w (ix2 y j) =
    gradRow K E (fun k => x (ix2 y k)) (fun k => (k0_pay27 D w (ix2 y k) * g (ix2 (0 : Fin 1) k) : EReal)) j := by
  unfold k0_pay30 k0_pay29 k0_pay28 k0_pay26
  generalize k0_pay27 D w = P
  pointwise
  rfl

theorem pay31_of (D : Vec Ideal S384x2048 .bf16) (x : Vec Ideal S384x384 .f32) (w : Vec Ideal S384x2048 .bf16) (g : Vec Ideal S1x384 .f32) (j : Fin 384) :
    k0_pay31 D (k0_pay26 x) w g (ix2 (0 : Fin 1) j) =
    (g (ix2 (0 : Fin 1) j) + ∑ y : Fin 384, k0_pay27 D w (ix2 y j) * (x (ix2 y j) * rstd K E (fun k => x (ix2 y k))) : EReal) := by
  unfold k0_pay31 k0_pay29 k0_pay28 k0_pay26
  generalize k0_pay27 D w = P
  pointwise
  rfl

theorem pay1_of (D : Vec Ideal S384x2048 .bf16) (w : Vec Ideal S384x2048 .f32) (a : Vec Ideal S384x384 .bf16) (j : Fin 384) (k : Fin 2048) :
    k0_pay1 D (k0_pay32 w) (k0_pay33 a) (ix2 j k) = (w (ix2 j k) + ∑ y : Fin 384, a (ix2 y j) * D (ix2 y k) : EReal) := by
  unfold k0_pay1 k0_pay32 k0_pay33
  pointwise

/-- A tile's scratch, as the body holds it. -/
abbrev fT (c : Dev nD) (t : Fin cfg0.N) : Vec Ideal S384x2048 .bf16 := full (iblk m c 0 t) (iblk m c 1 t) (iblk m c 2 t)

theorem fT_at (c : Dev nD) (t : Fin cfg0.N) (y : Fin 384) (k : Fin 2048) : fT m c t (ix2 y k) = kc m c ⟨384 * t.val + y.val, row_lt t y⟩ k := by
  rw [fT, full_at]
  unfold cols kc
  refine dite_congr rfl (fun hn => ?_) fun hn => ?_
  · exact congrArg (· * C) (blk0 m c t _ y _)
  · have e1 : (fun p => (iblk m c 1 t) (ix2 y p)) = kcos m c ⟨384 * t.val + y.val, row_lt t y⟩ := funext fun p => blk1 m c t y p
    have e2 : (fun p => (iblk m c 2 t) (ix2 y p)) = ksin m c ⟨384 * t.val + y.val, row_lt t y⟩ := funext fun p => blk2 m c t y p
    rw [← e1, ← e2]
    simp only [← blk0]
    rfl

theorem yT_at (c : Dev nD) (t : Fin cfg0.N) (y j : Fin 384) : k0_pay27 (fT m c t) (iblk m c 3 t) (ix2 y j) = ky m c ⟨384 * t.val + y.val, row_lt t y⟩ j := by
  rw [pay27_of]
  simp only [fT_at, blk3]
  rfl

theorem dx_tile (c : Dev nD) (t : Fin cfg0.N) (y j : Fin 384) :
    k0_pay30 (fT m c t) (k0_pay26 (iblk m c 4 t)) (iblk m c 5 t) (iblk m c 3 t) (ix2 y j) = kdx m c ⟨384 * t.val + y.val, row_lt t y⟩ j := by
  rw [pay30_of]
  simp only [yT_at, blk4, blk5]
  rfl

theorem dx_at (c : Dev nD) (t : Fin cfg0.N) (y j : Fin 384) :
    (outsAt0 m c t.val t.isLt).1 (ix2 y j) = kdx m c ⟨384 * t.val + y.val, row_lt t y⟩ j := by
  by_cases h0 : t.val % 22 = 0
  · rw [outsAt0_A m c t h0]; frame_out; exact dx_tile m c t y j
  · rw [outsAt0_B m c t h0]; frame_out; exact dx_tile m c t y j

/-- The three results, as arrays; the last with its padding lanes and without. -/
def dX (c : Dev nD) : (⟨S8448x384, .bf16⟩ : BufTy).Contents (Elt Ideal) := fun i => kdx m c (i 0) (i 1)

def gTerm (c : Dev nD) (i : Fin 8448) (j : Fin 384) : EReal := ky m c i j * (kx m c i j * rstd K E (kx m c i))

def wTerm (c : Dev nD) (i : Fin 8448) (j : Fin 384) (k : Fin 2048) : EReal := kn m c i j * kc m c i k

def dG (c : Dev nD) : (⟨S1x384, .f32⟩ : BufTy).Contents (Elt Ideal) := fun i => (∑ k : Fin 8448, gTerm m c k (i 1) : EReal)

def dWide (c : Dev nD) : (⟨S384x2048, .f32⟩ : BufTy).Contents (Elt Ideal) := fun i => (∑ l : Fin 8448, wTerm m c l (i 0) (i 1) : EReal)

def dW (c : Dev nD) : (⟨S384x8x192, .f32⟩ : BufTy).Contents (Elt Ideal) := fun i =>
  (∑ l : Fin 8448, wTerm m c l (i 0) ⟨(i 1).val * 256 + (i 2).val, by
    have : (i 1).val < 8 := (i 1).isLt
    have : (i 2).val < 192 := (i 2).isLt
    omega⟩ : EReal)

theorem out7 (c : Dev nD) : (dats m 0 c).arrAt 7 (cfgs 0).N = dX m c := by
  refine (dats m 0 c).arrAt_eq_of_covers 7 _ (by decide +kernel) fun t hf y => ?_
  blk_simp
  rw [after0_7]
  have e := idx t
  idx_vars y
  have key : (outsAt0 m c t.val t.isLt).1 (ix2 y0 y1) = dX m c (ix2 (⟨384 * t.val + y0.val, row_lt t y0⟩ : Fin 8448) y1) := dx_at m c t y0 y1
  rw [key]
  blk_ext [e]

/-- The grid's row blocks, one after another, are the rows. -/
theorem sum_points (f : Fin 8448 → EReal) (hh : ∀ (t : Fin 22) (k : Fin 384), 384 * t.val + k.val < 8448) :
    ∑ t : Fin 22, ∑ k : Fin 384, f ⟨384 * t.val + k.val, hh t k⟩ = ∑ k : Fin 8448, f k := by
  rw [← Fin.sum_mul_add_fin 22 384 f]
  exact Finset.sum_congr rfl fun t _ => Finset.sum_congr rfl fun k _ => congrArg f (Fin.ext (by
    show 384 * t.val + k.val = t.val * 384 + k.val; omega))

def tL : Fin cfg0.N := ⟨21, by decide⟩

/-- The tile's summands of the two accumulated gradients, added to what the arrays hold. -/
theorem g_tile (c : Dev nD) (t : Fin cfg0.N) (g : Vec Ideal S1x384 .f32) (j : Fin 384) :
    k0_pay31 (fT m c t) (k0_pay26 (iblk m c 4 t)) (iblk m c 3 t) g (ix2 (0 : Fin 1) j)
      = (g (ix2 (0 : Fin 1) j) + ∑ k : Fin 384, gTerm m c ⟨384 * t.val + k.val, row_lt t k⟩ j : EReal) := by
  rw [pay31_of]
  simp only [yT_at, blk4]
  rfl

theorem w_tile (c : Dev nD) (t : Fin cfg0.N) (w : Vec Ideal S384x2048 .f32) (j : Fin 384) (k : Fin 2048) :
    k0_pay1 (fT m c t) (k0_pay32 w) (k0_pay33 (iblk m c 6 t)) (ix2 j k)
      = (w (ix2 j k) + ∑ l : Fin 384, wTerm m c ⟨384 * t.val + l.val, row_lt t l⟩ j k : EReal) := by
  rw [pay1_of]
  simp only [fT_at, blk6]
  rfl

theorem gain_A (c : Dev nD) (t : Fin cfg0.N) (h : t.val % 22 = 0) (j : Fin 384) : (outsAt0 m c t.val t.isLt).2.1 (ix2 (0 : Fin 1) j)
    = (0 : EReal) + ∑ k : Fin 384, gTerm m c ⟨384 * t.val + k.val, row_lt t k⟩ j := by
  rw [outsAt0_A m c t h]; frame_out
  refine (g_tile m c t _ j).trans (congrArg₂ (HAdd.hAdd : EReal → EReal → EReal) ?_ rfl)
  unfold k0_pay2; pointwise

theorem gain_B (c : Dev nD) (t : Fin cfg0.N) (h : ¬ t.val % 22 = 0) (j : Fin 384) : (outsAt0 m c t.val t.isLt).2.1 (ix2 (0 : Fin 1) j)
    = ((outsAt0 m c (t.val - 1) (by omega)).2.1 (ix2 (0 : Fin 1) j) : EReal) + ∑ k : Fin 384, gTerm m c ⟨384 * t.val + k.val, row_lt t k⟩ j := by
  rw [outsAt0_B m c t h]; frame_out; exact g_tile m c t _ j

theorem proj_A (c : Dev nD) (t : Fin cfg0.N) (h : t.val % 22 = 0) (j : Fin 384) (k : Fin 2048) : (outsAt0 m c t.val t.isLt).2.2 (ix2 j k)
    = (0 : EReal) + ∑ l : Fin 384, wTerm m c ⟨384 * t.val + l.val, row_lt t l⟩ j k := by
  rw [outsAt0_A m c t h]; frame_out
  refine (w_tile m c t _ j k).trans (congrArg₂ (HAdd.hAdd : EReal → EReal → EReal) ?_ rfl)
  unfold k0_pay3; pointwise

theorem proj_B (c : Dev nD) (t : Fin cfg0.N) (h : ¬ t.val % 22 = 0) (j : Fin 384) (k : Fin 2048) : (outsAt0 m c t.val t.isLt).2.2 (ix2 j k)
    = ((outsAt0 m c (t.val - 1) (by omega)).2.2 (ix2 j k) : EReal) + ∑ l : Fin 384, wTerm m c ⟨384 * t.val + l.val, row_lt t l⟩ j k := by
  rw [outsAt0_B m c t h]; frame_out; exact w_tile m c t _ j k

theorem out8 (c : Dev nD) : (dats m 0 c).arrAt 8 (cfgs 0).N = dG m c := by
  refine (dats m 0 c).arrAt_eq_of_after_last 8 tL (by decide +kernel) _ fun j => ?_
  blk_simp
  rw [after0_8]
  idx_vars j
  obtain rfl : j0 = 0 := Subsingleton.elim _ _
  rw [Pipeline.eq_sum_fin_of_reset_step_apply_last (fun n h => (outsAt0 m c n h).2.1) 22 (fun _ => (0 : EReal))
    (fun t (j : S1x384.Idx) => ∑ k : Fin 384, gTerm m c ⟨384 * t.val + k.val, row_lt t k⟩ (j 1))
    (fun t h j => by
      idx_vars j
      obtain rfl : j0 = 0 := Subsingleton.elim _ _
      exact gain_A m c t h j1)
    (fun t h j => by
      idx_vars j
      obtain rfl : j0 = 0 := Subsingleton.elim _ _
      exact gain_B m c t h j1) (by decide) tL rfl (ix2 (0 : Fin 1) j1), zero_add]
  exact sum_points (fun k => gTerm m c k j1) (hh := fun t k => row_lt t k)

theorem out9 (c : Dev nD) : (dats m 0 c).arrAt 9 (cfgs 0).N = dWide m c := by
  refine (dats m 0 c).arrAt_eq_of_after_last 9 tL (by decide +kernel) _ fun j => ?_
  blk_simp
  rw [after0_9]
  idx_vars j
  rw [Pipeline.eq_sum_fin_of_reset_step_apply_last (fun n h => (outsAt0 m c n h).2.2) 22 (fun _ => (0 : EReal))
    (fun t (j : S384x2048.Idx) => ∑ l : Fin 384, wTerm m c ⟨384 * t.val + l.val, row_lt t l⟩ (j 0) (j 1))
    (fun t h j => by
      idx_vars j
      exact proj_A m c t h j0 j1)
    (fun t h j => by
      idx_vars j
      exact proj_B m c t h j0 j1) (by decide) tL rfl (ix2 j0 j1), zero_add]
  exact sum_points (fun l => wTerm m c l j0 j1) (hh := fun t k => row_lt t k)

/-- The host's slice of the last result after the region. -/
theorem tail (c : Dev nD) : Pipeline.afterTail₀ cfgs (dats m) 0 (V0 m) [hostOps1] c main_v29 = dW m c := by
  funext i
  idx_vars i
  unfold Pipeline.afterTail₀
  simp only [List.flatten_cons, List.flatten_nil, List.append_nil, hostOps1]
  after_reads_at
  exact (congrFun (Pipeline.withArrays_arr spec0 winFacts0.arr_inj c (V0 m c) (fun w => (dats m 0 c).arrAt w (cfgs 0).N) 9) _).trans (congrFun (out9 m c) _)

/-- The kernel's results are the reference's of the same arguments. -/
theorem dX_eq (c : Dev nD) : dX m c = Cert.QBranchBwdRefIdeal.Read.val_main_v92 (F := Ideal) (a0 m c) (a1 m c) (a2 m c) (a3 m c) (a4 m c) (a5 m c) := by
  funext i
  idx_vars i
  rw [QRef.refread_dx]
  exact kdx_at m c i0 i1

theorem dG_eq (c : Dev nD) : dG m c = Cert.QBranchBwdRefIdeal.Read.val_main_v89 (F := Ideal) (a0 m c) (a2 m c) (a3 m c) (a4 m c) (a5 m c) := by
  funext i
  idx_vars i
  obtain rfl : i0 = 0 := Subsingleton.elim _ _
  rw [QRef.refread_dg]
  refine sum_pad (by decide) _ _ (fun l => ?_) (fun k hk => ?_)
  · show ky m c ⟨l.val, by omega⟩ i1 * (kx m c ⟨l.val, by omega⟩ i1 * rstd K E (kx m c ⟨l.val, by omega⟩)) = _
    rw [kx_row m c _ l.isLt, ky_at, dif_pos l.isLt, mul_comm]
  · show ky m c k i1 * _ = 0
    rw [ky_at, dif_neg (not_lt.mpr hk), zero_mul]

theorem dW_eq (c : Dev nD) : dW m c = Cert.QBranchBwdRefIdeal.Read.val_main_v93 (F := Ideal) (a0 m c) (a1 m c) (a3 m c) (a4 m c) (a5 m c) := by
  funext i
  idx_vars i
  rw [QRef.refread_dw]
  have e1 : (⟨(i1.val * 256 + i2.val) / 256, by omega⟩ : Fin 8) = i1 := Fin.ext (by show (i1.val * 256 + i2.val) / 256 = i1.val; omega)
  have e2 : (⟨(i1.val * 256 + i2.val) % 256, by omega⟩ : Fin 192) = i2 := Fin.ext (by show (i1.val * 256 + i2.val) % 256 = i2.val; omega)
  refine sum_pad (by decide) _ _ (fun l => ?_) (fun k hk => ?_)
  · show kn m c ⟨l.val, by omega⟩ i0 * kc m c ⟨l.val, by omega⟩ ⟨i1.val * 256 + i2.val, by omega⟩ = _
    rw [kn_read, kx_row m c _ l.isLt, kc_at m c _ _ l.isLt (by show (i1.val * 256 + i2.val) % 256 < 192; omega), mul_comm, e1, e2]
    rfl
  · show _ * kc m c k ⟨i1.val * 256 + i2.val, by omega⟩ = 0
    rw [kc_zero m c k _ (not_lt.mpr hk), mul_zero]

/-- The run, with each result named and the arguments unchanged. -/
theorem run_results (ρ : Dev nD → PrngReg) : θ_run defs (onTc (τ := τ) (main (F := Ideal))) ⟨m, fun _ => 0, ρ⟩ fun r => ∀ c : Dev nD,
      r.2.mem ((c.tc : Thread nD τ).loc main_v27_0) = dX m c
      ∧ r.2.mem ((c.tc : Thread nD τ).loc main_v27_1) = dG m c
      ∧ r.2.mem ((c.tc : Thread nD τ).loc main_v29) = dW m c
      ∧ r.2.mem ((c.tc : Thread nD τ).loc main_arg0) = a0 m c
      ∧ r.2.mem ((c.tc : Thread nD τ).loc main_arg1) = a1 m c
      ∧ r.2.mem ((c.tc : Thread nD τ).loc main_arg2) = a2 m c
      ∧ r.2.mem ((c.tc : Thread nD τ).loc main_arg3) = a3 m c
      ∧ r.2.mem ((c.tc : Thread nD τ).loc main_arg4) = a4 m c
      ∧ r.2.mem ((c.tc : Thread nD τ).loc main_arg5) = a5 m c :=
  (θ_run defs _ _).mono (fun r h c => ⟨((h.2 c).1 7).trans (out7 m c), ((h.2 c).1 8).trans (out8 m c),
      ((h.2 c).2 main_v29 (Pipeline.mem_restRefs_of main_v29 (by decide) (by decide))).trans (tail m c), h.1 c⟩)
    (θ_run_and (unchanged m ρ) (run_main m ρ))

end Cert.Proof.QBwd
-- ==== Proof.KvRef.lean ====
module

public import proofs.«01_k».proof.Proof.Gen.KvBranchBwdRefIdeal.Read
public import proofs.«01_k».proof.Proof.NormMath
public import Idealize.ShloMosaic.Lib.Pointwise
public import Idealize.ShloMosaic.Lib.Claim

@[expose] public section

set_option maxRecDepth 16384

noncomputable section

namespace Cert.Proof.KvRef

open Cert.Proof Cert.Proof.NormMath Idealize.ShloMosaic Idealize.ShloMosaic.TcCoe Idealize.SL.Sem
open Cert.KvBranchBwdRefIdeal Cert.KvBranchBwdRefIdeal.Gen Cert.KvBranchBwdRefIdeal.Read

variable (x0 : (⟨S1x8208x256, .f32⟩ : BufTy).Contents (Elt Ideal)) (x2 : (⟨S1x256, .f32⟩ : BufTy).Contents (Elt Ideal))
  (x3 : (⟨S1x256x8x256, .f32⟩ : BufTy).Contents (Elt Ideal))
  (x6 : (⟨S1x8208x8x192, .f32⟩ : BufTy).Contents (Elt Ideal)) (x7 : (⟨S1x8208x8x128, .f32⟩ : BufTy).Contents (Elt Ideal))

abbrev K : EReal := Ideal.ofBits FTy.f32 1132462080#32

abbrev E : EReal := Ideal.ofBits FTy.f32 897988541#32

theorem k256_word : K = ((256 : ℝ) : EReal) := by
  simp [Ideal.ofBits, Ideal.ieee, -EReal.coe_mul]; norm_num

/-- A row of the latent, an element of the gain and of the up projection. -/
def xRow (l : Fin 8208) (j : Fin 256) : EReal := x0 (ix3 (0 : Fin 1) l j)

def gain (j : Fin 256) : EReal := x2 (ix2 (0 : Fin 1) j)

def up (j : Fin 256) (h : Fin 8) (n : Fin 256) : EReal := x3 (ix4 (0 : Fin 1) j h n)

/-- The cotangent of a head's keys (without their rotary part) and values, side by side. -/
def cot (l : Fin 8208) (h : Fin 8) (n : Fin 256) : EReal :=
  if hn : n.val < 128 then x6 (ix4 (0 : Fin 1) l h (⟨n.val, by omega⟩ : Fin 192)) else x7 (ix4 (0 : Fin 1) l h (⟨n.val - 128, by omega⟩ : Fin 128))

/-- The cotangent of the normed latent. -/
def yRow (l : Fin 8208) (j : Fin 256) : EReal := ∑ h : Fin 8, ∑ n : Fin 256, cot x6 x7 l h n * up x3 j h n

def dRow (l : Fin 8208) (j : Fin 256) : EReal := yRow x3 x6 x7 l j * gain x2 j

def dx (l : Fin 8208) (j : Fin 256) : EReal := gradRow K E (xRow x0 l) (dRow x2 x3 x6 x7 l) j

/-- The normed latent. -/
def nRow (l : Fin 8208) (j : Fin 256) : EReal := xRow x0 l j * rstd K E (xRow x0 l) * gain x2 j

theorem cot_at (l : Fin 8208) (h : Fin 8) (n : Fin 256) : val_main_v41 x6 x7 (ix4 (0 : Fin 1) l h n) = cot x6 x7 l h n := by
  conv_lhs => unfold val_main_v41
  pointwise [val_main_v40, val_main_cst_4, val_main_v38, val_main_v37, val_main_cst_3]
  unfold cot
  by_cases hn : n.val < 128
  · rw [dif_neg (by omega), dif_pos hn, dif_pos hn, zero_add]
  · rw [dif_pos (by omega), dif_neg hn, dif_neg hn, add_zero]

theorem y_at (l : Fin 8208) (j : Fin 256) : val_main_v58 x3 x6 x7 (ix3 (0 : Fin 1) l j) = yRow x3 x6 x7 l j := by
  conv_lhs => unfold val_main_v58
  pointwise [val_main_v17]
  simp only [cot_at]
  rfl

theorem d_at (l : Fin 8208) (j : Fin 256) : val_main_v64 x2 x3 x6 x7 (ix3 (0 : Fin 1) l j) = dRow x2 x3 x6 x7 l j := by
  conv_lhs => unfold val_main_v64
  pointwise [val_main_v63, val_main_v14, val_main_v0]
  simp only [y_at]
  rfl

theorem dx_at (l : Fin 8208) (j : Fin 256) : val_main_v80 x0 x2 x3 x6 x7 (ix3 (0 : Fin 1) l j) = dx x0 x2 x3 x6 x7 l j := by
  conv_lhs => unfold val_main_v80
  pointwise [val_main_v79, val_main_v78, val_main_v77, val_main_v76, val_main_v75, val_main_v74, val_main_cst_11, val_main_v73, val_main_v72, val_main_cst_10, val_main_v71, val_main_v70, val_main_v69, val_main_v68, val_main_v67, val_main_cst_9, val_main_v66, val_main_v11, val_main_v10, val_main_cst_2, val_main_v9, val_main_v8, val_main_v7, val_main_v6, val_main_cst_1, val_main_v5, val_main_v4, val_main_cst_0, val_main_v3, val_main_v2, val_main_cst, val_main_v1]
  simp only [d_at]
  exact gradRow_spelled k256_word (by norm_num) eps_word norm_eps_pos half_word (xRow x0 l) (dRow x2 x3 x6 x7 l) j

theorem rstd_at (l : Fin 8208) : val_main_v8 x0 (ix3 (0 : Fin 1) l (0 : Fin 1)) = rstd K E (xRow x0 l) := by
  conv_lhs => unfold val_main_v8
  pointwise [val_main_v7, val_main_v6, val_main_cst_1, val_main_v5, val_main_v4, val_main_cst_0, val_main_v3, val_main_v2, val_main_cst, val_main_v1]
  rfl

theorem n_at (l : Fin 8208) (j : Fin 256) : val_main_v16 x0 x2 (ix3 (0 : Fin 1) l j) = nRow x0 x2 l j := by
  conv_lhs => unfold val_main_v16
  pointwise [val_main_v15, val_main_v14, val_main_v13, val_main_v12, val_main_v0]
  simp only [rstd_at]
  rfl

/-- The results at an index. -/
theorem refread_dx (i : Fin 8448) (j : Fin 256) : val_main_v84 x0 x2 x3 x6 x7 (ix2 i j) =
    if hi : i.val < 8208 then dx x0 x2 x3 x6 x7 ⟨i.val, hi⟩ j else 0 := by
  rw [← sitofp_zero]
  conv_lhs => unfold val_main_v84
  pointwise [val_main_v83, val_main_v82, val_main_call0_v0, val_main_c]
  simp only [dx_at]

theorem refread_dg (j : Fin 256) : val_main_v81 x0 x3 x6 x7 (ix2 (0 : Fin 1) j) =
    ∑ l : Fin 8208, xRow x0 l j * rstd K E (xRow x0 l) * yRow x3 x6 x7 l j := by
  conv_lhs => unfold val_main_v81
  pointwise [val_main_v65, val_main_cst_8, val_main_v62, val_main_v61, val_main_cst_7, val_main_v60, val_main_v13, val_main_v12]
  simp only [rstd_at, y_at]
  rfl

theorem refread_dw (j : Fin 256) (k : Fin 2048) : val_main_v85 x0 x2 x6 x7 (ix2 j k) =
    ∑ l : Fin 8208, cot x6 x7 l ⟨k.val / 256, by omega⟩ ⟨k.val % 256, by omega⟩ * nRow x0 x2 l j := by
  conv_lhs => unfold val_main_v85
  pointwise [val_main_v57, val_main_v56, val_main_v59]
  rw [Fin.sum_univ_one]
  exact Finset.sum_congr rfl fun l _ => by rw [← cot_at, ← n_at]

/-- A sum on the host over a leading unit axis and the heads, at an index. -/
theorem host_sum_heads {n1 n2 n3 : ℕ} (h : (⟨4, ![1, n1, n2, n3]⟩ : Shape).ReducesTo [0, 2] ⟨2, ![n1, n3]⟩) (v : (⟨4, ![1, n1, n2, n3]⟩ : Shape).Idx → EReal)
    (init : EReal) (l : Fin n1) (p : Fin n3) : Ideal.hostReduceAdd h v init (ix2 l p) = init + ∑ k : Fin n2, v (ix4 (0 : Fin 1) l k p) := by
  refine congrArg (init + ·) (Finset.sum_filter_eq_sum_of_fiber _ (fun k : Fin n2 => (ix4 (0 : Fin 1) l k p : (⟨4, ![1, n1, n2, n3]⟩ : Shape).Idx))
    (fun _ _ e => congrFun e 2) (fun i => ⟨fun e => ⟨i 2, ?_⟩, fun e => ?_⟩) v)
  · funext a
    apply Fin.ext
    match a with
    | ⟨0, _⟩ => exact (by have : (i 0).val < 1 := (i 0).isLt; omega : 0 = (i 0).val)
    | ⟨1, _⟩ => exact (congrArg Fin.val (congrFun e 0)).symm
    | ⟨2, _⟩ => rfl
    | ⟨3, _⟩ => exact (congrArg Fin.val (congrFun e 1)).symm
  · obtain ⟨k, rfl⟩ := e
    funext b
    apply Fin.ext
    match b with
    | ⟨0, _⟩ => rfl
    | ⟨1, _⟩ => rfl

variable (x4 x5 : (⟨S8208x32, .f32⟩ : BufTy).Contents (Elt Ideal))

/-- The summed cotangent of the shared rotary key, and that of the key before the rotation. -/
def rot (l : Fin 8208) (p : Fin 64) : EReal := ∑ h : Fin 8, x6 (ix4 (0 : Fin 1) l h (⟨128 + p.val, by omega⟩ : Fin 192))

def pe (l : Fin 8208) (p : Fin 64) : EReal :=
  if e : p.val < 32 then rot x6 l ⟨32 + p.val, by omega⟩ * x5 (ix2 l (⟨p.val, e⟩ : Fin 32)) + rot x6 l p * x4 (ix2 l (⟨p.val, e⟩ : Fin 32))
  else rot x6 l p * x4 (ix2 l (⟨p.val - 32, by omega⟩ : Fin 32)) + -rot x6 l ⟨p.val - 32, by omega⟩ * x5 (ix2 l (⟨p.val - 32, by omega⟩ : Fin 32))

theorem rot_at (l : Fin 8208) (p : Fin 64) : val_main_v45 x6 (ix3 (0 : Fin 1) l p) = rot x6 l p := by
  conv_lhs => unfold val_main_v45
  pointwise [val_main_v44, val_main_cst_6]
  rw [host_sum_heads, Fin.sum_univ_one, zero_add]
  pointwise [val_main_v43, val_main_v42, val_main_cst_5]
  rw [host_sum_heads, zero_add]
  pointwise [val_main_v39]
  rfl

theorem refread_pe (i : Fin 8448) (p : Fin 64) : val_main_v87 x4 x5 x6 (ix2 i p) = if e : i.val < 8208 then pe x6 x4 x5 ⟨i.val, e⟩ p else 0 := by
  rw [← sitofp_zero]
  conv_lhs => unfold val_main_v87
  pointwise [val_main_call1_v0, val_main_c_12, val_main_v86, val_main_v55, val_main_v54, val_main_v53, val_main_v52, val_main_v51, val_main_v50, val_main_v49, val_main_v48, val_main_v47, val_main_v46, val_main_v28, val_main_v21, val_main_v26, val_main_v23]
  simp only [rot_at]
  refine dite_congr rfl (fun h => ?_) fun _ => rfl
  unfold pe
  refine dite_congr rfl (fun _ => rfl) fun hp => ?_
  have e : (⟨32 + (p.val - 32), by omega⟩ : Fin 64) = p := Fin.ext (by show 32 + (p.val - 32) = p.val; omega)
  rw [e]

end Cert.Proof.KvRef
-- ==== Proof.KvBwd.lean ====
module

public import proofs.«01_k».proof.Proof.Gen.KvBranchBwdIdeal.Frame
public import proofs.«01_k».proof.Proof.KvRef
public import Idealize.ShloMosaic.Lib.Pipeline.ReadBack
public import Idealize.ShloMosaic.Lib.Pipeline.ValueKit

public import Idealize.ShloMosaic.Lib.Pointwise
public import Idealize.ShloMosaic.Lib.Claim
public import Idealize.ShloMosaic.Lib.StableHlo.ReadAt

@[expose] public section

set_option maxRecDepth 16384

noncomputable section

namespace Cert.Proof.KvBwd

open Cert.Proof Cert.Proof.NormMath Idealize.ShloMosaic Idealize.ShloMosaic.TcCoe Idealize.SL.Sem
open Cert.KvBranchBwdIdeal Cert.KvBranchBwdIdeal.Gen
open Cert.Proof.KvRef (xRow gain up cot yRow dRow dx nRow K E)

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)

abbrev a5 (c : Dev nD) := m ((c.tc : Thread nD τ).loc main_arg5)
abbrev a6 (c : Dev nD) := m ((c.tc : Thread nD τ).loc main_arg6)
abbrev a7 (c : Dev nD) := m ((c.tc : Thread nD τ).loc main_arg7)

theorem idx : ∀ t : Fin grid0.N, win0_0.index t = ![0, (grid0.coords t 0).val, 0] ∧ win0_1.index t = ![0, (grid0.coords t 0).val, 0]
    ∧ win0_2.index t = ![(grid0.coords t 0).val, 0] ∧ win0_3.index t = ![(grid0.coords t 0).val, 0] ∧ win0_4.index t = ![0, 0]
    ∧ win0_5.index t = ![(grid0.coords t 0).val, 0] ∧ win0_6.index t = ![0, 0] ∧ win0_7.index t = ![(grid0.coords t 0).val, 0]
    ∧ win0_8.index t = ![(grid0.coords t 0).val, 0] ∧ win0_9.index t = ![0, 0]
    ∧ win0_10.index t = ![0, 0] ∧ win0_11.index t = ![(grid0.coords t 0).val, 0] ∧ (grid0.coords t 0).val = t.val := by
  decide +kernel

/-- The operands as the kernel holds them: the two cotangents head by head, the two tables, the projection, the stream and its norm. -/
def kk (c : Dev nD) (h : Fin 8) (i : Fin 8448) (n : Fin 256) : EReal := V m c main_v20 (ix3 h i n)
def kv (c : Dev nD) (h : Fin 8) (i : Fin 8448) (n : Fin 128) : EReal := V m c main_v23 (ix3 h i n)
def kcos (c : Dev nD) (i : Fin 8448) (p : Fin 128) : EReal := V m c main_v25 (ix2 i p)
def ksin (c : Dev nD) (i : Fin 8448) (p : Fin 128) : EReal := V m c main_v28 (ix2 i p)
def kw (c : Dev nD) (j : Fin 256) (k : Fin 2048) : EReal := V m c main_v17 (ix2 j k)
def kx (c : Dev nD) (i : Fin 8448) (j : Fin 256) : EReal := V m c main_v1 (ix2 i j)
def kn (c : Dev nD) (i : Fin 8448) (j : Fin 256) : EReal := V m c main_v14 (ix2 i j)

/-- Elements of the cotangents and the tables. -/
def ck (x : (⟨S1x8208x8x192, .f32⟩ : BufTy).Contents (Elt Ideal)) (l : Fin 8208) (h : Fin 8) (n : Fin 192) : EReal := x (ix4 (0 : Fin 1) l h n)
def cv (x : (⟨S1x8208x8x128, .f32⟩ : BufTy).Contents (Elt Ideal)) (l : Fin 8208) (h : Fin 8) (n : Fin 128) : EReal := x (ix4 (0 : Fin 1) l h n)
def tab (x : (⟨S8208x32, .f32⟩ : BufTy).Contents (Elt Ideal)) (l : Fin 8208) (p : Fin 32) : EReal := x (ix2 l p)

theorem kw_at (c : Dev nD) (j : Fin 256) (k : Fin 2048) : kw m c j k = up (a3 m c) j ⟨k.val / 256, by omega⟩ ⟨k.val % 256, by omega⟩ := by
  unfold kw
  simp only [V, List.flatten_cons, List.flatten_nil, List.append_nil, hostOps0, hostOps0_1, hostOps0_2, hostOps0_3, hostOps0_4, hostOps0_5, hostOps0_6, hostOps0_7, hostOps0_8, hostOps0_9, List.cons_append, List.nil_append]
  after_reads_at
  rfl

theorem kx_at (c : Dev nD) (i : Fin 8448) (j : Fin 256) : kx m c i j = if h : i.val < 8208 then xRow (a0 m c) ⟨i.val, h⟩ j else 0 := by
  rw [← sitofp_zero]
  unfold kx
  simp only [V, List.flatten_cons, List.flatten_nil, List.append_nil, hostOps0, hostOps0_1, hostOps0_2, hostOps0_3, hostOps0_4, hostOps0_5, hostOps0_6, hostOps0_7, hostOps0_8, hostOps0_9, List.cons_append, List.nil_append]
  after_reads_at
  rfl

theorem kn_read (c : Dev nD) (i : Fin 8448) (j : Fin 256) : kn m c i j = kx m c i j * rstd K E (kx m c i) * gain (a2 m c) j := by
  unfold kn kx
  simp only [V, List.flatten_cons, List.flatten_nil, List.append_nil, hostOps0, hostOps0_1, hostOps0_2, hostOps0_3, hostOps0_4, hostOps0_5, hostOps0_6, hostOps0_7, hostOps0_8, hostOps0_9, List.cons_append, List.nil_append]
  after_reads_at
  rfl

theorem kk_at (c : Dev nD) (h : Fin 8) (i : Fin 8448) (n : Fin 256) : kk m c h i n =
    if e : i.val < 8208 ∧ n.val < 192 then ck (a6 m c) ⟨i.val, e.1⟩ h ⟨n.val, e.2⟩ else 0 := by
  rw [← sitofp_zero]
  unfold kk
  simp only [V, List.flatten_cons, List.flatten_nil, List.append_nil, hostOps0, hostOps0_1, hostOps0_2, hostOps0_3, hostOps0_4, hostOps0_5, hostOps0_6, hostOps0_7, hostOps0_8, hostOps0_9, List.cons_append, List.nil_append]
  after_reads_at
  rfl

theorem kv_at (c : Dev nD) (h : Fin 8) (i : Fin 8448) (n : Fin 128) : kv m c h i n =
    if e : i.val < 8208 then cv (a7 m c) ⟨i.val, e⟩ h n else 0 := by
  rw [← sitofp_zero]
  unfold kv
  simp only [V, List.flatten_cons, List.flatten_nil, List.append_nil, hostOps0, hostOps0_1, hostOps0_2, hostOps0_3, hostOps0_4, hostOps0_5, hostOps0_6, hostOps0_7, hostOps0_8, hostOps0_9, List.cons_append, List.nil_append]
  after_reads_at
  rfl

theorem kcos_at (c : Dev nD) (i : Fin 8448) (p : Fin 128) : kcos m c i p =
    if e : i.val < 8208 ∧ p.val < 64 then (if e2 : p.val < 32 then tab (a4 m c) ⟨i.val, e.1⟩ ⟨p.val, e2⟩ else tab (a4 m c) ⟨i.val, e.1⟩ ⟨p.val - 32, by omega⟩) else 0 := by
  rw [← sitofp_zero]
  unfold kcos
  simp only [V, List.flatten_cons, List.flatten_nil, List.append_nil, hostOps0, hostOps0_1, hostOps0_2, hostOps0_3, hostOps0_4, hostOps0_5, hostOps0_6, hostOps0_7, hostOps0_8, hostOps0_9, List.cons_append, List.nil_append]
  after_reads_at
  rfl

theorem ksin_at (c : Dev nD) (i : Fin 8448) (p : Fin 128) : ksin m c i p =
    if e : i.val < 8208 ∧ p.val < 64 then (if e2 : p.val < 32 then - tab (a5 m c) ⟨i.val, e.1⟩ ⟨p.val, e2⟩ else tab (a5 m c) ⟨i.val, e.1⟩ ⟨p.val - 32, by omega⟩) else 0 := by
  rw [← sitofp_zero]
  unfold ksin
  simp only [V, List.flatten_cons, List.flatten_nil, List.append_nil, hostOps0, hostOps0_1, hostOps0_2, hostOps0_3, hostOps0_4, hostOps0_5, hostOps0_6, hostOps0_7, hostOps0_8, hostOps0_9, List.cons_append, List.nil_append]
  after_reads_at
  rfl

theorem row_lt (t : Fin cfg0.N) (k : Fin 384) : 384 * t.val + k.val < 8448 := by
  have : t.val < 22 := t.isLt
  omega

theorem blk0 (c : Dev nD) (t : Fin cfg0.N) (h : Fin 8) (y : Fin 384) (n : Fin 256) : iblk m c 0 t (ix3 h y n) = kk m c h ⟨384 * t.val + y.val, row_lt t y⟩ n := by
  have e := idx t
  unfold kk
  blk_ext [iblk, V, e]

theorem blk1 (c : Dev nD) (t : Fin cfg0.N) (h : Fin 8) (y : Fin 384) (n : Fin 128) : iblk m c 1 t (ix3 h y n) = kv m c h ⟨384 * t.val + y.val, row_lt t y⟩ n := by
  have e := idx t
  unfold kv
  blk_ext [iblk, V, e]

theorem blk2 (c : Dev nD) (t : Fin cfg0.N) (y : Fin 384) (n : Fin 128) : iblk m c 2 t (ix2 y n) = kcos m c ⟨384 * t.val + y.val, row_lt t y⟩ n := by
  have e := idx t
  unfold kcos
  blk_ext [iblk, V, e]

theorem blk3 (c : Dev nD) (t : Fin cfg0.N) (y : Fin 384) (n : Fin 128) : iblk m c 3 t (ix2 y n) = ksin m c ⟨384 * t.val + y.val, row_lt t y⟩ n := by
  have e := idx t
  unfold ksin
  blk_ext [iblk, V, e]

theorem blk4 (c : Dev nD) (t : Fin cfg0.N) (j : Fin 256) (k : Fin 2048) : iblk m c 4 t (ix2 j k) = kw m c j k := by
  have e := idx t
  unfold kw
  blk_ext [iblk, V, e]

theorem blk5 (c : Dev nD) (t : Fin cfg0.N) (y : Fin 384) (j : Fin 256) : iblk m c 5 t (ix2 y j) = kx m c ⟨384 * t.val + y.val, row_lt t y⟩ j := by
  have e := idx t
  unfold kx
  blk_ext [iblk, V, e]

theorem blk6 (c : Dev nD) (t : Fin cfg0.N) (j : Fin 256) : iblk m c 6 t (ix2 (0 : Fin 1) j) = gain (a2 m c) j := by
  have e := idx t
  unfold gain a2
  rw [← V_main_arg2 m c]
  blk_ext [iblk, V, e]

theorem blk7 (c : Dev nD) (t : Fin cfg0.N) (y : Fin 384) (j : Fin 256) : iblk m c 7 t (ix2 y j) = kn m c ⟨384 * t.val + y.val, row_lt t y⟩ j := by
  have e := idx t
  unfold kn
  blk_ext [iblk, V, e]

/-- The scratch's columns: head after head, the first half of the key's cotangent, then the value's cotangent. -/
def cols (A : Vec Ideal S8x384x256 .f32) (B : Vec Ideal S8x384x128 .f32) (q : S384x2048.Idx) : EReal :=
  if hn : (q 1).val % 256 < 128 then A (ix3 (⟨(q 1).val / 256, by have : (q 1).val < 2048 := (q 1).isLt; omega⟩ : Fin 8) (q 0) (⟨(q 1).val % 256, by omega⟩ : Fin 256))
  else B (ix3 (⟨(q 1).val / 256, by have : (q 1).val < 2048 := (q 1).isLt; omega⟩ : Fin 8) (q 0) (⟨(q 1).val % 256 - 128, by omega⟩ : Fin 128))

theorem col_tile (P : S384x2048.Idx → EReal) (w : S384x128.Idx → EReal) (k : Fin 16) (y : Fin 384) (q : Fin 2048)
    (hw : ∀ (y : Fin 384) (d : Fin 128), w (ix2 y d) = P (ix2 y (⟨k.val * 128 + d.val, by omega⟩ : Fin 2048))) :
    View.TileAt (Val := Elt Ideal) (e := .bf16) (S := S384x2048) (ix2 y q) ![0, k.val * 128] ![384, 128] w (P (ix2 y q)) := by
  intro x hx
  have e0 : y.val = 0 + (x 0).val := hx 0
  have e1 : q.val = k.val * 128 + (x 1).val := hx 1
  have hx1 : (x 1).val < 128 := (x 1).isLt
  rw [show (ix2 y q : S384x2048.Idx) = ix2 y (⟨k.val * 128 + (⟨(x 1).val, hx1⟩ : Fin 128).val, by omega⟩ : Fin 2048) from congrArg (ix2 y) (Fin.ext e1), ← hw]
  congr 1
  funext a
  apply Fin.ext
  match a with
  | ⟨0, _⟩ => exact (by omega : (x 0).val = y.val)
  | ⟨1, _⟩ => rfl

theorem dk_piece (A : Vec Ideal S8x384x256 .f32) (B : Vec Ideal S8x384x128 .f32) (h : Fin 8)
    (inb : ∀ a, (![h.val, 0, 0] : Fin 3 → ℕ) a + (![1, 384, 128] : Fin 3 → ℕ) a ≤ S8x384x256.size a) (y : Fin 384) (d : Fin 128) :
    k0_pay6 (View.ld A (Rect.unit ![h.val, 0, 0] ![1, 384, 128] inb)) (ix2 y d) = cols A B (ix2 y (⟨h.val * 2 * 128 + d.val, by omega⟩ : Fin 2048)) := by
  have e : (h.val * 2 * 128 + d.val) % 256 = d.val := by omega
  have e' : (h.val * 2 * 128 + d.val) / 256 = h.val := by omega
  unfold cols
  refine Eq.trans ?_ (dif_pos (by show (h.val * 2 * 128 + d.val) % 256 < 128; omega)).symm
  unfold k0_pay6
  pointwise
  refine congrArg A (funext fun a => Fin.ext ?_)
  match a with
  | ⟨0, _⟩ => exact e'.symm
  | ⟨1, _⟩ => rfl
  | ⟨2, _⟩ => exact e.symm

theorem dv_piece (A : Vec Ideal S8x384x256 .f32) (B : Vec Ideal S8x384x128 .f32) (h : Fin 8)
    (inb : ∀ a, (![h.val, 0, 0] : Fin 3 → ℕ) a + (![1, 384, 128] : Fin 3 → ℕ) a ≤ S8x384x128.size a) (y : Fin 384) (d : Fin 128) :
    k0_pay7 (View.ld B (Rect.unit ![h.val, 0, 0] ![1, 384, 128] inb)) (ix2 y d) = cols A B (ix2 y (⟨(h.val * 2 + 1) * 128 + d.val, by omega⟩ : Fin 2048)) := by
  have e : ((h.val * 2 + 1) * 128 + d.val) % 256 = 128 + d.val := by omega
  have e' : ((h.val * 2 + 1) * 128 + d.val) / 256 = h.val := by omega
  unfold cols
  refine Eq.trans ?_ (dif_neg (by show ¬ ((h.val * 2 + 1) * 128 + d.val) % 256 < 128; omega)).symm
  unfold k0_pay7
  pointwise
  refine congrArg B (funext fun a => Fin.ext ?_)
  match a with
  | ⟨0, _⟩ => exact e'.symm
  | ⟨1, _⟩ => rfl
  | ⟨2, _⟩ => exact (by omega : d.val = ((h.val * 2 + 1) * 128 + d.val) % 256 - 128)

/-- The scratch as the body reads it back. -/
abbrev full (A : Vec Ideal S8x384x256 .f32) (B : Vec Ideal S8x384x128 .f32) : Vec Ideal S384x2048 .bf16 :=
  (View.whole cc0_scratch0).readCov
      [⟨Rect.unit ![0, 1920] ![384, 128] inb_S384x2048_S384x128_0_1920, k0_pay25 (View.ld B (Rect.unit ![7, 0, 0] ![1, 384, 128] inb_S8x384x128_S1x384x128_7_0_0))⟩,
        ⟨Rect.unit ![0, 1792] ![384, 128] inb_S384x2048_S384x128_0_1792, k0_pay24 (View.ld A (Rect.unit ![7, 0, 0] ![1, 384, 128] inb_S8x384x256_S1x384x128_7_0_0))⟩,
        ⟨Rect.unit ![0, 1664] ![384, 128] inb_S384x2048_S384x128_0_1664, k0_pay22 (View.ld B (Rect.unit ![6, 0, 0] ![1, 384, 128] inb_S8x384x128_S1x384x128_6_0_0))⟩,
        ⟨Rect.unit ![0, 1536] ![384, 128] inb_S384x2048_S384x128_0_1536, k0_pay21 (View.ld A (Rect.unit ![6, 0, 0] ![1, 384, 128] inb_S8x384x256_S1x384x128_6_0_0))⟩,
        ⟨Rect.unit ![0, 1408] ![384, 128] inb_S384x2048_S384x128_0_1408, k0_pay20 (View.ld B (Rect.unit ![5, 0, 0] ![1, 384, 128] inb_S8x384x128_S1x384x128_5_0_0))⟩,
        ⟨Rect.unit ![0, 1280] ![384, 128] inb_S384x2048_S384x128_0_1280, k0_pay19 (View.ld A (Rect.unit ![5, 0, 0] ![1, 384, 128] inb_S8x384x256_S1x384x128_5_0_0))⟩,
        ⟨Rect.unit ![0, 1152] ![384, 128] inb_S384x2048_S384x128_0_1152, k0_pay17 (View.ld B (Rect.unit ![4, 0, 0] ![1, 384, 128] inb_S8x384x128_S1x384x128_4_0_0))⟩,
        ⟨Rect.unit ![0, 1024] ![384, 128] inb_S384x2048_S384x128_0_1024, k0_pay16 (View.ld A (Rect.unit ![4, 0, 0] ![1, 384, 128] inb_S8x384x256_S1x384x128_4_0_0))⟩,
        ⟨Rect.unit ![0, 896] ![384, 128] inb_S384x2048_S384x128_0_896, k0_pay15 (View.ld B (Rect.unit ![3, 0, 0] ![1, 384, 128] inb_S8x384x128_S1x384x128_3_0_0))⟩,
        ⟨Rect.unit ![0, 768] ![384, 128] inb_S384x2048_S384x128_0_768, k0_pay14 (View.ld A (Rect.unit ![3, 0, 0] ![1, 384, 128] inb_S8x384x256_S1x384x128_3_0_0))⟩,
        ⟨Rect.unit ![0, 640] ![384, 128] inb_S384x2048_S384x128_0_640, k0_pay12 (View.ld B (Rect.unit ![2, 0, 0] ![1, 384, 128] inb_S8x384x128_S1x384x128_2_0_0))⟩,
        ⟨Rect.unit ![0, 512] ![384, 128] inb_S384x2048_S384x128_0_512, k0_pay11 (View.ld A (Rect.unit ![2, 0, 0] ![1, 384, 128] inb_S8x384x256_S1x384x128_2_0_0))⟩,
        ⟨Rect.unit ![0, 384] ![384, 128] inb_S384x2048_S384x128_0_384, k0_pay10 (View.ld B (Rect.unit ![1, 0, 0] ![1, 384, 128] inb_S8x384x128_S1x384x128_1_0_0))⟩,
        ⟨Rect.unit ![0, 256] ![384, 128] inb_S384x2048_S384x128_0_256, k0_pay9 (View.ld A (Rect.unit ![1, 0, 0] ![1, 384, 128] inb_S8x384x256_S1x384x128_1_0_0))⟩,
        ⟨Rect.unit ![0, 128] ![384, 128] inb_S384x2048_S384x128_0_128, k0_pay7 (View.ld B (Rect.unit ![0, 0, 0] ![1, 384, 128] inb_S8x384x128_S1x384x128_0_0_0))⟩,
        ⟨Rect.unit ![0, 0] ![384, 128] inb_S384x2048_S384x128_0_0, k0_pay6 (View.ld A (Rect.unit ![0, 0, 0] ![1, 384, 128] inb_S8x384x256_S1x384x128_0_0_0))⟩]
      (Rect.unit ![0, 0] ![384, 2048] inb_S384x2048_S384x2048_0_0).toLoadRect

theorem full_at (A : Vec Ideal S8x384x256 .f32) (B : Vec Ideal S8x384x128 .f32) (y : Fin 384) (q : Fin 2048) : full A B (ix2 y q) = cols A B (ix2 y q) := by
  unfold full
  rw [View.readCov_eq_canon']
  refine (congrArg (View.canon (Val := Elt Ideal) _) (?_ : _ = (ix2 y q : S384x2048.Idx))).trans ?_
  · funext a
    apply Fin.ext
    match a with
    | ⟨0, _⟩ => exact (by show 0 + 1 * y.val = y.val; omega)
    | ⟨1, _⟩ => exact (by show 0 + 1 * q.val = q.val; omega)
  refine View.canon_eq_of_allAt _ _ _ (View.cover_of_tiled_head _ _ _ (by rfl) _) ?_
  refine View.allAt_cons_unit _ _ _ _ _ (col_tile _ _ 15 y q fun y d => dv_piece A B 7 _ y d) ?_
  refine View.allAt_cons_unit _ _ _ _ _ (col_tile _ _ 14 y q fun y d => dk_piece A B 7 _ y d) ?_
  refine View.allAt_cons_unit _ _ _ _ _ (col_tile _ _ 13 y q fun y d => dv_piece A B 6 _ y d) ?_
  refine View.allAt_cons_unit _ _ _ _ _ (col_tile _ _ 12 y q fun y d => dk_piece A B 6 _ y d) ?_
  refine View.allAt_cons_unit _ _ _ _ _ (col_tile _ _ 11 y q fun y d => dv_piece A B 5 _ y d) ?_
  refine View.allAt_cons_unit _ _ _ _ _ (col_tile _ _ 10 y q fun y d => dk_piece A B 5 _ y d) ?_
  refine View.allAt_cons_unit _ _ _ _ _ (col_tile _ _ 9 y q fun y d => dv_piece A B 4 _ y d) ?_
  refine View.allAt_cons_unit _ _ _ _ _ (col_tile _ _ 8 y q fun y d => dk_piece A B 4 _ y d) ?_
  refine View.allAt_cons_unit _ _ _ _ _ (col_tile _ _ 7 y q fun y d => dv_piece A B 3 _ y d) ?_
  refine View.allAt_cons_unit _ _ _ _ _ (col_tile _ _ 6 y q fun y d => dk_piece A B 3 _ y d) ?_
  refine View.allAt_cons_unit _ _ _ _ _ (col_tile _ _ 5 y q fun y d => dv_piece A B 2 _ y d) ?_
  refine View.allAt_cons_unit _ _ _ _ _ (col_tile _ _ 4 y q fun y d => dk_piece A B 2 _ y d) ?_
  refine View.allAt_cons_unit _ _ _ _ _ (col_tile _ _ 3 y q fun y d => dv_piece A B 1 _ y d) ?_
  refine View.allAt_cons_unit _ _ _ _ _ (col_tile _ _ 2 y q fun y d => dk_piece A B 1 _ y d) ?_
  refine View.allAt_cons_unit _ _ _ _ _ (col_tile _ _ 1 y q fun y d => dv_piece A B 0 _ y d) ?_
  refine View.allAt_cons_unit _ _ _ _ _ (col_tile _ _ 0 y q fun y d => dk_piece A B 0 _ y d) (View.allAt_nil _ _)

/-- The cotangent's row of 2048 columns, and the gradients the kernel computes from it. -/
def kc (c : Dev nD) (i : Fin 8448) (k : Fin 2048) : EReal :=
  if hn : k.val % 256 < 128 then kk m c ⟨k.val / 256, by omega⟩ i ⟨k.val % 256, by omega⟩ else kv m c ⟨k.val / 256, by omega⟩ i ⟨k.val % 256 - 128, by omega⟩

def ky (c : Dev nD) (i : Fin 8448) (j : Fin 256) : EReal := ∑ k : Fin 2048, kc m c i k * kw m c j k

def kdx (c : Dev nD) (i : Fin 8448) (j : Fin 256) : EReal := gradRow K E (kx m c i) (fun k => ky m c i k * gain (a2 m c) k) j

theorem kc_at (c : Dev nD) (i : Fin 8448) (k : Fin 2048) : kc m c i k =
    if h : i.val < 8208 then cot (a6 m c) (a7 m c) ⟨i.val, h⟩ ⟨k.val / 256, by omega⟩ ⟨k.val % 256, by omega⟩ else 0 := by
  unfold kc cot
  by_cases h : i.val < 8208
  · rw [dif_pos h]
    refine dite_congr rfl (fun hn => ?_) fun hn => ?_
    · rw [kk_at, dif_pos ⟨h, by show k.val % 256 < 192; have : k.val % 256 < 128 := hn; omega⟩]; rfl
    · rw [kv_at, dif_pos h]; rfl
  · rw [dif_neg h]
    split
    · rw [kk_at, dif_neg fun e => h e.1]
    · rw [kv_at, dif_neg h]

theorem ky_at (c : Dev nD) (i : Fin 8448) (j : Fin 256) : ky m c i j =
    if h : i.val < 8208 then yRow (a3 m c) (a6 m c) (a7 m c) ⟨i.val, h⟩ j else 0 := by
  unfold ky
  by_cases h : i.val < 8208
  · rw [dif_pos h]
    unfold yRow
    rw [← Fin.sum_mul_add_fin 8 256 (fun k => kc m c i k * kw m c j k)]
    refine Finset.sum_congr rfl fun a _ => Finset.sum_congr rfl fun n _ => ?_
    rw [kc_at, dif_pos h, kw_at]
    have e1 : (⟨(a.val * 256 + n.val) / 256, by omega⟩ : Fin 8) = a := Fin.ext (by show (a.val * 256 + n.val) / 256 = a.val; omega)
    have e2 : (⟨(a.val * 256 + n.val) % 256, by omega⟩ : Fin 256) = n := Fin.ext (by show (a.val * 256 + n.val) % 256 = n.val; omega)
    rw [e1, e2]
  · rw [dif_neg h]
    exact Finset.sum_eq_zero fun k _ => by rw [kc_at, dif_neg h, zero_mul]

theorem kx_row (c : Dev nD) (i : Fin 8448) (h : i.val < 8208) : kx m c i = xRow (a0 m c) ⟨i.val, h⟩ := by
  funext k; rw [kx_at, dif_pos h]

theorem kdx_at (c : Dev nD) (i : Fin 8448) (j : Fin 256) : kdx m c i j =
    if h : i.val < 8208 then dx (a0 m c) (a2 m c) (a3 m c) (a6 m c) (a7 m c) ⟨i.val, h⟩ j else 0 := by
  unfold kdx
  by_cases h : i.val < 8208
  · rw [dif_pos h, kx_row m c i h]
    unfold dx
    have e : (fun k => ky m c i k * gain (a2 m c) k) = dRow (a2 m c) (a3 m c) (a6 m c) (a7 m c) ⟨i.val, h⟩ := by
      funext k; rw [ky_at, dif_pos h]; rfl
    rw [e]
  · rw [dif_neg h]
    exact gradRow_zero _ _ _ _ _ (fun k => by rw [kx_at, dif_neg h]) (fun k => by rw [ky_at, dif_neg h, zero_mul])

/-- The body's pieces at an index. -/
theorem pay28_of (D : Vec Ideal S384x2048 .bf16) (w : Vec Ideal S256x2048 .bf16) (y : Fin 384) (j : Fin 256) :
    k0_pay28 D w (ix2 y j) = (∑ k : Fin 2048, D (ix2 y k) * w (ix2 j k) : EReal) := by
  unfold k0_pay28
  pointwise

theorem pay1_of (P : FVec Ideal S384x256 .f32) (x : Vec Ideal S384x256 .f32) (g : Vec Ideal S1x256 .f32) (y : Fin 384) (j : Fin 256) :
    k0_pay1 P (k0_pay29 x) (k0_pay30 x) (k0_pay31 g) (ix2 y j) =
    gradRow K E (fun k => x (ix2 y k)) (fun k => (P (ix2 y k) * g (ix2 (0 : Fin 1) k) : EReal)) j := by
  unfold k0_pay1 k0_pay30 k0_pay29 k0_pay31 k0_pay27
  pointwise
  rfl

theorem pay2_of (P : FVec Ideal S384x256 .f32) (x : Vec Ideal S384x256 .f32) (g : Vec Ideal S1x256 .f32) (j : Fin 256) :
    k0_pay2 P (k0_pay30 x) g (ix2 (0 : Fin 1) j) =
    (g (ix2 (0 : Fin 1) j) + ∑ y : Fin 384, P (ix2 y j) * (x (ix2 y j) * rstd K E (fun k => x (ix2 y k))) : EReal) := by
  unfold k0_pay2 k0_pay30 k0_pay29 k0_pay27
  pointwise
  rfl

theorem pay3_of (D : Vec Ideal S384x2048 .bf16) (w : Vec Ideal S256x2048 .f32) (a : Vec Ideal S384x256 .bf16) (j : Fin 256) (k : Fin 2048) :
    k0_pay3 D w a (ix2 j k) = (w (ix2 j k) + ∑ y : Fin 384, a (ix2 y j) * D (ix2 y k) : EReal) := by
  unfold k0_pay3
  pointwise

theorem lane_word : ∀ j : Fin 128, IntOp.cmpi CmpIPredicate.slt (BitVec.ofNat 32 j.val) 32#32 = if j.val < 32 then 1#1 else 0#1 := by
  decide +kernel

/-- The rotary part of the heads' cotangents, summed and taken back through the rotation. -/
theorem pe_of (A : Vec Ideal S8x384x256 .f32) (co si : Vec Ideal S384x128 .f32) (y : Fin 384) (j : Fin 128) :
    k0_pay26
      (k0_pay23
        (k0_pay18
          (k0_pay13
            (k0_pay8 (View.ld A (Rect.unit ![0, 0, 128] ![1, 384, 128] inb_S8x384x256_S1x384x128_0_0_128)))
            (View.ld A (Rect.unit ![1, 0, 128] ![1, 384, 128] inb_S8x384x256_S1x384x128_1_0_128))
            (View.ld A (Rect.unit ![2, 0, 128] ![1, 384, 128] inb_S8x384x256_S1x384x128_2_0_128)))
          (View.ld A (Rect.unit ![3, 0, 128] ![1, 384, 128] inb_S8x384x256_S1x384x128_3_0_128))
          (View.ld A (Rect.unit ![4, 0, 128] ![1, 384, 128] inb_S8x384x256_S1x384x128_4_0_128)))
        (View.ld A (Rect.unit ![5, 0, 128] ![1, 384, 128] inb_S8x384x256_S1x384x128_5_0_128))
        (View.ld A (Rect.unit ![6, 0, 128] ![1, 384, 128] inb_S8x384x256_S1x384x128_6_0_128)))
      (View.ld A (Rect.unit ![7, 0, 128] ![1, 384, 128] inb_S8x384x256_S1x384x128_7_0_128)) co si (ix2 y j) =
    ((∑ h : Fin 8, A (ix3 h y (⟨128 + j.val, by omega⟩ : Fin 256))) * co (ix2 y j)
      + if j.val < 32 then (∑ h : Fin 8, A (ix3 h y (⟨128 + (j.val + 128 - 96) % 128, by omega⟩ : Fin 256))) * si (ix2 y (⟨(j.val + 128 - 96) % 128, by omega⟩ : Fin 128))
        else (∑ h : Fin 8, A (ix3 h y (⟨128 + (j.val + 128 - 32) % 128, by omega⟩ : Fin 256))) * si (ix2 y (⟨(j.val + 128 - 32) % 128, by omega⟩ : Fin 128)) : EReal) := by
  unfold k0_pay26 k0_pay23 k0_pay18 k0_pay13 k0_pay8
  simp only [Fin.sum_univ_eight]
  pointwise
  rw [lane_word]
  split
  · rfl
  · rfl

/-- A tile's scratch and cotangent of the normed latent, as the body holds them. -/
abbrev fT (c : Dev nD) (t : Fin cfg0.N) : Vec Ideal S384x2048 .bf16 := full (iblk m c 0 t) (iblk m c 1 t)
abbrev yT (c : Dev nD) (t : Fin cfg0.N) : FVec Ideal S384x256 .f32 := k0_pay28 (fT m c t) (iblk m c 4 t)

theorem fT_at (c : Dev nD) (t : Fin cfg0.N) (y : Fin 384) (k : Fin 2048) : fT m c t (ix2 y k) = kc m c ⟨384 * t.val + y.val, row_lt t y⟩ k := by
  rw [fT, full_at]
  unfold cols kc
  refine dite_congr rfl (fun hn => ?_) fun hn => ?_
  · exact blk0 m c t _ y _
  · exact blk1 m c t _ y _

theorem yT_at (c : Dev nD) (t : Fin cfg0.N) (y : Fin 384) (j : Fin 256) : yT m c t (ix2 y j) = ky m c ⟨384 * t.val + y.val, row_lt t y⟩ j := by
  rw [yT, pay28_of]
  simp only [fT_at, blk4]
  rfl

theorem dx_tile (c : Dev nD) (t : Fin cfg0.N) (y : Fin 384) (j : Fin 256) :
    k0_pay1 (yT m c t) (k0_pay29 (iblk m c 5 t)) (k0_pay30 (iblk m c 5 t)) (k0_pay31 (iblk m c 6 t)) (ix2 y j)
      = kdx m c ⟨384 * t.val + y.val, row_lt t y⟩ j := by
  rw [pay1_of]
  simp only [yT_at, blk5, blk6]
  rfl

theorem dx_at (c : Dev nD) (t : Fin cfg0.N) (y : Fin 384) (j : Fin 256) :
    (outsAt0 m c t.val t.isLt).1 (ix2 y j) = kdx m c ⟨384 * t.val + y.val, row_lt t y⟩ j := by
  by_cases h0 : t.val % 22 = 0
  · rw [outsAt0_A m c t h0]; frame_out; exact dx_tile m c t y j
  · rw [outsAt0_B m c t h0]; frame_out; exact dx_tile m c t y j

/-- The summed rotary cotangent of a row, and what the kernel writes of it. -/
def krot (c : Dev nD) (i : Fin 8448) (p : Fin 128) : EReal := ∑ h : Fin 8, kk m c h i ⟨128 + p.val, by omega⟩

def kpe (c : Dev nD) (i : Fin 8448) (p : Fin 128) : EReal := krot m c i p * kcos m c i p
  + if p.val < 32 then krot m c i ⟨(p.val + 128 - 96) % 128, by omega⟩ * ksin m c i ⟨(p.val + 128 - 96) % 128, by omega⟩
    else krot m c i ⟨(p.val + 128 - 32) % 128, by omega⟩ * ksin m c i ⟨(p.val + 128 - 32) % 128, by omega⟩

theorem pe_at (c : Dev nD) (t : Fin cfg0.N) (y : Fin 384) (p : Fin 128) :
    (outsAt0 m c t.val t.isLt).2.2.2 (ix2 y p) = kpe m c ⟨384 * t.val + y.val, row_lt t y⟩ p := by
  by_cases h0 : t.val % 22 = 0
  · rw [outsAt0_A m c t h0]; frame_out
    refine (pe_of _ _ _ y p).trans ?_
    simp only [blk0, blk2, blk3]
    rfl
  · rw [outsAt0_B m c t h0]; frame_out
    refine (pe_of _ _ _ y p).trans ?_
    simp only [blk0, blk2, blk3]
    rfl

/-- The four results, as arrays. -/
def dX (c : Dev nD) : (⟨S8448x256, .bf16⟩ : BufTy).Contents (Elt Ideal) := fun i => kdx m c (i 0) (i 1)

def gTerm (c : Dev nD) (i : Fin 8448) (j : Fin 256) : EReal := ky m c i j * (kx m c i j * rstd K E (kx m c i))

def wTerm (c : Dev nD) (i : Fin 8448) (j : Fin 256) (k : Fin 2048) : EReal := kn m c i j * kc m c i k

def dG (c : Dev nD) : (⟨S1x256, .f32⟩ : BufTy).Contents (Elt Ideal) := fun i => (∑ k : Fin 8448, gTerm m c k (i 1) : EReal)

def dW (c : Dev nD) : (⟨S256x2048, .f32⟩ : BufTy).Contents (Elt Ideal) := fun i => (∑ l : Fin 8448, wTerm m c l (i 0) (i 1) : EReal)

def dPad (c : Dev nD) : (⟨S8448x128, .f32⟩ : BufTy).Contents (Elt Ideal) := fun i => kpe m c (i 0) (i 1)

def dP (c : Dev nD) : (⟨S8448x64, .f32⟩ : BufTy).Contents (Elt Ideal) := fun i => kpe m c (i 0) ⟨(i 1).val, by have : (i 1).val < 64 := (i 1).isLt; omega⟩

theorem out8 (c : Dev nD) : (dats m 0 c).arrAt 8 (cfgs 0).N = dX m c := by
  refine (dats m 0 c).arrAt_eq_of_covers 8 _ (by decide +kernel) fun t hf y => ?_
  blk_simp
  rw [after0_8]
  have e := idx t
  idx_vars y
  have key : (outsAt0 m c t.val t.isLt).1 (ix2 y0 y1) = dX m c (ix2 (⟨384 * t.val + y0.val, row_lt t y0⟩ : Fin 8448) y1) := dx_at m c t y0 y1
  rw [key]
  blk_ext [e]

theorem out11 (c : Dev nD) : (dats m 0 c).arrAt 11 (cfgs 0).N = dPad m c := by
  refine (dats m 0 c).arrAt_eq_of_covers 11 _ (by decide +kernel) fun t hf y => ?_
  blk_simp
  rw [after0_11]
  have e := idx t
  idx_vars y
  have key : (outsAt0 m c t.val t.isLt).2.2.2 (ix2 y0 y1) = dPad m c (ix2 (⟨384 * t.val + y0.val, row_lt t y0⟩ : Fin 8448) y1) := pe_at m c t y0 y1
  rw [key]
  blk_ext [e]

/-- The grid's row blocks, one after another, are the rows. -/
theorem sum_points (f : Fin 8448 → EReal) (hh : ∀ (t : Fin 22) (k : Fin 384), 384 * t.val + k.val < 8448) :
    ∑ t : Fin 22, ∑ k : Fin 384, f ⟨384 * t.val + k.val, hh t k⟩ = ∑ k : Fin 8448, f k := by
  rw [← Fin.sum_mul_add_fin 22 384 f]
  exact Finset.sum_congr rfl fun t _ => Finset.sum_congr rfl fun k _ => congrArg f (Fin.ext (by
    show 384 * t.val + k.val = t.val * 384 + k.val; omega))

def tL : Fin cfg0.N := ⟨21, by decide⟩

/-- The tile's summands of the two accumulated gradients, added to what the arrays hold. -/
theorem g_tile (c : Dev nD) (t : Fin cfg0.N) (g : Vec Ideal S1x256 .f32) (j : Fin 256) :
    k0_pay2 (yT m c t) (k0_pay30 (iblk m c 5 t)) g (ix2 (0 : Fin 1) j)
      = (g (ix2 (0 : Fin 1) j) + ∑ k : Fin 384, gTerm m c ⟨384 * t.val + k.val, row_lt t k⟩ j : EReal) := by
  rw [pay2_of]
  simp only [yT_at, blk5]
  rfl

theorem w_tile (c : Dev nD) (t : Fin cfg0.N) (w : Vec Ideal S256x2048 .f32) (j : Fin 256) (k : Fin 2048) :
    k0_pay3 (fT m c t) w (iblk m c 7 t) (ix2 j k)
      = (w (ix2 j k) + ∑ l : Fin 384, wTerm m c ⟨384 * t.val + l.val, row_lt t l⟩ j k : EReal) := by
  rw [pay3_of]
  simp only [fT_at, blk7]
  rfl

theorem gain_A (c : Dev nD) (t : Fin cfg0.N) (h : t.val % 22 = 0) (j : Fin 256) : (outsAt0 m c t.val t.isLt).2.1 (ix2 (0 : Fin 1) j)
    = (0 : EReal) + ∑ k : Fin 384, gTerm m c ⟨384 * t.val + k.val, row_lt t k⟩ j := by
  rw [outsAt0_A m c t h]; frame_out
  refine (g_tile m c t _ j).trans (congrArg₂ (HAdd.hAdd : EReal → EReal → EReal) ?_ rfl)
  unfold k0_pay4; pointwise

theorem gain_B (c : Dev nD) (t : Fin cfg0.N) (h : ¬ t.val % 22 = 0) (j : Fin 256) : (outsAt0 m c t.val t.isLt).2.1 (ix2 (0 : Fin 1) j)
    = ((outsAt0 m c (t.val - 1) (by omega)).2.1 (ix2 (0 : Fin 1) j) : EReal) + ∑ k : Fin 384, gTerm m c ⟨384 * t.val + k.val, row_lt t k⟩ j := by
  rw [outsAt0_B m c t h]; frame_out; exact g_tile m c t _ j

theorem proj_A (c : Dev nD) (t : Fin cfg0.N) (h : t.val % 22 = 0) (j : Fin 256) (k : Fin 2048) : (outsAt0 m c t.val t.isLt).2.2.1 (ix2 j k)
    = (0 : EReal) + ∑ l : Fin 384, wTerm m c ⟨384 * t.val + l.val, row_lt t l⟩ j k := by
  rw [outsAt0_A m c t h]; frame_out
  refine (w_tile m c t _ j k).trans (congrArg₂ (HAdd.hAdd : EReal → EReal → EReal) ?_ rfl)
  unfold k0_pay5; pointwise

theorem proj_B (c : Dev nD) (t : Fin cfg0.N) (h : ¬ t.val % 22 = 0) (j : Fin 256) (k : Fin 2048) : (outsAt0 m c t.val t.isLt).2.2.1 (ix2 j k)
    = ((outsAt0 m c (t.val - 1) (by omega)).2.2.1 (ix2 j k) : EReal) + ∑ l : Fin 384, wTerm m c ⟨384 * t.val + l.val, row_lt t l⟩ j k := by
  rw [outsAt0_B m c t h]; frame_out; exact w_tile m c t _ j k

theorem out9 (c : Dev nD) : (dats m 0 c).arrAt 9 (cfgs 0).N = dG m c := by
  refine (dats m 0 c).arrAt_eq_of_after_last 9 tL (by decide +kernel) _ fun j => ?_
  blk_simp
  rw [after0_9]
  idx_vars j
  obtain rfl : j0 = 0 := Subsingleton.elim _ _
  rw [Pipeline.eq_sum_fin_of_reset_step_apply_last (fun n h => (outsAt0 m c n h).2.1) 22 (fun _ => (0 : EReal))
    (fun t (j : S1x256.Idx) => ∑ k : Fin 384, gTerm m c ⟨384 * t.val + k.val, row_lt t k⟩ (j 1))
    (fun t h j => by
      idx_vars j
      obtain rfl : j0 = 0 := Subsingleton.elim _ _
      exact gain_A m c t h j1)
    (fun t h j => by
      idx_vars j
      obtain rfl : j0 = 0 := Subsingleton.elim _ _
      exact gain_B m c t h j1) (by decide) tL rfl (ix2 (0 : Fin 1) j1), zero_add]
  exact sum_points (fun k => gTerm m c k j1) (hh := fun t k => row_lt t k)

theorem out10 (c : Dev nD) : (dats m 0 c).arrAt 10 (cfgs 0).N = dW m c := by
  refine (dats m 0 c).arrAt_eq_of_after_last 10 tL (by decide +kernel) _ fun j => ?_
  blk_simp
  rw [after0_10]
  idx_vars j
  rw [Pipeline.eq_sum_fin_of_reset_step_apply_last (fun n h => (outsAt0 m c n h).2.2.1) 22 (fun _ => (0 : EReal))
    (fun t (j : S256x2048.Idx) => ∑ l : Fin 384, wTerm m c ⟨384 * t.val + l.val, row_lt t l⟩ (j 0) (j 1))
    (fun t h j => by
      idx_vars j
      exact proj_A m c t h j0 j1)
    (fun t h j => by
      idx_vars j
      exact proj_B m c t h j0 j1) (by decide) tL rfl (ix2 j0 j1), zero_add]
  exact sum_points (fun l => wTerm m c l j0 j1) (hh := fun t k => row_lt t k)

/-- The host's slice of the last result after the region. -/
theorem tail (c : Dev nD) : Pipeline.afterTail₀ cfgs (dats m) 0 (V0 m) [hostOps1] c main_v30 = dP m c := by
  funext i
  idx_vars i
  unfold Pipeline.afterTail₀
  simp only [List.flatten_cons, List.flatten_nil, List.append_nil, hostOps1]
  after_reads_at
  exact (congrFun (Pipeline.withArrays_arr spec0 winFacts0.arr_inj c (V0 m c) (fun w => (dats m 0 c).arrAt w (cfgs 0).N) 11) _).trans (congrFun (out11 m c) _)

/-- The kernel's results are the reference's of the same arguments. -/
theorem dX_eq (c : Dev nD) : dX m c = Cert.KvBranchBwdRefIdeal.Read.val_main_v84 (F := Ideal) (a0 m c) (a2 m c) (a3 m c) (a6 m c) (a7 m c) := by
  funext i
  idx_vars i
  rw [KvRef.refread_dx]
  exact kdx_at m c i0 i1

theorem dG_eq (c : Dev nD) : dG m c = Cert.KvBranchBwdRefIdeal.Read.val_main_v81 (F := Ideal) (a0 m c) (a3 m c) (a6 m c) (a7 m c) := by
  funext i
  idx_vars i
  obtain rfl : i0 = 0 := Subsingleton.elim _ _
  rw [KvRef.refread_dg]
  refine sum_pad (by decide) _ _ (fun l => ?_) (fun k hk => ?_)
  · show ky m c ⟨l.val, by omega⟩ i1 * (kx m c ⟨l.val, by omega⟩ i1 * rstd K E (kx m c ⟨l.val, by omega⟩)) = _
    rw [kx_row m c _ l.isLt, ky_at, dif_pos l.isLt, mul_comm]
  · show ky m c k i1 * _ = 0
    rw [ky_at, dif_neg (not_lt.mpr hk), zero_mul]

theorem dW_eq (c : Dev nD) : dW m c = Cert.KvBranchBwdRefIdeal.Read.val_main_v85 (F := Ideal) (a0 m c) (a2 m c) (a6 m c) (a7 m c) := by
  funext i
  idx_vars i
  rw [KvRef.refread_dw]
  refine sum_pad (by decide) _ _ (fun l => ?_) (fun k hk => ?_)
  · show kn m c ⟨l.val, by omega⟩ i0 * kc m c ⟨l.val, by omega⟩ i1 = _
    rw [kn_read, kx_row m c _ l.isLt, kc_at, dif_pos l.isLt, mul_comm]
    rfl
  · show _ * kc m c k i1 = 0
    rw [kc_at, dif_neg (not_lt.mpr hk), mul_zero]

theorem krot_at (c : Dev nD) (i : Fin 8448) (p : Fin 128) (hp : p.val < 64) : krot m c i p =
    if h : i.val < 8208 then KvRef.rot (a6 m c) ⟨i.val, h⟩ ⟨p.val, hp⟩ else 0 := by
  unfold krot
  by_cases h : i.val < 8208
  · rw [dif_pos h]
    refine Finset.sum_congr rfl fun a _ => ?_
    rw [kk_at, dif_pos ⟨h, by show 128 + p.val < 192; omega⟩]
    rfl
  · rw [dif_neg h]
    exact Finset.sum_eq_zero fun a _ => by rw [kk_at, dif_neg fun e => h e.1]

theorem dP_eq (c : Dev nD) : dP m c = Cert.KvBranchBwdRefIdeal.Read.val_main_v87 (F := Ideal) (a4 m c) (a5 m c) (a6 m c) := by
  funext i
  idx_vars i
  rw [KvRef.refread_pe]
  show kpe m c i0 ⟨i1.val, by omega⟩ = _
  unfold kpe
  rw [krot_at m c i0 _ (by show i1.val < 64; omega), kcos_at]
  by_cases h : i0.val < 8208
  · rw [dif_pos h, dif_pos h, dif_pos ⟨h, by show i1.val < 64; omega⟩]
    unfold KvRef.pe
    by_cases hp : i1.val < 32
    · have e : (i1.val + 128 - 96) % 128 = 32 + i1.val := by omega
      rw [if_pos (by exact hp), dif_pos hp, dif_pos (by exact hp), krot_at m c i0 _ (by show (i1.val + 128 - 96) % 128 < 64; omega), dif_pos h, ksin_at,
        dif_pos ⟨h, by show (i1.val + 128 - 96) % 128 < 64; omega⟩, dif_neg (by show ¬ (i1.val + 128 - 96) % 128 < 32; omega), add_comm]
      have e1 : (⟨(i1.val + 128 - 96) % 128, by omega⟩ : Fin 64) = ⟨32 + i1.val, by omega⟩ := Fin.ext e
      have e2 : (⟨(i1.val + 128 - 96) % 128 - 32, by omega⟩ : Fin 32) = ⟨i1.val, hp⟩ := Fin.ext (by show (i1.val + 128 - 96) % 128 - 32 = i1.val; omega)
      rw [e1, e2]
      rfl
    · have e : (i1.val + 128 - 32) % 128 = i1.val - 32 := by omega
      rw [if_neg (by exact hp), dif_neg hp, dif_neg (by exact hp), krot_at m c i0 _ (by show (i1.val + 128 - 32) % 128 < 64; omega), dif_pos h, ksin_at,
        dif_pos ⟨h, by show (i1.val + 128 - 32) % 128 < 64; omega⟩, dif_pos (by show (i1.val + 128 - 32) % 128 < 32; omega), mul_neg, ← neg_mul]
      have e1 : (⟨(i1.val + 128 - 32) % 128, by omega⟩ : Fin 64) = ⟨i1.val - 32, by omega⟩ := Fin.ext e
      have e2 : (⟨(i1.val + 128 - 32) % 128, by omega⟩ : Fin 32) = ⟨i1.val - 32, by omega⟩ := Fin.ext e
      rw [e1, e2]
      rfl
  · rw [dif_neg h, dif_neg h, zero_mul, zero_add]
    split
    · rename_i hp
      have hp' : i1.val < 32 := hp
      rw [krot_at m c i0 _ (by show (i1.val + 128 - 96) % 128 < 64; omega), dif_neg h, zero_mul]
    · rename_i hp
      have hp' : ¬ i1.val < 32 := hp
      rw [krot_at m c i0 _ (by show (i1.val + 128 - 32) % 128 < 64; omega), dif_neg h, zero_mul]

/-- The run, with each result named and the arguments unchanged. -/
theorem run_results (ρ : Dev nD → PrngReg) : θ_run defs (onTc (τ := τ) (main (F := Ideal))) ⟨m, fun _ => 0, ρ⟩ fun r => ∀ c : Dev nD,
      r.2.mem ((c.tc : Thread nD τ).loc main_v29_0) = dX m c
      ∧ r.2.mem ((c.tc : Thread nD τ).loc main_v29_1) = dG m c
      ∧ r.2.mem ((c.tc : Thread nD τ).loc main_v29_2) = dW m c
      ∧ r.2.mem ((c.tc : Thread nD τ).loc main_v30) = dP m c
      ∧ r.2.mem ((c.tc : Thread nD τ).loc main_arg0) = a0 m c
      ∧ r.2.mem ((c.tc : Thread nD τ).loc main_arg1) = a1 m c
      ∧ r.2.mem ((c.tc : Thread nD τ).loc main_arg2) = a2 m c
      ∧ r.2.mem ((c.tc : Thread nD τ).loc main_arg3) = a3 m c
      ∧ r.2.mem ((c.tc : Thread nD τ).loc main_arg4) = a4 m c
      ∧ r.2.mem ((c.tc : Thread nD τ).loc main_arg5) = a5 m c
      ∧ r.2.mem ((c.tc : Thread nD τ).loc main_arg6) = a6 m c
      ∧ r.2.mem ((c.tc : Thread nD τ).loc main_arg7) = a7 m c :=
  (θ_run defs _ _).mono (fun r h c => ⟨((h.2 c).1 8).trans (out8 m c), ((h.2 c).1 9).trans (out9 m c), ((h.2 c).1 10).trans (out10 m c),
      ((h.2 c).2 main_v30 (Pipeline.mem_restRefs_of main_v30 (by decide) (by decide))).trans (tail m c), h.1 c⟩)
    (θ_run_and (unchanged m ρ) (run_main m ρ))

end Cert.Proof.KvBwd
-- ==== Proof.InProjRef.lean ====
module

public import proofs.«01_k».proof.Proof.Gen.InProjDxRefIdeal.Read
public import proofs.«01_k».proof.Proof.NormMath
public import Idealize.ShloMosaic.Lib.Pointwise
public import Idealize.ShloMosaic.Lib.Claim

@[expose] public section

set_option maxRecDepth 16384

noncomputable section

namespace Cert.Proof.InProjRef

open Cert.Proof Cert.Proof.NormMath Idealize.ShloMosaic Idealize.ShloMosaic.TcCoe Idealize.SL.Sem
open Cert.InProjDxRefIdeal Cert.InProjDxRefIdeal.Gen Cert.InProjDxRefIdeal.Read

variable (x0 : (⟨S1x8208x1024, .f32⟩ : BufTy).Contents (Elt Ideal)) (x1 : (⟨S1x1024, .f32⟩ : BufTy).Contents (Elt Ideal))
  (x2 : (⟨S1x1024x3280, .f32⟩ : BufTy).Contents (Elt Ideal)) (x3 : (⟨S1x8208x1024, .f32⟩ : BufTy).Contents (Elt Ideal))
  (x4 : (⟨S1x8208x3280, .f32⟩ : BufTy).Contents (Elt Ideal))

/-- A row of the residual stream, its normalised row's cotangent through the input projection, and that times the gain. -/
def xRow (l : Fin 8208) (j : Fin 1024) : EReal := x0 (ix3 (0 : Fin 1) l j)

def prod (l : Fin 8208) (j : Fin 1024) (k : Fin 3280) : EReal := (x4 (ix3 (0 : Fin 1) l k) * x2 (ix3 (0 : Fin 1) j k) : EReal)

def yRow (l : Fin 8208) (j : Fin 1024) : EReal := ∑ k : Fin 3280, prod x2 x4 l j k

def dRow (l : Fin 8208) (j : Fin 1024) : EReal := yRow x2 x4 l j * (x1 (ix2 (0 : Fin 1) j) : EReal)

abbrev K : EReal := Ideal.ofBits FTy.f32 1149239296#32

abbrev E : EReal := Ideal.ofBits FTy.f32 897988541#32

/-- The gradient of the residual stream: the norm's and the incoming one. -/
def dx (l : Fin 8208) (j : Fin 1024) : EReal := gradRow K E (xRow x0 l) (dRow x1 x2 x4 l) j + xRow x3 l j

theorem v24_at (l : Fin 8208) (j : Fin 1024) : val_main_v24 x1 x2 x4 (ix3 (0 : Fin 1) l j) = dRow x1 x2 x4 l j := by
  conv_lhs => unfold val_main_v24
  pointwise [val_main_v23, val_main_v19, val_main_v17, val_main_v14, val_main_v0]
  rfl

theorem v41_at (l : Fin 8208) (j : Fin 1024) : val_main_v41 x0 x1 x2 x3 x4 (ix3 (0 : Fin 1) l j) = dx x0 x1 x2 x3 x4 l j := by
  unfold dx
  rw [← gradRow_spelled k1024_word (by norm_num) eps_word norm_eps_pos half_word (xRow x0 l) (dRow x1 x2 x4 l) j]
  conv_lhs => unfold val_main_v41
  pointwise [val_main_v40, val_main_v39, val_main_v38, val_main_v37, val_main_v36, val_main_v35, val_main_v34, val_main_v33, val_main_v32, val_main_v31, val_main_v30, val_main_v29, val_main_v28, val_main_v27, val_main_v26, val_main_v11, val_main_v10, val_main_v9, val_main_v8, val_main_v7, val_main_v6, val_main_v5, val_main_v4, val_main_v3, val_main_v2, val_main_v1, val_main_cst, val_main_cst_0, val_main_cst_1, val_main_cst_2, val_main_cst_5, val_main_cst_6, val_main_cst_7]
  simp only [v24_at]
  rw [add_assoc, add_assoc, add_comm, ← add_assoc]
  rfl

theorem rstd_at (l : Fin 8208) : val_main_v8 x0 (ix3 (0 : Fin 1) l (0 : Fin 1)) = rstd K E (xRow x0 l) := by
  conv_lhs => unfold val_main_v8
  pointwise [val_main_v7, val_main_v6, val_main_v5, val_main_v4, val_main_v3, val_main_v2, val_main_v1, val_main_cst, val_main_cst_0, val_main_cst_1]
  rfl

/-- The two results at an index. -/
theorem refread_dx (i : Fin 8448) (j : Fin 1024) : val_main_v44 x0 x1 x2 x3 x4 (ix2 i j) =
    if hi : i.val < 8208 then dx x0 x1 x2 x3 x4 ⟨i.val, hi⟩ j else 0 := by
  rw [← sitofp_zero]
  conv_lhs => unfold val_main_v44
  pointwise [val_main_v43, val_main_call0_v0, val_main_c]
  simp only [v41_at]

theorem refread_dg (j : Fin 1024) : val_main_v42 x0 x2 x4 (ix2 (0 : Fin 1) j) =
    ∑ l : Fin 8208, xRow x0 l j * rstd K E (xRow x0 l) * yRow x2 x4 l j := by
  conv_lhs => unfold val_main_v42
  pointwise [val_main_v25, val_main_v22, val_main_v21, val_main_v20, val_main_v19, val_main_v17, val_main_v13, val_main_v12, val_main_cst_3, val_main_cst_4]
  simp only [rstd_at]
  rfl

end Cert.Proof.InProjRef
-- ==== Proof.InProjBwd.lean ====
module

public import proofs.«01_k».proof.Proof.Gen.InProjDxIdeal.Value
public import proofs.«01_k».proof.Proof.InProjRef
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

namespace Cert.Proof.InProjBwd

open Cert.Proof Cert.Proof.NormMath Idealize.ShloMosaic Idealize.ShloMosaic.TcCoe Idealize.SL.Sem
open Cert.InProjDxIdeal Cert.InProjDxIdeal.Gen
open Cert.Proof.InProjRef (xRow prod yRow dRow dx K E)

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)

theorem sitofp_zero_bf16 : (FloatOps.sitofp (F := Ideal) FTy.bf16 (0#32) : EReal) = 0 := by
  simp [FloatOps.sitofp]

/-- An element of the projection's cotangent, and of the projection. -/
def xElt (x : (⟨S1x8208x3280, .f32⟩ : BufTy).Contents (Elt Ideal)) (l : Fin 8208) (k : Fin 3280) : EReal := x (ix3 (0 : Fin 1) l k)

def wElt (x : (⟨S1x1024x3280, .f32⟩ : BufTy).Contents (Elt Ideal)) (j : Fin 1024) (k : Fin 3280) : EReal := x (ix3 (0 : Fin 1) j k)

theorem idx : ∀ t : Fin grid0.N, win0_0.index t = ![(grid0.coords t 0).val, 0] ∧ win0_1.index t = ![(grid0.coords t 0).val, 0]
    ∧ win0_2.index t = ![(grid0.coords t 0).val, 0] ∧ win0_3.index t = ![(grid0.coords t 0).val, 0] ∧ win0_4.index t = ![(grid0.coords t 0).val, 0]
    ∧ win0_5.index t = ![(grid0.coords t 0).val, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![(grid0.coords t 0).val, 0]
    ∧ win0_13.index t = ![0, 0] ∧ win0_14.index t = ![(grid0.coords t 0).val, 0] ∧ win0_15.index t = ![(grid0.coords t 0).val, 0]
    ∧ win0_16.index t = ![0, 0] ∧ (grid0.coords t 0).val = t.val := by
  decide +kernel

/-- The cotangent of the projection with its rows padded by zeros, and the projection: zero past the last column. -/
def kg (c : Dev nD) (i : Fin 8448) (k : Nat) : EReal :=
  if h : i.val < 8208 ∧ k < 3280 then xElt (a4 m c) ⟨i.val, h.1⟩ ⟨k, h.2⟩ else 0

def kw (c : Dev nD) (j : Fin 1024) (k : Nat) : EReal := if h : k < 3280 then wElt (a2 m c) j ⟨k, h⟩ else 0

theorem kw_of (c : Dev nD) (j : Fin 1024) (k : Nat) (h : k < 3280) : kw m c j k = wElt (a2 m c) j ⟨k, h⟩ := dif_pos h

/-- The cotangent's column ranges as the kernel holds them, the narrow ones padded to whole lanes. -/
theorem g_at (c : Dev nD) (i : Fin 8448) :
    (∀ k : Fin 384, V m c main_v14 (ix2 i k) = (kg m c i (k.val) : EReal))
    ∧ (∀ k : Fin 256, V m c main_v15 (ix2 i k) = (kg m c i (384 + k.val) : EReal))
    ∧ (∀ k : Fin 128, V m c main_v7 (ix2 i k) = (if k.val < 64 then kg m c i (640 + k.val) else 0 : EReal))
    ∧ (∀ k : Fin 1024, V m c main_v16 (ix2 i k) = (kg m c i (704 + k.val) : EReal))
    ∧ (∀ k : Fin 1536, V m c main_v17 (ix2 i k) = (kg m c i (1728 + k.val) : EReal))
    ∧ (∀ k : Fin 128, V m c main_v13 (ix2 i k) = (if k.val < 16 then kg m c i (3264 + k.val) else 0 : EReal)) := by
  unfold kg
  rw [← sitofp_zero]
  simp only [V, List.flatten_cons, List.flatten_nil, List.append_nil, hostOps0, hostOps0_1, hostOps0_2, hostOps0_3,
    hostOps0_4, hostOps0_5, hostOps0_6, hostOps0_7, hostOps0_8, hostOps0_9, hostOps0_10, hostOps0_11, hostOps0_12, hostOps0_13,
    hostOps0_14, hostOps0_15, hostOps0_16, hostOps0_17, hostOps0_18, hostOps0_19, hostOps0_20, hostOps0_21, hostOps0_22,
    hostOps0_23, hostOps0_24, hostOps0_25, hostOps0_26, hostOps0_27, hostOps0_28, hostOps0_29, List.cons_append, List.nil_append]
  refine ⟨fun k => ?_, fun k => ?_, fun k => ?_, fun k => ?_, fun k => ?_, fun k => ?_⟩
  all_goals after_reads_at; rfl

/-- The same of the projection's. -/
theorem w_at (c : Dev nD) (j : Fin 1024) :
    (∀ k : Fin 384, V m c main_v21 (ix2 j k) = (kw m c j (k.val) : EReal))
    ∧ (∀ k : Fin 256, V m c main_v23 (ix2 j k) = (kw m c j (384 + k.val) : EReal))
    ∧ (∀ k : Fin 128, V m c main_v25 (ix2 j k) = (if k.val < 64 then kw m c j (640 + k.val) else 0 : EReal))
    ∧ (∀ k : Fin 1024, V m c main_v27 (ix2 j k) = (kw m c j (704 + k.val) : EReal))
    ∧ (∀ k : Fin 1536, V m c main_v29 (ix2 j k) = (kw m c j (1728 + k.val) : EReal))
    ∧ (∀ k : Fin 128, V m c main_v31 (ix2 j k) = (if k.val < 16 then kw m c j (3264 + k.val) else 0 : EReal)) := by
  simp only [V, List.flatten_cons, List.flatten_nil, List.append_nil, hostOps0, hostOps0_1, hostOps0_2, hostOps0_3,
    hostOps0_4, hostOps0_5, hostOps0_6, hostOps0_7, hostOps0_8, hostOps0_9, hostOps0_10, hostOps0_11, hostOps0_12, hostOps0_13,
    hostOps0_14, hostOps0_15, hostOps0_16, hostOps0_17, hostOps0_18, hostOps0_19, hostOps0_20, hostOps0_21, hostOps0_22,
    hostOps0_23, hostOps0_24, hostOps0_25, hostOps0_26, hostOps0_27, hostOps0_28, hostOps0_29, List.cons_append, List.nil_append]
  refine ⟨fun k => ?_, fun k => ?_, fun k => ?_, fun k => ?_, fun k => ?_, fun k => ?_⟩
  all_goals after_reads_at
  all_goals first
    | exact (kw_of m c j _ (by omega)).symm
    | refine dite_congr rfl (fun h => ?_) (fun _ => sitofp_zero_bf16)
      exact (kw_of m c j _ (by omega)).symm

def kx (c : Dev nD) (i : Fin 8448) (j : Fin 1024) : EReal := V m c main_v33 (ix2 i j)
def kr (c : Dev nD) (i : Fin 8448) (j : Fin 1024) : EReal := V m c main_v35 (ix2 i j)
def kn (c : Dev nD) (j : Fin 1024) : EReal := V m c main_arg1 (ix2 (0 : Fin 1) j)

theorem kx_at (c : Dev nD) (i : Fin 8448) (j : Fin 1024) : kx m c i j =
    if h : i.val < 8208 then xRow (a0 m c) ⟨i.val, h⟩ j else 0 := by
  rw [← sitofp_zero]
  unfold kx
  simp only [V, List.flatten_cons, List.flatten_nil, List.append_nil, hostOps0, hostOps0_1, hostOps0_2, hostOps0_3,
    hostOps0_4, hostOps0_5, hostOps0_6, hostOps0_7, hostOps0_8, hostOps0_9, hostOps0_10, hostOps0_11, hostOps0_12, hostOps0_13,
    hostOps0_14, hostOps0_15, hostOps0_16, hostOps0_17, hostOps0_18, hostOps0_19, hostOps0_20, hostOps0_21, hostOps0_22,
    hostOps0_23, hostOps0_24, hostOps0_25, hostOps0_26, hostOps0_27, hostOps0_28, hostOps0_29, List.cons_append, List.nil_append]
  after_reads_at
  rfl

theorem kr_at (c : Dev nD) (i : Fin 8448) (j : Fin 1024) : kr m c i j =
    if h : i.val < 8208 then xRow (a3 m c) ⟨i.val, h⟩ j else 0 := by
  rw [← sitofp_zero]
  unfold kr
  simp only [V, List.flatten_cons, List.flatten_nil, List.append_nil, hostOps0, hostOps0_1, hostOps0_2, hostOps0_3,
    hostOps0_4, hostOps0_5, hostOps0_6, hostOps0_7, hostOps0_8, hostOps0_9, hostOps0_10, hostOps0_11, hostOps0_12, hostOps0_13,
    hostOps0_14, hostOps0_15, hostOps0_16, hostOps0_17, hostOps0_18, hostOps0_19, hostOps0_20, hostOps0_21, hostOps0_22,
    hostOps0_23, hostOps0_24, hostOps0_25, hostOps0_26, hostOps0_27, hostOps0_28, hostOps0_29, List.cons_append, List.nil_append]
  after_reads_at
  rfl

theorem kn_at (c : Dev nD) (j : Fin 1024) : kn m c j = a1 m c (ix2 (0 : Fin 1) j) := by
  unfold kn
  rw [V_main_arg1]

theorem row_lt (t : Fin cfg0.N) (k : Fin 384) : 384 * t.val + k.val < 8448 := by
  have : t.val < 22 := t.isLt
  omega

theorem blk0 (c : Dev nD) (t : Fin cfg0.N) (y : Fin 384) (k : Fin 384) :
    iblk m c 0 t (ix2 y k) = V m c main_v14 (ix2 (⟨384 * t.val + y.val, row_lt t y⟩ : Fin 8448) k) := by
  have e := idx t
  blk_ext [iblk, V, e]

theorem blk6 (c : Dev nD) (t : Fin cfg0.N) (j : Fin 1024) (k : Fin 384) :
    iblk m c 6 t (ix2 j k) = V m c main_v21 (ix2 j k) := by
  have e := idx t
  blk_ext [iblk, V, e]

theorem blk1 (c : Dev nD) (t : Fin cfg0.N) (y : Fin 384) (k : Fin 256) :
    iblk m c 1 t (ix2 y k) = V m c main_v15 (ix2 (⟨384 * t.val + y.val, row_lt t y⟩ : Fin 8448) k) := by
  have e := idx t
  blk_ext [iblk, V, e]

theorem blk7 (c : Dev nD) (t : Fin cfg0.N) (j : Fin 1024) (k : Fin 256) :
    iblk m c 7 t (ix2 j k) = V m c main_v23 (ix2 j k) := by
  have e := idx t
  blk_ext [iblk, V, e]

theorem blk2 (c : Dev nD) (t : Fin cfg0.N) (y : Fin 384) (k : Fin 128) :
    iblk m c 2 t (ix2 y k) = V m c main_v7 (ix2 (⟨384 * t.val + y.val, row_lt t y⟩ : Fin 8448) k) := by
  have e := idx t
  blk_ext [iblk, V, e]

theorem blk8 (c : Dev nD) (t : Fin cfg0.N) (j : Fin 1024) (k : Fin 128) :
    iblk m c 8 t (ix2 j k) = V m c main_v25 (ix2 j k) := by
  have e := idx t
  blk_ext [iblk, V, e]

theorem blk3 (c : Dev nD) (t : Fin cfg0.N) (y : Fin 384) (k : Fin 1024) :
    iblk m c 3 t (ix2 y k) = V m c main_v16 (ix2 (⟨384 * t.val + y.val, row_lt t y⟩ : Fin 8448) k) := by
  have e := idx t
  blk_ext [iblk, V, e]

theorem blk9 (c : Dev nD) (t : Fin cfg0.N) (j : Fin 1024) (k : Fin 1024) :
    iblk m c 9 t (ix2 j k) = V m c main_v27 (ix2 j k) := by
  have e := idx t
  blk_ext [iblk, V, e]

theorem blk4 (c : Dev nD) (t : Fin cfg0.N) (y : Fin 384) (k : Fin 1536) :
    iblk m c 4 t (ix2 y k) = V m c main_v17 (ix2 (⟨384 * t.val + y.val, row_lt t y⟩ : Fin 8448) k) := by
  have e := idx t
  blk_ext [iblk, V, e]

theorem blk10 (c : Dev nD) (t : Fin cfg0.N) (j : Fin 1024) (k : Fin 1536) :
    iblk m c 10 t (ix2 j k) = V m c main_v29 (ix2 j k) := by
  have e := idx t
  blk_ext [iblk, V, e]

theorem blk5 (c : Dev nD) (t : Fin cfg0.N) (y : Fin 384) (k : Fin 128) :
    iblk m c 5 t (ix2 y k) = V m c main_v13 (ix2 (⟨384 * t.val + y.val, row_lt t y⟩ : Fin 8448) k) := by
  have e := idx t
  blk_ext [iblk, V, e]

theorem blk11 (c : Dev nD) (t : Fin cfg0.N) (j : Fin 1024) (k : Fin 128) :
    iblk m c 11 t (ix2 j k) = V m c main_v31 (ix2 j k) := by
  have e := idx t
  blk_ext [iblk, V, e]

theorem blk12 (c : Dev nD) (t : Fin cfg0.N) (y : Fin 384) (j : Fin 1024) :
    iblk m c 12 t (ix2 y j) = kx m c ⟨384 * t.val + y.val, row_lt t y⟩ j := by
  have e := idx t
  unfold kx
  blk_ext [iblk, V, e]

theorem blk13 (c : Dev nD) (t : Fin cfg0.N) (j : Fin 1024) : iblk m c 13 t (ix2 (0 : Fin 1) j) = kn m c j := by
  have e := idx t
  unfold kn
  blk_ext [iblk, V, e]

theorem blk14 (c : Dev nD) (t : Fin cfg0.N) (y : Fin 384) (j : Fin 1024) :
    iblk m c 14 t (ix2 y j) = kr m c ⟨384 * t.val + y.val, row_lt t y⟩ j := by
  have e := idx t
  unfold kr
  blk_ext [iblk, V, e]

/-- The kernel's row of cotangents and the gradient it computes from them. -/
def ky (c : Dev nD) (i : Fin 8448) (j : Fin 1024) : EReal := ∑ k : Fin 3280, kg m c i k.val * kw m c j k.val

def kdx (c : Dev nD) (i : Fin 8448) (j : Fin 1024) : EReal :=
  gradRow K E (kx m c i) (fun k => ky m c i k * kn m c k) j + kr m c i j

theorem ky_at (c : Dev nD) (i : Fin 8448) (j : Fin 1024) : ky m c i j =
    if h : i.val < 8208 then yRow (a2 m c) (a4 m c) ⟨i.val, h⟩ j else 0 := by
  unfold ky
  by_cases h : i.val < 8208
  · rw [dif_pos h]
    exact Finset.sum_congr rfl fun k _ => by rw [kg, kw, dif_pos ⟨h, k.isLt⟩, dif_pos k.isLt]; rfl
  · rw [dif_neg h]
    exact Finset.sum_eq_zero fun k _ => by rw [kg, dif_neg (fun e => h e.1), zero_mul]

theorem kdx_at (c : Dev nD) (i : Fin 8448) (j : Fin 1024) : kdx m c i j =
    if h : i.val < 8208 then dx (a0 m c) (a1 m c) (a2 m c) (a3 m c) (a4 m c) ⟨i.val, h⟩ j else 0 := by
  unfold kdx
  by_cases h : i.val < 8208
  · rw [dif_pos h, kr_at, dif_pos h]
    unfold dx
    refine congrArg₂ (HAdd.hAdd : EReal → EReal → EReal) ?_ rfl
    congr 1
    · funext k; rw [kx_at, dif_pos h]
    · funext k; rw [ky_at, dif_pos h, kn_at]; rfl
  · rw [dif_neg h, kr_at, dif_neg h, add_zero]
    exact gradRow_zero _ _ _ _ _ (fun k => by rw [kx_at, dif_neg h]) (fun k => by rw [ky_at, dif_neg h, zero_mul])

/-- A sum over the projection's columns, range by range. -/
theorem sum_ranges (f : Nat → EReal) : ∑ k : Fin 3280, f k.val =
    ∑ k : Fin 384, f k.val + ∑ k : Fin 256, f (384 + k.val) + ∑ k : Fin 64, f (640 + k.val) + ∑ k : Fin 1024, f (704 + k.val)
      + ∑ k : Fin 1536, f (1728 + k.val) + ∑ k : Fin 16, f (3264 + k.val) := by
  have e : ∀ s n : Nat, ∑ k : Fin n, f (s + k.val) = ∑ k ∈ Finset.range n, f (s + k) := fun s n => (Finset.sum_range fun k => f (s + k)).symm
  have e0 : ∀ n : Nat, ∑ k : Fin n, f k.val = ∑ k ∈ Finset.range n, f k := fun n => (Finset.sum_range f).symm
  rw [e, e, e, e, e, e0, e0, ← Finset.sum_range_add f 384 256, ← Finset.sum_range_add f 640 64, ← Finset.sum_range_add f 704 1024,
    ← Finset.sum_range_add f 1728 1536, ← Finset.sum_range_add f 3264 16]

/-- A padded range's products are the range's. -/
theorem sum_lanes {n : Nat} (hn : n ≤ 128) (f g : Nat → EReal) :
    ∑ k : Fin 128, (if k.val < n then f k.val else 0) * (if k.val < n then g k.val else 0) = ∑ k : Fin n, f k.val * g k.val :=
  sum_pad hn _ _ (fun l => by rw [if_pos l.isLt, if_pos l.isLt]) (fun k hk => by rw [if_neg (by omega), zero_mul])

/-- The body's rows of cotangents: the six products added. -/
theorem pay3_at (v3 : Vec Ideal S384x384 .bf16) (v5 : Vec Ideal S1024x384 .bf16) (v8 : Vec Ideal S384x256 .bf16) (v10 : Vec Ideal S1024x256 .bf16)
    (v14 : Vec Ideal S384x128 .f32) (v17 : Vec Ideal S1024x128 .bf16) (v21 : Vec Ideal S384x1024 .bf16) (v23 : Vec Ideal S1024x1024 .bf16)
    (y : Fin 384) (j : Fin 1024) : k0_pay3 v3 v5 v8 v10 v14 v17 v21 v23 (ix2 y j) =
    ((∑ k : Fin 384, v3 (ix2 y k) * v5 (ix2 j k)) + (∑ k : Fin 256, v8 (ix2 y k) * v10 (ix2 j k))
      + (∑ k : Fin 128, v14 (ix2 y k) * v17 (ix2 j k)) + (∑ k : Fin 1024, v21 (ix2 y k) * v23 (ix2 j k)) : EReal) := by
  unfold k0_pay3
  pointwise

theorem pay6_of (v26 : FVec Ideal S384x1024 .f32) (v27 : Vec Ideal S384x1536 .bf16) (v29 : Vec Ideal S1024x1536 .bf16)
    (v33 : Vec Ideal S384x128 .f32) (v36 : Vec Ideal S1024x128 .bf16) (y : Fin 384) (j : Fin 1024) :
    k0_pay6 v26 (k0_pay4 v27) (k0_pay5 v29) (constant S384x1024 .f32 0x00000000#32) v33 v36 (ix2 y j) =
    (v26 (ix2 y j) + (∑ k : Fin 1536, v27 (ix2 y k) * v29 (ix2 j k)) + (∑ k : Fin 128, v33 (ix2 y k) * v36 (ix2 j k)) : EReal) := by
  unfold k0_pay6 k0_pay4 k0_pay5
  pointwise

/-- The body's rows of cotangents of a tile. -/
abbrev kd (c : Dev nD) (t : Fin cfg0.N) : FVec Ideal S384x1024 .f32 :=
  k0_pay6 (k0_pay3 (iblk m c 0 t) (iblk m c 6 t) (iblk m c 1 t) (iblk m c 7 t) (iblk m c 2 t) (iblk m c 8 t) (iblk m c 3 t) (iblk m c 9 t))
    (k0_pay4 (iblk m c 4 t)) (k0_pay5 (iblk m c 10 t)) (constant S384x1024 .f32 0x00000000#32) (iblk m c 5 t) (iblk m c 11 t)

theorem kd_at (c : Dev nD) (t : Fin cfg0.N) (y : Fin 384) (j : Fin 1024) :
    kd m c t (ix2 y j) = ky m c ⟨384 * t.val + y.val, row_lt t y⟩ j := by
  obtain ⟨g0, g1, g2, g3, g4, g5⟩ := g_at m c ⟨384 * t.val + y.val, row_lt t y⟩
  obtain ⟨w0, w1, w2, w3, w4, w5⟩ := w_at m c j
  rw [kd, pay6_of, pay3_at]
  simp only [blk0, blk1, blk2, blk3, blk4, blk5, blk6, blk7, blk8, blk9, blk10, blk11, g0, g1, g2, g3, g4, g5, w0, w1, w2, w3, w4, w5]
  rw [ky, sum_ranges (fun k => kg m c ⟨384 * t.val + y.val, row_lt t y⟩ k * kw m c j k),
    sum_lanes (n := 64) (by decide) (fun k => kg m c ⟨384 * t.val + y.val, row_lt t y⟩ (640 + k)) (fun k => kw m c j (640 + k)),
    sum_lanes (n := 16) (by decide) (fun k => kg m c ⟨384 * t.val + y.val, row_lt t y⟩ (3264 + k)) (fun k => kw m c j (3264 + k))]

/-- The body's gradient tile and its summands of the gain's gradient, from the rows of cotangents. -/
theorem pay11_of (v26 : FVec Ideal S384x1024 .f32) (v28 : FVec Ideal S384x1536 .bf16) (v30 : FVec Ideal S1024x1536 .bf16) (z : FVec Ideal S384x1024 .f32)
    (v33 : Vec Ideal S384x128 .f32) (v36 : Vec Ideal S1024x128 .bf16) (v40 : Vec Ideal S384x1024 .f32) (v42 : Vec Ideal S1x1024 .f32)
    (v66 : Vec Ideal S384x1024 .f32) (y : Fin 384) (j : Fin 1024) : k0_pay11 v26 v28 v30 z v33 v36 v40 v42 v66 (ix2 y j) =
    (gradRow K E (fun k => v40 (ix2 y k)) (fun k => (k0_pay6 v26 v28 v30 z v33 v36 (ix2 y k) * v42 (ix2 (0 : Fin 1) k) : EReal)) j + v66 (ix2 y j) : EReal) := by
  unfold k0_pay11 k0_pay9 k0_pay8 k0_pay7
  generalize k0_pay6 v26 v28 v30 z v33 v36 = D
  pointwise
  rfl

theorem pay1_of (v26 : FVec Ideal S384x1024 .f32) (v28 : FVec Ideal S384x1536 .bf16) (v30 : FVec Ideal S1024x1536 .bf16) (z : FVec Ideal S384x1024 .f32)
    (v33 : Vec Ideal S384x128 .f32) (v36 : Vec Ideal S1024x128 .bf16) (v40 : Vec Ideal S384x1024 .f32) (g : Vec Ideal S1x1024 .f32) (j : Fin 1024) :
    k0_pay1 (k0_pay10 v26 v28 v30 z v33 v36 v40) g (ix2 (0 : Fin 1) j) =
    (g (ix2 (0 : Fin 1) j) + ∑ y : Fin 384, k0_pay6 v26 v28 v30 z v33 v36 (ix2 y j) * (v40 (ix2 y j) * rstd K E (fun k => v40 (ix2 y k))) : EReal) := by
  unfold k0_pay1 k0_pay10 k0_pay9 k0_pay8 k0_pay7
  generalize k0_pay6 v26 v28 v30 z v33 v36 = D
  pointwise
  rfl

theorem dx_at (c : Dev nD) (t : Fin cfg0.N) (y : Fin 384) (j : Fin 1024) :
    (outsAt0 m c t.val t.isLt).1 (ix2 y j) = kdx m c ⟨384 * t.val + y.val, row_lt t y⟩ j := by
  have e : k0_pay11 (k0_pay3 (iblk m c 0 t) (iblk m c 6 t) (iblk m c 1 t) (iblk m c 7 t) (iblk m c 2 t) (iblk m c 8 t) (iblk m c 3 t) (iblk m c 9 t))
      (k0_pay4 (iblk m c 4 t)) (k0_pay5 (iblk m c 10 t)) (constant S384x1024 .f32 0x00000000#32) (iblk m c 5 t) (iblk m c 11 t)
      (iblk m c 12 t) (iblk m c 13 t) (iblk m c 14 t) (ix2 y j) = kdx m c ⟨384 * t.val + y.val, row_lt t y⟩ j := by
    rw [pay11_of]
    change (gradRow K E _ (fun k => kd m c t (ix2 y k) * _) j + _ : EReal) = _
    simp only [kd_at, blk12, blk13, blk14]
    rfl
  by_cases h0 : t.val % 22 = 0
  · rw [outsAt0_A m c t h0]; frame_out; exact e
  · rw [outsAt0_B m c t h0]; frame_out; exact e

/-- The two results, as arrays. -/
def dX (c : Dev nD) : (⟨S8448x1024, .f32⟩ : BufTy).Contents (Elt Ideal) := fun i => kdx m c (i 0) (i 1)

def gTerm (c : Dev nD) (i : Fin 8448) (j : Fin 1024) : EReal := ky m c i j * (kx m c i j * rstd K E (kx m c i))

def dGain (c : Dev nD) : (⟨S1x1024, .f32⟩ : BufTy).Contents (Elt Ideal) := fun i => (∑ k : Fin 8448, gTerm m c k (i 1) : EReal)

theorem out15 (c : Dev nD) : (dats m 0 c).arrAt 15 (cfgs 0).N = dX m c := by
  refine (dats m 0 c).arrAt_eq_of_covers 15 _ (by decide +kernel) fun t hf y => ?_
  blk_simp
  rw [after0_15]
  have e := idx t
  idx_vars y
  have key : (outsAt0 m c t.val t.isLt).1 (ix2 y0 y1) = dX m c (ix2 (⟨384 * t.val + y0.val, row_lt t y0⟩ : Fin 8448) y1) := dx_at m c t y0 y1
  rw [key]
  blk_ext [e]

/-- The grid's row blocks, one after another, are the rows. -/
theorem sum_points (f : Fin 8448 → EReal) (hh : ∀ (t : Fin 22) (k : Fin 384), 384 * t.val + k.val < 8448) :
    ∑ t : Fin 22, ∑ k : Fin 384, f ⟨384 * t.val + k.val, hh t k⟩ = ∑ k : Fin 8448, f k := by
  rw [← Fin.sum_mul_add_fin 22 384 f]
  exact Finset.sum_congr rfl fun t _ => Finset.sum_congr rfl fun k _ => congrArg f (Fin.ext (by
    show 384 * t.val + k.val = t.val * 384 + k.val; omega))

def tL : Fin cfg0.N := ⟨21, by decide⟩

/-- The tile's summands of the gain's gradient, added to what the row holds. -/
theorem gain_tile (c : Dev nD) (t : Fin cfg0.N) (g : Vec Ideal S1x1024 .f32) (j : Fin 1024) :
    k0_pay1 (k0_pay10 (k0_pay3 (iblk m c 0 t) (iblk m c 6 t) (iblk m c 1 t) (iblk m c 7 t) (iblk m c 2 t) (iblk m c 8 t) (iblk m c 3 t) (iblk m c 9 t))
      (k0_pay4 (iblk m c 4 t)) (k0_pay5 (iblk m c 10 t)) (constant S384x1024 .f32 0x00000000#32) (iblk m c 5 t) (iblk m c 11 t)
      (iblk m c 12 t)) g (ix2 (0 : Fin 1) j) = (g (ix2 (0 : Fin 1) j) + ∑ k : Fin 384, gTerm m c ⟨384 * t.val + k.val, row_lt t k⟩ j : EReal) := by
  rw [pay1_of]
  refine congrArg₂ (HAdd.hAdd : EReal → EReal → EReal) rfl (Finset.sum_congr rfl fun y _ => ?_)
  change (kd m c t (ix2 y j) * _ : EReal) = _
  simp only [kd_at, blk12]
  rfl

theorem gain_A (c : Dev nD) (t : Fin cfg0.N) (h : t.val % 22 = 0) (j : Fin 1024) : (outsAt0 m c t.val t.isLt).2 (ix2 (0 : Fin 1) j)
    = (0 : EReal) + ∑ k : Fin 384, gTerm m c ⟨384 * t.val + k.val, row_lt t k⟩ j := by
  rw [outsAt0_A m c t h]; frame_out
  refine (gain_tile m c t _ j).trans (congrArg₂ (HAdd.hAdd : EReal → EReal → EReal) ?_ rfl)
  unfold_payloads; pointwise

theorem gain_B (c : Dev nD) (t : Fin cfg0.N) (h : ¬ t.val % 22 = 0) (j : Fin 1024) : (outsAt0 m c t.val t.isLt).2 (ix2 (0 : Fin 1) j)
    = ((outsAt0 m c (t.val - 1) (by omega)).2 (ix2 (0 : Fin 1) j) : EReal) + ∑ k : Fin 384, gTerm m c ⟨384 * t.val + k.val, row_lt t k⟩ j := by
  rw [outsAt0_B m c t h]; frame_out
  exact gain_tile m c t _ j

theorem out16 (c : Dev nD) : (dats m 0 c).arrAt 16 (cfgs 0).N = dGain m c := by
  refine (dats m 0 c).arrAt_eq_of_after_last 16 tL (by decide +kernel) _ fun j => ?_
  blk_simp
  rw [after0_16]
  idx_vars j
  obtain rfl : j0 = 0 := Subsingleton.elim _ _
  rw [Pipeline.eq_sum_fin_of_reset_step_apply_last (fun n h => (outsAt0 m c n h).2) 22 (fun _ => (0 : EReal))
    (fun t (j : S1x1024.Idx) => ∑ k : Fin 384, gTerm m c ⟨384 * t.val + k.val, row_lt t k⟩ (j 1))
    (fun t h j => by
      idx_vars j
      obtain rfl : j0 = 0 := Subsingleton.elim _ _
      exact gain_A m c t h j1)
    (fun t h j => by
      idx_vars j
      obtain rfl : j0 = 0 := Subsingleton.elim _ _
      exact gain_B m c t h j1) (by decide) tL rfl (ix2 (0 : Fin 1) j1), zero_add]
  exact sum_points (fun k => gTerm m c k j1) (hh := fun t k => row_lt t k)

/-- The kernel's results are the reference's of the same arguments. -/
theorem dX_eq (c : Dev nD) : dX m c = Cert.InProjDxRefIdeal.Read.val_main_v44 (F := Ideal) (a0 m c) (a1 m c) (a2 m c) (a3 m c) (a4 m c) := by
  funext i
  idx_vars i
  rw [InProjRef.refread_dx]
  exact kdx_at m c i0 i1

theorem dGain_eq (c : Dev nD) : dGain m c = Cert.InProjDxRefIdeal.Read.val_main_v42 (F := Ideal) (a0 m c) (a2 m c) (a4 m c) := by
  funext i
  idx_vars i
  obtain rfl : i0 = 0 := Subsingleton.elim _ _
  rw [InProjRef.refread_dg]
  refine sum_pad (by decide) _ _ (fun l => ?_) (fun k hk => ?_)
  · have e : kx m c ⟨l.val, by omega⟩ = xRow (a0 m c) l := by
      funext k; rw [kx_at, dif_pos l.isLt]
    show ky m c ⟨l.val, by omega⟩ i1 * (kx m c ⟨l.val, by omega⟩ i1 * rstd K E (kx m c ⟨l.val, by omega⟩)) = _
    rw [e, ky_at, dif_pos l.isLt, mul_comm]
  · show ky m c k i1 * _ = 0
    rw [ky_at, dif_neg (not_lt.mpr hk), zero_mul]

end Cert.Proof.InProjBwd
-- ==== Proof.FwdRun.lean ====
module

public import proofs.«01_k».proof.Proof.Gen.FlashFwdIdeal.Frame.Runs
public import proofs.«01_k».proof.Proof.Gen.FlashFwdIdeal.Loops
public import Idealize.ShloMosaic.Lib.Pipeline.ValueKit
public import Idealize.ShloMosaic.Lib.WritesUnit

/-! The forward attention's kernel body as a function: what one grid point (a head and a block of query rows) leaves in
its two output blocks. The state is the running maximum, the running sum and the running weighted sum of the values. -/

@[expose] public section
set_option maxRecDepth 16384
noncomputable section
namespace Cert.FlashFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-! ## The state and its steps -/

/-- The 768 rows of block `b`. -/
def rk {e : EltTy} (x : Vec F S1x8448x256 e) (b : ℕ) : Vec F S1x768x256 e :=
  fun y => x (ix3 (0 : Fin 1) (⟨(768 * b + (y 1).val) % 8448, Nat.mod_lt _ (by decide)⟩ : Fin 8448) (y 2 : Fin 256))
def rv {e : EltTy} (x : Vec F S1x8448x128 e) (b : ℕ) : Vec F S1x768x128 e :=
  fun y => x (ix3 (0 : Fin 1) (⟨(768 * b + (y 1).val) % 8448, Nat.mod_lt _ (by decide)⟩ : Fin 8448) (y 2 : Fin 128))

/-- Running maximum, sum and weighted sum. -/
abbrev St (F : FTy → Type) := Vec F S768x128 .f32 × Vec F S768x128 .f32 × Vec F S768x128 .f32

/-- One key block's scores. -/
def sc (v1 : FVec F S768x256 .bf16) (x3 : Vec F S1x8448x256 .bf16) (b : ℕ) : Vec F S768x768 .f32 := k0_pay5 v1 (rk x3 b)

/-- The state after a key block below the diagonal. -/
def upd (s : Vec F S768x768 .f32) (v : Vec F S1x768x128 .bf16) (u : St F) : St F :=
  (k0_pay12 (k0_pay6 s u.1), k0_pay9 s u.1 u.2.1, k0_pay11 (k0_pay8 s u.1) (k0_pay10 s u.1 u.2.2) v)

/-- The state before key block `b`. -/
def run (v1 : FVec F S768x256 .bf16) (x3 : Vec F S1x8448x256 .bf16) (x4 : Vec F S1x8448x128 .bf16) : ℕ → St F
  | 0 => (k0_pay50, k0_pay51, k0_pay52)
  | b + 1 => upd (sc v1 x3 b) (rv x4 b) (run v1 x3 x4 b)

/-- The state after the diagonal block. -/
def fin (x2 : Vec F S1x768x256 .bf16) (x3 : Vec F S1x8448x256 .bf16) (x4 : Vec F S1x8448x128 .bf16) (j : ℕ) : St F :=
  (k0_pay62 (k0_pay30 (sc (k0_pay49 x2) x3 j) (run (k0_pay49 x2) x3 x4 j).1),
   k0_pay33 (sc (k0_pay49 x2) x3 j) (run (k0_pay49 x2) x3 x4 j).1 (run (k0_pay49 x2) x3 x4 j).2.1,
   k0_pay34 (sc (k0_pay49 x2) x3 j) (run (k0_pay49 x2) x3 x4 j).1 (run (k0_pay49 x2) x3 x4 j).2.2 (rv x4 j))

/-! ## Offsets and trip counts -/

theorem trips1 (i : grid0.Coords) : (k0_t1_loop i).trips = (i 1).val / 2 := by
  revert i; decide +kernel
theorem trips2 (i : grid0.Coords) : (k0_t2_loop i).trips = 0 := Nat.le_zero.mp (k0_t2_abs i).2.1

theorem iv_eq : ∀ k : Fin 6, Scf.iv 0#32 1#32 k.val = BitVec.ofNat 32 k.val := by decide +kernel
theorem off1_eq (i : grid0.Coords) (k : Fin (k0_t1_loop i).trips) (r : Fin 2) :
    k0_off1 i k (BitVec.ofNat 32 (1 + r.val)) = ![0, 768 * (2 * k.val + (1 + r.val)), 0] := by
  have hj : (i 1).val < 11 := (i 1).isLt
  have hk : k.val < (i 1).val / 2 := lt_of_lt_of_eq k.isLt (trips1 i)
  have e := iv_eq ⟨k.val, by omega⟩
  have e2 := (by decide +kernel : ∀ (n : Fin 6) (r : Fin 2), (Scalar.indexCast (Scalar.muli (Scalar.addi (Scalar.muli 2#32 (BitVec.ofNat 32 n.val)) (BitVec.ofNat 32 (1 + r.val))) 768#32)).toNat = 768 * (2 * n.val + (1 + r.val))) ⟨k.val, by omega⟩ r
  unfold k0_off1
  dsimp only at e e2 ⊢
  rw [e, e2]
theorem off2_eq (i : grid0.Coords) (k : Fin (k0_t1_loop i).trips) : k0_off2 i k = ![0, 768 * (2 * k.val), 0] := by
  have hj : (i 1).val < 11 := (i 1).isLt
  have hk : k.val < (i 1).val / 2 := lt_of_lt_of_eq k.isLt (trips1 i)
  have e := iv_eq ⟨k.val, by omega⟩
  have e2 := (by decide +kernel : ∀ n : Fin 6, (Scalar.indexCast (Scalar.muli (Scalar.muli 2#32 (BitVec.ofNat 32 n.val)) 768#32)).toNat = 768 * (2 * n.val)) ⟨k.val, by omega⟩
  unfold k0_off2
  dsimp only at e e2 ⊢
  rw [e, e2]
theorem off3_eq (i : grid0.Coords) (k : Fin (k0_t1_loop i).trips) : k0_off3 i k = ![0, 768 * (2 * k.val + 1), 0] :=
  off1_eq i k 0
theorem off9_eq (i : grid0.Coords) (h : k0_cond2 i = 1#1) : k0_off9 i = ![0, 768 * ((i 1).val - 1), 0] := by
  revert i; decide +kernel

/-! ## Loads and stores of a view -/

section Views
variable {κ : Kind} {sp : Space}

theorem ld_k {e : EltTy} (v : View sig κ sp S1x8448x256 e) (f : v.ty.Contents (Elt F)) {off : Fin 3 → ℕ} {b : ℕ} (h : ∀ a, off a + S1x768x256.size a ≤ S1x8448x256.size a) (e0 : off = ![0, 768 * b, 0]) (hb : b < 11) :
    (View.readAt (Elt F) v (Rect.unit (s := S1x8448x256) off S1x768x256.size h).toLoadRect f : Vec F S1x768x256 e) = rk (v.read (Elt F) f) b := by
  subst e0
  funext y
  refine congrArg (v.read (Elt F) f) (funext fun a => Fin.ext ?_)
  have h1 : (y 1).val < 768 := (y 1).isLt
  have h0 : (y 0).val < 1 := (y 0).isLt
  match a with
  | 0 => show 0 + 1 * (y 0).val = 0; omega
  | 1 => show 768 * b + 1 * (y 1).val = (768 * b + (y 1).val) % 8448; omega
  | 2 => show 0 + 1 * (y 2).val = (y 2).val; omega
theorem ld_v {e : EltTy} (v : View sig κ sp S1x8448x128 e) (f : v.ty.Contents (Elt F)) {off : Fin 3 → ℕ} {b : ℕ} (h : ∀ a, off a + S1x768x128.size a ≤ S1x8448x128.size a) (e0 : off = ![0, 768 * b, 0]) (hb : b < 11) :
    (View.readAt (Elt F) v (Rect.unit (s := S1x8448x128) off S1x768x128.size h).toLoadRect f : Vec F S1x768x128 e) = rv (v.read (Elt F) f) b := by
  subst e0
  funext y
  refine congrArg (v.read (Elt F) f) (funext fun a => Fin.ext ?_)
  have h1 : (y 1).val < 768 := (y 1).isLt
  have h0 : (y 0).val < 1 := (y 0).isLt
  match a with
  | 0 => show 0 + 1 * (y 0).val = 0; omega
  | 1 => show 768 * b + 1 * (y 1).val = (768 * b + (y 1).val) % 8448; omega
  | 2 => show 0 + 1 * (y 2).val = (y 2).val; omega
/-- A store of the whole of a view is what is read back. -/
theorem st_whole {s : Shape} {e : EltTy} (v : View sig κ sp s e) (f : v.ty.Contents (Elt F)) {off : Fin s.rank → ℕ} (h : ∀ a, off a + s.size a ≤ s.size a) (w : Vec F s e) (L : List (View.Piece (Elt F) s e)) :
    v.read (Elt F) (v.writes (Elt F) f ((⟨Rect.unit (s := s) off s.size h, w⟩ : View.Piece (Elt F) s e) :: L)) = w :=
  funext fun y => View.read_writes_cons_unit_of_mem v f h w L y y (off' := fun _ => 0) (funext fun a => by have := h a; omega) fun a => (Nat.zero_add _).symm
theorem ld_whole {s : Shape} {e : EltTy} (v : View sig κ sp s e) (f : v.ty.Contents (Elt F)) {off : Fin s.rank → ℕ} (h : ∀ a, off a + s.size a ≤ s.size a) :
    (View.readAt (Elt F) v (Rect.unit (s := s) off s.size h).toLoadRect f : Vec F s e) = v.read (Elt F) f := by
  funext y
  refine congrArg (v.read (Elt F) f) (funext fun a => Fin.ext ?_)
  show off a + 1 * (y a).val = (y a).val
  have := h a
  omega
/-- A read of the whole of a view whose last store was whole. -/
theorem rc_whole {s : Shape} {e : EltTy} (v : View sig κ sp s e) {off : Fin s.rank → ℕ} (h : ∀ a, off a + s.size a ≤ s.size a) (w : Vec F s e) (L : List (View.Piece (Elt F) s e)) :
    (v.readCov ((⟨Rect.unit (s := s) off s.size h, w⟩ : View.Piece (Elt F) s e) :: L) (Rect.unit (s := s) off s.size h).toLoadRect : Vec F s e) = w :=
  (ld_whole v _ h).trans (st_whole v _ h w L)
end Views

/-- The memrefs that the body is called with. -/
structure Refs where
  a2 : Memref sig .tc .vmem S1x768x256 .bf16
  w2 : a2.IsWhole
  a3 : Memref sig .tc .vmem S1x8448x256 .bf16
  w3 : a3.IsWhole
  a4 : Memref sig .tc .vmem S1x8448x128 .bf16
  w4 : a4.IsWhole
  a5 : Memref sig .tc .vmem S768x128 .f32
  w5 : a5.IsWhole
  a6 : Memref sig .tc .vmem S1x1x1x768 .f32
  w6 : a6.IsWhole
  a7 : Memref sig .tc .vmem S768x768 .f32
  w7 : a7.IsWhole
  a8 : Memref sig .tc .vmem S768x768 .f32
  w8 : a8.IsWhole
  a9 : Memref sig .tc .vmem S768x128 .f32
  w9 : a9.IsWhole
  a10 : Memref sig .tc .vmem S768x128 .f32
  w10 : a10.IsWhole
  a11 : Memref sig .tc .vmem S768x128 .f32
  w11 : a11.IsWhole

/-! ## The loop over pairs of key blocks -/

section Loop
variable (R : Refs) (c : Dev nD) (i : grid0.Coords) (w1 : BitVec 32) (v1 : FVec F S768x256 .bf16) (c2 v22 v27 v29 : BitVec 32) (v30 : BitVec 1)
    (X3 : BufTy.Contents (Elt F) R.a3.view.ty) (X4 : BufTy.Contents (Elt F) R.a4.view.ty)

/-- The pieces that one trip stores. -/
theorem trip_pieces (k : Fin (k0_t1_loop i).trips) (f7 : BufTy.Contents (Elt F) R.a7.view.ty) (f8 : BufTy.Contents (Elt F) R.a8.view.ty)
    (f9 : BufTy.Contents (Elt F) R.a9.view.ty) (f10 : BufTy.Contents (Elt F) R.a10.view.ty) (f11 : BufTy.Contents (Elt F) R.a11.view.ty) :
    let A : Vec F S768x768 .f32 := (View.readAt (Elt F) R.a7.view (Rect.unit (s := S768x768) ![0, 0] S768x768.size inb_S768x768_S768x768_0_0).toLoadRect f7)
    let D : Vec F S768x128 .f32 := (View.readAt (Elt F) R.a9.view (Rect.unit (s := S768x128) ![0, 0] S768x128.size inb_S768x128_S768x128_0_0).toLoadRect f9)
    let p9 : Vec F S768x128 .f32 := k0_pay12 (k0_pay6 A D)
    let p10 : Vec F S768x128 .f32 := k0_pay9 A D (View.readAt (Elt F) R.a10.view (Rect.unit (s := S768x128) ![0, 0] S768x128.size inb_S768x128_S768x128_0_0).toLoadRect f10)
    let p11 : Vec F S768x128 .f32 := k0_pay11 (k0_pay8 A D) (k0_pay10 A D (View.readAt (Elt F) R.a11.view (Rect.unit (s := S768x128) ![0, 0] S768x128.size inb_S768x128_S768x128_0_0).toLoadRect f11)) (View.readAt (Elt F) R.a4.view (Rect.unit (s := S1x8448x128) (k0_off2 i k) S1x768x128.size (k0_off2_inb i k)).toLoadRect X4)
    let p8 : Vec F S768x768 .f32 := k0_pay5 v1 (View.readAt (Elt F) R.a3.view (Rect.unit (s := S1x8448x256) (k0_off1 i k 1#32) S1x768x256.size (k0_off1_inb i k 0)).toLoadRect X3)
    let B : Vec F S768x768 .f32 := (R.a8.view.readCov [(⟨Rect.unit (s := S768x768) ![0, 0] S768x768.size inb_S768x768_S768x768_0_0, p8⟩ : View.Piece (Elt F) S768x768 .f32)] (Rect.unit (s := S768x768) ![0, 0] S768x768.size inb_S768x768_S768x768_0_0).toLoadRect)
    let C : Vec F S768x128 .f32 := (R.a9.view.readCov [(⟨Rect.unit (s := S768x128) ![0, 0] S768x128.size inb_S768x128_S768x128_0_0, p9⟩ : View.Piece (Elt F) S768x128 .f32)] (Rect.unit (s := S768x128) ![0, 0] S768x128.size inb_S768x128_S768x128_0_0).toLoadRect)
    tripL_k0_t1 (F := F) Variants.none c none i R.a2 R.w2 R.a3 R.w3 R.a4 R.w4 R.a5 R.w5 R.a6 R.w6 R.a7 R.w7 R.a8 R.w8 R.a9 R.w9 R.a10 R.w10 R.a11 R.w11 w1 v1 c2 v22 v27 v29 v30 X3 X4 k f7 f8 f9 f10 f11
      = ([(⟨Rect.unit (s := S768x768) ![0, 0] S768x768.size inb_S768x768_S768x768_0_0, k0_pay13 v1 (View.readAt (Elt F) R.a3.view (Rect.unit (s := S1x8448x256) (k0_off1 i k 2#32) S1x768x256.size (k0_off1_inb i k 1)).toLoadRect X3)⟩ : View.Piece (Elt F) S768x768 .f32)],
         [(⟨Rect.unit (s := S768x768) ![0, 0] S768x768.size inb_S768x768_S768x768_0_0, p8⟩ : View.Piece (Elt F) S768x768 .f32)],
         [(⟨Rect.unit (s := S768x128) ![0, 0] S768x128.size inb_S768x128_S768x128_0_0, k0_pay57 (k0_pay14 B C)⟩ : View.Piece (Elt F) S768x128 .f32), (⟨Rect.unit (s := S768x128) ![0, 0] S768x128.size inb_S768x128_S768x128_0_0, p9⟩ : View.Piece (Elt F) S768x128 .f32)],
         [(⟨Rect.unit (s := S768x128) ![0, 0] S768x128.size inb_S768x128_S768x128_0_0, k0_pay55 (k0_pay15 B C) (k0_pay16 B C) (R.a10.view.readCov [(⟨Rect.unit (s := S768x128) ![0, 0] S768x128.size inb_S768x128_S768x128_0_0, p10⟩ : View.Piece (Elt F) S768x128 .f32)] (Rect.unit (s := S768x128) ![0, 0] S768x128.size inb_S768x128_S768x128_0_0).toLoadRect)⟩ : View.Piece (Elt F) S768x128 .f32), (⟨Rect.unit (s := S768x128) ![0, 0] S768x128.size inb_S768x128_S768x128_0_0, p10⟩ : View.Piece (Elt F) S768x128 .f32)],
         [(⟨Rect.unit (s := S768x128) ![0, 0] S768x128.size inb_S768x128_S768x128_0_0, k0_pay56 (k0_pay15 B C) (k0_pay16 B C) (R.a11.view.readCov [(⟨Rect.unit (s := S768x128) ![0, 0] S768x128.size inb_S768x128_S768x128_0_0, p11⟩ : View.Piece (Elt F) S768x128 .f32)] (Rect.unit (s := S768x128) ![0, 0] S768x128.size inb_S768x128_S768x128_0_0).toLoadRect) (View.readAt (Elt F) R.a4.view (Rect.unit (s := S1x8448x128) (k0_off3 i k) S1x768x128.size (k0_off3_inb i k)).toLoadRect X4)⟩ : View.Piece (Elt F) S768x128 .f32), (⟨Rect.unit (s := S768x128) ![0, 0] S768x128.size inb_S768x128_S768x128_0_0, p11⟩ : View.Piece (Elt F) S768x128 .f32)]) := by
  unfold tripL_k0_t1; unfold trip_k0_t1; rfl

/-- What the scores' buffer and the state's three read after one trip: two key blocks further on. -/
theorem trip_reads (k : Fin (k0_t1_loop i).trips) (f7 G7 : BufTy.Contents (Elt F) R.a7.view.ty) (f8 : BufTy.Contents (Elt F) R.a8.view.ty)
    (f9 G9 : BufTy.Contents (Elt F) R.a9.view.ty) (f10 G10 : BufTy.Contents (Elt F) R.a10.view.ty) (f11 G11 : BufTy.Contents (Elt F) R.a11.view.ty)
    (M7 : List (View.Piece (Elt F) S768x768 .f32)) (M9 M10 M11 : List (View.Piece (Elt F) S768x128 .f32)) :
    let T := tripL_k0_t1 (F := F) Variants.none c none i R.a2 R.w2 R.a3 R.w3 R.a4 R.w4 R.a5 R.w5 R.a6 R.w6 R.a7 R.w7 R.a8 R.w8 R.a9 R.w9 R.a10 R.w10 R.a11 R.w11 w1 v1 c2 v22 v27 v29 v30 X3 X4 k f7 f8 f9 f10 f11
    (R.a7.view.read (Elt F) (R.a7.view.writes (Elt F) G7 (T.1 ++ M7)),
      (R.a9.view.read (Elt F) (R.a9.view.writes (Elt F) G9 (T.2.2.1 ++ M9)),
       R.a10.view.read (Elt F) (R.a10.view.writes (Elt F) G10 (T.2.2.2.1 ++ M10)),
       R.a11.view.read (Elt F) (R.a11.view.writes (Elt F) G11 (T.2.2.2.2 ++ M11))))
      = (sc v1 (R.a3.view.read (Elt F) X3) (2 * k.val + 2),
         upd (sc v1 (R.a3.view.read (Elt F) X3) (2 * k.val + 1)) (rv (R.a4.view.read (Elt F) X4) (2 * k.val + 1))
           (upd (R.a7.view.read (Elt F) f7) (rv (R.a4.view.read (Elt F) X4) (2 * k.val))
             (R.a9.view.read (Elt F) f9, R.a10.view.read (Elt F) f10, R.a11.view.read (Elt F) f11))) := by
  intro T
  have hj : (i 1).val < 11 := (i 1).isLt
  have hk : k.val < (i 1).val / 2 := lt_of_lt_of_eq k.isLt (trips1 i)
  have e : T = _ := trip_pieces R c i w1 v1 c2 v22 v27 v29 v30 X3 X4 k f7 f8 f9 f10 f11
  rw [e]
  dsimp only [List.cons_append, List.nil_append]
  have k1 : (View.readAt (Elt F) R.a3.view (Rect.unit (s := S1x8448x256) (k0_off1 i k 1#32) S1x768x256.size (k0_off1_inb i k 0)).toLoadRect X3) = rk (R.a3.view.read (Elt F) X3) (2 * k.val + 1) := ld_k R.a3.view X3 _ (off1_eq i k 0) (by omega)
  have k2 : (View.readAt (Elt F) R.a3.view (Rect.unit (s := S1x8448x256) (k0_off1 i k 2#32) S1x768x256.size (k0_off1_inb i k 1)).toLoadRect X3) = rk (R.a3.view.read (Elt F) X3) (2 * k.val + 2) := ld_k R.a3.view X3 _ (off1_eq i k 1) (by omega)
  rw [k1, k2, ld_v R.a4.view X4 (k0_off2_inb i k) (off2_eq i k) (by omega), ld_v R.a4.view X4 (k0_off3_inb i k) (off3_eq i k) (by omega),
    rc_whole R.a8.view inb_S768x768_S768x768_0_0, rc_whole R.a9.view inb_S768x128_S768x128_0_0, rc_whole R.a10.view inb_S768x128_S768x128_0_0,
    rc_whole R.a11.view inb_S768x128_S768x128_0_0, st_whole R.a7.view G7 inb_S768x768_S768x768_0_0, st_whole R.a9.view G9 inb_S768x128_S768x128_0_0,
    st_whole R.a10.view G10 inb_S768x128_S768x128_0_0, st_whole R.a11.view G11 inb_S768x128_S768x128_0_0,
    ld_whole R.a7.view f7 inb_S768x768_S768x768_0_0, ld_whole R.a9.view f9 inb_S768x128_S768x128_0_0,
    ld_whole R.a10.view f10 inb_S768x128_S768x128_0_0, ld_whole R.a11.view f11 inb_S768x128_S768x128_0_0]
  rfl

/-- The pieces of the trips before `k`. -/
abbrev pb (G7 : BufTy.Contents (Elt F) R.a7.view.ty) (G8 : BufTy.Contents (Elt F) R.a8.view.ty) (G9 : BufTy.Contents (Elt F) R.a9.view.ty)
    (G10 : BufTy.Contents (Elt F) R.a10.view.ty) (G11 : BufTy.Contents (Elt F) R.a11.view.ty) (k : ℕ) :=
  pb_k0_t1 (F := F) Variants.none c none i R.a2 R.w2 R.a3 R.w3 R.a4 R.w4 R.a5 R.w5 R.a6 R.w6 R.a7 R.w7 R.a8 R.w8 R.a9 R.w9 R.a10 R.w10 R.a11 R.w11 w1 v1 c2 v22 v27 v29 v30 X3 X4 G7 G8 G9 G10 G11 k

theorem pb_read (G7 : BufTy.Contents (Elt F) R.a7.view.ty) (G8 : BufTy.Contents (Elt F) R.a8.view.ty) (G9 : BufTy.Contents (Elt F) R.a9.view.ty)
    (G10 : BufTy.Contents (Elt F) R.a10.view.ty) (G11 : BufTy.Contents (Elt F) R.a11.view.ty)
    (h0 : (R.a7.view.read (Elt F) G7, (R.a9.view.read (Elt F) G9, R.a10.view.read (Elt F) G10, R.a11.view.read (Elt F) G11))
      = (sc v1 (R.a3.view.read (Elt F) X3) 0, run v1 (R.a3.view.read (Elt F) X3) (R.a4.view.read (Elt F) X4) 0))
    (k : ℕ) (hk : k ≤ (k0_t1_loop i).trips) :
    (R.a7.view.read (Elt F) (R.a7.view.writes (Elt F) G7 (pb R c i w1 v1 c2 v22 v27 v29 v30 X3 X4 G7 G8 G9 G10 G11 k).1),
      (R.a9.view.read (Elt F) (R.a9.view.writes (Elt F) G9 (pb R c i w1 v1 c2 v22 v27 v29 v30 X3 X4 G7 G8 G9 G10 G11 k).2.2.1),
       R.a10.view.read (Elt F) (R.a10.view.writes (Elt F) G10 (pb R c i w1 v1 c2 v22 v27 v29 v30 X3 X4 G7 G8 G9 G10 G11 k).2.2.2.1),
       R.a11.view.read (Elt F) (R.a11.view.writes (Elt F) G11 (pb R c i w1 v1 c2 v22 v27 v29 v30 X3 X4 G7 G8 G9 G10 G11 k).2.2.2.2)))
      = (sc v1 (R.a3.view.read (Elt F) X3) (2 * k), run v1 (R.a3.view.read (Elt F) X3) (R.a4.view.read (Elt F) X4) (2 * k)) := by
  induction k with
  | zero => exact h0
  | succ k ih =>
    have ih := ih (by omega)
    have hs := pb_k0_t1_succ (F := F) Variants.none c none i R.a2 R.w2 R.a3 R.w3 R.a4 R.w4 R.a5 R.w5 R.a6 R.w6 R.a7 R.w7 R.a8 R.w8 R.a9 R.w9 R.a10 R.w10 R.a11 R.w11 w1 v1 c2 v22 v27 v29 v30 X3 X4 G7 G8 G9 G10 G11 (⟨k, hk⟩ : Fin (k0_t1_loop i).trips)
    unfold pb at ih ⊢
    rw [hs]
    refine (trip_reads R c i w1 v1 c2 v22 v27 v29 v30 X3 X4 ⟨k, hk⟩ _ G7 _ _ G9 _ G10 _ G11 _ _ _ _).trans ?_
    have i7 := congrArg Prod.fst ih
    have i9 := congrArg Prod.snd ih
    dsimp only at i7 i9 ⊢
    rw [i7, i9]
    rfl
end Loop

/-! ## The body -/

/-- What the scores' buffer and the state's three read after the loop over pairs of key blocks (the loop's second part
runs no trip). -/
theorem after (R : Refs) (c : Dev nD) (i : grid0.Coords) (x2 : Vec F S1x768x256 .bf16) (x3 : Vec F S1x8448x256 .bf16) (x4 : Vec F S1x8448x128 .bf16)
    (w1 c2 v22 v27 v29 : BitVec 32) (v30 : BitVec 1) (u1 u2 u22 u27 u29 u43 : BitVec 32) (u30 : BitVec 1) (f8 : BufTy.Contents (Elt F) R.a8.view.ty)
    (G7 : BufTy.Contents (Elt F) R.a7.view.ty) (G8 : BufTy.Contents (Elt F) R.a8.view.ty)
    (G9 : BufTy.Contents (Elt F) R.a9.view.ty) (G10 : BufTy.Contents (Elt F) R.a10.view.ty) (G11 : BufTy.Contents (Elt F) R.a11.view.ty) :
    let I7 : List (View.Piece (Elt F) S768x768 .f32) := [(⟨Rect.unit (s := S768x768) ![0, 0] S768x768.size inb_S768x768_S768x768_0_0, k0_pay53 (View.readAt (Elt F) R.a2.view (Rect.unit (s := S1x768x256) ![0, 0, 0] S1x768x256.size inb_S1x768x256_S1x768x256_0_0_0).toLoadRect (R.w2.unread x2)) (View.readAt (Elt F) R.a3.view (Rect.unit (s := S1x8448x256) ![0, 0, 0] S1x768x256.size inb_S1x8448x256_S1x768x256_0_0_0).toLoadRect (R.w3.unread x3))⟩ : View.Piece (Elt F) S768x768 .f32)]
    let I9 : List (View.Piece (Elt F) S768x128 .f32) := [(⟨Rect.unit (s := S768x128) ![0, 0] S768x128.size inb_S768x128_S768x128_0_0, k0_pay50⟩ : View.Piece (Elt F) S768x128 .f32)]
    let I10 : List (View.Piece (Elt F) S768x128 .f32) := [(⟨Rect.unit (s := S768x128) ![0, 0] S768x128.size inb_S768x128_S768x128_0_0, k0_pay51⟩ : View.Piece (Elt F) S768x128 .f32)]
    let I11 : List (View.Piece (Elt F) S768x128 .f32) := [(⟨Rect.unit (s := S768x128) ![0, 0] S768x128.size inb_S768x128_S768x128_0_0, k0_pay52⟩ : View.Piece (Elt F) S768x128 .f32)]
    let P1 := pb_k0_t1 (F := F) Variants.none c none i R.a2 R.w2 R.a3 R.w3 R.a4 R.w4 R.a5 R.w5 R.a6 R.w6 R.a7 R.w7 R.a8 R.w8 R.a9 R.w9 R.a10 R.w10 R.a11 R.w11 w1 (k0_pay49 (View.readAt (Elt F) R.a2.view (Rect.unit (s := S1x768x256) ![0, 0, 0] S1x768x256.size inb_S1x768x256_S1x768x256_0_0_0).toLoadRect (R.w2.unread x2))) c2 v22 v27 v29 v30 (R.w3.unread x3) (R.w4.unread x4)
      (R.a7.view.writes (Elt F) R.a7.view.junk I7) f8 (R.a9.view.writes (Elt F) R.a9.view.junk I9) (R.a10.view.writes (Elt F) R.a10.view.junk I10) (R.a11.view.writes (Elt F) R.a11.view.junk I11) (k0_t1_loop i).trips
    let P2 := pb_k0_t2 (F := F) Variants.none c none i R.a2 R.w2 R.a3 R.w3 R.a4 R.w4 R.a5 R.w5 R.a6 R.w6 R.a7 R.w7 R.a8 R.w8 R.a9 R.w9 R.a10 R.w10 R.a11 R.w11 u1 (k0_pay49 (View.readAt (Elt F) R.a2.view (Rect.unit (s := S1x768x256) ![0, 0, 0] S1x768x256.size inb_S1x768x256_S1x768x256_0_0_0).toLoadRect (R.w2.unread x2))) u2 u22 u27 u29 u30 u43 (R.w3.unread x3) (R.w4.unread x4) G7 G8 G9 G10 G11 (k0_t2_loop i).trips
    (R.a7.view.read (Elt F) (R.a7.view.writes (Elt F) R.a7.view.junk (P2.1 ++ (P1.1 ++ I7))),
      (R.a9.view.read (Elt F) (R.a9.view.writes (Elt F) R.a9.view.junk (P2.2.2.1 ++ (P1.2.2.1 ++ I9))),
       R.a10.view.read (Elt F) (R.a10.view.writes (Elt F) R.a10.view.junk (P2.2.2.2.1 ++ (P1.2.2.2.1 ++ I10))),
       R.a11.view.read (Elt F) (R.a11.view.writes (Elt F) R.a11.view.junk (P2.2.2.2.2 ++ (P1.2.2.2.2 ++ I11)))))
      = (sc (k0_pay49 x2) x3 (2 * ((i 1).val / 2)), run (k0_pay49 x2) x3 x4 (2 * ((i 1).val / 2))) := by
  intro I7 I9 I10 I11 P1 P2
  have q0 : (View.readAt (Elt F) R.a2.view (Rect.unit (s := S1x768x256) ![0, 0, 0] S1x768x256.size inb_S1x768x256_S1x768x256_0_0_0).toLoadRect (R.w2.unread x2)) = x2 := (ld_whole R.a2.view _ inb_S1x768x256_S1x768x256_0_0_0).trans (R.w2.read_unread x2)
  have q1 : (View.readAt (Elt F) R.a3.view (Rect.unit (s := S1x8448x256) ![0, 0, 0] S1x768x256.size inb_S1x8448x256_S1x768x256_0_0_0).toLoadRect (R.w3.unread x3)) = rk x3 0 := (ld_k R.a3.view _ inb_S1x8448x256_S1x768x256_0_0_0 rfl (by decide)).trans (congrArg (fun x => rk x 0) (R.w3.read_unread x3))
  have hP2 : P2 = ([], [], [], [], []) := by
    change pb_k0_t2 _ _ _ _ _ _ _ _ _ _ _ _ _ _ _ _ _ _ _ _ _ _ _ _ _ _ _ _ _ _ _ _ _ _ _ _ _ _ _ _ = _
    rw [trips2]; rfl
  have h := pb_read R c i w1 (k0_pay49 (View.readAt (Elt F) R.a2.view (Rect.unit (s := S1x768x256) ![0, 0, 0] S1x768x256.size inb_S1x768x256_S1x768x256_0_0_0).toLoadRect (R.w2.unread x2))) c2 v22 v27 v29 v30 (R.w3.unread x3) (R.w4.unread x4) (R.a7.view.writes (Elt F) R.a7.view.junk I7) f8 (R.a9.view.writes (Elt F) R.a9.view.junk I9) (R.a10.view.writes (Elt F) R.a10.view.junk I10) (R.a11.view.writes (Elt F) R.a11.view.junk I11)
    (by
      rw [st_whole R.a7.view _ inb_S768x768_S768x768_0_0, st_whole R.a9.view _ inb_S768x128_S768x128_0_0, st_whole R.a10.view _ inb_S768x128_S768x128_0_0,
        st_whole R.a11.view _ inb_S768x128_S768x128_0_0, R.w3.read_unread, R.w4.read_unread, q0, q1]
      rfl) (k0_t1_loop i).trips le_rfl
  rw [hP2]
  dsimp only [List.nil_append]
  rw [View.writes_append, View.writes_append, View.writes_append, View.writes_append]
  refine h.trans ?_
  rw [R.w3.read_unread, R.w4.read_unread, q0, trips1]

end Cert.FlashFwdIdeal.Gen
end
-- ==== Proof.FwdBody.lean ====
module

public import proofs.«01_k».proof.Proof.FwdRun

/-! The forward attention's body at one grid point: with an even number of key blocks before the diagonal the loop over
pairs has taken them all, with an odd number one is left for the end. -/

@[expose] public section
set_option maxRecDepth 16384
noncomputable section
namespace Cert.FlashFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem even_of : ∀ i : grid0.Coords, cond0_0 i → 2 * ((i 1).val / 2) = (i 1).val := by decide +kernel
theorem odd_of : ∀ i : grid0.Coords, cond0_1 i → 2 * ((i 1).val / 2) = (i 1).val - 1 ∧ (i 1).val - 1 + 1 = (i 1).val := by decide +kernel
theorem off7_eq : ∀ i : grid0.Coords, k0_off7 i = ![0, 768 * (i 1).val, 0] := by decide +kernel
theorem off8_eq : ∀ i : grid0.Coords, k0_off8 i = ![0, 768 * (i 1).val, 0] := by decide +kernel
theorem off10_eq : ∀ i : grid0.Coords, k0_off10 i = ![0, 768 * (i 1).val, 0] := by decide +kernel

variable {F : FTy → Type} [FloatOps F] [Named F]
local notation "𝕄" => MT nD τ sig Unit (Elt F) ℕ (UR sig nD τ) ℕ

set_option maxHeartbeats 4000000 in
theorem runA (R : Refs) (c : Dev nD) (i : grid0.Coords) (hc0 : cond0_0 i) (hc1 : ¬cond0_1 i)
    (x2 : Vec F S1x768x256 .bf16) (x3 : Vec F S1x8448x256 .bf16) (x4 : Vec F S1x8448x128 .bf16) (E : Set ℕ) (K : PUnit → sProp 𝕄) :
    iprop(owns (c : Thread nD τ) R.a2 fullShare x2 ∗ owns (c : Thread nD τ) R.a3 fullShare x3 ∗ owns (c : Thread nD τ) R.a4 fullShare x4 ∗ (∃ d, owns (c : Thread nD τ) R.a5 fullShare d) ∗ (∃ d, owns (c : Thread nD τ) R.a6 fullShare d) ∗ (∃ d, owns (c : Thread nD τ) R.a7 fullShare d) ∗ (∃ d, owns (c : Thread nD τ) R.a8 fullShare d) ∗ (∃ d, owns (c : Thread nD τ) R.a9 fullShare d) ∗ (∃ d, owns (c : Thread nD τ) R.a10 fullShare d) ∗ (∃ d, owns (c : Thread nD τ) R.a11 fullShare d)
        ∗ (iprop(owns (c : Thread nD τ) R.a2 fullShare x2 ∗ owns (c : Thread nD τ) R.a3 fullShare x3 ∗ owns (c : Thread nD τ) R.a4 fullShare x4 ∗ owns (c : Thread nD τ) R.a5 fullShare (k0_pay3 (fin x2 x3 x4 (i 1).val).2.1 (fin x2 x3 x4 (i 1).val).2.2) ∗ owns (c : Thread nD τ) R.a6 fullShare (k0_pay4 (fin x2 x3 x4 (i 1).val).2.1 (fin x2 x3 x4 (i 1).val).1) ∗ (∃ d, owns (c : Thread nD τ) R.a7 fullShare d) ∗ (∃ d, owns (c : Thread nD τ) R.a8 fullShare d) ∗ (∃ d, owns (c : Thread nD τ) R.a9 fullShare d) ∗ (∃ d, owns (c : Thread nD τ) R.a10 fullShare d) ∗ (∃ d, owns (c : Thread nD τ) R.a11 fullShare d)) -∗ K ⟨⟩))
      ⊢ wp frame (wpE (defs₀ (F := F)) Variants.none c none) E (cc0_flash_fwd i R.a2 R.w2 R.a3 R.w3 R.a4 R.w4 R.a5 R.w5 R.a6 R.w6 R.a7 R.w7 R.a8 R.w8 R.a9 R.w9 R.a10 R.w10 R.a11 R.w11) K := by
    simp only [cc0_flash_fwd_eq_skeleton]; unfold cc0_flash_fwd_skel
    simp only [k0_part8_eq_skeleton, k0_part9_eq_skeleton, k0_part5_eq_skeleton]
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
    obtain rfl := R.w2.eq_unread hf2; obtain rfl := R.w3.eq_unread hf3; obtain rfl := R.w4.eq_unread hf4
    sl_exec (disch := first | sl_exact hc0 | sl_exact hc1)
    sl_step
    have hj : (i 1).val < 11 := (i 1).isLt
    have q0 : (View.readAt (Elt F) R.a2.view (Rect.unit (s := S1x768x256) ![0, 0, 0] S1x768x256.size inb_S1x768x256_S1x768x256_0_0_0).toLoadRect (R.w2.unread x2)) = x2 := (ld_whole R.a2.view _ inb_S1x768x256_S1x768x256_0_0_0).trans (R.w2.read_unread x2)
    have qv : ∀ {off : Fin 3 → ℕ} {b : ℕ} (h : ∀ a, off a + S1x768x128.size a ≤ S1x8448x128.size a), off = ![0, 768 * b, 0] → b < 11 →
        (View.readAt (Elt F) R.a4.view (Rect.unit (s := S1x8448x128) off S1x768x128.size h).toLoadRect (R.w4.unread x4) : Vec F S1x768x128 .bf16) = rv x4 b :=
      fun h e hb => (ld_v R.a4.view _ h e hb).trans (congrArg (fun x => rv x _) (R.w4.read_unread x4))
    have e7 : runA.sl.v86 R c i x2 x3 x4 f8 = sc (k0_pay49 x2) x3 (i 1).val := by
      refine (ld_whole R.a7.view _ inb_S768x768_S768x768_0_0).trans (Eq.trans (congrArg Prod.fst (after R c i x2 x3 x4 _ _ _ _ _ _ _ _ _ _ _ _ _ f8 _ _ _ _ _)) ?_)
      rw [even_of i hc0]
    have e9 : runA.sl.v92 R c i x2 x3 x4 f8 = (run (k0_pay49 x2) x3 x4 (i 1).val).1 := by
      refine (ld_whole R.a9.view _ inb_S768x128_S768x128_0_0).trans (Eq.trans (congrArg (fun p => p.2.1) (after R c i x2 x3 x4 _ _ _ _ _ _ _ _ _ _ _ _ _ f8 _ _ _ _ _)) ?_)
      rw [even_of i hc0]
    have e10 : runA.sl.v103 R c i x2 x3 x4 f8 = (run (k0_pay49 x2) x3 x4 (i 1).val).2.1 := by
      refine (ld_whole R.a10.view _ inb_S768x128_S768x128_0_0).trans (Eq.trans (congrArg (fun p => p.2.2.1) (after R c i x2 x3 x4 _ _ _ _ _ _ _ _ _ _ _ _ _ f8 _ _ _ _ _)) ?_)
      rw [even_of i hc0]
    have e11 : runA.sl.v112 R c i x2 x3 x4 f8 = (run (k0_pay49 x2) x3 x4 (i 1).val).2.2 := by
      refine (ld_whole R.a11.view _ inb_S768x128_S768x128_0_0).trans (Eq.trans (congrArg (fun p => p.2.2.2) (after R c i x2 x3 x4 _ _ _ _ _ _ _ _ _ _ _ _ _ f8 _ _ _ _ _)) ?_)
      rw [even_of i hc0]
    have g9 : runA.sl.v74 R c i x2 x3 x4 f8 = (fin x2 x3 x4 (i 1).val).1 := by
      refine (rc_whole R.a9.view inb_S768x128_S768x128_0_0 _ _).trans ?_
      delta runA.sl.r_1
      rw [e7, e9]
      rfl
    have g10 : runA.sl.v70 R c i x2 x3 x4 f8 = (fin x2 x3 x4 (i 1).val).2.1 := by
      refine (rc_whole R.a10.view inb_S768x128_S768x128_0_0 _ _).trans ?_
      rw [e7, e9, e10]
      rfl
    have g11 : runA.sl.v71 R c i hc0 x2 x3 x4 f8 = (fin x2 x3 x4 (i 1).val).2.2 := by
      refine (rc_whole R.a11.view inb_S768x128_S768x128_0_0 _ _).trans ?_
      rw [e7, e9, e11, qv _ (off7_eq i) hj]
      rfl
    iapply Hk
    isplitl [H2]
    · iexists _; isplitr; · ipureintro; exact R.w2.read_unread _
      iexact H2
    isplitl [H3]
    · iexists _; isplitr; · ipureintro; exact R.w3.read_unread _
      iexact H3
    isplitl [H4]
    · iexists _; isplitr; · ipureintro; exact R.w4.read_unread _
      iexact H4
    isplitl [H5]
    · iexists _; isplitr; swap; · iexact H5
      ipureintro
      exact (st_whole R.a5.view _ _ _ _).trans (congrArg₂ k0_pay3 g10 g11)
    isplitl [H6]
    · iexists _; isplitr; swap; · iexact H6
      ipureintro
      exact (st_whole R.a6.view _ _ _ _).trans (congrArg₂ k0_pay4 g10 g9)
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    iexists _; iexists _; isplitr; swap; · iexact H11
    ipureintro; rfl

set_option maxHeartbeats 4000000 in
theorem runB (R : Refs) (c : Dev nD) (i : grid0.Coords) (hc0 : ¬cond0_0 i) (hc1 : cond0_1 i)
    (x2 : Vec F S1x768x256 .bf16) (x3 : Vec F S1x8448x256 .bf16) (x4 : Vec F S1x8448x128 .bf16) (E : Set ℕ) (K : PUnit → sProp 𝕄) :
    iprop(owns (c : Thread nD τ) R.a2 fullShare x2 ∗ owns (c : Thread nD τ) R.a3 fullShare x3 ∗ owns (c : Thread nD τ) R.a4 fullShare x4 ∗ (∃ d, owns (c : Thread nD τ) R.a5 fullShare d) ∗ (∃ d, owns (c : Thread nD τ) R.a6 fullShare d) ∗ (∃ d, owns (c : Thread nD τ) R.a7 fullShare d) ∗ (∃ d, owns (c : Thread nD τ) R.a8 fullShare d) ∗ (∃ d, owns (c : Thread nD τ) R.a9 fullShare d) ∗ (∃ d, owns (c : Thread nD τ) R.a10 fullShare d) ∗ (∃ d, owns (c : Thread nD τ) R.a11 fullShare d)
        ∗ (iprop(owns (c : Thread nD τ) R.a2 fullShare x2 ∗ owns (c : Thread nD τ) R.a3 fullShare x3 ∗ owns (c : Thread nD τ) R.a4 fullShare x4 ∗ owns (c : Thread nD τ) R.a5 fullShare (k0_pay3 (fin x2 x3 x4 (i 1).val).2.1 (fin x2 x3 x4 (i 1).val).2.2) ∗ owns (c : Thread nD τ) R.a6 fullShare (k0_pay4 (fin x2 x3 x4 (i 1).val).2.1 (fin x2 x3 x4 (i 1).val).1) ∗ (∃ d, owns (c : Thread nD τ) R.a7 fullShare d) ∗ (∃ d, owns (c : Thread nD τ) R.a8 fullShare d) ∗ (∃ d, owns (c : Thread nD τ) R.a9 fullShare d) ∗ (∃ d, owns (c : Thread nD τ) R.a10 fullShare d) ∗ (∃ d, owns (c : Thread nD τ) R.a11 fullShare d)) -∗ K ⟨⟩))
      ⊢ wp frame (wpE (defs₀ (F := F)) Variants.none c none) E (cc0_flash_fwd i R.a2 R.w2 R.a3 R.w3 R.a4 R.w4 R.a5 R.w5 R.a6 R.w6 R.a7 R.w7 R.a8 R.w8 R.a9 R.w9 R.a10 R.w10 R.a11 R.w11) K := by
    simp only [cc0_flash_fwd_eq_skeleton]; unfold cc0_flash_fwd_skel
    simp only [k0_part8_eq_skeleton, k0_part9_eq_skeleton, k0_part6_eq_skeleton, k0_part7_eq_skeleton]
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
    obtain rfl := R.w2.eq_unread hf2; obtain rfl := R.w3.eq_unread hf3; obtain rfl := R.w4.eq_unread hf4
    sl_exec (disch := first | sl_exact hc0 | sl_exact hc1)
    sl_step
    have hj : (i 1).val < 11 := (i 1).isLt
    have q0 : (View.readAt (Elt F) R.a2.view (Rect.unit (s := S1x768x256) ![0, 0, 0] S1x768x256.size inb_S1x768x256_S1x768x256_0_0_0).toLoadRect (R.w2.unread x2)) = x2 := (ld_whole R.a2.view _ inb_S1x768x256_S1x768x256_0_0_0).trans (R.w2.read_unread x2)
    have qv : ∀ {off : Fin 3 → ℕ} {b : ℕ} (h : ∀ a, off a + S1x768x128.size a ≤ S1x8448x128.size a), off = ![0, 768 * b, 0] → b < 11 →
        (View.readAt (Elt F) R.a4.view (Rect.unit (s := S1x8448x128) off S1x768x128.size h).toLoadRect (R.w4.unread x4) : Vec F S1x768x128 .bf16) = rv x4 b :=
      fun h e hb => (ld_v R.a4.view _ h e hb).trans (congrArg (fun x => rv x _) (R.w4.read_unread x4))
    have e7 : runB.sl.v96 R c i x2 x3 x4 f8 = sc (k0_pay49 x2) x3 ((i 1).val - 1) := by
      refine (ld_whole R.a7.view _ inb_S768x768_S768x768_0_0).trans (Eq.trans (congrArg Prod.fst (after R c i x2 x3 x4 _ _ _ _ _ _ _ _ _ _ _ _ _ f8 _ _ _ _ _)) ?_)
      rw [(odd_of i hc1).1]
    have e9 : runB.sl.v97 R c i x2 x3 x4 f8 = (run (k0_pay49 x2) x3 x4 ((i 1).val - 1)).1 := by
      refine (ld_whole R.a9.view _ inb_S768x128_S768x128_0_0).trans (Eq.trans (congrArg (fun p => p.2.1) (after R c i x2 x3 x4 _ _ _ _ _ _ _ _ _ _ _ _ _ f8 _ _ _ _ _)) ?_)
      rw [(odd_of i hc1).1]
    have e10 : runB.sl.v108 R c i x2 x3 x4 f8 = (run (k0_pay49 x2) x3 x4 ((i 1).val - 1)).2.1 := by
      refine (ld_whole R.a10.view _ inb_S768x128_S768x128_0_0).trans (Eq.trans (congrArg (fun p => p.2.2.1) (after R c i x2 x3 x4 _ _ _ _ _ _ _ _ _ _ _ _ _ f8 _ _ _ _ _)) ?_)
      rw [(odd_of i hc1).1]
    have e11 : runB.sl.v117 R c i x2 x3 x4 f8 = (run (k0_pay49 x2) x3 x4 ((i 1).val - 1)).2.2 := by
      refine (ld_whole R.a11.view _ inb_S768x128_S768x128_0_0).trans (Eq.trans (congrArg (fun p => p.2.2.2) (after R c i x2 x3 x4 _ _ _ _ _ _ _ _ _ _ _ _ _ f8 _ _ _ _ _)) ?_)
      rw [(odd_of i hc1).1]
    have eu : run (k0_pay49 x2) x3 x4 (i 1).val = upd (sc (k0_pay49 x2) x3 ((i 1).val - 1)) (rv x4 ((i 1).val - 1)) (run (k0_pay49 x2) x3 x4 ((i 1).val - 1)) :=
      congrArg (run (k0_pay49 x2) x3 x4) (odd_of i hc1).2.symm
    have es : runB.sl.v133 R c i hc1 x2 x3 x4 f8 = sc (k0_pay49 x2) x3 (i 1).val := by
      refine (rc_whole R.a8.view inb_S768x768_S768x768_0_0 _ _).trans ?_
      refine congrArg₂ k0_pay5 (congrArg k0_pay49 q0) ?_
      exact (ld_k R.a3.view _ _ (off8_eq i) hj).trans (congrArg (fun x => rk x _) (R.w3.read_unread x3))
    have em : runB.sl.v139 R c i x2 x3 x4 f8 = (run (k0_pay49 x2) x3 x4 (i 1).val).1 := by
      rw [eu]
      refine (rc_whole R.a9.view inb_S768x128_S768x128_0_0 _ _).trans ?_
      delta runB.sl.r_1
      rw [e7, e9]
      rfl
    have el : runB.sl.v150 R c i x2 x3 x4 f8 = (run (k0_pay49 x2) x3 x4 (i 1).val).2.1 := by
      rw [eu]
      refine (rc_whole R.a10.view inb_S768x128_S768x128_0_0 _ _).trans ?_
      rw [e7, e9, e10]
      rfl
    have ea : runB.sl.v159 R c i hc1 x2 x3 x4 f8 = (run (k0_pay49 x2) x3 x4 (i 1).val).2.2 := by
      rw [eu]
      refine (rc_whole R.a11.view inb_S768x128_S768x128_0_0 _ _).trans ?_
      delta runB.sl.r_2 runB.sl.r_3
      rw [e7, e9, e11, qv _ (off9_eq i hc1) (by omega)]
      rfl
    have g9 : runB.sl.v74 R c i hc1 x2 x3 x4 f8 = (fin x2 x3 x4 (i 1).val).1 := by
      refine (rc_whole R.a9.view inb_S768x128_S768x128_0_0 _ _).trans ?_
      delta runB.sl.r_4
      rw [es, em]
      rfl
    have g10 : runB.sl.v70 R c i hc1 x2 x3 x4 f8 = (fin x2 x3 x4 (i 1).val).2.1 := by
      refine (rc_whole R.a10.view inb_S768x128_S768x128_0_0 _ _).trans ?_
      rw [es, em, el]
      rfl
    have g11 : runB.sl.v71 R c i hc1 x2 x3 x4 f8 = (fin x2 x3 x4 (i 1).val).2.2 := by
      refine (rc_whole R.a11.view inb_S768x128_S768x128_0_0 _ _).trans ?_
      delta runB.sl.r_5 runB.sl.r_6
      rw [es, em, ea]
      exact congrArg (k0_pay1 _ _ _) (qv _ (off10_eq i) hj)
    iapply Hk
    isplitl [H2]
    · iexists _; isplitr; · ipureintro; exact R.w2.read_unread _
      iexact H2
    isplitl [H3]
    · iexists _; isplitr; · ipureintro; exact R.w3.read_unread _
      iexact H3
    isplitl [H4]
    · iexists _; isplitr; · ipureintro; exact R.w4.read_unread _
      iexact H4
    isplitl [H5]
    · iexists _; isplitr; swap; · iexact H5
      ipureintro
      exact (st_whole R.a5.view _ _ _ _).trans (congrArg₂ k0_pay3 g10 g11)
    isplitl [H6]
    · iexists _; isplitr; swap; · iexact H6
      ipureintro
      exact (st_whole R.a6.view _ _ _ _).trans (congrArg₂ k0_pay4 g10 g9)
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    iexists _; iexists _; isplitr; swap; · iexact H11
    ipureintro; rfl
end Cert.FlashFwdIdeal.Gen
end
-- ==== Proof.FwdFrame.lean ====
module

public import proofs.«01_k».proof.Proof.FwdBody

/-! The forward attention's launch: what every grid point leaves, the run of the whole program and its frame. -/

@[expose] public section
set_option maxRecDepth 16384
noncomputable section
namespace Cert.FlashFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

/-- The staging memrefs of point `t`. -/
abbrev refs (t : Fin cfg0.N) : Refs :=
  ⟨ms0_0 t, hs0_0 t, ms0_1 t, hs0_1 t, ms0_2 t, hs0_2 t, ms0_3 t, hs0_3 t, ms0_4 t, hs0_4 t,
   scM0_0, Memref.isWhole_whole _, scM0_1, Memref.isWhole_whole _, scM0_2, Memref.isWhole_whole _, scM0_3, Memref.isWhole_whole _, scM0_4, Memref.isWhole_whole _⟩

/-- The state at the end of point `t`. -/
def finAt (c : Dev nD) (t : Fin cfg0.N) : St F :=
  fin (iblk m c 0 t) (iblk m c 1 t) (iblk m c 2 t) (grid0.coords t 1).val

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (finAt m c t).2.1 (finAt m c t).2.2
    | ⟨4, _⟩ => k0_pay4 (finAt m c t).2.1 (finAt m c t).1
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay3 (finAt m c t).2.1 (finAt m c t).2.2 := by dsimp only [dats]
theorem after0_4 (c : Dev nD) (t : Fin cfg0.N) : (dats m 0 c).after 4 t = k0_pay4 (finAt m c t).2.1 (finAt m c t).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (refs t).a2 fullShare ((dats m 0 c).before 0 t d))
    ∗ (∃ d, owns (c : Thread nD τ) (refs t).a3 fullShare ((dats m 0 c).before 1 t d))
    ∗ (∃ d, owns (c : Thread nD τ) (refs t).a4 fullShare ((dats m 0 c).before 2 t d))
    ∗ (∃ d, owns (c : Thread nD τ) (refs t).a5 fullShare ((dats m 0 c).before 3 t d))
    ∗ (∃ d, owns (c : Thread nD τ) (refs t).a6 fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (refs t).a2 fullShare ((dats m 0 c).after 0 t)
    ∗ owns (c : Thread nD τ) (refs t).a3 fullShare ((dats m 0 c).after 1 t)
    ∗ owns (c : Thread nD τ) (refs t).a4 fullShare ((dats m 0 c).after 2 t)
    ∗ owns (c : Thread nD τ) (refs t).a5 fullShare ((dats m 0 c).after 3 t)
    ∗ owns (c : Thread nD τ) (refs t).a6 fullShare ((dats m 0 c).after 4 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (Pipeline.ΦA spec0 c : sProp 𝕄) from rfl, show (dats m 0 c).Φ t.castSucc = (Pipeline.ΦA spec0 c : sProp 𝕄) from rfl, PhiA0_eq,
    show (dats m 0 c).owesAt () t.succ = (dats m 0 c).owesAt () t.castSucc from rfl,
    after0_0, after0_1, after0_2, after0_3, after0_4]
  by_cases h0 : cond0_1 (grid0.coords t)
  · iintro ⟨⟨⟨HS0, HS1, HS2, HS3, HS4⟩, Hg⟩, Ho, ⟨%d0, H0⟩, ⟨%d1, H1⟩, ⟨%d2, H2⟩, ⟨%d3, H3⟩, ⟨%d4, H4⟩⟩
    iapply (runB (refs t) c (grid0.coords t) (fun h => (hcond0_0 t).mp h ((hcond0_1 t).mp h0)) h0 (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    isplitl [HS2]; · iexact HS2
    isplitl [HS3]; · iexact HS3
    isplitl [HS4]; · iexact HS4
    iintro ⟨H0, H1, H2, H3, H4, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    iexact H4
  · iintro ⟨⟨⟨HS0, HS1, HS2, HS3, HS4⟩, Hg⟩, Ho, ⟨%d0, H0⟩, ⟨%d1, H1⟩, ⟨%d2, H2⟩, ⟨%d3, H3⟩, ⟨%d4, H4⟩⟩
    iapply (runA (refs t) c (grid0.coords t) ((hcond0_0 t).mpr fun h => h0 ((hcond0_1 t).mpr h)) h0 (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    isplitl [HS2]; · iexact HS2
    isplitl [HS3]; · iexact HS3
    isplitl [HS4]; · iexact HS4
    iintro ⟨H0, H1, H2, H3, H4, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.FlashFwdIdeal.Gen
end
-- ==== Proof.FwdBits.lean ====
module

public import proofs.«01_k».proof.Defs
public import proofs.«01_k».proof.Proof.Gen.FlashFwd
public import proofs.«01_k».proof.Proof.FwdFrame

/-! The forward attention's call at the machine's floats: its program is the idealized one with each named constant
read as the float that is written, so the run that stands over any float gives its frame. -/

@[expose] public section
set_option maxRecDepth 16384
noncomputable section
namespace Cert.FwdBits

open Idealize.ShloMosaic Idealize.SL.Sem

/-- At the machine's floats a named constant is the float that is written. -/
abbrev namedBits : Named Bits := ⟨fun _ _ {φ} bits => FloatOps.ofBits φ bits⟩
attribute [local instance] namedBits

/-- The frame of the idealized program's text at the machine's floats. -/
def Quiet : Prop :=
  ∀ (m : (ℓ : Loc Cert.FlashFwdIdeal.nD Cert.FlashFwdIdeal.τ Cert.FlashFwdIdeal.sig) → Buf (Elt Bits) ℓ) (g : Dev Cert.FlashFwdIdeal.nD → PrngReg), Cert.Pre_FlashFwd m →
    θ_run (Cert.FlashFwdIdeal.defs (F := Bits)) (onTc (τ := Cert.FlashFwdIdeal.τ) (Cert.FlashFwdIdeal.main (F := Bits))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2)
      ∧ r.2.mem ((c.tc : Thread Cert.FlashFwdIdeal.nD Cert.FlashFwdIdeal.τ).loc Cert.FlashFwdIdeal.main_arg3) = m ((c.tc : Thread Cert.FlashFwdIdeal.nD Cert.FlashFwdIdeal.τ).loc Cert.FlashFwdIdeal.main_arg3)
      ∧ r.2.mem ((c.tc : Thread Cert.FlashFwdIdeal.nD Cert.FlashFwdIdeal.τ).loc Cert.FlashFwdIdeal.main_arg4) = m ((c.tc : Thread Cert.FlashFwdIdeal.nD Cert.FlashFwdIdeal.τ).loc Cert.FlashFwdIdeal.main_arg4))
      ∧ r.2.sem = fun _ => 0)

theorem quiet : Quiet := fun m g _ => Cert.FlashFwdIdeal.Gen.frame (F := Bits) m g

theorem quiet_eq : Quiet = Cert.quiescent_FlashFwd := by sl_kernel_rfl

theorem frame : Cert.quiescent_FlashFwd := quiet_eq.mp quiet

end Cert.FwdBits
end
-- ==== Proof.FlashRun.lean ====
module

public import proofs.«01_k».proof.Proof.Gen.FlashBwdIdeal.Frame
public import proofs.«01_k».proof.Proof.Gen.FlashBwdIdeal.Loops
public import Idealize.ShloMosaic.Lib.Pipeline.ValueKit
public import Idealize.ShloMosaic.Lib.WritesUnit

/-! The attention gradient's kernel body as a function: what one grid point leaves in its output blocks, stated over
any float, with the loop over the later query blocks as a recursion on the state (dq rows, dk tile, dv tile). -/

@[expose] public section
set_option maxRecDepth 16384
noncomputable section
namespace Cert.FlashBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-! ## The state and its steps -/

/-- The 768 rows of block `b`. -/
def rq {e : EltTy} (x : Vec F S1x8448x256 e) (b : ℕ) : Vec F S1x768x256 e :=
  fun y => x (ix3 (0 : Fin 1) (⟨(768 * b + (y 1).val) % 8448, Nat.mod_lt _ (by decide)⟩ : Fin 8448) (y 2 : Fin 256))
def rd {e : EltTy} (x : Vec F S1x8448x128 e) (b : ℕ) : Vec F S1x768x128 e :=
  fun y => x (ix3 (0 : Fin 1) (⟨(768 * b + (y 1).val) % 8448, Nat.mod_lt _ (by decide)⟩ : Fin 8448) (y 2 : Fin 128))
def rl {e : EltTy} (x : Vec F S1x11x1x768 e) (b : ℕ) : Vec F S1x1x1x768 e :=
  fun y => x (ix4 (0 : Fin 1) (⟨b % 11, Nat.mod_lt _ (by decide)⟩ : Fin 11) (0 : Fin 1) (y 3 : Fin 768))
/-- `x` with the 768 rows of block `b` replaced by `w`. -/
def putq {e : EltTy} (w : Vec F S1x768x256 e) (b : ℕ) (x : Vec F S1x8448x256 e) : Vec F S1x8448x256 e :=
  fun y => if h : 768 * b ≤ (y 1).val ∧ (y 1).val < 768 * b + 768 then
    w (ix3 (0 : Fin 1) (⟨(y 1).val - 768 * b, by omega⟩ : Fin 768) (y 2 : Fin 256)) else x y

abbrev St (F : FTy → Type) := Vec F S1x8448x256 .f32 × Vec F S768x256 .f32 × Vec F S768x128 .f32

/-- The step at the diagonal block. -/
def diag (x2 : Vec F S1x8448x256 .bf16) (x3 : Vec F S1x8448x128 .bf16) (x4 x5 : Vec F S1x11x1x768 .f32)
    (x6 : Vec F S1x768x256 .bf16) (x7 : Vec F S1x768x128 .bf16) (b : ℕ) (s : St F) : St F :=
  (putq (k0_pay31 (k0_pay20 x6) (k0_pay21 x7) (k0_pay25 (rd x3 b)) (k0_pay26 x6 (rq x2 b)) (rl x4 b) (rl x5 b) (rq s.1 b)) b s.1,
   k0_pay30 (k0_pay21 x7) (k0_pay24 (rq x2 b)) (k0_pay25 (rd x3 b)) (k0_pay26 x6 (rq x2 b)) (rl x4 b) (rl x5 b) s.2.1,
   k0_pay28 (k0_pay25 (rd x3 b)) (k0_pay26 x6 (rq x2 b)) (rl x4 b) s.2.2)

/-- The step at a block of later rows. -/
def step (x2 : Vec F S1x8448x256 .bf16) (x3 : Vec F S1x8448x128 .bf16) (x4 x5 : Vec F S1x11x1x768 .f32)
    (v4 : FVec F S768x256 .bf16) (v6 : FVec F S768x128 .bf16) (b : ℕ) (s : St F) : St F :=
  (putq (k0_pay2 v4 (k0_pay11 v4 v6 (rq x2 b) (rd x3 b) (rl x4 b) (rl x5 b)) (rq s.1 b)) b s.1,
   k0_pay1 (k0_pay12 v4 v6 (rq x2 b) (rd x3 b) (rl x4 b) (rl x5 b) s.2.1),
   k0_pay10 v4 (rq x2 b) (rd x3 b) (rl x4 b) s.2.2)

/-- The state after `k` steps of the loop entered at `s` by the tile of column block `j`. -/
def steps (x2 : Vec F S1x8448x256 .bf16) (x3 : Vec F S1x8448x128 .bf16) (x4 x5 : Vec F S1x11x1x768 .f32)
    (v4 : FVec F S768x256 .bf16) (v6 : FVec F S768x128 .bf16) (j : ℕ) (s : St F) : ℕ → St F
  | 0 => s
  | k + 1 => step x2 x3 x4 x5 v4 v6 (j + 1 + k) (steps x2 x3 x4 x5 v4 v6 j s k)

/-- What the body leaves, from the dq block `x8` it finds (or zero at the first tile). -/
def fin (x2 : Vec F S1x8448x256 .bf16) (x3 : Vec F S1x8448x128 .bf16) (x4 x5 : Vec F S1x11x1x768 .f32)
    (x6 : Vec F S1x768x256 .bf16) (x7 : Vec F S1x768x128 .bf16) (j : ℕ) (x8 : Vec F S1x8448x256 .f32) : St F :=
  steps x2 x3 x4 x5 (k0_pay20 x6) (k0_pay21 x7) j (diag x2 x3 x4 x5 x6 x7 j (x8, k0_pay22, k0_pay23)) (10 - j)

/-! ## Offsets and trip counts -/

theorem trips1 (i : grid0.Coords) : (k0_t1_loop i).trips = 10 - (i 1).val :=
  (by decide +kernel : ∀ j : Fin 11, Scf.trips (Scalar.addi (BitVec.ofNat 32 j.val) 1#32) (Scalar.addi (Scalar.addi (BitVec.ofNat 32 j.val) 1#32) (Scalar.muli (Scalar.divsi (Scalar.subi 11#32 (Scalar.addi (BitVec.ofNat 32 j.val) 1#32)) 1#32) 1#32)) 1#32 = 10 - j.val) (i 1)

theorem trips2 (i : grid0.Coords) : (k0_t2_loop i).trips = 0 :=
  (by decide +kernel : ∀ j : Fin 11, Scf.trips (Scalar.addi (Scalar.addi (BitVec.ofNat 32 j.val) 1#32) (Scalar.muli (Scalar.divsi (Scalar.subi 11#32 (Scalar.addi (BitVec.ofNat 32 j.val) 1#32)) 1#32) 1#32)) (Scalar.addi (Scalar.addi (BitVec.ofNat 32 j.val) 1#32) (Scalar.subi 11#32 (Scalar.addi (BitVec.ofNat 32 j.val) 1#32))) 1#32 = 0) (i 1)

theorem off1_eq (i : grid0.Coords) : k0_off1 i = ![0, 768 * (i 1).val, 0] :=
  congrArg (fun n : ℕ => (![0, n, 0] : Fin 3 → ℕ)) ((by decide +kernel : ∀ j : Fin 11, (Scalar.indexCast (Scalar.muli (BitVec.ofNat 32 j.val) 768#32)).toNat = 768 * j.val) (i 1))
theorem off2_eq (i : grid0.Coords) : k0_off2 i = ![0, 768 * (i 1).val, 0] := off1_eq i
theorem off3_eq (i : grid0.Coords) : k0_off3 i = ![0, (i 1).val, 0, 0] :=
  congrArg (fun n : ℕ => (![0, n, 0, 0] : Fin 4 → ℕ)) ((by decide +kernel : ∀ j : Fin 11, (Scalar.indexCast (BitVec.ofNat 32 j.val)).toNat = j.val) (i 1))
theorem iv_eq (j : Fin 11) (k : ℕ) (hk : k < 11) : (Scf.iv (Scalar.addi (BitVec.ofNat 32 j.val) 1#32) 1#32 k) = BitVec.ofNat 32 (j.val + 1 + k) :=
  (by decide +kernel : ∀ (j : Fin 11) (k : Fin 11), (Scf.iv (Scalar.addi (BitVec.ofNat 32 j.val) 1#32) 1#32 k.val) = BitVec.ofNat 32 (j.val + 1 + k.val)) j ⟨k, hk⟩
theorem off4_eq (i : grid0.Coords) (k : Fin (k0_t1_loop i).trips) : k0_off4 i k = ![0, 768 * ((i 1).val + 1 + k.val), 0] := by
  have hj : (i 1).val < 11 := (i 1).isLt
  have hk : k.val < 10 - (i 1).val := lt_of_lt_of_eq k.isLt (trips1 i)
  have e := iv_eq (i 1) k.val (by omega)
  have e2 : (Scalar.indexCast (Scalar.muli (BitVec.ofNat 32 ((i 1).val + 1 + k.val)) 768#32)).toNat = 768 * ((i 1).val + 1 + k.val) :=
    (by decide +kernel : ∀ n : Fin 11, (Scalar.indexCast (Scalar.muli (BitVec.ofNat 32 n.val) 768#32)).toNat = 768 * n.val) ⟨(i 1).val + 1 + k.val, by omega⟩
  unfold k0_off4
  dsimp only
  rw [e, e2]
theorem off5_eq (i : grid0.Coords) (k : Fin (k0_t1_loop i).trips) : k0_off5 i k = ![0, 768 * ((i 1).val + 1 + k.val), 0] := off4_eq i k
theorem off6_eq (i : grid0.Coords) (k : Fin (k0_t1_loop i).trips) : k0_off6 i k = ![0, (i 1).val + 1 + k.val, 0, 0] := by
  have hj : (i 1).val < 11 := (i 1).isLt
  have hk : k.val < 10 - (i 1).val := lt_of_lt_of_eq k.isLt (trips1 i)
  have e := iv_eq (i 1) k.val (by omega)
  have e2 : (Scalar.indexCast (BitVec.ofNat 32 ((i 1).val + 1 + k.val))).toNat = ((i 1).val + 1 + k.val) :=
    (by decide +kernel : ∀ n : Fin 11, (Scalar.indexCast (BitVec.ofNat 32 n.val)).toNat = n.val) ⟨(i 1).val + 1 + k.val, by omega⟩
  unfold k0_off6
  dsimp only
  rw [e, e2]

/-! ## Loads and stores of a view as rows -/

section Views
variable {κ : Kind} {sp : Space}

theorem ld_q {e : EltTy} (v : View sig κ sp S1x8448x256 e) (f : v.ty.Contents (Elt F)) {off : Fin 3 → ℕ} {b : ℕ} (h : ∀ a, off a + S1x768x256.size a ≤ S1x8448x256.size a) (e0 : off = ![0, 768 * b, 0]) (hb : b < 11) :
    (View.readAt (Elt F) v (Rect.unit (s := S1x8448x256) off S1x768x256.size h).toLoadRect f : Vec F S1x768x256 e) = rq (v.read (Elt F) f) b := by
  subst e0
  funext y
  refine congrArg (v.read (Elt F) f) (funext fun a => Fin.ext ?_)
  have h1 : (y 1).val < 768 := (y 1).isLt
  have h0 : (y 0).val < 1 := (y 0).isLt
  match a with
  | 0 => show 0 + 1 * (y 0).val = 0; omega
  | 1 => show 768 * b + 1 * (y 1).val = (768 * b + (y 1).val) % 8448; omega
  | 2 => show 0 + 1 * (y 2).val = (y 2).val; omega
theorem ld_d {e : EltTy} (v : View sig κ sp S1x8448x128 e) (f : v.ty.Contents (Elt F)) {off : Fin 3 → ℕ} {b : ℕ} (h : ∀ a, off a + S1x768x128.size a ≤ S1x8448x128.size a) (e0 : off = ![0, 768 * b, 0]) (hb : b < 11) :
    (View.readAt (Elt F) v (Rect.unit (s := S1x8448x128) off S1x768x128.size h).toLoadRect f : Vec F S1x768x128 e) = rd (v.read (Elt F) f) b := by
  subst e0
  funext y
  refine congrArg (v.read (Elt F) f) (funext fun a => Fin.ext ?_)
  have h1 : (y 1).val < 768 := (y 1).isLt
  have h0 : (y 0).val < 1 := (y 0).isLt
  match a with
  | 0 => show 0 + 1 * (y 0).val = 0; omega
  | 1 => show 768 * b + 1 * (y 1).val = (768 * b + (y 1).val) % 8448; omega
  | 2 => show 0 + 1 * (y 2).val = (y 2).val; omega
theorem ld_l {e : EltTy} (v : View sig κ sp S1x11x1x768 e) (f : v.ty.Contents (Elt F)) {off : Fin 4 → ℕ} {b : ℕ} (h : ∀ a, off a + S1x1x1x768.size a ≤ S1x11x1x768.size a) (e0 : off = ![0, b, 0, 0]) (hb : b < 11) :
    (View.readAt (Elt F) v (Rect.unit (s := S1x11x1x768) off S1x1x1x768.size h).toLoadRect f : Vec F S1x1x1x768 e) = rl (v.read (Elt F) f) b := by
  subst e0
  funext y
  refine congrArg (v.read (Elt F) f) (funext fun a => Fin.ext ?_)
  have h1 : (y 1).val < 1 := (y 1).isLt
  have h0 : (y 0).val < 1 := (y 0).isLt
  have h2 : (y 2).val < 1 := (y 2).isLt
  match a with
  | 0 => show 0 + 1 * (y 0).val = 0; omega
  | 1 => show b + 1 * (y 1).val = b % 11; omega
  | 2 => show 0 + 1 * (y 2).val = 0; omega
  | 3 => show 0 + 1 * (y 3).val = (y 3).val; omega

theorem st_q {e : EltTy} (v : View sig κ sp S1x8448x256 e) (f : v.ty.Contents (Elt F)) {off : Fin 3 → ℕ} {b : ℕ} (h : ∀ a, off a + S1x768x256.size a ≤ S1x8448x256.size a) (w : Vec F S1x768x256 e) (L : List (View.Piece (Elt F) S1x8448x256 e)) (e0 : off = ![0, 768 * b, 0]) :
    v.read (Elt F) (v.writes (Elt F) f ((⟨Rect.unit (s := S1x8448x256) off S1x768x256.size h, w⟩ : View.Piece (Elt F) S1x8448x256 e) :: L))
      = putq w b (v.read (Elt F) (v.writes (Elt F) f L)) := by
  funext y
  have h0 : (y 0).val < 1 := (y 0).isLt
  have h2 : (y 2).val < 256 := (y 2).isLt
  unfold putq
  by_cases hy : 768 * b ≤ (y 1).val ∧ (y 1).val < 768 * b + 768
  · rw [dif_pos hy]
    refine View.read_writes_cons_unit_of_mem v f h w L y _ e0 fun a => ?_
    match a with
    | 0 => show (y 0).val = 0 + 0; omega
    | 1 => show (y 1).val = 768 * b + ((y 1).val - 768 * b); omega
    | 2 => show (y 2).val = 0 + (y 2).val; omega
  · rw [dif_neg hy]
    refine View.read_writes_cons_unit_of_not_mem v f h w L y e0 1 ?_
    show (y 1).val < 768 * b ∨ 768 * b + 768 ≤ (y 1).val
    omega

/-- A store of the whole of a view is what is read back. -/
theorem st_whole {s : Shape} {e : EltTy} (v : View sig κ sp s e) (f : v.ty.Contents (Elt F)) {off : Fin s.rank → ℕ} (h : ∀ a, off a + s.size a ≤ s.size a) (w : Vec F s e) (L : List (View.Piece (Elt F) s e)) :
    v.read (Elt F) (v.writes (Elt F) f ((⟨Rect.unit (s := s) off s.size h, w⟩ : View.Piece (Elt F) s e) :: L)) = w :=
  funext fun y => View.read_writes_cons_unit_of_mem v f h w L y y (off' := fun _ => 0) (funext fun a => by have := h a; omega) fun a => (Nat.zero_add _).symm

theorem ld_whole {s : Shape} {e : EltTy} (v : View sig κ sp s e) (f : v.ty.Contents (Elt F)) {off : Fin s.rank → ℕ} (h : ∀ a, off a + s.size a ≤ s.size a) :
    (View.readAt (Elt F) v (Rect.unit (s := s) off s.size h).toLoadRect f : Vec F s e) = v.read (Elt F) f := by
  funext y
  refine congrArg (v.read (Elt F) f) (funext fun a => Fin.ext ?_)
  show off a + 1 * (y a).val = (y a).val
  have := h a
  omega
end Views

/-- The memrefs that the body is called with. -/
structure Refs where
  a2 : Memref sig .tc .vmem S1x8448x256 .bf16
  w2 : a2.IsWhole
  a3 : Memref sig .tc .vmem S1x8448x128 .bf16
  w3 : a3.IsWhole
  a4 : Memref sig .tc .vmem S1x11x1x768 .f32
  w4 : a4.IsWhole
  a5 : Memref sig .tc .vmem S1x11x1x768 .f32
  w5 : a5.IsWhole
  a6 : Memref sig .tc .vmem S1x768x256 .bf16
  w6 : a6.IsWhole
  a7 : Memref sig .tc .vmem S1x768x128 .bf16
  w7 : a7.IsWhole
  a8 : Memref sig .tc .vmem S1x8448x256 .f32
  w8 : a8.IsWhole
  a9 : Memref sig .tc .vmem S1x768x256 .f32
  w9 : a9.IsWhole
  a10 : Memref sig .tc .vmem S1x768x128 .f32
  w10 : a10.IsWhole
  a11 : Memref sig .tc .vmem S768x256 .f32
  w11 : a11.IsWhole
  a12 : Memref sig .tc .vmem S768x128 .f32
  w12 : a12.IsWhole

/-! ## The loop over the later row blocks -/

section Loop
variable (R : Refs) (c : Dev nD) (i : grid0.Coords) (v4 : FVec F S768x256 .bf16) (v6 : FVec F S768x128 .bf16) (v65 : BitVec 32)
    (X2 : BufTy.Contents (Elt F) R.a2.view.ty) (X3 : BufTy.Contents (Elt F) R.a3.view.ty)
    (X4 : BufTy.Contents (Elt F) R.a4.view.ty) (X5 : BufTy.Contents (Elt F) R.a5.view.ty)

theorem trip_pieces (k : Fin (k0_t1_loop i).trips) (f8 : BufTy.Contents (Elt F) R.a8.view.ty)
    (f11 : BufTy.Contents (Elt F) R.a11.view.ty) (f12 : BufTy.Contents (Elt F) R.a12.view.ty) :
    tripL_k0_t1 (F := F) Variants.none c none i R.a2 R.w2 R.a3 R.w3 R.a4 R.w4 R.a5 R.w5 R.a6 R.w6 R.a7 R.w7 R.a8 R.w8 R.a9 R.w9 R.a10 R.w10 R.a11 R.w11 R.a12 R.w12 v4 v6 v65 X2 X3 X4 X5 k f8 f11 f12
      = ([⟨Rect.unit (s := S1x8448x256) (k0_off4 i k) S1x768x256.size (k0_off4_inb i k), k0_pay2 v4 (k0_pay11 v4 v6
            (View.readAt (Elt F) R.a2.view (Rect.unit (s := S1x8448x256) (k0_off4 i k) S1x768x256.size (k0_off4_inb i k)).toLoadRect X2)
            (View.readAt (Elt F) R.a3.view (Rect.unit (s := S1x8448x128) (k0_off5 i k) S1x768x128.size (k0_off5_inb i k)).toLoadRect X3)
            (View.readAt (Elt F) R.a4.view (Rect.unit (s := S1x11x1x768) (k0_off6 i k) S1x1x1x768.size (k0_off6_inb i k)).toLoadRect X4)
            (View.readAt (Elt F) R.a5.view (Rect.unit (s := S1x11x1x768) (k0_off6 i k) S1x1x1x768.size (k0_off6_inb i k)).toLoadRect X5))
            (View.readAt (Elt F) R.a8.view (Rect.unit (s := S1x8448x256) (k0_off4 i k) S1x768x256.size (k0_off4_inb i k)).toLoadRect f8)⟩],
         [⟨Rect.unit (s := S768x256) ![0, 0] S768x256.size inb_S768x256_S768x256_0_0, k0_pay1 (k0_pay12 v4 v6
            (View.readAt (Elt F) R.a2.view (Rect.unit (s := S1x8448x256) (k0_off4 i k) S1x768x256.size (k0_off4_inb i k)).toLoadRect X2)
            (View.readAt (Elt F) R.a3.view (Rect.unit (s := S1x8448x128) (k0_off5 i k) S1x768x128.size (k0_off5_inb i k)).toLoadRect X3)
            (View.readAt (Elt F) R.a4.view (Rect.unit (s := S1x11x1x768) (k0_off6 i k) S1x1x1x768.size (k0_off6_inb i k)).toLoadRect X4)
            (View.readAt (Elt F) R.a5.view (Rect.unit (s := S1x11x1x768) (k0_off6 i k) S1x1x1x768.size (k0_off6_inb i k)).toLoadRect X5)
            (View.readAt (Elt F) R.a11.view (Rect.unit (s := S768x256) ![0, 0] S768x256.size inb_S768x256_S768x256_0_0).toLoadRect f11))⟩],
         [⟨Rect.unit (s := S768x128) ![0, 0] S768x128.size inb_S768x128_S768x128_0_0, k0_pay10 v4
            (View.readAt (Elt F) R.a2.view (Rect.unit (s := S1x8448x256) (k0_off4 i k) S1x768x256.size (k0_off4_inb i k)).toLoadRect X2)
            (View.readAt (Elt F) R.a3.view (Rect.unit (s := S1x8448x128) (k0_off5 i k) S1x768x128.size (k0_off5_inb i k)).toLoadRect X3)
            (View.readAt (Elt F) R.a4.view (Rect.unit (s := S1x11x1x768) (k0_off6 i k) S1x1x1x768.size (k0_off6_inb i k)).toLoadRect X4)
            (View.readAt (Elt F) R.a12.view (Rect.unit (s := S768x128) ![0, 0] S768x128.size inb_S768x128_S768x128_0_0).toLoadRect f12)⟩]) := by
  unfold tripL_k0_t1; unfold trip_k0_t1; rfl

theorem pb2_nil (G8 : BufTy.Contents (Elt F) R.a8.view.ty) (G11 : BufTy.Contents (Elt F) R.a11.view.ty)
    (G12 : BufTy.Contents (Elt F) R.a12.view.ty) :
    pb_k0_t2 (F := F) Variants.none c none i R.a2 R.w2 R.a3 R.w3 R.a4 R.w4 R.a5 R.w5 R.a6 R.w6 R.a7 R.w7 R.a8 R.w8 R.a9 R.w9 R.a10 R.w10 R.a11 R.w11 R.a12 R.w12 v4 v6 v65 X2 X3 X4 X5 G8 G11 G12 (k0_t2_loop i).trips = ([], [], []) := by
  rw [trips2]; rfl

theorem pb1_read (G8 : BufTy.Contents (Elt F) R.a8.view.ty) (G11 : BufTy.Contents (Elt F) R.a11.view.ty)
    (G12 : BufTy.Contents (Elt F) R.a12.view.ty) (k : ℕ) (hk : k ≤ (k0_t1_loop i).trips) :
    (R.a8.view.read (Elt F) (R.a8.view.writes (Elt F) G8 (pb_k0_t1 (F := F) Variants.none c none i R.a2 R.w2 R.a3 R.w3 R.a4 R.w4 R.a5 R.w5 R.a6 R.w6 R.a7 R.w7 R.a8 R.w8 R.a9 R.w9 R.a10 R.w10 R.a11 R.w11 R.a12 R.w12 v4 v6 v65 X2 X3 X4 X5 G8 G11 G12 k).1),
     R.a11.view.read (Elt F) (R.a11.view.writes (Elt F) G11 (pb_k0_t1 (F := F) Variants.none c none i R.a2 R.w2 R.a3 R.w3 R.a4 R.w4 R.a5 R.w5 R.a6 R.w6 R.a7 R.w7 R.a8 R.w8 R.a9 R.w9 R.a10 R.w10 R.a11 R.w11 R.a12 R.w12 v4 v6 v65 X2 X3 X4 X5 G8 G11 G12 k).2.1),
     R.a12.view.read (Elt F) (R.a12.view.writes (Elt F) G12 (pb_k0_t1 (F := F) Variants.none c none i R.a2 R.w2 R.a3 R.w3 R.a4 R.w4 R.a5 R.w5 R.a6 R.w6 R.a7 R.w7 R.a8 R.w8 R.a9 R.w9 R.a10 R.w10 R.a11 R.w11 R.a12 R.w12 v4 v6 v65 X2 X3 X4 X5 G8 G11 G12 k).2.2))
      = steps (R.a2.view.read (Elt F) X2) (R.a3.view.read (Elt F) X3) (R.a4.view.read (Elt F) X4) (R.a5.view.read (Elt F) X5) v4 v6 (i 1).val
          (R.a8.view.read (Elt F) G8, R.a11.view.read (Elt F) G11, R.a12.view.read (Elt F) G12) k := by
  induction k with
  | zero => rfl
  | succ k ih =>
    have ih := ih (by omega)
    have hb : (i 1).val + 1 + k < 11 := by
      have := trips1 i
      omega
    rw [pb_k0_t1_succ (F := F) Variants.none c none i R.a2 R.w2 R.a3 R.w3 R.a4 R.w4 R.a5 R.w5 R.a6 R.w6 R.a7 R.w7 R.a8 R.w8 R.a9 R.w9 R.a10 R.w10 R.a11 R.w11 R.a12 R.w12 v4 v6 v65 X2 X3 X4 X5 G8 G11 G12 (⟨k, hk⟩ : Fin (k0_t1_loop i).trips), trip_pieces]
    show _ = step _ _ _ _ _ _ _ (steps _ _ _ _ _ _ _ _ k)
    rw [← ih]
    dsimp only [List.cons_append, List.nil_append]
    rw [ld_q R.a2.view X2 (k0_off4_inb i ⟨k, hk⟩) (off4_eq i ⟨k, hk⟩) hb, ld_q R.a8.view _ (k0_off4_inb i ⟨k, hk⟩) (off4_eq i ⟨k, hk⟩) hb,
      ld_d R.a3.view X3 (k0_off5_inb i ⟨k, hk⟩) (off5_eq i ⟨k, hk⟩) hb, ld_l R.a4.view X4 (k0_off6_inb i ⟨k, hk⟩) (off6_eq i ⟨k, hk⟩) hb,
      ld_l R.a5.view X5 (k0_off6_inb i ⟨k, hk⟩) (off6_eq i ⟨k, hk⟩) hb, st_q R.a8.view G8 (k0_off4_inb i ⟨k, hk⟩) _ _ (off4_eq i ⟨k, hk⟩)]
    erw [ld_whole R.a11.view _ inb_S768x256_S768x256_0_0, ld_whole R.a12.view _ inb_S768x128_S768x128_0_0,
      st_whole R.a11.view G11 inb_S768x256_S768x256_0_0, st_whole R.a12.view G12 inb_S768x128_S768x128_0_0]
    rfl
end Loop

/-- The first tile of a head. -/
abbrev cond0 (i : grid0.Coords) : Prop := (Scalar.cmpi .ne (Scalar.extui (Scalar.cmpi .eq (BitVec.ofNat 32 (i 1).val) 0#32)) 0#32) = 1#1

/-- What the three written memrefs read after the whole body. -/
theorem reads (R : Refs) (c : Dev nD) (i : grid0.Coords) (x2 : Vec F S1x8448x256 .bf16) (x3 : Vec F S1x8448x128 .bf16) (x4 x5 : Vec F S1x11x1x768 .f32)
    (x6 : Vec F S1x768x256 .bf16) (x7 : Vec F S1x768x128 .bf16) (v65 v70 : BitVec 32)
    (B8 : BufTy.Contents (Elt F) R.a8.view.ty) (L8 : List (View.Piece (Elt F) S1x8448x256 .f32))
    (G8 : BufTy.Contents (Elt F) R.a8.view.ty) (G11 : BufTy.Contents (Elt F) R.a11.view.ty) (G12 : BufTy.Contents (Elt F) R.a12.view.ty) :
    let V4 : FVec F S768x256 .bf16 := k0_pay20 (View.readAt (Elt F) R.a6.view (Rect.unit (s := S1x768x256) ![0, 0, 0] S1x768x256.size inb_S1x768x256_S1x768x256_0_0_0).toLoadRect (R.w6.unread x6))
    let V6 : FVec F S768x128 .bf16 := k0_pay21 (View.readAt (Elt F) R.a7.view (Rect.unit (s := S1x768x128) ![0, 0, 0] S1x768x128.size inb_S1x768x128_S1x768x128_0_0_0).toLoadRect (R.w7.unread x7))
    let V19 : FVec F S768x256 .bf16 := k0_pay24 (View.readAt (Elt F) R.a2.view (Rect.unit (s := S1x8448x256) (k0_off1 i) S1x768x256.size (k0_off1_inb i)).toLoadRect (R.w2.unread x2))
    let V22 : FVec F S768x128 .bf16 := k0_pay25 (View.readAt (Elt F) R.a3.view (Rect.unit (s := S1x8448x128) (k0_off2 i) S1x768x128.size (k0_off2_inb i)).toLoadRect (R.w3.unread x3))
    let V28 : FVec F S768x768 .f32 := k0_pay26 (View.readAt (Elt F) R.a6.view (Rect.unit (s := S1x768x256) ![0, 0, 0] S1x768x256.size inb_S1x768x256_S1x768x256_0_0_0).toLoadRect (R.w6.unread x6)) (View.readAt (Elt F) R.a2.view (Rect.unit (s := S1x8448x256) (k0_off1 i) S1x768x256.size (k0_off1_inb i)).toLoadRect (R.w2.unread x2))
    let V30 : Vec F S1x1x1x768 .f32 := (View.readAt (Elt F) R.a4.view (Rect.unit (s := S1x11x1x768) (k0_off3 i) S1x1x1x768.size (k0_off3_inb i)).toLoadRect (R.w4.unread x4))
    let V44 : Vec F S1x1x1x768 .f32 := (View.readAt (Elt F) R.a5.view (Rect.unit (s := S1x11x1x768) (k0_off3 i) S1x1x1x768.size (k0_off3_inb i)).toLoadRect (R.w5.unread x5))
    let L8' : List (View.Piece (Elt F) S1x8448x256 .f32) := ⟨Rect.unit (s := S1x8448x256) (k0_off1 i) S1x768x256.size (k0_off1_inb i), k0_pay31 V4 V6 V22 V28 V30 V44 (View.readAt (Elt F) R.a8.view (Rect.unit (s := S1x8448x256) (k0_off1 i) S1x768x256.size (k0_off1_inb i)).toLoadRect (R.a8.view.writes (Elt F) B8 L8))⟩ :: L8
    let L11 : List (View.Piece (Elt F) S768x256 .f32) := [⟨Rect.unit (s := S768x256) ![0, 0] S768x256.size inb_S768x256_S768x256_0_0, k0_pay30 V6 V19 V22 V28 V30 V44 (R.a11.view.readCov [(⟨Rect.unit (s := S768x256) ![0, 0] S768x256.size inb_S768x256_S768x256_0_0, k0_pay22⟩ : View.Piece (Elt F) S768x256 .f32)] (Rect.unit (s := S768x256) ![0, 0] S768x256.size inb_S768x256_S768x256_0_0).toLoadRect)⟩, (⟨Rect.unit (s := S768x256) ![0, 0] S768x256.size inb_S768x256_S768x256_0_0, k0_pay22⟩ : View.Piece (Elt F) S768x256 .f32)]
    let L12 : List (View.Piece (Elt F) S768x128 .f32) := [⟨Rect.unit (s := S768x128) ![0, 0] S768x128.size inb_S768x128_S768x128_0_0, k0_pay28 V22 V28 V30 (R.a12.view.readCov [(⟨Rect.unit (s := S768x128) ![0, 0] S768x128.size inb_S768x128_S768x128_0_0, k0_pay23⟩ : View.Piece (Elt F) S768x128 .f32)] (Rect.unit (s := S768x128) ![0, 0] S768x128.size inb_S768x128_S768x128_0_0).toLoadRect)⟩, (⟨Rect.unit (s := S768x128) ![0, 0] S768x128.size inb_S768x128_S768x128_0_0, k0_pay23⟩ : View.Piece (Elt F) S768x128 .f32)]
    let P1 := (pb_k0_t1 (F := F) Variants.none c none i R.a2 R.w2 R.a3 R.w3 R.a4 R.w4 R.a5 R.w5 R.a6 R.w6 R.a7 R.w7 R.a8 R.w8 R.a9 R.w9 R.a10 R.w10 R.a11 R.w11 R.a12 R.w12 V4 V6 v65 (R.w2.unread x2) (R.w3.unread x3) (R.w4.unread x4) (R.w5.unread x5) (R.a8.view.writes (Elt F) B8 L8') (R.a11.view.writes (Elt F) R.a11.view.junk L11) (R.a12.view.writes (Elt F) R.a12.view.junk L12) (k0_t1_loop i).trips)
    let P2 := (pb_k0_t2 (F := F) Variants.none c none i R.a2 R.w2 R.a3 R.w3 R.a4 R.w4 R.a5 R.w5 R.a6 R.w6 R.a7 R.w7 R.a8 R.w8 R.a9 R.w9 R.a10 R.w10 R.a11 R.w11 R.a12 R.w12 V4 V6 v70 (R.w2.unread x2) (R.w3.unread x3) (R.w4.unread x4) (R.w5.unread x5) G8 G11 G12 (k0_t2_loop i).trips)
    (R.a8.view.read (Elt F) (R.a8.view.writes (Elt F) B8 (P2.1 ++ (P1.1 ++ L8'))),
     R.a11.view.read (Elt F) (R.a11.view.writes (Elt F) R.a11.view.junk (P2.2.1 ++ (P1.2.1 ++ L11))),
     R.a12.view.read (Elt F) (R.a12.view.writes (Elt F) R.a12.view.junk (P2.2.2 ++ (P1.2.2 ++ L12))))
      = fin x2 x3 x4 x5 x6 x7 (i 1).val (R.a8.view.read (Elt F) (R.a8.view.writes (Elt F) B8 L8)) := by
  intro V4 V6 V19 V22 V28 V30 V44 L8' L11 L12 P1 P2
  have hb : (i 1).val < 11 := (i 1).isLt
  have e4 : V4 = k0_pay20 x6 := congrArg k0_pay20 ((ld_whole R.a6.view _ inb_S1x768x256_S1x768x256_0_0_0).trans (R.w6.read_unread x6))
  have e6 : V6 = k0_pay21 x7 := congrArg k0_pay21 ((ld_whole R.a7.view _ inb_S1x768x128_S1x768x128_0_0_0).trans (R.w7.read_unread x7))
  have q2 : (View.readAt (Elt F) R.a2.view (Rect.unit (s := S1x8448x256) (k0_off1 i) S1x768x256.size (k0_off1_inb i)).toLoadRect (R.w2.unread x2)) = rq x2 (i 1).val := (ld_q R.a2.view _ (k0_off1_inb i) (off1_eq i) hb).trans (congrArg (fun x => rq x (i 1).val) (R.w2.read_unread x2))
  have q3 : (View.readAt (Elt F) R.a3.view (Rect.unit (s := S1x8448x128) (k0_off2 i) S1x768x128.size (k0_off2_inb i)).toLoadRect (R.w3.unread x3)) = rd x3 (i 1).val := (ld_d R.a3.view _ (k0_off2_inb i) (off2_eq i) hb).trans (congrArg (fun x => rd x (i 1).val) (R.w3.read_unread x3))
  have e30 : V30 = rl x4 (i 1).val := (ld_l R.a4.view _ (k0_off3_inb i) (off3_eq i) hb).trans (congrArg (fun x => rl x (i 1).val) (R.w4.read_unread x4))
  have e44 : V44 = rl x5 (i 1).val := (ld_l R.a5.view _ (k0_off3_inb i) (off3_eq i) hb).trans (congrArg (fun x => rl x (i 1).val) (R.w5.read_unread x5))
  have e19 : V19 = k0_pay24 (rq x2 (i 1).val) := congrArg k0_pay24 q2
  have e22 : V22 = k0_pay25 (rd x3 (i 1).val) := congrArg k0_pay25 q3
  have e28 : V28 = k0_pay26 x6 (rq x2 (i 1).val) := congrArg₂ k0_pay26 ((ld_whole R.a6.view _ inb_S1x768x256_S1x768x256_0_0_0).trans (R.w6.read_unread x6)) q2
  have h8 : (View.readAt (Elt F) R.a8.view (Rect.unit (s := S1x8448x256) (k0_off1 i) S1x768x256.size (k0_off1_inb i)).toLoadRect (R.a8.view.writes (Elt F) B8 L8)) = rq (R.a8.view.read (Elt F) (R.a8.view.writes (Elt F) B8 L8)) (i 1).val := ld_q R.a8.view _ (k0_off1_inb i) (off1_eq i) hb
  have h11 : (R.a11.view.readCov [(⟨Rect.unit (s := S768x256) ![0, 0] S768x256.size inb_S768x256_S768x256_0_0, k0_pay22⟩ : View.Piece (Elt F) S768x256 .f32)] (Rect.unit (s := S768x256) ![0, 0] S768x256.size inb_S768x256_S768x256_0_0).toLoadRect) = k0_pay22 := (ld_whole R.a11.view _ inb_S768x256_S768x256_0_0).trans (st_whole R.a11.view _ inb_S768x256_S768x256_0_0 k0_pay22 [])
  have h12 : (R.a12.view.readCov [(⟨Rect.unit (s := S768x128) ![0, 0] S768x128.size inb_S768x128_S768x128_0_0, k0_pay23⟩ : View.Piece (Elt F) S768x128 .f32)] (Rect.unit (s := S768x128) ![0, 0] S768x128.size inb_S768x128_S768x128_0_0).toLoadRect) = k0_pay23 := (ld_whole R.a12.view _ inb_S768x128_S768x128_0_0).trans (st_whole R.a12.view _ inb_S768x128_S768x128_0_0 k0_pay23 [])
  have hP2 : P2 = ([], [], []) := pb2_nil R c i V4 V6 v70 _ _ _ _ G8 G11 G12
  have hP1 := pb1_read R c i V4 V6 v65 (R.w2.unread x2) (R.w3.unread x3) (R.w4.unread x4) (R.w5.unread x5) (R.a8.view.writes (Elt F) B8 L8') (R.a11.view.writes (Elt F) R.a11.view.junk L11) (R.a12.view.writes (Elt F) R.a12.view.junk L12) (k0_t1_loop i).trips le_rfl
  rw [R.w2.read_unread, R.w3.read_unread, R.w4.read_unread, R.w5.read_unread] at hP1
  have d8 : R.a8.view.read (Elt F) (R.a8.view.writes (Elt F) B8 L8') = (diag x2 x3 x4 x5 x6 x7 (i 1).val (R.a8.view.read (Elt F) (R.a8.view.writes (Elt F) B8 L8), k0_pay22, k0_pay23)).1 := by
    refine (st_q R.a8.view B8 (k0_off1_inb i) _ L8 (off1_eq i)).trans ?_
    rw [h8, e4, e6, e22, e28, e30, e44]; rfl
  have d11 : R.a11.view.read (Elt F) (R.a11.view.writes (Elt F) R.a11.view.junk L11) = (diag x2 x3 x4 x5 x6 x7 (i 1).val (R.a8.view.read (Elt F) (R.a8.view.writes (Elt F) B8 L8), k0_pay22, k0_pay23)).2.1 := by
    refine (st_whole R.a11.view _ inb_S768x256_S768x256_0_0 _ _).trans ?_
    rw [h11, e6, e19, e22, e28, e30, e44]; rfl
  have d12 : R.a12.view.read (Elt F) (R.a12.view.writes (Elt F) R.a12.view.junk L12) = (diag x2 x3 x4 x5 x6 x7 (i 1).val (R.a8.view.read (Elt F) (R.a8.view.writes (Elt F) B8 L8), k0_pay22, k0_pay23)).2.2 := by
    refine (st_whole R.a12.view _ inb_S768x128_S768x128_0_0 _ _).trans ?_
    rw [h12, e22, e28, e30]; rfl
  rw [d8, d11, d12] at hP1
  rw [hP2]
  dsimp only [List.nil_append]
  rw [View.writes_append, View.writes_append, View.writes_append]
  refine hP1.trans ?_
  rw [e4, e6, trips1]
  rfl

set_option maxHeartbeats 4000000 in
theorem runA (R : Refs) (c : Dev nD) (i : grid0.Coords) (hc0 : cond0 i)
    (x2 : Vec F S1x8448x256 .bf16) (x3 : Vec F S1x8448x128 .bf16) (x4 : Vec F S1x11x1x768 .f32) (x5 : Vec F S1x11x1x768 .f32) (x6 : Vec F S1x768x256 .bf16) (x7 : Vec F S1x768x128 .bf16) (E : Set ℕ) (K : PUnit → sProp 𝕄) :
    iprop(owns (c : Thread nD τ) R.a2 fullShare x2 ∗ owns (c : Thread nD τ) R.a3 fullShare x3 ∗ owns (c : Thread nD τ) R.a4 fullShare x4 ∗ owns (c : Thread nD τ) R.a5 fullShare x5 ∗ owns (c : Thread nD τ) R.a6 fullShare x6 ∗ owns (c : Thread nD τ) R.a7 fullShare x7 ∗ (∃ d, owns (c : Thread nD τ) R.a8 fullShare d) ∗ (∃ d, owns (c : Thread nD τ) R.a9 fullShare d) ∗ (∃ d, owns (c : Thread nD τ) R.a10 fullShare d) ∗ (∃ d, owns (c : Thread nD τ) R.a11 fullShare d) ∗ (∃ d, owns (c : Thread nD τ) R.a12 fullShare d)
        ∗ (iprop(owns (c : Thread nD τ) R.a2 fullShare x2 ∗ owns (c : Thread nD τ) R.a3 fullShare x3 ∗ owns (c : Thread nD τ) R.a4 fullShare x4 ∗ owns (c : Thread nD τ) R.a5 fullShare x5 ∗ owns (c : Thread nD τ) R.a6 fullShare x6 ∗ owns (c : Thread nD τ) R.a7 fullShare x7 ∗ owns (c : Thread nD τ) R.a8 fullShare (fin x2 x3 x4 x5 x6 x7 (i 1).val k0_pay19).1 ∗ owns (c : Thread nD τ) R.a9 fullShare (k0_pay5 (fin x2 x3 x4 x5 x6 x7 (i 1).val k0_pay19).2.1) ∗ owns (c : Thread nD τ) R.a10 fullShare (k0_pay6 (fin x2 x3 x4 x5 x6 x7 (i 1).val k0_pay19).2.2) ∗ (∃ d, owns (c : Thread nD τ) R.a11 fullShare d) ∗ (∃ d, owns (c : Thread nD τ) R.a12 fullShare d)) -∗ K ⟨⟩))
      ⊢ wp frame (wpE (defs₀ (F := F)) Variants.none c none) E (cc0_flash_bwd i R.a2 R.w2 R.a3 R.w3 R.a4 R.w4 R.a5 R.w5 R.a6 R.w6 R.a7 R.w7 R.a8 R.w8 R.a9 R.w9 R.a10 R.w10 R.a11 R.w11 R.a12 R.w12) K := by
    simp only [cc0_flash_bwd_eq_skeleton]; unfold cc0_flash_bwd_skel
    simp only [k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
    obtain rfl := R.w2.eq_unread hf2; obtain rfl := R.w3.eq_unread hf3; obtain rfl := R.w4.eq_unread hf4; obtain rfl := R.w5.eq_unread hf5; obtain rfl := R.w6.eq_unread hf6; obtain rfl := R.w7.eq_unread hf7
    have hB := st_whole (F := F) R.a8.view R.a8.view.junk inb_S1x8448x256_S1x8448x256_0_0_0 k0_pay19 []
    sl_exec (disch := first | sl_exact hc0)
    sl_step
    iapply Hk
    isplitl [H2]
    · iexists _; isplitr; · ipureintro; exact R.w2.read_unread _
      iexact H2
    isplitl [H3]
    · iexists _; isplitr; · ipureintro; exact R.w3.read_unread _
      iexact H3
    isplitl [H4]
    · iexists _; isplitr; · ipureintro; exact R.w4.read_unread _
      iexact H4
    isplitl [H5]
    · iexists _; isplitr; · ipureintro; exact R.w5.read_unread _
      iexact H5
    isplitl [H6]
    · iexists _; isplitr; · ipureintro; exact R.w6.read_unread _
      iexact H6
    isplitl [H7]
    · iexists _; isplitr; · ipureintro; exact R.w7.read_unread _
      iexact H7
    isplitl [H8]
    · iexists _; isplitr; swap; · iexact H8
      ipureintro
      exact (congrArg Prod.fst (reads R c i x2 x3 x4 x5 x6 x7 _ _ R.a8.view.junk [⟨Rect.unit (s := S1x8448x256) ![0, 0, 0] S1x8448x256.size inb_S1x8448x256_S1x8448x256_0_0_0, k0_pay19⟩] _ _ _)).trans (congrArg (fun z => (fin x2 x3 x4 x5 x6 x7 (i 1).val z).1) hB)
    isplitl [H9]
    · iexists _; isplitr; swap; · iexact H9
      ipureintro
      exact (st_whole R.a9.view _ inb_S1x768x256_S1x768x256_0_0_0 _ []).trans (congrArg k0_pay5 ((ld_whole R.a11.view _ inb_S768x256_S768x256_0_0).trans ((congrArg (fun s : St F => s.2.1) (reads R c i x2 x3 x4 x5 x6 x7 _ _ R.a8.view.junk [⟨Rect.unit (s := S1x8448x256) ![0, 0, 0] S1x8448x256.size inb_S1x8448x256_S1x8448x256_0_0_0, k0_pay19⟩] _ _ _)).trans (congrArg (fun z => (fin x2 x3 x4 x5 x6 x7 (i 1).val z).2.1) hB))))
    isplitl [H10]
    · iexists _; isplitr; swap; · iexact H10
      ipureintro
      exact (st_whole R.a10.view _ inb_S1x768x128_S1x768x128_0_0_0 _ []).trans (congrArg k0_pay6 ((ld_whole R.a12.view _ inb_S768x128_S768x128_0_0).trans ((congrArg (fun s : St F => s.2.2) (reads R c i x2 x3 x4 x5 x6 x7 _ _ R.a8.view.junk [⟨Rect.unit (s := S1x8448x256) ![0, 0, 0] S1x8448x256.size inb_S1x8448x256_S1x8448x256_0_0_0, k0_pay19⟩] _ _ _)).trans (congrArg (fun z => (fin x2 x3 x4 x5 x6 x7 (i 1).val z).2.2) hB))))
    isplitl [H11]
    · iexists _; iexists _; isplitr; swap; · iexact H11
      ipureintro; rfl
    iexists _; iexists _; isplitr; swap; · iexact H12
    ipureintro; rfl

set_option maxHeartbeats 4000000 in
theorem runB (R : Refs) (c : Dev nD) (i : grid0.Coords) (hc0 : ¬cond0 i)
    (x2 : Vec F S1x8448x256 .bf16) (x3 : Vec F S1x8448x128 .bf16) (x4 : Vec F S1x11x1x768 .f32) (x5 : Vec F S1x11x1x768 .f32) (x6 : Vec F S1x768x256 .bf16) (x7 : Vec F S1x768x128 .bf16) (x8 : Vec F S1x8448x256 .f32) (E : Set ℕ) (K : PUnit → sProp 𝕄) :
    iprop(owns (c : Thread nD τ) R.a2 fullShare x2 ∗ owns (c : Thread nD τ) R.a3 fullShare x3 ∗ owns (c : Thread nD τ) R.a4 fullShare x4 ∗ owns (c : Thread nD τ) R.a5 fullShare x5 ∗ owns (c : Thread nD τ) R.a6 fullShare x6 ∗ owns (c : Thread nD τ) R.a7 fullShare x7 ∗ owns (c : Thread nD τ) R.a8 fullShare x8 ∗ (∃ d, owns (c : Thread nD τ) R.a9 fullShare d) ∗ (∃ d, owns (c : Thread nD τ) R.a10 fullShare d) ∗ (∃ d, owns (c : Thread nD τ) R.a11 fullShare d) ∗ (∃ d, owns (c : Thread nD τ) R.a12 fullShare d)
        ∗ (iprop(owns (c : Thread nD τ) R.a2 fullShare x2 ∗ owns (c : Thread nD τ) R.a3 fullShare x3 ∗ owns (c : Thread nD τ) R.a4 fullShare x4 ∗ owns (c : Thread nD τ) R.a5 fullShare x5 ∗ owns (c : Thread nD τ) R.a6 fullShare x6 ∗ owns (c : Thread nD τ) R.a7 fullShare x7 ∗ owns (c : Thread nD τ) R.a8 fullShare (fin x2 x3 x4 x5 x6 x7 (i 1).val x8).1 ∗ owns (c : Thread nD τ) R.a9 fullShare (k0_pay5 (fin x2 x3 x4 x5 x6 x7 (i 1).val x8).2.1) ∗ owns (c : Thread nD τ) R.a10 fullShare (k0_pay6 (fin x2 x3 x4 x5 x6 x7 (i 1).val x8).2.2) ∗ (∃ d, owns (c : Thread nD τ) R.a11 fullShare d) ∗ (∃ d, owns (c : Thread nD τ) R.a12 fullShare d)) -∗ K ⟨⟩))
      ⊢ wp frame (wpE (defs₀ (F := F)) Variants.none c none) E (cc0_flash_bwd i R.a2 R.w2 R.a3 R.w3 R.a4 R.w4 R.a5 R.w5 R.a6 R.w6 R.a7 R.w7 R.a8 R.w8 R.a9 R.w9 R.a10 R.w10 R.a11 R.w11 R.a12 R.w12) K := by
    simp only [cc0_flash_bwd_eq_skeleton]; unfold cc0_flash_bwd_skel
    simp only [k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    obtain rfl := R.w2.eq_unread hf2; obtain rfl := R.w3.eq_unread hf3; obtain rfl := R.w4.eq_unread hf4; obtain rfl := R.w5.eq_unread hf5; obtain rfl := R.w6.eq_unread hf6; obtain rfl := R.w7.eq_unread hf7; obtain rfl := R.w8.eq_unread hf8
    have hB : R.a8.view.read (Elt F) (R.a8.view.writes (Elt F) (R.w8.unread x8) []) = x8 := R.w8.read_unread x8
    sl_exec (disch := first | sl_exact hc0)
    sl_step
    iapply Hk
    isplitl [H2]
    · iexists _; isplitr; · ipureintro; exact R.w2.read_unread _
      iexact H2
    isplitl [H3]
    · iexists _; isplitr; · ipureintro; exact R.w3.read_unread _
      iexact H3
    isplitl [H4]
    · iexists _; isplitr; · ipureintro; exact R.w4.read_unread _
      iexact H4
    isplitl [H5]
    · iexists _; isplitr; · ipureintro; exact R.w5.read_unread _
      iexact H5
    isplitl [H6]
    · iexists _; isplitr; · ipureintro; exact R.w6.read_unread _
      iexact H6
    isplitl [H7]
    · iexists _; isplitr; · ipureintro; exact R.w7.read_unread _
      iexact H7
    isplitl [H8]
    · iexists _; isplitr; swap; · iexact H8
      ipureintro
      exact (congrArg Prod.fst (reads R c i x2 x3 x4 x5 x6 x7 _ _ (R.w8.unread x8) [] _ _ _)).trans (congrArg (fun z => (fin x2 x3 x4 x5 x6 x7 (i 1).val z).1) hB)
    isplitl [H9]
    · iexists _; isplitr; swap; · iexact H9
      ipureintro
      exact (st_whole R.a9.view _ inb_S1x768x256_S1x768x256_0_0_0 _ []).trans (congrArg k0_pay5 ((ld_whole R.a11.view _ inb_S768x256_S768x256_0_0).trans ((congrArg (fun s : St F => s.2.1) (reads R c i x2 x3 x4 x5 x6 x7 _ _ (R.w8.unread x8) [] _ _ _)).trans (congrArg (fun z => (fin x2 x3 x4 x5 x6 x7 (i 1).val z).2.1) hB))))
    isplitl [H10]
    · iexists _; isplitr; swap; · iexact H10
      ipureintro
      exact (st_whole R.a10.view _ inb_S1x768x128_S1x768x128_0_0_0 _ []).trans (congrArg k0_pay6 ((ld_whole R.a12.view _ inb_S768x128_S768x128_0_0).trans ((congrArg (fun s : St F => s.2.2) (reads R c i x2 x3 x4 x5 x6 x7 _ _ (R.w8.unread x8) [] _ _ _)).trans (congrArg (fun z => (fin x2 x3 x4 x5 x6 x7 (i 1).val z).2.2) hB))))
    isplitl [H11]
    · iexists _; iexists _; isplitr; swap; · iexact H11
      ipureintro; rfl
    iexists _; iexists _; isplitr; swap; · iexact H12
    ipureintro; rfl
end Cert.FlashBwdIdeal.Gen
end
-- ==== Proof.FlashFrame.lean ====
module

public import proofs.«01_k».proof.Proof.FlashRun

/-! The attention gradient's run: the proof data of its pipeline over any float (the dq block is carried through the
eleven tiles of a head, the dk and dv tiles are written once each), the body's obligation, the run and its frame. -/

@[expose] public section
set_option maxRecDepth 16384
noncomputable section
namespace Cert.FlashBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

theorem coord1 (t : Fin cfg0.N) : (grid0.coords t 1).val = t.val % 11 :=
  (Pipeline.Grid.coords_val t 1 (by decide) rfl : (grid0.coords t 1).val = t.val / 1 % 11).trans (by rw [Nat.div_one])

theorem hcond0 (t : Fin cfg0.N) : cond0 (grid0.coords t) ↔ t.val % 11 = 0 := by
  have ht : t.val < 88 := Nat.lt_of_lt_of_eq t.isLt N_0
  have e0 := coord1 t
  simp only [cond0, e0]
  word_cmp

/-- The staging memrefs of point `t`. -/
abbrev refs (t : Fin cfg0.N) : Refs :=
  ⟨win0_0.stage (cfg0.slots t 0), hstage0_0 ((cfg0.slots t 0).cast nbuf0_0), win0_1.stage (cfg0.slots t 1), hstage0_1 ((cfg0.slots t 1).cast nbuf0_1),
   win0_2.stage (cfg0.slots t 2), hstage0_2 ((cfg0.slots t 2).cast nbuf0_2), win0_3.stage (cfg0.slots t 3), hstage0_3 ((cfg0.slots t 3).cast nbuf0_3),
   win0_4.stage (cfg0.slots t 4), hstage0_4 ((cfg0.slots t 4).cast nbuf0_4), win0_5.stage (cfg0.slots t 5), hstage0_5 ((cfg0.slots t 5).cast nbuf0_5),
   win0_6.stage (cfg0.slots t 6), hstage0_6 ((cfg0.slots t 6).cast nbuf0_6), win0_7.stage (cfg0.slots t 7), hstage0_7 ((cfg0.slots t 7).cast nbuf0_7),
   win0_8.stage (cfg0.slots t 8), hstage0_8 ((cfg0.slots t 8).cast nbuf0_8), Memref.whole cc0_scratch0, Memref.isWhole_whole _, Memref.whole cc0_scratch1, Memref.isWhole_whole _⟩

/-- What point `t` leaves, from the dq block it finds. -/
def finAt (c : Dev nD) (t : Fin cfg0.N) (x8 : Vec F S1x8448x256 .f32) : St F :=
  fin (iblk m c 0 t) (iblk m c 1 t) (iblk m c 2 t) (iblk m c 3 t) (iblk m c 4 t) (iblk m c 5 t) (grid0.coords t 1).val x8

/-- The dq block after point `n`. -/
def dqAt (c : Dev nD) : (n : ℕ) → n < cfg0.N → Vec F S1x8448x256 .f32
  | 0, hn => (finAt m c ⟨0, hn⟩ k0_pay19).1
  | n + 1, hn => (finAt m c ⟨n + 1, hn⟩ (if (n + 1) % 11 = 0 then k0_pay19 else dqAt c n (Nat.lt_of_succ_lt hn))).1

/-- The dq block that point `t` works on. -/
def dqIn (c : Dev nD) (t : Fin cfg0.N) : Vec F S1x8448x256 .f32 :=
  if t.val % 11 = 0 then k0_pay19 else dqAt m c (t.val - 1) (Nat.lt_of_le_of_lt (Nat.sub_le _ _) t.isLt)

theorem dqAt_eq (c : Dev nD) (t : Fin cfg0.N) : dqAt m c t.val t.isLt = (finAt m c t (dqIn m c t)).1 := by
  obtain ⟨n, hn⟩ := t
  cases n with
  | zero => rfl
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t.val t.isLt
    | ⟨7, _⟩ => k0_pay5 (finAt m c t (dqIn m c t)).2.1
    | ⟨8, _⟩ => k0_pay6 (finAt m c t (dqIn m c t)).2.2
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dqAt m c t.val t.isLt := by dsimp only [dats]
theorem after0_7 (c : Dev nD) (t : Fin cfg0.N) : (dats m 0 c).after 7 t = k0_pay5 (finAt m c t (dqIn m c t)).2.1 := by dsimp only [dats]
theorem after0_8 (c : Dev nD) (t : Fin cfg0.N) : (dats m 0 c).after 8 t = k0_pay6 (finAt m c t (dqIn m c t)).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- Past the first tile of a head the dq block holds what the point before left. -/
theorem before0_6_B (c : Dev nD) (t : Fin cfg0.N) (h0 : ¬t.val % 11 = 0) (d) :
    (dats m 0 c).before 6 t d = dqIn m c t := by
  have hN : t.val < 88 := lt_of_lt_of_eq t.isLt (show cfg0.N = 88 from N_0)
  rw [Dat.before_out_kept _ 6 rfl t (by omega) (Bool.eq_false_iff.mpr fun h => by have := (flush0_6 _).mp h; dsimp only at this; omega)
    (fun _ => rfl) (fun _ _ => rfl)]
  rw [dqIn, if_neg h0]
  dsimp only [dats]

/-- The pipeline's own invariant, the two scratch buffers owned at some contents. -/
theorem PhiA0_eq (c : Dev nD) :
    (Pipeline.ΦA spec0 c : sProp 𝕄)
      = iprop(iprop((∃ d, owns (c : Thread nD τ) (Memref.whole cc0_scratch0 : Memref sig .tc .vmem S768x256 .f32) fullShare d)
          ∗ (∃ d, owns (c : Thread nD τ) (Memref.whole cc0_scratch1 : Memref sig .tc .vmem S768x128 .f32) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (refs t).a2 fullShare ((dats m 0 c).before 0 t d))
    ∗ (∃ d, owns (c : Thread nD τ) (refs t).a3 fullShare ((dats m 0 c).before 1 t d))
    ∗ (∃ d, owns (c : Thread nD τ) (refs t).a4 fullShare ((dats m 0 c).before 2 t d))
    ∗ (∃ d, owns (c : Thread nD τ) (refs t).a5 fullShare ((dats m 0 c).before 3 t d))
    ∗ (∃ d, owns (c : Thread nD τ) (refs t).a6 fullShare ((dats m 0 c).before 4 t d))
    ∗ (∃ d, owns (c : Thread nD τ) (refs t).a7 fullShare ((dats m 0 c).before 5 t d))
    ∗ (∃ d, owns (c : Thread nD τ) (refs t).a8 fullShare ((dats m 0 c).before 6 t d))
    ∗ (∃ d, owns (c : Thread nD τ) (refs t).a9 fullShare ((dats m 0 c).before 7 t d))
    ∗ (∃ d, owns (c : Thread nD τ) (refs t).a10 fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (refs t).a2 fullShare ((dats m 0 c).after 0 t)
    ∗ owns (c : Thread nD τ) (refs t).a3 fullShare ((dats m 0 c).after 1 t)
    ∗ owns (c : Thread nD τ) (refs t).a4 fullShare ((dats m 0 c).after 2 t)
    ∗ owns (c : Thread nD τ) (refs t).a5 fullShare ((dats m 0 c).after 3 t)
    ∗ owns (c : Thread nD τ) (refs t).a6 fullShare ((dats m 0 c).after 4 t)
    ∗ owns (c : Thread nD τ) (refs t).a7 fullShare ((dats m 0 c).after 5 t)
    ∗ owns (c : Thread nD τ) (refs t).a8 fullShare ((dats m 0 c).after 6 t)
    ∗ owns (c : Thread nD τ) (refs t).a9 fullShare ((dats m 0 c).after 7 t)
    ∗ owns (c : Thread nD τ) (refs t).a10 fullShare ((dats m 0 c).after 8 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (Pipeline.ΦA spec0 c : sProp 𝕄) from rfl, show (dats m 0 c).Φ t.castSucc = (Pipeline.ΦA spec0 c : sProp 𝕄) from rfl, PhiA0_eq,
    show (dats m 0 c).owesAt () t.succ = (dats m 0 c).owesAt () t.castSucc from rfl,
    after0_0, after0_1, after0_2, after0_3, after0_4, after0_5, after0_6, after0_7, after0_8, dqAt_eq]
  by_cases h0 : t.val % 11 = 0
  · have hin : dqIn m c t = k0_pay19 := if_pos h0
    rw [hin]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA (refs t) c (grid0.coords t) ((hcond0 t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · simp only [before0_6_B m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runB (refs t) c (grid0.coords t) (fun h => h0 ((hcond0 t).mp h)) (iblk m c 0 t) (iblk m c 1 t) (iblk m c 2 t) (iblk m c 3 t) (iblk m c 4 t) (iblk m c 5 t) (dqIn m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.FlashBwdIdeal.Gen
end
-- ==== Proof.FlashTile.lean ====
module

public import proofs.«01_k».proof.Proof.FlashFrame
public import Idealize.ShloMosaic.Lib.Pipeline.ValueKit
public import Idealize.ShloMosaic.Lib.Pointwise
public import Idealize.ShloMosaic.Lib.WordCmp
public import Idealize.ShloMosaic.Lib.Claim

/-! What one tile of keys adds to the attention's three gradients, over the extended reals: each a plain sum over all
rows, a row before the tile's masked with −∞ and so adding nothing. -/

@[expose] public section
set_option maxRecDepth 16384
noncomputable section
namespace Cert.Proof.Flash

open Idealize.ShloMosaic Idealize.ShloMosaic.TcCoe Idealize.SL.Sem
open Cert.FlashBwdIdeal Cert.FlashBwdIdeal.Gen

/-- The weight of row `i` at key `n` of a tile whose keys start at `n0`. -/
def pI (q : Fin 8448 → Fin 256 → EReal) (l : Fin 8448 → EReal) (k : Fin 256 → EReal) (n : ℕ) (i : Fin 8448) : EReal :=
  Ideal.exp2 ((if n ≤ i.val then ∑ d : Fin 256, k d * q i d else ⊥) - l i)

/-- The score's cotangent there. -/
def dsI (q : Fin 8448 → Fin 256 → EReal) (l : Fin 8448 → EReal) (k : Fin 256 → EReal) (dO : Fin 8448 → Fin 128 → EReal)
    (dl : Fin 8448 → EReal) (v : Fin 128 → EReal) (n : ℕ) (i : Fin 8448) : EReal :=
  pI q l k n i * ((∑ d : Fin 128, v d * dO i d) - dl i)

theorem exp2_bot : Ideal.exp2 (⊥ : EReal) = 0 := by
  first | exact Ideal.exp2_bot | rfl | simp [Ideal.exp2]

theorem pI_of_lt {q l k} {n : ℕ} {i : Fin 8448} (h : i.val < n) : pI q l k n i = 0 := by
  rw [pI, if_neg (by omega), EReal.bot_sub, exp2_bot]

theorem dsI_of_lt {q l k dO dl v} {n : ℕ} {i : Fin 8448} (h : i.val < n) : dsI q l k dO dl v n i = 0 := by
  rw [dsI, pI_of_lt h, zero_mul]

/-- The rows of the staged blocks. -/
def rowsQ (x : Vec Ideal S1x8448x256 .bf16) (i : Fin 8448) (d : Fin 256) : EReal := x (ix3 (0 : Fin 1) i d)
def rowsD (x : Vec Ideal S1x8448x128 .bf16) (i : Fin 8448) (d : Fin 128) : EReal := x (ix3 (0 : Fin 1) i d)
def rowsL (x : Vec Ideal S1x11x1x768 .f32) (i : Fin 8448) : EReal :=
  x (ix4 (0 : Fin 1) (⟨i.val / 768, by omega⟩ : Fin 11) (0 : Fin 1) (⟨i.val % 768, Nat.mod_lt _ (by decide)⟩ : Fin 768))
def rowsK (x : Vec Ideal S1x768x256 .bf16) (y : Fin 768) (d : Fin 256) : EReal := x (ix3 (0 : Fin 1) y d)
def rowsV (x : Vec Ideal S1x768x128 .bf16) (y : Fin 768) (d : Fin 128) : EReal := x (ix3 (0 : Fin 1) y d)

/-- Row `r` of block `b`. -/
def row (b : ℕ) (r : Fin 768) : Fin 8448 := ⟨(768 * b + r.val) % 8448, Nat.mod_lt _ (by decide)⟩

theorem row_val {b : ℕ} (hb : b < 11) (r : Fin 768) : (row b r).val = 768 * b + r.val := Nat.mod_eq_of_lt (by omega)

theorem rl_at (x : Vec Ideal S1x11x1x768 .f32) {b : ℕ} (hb : b < 11) (r : Fin 768) :
    (rl x b (ix4 (0 : Fin 1) (0 : Fin 1) (0 : Fin 1) r) : EReal) = rowsL x (row b r) := by
  have e := row_val hb r
  unfold rl rowsL
  refine congrArg x (congr (congrArg (fun a => ix4 (0 : Fin 1) a (0 : Fin 1)) (Fin.ext ?_)) (Fin.ext ?_))
  · show b % 11 = (row b r).val / 768; omega
  · show r.val = (row b r).val % 768; omega

/-! ## The tile's payloads at an index -/

theorem pay26_at (x6 v18 : Vec Ideal S1x768x256 .bf16) (y r : Fin 768) :
    k0_pay26 (F := Ideal) x6 v18 (ix2 y r)
      = (if y.val ≤ r.val then ∑ d : Fin 256, (x6 (ix3 (0 : Fin 1) y d) : EReal) * v18 (ix3 (0 : Fin 1) r d) else (⊥ : EReal)) := by
  unfold_payloads; pointwise
  rw [WordCmp.cmpi_sge_ofNat (by omega) (by omega)]
  by_cases h : y.val ≤ r.val
  · rw [if_pos h]; simp only [decide_eq_true h]; rfl
  · rw [if_neg h]; simp only [decide_eq_false h]; rfl

theorem pay9_at (v4 : Vec Ideal S768x256 .bf16) (v84 : Vec Ideal S1x768x256 .bf16) (v91 : Vec Ideal S1x1x1x768 .f32) (y r : Fin 768) :
    k0_pay9 (F := Ideal) v4 v84 v91 (ix2 y r)
      = Ideal.exp2 ((∑ d : Fin 256, (v4 (ix2 y d) : EReal) * v84 (ix3 (0 : Fin 1) r d)) - v91 (ix4 (0 : Fin 1) (0 : Fin 1) (0 : Fin 1) r)) := by
  unfold_payloads; pointwise; rfl

theorem pay11_at (v4 : Vec Ideal S768x256 .bf16) (v6 : Vec Ideal S768x128 .bf16) (v84 : Vec Ideal S1x768x256 .bf16) (v87 : Vec Ideal S1x768x128 .bf16)
    (v91 v105 : Vec Ideal S1x1x1x768 .f32) (y r : Fin 768) :
    k0_pay11 (F := Ideal) v4 v6 v84 v87 v91 v105 (ix2 y r)
      = (k0_pay9 (F := Ideal) v4 v84 v91 (ix2 y r) * ((∑ d : Fin 128, (v6 (ix2 y d) : EReal) * v87 (ix3 (0 : Fin 1) r d)) - v105 (ix4 (0 : Fin 1) (0 : Fin 1) (0 : Fin 1) r)) : EReal) := by
  unfold k0_pay11 k0_pay8
  pointwise

theorem pay10_at (v4 : Vec Ideal S768x256 .bf16) (v84 : Vec Ideal S1x768x256 .bf16) (v87 : Vec Ideal S1x768x128 .bf16) (v91 : Vec Ideal S1x1x1x768 .f32)
    (v96 : Vec Ideal S768x128 .f32) (y : Fin 768) (d : Fin 128) :
    k0_pay10 (F := Ideal) v4 v84 v87 v91 v96 (ix2 y d)
      = (v96 (ix2 y d) + ∑ r : Fin 768, k0_pay9 (F := Ideal) v4 v84 v91 (ix2 y r) * v87 (ix3 (0 : Fin 1) r d) : EReal) := by
  unfold k0_pay10 k0_pay8
  pointwise

theorem pay12_at (v4 : Vec Ideal S768x256 .bf16) (v6 : Vec Ideal S768x128 .bf16) (v84 : Vec Ideal S1x768x256 .bf16) (v87 : Vec Ideal S1x768x128 .bf16)
    (v91 v105 : Vec Ideal S1x1x1x768 .f32) (v111 : Vec Ideal S768x256 .f32) (y : Fin 768) (d : Fin 256) :
    k0_pay1 (F := Ideal) (k0_pay12 (F := Ideal) v4 v6 v84 v87 v91 v105 v111) (ix2 y d)
      = (v111 (ix2 y d) + ∑ r : Fin 768, k0_pay11 (F := Ideal) v4 v6 v84 v87 v91 v105 (ix2 y r) * v84 (ix3 (0 : Fin 1) r d) : EReal) := by
  unfold k0_pay1 k0_pay12 k0_pay7
  pointwise

theorem pay2_at (v4 : Vec Ideal S768x256 .bf16) (v110 : Vec Ideal S768x768 .bf16) (v118 : Vec Ideal S1x768x256 .f32) (r : Fin 768) (d : Fin 256) :
    k0_pay2 (F := Ideal) v4 v110 v118 (ix3 (0 : Fin 1) r d)
      = (v118 (ix3 (0 : Fin 1) r d) + ∑ y : Fin 768, v110 (ix2 y r) * v4 (ix2 y d) : EReal) := by
  unfold k0_pay2
  pointwise

theorem pay27_at (v28 : Vec Ideal S768x768 .f32) (v30 : Vec Ideal S1x1x1x768 .f32) (y r : Fin 768) :
    k0_pay27 (F := Ideal) v28 v30 (ix2 y r) = Ideal.exp2 ((v28 (ix2 y r) : EReal) - v30 (ix4 (0 : Fin 1) (0 : Fin 1) (0 : Fin 1) r)) := by
  unfold k0_pay27
  pointwise; rfl

theorem pay28_at (v22 : Vec Ideal S768x128 .bf16) (v28 : Vec Ideal S768x768 .f32) (v30 : Vec Ideal S1x1x1x768 .f32)
    (v35 : Vec Ideal S768x128 .f32) (y : Fin 768) (d : Fin 128) :
    k0_pay28 (F := Ideal) v22 v28 v30 v35 (ix2 y d)
      = (v35 (ix2 y d) + ∑ r : Fin 768, k0_pay27 (F := Ideal) v28 v30 (ix2 y r) * v22 (ix2 r d) : EReal) := by
  unfold k0_pay28
  pointwise

theorem pay29_at (v6 : Vec Ideal S768x128 .bf16) (v22 : Vec Ideal S768x128 .bf16) (v28 : Vec Ideal S768x768 .f32) (v30 v44 : Vec Ideal S1x1x1x768 .f32)
    (y r : Fin 768) :
    k0_pay29 (F := Ideal) v6 v22 v28 v30 v44 (ix2 y r)
      = (k0_pay27 (F := Ideal) v28 v30 (ix2 y r) * ((∑ d : Fin 128, (v6 (ix2 y d) : EReal) * v22 (ix2 r d)) - v44 (ix4 (0 : Fin 1) (0 : Fin 1) (0 : Fin 1) r)) : EReal) := by
  unfold k0_pay29
  pointwise

theorem pay30_at (v6 : Vec Ideal S768x128 .bf16) (v19 : Vec Ideal S768x256 .bf16) (v22 : Vec Ideal S768x128 .bf16) (v28 : Vec Ideal S768x768 .f32)
    (v30 v44 : Vec Ideal S1x1x1x768 .f32) (v50 : Vec Ideal S768x256 .f32) (y : Fin 768) (d : Fin 256) :
    k0_pay30 (F := Ideal) v6 v19 v22 v28 v30 v44 v50 (ix2 y d)
      = (v50 (ix2 y d) + ∑ r : Fin 768, k0_pay29 (F := Ideal) v6 v22 v28 v30 v44 (ix2 y r) * v19 (ix2 r d) : EReal) := by
  unfold k0_pay30
  pointwise

theorem pay31_at (v4 : Vec Ideal S768x256 .bf16) (v6 : Vec Ideal S768x128 .bf16) (v22 : Vec Ideal S768x128 .bf16) (v28 : Vec Ideal S768x768 .f32)
    (v30 v44 : Vec Ideal S1x1x1x768 .f32) (v57 : Vec Ideal S1x768x256 .f32) (r : Fin 768) (d : Fin 256) :
    k0_pay31 (F := Ideal) v4 v6 v22 v28 v30 v44 v57 (ix3 (0 : Fin 1) r d)
      = (v57 (ix3 (0 : Fin 1) r d) + ∑ y : Fin 768, k0_pay29 (F := Ideal) v6 v22 v28 v30 v44 (ix2 y r) * v4 (ix2 y d) : EReal) := by
  unfold k0_pay31
  pointwise

theorem pay20_at (x : Vec Ideal S1x768x256 .bf16) (y : Fin 768) (d : Fin 256) : (k0_pay20 (F := Ideal) x (ix2 y d) : EReal) = rowsK x y d := by
  unfold k0_pay20; pointwise; rfl
theorem pay21_at (x : Vec Ideal S1x768x128 .bf16) (y : Fin 768) (d : Fin 128) : (k0_pay21 (F := Ideal) x (ix2 y d) : EReal) = rowsV x y d := by
  unfold k0_pay21; pointwise; rfl
theorem pay24_at (x : Vec Ideal S1x768x256 .bf16) (y : Fin 768) (d : Fin 256) : (k0_pay24 (F := Ideal) x (ix2 y d) : EReal) = x (ix3 (0 : Fin 1) y d) := by
  unfold k0_pay24; pointwise
theorem pay25_at (x : Vec Ideal S1x768x128 .bf16) (y : Fin 768) (d : Fin 128) : (k0_pay25 (F := Ideal) x (ix2 y d) : EReal) = x (ix3 (0 : Fin 1) y d) := by
  unfold k0_pay25; pointwise
theorem pay22_at (y : Fin 768) (d : Fin 256) : (k0_pay22 (F := Ideal) (ix2 y d) : EReal) = 0 := by
  unfold k0_pay22; pointwise
theorem pay23_at (y : Fin 768) (d : Fin 128) : (k0_pay23 (F := Ideal) (ix2 y d) : EReal) = 0 := by
  unfold k0_pay23; pointwise
theorem pay19_at (y : Fin 8448) (d : Fin 256) : (k0_pay19 (F := Ideal) (ix3 (0 : Fin 1) y d) : EReal) = 0 := by
  unfold k0_pay19; pointwise
theorem pay5_at (x : Vec Ideal S768x256 .f32) (y : Fin 768) (d : Fin 256) :
    (k0_pay5 (F := Ideal) x (ix3 (0 : Fin 1) y d) : EReal) = x (ix2 y d) * ((Real.log 2 : ℝ) : EReal) := by
  unfold k0_pay5; pointwise; rfl
theorem pay6_at (x : Vec Ideal S768x128 .f32) (y : Fin 768) (d : Fin 128) :
    (k0_pay6 (F := Ideal) x (ix3 (0 : Fin 1) y d) : EReal) = x (ix2 y d) := by
  unfold k0_pay6; pointwise

/-! ## One block's step -/

section Steps
variable (x2 : Vec Ideal S1x8448x256 .bf16) (x3 : Vec Ideal S1x8448x128 .bf16) (x4 x5 : Vec Ideal S1x11x1x768 .f32)
  (x6 : Vec Ideal S1x768x256 .bf16) (x7 : Vec Ideal S1x768x128 .bf16)

/-- The weight and the score's cotangent of row `i` at key `y` of tile `j`. -/
def pT (j : ℕ) (y : Fin 768) (i : Fin 8448) : EReal := pI (rowsQ x2) (rowsL x4) (rowsK x6 y) (768 * j + y.val) i
def dsT (j : ℕ) (y : Fin 768) (i : Fin 8448) : EReal :=
  dsI (rowsQ x2) (rowsL x4) (rowsK x6 y) (rowsD x3) (rowsL x5) (rowsV x7 y) (768 * j + y.val) i

theorem p_step {j b : ℕ} (hj : j < b) (hb : b < 11) (y r : Fin 768) :
    (k0_pay9 (F := Ideal) (k0_pay20 x6) (rq x2 b) (rl x4 b) (ix2 y r) : EReal) = pT x2 x4 x6 j y (row b r) := by
  have e := row_val hb r
  rw [pay9_at, pT, pI, if_pos (by omega), rl_at x4 hb]
  simp only [pay20_at]
  rfl

theorem p_diag {b : ℕ} (hb : b < 11) (y r : Fin 768) :
    (k0_pay27 (F := Ideal) (k0_pay26 x6 (rq x2 b)) (rl x4 b) (ix2 y r) : EReal) = pT x2 x4 x6 b y (row b r) := by
  have e := row_val hb r
  rw [pay27_at, pay26_at, pT, pI, rl_at x4 hb]
  by_cases h : y.val ≤ r.val
  · rw [if_pos h, if_pos (by omega)]; rfl
  · rw [if_neg h, if_neg (by omega)]

theorem ds_step {j b : ℕ} (hj : j < b) (hb : b < 11) (y r : Fin 768) :
    (k0_pay11 (F := Ideal) (k0_pay20 x6) (k0_pay21 x7) (rq x2 b) (rd x3 b) (rl x4 b) (rl x5 b) (ix2 y r) : EReal) = dsT x2 x3 x4 x5 x6 x7 j y (row b r) := by
  rw [pay11_at, p_step x2 x4 x6 hj hb, rl_at x5 hb]
  simp only [pay21_at]
  rfl

theorem ds_diag {b : ℕ} (hb : b < 11) (y r : Fin 768) :
    (k0_pay29 (F := Ideal) (k0_pay21 x7) (k0_pay25 (rd x3 b)) (k0_pay26 x6 (rq x2 b)) (rl x4 b) (rl x5 b) (ix2 y r) : EReal) = dsT x2 x3 x4 x5 x6 x7 b y (row b r) := by
  rw [pay29_at, p_diag x2 x4 x6 hb, rl_at x5 hb]
  simp only [pay21_at, pay25_at]
  rfl

theorem step_dv {j b : ℕ} (hj : j < b) (hb : b < 11) (s : St Ideal) (y : Fin 768) (d : Fin 128) :
    ((step x2 x3 x4 x5 (k0_pay20 x6) (k0_pay21 x7) b s).2.2 (ix2 y d) : EReal)
      = s.2.2 (ix2 y d) + ∑ r : Fin 768, pT x2 x4 x6 j y (row b r) * rowsD x3 (row b r) d := by
  show (k0_pay10 (F := Ideal) _ _ _ _ _ (ix2 y d) : EReal) = _
  rw [pay10_at]
  simp only [p_step x2 x4 x6 hj hb]
  rfl

theorem step_dk {j b : ℕ} (hj : j < b) (hb : b < 11) (s : St Ideal) (y : Fin 768) (d : Fin 256) :
    ((step x2 x3 x4 x5 (k0_pay20 x6) (k0_pay21 x7) b s).2.1 (ix2 y d) : EReal)
      = s.2.1 (ix2 y d) + ∑ r : Fin 768, dsT x2 x3 x4 x5 x6 x7 j y (row b r) * rowsQ x2 (row b r) d := by
  show (k0_pay1 (F := Ideal) (k0_pay12 (F := Ideal) _ _ _ _ _ _ _) (ix2 y d) : EReal) = _
  rw [pay12_at]
  simp only [ds_step x2 x3 x4 x5 x6 x7 hj hb]
  rfl

theorem diag_dv {b : ℕ} (hb : b < 11) (s : St Ideal) (y : Fin 768) (d : Fin 128) :
    ((diag x2 x3 x4 x5 x6 x7 b s).2.2 (ix2 y d) : EReal)
      = s.2.2 (ix2 y d) + ∑ r : Fin 768, pT x2 x4 x6 b y (row b r) * rowsD x3 (row b r) d := by
  show (k0_pay28 (F := Ideal) _ _ _ _ (ix2 y d) : EReal) = _
  rw [pay28_at]
  simp only [p_diag x2 x4 x6 hb, pay25_at]
  rfl

theorem diag_dk {b : ℕ} (hb : b < 11) (s : St Ideal) (y : Fin 768) (d : Fin 256) :
    ((diag x2 x3 x4 x5 x6 x7 b s).2.1 (ix2 y d) : EReal)
      = s.2.1 (ix2 y d) + ∑ r : Fin 768, dsT x2 x3 x4 x5 x6 x7 b y (row b r) * rowsQ x2 (row b r) d := by
  show (k0_pay30 (F := Ideal) _ _ _ _ _ _ _ (ix2 y d) : EReal) = _
  rw [pay30_at]
  simp only [ds_diag x2 x3 x4 x5 x6 x7 hb, pay24_at]
  rfl

/-- A row inside block `b` is replaced, the others stand. -/
theorem putq_row (w : Vec Ideal S1x768x256 .f32) {b : ℕ} (hb : b < 11) (x : Vec Ideal S1x8448x256 .f32) (r : Fin 768) (d : Fin 256) :
    (putq w b x (ix3 (0 : Fin 1) (row b r) d) : EReal) = w (ix3 (0 : Fin 1) r d) := by
  have e := row_val hb r
  refine (dif_pos (show 768 * b ≤ (row b r).val ∧ (row b r).val < 768 * b + 768 by omega)).trans ?_
  exact congrArg (fun a => w (ix3 (0 : Fin 1) a d)) (Fin.ext (show (row b r).val - 768 * b = r.val by omega))

theorem putq_ne (w : Vec Ideal S1x768x256 .f32) {b : ℕ} (x : Vec Ideal S1x8448x256 .f32) (i : Fin 8448) (h : i.val / 768 ≠ b) (d : Fin 256) :
    (putq w b x (ix3 (0 : Fin 1) i d) : EReal) = x (ix3 (0 : Fin 1) i d) := by
  exact dif_neg (show ¬(768 * b ≤ i.val ∧ i.val < 768 * b + 768) by omega)

theorem rq_at (x : Vec Ideal S1x8448x256 .f32) (b : ℕ) (r : Fin 768) (d : Fin 256) :
    (rq x b (ix3 (0 : Fin 1) r d) : EReal) = x (ix3 (0 : Fin 1) (row b r) d) := rfl

theorem row_of {b : ℕ} {i : Fin 8448} (h : i.val / 768 = b) : i = row b ⟨i.val % 768, Nat.mod_lt _ (by decide)⟩ := by
  have hb : b < 11 := by omega
  refine Fin.ext ?_
  rw [row_val hb]
  show i.val = 768 * b + i.val % 768
  omega

theorem step_dq {j b : ℕ} (hj : j < b) (hb : b < 11) (s : St Ideal) (i : Fin 8448) (d : Fin 256) :
    ((step x2 x3 x4 x5 (k0_pay20 x6) (k0_pay21 x7) b s).1 (ix3 (0 : Fin 1) i d) : EReal)
      = s.1 (ix3 (0 : Fin 1) i d) + if i.val / 768 = b then ∑ y : Fin 768, dsT x2 x3 x4 x5 x6 x7 j y i * rowsK x6 y d else 0 := by
  by_cases h : i.val / 768 = b
  · rw [if_pos h, row_of h]
    show (putq (F := Ideal) (e := .f32) _ b _ _ : EReal) = _
    rw [putq_row _ hb, pay2_at, rq_at]
    simp only [ds_step x2 x3 x4 x5 x6 x7 hj hb, pay20_at]
  · rw [if_neg h, add_zero]
    show (putq (F := Ideal) (e := .f32) _ b _ _ : EReal) = _
    rw [putq_ne _ _ _ h]

theorem diag_dq {b : ℕ} (hb : b < 11) (s : St Ideal) (i : Fin 8448) (d : Fin 256) :
    ((diag x2 x3 x4 x5 x6 x7 b s).1 (ix3 (0 : Fin 1) i d) : EReal)
      = s.1 (ix3 (0 : Fin 1) i d) + if i.val / 768 = b then ∑ y : Fin 768, dsT x2 x3 x4 x5 x6 x7 b y i * rowsK x6 y d else 0 := by
  by_cases h : i.val / 768 = b
  · rw [if_pos h, row_of h]
    show (putq (F := Ideal) (e := .f32) _ b _ _ : EReal) = _
    rw [putq_row _ hb, pay31_at, rq_at]
    simp only [ds_diag x2 x3 x4 x5 x6 x7 hb, pay20_at]
  · rw [if_neg h, add_zero]
    show (putq (F := Ideal) (e := .f32) _ b _ _ : EReal) = _
    rw [putq_ne _ _ _ h]

/-! ## The whole tile -/

theorem steps_dv {j : ℕ} (s : St Ideal) (y : Fin 768) (d : Fin 128) : ∀ k : ℕ, j + k < 11 →
    ((steps x2 x3 x4 x5 (k0_pay20 x6) (k0_pay21 x7) j s k).2.2 (ix2 y d) : EReal)
      = s.2.2 (ix2 y d) + ∑ t ∈ Finset.range k, ∑ r : Fin 768, pT x2 x4 x6 j y (row (j + 1 + t) r) * rowsD x3 (row (j + 1 + t) r) d
  | 0, _ => by simp [steps]
  | k + 1, h => by
    rw [steps, step_dv x2 x3 x4 x5 x6 x7 (show j < j + 1 + k by omega) (by omega), steps_dv s y d k (by omega), Finset.sum_range_succ, add_assoc]

theorem steps_dk {j : ℕ} (s : St Ideal) (y : Fin 768) (d : Fin 256) : ∀ k : ℕ, j + k < 11 →
    ((steps x2 x3 x4 x5 (k0_pay20 x6) (k0_pay21 x7) j s k).2.1 (ix2 y d) : EReal)
      = s.2.1 (ix2 y d) + ∑ t ∈ Finset.range k, ∑ r : Fin 768, dsT x2 x3 x4 x5 x6 x7 j y (row (j + 1 + t) r) * rowsQ x2 (row (j + 1 + t) r) d
  | 0, _ => by simp [steps]
  | k + 1, h => by
    rw [steps, step_dk x2 x3 x4 x5 x6 x7 (show j < j + 1 + k by omega) (by omega), steps_dk s y d k (by omega), Finset.sum_range_succ, add_assoc]

theorem steps_dq {j : ℕ} (s : St Ideal) (i : Fin 8448) (d : Fin 256) : ∀ k : ℕ, j + k < 11 →
    ((steps x2 x3 x4 x5 (k0_pay20 x6) (k0_pay21 x7) j s k).1 (ix3 (0 : Fin 1) i d) : EReal)
      = s.1 (ix3 (0 : Fin 1) i d) + if j < i.val / 768 ∧ i.val / 768 ≤ j + k then ∑ y : Fin 768, dsT x2 x3 x4 x5 x6 x7 j y i * rowsK x6 y d else 0
  | 0, _ => by rw [steps, if_neg (by omega), add_zero]
  | k + 1, h => by
    rw [steps, step_dq x2 x3 x4 x5 x6 x7 (show j < j + 1 + k by omega) (by omega), steps_dq s i d k (by omega), add_assoc]
    congr 1
    by_cases h1 : i.val / 768 = j + 1 + k
    · rw [if_neg (by omega), if_pos h1, if_pos (by omega), zero_add]
    · rw [if_neg h1, add_zero]
      exact if_congr (by omega) rfl rfl

/-- Sums over the rows from tile `j` on are sums over all rows, where the earlier ones add nothing. -/
theorem sum_rows (f : Fin 8448 → EReal) {j : ℕ} (hj : j < 11) (h0 : ∀ i : Fin 8448, i.val < 768 * j → f i = 0) :
    (∑ r : Fin 768, f (row j r)) + (∑ t ∈ Finset.range (10 - j), ∑ r : Fin 768, f (row (j + 1 + t) r)) = ∑ i : Fin 8448, f i := by
  have e1 : ∑ i : Fin 8448, f i = ∑ b : Fin 11, ∑ r : Fin 768, f (row b.val r) := by
    rw [← Finset.sum_product', Finset.univ_product_univ]
    refine (Finset.sum_bij (fun (p : Fin 11 × Fin 768) _ => row p.1.val p.2) (fun _ _ => Finset.mem_univ _) ?_ ?_ (fun _ _ => rfl)).symm
    · intro a _ b _ hab
      have ea := row_val a.1.isLt a.2
      have eb := row_val b.1.isLt b.2
      have hv : (row a.1.val a.2).val = (row b.1.val b.2).val := congrArg Fin.val hab
      refine Prod.ext (Fin.ext ?_) (Fin.ext ?_) <;> omega
    · intro i _
      exact ⟨(⟨i.val / 768, by omega⟩, ⟨i.val % 768, Nat.mod_lt _ (by decide)⟩), Finset.mem_univ _, (row_of rfl).symm⟩
  rw [e1, Fin.sum_univ_eq_sum_range (fun b => ∑ r : Fin 768, f (row b r)) 11,
    ← Finset.sum_range_add_sum_Ico _ (show j ≤ 11 by omega)]
  rw [Finset.sum_eq_zero (s := Finset.range j) (fun b hb => Finset.sum_eq_zero fun r _ => h0 _ (by
    have hb' := Finset.mem_range.mp hb
    rw [row_val (by omega)]; omega)), zero_add, Finset.sum_Ico_eq_sum_range, show 11 - j = (10 - j) + 1 by omega, Finset.sum_range_succ']
  rw [add_comm]
  refine congr (congrArg _ (Finset.sum_congr rfl fun t _ => ?_)) rfl
  rw [show j + 1 + t = j + (t + 1) by omega]

theorem fin_dv {j : ℕ} (hj : j < 11) (x8 : Vec Ideal S1x8448x256 .f32) (y : Fin 768) (d : Fin 128) :
    ((fin x2 x3 x4 x5 x6 x7 j x8).2.2 (ix2 y d) : EReal) = ∑ i : Fin 8448, pT x2 x4 x6 j y i * rowsD x3 i d := by
  rw [fin, steps_dv x2 x3 x4 x5 x6 x7 _ y d _ (by omega), diag_dv x2 x3 x4 x5 x6 x7 hj]
  show (k0_pay23 (F := Ideal) (ix2 y d) : EReal) + _ + _ = _
  rw [pay23_at, zero_add]
  exact sum_rows (fun i => pT x2 x4 x6 j y i * rowsD x3 i d) hj fun i hi => by
    show pT x2 x4 x6 j y i * rowsD x3 i d = 0
    rw [pT, pI_of_lt (by omega), zero_mul]

theorem fin_dk {j : ℕ} (hj : j < 11) (x8 : Vec Ideal S1x8448x256 .f32) (y : Fin 768) (d : Fin 256) :
    ((fin x2 x3 x4 x5 x6 x7 j x8).2.1 (ix2 y d) : EReal) = ∑ i : Fin 8448, dsT x2 x3 x4 x5 x6 x7 j y i * rowsQ x2 i d := by
  rw [fin, steps_dk x2 x3 x4 x5 x6 x7 _ y d _ (by omega), diag_dk x2 x3 x4 x5 x6 x7 hj]
  show (k0_pay22 (F := Ideal) (ix2 y d) : EReal) + _ + _ = _
  rw [pay22_at, zero_add]
  exact sum_rows (fun i => dsT x2 x3 x4 x5 x6 x7 j y i * rowsQ x2 i d) hj fun i hi => by
    show dsT x2 x3 x4 x5 x6 x7 j y i * rowsQ x2 i d = 0
    rw [dsT, dsI_of_lt (by omega), zero_mul]

theorem fin_dq {j : ℕ} (hj : j < 11) (x8 : Vec Ideal S1x8448x256 .f32) (i : Fin 8448) (d : Fin 256) :
    ((fin x2 x3 x4 x5 x6 x7 j x8).1 (ix3 (0 : Fin 1) i d) : EReal)
      = x8 (ix3 (0 : Fin 1) i d) + ∑ y : Fin 768, dsT x2 x3 x4 x5 x6 x7 j y i * rowsK x6 y d := by
  rw [fin, steps_dq x2 x3 x4 x5 x6 x7 _ i d _ (by omega), diag_dq x2 x3 x4 x5 x6 x7 hj]
  show (x8 (ix3 (0 : Fin 1) i d) : EReal) + _ + _ = _
  rw [add_assoc]
  congr 1
  by_cases h1 : i.val / 768 = j
  · rw [if_pos h1, if_neg (by omega), add_zero]
  · rw [if_neg h1, zero_add]
    by_cases h2 : j < i.val / 768
    · rw [if_pos (by omega)]
    · rw [if_neg (by omega)]
      refine (Finset.sum_eq_zero fun y _ => ?_).symm
      rw [dsT, dsI_of_lt (by omega), zero_mul]

end Steps

end Cert.Proof.Flash
end
-- ==== Proof.FlashMath.lean ====
module

public import proofs.«01_k».proof.Proof.Common

/-! A masked softmax row over the reals, and its gradient, as the two programs spell them. -/

@[expose] public section
noncomputable section
namespace Cert.Proof.Flash

open Idealize.ShloMosaic

/-- A scale word is a real number. -/
def sc : ℝ := EReal.toReal (Ideal.ofBits .f32 0x3D93CD3A#32)

theorem two_word : Ideal.ofBits .f32 0x40000000#32 = ((2 : ℝ) : EReal) := by
  simp [Ideal.ofBits, Ideal.ieee, -EReal.coe_mul]; norm_num
theorem one_word : Ideal.ofBits .f32 0x3F800000#32 = ((1 : ℝ) : EReal) := by
  simp [Ideal.ofBits, Ideal.ieee, -EReal.coe_mul]; norm_num
theorem bot_word : Ideal.ofBits .f32 0xFF800000#32 = ⊥ := by
  simp [Ideal.ofBits, Ideal.ieee]
theorem zero_word : Ideal.ofBits .f32 0x00000000#32 = 0 := by
  simp [Ideal.ofBits, Ideal.ieee]
theorem scale_word : Ideal.ofBits .f32 0x3D93CD3A#32 = (sc : EReal) := by
  rw [sc, EReal.coe_toReal] <;> simp [Ideal.ofBits, Ideal.ieee, -EReal.coe_mul]

/-- The greatest of finitely many values, each real or −∞ and one of them real, is real. -/
theorem foldMax_real {ι : Type*} [Fintype ι] (f : ι → EReal) (r : ι → ℝ) (i0 : ι) (hf : ∀ i, f i = ⊥ ∨ f i = (r i : EReal))
    (h0 : f i0 = (r i0 : EReal)) : ∃ M : ℝ, (Finset.univ : Finset ι).fold max ⊥ f = (M : EReal) := by
  obtain ⟨i, -, hi⟩ := Finset.exists_mem_eq_sup (Finset.univ : Finset ι) ⟨i0, Finset.mem_univ _⟩ f
  have hs : (Finset.univ : Finset ι).fold max ⊥ f = f i := hi
  rcases hf i with h | h
  · have hle : f i0 ≤ Finset.univ.sup f := Finset.le_sup (Finset.mem_univ i0)
    rw [hi, h, h0, le_bot_iff] at hle
    exact absurd hle (EReal.coe_ne_bot _)
  · exact ⟨r i, hs.trans h⟩

variable {ι : Type*} [Fintype ι] (s : ι → ℝ) (c : ι → Prop) [DecidablePred c]

/-- A masked row's exponentials relative to `M`, and its normalised weights. -/
def ex (M : ℝ) (i : ι) : ℝ := if c i then Real.exp (s i - M) else 0
def wt (i : ι) : ℝ := ex s c 0 i / ∑ j, ex s c 0 j

theorem ex_shift (M : ℝ) (i : ι) : ex s c M i = ex s c 0 i * Real.exp (-M) := by
  unfold ex
  split
  · rw [← Real.exp_add]; congr 1; ring
  · rw [zero_mul]

theorem ex_sum_pos (M : ℝ) {i0 : ι} (h : c i0) : 0 < ∑ j, ex s c M j := by
  refine Finset.sum_pos' (fun i _ => ?_) ⟨i0, Finset.mem_univ _, ?_⟩
  · unfold ex
    split
    · exact (Real.exp_pos _).le
    · exact le_rfl
  · rw [ex, if_pos h]
    exact Real.exp_pos _

/-- The weights do not depend on the value that the exponents are taken relative to. -/
theorem wt_eq (M : ℝ) (i : ι) : ex s c M i / ∑ j, ex s c M j = wt s c i := by
  simp_rw [ex_shift s c M]
  rw [← Finset.sum_mul, mul_div_mul_right _ _ (Real.exp_pos _).ne', wt]

/-- The masked exponential over the extended reals. -/
theorem exp_masked (M : ℝ) (i : ι) : Ideal.exp ((if c i then (s i : EReal) else ⊥) - (M : EReal)) = (ex s c M i : EReal) := by
  unfold ex
  by_cases h : c i
  · rw [if_pos h, if_pos h, ← EReal.coe_sub]; rfl
  · rw [if_neg h, if_neg h, EReal.bot_sub]; rfl

theorem log2_pos : 0 < Real.log 2 := Real.log_pos (by norm_num)

/-- The same with the row's values in units of log 2. -/
theorem exp_masked2 (M : ℝ) (i : ι) :
    Ideal.exp (((Real.log 2 : ℝ) : EReal) * ((if c i then ((s i / Real.log 2 : ℝ) : EReal) else ⊥) - (M : EReal)))
      = (ex s c (Real.log 2 * M) i : EReal) := by
  unfold ex
  by_cases h : c i
  · rw [if_pos h, if_pos h, ← EReal.coe_sub, ← EReal.coe_mul]
    show ((Real.exp _ : ℝ) : EReal) = _
    rw [mul_sub, mul_div_cancel₀ _ log2_pos.ne']
  · rw [if_neg h, if_neg h, EReal.bot_sub, EReal.coe_mul_bot_of_pos log2_pos]; rfl

/-- The weight recovered from the row's logarithm in base two. -/
theorem exp2_lse (M : ℝ) {i : ι} (h : c i) :
    Ideal.exp2 (((s i / Real.log 2 : ℝ) : EReal) - ((M + Real.log (∑ j, ex s c (Real.log 2 * M) j) / Real.log 2 : ℝ) : EReal))
      = (wt s c i : EReal) := by
  have hS := ex_sum_pos s c (Real.log 2 * M) h
  rw [← EReal.coe_sub]
  show ((Real.rpow 2 _ : ℝ) : EReal) = _
  congr 1
  show (2 : ℝ) ^ (_ : ℝ) = _
  rw [Real.rpow_def_of_pos (by norm_num), ← wt_eq s c (Real.log 2 * M), ex, if_pos h, eq_div_iff hS.ne', ← Real.exp_log hS]
  rw [Real.log_exp, ← Real.exp_add]
  congr 1
  have := log2_pos.ne'
  field_simp
  ring

/-- The softmax's gradient at one key as differentiation spells it. -/
theorem grad_row (g : ι → ℝ) (M : ℝ) {i0 : ι} (h : c i0) (i : ι) :
    (g i / (∑ j, ex s c M j) + -(∑ j, g j * (1 / ((∑ k, ex s c M k) * ∑ k, ex s c M k)) * ex s c M j)) * ex s c M i
      = wt s c i * (g i - ∑ j, wt s c j * g j) := by
  have hS := (ex_sum_pos s c M h).ne'
  simp_rw [← wt_eq s c M]
  generalize (∑ j, ex s c M j) = S at hS ⊢
  have e : (∑ j, g j * (1 / (S * S)) * ex s c M j) = (∑ j, ex s c M j / S * g j) / S := by
    rw [Finset.sum_div]
    exact Finset.sum_congr rfl fun j _ => by field_simp
  rw [e]
  field_simp
  ring

end Cert.Proof.Flash
end
-- ==== Proof.FlashReal.lean ====
module

public import proofs.«01_k».proof.Proof.FlashMath

/-! The attention gradient over the reals: on the padded arrays that the kernel works on it is the gradient on the arguments, and zero
beyond them. -/

@[expose] public section
noncomputable section
namespace Cert.Proof.Flash

variable (a0 : Fin 8208 → Fin 8 → Fin 128 → ℝ) (a1 : Fin 8208 → Fin 8 → Fin 64 → ℝ) (a2 : Fin 8208 → Fin 8 → Fin 128 → ℝ)
  (a3 : Fin 8208 → Fin 64 → ℝ) (a4 a5 : Fin 8208 → Fin 8 → Fin 128 → ℝ)

/-! ## On the arguments -/

/-- Scaled queries and keys, their rotary columns last. -/
def qc (h : Fin 8) (i : Fin 8208) (d : Fin 192) : ℝ :=
  (if hd : d.val < 128 then a0 i h ⟨d.val, hd⟩ else a1 i h ⟨d.val - 128, by omega⟩) * sc
def kc (h : Fin 8) (n : Fin 8208) (d : Fin 192) : ℝ := if hd : d.val < 128 then a2 n h ⟨d.val, hd⟩ else a3 n ⟨d.val - 128, by omega⟩
/-- Scores, causal weights, the weights' cotangents and the scores' cotangents. -/
def so (h : Fin 8) (i n : Fin 8208) : ℝ := ∑ d : Fin 192, qc a0 a1 h i d * kc a2 a3 h n d
def We (h : Fin 8) (i n : Fin 8208) : ℝ := wt (so a0 a1 a2 a3 h i) (fun j : Fin 8208 => j.val ≤ i.val) n
def gr (h : Fin 8) (i n : Fin 8208) : ℝ := ∑ d : Fin 128, a5 i h d * a4 n h d
def De (h : Fin 8) (i n : Fin 8208) : ℝ :=
  We a0 a1 a2 a3 h i n * (gr a4 a5 h i n - ∑ j : Fin 8208, We a0 a1 a2 a3 h i j * gr a4 a5 h i j)

/-! ## On the padded arrays -/

def qz (h : Fin 8) (i : Fin 8448) (d : Fin 256) : ℝ :=
  if hh : i.val < 8208 ∧ d.val < 192 then qc a0 a1 h ⟨i.val, hh.1⟩ ⟨d.val, hh.2⟩ / Real.log 2 else 0
def kz (h : Fin 8) (n : Fin 8448) (d : Fin 256) : ℝ :=
  if hh : n.val < 8208 ∧ d.val < 192 then kc a2 a3 h ⟨n.val, hh.1⟩ ⟨d.val, hh.2⟩ else 0
/-- A padded array of one value per row, head and column. -/
def rz (a : Fin 8208 → Fin 8 → Fin 128 → ℝ) (h : Fin 8) (n : Fin 8448) (d : Fin 128) : ℝ := if hn : n.val < 8208 then a ⟨n.val, hn⟩ h d else 0
def tz (h : Fin 8) (i n : Fin 8448) : ℝ := (∑ d : Fin 256, qz a0 a1 h i d * kz a2 a3 h n d) * Real.log 2
def Wz (h : Fin 8) (i n : Fin 8448) : ℝ := wt (tz a0 a1 a2 a3 h i) (fun j : Fin 8448 => j.val ≤ i.val) n
def gz (h : Fin 8) (i n : Fin 8448) : ℝ := ∑ d : Fin 128, rz a4 h n d * rz a5 h i d
def Dz (h : Fin 8) (i n : Fin 8448) : ℝ :=
  Wz a0 a1 a2 a3 h i n * (gz a4 a5 h i n - ∑ j : Fin 8448, Wz a0 a1 a2 a3 h i j * gz a4 a5 h i j)

/-- An index of the arguments among the padded ones. -/
def up (i : Fin 8208) : Fin 8448 := ⟨i.val, by omega⟩

theorem tz_up (h : Fin 8) (i n : Fin 8208) : tz a0 a1 a2 a3 h (up i) (up n) = so a0 a1 a2 a3 h i n := by
  rw [tz, so, sum_pad (show 192 ≤ 256 by omega) _ (fun d : Fin 192 => qc a0 a1 h i d * kc a2 a3 h n d / Real.log 2), ← Finset.sum_div,
    div_mul_cancel₀ _ log2_pos.ne']
  · intro d
    rw [qz, kz, dif_pos ⟨i.isLt, d.isLt⟩, dif_pos ⟨n.isLt, d.isLt⟩]
    show qc a0 a1 h i d / Real.log 2 * kc a2 a3 h n d = _
    ring
  · intro d hd
    rw [qz, dif_neg (by omega), zero_mul]

theorem ex_up (h : Fin 8) (i n : Fin 8208) : ex (tz a0 a1 a2 a3 h (up i)) (fun j : Fin 8448 => j.val ≤ (up i).val) 0 (up n)
    = ex (so a0 a1 a2 a3 h i) (fun j : Fin 8208 => j.val ≤ i.val) 0 n := by
  rw [ex, ex, tz_up]
  rfl

theorem ex_out (h : Fin 8) (i : Fin 8208) (n : Fin 8448) (hn : 8208 ≤ n.val) :
    ex (tz a0 a1 a2 a3 h (up i)) (fun j : Fin 8448 => j.val ≤ (up i).val) 0 n = 0 := by
  rw [ex, if_neg]
  show ¬ n.val ≤ i.val
  omega

theorem Wz_up (h : Fin 8) (i n : Fin 8208) : Wz a0 a1 a2 a3 h (up i) (up n) = We a0 a1 a2 a3 h i n := by
  rw [Wz, We, wt, wt, ex_up, sum_pad (show 8208 ≤ 8448 by omega) _ _ (fun n => ex_up a0 a1 a2 a3 h i n) (ex_out a0 a1 a2 a3 h i)]

theorem Wz_out (h : Fin 8) (i : Fin 8208) (n : Fin 8448) (hn : 8208 ≤ n.val) : Wz a0 a1 a2 a3 h (up i) n = 0 := by
  rw [Wz, wt, ex_out a0 a1 a2 a3 h i n hn, zero_div]

theorem rz_up (a : Fin 8208 → Fin 8 → Fin 128 → ℝ) (h : Fin 8) (n : Fin 8208) (d : Fin 128) : rz a h (up n) d = a n h d := by
  rw [rz, dif_pos (show (up n).val < 8208 from n.isLt)]
  rfl
theorem rz_out (a : Fin 8208 → Fin 8 → Fin 128 → ℝ) (h : Fin 8) (n : Fin 8448) (d : Fin 128) (hn : 8208 ≤ n.val) : rz a h n d = 0 := by
  rw [rz, dif_neg (by omega)]

theorem gz_up (h : Fin 8) (i n : Fin 8208) : gz a4 a5 h (up i) (up n) = gr a4 a5 h i n := by
  rw [gz, gr]
  exact Finset.sum_congr rfl fun d _ => by rw [rz_up, rz_up, mul_comm]
theorem gz_out (h : Fin 8) (i n : Fin 8448) (hi : 8208 ≤ i.val) : gz a4 a5 h i n = 0 := by
  rw [gz]
  exact Finset.sum_eq_zero fun d _ => by rw [rz_out a5 h i d hi, mul_zero]

theorem Dz_up (h : Fin 8) (i n : Fin 8208) : Dz a0 a1 a2 a3 a4 a5 h (up i) (up n) = De a0 a1 a2 a3 a4 a5 h i n := by
  rw [Dz, De, Wz_up, gz_up, sum_pad (show 8208 ≤ 8448 by omega) _ (fun j : Fin 8208 => We a0 a1 a2 a3 h i j * gr a4 a5 h i j)]
  · intro j
    show Wz a0 a1 a2 a3 h (up i) (up j) * gz a4 a5 h (up i) (up j) = _
    rw [Wz_up, gz_up]
  · intro j hj
    rw [Wz_out a0 a1 a2 a3 h i j hj, zero_mul]
theorem Dz_key (h : Fin 8) (i : Fin 8208) (n : Fin 8448) (hn : 8208 ≤ n.val) : Dz a0 a1 a2 a3 a4 a5 h (up i) n = 0 := by
  rw [Dz, Wz_out a0 a1 a2 a3 h i n hn, zero_mul]
theorem Dz_row (h : Fin 8) (i n : Fin 8448) (hi : 8208 ≤ i.val) : Dz a0 a1 a2 a3 a4 a5 h i n = 0 := by
  rw [Dz, gz_out a4 a5 h i n hi, Finset.sum_eq_zero fun j _ => by rw [gz_out a4 a5 h i j hi, mul_zero], sub_zero, mul_zero]

/-! ## The results -/

theorem dq_real (h : Fin 8) (i : Fin 8448) (d : Fin 256) : ∑ n : Fin 8448, Dz a0 a1 a2 a3 a4 a5 h i n * kz a2 a3 h n d =
    if hh : i.val < 8208 ∧ d.val < 192 then ∑ n : Fin 8208, De a0 a1 a2 a3 a4 a5 h ⟨i.val, hh.1⟩ n * kc a2 a3 h n ⟨d.val, hh.2⟩ else 0 := by
  by_cases hh : i.val < 8208 ∧ d.val < 192
  · rw [dif_pos hh]
    refine sum_pad (show 8208 ≤ 8448 by omega) _ _ (fun n => ?_) fun n hn => ?_
    · rw [← Dz_up, kz, dif_pos ⟨n.isLt, hh.2⟩]
      rfl
    · rw [kz, dif_neg (by omega), mul_zero]
  · rw [dif_neg hh]
    refine Finset.sum_eq_zero fun n _ => ?_
    by_cases hi : i.val < 8208
    · rw [kz, dif_neg (fun hc => hh ⟨hi, hc.2⟩), mul_zero]
    · rw [Dz_row a0 a1 a2 a3 a4 a5 h i n (by omega), zero_mul]

theorem dk_real (h : Fin 8) (n : Fin 8448) (d : Fin 256) : (∑ i : Fin 8448, Dz a0 a1 a2 a3 a4 a5 h i n * qz a0 a1 h i d) * Real.log 2 =
    if hh : n.val < 8208 ∧ d.val < 192 then ∑ i : Fin 8208, De a0 a1 a2 a3 a4 a5 h i ⟨n.val, hh.1⟩ * qc a0 a1 h i ⟨d.val, hh.2⟩ else 0 := by
  by_cases hh : n.val < 8208 ∧ d.val < 192
  · rw [dif_pos hh, sum_pad (show 8208 ≤ 8448 by omega) _
      (fun i : Fin 8208 => De a0 a1 a2 a3 a4 a5 h i ⟨n.val, hh.1⟩ * qc a0 a1 h i ⟨d.val, hh.2⟩ / Real.log 2), ← Finset.sum_div,
      div_mul_cancel₀ _ log2_pos.ne']
    · intro i
      rw [← Dz_up, qz, dif_pos ⟨i.isLt, hh.2⟩]
      exact (mul_div_assoc _ _ _).symm
    · intro i hi
      rw [Dz_row a0 a1 a2 a3 a4 a5 h i n hi, zero_mul]
  · rw [dif_neg hh, Finset.sum_eq_zero, zero_mul]
    intro i _
    by_cases hi : i.val < 8208
    · by_cases hn : n.val < 8208
      · rw [qz, dif_neg (fun hc => hh ⟨hn, hc.2⟩), mul_zero]
      · rw [show i = up ⟨i.val, hi⟩ from rfl, Dz_key a0 a1 a2 a3 a4 a5 h ⟨i.val, hi⟩ n (by omega), zero_mul]
    · rw [Dz_row a0 a1 a2 a3 a4 a5 h i n (by omega), zero_mul]

theorem dv_real (h : Fin 8) (n : Fin 8448) (d : Fin 128) : ∑ i : Fin 8448, Wz a0 a1 a2 a3 h i n * rz a5 h i d =
    if hn : n.val < 8208 then ∑ i : Fin 8208, We a0 a1 a2 a3 h i ⟨n.val, hn⟩ * a5 i h d else 0 := by
  by_cases hn : n.val < 8208
  · rw [dif_pos hn]
    refine sum_pad (show 8208 ≤ 8448 by omega) _ _ (fun i => ?_) fun i hi => ?_
    · rw [← Wz_up, ← rz_up a5]
      rfl
    · rw [rz_out a5 h i d hi, mul_zero]
  · rw [dif_neg hn]
    refine Finset.sum_eq_zero fun i _ => ?_
    by_cases hi : i.val < 8208
    · rw [show i = up ⟨i.val, hi⟩ from rfl, Wz_out a0 a1 a2 a3 h ⟨i.val, hi⟩ n (by omega), zero_mul]
    · rw [rz_out a5 h i d (by omega), mul_zero]

end Cert.Proof.Flash
end
-- ==== Proof.FwdTile.lean ====
module

public import proofs.«01_k».proof.Proof.FwdRun
public import proofs.«01_k».proof.Proof.FlashTile
public import proofs.«01_k».proof.Proof.FlashReal
public import proofs.«01_k».proof.Proof.NormMath

/-! One grid point of the forward attention over the reals. The running maximum is some real, the running sum and the
running weighted sum are the sums of the exponentials of the scores seen so far, both scaled by the exponential of that
maximum; dividing at the end, the scale cancels. -/

@[expose] public section
set_option maxRecDepth 16384
noncomputable section
namespace Cert.Proof.Fwd

open Idealize.ShloMosaic Idealize.ShloMosaic.TcCoe Idealize.SL.Sem
open Cert.Proof Cert.Proof.Flash
open Cert.FlashFwdIdeal Cert.FlashFwdIdeal.Gen

/-! ## The exponentials -/

theorem exp2_masked {ι : Type*} (s : ι → ℝ) (c : ι → Prop) [DecidablePred c] (M : ℝ) (i : ι) :
    Ideal.exp2 ((if c i then ((s i / Real.log 2 : ℝ) : EReal) else ⊥) - (M : EReal)) = ((ex s c 0 i * Real.exp (-(Real.log 2 * M)) : ℝ) : EReal) := by
  unfold ex
  by_cases h : c i
  · rw [if_pos h, if_pos h, ← EReal.coe_sub]
    show ((Real.rpow 2 _ : ℝ) : EReal) = _
    refine congrArg Real.toEReal ?_
    rw [Real.rpow_eq_pow, Real.rpow_def_of_pos two_pos, ← Real.exp_add]
    congr 1
    have := log2_pos.ne'
    field_simp
    ring
  · rw [if_neg h, if_neg h, EReal.bot_sub, zero_mul]
    exact exp2_bot

theorem exp2_shift (M N X : ℝ) : Ideal.exp2 ((M : EReal) - (N : EReal)) * ((X * Real.exp (-(Real.log 2 * M)) : ℝ) : EReal) = ((X * Real.exp (-(Real.log 2 * N)) : ℝ) : EReal) := by
  rw [← EReal.coe_sub]
  show ((Real.rpow 2 _ : ℝ) : EReal) * _ = _
  rw [← EReal.coe_mul]
  refine congrArg Real.toEReal ?_
  rw [Real.rpow_eq_pow, Real.rpow_def_of_pos two_pos, mul_left_comm, ← Real.exp_add]
  congr 2
  ring

theorem exp2_shift_mul (M N : ℝ) (A : EReal) : Ideal.exp2 ((M : EReal) - (N : EReal)) * (A * (Real.exp (-(Real.log 2 * M)) : EReal)) = A * (Real.exp (-(Real.log 2 * N)) : EReal) := by
  have h := exp2_shift M N 1
  rw [one_mul, one_mul] at h
  rw [mul_left_comm, h]

/-! ## The payloads at an index -/

theorem sc_at (x2 : Vec Ideal S1x768x256 .bf16) (x3 : Vec Ideal S1x8448x256 .bf16) (b : ℕ) (y r : Fin 768) :
    (Gen.sc (k0_pay49 (F := Ideal) x2) x3 b (ix2 y r) : EReal) = ∑ d : Fin 256, (x2 (ix3 (0 : Fin 1) y d) : EReal) * x3 (ix3 (0 : Fin 1) (row b r) d) := by
  unfold Gen.sc k0_pay5 k0_pay49
  pointwise
  rfl

theorem pay29_at (x : Vec Ideal S768x768 .f32) (y r : Fin 768) :
    (k0_pay29 (F := Ideal) x (ix2 y r) : EReal) = if r.val ≤ y.val then x (ix2 y r) else (⊥ : EReal) := by
  unfold_payloads; pointwise
  rw [WordCmp.cmpi_sge_ofNat (by omega) (by omega)]
  by_cases h : r.val ≤ y.val
  · rw [if_pos h]; simp only [decide_eq_true h]; rfl
  · rw [if_neg h]; simp only [decide_eq_false h]; rfl

theorem pay6_at (s : Vec Ideal S768x768 .f32) (m : Vec Ideal S768x128 .f32) (y : Fin 768) (d : Fin 128) :
    (k0_pay6 (F := Ideal) s m (ix2 y d) : EReal) = max (m (ix2 y d) : EReal) (Finset.univ.fold max ⊥ fun r : Fin 768 => (s (ix2 y r) : EReal)) := by
  unfold k0_pay6
  pointwise
  rfl

theorem pay7_at (s : Vec Ideal S768x768 .f32) (m : Vec Ideal S768x128 .f32) (y : Fin 768) (d : Fin 128) :
    (k0_pay7 (F := Ideal) s m (ix2 y d) : EReal) = Ideal.exp2 ((m (ix2 y d) : EReal) - k0_pay6 (F := Ideal) s m (ix2 y d)) := by
  unfold k0_pay7
  pointwise; rfl

theorem pay8_at (s : Vec Ideal S768x768 .f32) (m : Vec Ideal S768x128 .f32) (y r : Fin 768) :
    (k0_pay8 (F := Ideal) s m (ix2 y r) : EReal) = Ideal.exp2 ((s (ix2 y r) : EReal) - k0_pay6 (F := Ideal) s m (ix2 y (0 : Fin 128))) := by
  unfold k0_pay8
  pointwise; rfl

theorem pay9_at (s : Vec Ideal S768x768 .f32) (m l : Vec Ideal S768x128 .f32) (y : Fin 768) (d : Fin 128) :
    (k0_pay9 (F := Ideal) s m l (ix2 y d) : EReal) = k0_pay7 (F := Ideal) s m (ix2 y d) * l (ix2 y d) + ∑ r : Fin 768, (k0_pay8 (F := Ideal) s m (ix2 y r) : EReal) := by
  unfold k0_pay9
  pointwise

theorem pay11_at (s : Vec Ideal S768x768 .f32) (m a : Vec Ideal S768x128 .f32) (v : Vec Ideal S1x768x128 .bf16) (y : Fin 768) (d : Fin 128) :
    (k0_pay11 (F := Ideal) (k0_pay8 s m) (k0_pay10 s m a) v (ix2 y d) : EReal)
      = k0_pay7 (F := Ideal) s m (ix2 y d) * a (ix2 y d) + ∑ r : Fin 768, (k0_pay8 (F := Ideal) s m (ix2 y r) : EReal) * v (ix3 (0 : Fin 1) r d) := by
  unfold k0_pay11 k0_pay10
  pointwise

theorem pay12_at (x : Vec Ideal S768x128 .f32) (y : Fin 768) (d : Fin 128) : (k0_pay12 (F := Ideal) x (ix2 y d) : EReal) = x (ix2 y d) := by
  unfold k0_pay12; pointwise
theorem pay50_at (y : Fin 768) (d : Fin 128) : (k0_pay50 (F := Ideal) (ix2 y d) : EReal) = ⊥ := by
  unfold k0_pay50; pointwise; rfl
theorem pay51_at (y : Fin 768) (d : Fin 128) : (k0_pay51 (F := Ideal) (ix2 y d) : EReal) = 0 := by
  unfold k0_pay51; pointwise
theorem pay52_at (y : Fin 768) (d : Fin 128) : (k0_pay52 (F := Ideal) (ix2 y d) : EReal) = 0 := by
  unfold k0_pay52; pointwise
theorem pay3_at (l a : Vec Ideal S768x128 .f32) (y : Fin 768) (d : Fin 128) :
    (k0_pay3 (F := Ideal) l a (ix2 y d) : EReal) = Ideal.div (a (ix2 y d)) (l (ix2 y d)) := by
  unfold k0_pay3; pointwise
theorem pay4_at (l m : Vec Ideal S768x128 .f32) (y : Fin 768) :
    (k0_pay4 (F := Ideal) l m (ix4 (0 : Fin 1) (0 : Fin 1) (0 : Fin 1) y) : EReal)
      = (m (ix2 y (0 : Fin 128)) : EReal) + Ideal.div (Ideal.log (l (ix2 y (0 : Fin 128)))) ((Real.log 2 : ℝ) : EReal) := by
  unfold k0_pay4; pointwise; rfl

/-! ## The state of a row -/

/-- The maximum is real and the two sums are `S` and `A`, scaled by its exponential. -/
def Real' (u : St Ideal) (y : Fin 768) (S : ℝ) (A : Fin 128 → EReal) : Prop :=
  ∃ M : ℝ, ∀ d : Fin 128, (u.1 (ix2 y d) : EReal) = (M : EReal) ∧ (u.2.1 (ix2 y d) : EReal) = ((S * Real.exp (-(Real.log 2 * M)) : ℝ) : EReal)
    ∧ (u.2.2 (ix2 y d) : EReal) = A d * (Real.exp (-(Real.log 2 * M)) : EReal)

/-- The same, or nothing has been seen. -/
def Rep (u : St Ideal) (y : Fin 768) (S : ℝ) (A : Fin 128 → EReal) : Prop :=
  Real' u y S A ∨ ((∀ d : Fin 128, (u.1 (ix2 y d) : EReal) = ⊥ ∧ (u.2.1 (ix2 y d) : EReal) = 0 ∧ (u.2.2 (ix2 y d) : EReal) = 0) ∧ S = 0 ∧ ∀ d, A d = 0)

theorem upd_real (s : Vec Ideal S768x768 .f32) (v : Vec Ideal S1x768x128 .bf16) (u : St Ideal) (y : Fin 768) (t : Fin 768 → ℝ) (c : Fin 768 → Prop) [DecidablePred c]
    (w : Fin 768 → Fin 128 → EReal) (S : ℝ) (A : Fin 128 → EReal)
    (hs : ∀ r, (s (ix2 y r) : EReal) = if c r then ((t r / Real.log 2 : ℝ) : EReal) else ⊥) {r0 : Fin 768} (h0 : c r0)
    (hv : ∀ r d, (v (ix3 (0 : Fin 1) r d) : EReal) = w r d) (hu : Rep u y S A) :
    Real' (upd s v u) y (S + ∑ r, ex t c 0 r) (fun d => A d + ∑ r, (ex t c 0 r : EReal) * w r d) := by
  obtain ⟨B, hB⟩ := foldMax_real (fun r : Fin 768 => (s (ix2 y r) : EReal)) (fun r => t r / Real.log 2) r0
    (fun r => by
      rw [hs]
      by_cases hc : c r
      · exact Or.inr (if_pos hc)
      · exact Or.inl (if_neg hc)) (by rw [hs, if_pos h0])
  have key : ∃ N : ℝ, (∀ d, (k0_pay6 (F := Ideal) s u.1 (ix2 y d) : EReal) = (N : EReal))
      ∧ (∀ d, (k0_pay7 (F := Ideal) s u.1 (ix2 y d) * u.2.1 (ix2 y d) : EReal) = ((S * Real.exp (-(Real.log 2 * N)) : ℝ) : EReal))
      ∧ ∀ d, (k0_pay7 (F := Ideal) s u.1 (ix2 y d) * u.2.2 (ix2 y d) : EReal) = A d * (Real.exp (-(Real.log 2 * N)) : EReal) := by
    rcases hu with ⟨M, hM⟩ | ⟨hz, hS, hA⟩
    · have e6 : ∀ d, (k0_pay6 (F := Ideal) s u.1 (ix2 y d) : EReal) = ((max M B : ℝ) : EReal) := fun d => by
        rw [pay6_at, hB, (hM d).1]
        exact (EReal.coe_strictMono.monotone.map_max).symm
      refine ⟨max M B, e6, fun d => ?_, fun d => ?_⟩
      · rw [pay7_at, e6, (hM d).1, (hM d).2.1]; exact exp2_shift M _ S
      · rw [pay7_at, e6, (hM d).1, (hM d).2.2]; exact exp2_shift_mul M _ (A d)
    · have e6 : ∀ d, (k0_pay6 (F := Ideal) s u.1 (ix2 y d) : EReal) = (B : EReal) := fun d => by
        rw [pay6_at, hB, (hz d).1]
        exact max_eq_right bot_le
      refine ⟨B, e6, fun d => ?_, fun d => ?_⟩
      · rw [(hz d).2.1, mul_zero, hS, zero_mul, EReal.coe_zero]
      · rw [(hz d).2.2, mul_zero, hA, zero_mul]
  obtain ⟨N, hN, hl, ha⟩ := key
  have e8 : ∀ r, (k0_pay8 (F := Ideal) s u.1 (ix2 y r) : EReal) = ((ex t c 0 r * Real.exp (-(Real.log 2 * N)) : ℝ) : EReal) := fun r => by
    rw [pay8_at, hN, hs]
    exact exp2_masked t c N r
  refine ⟨N, fun d => ⟨(pay12_at _ y d).trans (hN d), ?_, ?_⟩⟩
  · refine (pay9_at s u.1 u.2.1 y d).trans ?_
    rw [hl, add_mul, Finset.sum_mul, EReal.coe_add, coe_sum]
    exact congrArg _ (Finset.sum_congr rfl fun r _ => e8 r)
  · refine (pay11_at s u.1 u.2.2 v y d).trans ?_
    have hn := (Real.exp_pos (-(Real.log 2 * N))).le
    rw [ha, EReal.right_distrib_of_nonneg_of_ne_top (by exact_mod_cast hn) (EReal.coe_ne_top _), ← NormMath.sum_mul_real _ _ hn]
    refine congrArg _ (Finset.sum_congr rfl fun r _ => ?_)
    rw [e8, hv, EReal.coe_mul, mul_right_comm]

/-! ## A row through its blocks -/

section Row
variable (x2 : Vec Ideal S1x768x256 .bf16) (x3 : Vec Ideal S1x8448x256 .bf16) (x4 : Vec Ideal S1x8448x128 .bf16) (j : ℕ) (hj : j < 11) (y : Fin 768)
  (t : Fin 8448 → ℝ) (w : Fin 8448 → Fin 128 → EReal)
  (hs : ∀ n : Fin 8448, (∑ d : Fin 256, (x2 (ix3 (0 : Fin 1) y d) : EReal) * x3 (ix3 (0 : Fin 1) n d) : EReal) = ((t n / Real.log 2 : ℝ) : EReal))
  (hv : ∀ n d, (x4 (ix3 (0 : Fin 1) n d) : EReal) = w n d)

/-- The exponential of a score, zero above the diagonal. -/
def e0 (n : Fin 8448) : ℝ := ex t (fun n : Fin 8448 => n.val ≤ 768 * j + y.val) 0 n

include hj hs hv in
theorem run_real : ∀ b, b ≤ j → Rep (run (k0_pay49 (F := Ideal) x2) x3 x4 b) y
    (∑ b' ∈ Finset.range b, ∑ r : Fin 768, e0 j y t (row b' r)) (fun d => ∑ b' ∈ Finset.range b, ∑ r : Fin 768, (e0 j y t (row b' r) : EReal) * w (row b' r) d)
  | 0, _ => Or.inr ⟨fun d => ⟨pay50_at y d, pay51_at y d, pay52_at y d⟩, by simp, by simp⟩
  | b + 1, hb => by
    simp only [Finset.sum_range_succ]
    exact Or.inl (upd_real _ _ _ y (fun r => t (row b r)) (fun r => (row b r).val ≤ 768 * j + y.val) (fun r d => w (row b r) d) _ _
      (fun r => by
        rw [sc_at, hs, if_pos]
        have := row_val (show b < 11 by omega) r
        omega) (r0 := (⟨0, by omega⟩ : Fin 768)) (by have := row_val (show b < 11 by omega) (⟨0, by omega⟩ : Fin 768); dsimp only at this ⊢; omega)
      (fun r d => hv _ d) (run_real b (by omega)))

include hj in
/-- The blocks up to the diagonal add up to the whole row, for terms that are zero where the exponential is. -/
theorem tot {X : Type*} [AddCommMonoid X] (f : Fin 8448 → X) (hf : ∀ n, e0 j y t n = 0 → f n = 0) :
    (∑ b ∈ Finset.range j, ∑ r : Fin 768, f (row b r)) + ∑ r : Fin 768, f (row j r) = ∑ n, f n := by
  rw [← Finset.sum_range_succ (fun b => ∑ r : Fin 768, f (row b r)) j]
  have hz : ∀ b ∈ Finset.range 11, b ∉ Finset.range (j + 1) → ∑ r : Fin 768, f (row b r) = 0 := by
    intro b h11 hb
    refine Finset.sum_eq_zero fun r _ => hf _ ?_
    have := row_val (Finset.mem_range.mp h11) r
    have hb' : j + 1 ≤ b := by simpa using hb
    rw [e0, ex, if_neg]
    have := y.isLt
    omega
  rw [Finset.sum_subset (Finset.range_subset_range.mpr (by omega)) hz, Finset.sum_range]
  rw [← (finProdFinEquiv (m := 11) (n := 768)).sum_comp fun n => f n, Fintype.sum_prod_type]
  refine Finset.sum_congr rfl fun b _ => Finset.sum_congr rfl fun r _ => congrArg f (Fin.ext ?_)
  rw [row_val b.isLt r]
  exact (by simp [finProdFinEquiv, add_comm] : 768 * b.val + r.val = (finProdFinEquiv (m := 11) (n := 768) (b, r)).val)

include hj hs hv in
theorem fin_real : Real' (fin x2 x3 x4 j) y (∑ n, e0 j y t n) (fun d => ∑ n, (e0 j y t n : EReal) * w n d) := by
  have h := upd_real (k0_pay29 (Gen.sc (k0_pay49 (F := Ideal) x2) x3 j)) (rv x4 j) (run (k0_pay49 (F := Ideal) x2) x3 x4 j) y (fun r => t (row j r))
    (fun r => (row j r).val ≤ 768 * j + y.val) (fun r d => w (row j r) d) _ _
    (fun r => by
      have := row_val hj r
      rw [pay29_at, sc_at, hs]
      refine if_congr ?_ rfl rfl
      omega) (r0 := y) (by have := row_val hj y; omega) (fun r d => hv _ d) (run_real x2 x3 x4 j hj y t w hs hv j le_rfl)
  rw [← tot j hj y t (e0 j y t) fun n h => h, ← funext fun d => tot j hj y t (fun n => (e0 j y t n : EReal) * w n d) fun n h => by rw [h, EReal.coe_zero, zero_mul]]
  exact h

include hj hs hv in
theorem o_real (d : Fin 128) : (k0_pay3 (F := Ideal) (fin x2 x3 x4 j).2.1 (fin x2 x3 x4 j).2.2 (ix2 y d) : EReal)
    = ∑ n, (wt t (fun n : Fin 8448 => n.val ≤ 768 * j + y.val) n : EReal) * w n d := by
  obtain ⟨M, hM⟩ := fin_real x2 x3 x4 j hj y t w hs hv
  have hp : 0 < ∑ n, e0 j y t n := ex_sum_pos t (fun n : Fin 8448 => n.val ≤ 768 * j + y.val) 0 (i0 := (⟨0, by omega⟩ : Fin 8448)) (Nat.zero_le _)
  have hq := mul_pos hp (Real.exp_pos (-(Real.log 2 * M)))
  rw [pay3_at, (hM d).2.1, (hM d).2.2, Ideal.div, if_neg (by exact_mod_cast hq.ne'), ← EReal.coe_inv, mul_assoc, ← EReal.coe_mul,
    ← NormMath.sum_mul_real _ _ (mul_pos (Real.exp_pos _) (inv_pos.mpr hq)).le]
  refine Finset.sum_congr rfl fun n _ => ?_
  rw [mul_right_comm, ← EReal.coe_mul]
  refine congrArg (fun z : ℝ => (z : EReal) * w n d) ?_
  rw [mul_inv, mul_comm (∑ n, e0 j y t n)⁻¹, mul_inv_cancel_left₀ (Real.exp_pos _).ne', ← div_eq_mul_inv]
  rfl

include hj hs hv in
theorem lse_real : (k0_pay4 (F := Ideal) (fin x2 x3 x4 j).2.1 (fin x2 x3 x4 j).1 (ix4 (0 : Fin 1) (0 : Fin 1) (0 : Fin 1) y) : EReal)
    = ((Real.log (∑ n, ex t (fun n : Fin 8448 => n.val ≤ 768 * j + y.val) 0 n) / Real.log 2 : ℝ) : EReal) := by
  obtain ⟨M, hM⟩ := fin_real x2 x3 x4 j hj y t w hs hv
  have hp : 0 < ∑ n, e0 j y t n := ex_sum_pos t (fun n : Fin 8448 => n.val ≤ 768 * j + y.val) 0 (i0 := (⟨0, by omega⟩ : Fin 8448)) (Nat.zero_le _)
  rw [pay4_at, (hM 0).1, (hM 0).2.1, log_coe (mul_pos hp (Real.exp_pos _)), div_coe _ log2_pos.ne', ← EReal.coe_add]
  refine congrArg Real.toEReal ?_
  rw [← show (∑ n, e0 j y t n) = ∑ n, ex t (fun n : Fin 8448 => n.val ≤ 768 * j + y.val) 0 n from rfl, Real.log_mul hp.ne' (Real.exp_pos _).ne', Real.log_exp]
  have := log2_pos.ne'
  field_simp
  ring
end Row
end Cert.Proof.Fwd
end
-- ==== Proof.FwdArgs.lean ====
module

public import proofs.«01_k».proof.Proof.FwdFrame
public import proofs.«01_k».proof.Proof.FwdTile
public import Idealize.ShloMosaic.Lib.StableHlo.ReadAt

/-! The operands of the forward attention as the host lines compute them from the arguments: the queries' and the keys' are the
padded real arrays where the arguments are real. -/

@[expose] public section
set_option maxRecDepth 16384
noncomputable section
namespace Cert.Proof.Fwd

open Idealize.ShloMosaic Idealize.ShloMosaic.TcCoe Idealize.SL.Sem
open Cert.Proof
open Cert.Proof.Flash (qc kc qz kz tz scale_word two_word log2_pos)
open Cert.FlashFwdIdeal Cert.FlashFwdIdeal.Gen

variable (m : (ℓ : Loc nD τ sig) → Buf (Elt Ideal) ℓ) (c : Dev nD)

/-! ## The elements of the arguments and of the operands -/

def ar0 (i : Fin 8208) (h : Fin 8) (d : Fin 128) : EReal := m ((c : Thread nD τ).loc main_arg0) (ix4 (0 : Fin 1) i h d)
def ar1 (i : Fin 8208) (h : Fin 8) (d : Fin 64) : EReal := m ((c : Thread nD τ).loc main_arg1) (ix4 (0 : Fin 1) i h d)
def ar2 (n : Fin 8208) (h : Fin 8) (d : Fin 128) : EReal := m ((c : Thread nD τ).loc main_arg2) (ix4 (0 : Fin 1) n h d)
def ar3 (n : Fin 8208) (d : Fin 64) : EReal := m ((c : Thread nD τ).loc main_arg3) (ix3 (0 : Fin 1) n d)
def ar4 (n : Fin 8208) (h : Fin 8) (d : Fin 128) : EReal := m ((c : Thread nD τ).loc main_arg4) (ix4 (0 : Fin 1) n h d)
def elQ (h : Fin 8) (i : Fin 8448) (d : Fin 256) : EReal := V m c main_v11 (ix3 h i d)
def elK (h : Fin 8) (n : Fin 8448) (d : Fin 256) : EReal := V m c main_v16 (ix3 h n d)
def elV (h : Fin 8) (n : Fin 8448) (d : Fin 128) : EReal := V m c main_v20 (ix3 h n d)

theorem elQ_at (h : Fin 8) (i : Fin 8448) (d : Fin 256) : elQ m c h i d =
    (if hh : i.val < 8208 ∧ d.val < 192 then
      Ideal.div ((if hd : d.val < 128 then ar0 m c ⟨i.val, hh.1⟩ h ⟨d.val, hd⟩ else ar1 m c ⟨i.val, hh.1⟩ h ⟨d.val - 128, by omega⟩) * Ideal.ofBits .f32 0x3D93CD3A#32)
        (Ideal.log (Ideal.ofBits .f32 0x40000000#32))
      else 0 : EReal) := by
  rw [elQ, ← sitofp_zero]
  simp only [ar0, ar1]
  simp only [V, V0, List.flatten_cons, List.flatten_nil, List.append_nil, hostOps0, hostOps0_1, hostOps0_2, hostOps0_3, hostOps0_4, hostOps0_5,
    hostOps0_6, List.cons_append, List.nil_append]
  after_reads_at
  rfl

theorem elK_at (h : Fin 8) (n : Fin 8448) (d : Fin 256) : elK m c h n d =
    (if hh : n.val < 8208 ∧ d.val < 192 then
      (if hd : d.val < 128 then ar2 m c ⟨n.val, hh.1⟩ h ⟨d.val, hd⟩ else ar3 m c ⟨n.val, hh.1⟩ ⟨d.val - 128, by omega⟩)
      else 0 : EReal) := by
  rw [elK, ← sitofp_zero]
  simp only [ar2, ar3]
  simp only [V, V0, List.flatten_cons, List.flatten_nil, List.append_nil, hostOps0, hostOps0_1, hostOps0_2, hostOps0_3, hostOps0_4, hostOps0_5,
    hostOps0_6, List.cons_append, List.nil_append]
  after_reads_at
  after_reads_simp
  pointwise

/-- The values' rows, zero beyond those of the argument. -/
def va (h : Fin 8) (n : Fin 8448) (d : Fin 128) : EReal := if hn : n.val < 8208 then ar4 m c ⟨n.val, hn⟩ h d else 0

theorem elV_at (h : Fin 8) (n : Fin 8448) (d : Fin 128) : elV m c h n d =
    (if hn : n.val < 8208 then ar4 m c ⟨n.val, hn⟩ h d else 0 : EReal) := by
  rw [elV, ← sitofp_zero]
  simp only [ar4]
  simp only [V, V0, List.flatten_cons, List.flatten_nil, List.append_nil, hostOps0, hostOps0_1, hostOps0_2, hostOps0_3, hostOps0_4, hostOps0_5,
    hostOps0_6, List.cons_append, List.nil_append]
  after_reads_at

/-! ## On real arguments -/

variable (a0 : Fin 8208 → Fin 8 → Fin 128 → ℝ) (a1 : Fin 8208 → Fin 8 → Fin 64 → ℝ) (a2 : Fin 8208 → Fin 8 → Fin 128 → ℝ)
  (a3 : Fin 8208 → Fin 64 → ℝ)

/-- The queries and the keys are the real arrays. -/
structure AreReal : Prop where
  h0 : ∀ i h d, ar0 m c i h d = (a0 i h d : EReal)
  h1 : ∀ i h d, ar1 m c i h d = (a1 i h d : EReal)
  h2 : ∀ i h d, ar2 m c i h d = (a2 i h d : EReal)
  h3 : ∀ i d, ar3 m c i d = (a3 i d : EReal)

variable {m c a0 a1 a2 a3} (H : AreReal m c a0 a1 a2 a3)
include H

theorem elQ_real (h : Fin 8) (i : Fin 8448) (d : Fin 256) : elQ m c h i d = (qz a0 a1 h i d : EReal) := by
  rw [elQ_at, qz]
  by_cases hh : i.val < 8208 ∧ d.val < 192
  · rw [dif_pos hh, dif_pos hh, scale_word, two_word, log_coe two_pos, ← div_coe _ log2_pos.ne', qc, EReal.coe_mul]
    congr 2
    by_cases hd : d.val < 128
    · rw [dif_pos hd, dif_pos hd, H.h0]
    · rw [dif_neg hd, dif_neg hd, H.h1]
  · rw [dif_neg hh, dif_neg hh, EReal.coe_zero]

theorem elK_real (h : Fin 8) (n : Fin 8448) (d : Fin 256) : elK m c h n d = (kz a2 a3 h n d : EReal) := by
  rw [elK_at, kz]
  by_cases hh : n.val < 8208 ∧ d.val < 192
  · rw [dif_pos hh, dif_pos hh, kc]
    by_cases hd : d.val < 128
    · rw [dif_pos hd, dif_pos hd, H.h2]
    · rw [dif_neg hd, dif_neg hd, H.h3]
  · rw [dif_neg hh, dif_neg hh, EReal.coe_zero]

theorem score_real (h : Fin 8) (i n : Fin 8448) :
    ∑ d : Fin 256, elQ m c h i d * elK m c h n d = ((tz a0 a1 a2 a3 h i n / Real.log 2 : ℝ) : EReal) := by
  rw [tz, mul_div_cancel_right₀ _ log2_pos.ne', coe_sum]
  exact Finset.sum_congr rfl fun d _ => by rw [elQ_real H, elK_real H, EReal.coe_mul]

end Cert.Proof.Fwd
end
-- ==== Proof.FwdOut.lean ====
module

public import proofs.«01_k».proof.Proof.FwdArgs

/-! The forward attention's two results on real queries and keys, read through the region and the host's slices after it. -/

@[expose] public section
set_option maxRecDepth 16384
noncomputable section
namespace Cert.Proof.Fwd

open Idealize.ShloMosaic Idealize.ShloMosaic.TcCoe Idealize.SL.Sem
open Cert.Proof
open Cert.Proof.Flash (tz Wz We so ex wt up row row_val)
open Cert.FlashFwdIdeal Cert.FlashFwdIdeal.Gen

theorem idx : ∀ t : Fin grid0.N, win0_0.index t = ![t.val / 11, t.val % 11, 0] ∧ win0_1.index t = ![t.val / 11, 0, 0]
    ∧ win0_2.index t = ![t.val / 11, 0, 0] ∧ win0_3.index t = ![t.val % 11, t.val / 11]
    ∧ win0_4.index t = ![t.val / 11, t.val % 11, 0, 0] := by
  decide +kernel

theorem coord1 : ∀ t : Fin grid0.N, (grid0.coords t 1).val = t.val % 11 := by decide +kernel

def hd (t : Fin cfg0.N) : Fin 8 := ⟨t.val / 11, by have : t.val < 88 := lt_of_lt_of_eq t.isLt N_0; omega⟩

variable (m : (ℓ : Loc nD τ sig) → Buf (Elt Ideal) ℓ) (c : Dev nD)

/-! ## A grid point's blocks -/

theorem blkQ (t : Fin cfg0.N) (y : Fin 768) (d : Fin 256) : (iblk m c 0 t (ix3 (0 : Fin 1) y d) : EReal) = elQ m c (hd t) (row (t.val % 11) y) d := by
  have e := idx t
  have hr := row_val (show t.val % 11 < 11 from Nat.mod_lt _ (by decide)) y
  show (iblk m c 0 t (ix3 (0 : Fin 1) y d) : EReal) = V m c main_v11 (ix3 (hd t) (row (t.val % 11) y) d)
  blk_ext [iblk, V, e, hd, hr]
theorem blkK (t : Fin cfg0.N) (n : Fin 8448) (d : Fin 256) : (iblk m c 1 t (ix3 (0 : Fin 1) n d) : EReal) = elK m c (hd t) n d := by
  have e := idx t
  show (iblk m c 1 t (ix3 (0 : Fin 1) n d) : EReal) = V m c main_v16 (ix3 (hd t) n d)
  blk_ext [iblk, V, e, hd]
theorem blkV (t : Fin cfg0.N) (n : Fin 8448) (d : Fin 128) : (iblk m c 2 t (ix3 (0 : Fin 1) n d) : EReal) = elV m c (hd t) n d := by
  have e := idx t
  show (iblk m c 2 t (ix3 (0 : Fin 1) n d) : EReal) = V m c main_v20 (ix3 (hd t) n d)
  blk_ext [iblk, V, e, hd]

/-! ## The tiles -/

variable {m c} {a0 : Fin 8208 → Fin 8 → Fin 128 → ℝ} {a1 : Fin 8208 → Fin 8 → Fin 64 → ℝ} {a2 : Fin 8208 → Fin 8 → Fin 128 → ℝ}
  {a3 : Fin 8208 → Fin 64 → ℝ} (H : AreReal m c a0 a1 a2 a3)
include H

theorem blk_score (t : Fin cfg0.N) (y : Fin 768) (n : Fin 8448) :
    ∑ d : Fin 256, @HMul.hMul EReal EReal EReal _ (iblk m c 0 t (ix3 (0 : Fin 1) y d)) (iblk m c 1 t (ix3 (0 : Fin 1) n d))
      = ((tz a0 a1 a2 a3 (hd t) (row (t.val % 11) y) n / Real.log 2 : ℝ) : EReal) := by
  rw [← score_real H]
  exact Finset.sum_congr rfl fun d _ => by rw [blkQ, blkK]

theorem tile_o (t : Fin cfg0.N) (y : Fin 768) (d : Fin 128) : (k0_pay3 (finAt m c t).2.1 (finAt m c t).2.2 (ix2 y d) : EReal)
    = ∑ n, (Wz a0 a1 a2 a3 (hd t) (row (t.val % 11) y) n : EReal) * va m c (hd t) n d := by
  have hj : t.val % 11 < 11 := Nat.mod_lt _ (by decide)
  have hr := row_val hj y
  rw [finAt, coord1 t, o_real _ _ _ _ hj y (tz a0 a1 a2 a3 (hd t) (row (t.val % 11) y)) (va m c (hd t)) (blk_score H t y)
    (fun n d => (blkV m c t n d).trans (elV_at m c (hd t) n d)) d]
  simp only [Wz, hr]

theorem tile_lse (t : Fin cfg0.N) (y : Fin 768) : (k0_pay4 (finAt m c t).2.1 (finAt m c t).1 (ix4 (0 : Fin 1) (0 : Fin 1) (0 : Fin 1) y) : EReal)
    = ((Real.log (∑ n, ex (tz a0 a1 a2 a3 (hd t) (row (t.val % 11) y)) (fun n : Fin 8448 => n.val ≤ (row (t.val % 11) y).val) 0 n) / Real.log 2 : ℝ) : EReal) := by
  have hj : t.val % 11 < 11 := Nat.mod_lt _ (by decide)
  have hr := row_val hj y
  rw [finAt, coord1 t, lse_real _ _ _ _ hj y (tz a0 a1 a2 a3 (hd t) (row (t.val % 11) y)) (va m c (hd t)) (blk_score H t y)
    (fun n d => (blkV m c t n d).trans (elV_at m c (hd t) n d))]
  simp only [hr]

/-! ## The region's arrays -/

variable (m c a0 a1 a2 a3) in
omit H in
/-- The output of a row, and its log-sum. -/
def oR (i : Fin 8448) (h : Fin 8) (d : Fin 128) : EReal := ∑ n, (Wz a0 a1 a2 a3 h i n : EReal) * va m c h n d
variable (a0 a1 a2 a3) in
omit H in
def lR (h : Fin 8) (i : Fin 8448) : EReal :=
  ((Real.log (∑ n, ex (tz a0 a1 a2 a3 h i) (fun n : Fin 8448 => n.val ≤ i.val) 0 n) / Real.log 2 : ℝ) : EReal)

variable (m c a0 a1 a2 a3) in
omit H in
def outO : (⟨S8448x1024, .f32⟩ : BufTy).Contents (Elt Ideal) := fun y =>
  oR m c a0 a1 a2 a3 (y 0) ⟨(y 1).val / 128, by have : (y 1).val < 1024 := (y 1).isLt; omega⟩ ⟨(y 1).val % 128, Nat.mod_lt _ (by decide)⟩
variable (a0 a1 a2 a3) in
omit H in
def outL : (⟨S8x11x1x768, .f32⟩ : BufTy).Contents (Elt Ideal) := fun y =>
  lR a0 a1 a2 a3 (y 0) (row (y 1).val (y 3))

theorem out3 : (dats m 0 c).arrAt 3 (cfgs 0).N = outO m c a0 a1 a2 a3 := by
  refine (dats m 0 c).arrAt_eq_of_covers 3 _ (by decide +kernel) fun t hf y => ?_
  blk_simp
  rw [after0_3]
  have e := idx t
  idx_vars y
  have hr := row_val (show t.val % 11 < 11 from Nat.mod_lt _ (by decide)) y0
  have keyeq : k0_pay3 (finAt m c t).2.1 (finAt m c t).2.2 (ix2 y0 y1)
      = outO m c a0 a1 a2 a3 (ix2 (row (t.val % 11) y0) (⟨128 * (hd t).val + y1.val, by omega⟩ : Fin 1024)) := by
    refine (tile_o H t y0 y1).trans ?_
    have e1 : (⟨(128 * (hd t).val + y1.val) / 128, by omega⟩ : Fin 8) = hd t := Fin.ext (by show (128 * (hd t).val + y1.val) / 128 = (hd t).val; omega)
    have e2 : (⟨(128 * (hd t).val + y1.val) % 128, Nat.mod_lt _ (by decide)⟩ : Fin 128) = y1 := Fin.ext (by show (128 * (hd t).val + y1.val) % 128 = y1.val; omega)
    show _ = oR m c a0 a1 a2 a3 (row (t.val % 11) y0) ⟨(128 * (hd t).val + y1.val) / 128, _⟩ ⟨(128 * (hd t).val + y1.val) % 128, _⟩
    rw [e1, e2]
    rfl
  rw [keyeq]
  blk_ext [e, hd, hr]

theorem out4 : (dats m 0 c).arrAt 4 (cfgs 0).N = outL a0 a1 a2 a3 := by
  refine (dats m 0 c).arrAt_eq_of_covers 4 _ (by decide +kernel) fun t hf y => ?_
  blk_simp
  rw [after0_4]
  have e := idx t
  idx_vars y
  obtain rfl : y0 = 0 := Subsingleton.elim _ _
  obtain rfl : y1 = 0 := Subsingleton.elim _ _
  obtain rfl : y2 = 0 := Subsingleton.elim _ _
  have keyeq : k0_pay4 (finAt m c t).2.1 (finAt m c t).1 (ix4 (0 : Fin 1) (0 : Fin 1) (0 : Fin 1) y3)
      = outL a0 a1 a2 a3 (ix4 (hd t) (⟨t.val % 11, Nat.mod_lt _ (by decide)⟩ : Fin 11) (0 : Fin 1) y3) := tile_lse H t y3
  rw [keyeq]
  blk_ext [e, hd]

/-! ## After the host's slices -/

theorem tail_o (i : Fin 8208) (j : Fin 1024) : (Pipeline.afterTail₀ cfgs (dats m) 0 (V0 m) [hostOps1] c main_v22 (ix2 i j) : EReal)
    = oR m c a0 a1 a2 a3 (up i) ⟨j.val / 128, by omega⟩ ⟨j.val % 128, Nat.mod_lt _ (by decide)⟩ := by
  unfold Pipeline.afterTail₀
  simp only [List.flatten_cons, List.flatten_nil, List.append_nil, hostOps1]
  after_reads_at
  exact (congrFun (Pipeline.withArrays_arr spec0 winFacts0.arr_inj c (V0 m c) (fun w => (dats m 0 c).arrAt w (cfgs 0).N) 3) _).trans (congrFun (out3 H) _)

theorem tail_lse (h : Fin 8) (i : Fin 8208) : (Pipeline.afterTail₀ cfgs (dats m) 0 (V0 m) [hostOps1] c main_v24 (ix2 h i) : EReal) = lR a0 a1 a2 a3 h (up i) := by
  unfold Pipeline.afterTail₀
  simp only [List.flatten_cons, List.flatten_nil, List.append_nil, hostOps1]
  after_reads_at
  refine (congrFun (Pipeline.withArrays_arr spec0 winFacts0.arr_inj c (V0 m c) (fun w => (dats m 0 c).arrAt w (cfgs 0).N) 4) _).trans ((congrFun (out4 H) _).trans ?_)
  exact congrArg (lR a0 a1 a2 a3 h) (Fin.ext ((row_val (show i.val / 768 < 11 by omega) _).trans (Nat.div_add_mod _ _)))

end Cert.Proof.Fwd
end
-- ==== Proof.FlashRef.lean ====
module

public import proofs.«01_k».proof.Proof.Gen.FlashBwdRefIdeal.Read
public import Idealize.ShloMosaic.Lib.Pointwise
public import Idealize.ShloMosaic.Lib.WordCmp
public import Idealize.ShloMosaic.Lib.Claim
public import proofs.«01_k».proof.Proof.FlashMath

/-! The reference gradients of attention, read at an index. -/

@[expose] public section
set_option maxRecDepth 16384
noncomputable section
namespace Cert.Proof.FlashRef

open Cert.Proof Cert.Proof.Flash
open Idealize.ShloMosaic Idealize.ShloMosaic.TcCoe Idealize.SL.Sem
open Cert.FlashBwdRefIdeal Cert.FlashBwdRefIdeal.Gen Cert.FlashBwdRefIdeal.Read

variable (x0 : (⟨S1x8208x8x128, .f32⟩ : BufTy).Contents (Elt Ideal)) (x1 : (⟨S1x8208x8x64, .f32⟩ : BufTy).Contents (Elt Ideal))
  (x2 : (⟨S1x8208x8x128, .f32⟩ : BufTy).Contents (Elt Ideal)) (x3 : (⟨S1x8208x64, .f32⟩ : BufTy).Contents (Elt Ideal))
  (x4 x5 : (⟨S1x8208x8x128, .f32⟩ : BufTy).Contents (Elt Ideal))

theorem qs_at (i : Fin 8208) (h : Fin 8) (d : Fin 192) : val_main_v4 x0 x1 (ix4 (0 : Fin 1) i h d) =
    ((if hd : d.val < 128 then (x0 (ix4 (0 : Fin 1) i h (⟨d.val, hd⟩ : Fin 128)) : EReal)
      else x1 (ix4 (0 : Fin 1) i h (⟨d.val - 128, by omega⟩ : Fin 64))) * (sc : EReal) : EReal) := by
  conv_lhs => unfold val_main_v4
  pointwise [val_main_v3, val_main_v2, val_main_cst]
  rw [scale_word]

theorem k_at (i : Fin 8208) (h : Fin 8) (d : Fin 192) : val_main_v5 x2 x3 (ix4 (0 : Fin 1) i h d) =
    (if hd : d.val < 128 then (x2 (ix4 (0 : Fin 1) i h (⟨d.val, hd⟩ : Fin 128)) : EReal)
      else x3 (ix3 (0 : Fin 1) i (⟨d.val - 128, by omega⟩ : Fin 64)) : EReal) := by
  conv_lhs => unfold val_main_v5
  pointwise [val_main_v1, val_main_v0]

/-- The causal mask. -/
theorem mask_at (h : Fin 8) (i n : Fin 8208) : val_main_v13_1 (F := Ideal) (ix4 (0 : Fin 1) h i n) = BitVec.ofBool (decide (n.val ≤ i.val)) := by
  unfold val_main_v13_1
  pointwise [val_main_v12, val_main_v11, val_main_v10, val_main_v9, val_main_v8, val_main_v7]
  rw [WordCmp.cmpi_sle_ofNat (by omega) (by omega)]

theorem select_mask {α : Type} (p : Prop) [Decidable p] (a b : α) : Scalar.select (BitVec.ofBool (decide p)) a b = if p then a else b := by
  by_cases h : p
  · rw [if_pos h, decide_eq_true h]; rfl
  · rw [if_neg h, decide_eq_false h]; rfl

theorem s_at (h : Fin 8) (i n : Fin 8208) : val_main_v13_0 x0 x1 x2 x3 (ix4 (0 : Fin 1) h i n) =
    (if n.val ≤ i.val then ∑ d : Fin 192, (val_main_v4 x0 x1 (ix4 (0 : Fin 1) i h d) : EReal) * val_main_v5 x2 x3 (ix4 (0 : Fin 1) n h d) else ⊥ : EReal) := by
  have e6 : val_main_v6 x0 x1 x2 x3 (ix4 (0 : Fin 1) h i n)
      = ∑ d : Fin 192, (val_main_v4 x0 x1 (ix4 (0 : Fin 1) i h d) : EReal) * val_main_v5 x2 x3 (ix4 (0 : Fin 1) n h d) := by
    unfold val_main_v6
    pointwise
  have e2 : val_main_call0_v2 (F := Ideal) (ix4 (0 : Fin 1) h i n) = (⊥ : EReal) := by
    unfold val_main_call0_v2
    pointwise [val_main_call0_v0, val_main_cst_0]
    exact bot_word
  rw [val_main_v13_0_apply, mask_at, select_mask, e6, e2]

theorem max_at (h : Fin 8) (i : Fin 8208) : val_main_v14 x0 x1 x2 x3 (ix3 (0 : Fin 1) h i) =
    (Finset.univ : Finset (Fin 8208)).fold max ⊥ fun n => (val_main_v13_0 x0 x1 x2 x3 (ix4 (0 : Fin 1) h i n) : EReal) := by
  unfold val_main_v14
  generalize val_main_v13_0 x0 x1 x2 x3 = y
  have hr : Shape.Reduces S1x8x8208x8208 [3] S1x8x8208 := by decide
  have key := Host.reduce_eq_fold_single (s := S1x8x8208x8208) (t := S1x8x8208) (u := S_) (a := 3) (FloatOps.maximumf (F := Ideal) (φ := .f32))
    y (val_main_cst_1 (F := Ideal)) reducesTo_S1x8x8208x8208_S1x8x8208_d3 hr h_S_ (ix3 (0 : Fin 1) h i)
  refine key.trans ?_
  have e0 : (val_main_cst_1 (F := Ideal) (Shape.Idx.first h_S_) : EReal) = ⊥ := bot_word
  rw [e0]
  show Finset.fold max (⊥ : EReal) _ _ = _
  refine congrArg (fun f => Finset.fold max (⊥ : EReal) f (Finset.univ : Finset (Fin 8208))) (funext fun n => ?_)
  refine congrArg y (funext fun a => Fin.ext ?_)
  match a with
  | ⟨0, _⟩ => rfl
  | ⟨1, _⟩ => rfl
  | ⟨2, _⟩ => rfl
  | ⟨3, _⟩ => rfl

theorem m_at (h : Fin 8) (i n : Fin 8208) : val_main_v32 x0 x1 x2 x3 (ix4 (0 : Fin 1) h i n) = val_main_v14 x0 x1 x2 x3 (ix3 (0 : Fin 1) h i) := by
  rw [val_main_v32_apply, val_main_v31_apply, val_main_v21_apply]
  have e : idx_main_v31 (idx_main_v32 (ix4 (0 : Fin 1) h i n)) = ix3 (0 : Fin 1) h i := by
    funext a; apply Fin.ext
    match a with
    | ⟨0, _⟩ => rfl
    | ⟨1, _⟩ => rfl
    | ⟨2, _⟩ => rfl
  have e0 : (val_main_v20 (F := Ideal) (ix3 (0 : Fin 1) h i) : EReal) = ⊥ := bot_word
  rw [e, e0]
  exact max_eq_right bot_le

theorem e_at (h : Fin 8) (i n : Fin 8208) : val_main_v34 x0 x1 x2 x3 (ix4 (0 : Fin 1) h i n) =
    Ideal.exp ((val_main_v13_0 x0 x1 x2 x3 (ix4 (0 : Fin 1) h i n) : EReal) - val_main_v14 x0 x1 x2 x3 (ix3 (0 : Fin 1) h i)) := by
  rw [val_main_v34_apply, val_main_v33_apply, m_at]
  simp only [Ideal.hostUnary_exp_def, Ideal.subf_def]

theorem l_at (h : Fin 8) (i : Fin 8208) : val_main_v36 x0 x1 x2 x3 (ix4 (0 : Fin 1) h i (0 : Fin 1)) =
    ∑ n : Fin 8208, (val_main_v34 x0 x1 x2 x3 (ix4 (0 : Fin 1) h i n) : EReal) := by
  conv_lhs => unfold val_main_v36
  pointwise [val_main_v35, val_main_cst_9]

theorem g_at (h : Fin 8) (i n : Fin 8208) : val_main_v45 x4 x5 (ix4 (0 : Fin 1) h i n) =
    ∑ d : Fin 128, (x5 (ix4 (0 : Fin 1) i h d) : EReal) * x4 (ix4 (0 : Fin 1) n h d) := by
  conv_lhs => unfold val_main_v45
  pointwise [val_main_v44]

/-- A host sum over the unit axes on either side of a matrix reads the matrix. -/
theorem hostReduceAdd_outer {a b : Nat} (h : (⟨4, ![1, a, b, 1]⟩ : Shape).ReducesTo [0, 3] ⟨2, ![a, b]⟩)
    (v : (⟨4, ![1, a, b, 1]⟩ : Shape).Idx → EReal) (init : EReal) (i : Fin a) (j : Fin b) :
    Ideal.hostReduceAdd h v init (ix2 i j) = init + v (ix4 (0 : Fin 1) i j (0 : Fin 1)) := by
  refine congrArg (init + ·) ?_
  refine (Finset.sum_filter_eq_sum_of_fiber _ (fun _ : Fin 1 => ix4 (0 : Fin 1) i j (0 : Fin 1))
    (fun a b _ => Subsingleton.elim a b) (fun k => ?_) v).trans (by simp)
  constructor
  · intro e
    refine ⟨0, ?_⟩
    funext a; apply Fin.ext
    match a with
    | ⟨0, _⟩ => exact (Nat.lt_one_iff.mp (k 0).isLt).symm
    | ⟨1, _⟩ => exact (congrArg Fin.val (congrFun e ⟨0, Nat.two_pos⟩)).symm
    | ⟨2, _⟩ => exact (congrArg Fin.val (congrFun e ⟨1, Nat.one_lt_two⟩)).symm
    | ⟨3, _⟩ => exact (Nat.lt_one_iff.mp (k 3).isLt).symm
  · rintro ⟨k, rfl⟩
    funext b
    apply Fin.ext
    match b with
    | ⟨0, _⟩ => rfl
    | ⟨1, _⟩ => rfl

theorem corr_at (h : Fin 8) (i : Fin 8208) : val_main_v56 x0 x1 x2 x3 x4 x5 (ix2 h i) =
    -(∑ j : Fin 8208, (val_main_v45 x4 x5 (ix4 (0 : Fin 1) h i j) : EReal)
          * Ideal.div ((1 : ℝ) : EReal) ((val_main_v36 x0 x1 x2 x3 (ix4 (0 : Fin 1) h i (0 : Fin 1)) : EReal) * val_main_v36 x0 x1 x2 x3 (ix4 (0 : Fin 1) h i (0 : Fin 1)))
          * val_main_v34 x0 x1 x2 x3 (ix4 (0 : Fin 1) h i j)) := by
  unfold val_main_v56
  refine (hostReduceAdd_outer _ _ _ h i).trans ?_
  have e0 : (val_main_cst_12 (F := Ideal) (Shape.Idx.first h_S_) : EReal) = 0 := zero_word
  rw [e0, zero_add, ← one_word]
  conv_lhs => unfold val_main_v53
  pointwise [val_main_v52, val_main_v51, val_main_v50, val_main_v49, val_main_v48, val_main_v41, val_main_v40, val_main_v39, val_main_cst_10, val_main_cst_11]

theorem ds_at (h : Fin 8) (i n : Fin 8208) : val_main_v61 x0 x1 x2 x3 x4 x5 (ix4 (0 : Fin 1) h i n) =
    (if n.val ≤ i.val then (Ideal.div (val_main_v45 x4 x5 (ix4 (0 : Fin 1) h i n)) (val_main_v36 x0 x1 x2 x3 (ix4 (0 : Fin 1) h i (0 : Fin 1)))
      + val_main_v56 x0 x1 x2 x3 x4 x5 (ix2 h i)) * val_main_v34 x0 x1 x2 x3 (ix4 (0 : Fin 1) h i n) else 0 : EReal) := by
  have e0 : val_main_call1_v0 (F := Ideal) (ix4 (0 : Fin 1) h i n) = (0 : EReal) := by
    unfold val_main_call1_v0
    pointwise [val_main_call1_cst]
  have e60 : val_main_v60 x0 x1 x2 x3 x4 x5 (ix4 (0 : Fin 1) h i n) =
      ((Ideal.div (val_main_v45 x4 x5 (ix4 (0 : Fin 1) h i n)) (val_main_v36 x0 x1 x2 x3 (ix4 (0 : Fin 1) h i (0 : Fin 1)))
      + val_main_v56 x0 x1 x2 x3 x4 x5 (ix2 h i)) * val_main_v34 x0 x1 x2 x3 (ix4 (0 : Fin 1) h i n) : EReal) := by
    conv_lhs => unfold val_main_v60
    pointwise [val_main_v59, val_main_v58, val_main_v57, val_main_v55, val_main_v54]
  rw [val_main_v61_apply, mask_at, select_mask, e0, e60]

theorem y_at (h : Fin 8) (i n : Fin 8208) : val_main_v38 x0 x1 x2 x3 (ix4 (0 : Fin 1) h i n) =
    Ideal.div (val_main_v34 x0 x1 x2 x3 (ix4 (0 : Fin 1) h i n)) (val_main_v36 x0 x1 x2 x3 (ix4 (0 : Fin 1) h i (0 : Fin 1))) := by
  conv_lhs => unfold val_main_v38
  pointwise [val_main_v37]

/-! ## The three results -/

theorem dq_at (h : Fin 8) (i : Fin 8448) (d : Fin 256) : val_main_v68 x0 x1 x2 x3 x4 x5 (ix3 h i d) =
    (if hh : i.val < 8208 ∧ d.val < 192 then
      ∑ n : Fin 8208, (val_main_v61 x0 x1 x2 x3 x4 x5 (ix4 (0 : Fin 1) h (⟨i.val, hh.1⟩ : Fin 8208) n) : EReal)
        * val_main_v5 x2 x3 (ix4 (0 : Fin 1) n h (⟨d.val, hh.2⟩ : Fin 192)) else 0 : EReal) := by
  rw [← sitofp_zero]
  conv_lhs => unfold val_main_v68
  pointwise [val_main_v67, val_main_v66, val_main_v65, val_main_v64, val_main_call2_v0, val_main_c]

theorem dk_at (h : Fin 8) (n : Fin 8448) (d : Fin 256) : val_main_v71 x0 x1 x2 x3 x4 x5 (ix3 h n d) =
    (if hh : n.val < 8208 ∧ d.val < 192 then
      ∑ i : Fin 8208, (val_main_v61 x0 x1 x2 x3 x4 x5 (ix4 (0 : Fin 1) h i (⟨n.val, hh.1⟩ : Fin 8208)) : EReal)
        * val_main_v4 x0 x1 (ix4 (0 : Fin 1) i h (⟨d.val, hh.2⟩ : Fin 192)) else 0 : EReal) := by
  rw [← sitofp_zero]
  conv_lhs => unfold val_main_v71
  pointwise [val_main_v70, val_main_v69, val_main_v63, val_main_v62, val_main_call3_v0, val_main_c_13]

theorem dv_at (h : Fin 8) (n : Fin 8448) (d : Fin 128) : val_main_v74 x0 x1 x2 x3 x5 (ix3 h n d) =
    (if hh : n.val < 8208 then
      ∑ i : Fin 8208, (x5 (ix4 (0 : Fin 1) i h d) : EReal)
        * val_main_v38 x0 x1 x2 x3 (ix4 (0 : Fin 1) h i (⟨n.val, hh⟩ : Fin 8208)) else 0 : EReal) := by
  rw [← sitofp_zero]
  conv_lhs => unfold val_main_v74
  pointwise [val_main_v73, val_main_v72, val_main_v47, val_main_v46, val_main_v44, val_main_call4_v0, val_main_c_14]

end Cert.Proof.FlashRef
end
-- ==== Proof.FwdRef.lean ====
module

public import proofs.«01_k».proof.Proof.Gen.FlashFwdRefIdeal.Read
public import Idealize.ShloMosaic.Lib.Pointwise
public import Idealize.ShloMosaic.Lib.WordCmp
public import Idealize.ShloMosaic.Lib.Claim
public import proofs.«01_k».proof.Proof.FlashReal
public import proofs.«01_k».proof.Proof.FlashRef

/-! The reference attention read at an index: on real queries and keys its output is the weighted sum of the values and its second
result the base-two logarithm of the sum of the exponentials of a row's scores. -/

@[expose] public section
set_option maxRecDepth 16384
noncomputable section
namespace Cert.Proof.FwdRef

open Idealize.ShloMosaic Idealize.ShloMosaic.TcCoe Idealize.SL.Sem
open Cert.Proof Cert.Proof.Flash
open Cert.FlashFwdRefIdeal Cert.FlashFwdRefIdeal.Gen Cert.FlashFwdRefIdeal.Read

variable {x0 : (⟨S1x8208x8x128, .f32⟩ : BufTy).Contents (Elt Ideal)} {x1 : (⟨S1x8208x8x64, .f32⟩ : BufTy).Contents (Elt Ideal)}
  {x2 : (⟨S1x8208x8x128, .f32⟩ : BufTy).Contents (Elt Ideal)} {x3 : (⟨S1x8208x64, .f32⟩ : BufTy).Contents (Elt Ideal)}
  {x4 : (⟨S1x8208x8x128, .f32⟩ : BufTy).Contents (Elt Ideal)}
  {a0 : Fin 8208 → Fin 8 → Fin 128 → ℝ} {a1 : Fin 8208 → Fin 8 → Fin 64 → ℝ} {a2 : Fin 8208 → Fin 8 → Fin 128 → ℝ}
  {a3 : Fin 8208 → Fin 64 → ℝ}
  (h0 : ∀ i h d, (x0 (ix4 (0 : Fin 1) i h d) : EReal) = (a0 i h d : EReal)) (h1 : ∀ i h d, (x1 (ix4 (0 : Fin 1) i h d) : EReal) = (a1 i h d : EReal))
  (h2 : ∀ i h d, (x2 (ix4 (0 : Fin 1) i h d) : EReal) = (a2 i h d : EReal)) (h3 : ∀ i d, (x3 (ix3 (0 : Fin 1) i d) : EReal) = (a3 i d : EReal))

/-! ## The scores -/

include h0 h1 in
theorem q_real (h : Fin 8) (i : Fin 8208) (d : Fin 192) : (val_main_v4 x0 x1 (ix4 (0 : Fin 1) i h d) : EReal) = (qc a0 a1 h i d : EReal) := by
  have e : val_main_v4 x0 x1 (ix4 (0 : Fin 1) i h d) = ((if hd : d.val < 128 then (x0 (ix4 (0 : Fin 1) i h (⟨d.val, hd⟩ : Fin 128)) : EReal)
      else x1 (ix4 (0 : Fin 1) i h (⟨d.val - 128, by omega⟩ : Fin 64))) * (sc : EReal) : EReal) := by
    conv_lhs => unfold val_main_v4
    pointwise [val_main_v3, val_main_v2, val_main_cst]
    rw [scale_word]
  rw [e, qc, EReal.coe_mul]
  congr 1
  by_cases hd : d.val < 128
  · rw [dif_pos hd, dif_pos hd, h0]
  · rw [dif_neg hd, dif_neg hd, h1]

include h2 h3 in
theorem k_real (h : Fin 8) (n : Fin 8208) (d : Fin 192) : (val_main_v5 x2 x3 (ix4 (0 : Fin 1) n h d) : EReal) = (kc a2 a3 h n d : EReal) := by
  have e : val_main_v5 x2 x3 (ix4 (0 : Fin 1) n h d) = (if hd : d.val < 128 then (x2 (ix4 (0 : Fin 1) n h (⟨d.val, hd⟩ : Fin 128)) : EReal)
      else x3 (ix3 (0 : Fin 1) n (⟨d.val - 128, by omega⟩ : Fin 64)) : EReal) := by
    conv_lhs => unfold val_main_v5
    pointwise [val_main_v1, val_main_v0]
  rw [e, kc]
  by_cases hd : d.val < 128
  · rw [dif_pos hd, dif_pos hd, h2]
  · rw [dif_neg hd, dif_neg hd, h3]

include h0 h1 h2 h3 in
theorem s_real (h : Fin 8) (i n : Fin 8208) : (val_main_v13 x0 x1 x2 x3 (ix4 (0 : Fin 1) h i n) : EReal) =
    (if n.val ≤ i.val then (so a0 a1 a2 a3 h i n : EReal) else ⊥) := by
  have e6 : (val_main_v6 x0 x1 x2 x3 (ix4 (0 : Fin 1) h i n) : EReal) = (so a0 a1 a2 a3 h i n : EReal) := by
    have e : val_main_v6 x0 x1 x2 x3 (ix4 (0 : Fin 1) h i n)
        = ∑ d : Fin 192, (val_main_v4 x0 x1 (ix4 (0 : Fin 1) i h d) : EReal) * val_main_v5 x2 x3 (ix4 (0 : Fin 1) n h d) := by
      unfold val_main_v6
      pointwise
    rw [e, so, coe_sum]
    exact Finset.sum_congr rfl fun d _ => by rw [q_real h0 h1, k_real h2 h3, EReal.coe_mul]
  have em : val_main_call0_v1 (F := Ideal) (ix4 (0 : Fin 1) h i n) = BitVec.ofBool (decide (n.val ≤ i.val)) := by
    unfold val_main_call0_v1
    pointwise [val_main_v12, val_main_v11, val_main_v10, val_main_v9, val_main_v8, val_main_v7]
    rw [WordCmp.cmpi_sle_ofNat (by omega) (by omega)]
  have e2 : val_main_call0_v2 (F := Ideal) (ix4 (0 : Fin 1) h i n) = (⊥ : EReal) := by
    unfold val_main_call0_v2
    pointwise [val_main_call0_v0, val_main_cst_0]
    exact bot_word
  rw [val_main_v13_apply, em, FlashRef.select_mask, e6, e2]

/-! ## The weights -/

theorem max_at (h : Fin 8) (i : Fin 8208) : val_main_v14 x0 x1 x2 x3 (ix3 (0 : Fin 1) h i) =
    (Finset.univ : Finset (Fin 8208)).fold max ⊥ fun n => (val_main_v13 x0 x1 x2 x3 (ix4 (0 : Fin 1) h i n) : EReal) := by
  unfold val_main_v14
  generalize val_main_v13 x0 x1 x2 x3 = y
  have hr : Shape.Reduces S1x8x8208x8208 [3] S1x8x8208 := by decide
  have key := Host.reduce_eq_fold_single (s := S1x8x8208x8208) (t := S1x8x8208) (u := S_) (a := 3) (FloatOps.maximumf (F := Ideal) (φ := .f32))
    y (val_main_cst_1 (F := Ideal)) reducesTo_S1x8x8208x8208_S1x8x8208_d3 hr h_S_ (ix3 (0 : Fin 1) h i)
  refine key.trans ?_
  have e0 : (val_main_cst_1 (F := Ideal) (Shape.Idx.first h_S_) : EReal) = ⊥ := bot_word
  rw [e0]
  show Finset.fold max (⊥ : EReal) _ _ = _
  refine congrArg (fun f => Finset.fold max (⊥ : EReal) f (Finset.univ : Finset (Fin 8208))) (funext fun n => ?_)
  refine congrArg y (funext fun a => Fin.ext ?_)
  match a with
  | ⟨0, _⟩ => rfl
  | ⟨1, _⟩ => rfl
  | ⟨2, _⟩ => rfl
  | ⟨3, _⟩ => rfl

theorem m_at (h : Fin 8) (i n : Fin 8208) : val_main_v18 x0 x1 x2 x3 (ix4 (0 : Fin 1) h i n) = val_main_v14 x0 x1 x2 x3 (ix3 (0 : Fin 1) h i) := by
  rw [val_main_v18_apply, val_main_v17_apply, val_main_v16_apply]
  have e : idx_main_v17 (idx_main_v18 (ix4 (0 : Fin 1) h i n)) = ix3 (0 : Fin 1) h i := by
    funext a; apply Fin.ext
    match a with
    | ⟨0, _⟩ => rfl
    | ⟨1, _⟩ => rfl
    | ⟨2, _⟩ => rfl
  have e0 : (val_main_v15 (F := Ideal) (ix3 (0 : Fin 1) h i) : EReal) = ⊥ := bot_word
  rw [e, e0]
  exact max_eq_right bot_le

theorem e_at (h : Fin 8) (i n : Fin 8208) : val_main_v20 x0 x1 x2 x3 (ix4 (0 : Fin 1) h i n) =
    Ideal.exp ((val_main_v13 x0 x1 x2 x3 (ix4 (0 : Fin 1) h i n) : EReal) - val_main_v14 x0 x1 x2 x3 (ix3 (0 : Fin 1) h i)) := by
  rw [val_main_v20_apply, val_main_v19_apply, m_at]
  simp only [Ideal.hostUnary_exp_def, Ideal.subf_def]

theorem y_at (h : Fin 8) (i n : Fin 8208) : val_main_v24 x0 x1 x2 x3 (ix4 (0 : Fin 1) h i n) =
    Ideal.div (val_main_v20 x0 x1 x2 x3 (ix4 (0 : Fin 1) h i n)) (∑ k : Fin 8208, (val_main_v20 x0 x1 x2 x3 (ix4 (0 : Fin 1) h i k) : EReal)) := by
  conv_lhs => unfold val_main_v24
  pointwise [val_main_v23, val_main_v22, val_main_v21, val_main_cst_3]

include h0 h1 h2 h3 in
theorem y_real (h : Fin 8) (i n : Fin 8208) : (val_main_v24 x0 x1 x2 x3 (ix4 (0 : Fin 1) h i n) : EReal) = (We a0 a1 a2 a3 h i n : EReal) := by
  obtain ⟨M, hM⟩ := foldMax_real (fun n : Fin 8208 => (val_main_v13 x0 x1 x2 x3 (ix4 (0 : Fin 1) h i n) : EReal)) (so a0 a1 a2 a3 h i)
    (⟨0, by omega⟩ : Fin 8208)
    (fun n => by
      rw [s_real h0 h1 h2 h3]
      by_cases hn : n.val ≤ i.val
      · exact Or.inr (if_pos hn)
      · exact Or.inl (if_neg hn))
    (by rw [s_real h0 h1 h2 h3]; exact if_pos (Nat.zero_le _))
  have hE : ∀ n, (val_main_v20 x0 x1 x2 x3 (ix4 (0 : Fin 1) h i n) : EReal) = (ex (so a0 a1 a2 a3 h i) (fun j : Fin 8208 => j.val ≤ i.val) M n : EReal) := by
    intro n
    refine (e_at h i n).trans ?_
    rw [s_real h0 h1 h2 h3, max_at, hM, ← exp_masked]
  have hpos := ex_sum_pos (so a0 a1 a2 a3 h i) (fun j : Fin 8208 => j.val ≤ i.val) M (i0 := (⟨0, by omega⟩ : Fin 8208)) (Nat.zero_le _)
  refine (y_at h i n).trans ?_
  rw [Finset.sum_congr rfl fun k _ => hE k, hE, ← coe_sum, div_coe _ hpos.ne', wt_eq, We]

/-! ## The two results -/

theorem o_at (i : Fin 8208) (h : Fin 8) (d : Fin 128) (j : Fin 1024) (hj : j.val = 128 * h.val + d.val) : val_main_v28 x0 x1 x2 x3 x4 (ix2 i j) =
    ∑ k : Fin 8208, (x4 (ix4 (0 : Fin 1) k h d) : EReal) * val_main_v24 x0 x1 x2 x3 (ix4 (0 : Fin 1) h i k) := by
  rw [val_main_v28_apply, val_main_v27_apply, val_main_v26_apply, val_main_v25_apply]
  refine Finset.sum_congr rfl fun k _ => ?_
  congr 2
  · funext a; apply Fin.ext
    match a with
    | ⟨0, _⟩ => rfl
    | ⟨1, _⟩ => rfl
    | ⟨2, _⟩ => show (((i.val * 1024 + j.val) / 1024 * 8 + (i.val * 1024 + j.val) / 128 % 8) * 128 + (i.val * 1024 + j.val) % 128) / 128 % 8 = h.val; omega
    | ⟨3, _⟩ => show (((i.val * 1024 + j.val) / 1024 * 8 + (i.val * 1024 + j.val) / 128 % 8) * 128 + (i.val * 1024 + j.val) % 128) % 128 = d.val; omega
  · funext a; apply Fin.ext
    match a with
    | ⟨0, _⟩ => rfl
    | ⟨1, _⟩ => show (((i.val * 1024 + j.val) / 1024 * 8 + (i.val * 1024 + j.val) / 128 % 8) * 128 + (i.val * 1024 + j.val) % 128) / 128 % 8 = h.val; omega
    | ⟨2, _⟩ => show (((i.val * 1024 + j.val) / 1024 * 8 + (i.val * 1024 + j.val) / 128 % 8) * 128 + (i.val * 1024 + j.val) % 128) / 1024 % 8208 = i.val; omega
    | ⟨3, _⟩ => rfl

include h0 h1 h2 h3 in
theorem o_real (i : Fin 8208) (h : Fin 8) (d : Fin 128) (j : Fin 1024) (hj : j.val = 128 * h.val + d.val) :
    (val_main_v28 x0 x1 x2 x3 x4 (ix2 i j) : EReal) = ∑ k : Fin 8208, (We a0 a1 a2 a3 h i k : EReal) * x4 (ix4 (0 : Fin 1) k h d) := by
  refine (o_at i h d j hj).trans ?_
  exact Finset.sum_congr rfl fun k _ => by rw [y_real h0 h1 h2 h3, mul_comm]

theorem lse_at (h : Fin 8) (i : Fin 8208) : val_main_v35 x0 x1 x2 x3 (ix2 h i) =
    Ideal.div (Ideal.log (∑ k : Fin 8208, Ideal.exp (val_main_v13 x0 x1 x2 x3 (ix4 (0 : Fin 1) h i k)))) (Ideal.log (Ideal.ofBits .f32 0x40000000#32)) := by
  conv_lhs => unfold val_main_v35
  pointwise [val_main_v34, val_main_v33, val_main_cst_5, val_main_v32, val_main_v31, val_main_v30, val_main_v29, val_main_cst_4]

include h0 h1 h2 h3 in
theorem lse_real (h : Fin 8) (i : Fin 8208) : (val_main_v35 x0 x1 x2 x3 (ix2 h i) : EReal)
    = ((Real.log (∑ k : Fin 8208, ex (so a0 a1 a2 a3 h i) (fun j : Fin 8208 => j.val ≤ i.val) 0 k) / Real.log 2 : ℝ) : EReal) := by
  have hpos := ex_sum_pos (so a0 a1 a2 a3 h i) (fun j : Fin 8208 => j.val ≤ i.val) 0 (i0 := (⟨0, by omega⟩ : Fin 8208)) (Nat.zero_le _)
  have hE : ∀ k, Ideal.exp (val_main_v13 x0 x1 x2 x3 (ix4 (0 : Fin 1) h i k)) = (ex (so a0 a1 a2 a3 h i) (fun j : Fin 8208 => j.val ≤ i.val) 0 k : EReal) := by
    intro k
    rw [s_real h0 h1 h2 h3, ← exp_masked, EReal.coe_zero, sub_zero]
  refine (lse_at h i).trans ?_
  rw [Finset.sum_congr rfl fun k _ => hE k, ← coe_sum, two_word, log_coe two_pos, log_coe hpos, div_coe _ log2_pos.ne']

end Cert.Proof.FwdRef
end
-- ==== Proof.Finite.lean ====
module

public import proofs.«01_k».proof.Proof.Common

/-! The precondition that an argument is finite, read at an element. -/

@[expose] public section
noncomputable section
namespace Cert.Proof

open Idealize.ShloMosaic

theorem inf_word : Ideal.ofBits .f32 0x7F800000#32 = ⊤ := by
  simp [Ideal.ofBits, Ideal.ieee]

/-- Where the comparison of an array's magnitudes with infinity is everywhere true, each element is a real number. -/
theorem finite_at {s u : Shape} (x : FVec Ideal s .f32) {dm : Fin u.rank → Fin s.rank} (hb : u.BroadcastsInDim s dm)
    (h : cmpf .olt (Host.absf x) (broadcastInDim s dm hb (constant u .f32 0x7F800000#32)) = fun _ => 1#1) (i : s.Idx) :
    (x i : EReal) = (((x i : EReal).toReal : ℝ) : EReal) := by
  have hi := congrFun h i
  have hlt : max (x i : EReal) (-(x i)) < ⊤ := by
    by_contra hn
    have e : cmpf .olt (Host.absf x) (broadcastInDim s dm hb (constant u .f32 0x7F800000#32)) i
        = BitVec.ofBool (decide (max (x i : EReal) (-(x i)) < Ideal.ofBits .f32 0x7F800000#32)) := rfl
    rw [e, inf_word, decide_eq_false hn] at hi
    exact absurd hi (by decide)
  refine (EReal.coe_toReal ?_ ?_).symm
  · exact fun ht => absurd hlt (by rw [ht]; simp)
  · exact fun ht => absurd hlt (by rw [ht]; simp)

end Cert.Proof
end
-- ==== Proof.FwdValue.lean ====
module

public import proofs.«01_k».proof.Proof.FwdOut
public import proofs.«01_k».proof.Proof.FwdRef
public import proofs.«01_k».proof.Proof.Finite
public import proofs.«01_k».proof.Pre_finite_flashfwd
public import proofs.«01_k».proof.Proof.Gen.Pre_finite_flashfwd

/-! The forward attention's two results are those of the plain attention, on finite queries and keys. -/

@[expose] public section
set_option maxRecDepth 16384
noncomputable section
namespace Cert.Proof.Fwd

open Idealize.ShloMosaic Idealize.ShloMosaic.TcCoe Idealize.SL.Sem
open Cert.Proof
open Cert.Proof.Flash (Wz We up Wz_up Wz_out ex_up ex_out)
open Cert.FlashFwdIdeal Cert.FlashFwdIdeal.Gen

variable (m : (ℓ : Loc nD τ sig) → Buf (Elt Ideal) ℓ) (ρ : Dev nD → PrngReg)

/-- The two results as the lines after the region leave them. -/
def resO (c : Dev nD) : Buf (Elt Ideal) ((c : Thread nD τ).loc main_v22) := Pipeline.afterTail₀ cfgs (dats m) 0 (V0 m) [hostOps1] c main_v22
def resL (c : Dev nD) : Buf (Elt Ideal) ((c : Thread nD τ).loc main_v24) := Pipeline.afterTail₀ cfgs (dats m) 0 (V0 m) [hostOps1] c main_v24

/-- The run, with both results named and the arguments unchanged. -/
theorem run_blocks : θ_run defs (onTc (τ := τ) (main (F := Ideal))) ⟨m, fun _ => 0, ρ⟩ fun r => ∀ c : Dev nD,
      r.2.mem ((c : Thread nD τ).loc main_v22) = resO m c
      ∧ r.2.mem ((c : Thread nD τ).loc main_v24) = resL m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨
      (h c).2 main_v22 (Pipeline.mem_restRefs_of main_v22 (by decide) (by decide)),
      (h c).2 main_v24 (Pipeline.mem_restRefs_of main_v24 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-- The precondition on one device's arguments. -/
def Finite (c : Dev nD) : Prop :=
  (Cert.Pre_finite_flashfwd.fn (F := Ideal) (m ((c : Thread nD τ).loc main_arg0)) (m ((c : Thread nD τ).loc main_arg1)) (m ((c : Thread nD τ).loc main_arg2))
    (m ((c : Thread nD τ).loc main_arg3)) (m ((c : Thread nD τ).loc main_arg4)))
  = (fun _ => 1#1, fun _ => 1#1, fun _ => 1#1, fun _ => 1#1)

variable {m} {c : Dev nD}

/-- Finite queries and keys are real arrays. -/
theorem real_of (h : Finite m c) : AreReal m c (fun i h d => (ar0 m c i h d).toReal) (fun i h d => (ar1 m c i h d).toReal)
    (fun i h d => (ar2 m c i h d).toReal) (fun i d => (ar3 m c i d).toReal) := by
  unfold Finite at h
  simp only [Cert.Pre_finite_flashfwd.fn, Prod.mk.injEq] at h
  obtain ⟨h0, h1, h2, h3⟩ := h
  exact ⟨fun i h d => finite_at _ _ h0 (ix4 (0 : Fin 1) i h d), fun i h d => finite_at _ _ h1 (ix4 (0 : Fin 1) i h d),
    fun i h d => finite_at _ _ h2 (ix4 (0 : Fin 1) i h d), fun i d => finite_at _ _ h3 (ix3 (0 : Fin 1) i d)⟩

/-! ## From the padded rows to the arguments' -/

section Pad
variable (a0 : Fin 8208 → Fin 8 → Fin 128 → ℝ) (a1 : Fin 8208 → Fin 8 → Fin 64 → ℝ) (a2 : Fin 8208 → Fin 8 → Fin 128 → ℝ)
  (a3 : Fin 8208 → Fin 64 → ℝ)

theorem o_up (i : Fin 8208) (h : Fin 8) (d : Fin 128) :
    ∑ n : Fin 8448, (Wz a0 a1 a2 a3 h (up i) n : EReal) * va m c h n d = ∑ k : Fin 8208, (We a0 a1 a2 a3 h i k : EReal) * ar4 m c k h d := by
  refine sum_pad (show 8208 ≤ 8448 by omega) _ _ (fun k => ?_) fun n hn => ?_
  · rw [← Wz_up, va, dif_pos k.isLt]
    rfl
  · rw [Wz_out a0 a1 a2 a3 h i n hn, EReal.coe_zero, zero_mul]
end Pad

open Cert.FlashFwdRefIdeal.Read in
theorem o_agree (h : Finite m c) : val_main_v28 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
    = resO m c := by
  have H := real_of h
  funext y
  idx_vars y
  refine Eq.trans ?_ (tail_o H y0 y1).symm
  refine (FwdRef.o_real H.h0 H.h1 H.h2 H.h3 y0 ⟨y1.val / 128, by omega⟩ ⟨y1.val % 128, Nat.mod_lt _ (by decide)⟩ y1 (Nat.div_add_mod _ _).symm).trans ?_
  rw [oR, o_up]
  rfl

open Cert.FlashFwdRefIdeal.Read in
theorem lse_agree (h : Finite m c) : val_main_v35 (F := Ideal) (m ((c : Thread nD τ).loc main_arg0)) (m ((c : Thread nD τ).loc main_arg1))
      (m ((c : Thread nD τ).loc main_arg2)) (m ((c : Thread nD τ).loc main_arg3))
    = resL m c := by
  have H := real_of h
  funext y
  idx_vars y
  refine Eq.trans ?_ (tail_lse H y0 y1).symm
  refine (FwdRef.lse_real H.h0 H.h1 H.h2 H.h3 y0 y1).trans ?_
  rw [lR]
  refine congrArg (fun z : ℝ => ((Real.log z / Real.log 2 : ℝ) : EReal)) ?_
  exact (sum_pad (show 8208 ≤ 8448 by omega) _ _ (fun k => ex_up _ _ _ _ y0 y1 k) (ex_out _ _ _ _ y0 y1)).symm

end Cert.Proof.Fwd
end
-- ==== Proof.FlashBits.lean ====
module

public import proofs.«01_k».proof.Defs
public import proofs.«01_k».proof.Proof.Gen.FlashBwd
public import proofs.«01_k».proof.Proof.FlashFrame

/-! The attention gradient's call at the machine's floats: its program is the idealized one with each named constant
read as the float that is written, so the run that stands over any float gives its frame. -/

@[expose] public section
set_option maxRecDepth 16384
noncomputable section
namespace Cert.FlashBits

open Idealize.ShloMosaic Idealize.SL.Sem

/-- At the machine's floats a named constant is the float that is written. -/
abbrev namedBits : Named Bits := ⟨fun _ _ {φ} bits => FloatOps.ofBits φ bits⟩
attribute [local instance] namedBits

/-- The frame of the idealized program's text at the machine's floats. -/
def Quiet : Prop :=
  ∀ (m : (ℓ : Loc Cert.FlashBwdIdeal.nD Cert.FlashBwdIdeal.τ Cert.FlashBwdIdeal.sig) → Buf (Elt Bits) ℓ) (g : Dev Cert.FlashBwdIdeal.nD → PrngReg), Cert.Pre_FlashBwd m →
    θ_run (Cert.FlashBwdIdeal.defs (F := Bits)) (onTc (τ := Cert.FlashBwdIdeal.τ) (Cert.FlashBwdIdeal.main (F := Bits))) ⟨m, fun _ => 0, g⟩ (fun r => (∀ c : Dev Cert.FlashBwdIdeal.nD,
      r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
      ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
      ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
      ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3)
      ∧ r.2.mem ((c.tc : Thread Cert.FlashBwdIdeal.nD Cert.FlashBwdIdeal.τ).loc Cert.FlashBwdIdeal.main_arg4) = m ((c.tc : Thread Cert.FlashBwdIdeal.nD Cert.FlashBwdIdeal.τ).loc Cert.FlashBwdIdeal.main_arg4)
      ∧ r.2.mem ((c.tc : Thread Cert.FlashBwdIdeal.nD Cert.FlashBwdIdeal.τ).loc Cert.FlashBwdIdeal.main_arg5) = m ((c.tc : Thread Cert.FlashBwdIdeal.nD Cert.FlashBwdIdeal.τ).loc Cert.FlashBwdIdeal.main_arg5))
      ∧ r.2.sem = fun _ => 0)

theorem quiet : Quiet := fun m g _ => Cert.FlashBwdIdeal.Gen.frame (F := Bits) m g

theorem quiet_eq : Quiet = Cert.quiescent_FlashBwd := by sl_kernel_rfl

theorem frame : Cert.quiescent_FlashBwd := quiet_eq.mp quiet

end Cert.FlashBits
end
-- ==== Proof.FlashOut.lean ====
module

public import proofs.«01_k».proof.Proof.FlashTile
public import Idealize.ShloMosaic.Lib.StableHlo.ReadAt

/-! The attention gradient's three result arrays as sums over the operands that the host hands the call. -/

@[expose] public section
set_option maxRecDepth 16384
noncomputable section
namespace Cert.Proof.Flash

open Idealize.ShloMosaic Idealize.ShloMosaic.TcCoe Idealize.SL.Sem
open Cert.FlashBwdIdeal Cert.FlashBwdIdeal.Gen

variable (m : (ℓ : Loc nD τ sig) → Buf (Elt Ideal) ℓ)

theorem idx : ∀ t : Fin grid0.N, win0_0.index t = ![t.val / 11, 0, 0] ∧ win0_1.index t = ![t.val / 11, 0, 0]
    ∧ win0_2.index t = ![t.val / 11, 0, 0, 0] ∧ win0_3.index t = ![t.val / 11, 0, 0, 0]
    ∧ win0_4.index t = ![t.val / 11, t.val % 11, 0] ∧ win0_5.index t = ![t.val / 11, t.val % 11, 0]
    ∧ win0_6.index t = ![t.val / 11, 0, 0] ∧ win0_7.index t = ![t.val / 11, t.val % 11, 0] ∧ win0_8.index t = ![t.val / 11, t.val % 11, 0] := by
  decide +kernel

/-! ## The operands -/

def opQ (c : Dev nD) (h : Fin 8) (i : Fin 8448) (d : Fin 256) : EReal := V m c main_v11 (ix3 h i d)
def opO (c : Dev nD) (h : Fin 8) (i : Fin 8448) (d : Fin 128) : EReal := V m c main_v48 (ix3 h i d)
def opL (c : Dev nD) (h : Fin 8) (i : Fin 8448) : EReal :=
  V m c main_v49 (ix4 h (⟨i.val / 768, by omega⟩ : Fin 11) (0 : Fin 1) (⟨i.val % 768, Nat.mod_lt _ (by decide)⟩ : Fin 768))
def opD (c : Dev nD) (h : Fin 8) (i : Fin 8448) : EReal :=
  V m c main_v50 (ix4 h (⟨i.val / 768, by omega⟩ : Fin 11) (0 : Fin 1) (⟨i.val % 768, Nat.mod_lt _ (by decide)⟩ : Fin 768))
def opK (c : Dev nD) (h : Fin 8) (n : Fin 8448) (d : Fin 256) : EReal := V m c main_v16 (ix3 h n d)
def opV (c : Dev nD) (h : Fin 8) (n : Fin 8448) (d : Fin 128) : EReal := V m c main_v20 (ix3 h n d)

/-- The weight of row `i` at key `n`, and the score's cotangent. -/
def wgt (c : Dev nD) (h : Fin 8) (n i : Fin 8448) : EReal := pI (opQ m c h) (opL m c h) (opK m c h n) n.val i
def dsc (c : Dev nD) (h : Fin 8) (n i : Fin 8448) : EReal :=
  dsI (opQ m c h) (opL m c h) (opK m c h n) (opO m c h) (opD m c h) (opV m c h n) n.val i

/-! ## A grid point's blocks -/

def hd (t : Fin cfg0.N) : Fin 8 := ⟨t.val / 11, by have : t.val < 88 := lt_of_lt_of_eq t.isLt N_0; omega⟩
def key (j : ℕ) (y : Fin 768) : Fin 8448 := row j y

theorem blkQ (c : Dev nD) (t : Fin cfg0.N) : rowsQ (iblk m c 0 t) = opQ m c (hd t) := by
  funext i d
  have e := idx t
  show (iblk m c 0 t (ix3 (0 : Fin 1) i d) : EReal) = V m c main_v11 (ix3 (hd t) i d)
  blk_ext [iblk, V, e, hd]
theorem blkO (c : Dev nD) (t : Fin cfg0.N) : rowsD (iblk m c 1 t) = opO m c (hd t) := by
  funext i d
  have e := idx t
  show (iblk m c 1 t (ix3 (0 : Fin 1) i d) : EReal) = V m c main_v48 (ix3 (hd t) i d)
  blk_ext [iblk, V, e, hd]
theorem blkL (c : Dev nD) (t : Fin cfg0.N) : rowsL (iblk m c 2 t) = opL m c (hd t) := by
  have e := idx t
  have hb : ∀ (X : Buf (Elt Ideal) ((c : Thread nD τ).loc main_v49)) (a : Fin 11) (r : Fin 768),
      (((cfg0.win 2).blk t).view.read (Elt Ideal) X (ix4 (0 : Fin 1) a (0 : Fin 1) r) : EReal) = X (ix4 (hd t) a (0 : Fin 1) r) := by
    intro X a r
    blk_ext [e, hd]
  exact funext fun i => hb (V m c main_v49) _ _
theorem blkD (c : Dev nD) (t : Fin cfg0.N) : rowsL (iblk m c 3 t) = opD m c (hd t) := by
  have e := idx t
  have hb : ∀ (X : Buf (Elt Ideal) ((c : Thread nD τ).loc main_v50)) (a : Fin 11) (r : Fin 768),
      (((cfg0.win 3).blk t).view.read (Elt Ideal) X (ix4 (0 : Fin 1) a (0 : Fin 1) r) : EReal) = X (ix4 (hd t) a (0 : Fin 1) r) := by
    intro X a r
    blk_ext [e, hd]
  exact funext fun i => hb (V m c main_v50) _ _
theorem blkK (c : Dev nD) (t : Fin cfg0.N) (y : Fin 768) : rowsK (iblk m c 4 t) y = opK m c (hd t) (row (t.val % 11) y) := by
  funext d
  have e := idx t
  have hr := row_val (show t.val % 11 < 11 from Nat.mod_lt _ (by decide)) y
  show (iblk m c 4 t (ix3 (0 : Fin 1) y d) : EReal) = V m c main_v16 (ix3 (hd t) (row (t.val % 11) y) d)
  blk_ext [iblk, V, e, hd, hr]
theorem blkV (c : Dev nD) (t : Fin cfg0.N) (y : Fin 768) : rowsV (iblk m c 5 t) y = opV m c (hd t) (row (t.val % 11) y) := by
  funext d
  have e := idx t
  have hr := row_val (show t.val % 11 < 11 from Nat.mod_lt _ (by decide)) y
  show (iblk m c 5 t (ix3 (0 : Fin 1) y d) : EReal) = V m c main_v20 (ix3 (hd t) (row (t.val % 11) y) d)
  blk_ext [iblk, V, e, hd, hr]

theorem pT_eq (c : Dev nD) (t : Fin cfg0.N) (y : Fin 768) (i : Fin 8448) :
    pT (iblk m c 0 t) (iblk m c 2 t) (iblk m c 4 t) (t.val % 11) y i = wgt m c (hd t) (row (t.val % 11) y) i := by
  have hr := row_val (show t.val % 11 < 11 from Nat.mod_lt _ (by decide)) y
  rw [pT, blkQ m c t, blkL m c t, blkK m c t y, wgt, hr]
theorem dsT_eq (c : Dev nD) (t : Fin cfg0.N) (y : Fin 768) (i : Fin 8448) :
    dsT (iblk m c 0 t) (iblk m c 1 t) (iblk m c 2 t) (iblk m c 3 t) (iblk m c 4 t) (iblk m c 5 t) (t.val % 11) y i
      = dsc m c (hd t) (row (t.val % 11) y) i := by
  have hr := row_val (show t.val % 11 < 11 from Nat.mod_lt _ (by decide)) y
  rw [dsT, blkQ m c t, blkL m c t, blkK m c t y, blkO m c t, blkD m c t, blkV m c t y, dsc, hr]

/-! ## The tiles of dk and dv -/

theorem finAt_dv (c : Dev nD) (t : Fin cfg0.N) (x8 : Vec Ideal S1x8448x256 .f32) (y : Fin 768) (d : Fin 128) :
    ((finAt m c t x8).2.2 (ix2 y d) : EReal) = ∑ i : Fin 8448, wgt m c (hd t) (row (t.val % 11) y) i * opO m c (hd t) i d := by
  rw [finAt, coord1 t, fin_dv _ _ _ _ _ _ (Nat.mod_lt _ (by decide)), blkO m c t]
  exact Finset.sum_congr rfl fun i _ => by rw [pT_eq m c t]
theorem finAt_dk (c : Dev nD) (t : Fin cfg0.N) (x8 : Vec Ideal S1x8448x256 .f32) (y : Fin 768) (d : Fin 256) :
    ((finAt m c t x8).2.1 (ix2 y d) : EReal) = ∑ i : Fin 8448, dsc m c (hd t) (row (t.val % 11) y) i * opQ m c (hd t) i d := by
  rw [finAt, coord1 t, fin_dk _ _ _ _ _ _ (Nat.mod_lt _ (by decide)), blkQ m c t]
  exact Finset.sum_congr rfl fun i _ => by rw [dsT_eq m c t]
theorem finAt_dq (c : Dev nD) (t : Fin cfg0.N) (x8 : Vec Ideal S1x8448x256 .f32) (i : Fin 8448) (d : Fin 256) :
    ((finAt m c t x8).1 (ix3 (0 : Fin 1) i d) : EReal)
      = x8 (ix3 (0 : Fin 1) i d) + ∑ y : Fin 768, dsc m c (hd t) (row (t.val % 11) y) i * opK m c (hd t) (row (t.val % 11) y) d := by
  rw [finAt, coord1 t, fin_dq _ _ _ _ _ _ (Nat.mod_lt _ (by decide))]
  congr 1
  exact Finset.sum_congr rfl fun y _ => by rw [dsT_eq m c t, blkK m c t y]

/-! ## The dq block through a head's tiles -/

theorem dq_upto (c : Dev nD) (i : Fin 8448) (d : Fin 256) : ∀ (n : ℕ) (hn : n < cfg0.N),
    (dqAt m c n hn (ix3 (0 : Fin 1) i d) : EReal)
      = ∑ j ∈ Finset.range (n % 11 + 1), ∑ y : Fin 768, dsc m c (hd ⟨n, hn⟩) (row j y) i * opK m c (hd ⟨n, hn⟩) (row j y) d
  | 0, hn => by
    rw [dqAt, finAt_dq, pay19_at, zero_add]
    simp
  | n + 1, hn => by
    rw [dqAt, finAt_dq]
    by_cases h0 : (n + 1) % 11 = 0
    · rw [if_pos h0, pay19_at, zero_add]
      show _ = ∑ j ∈ Finset.range ((n + 1) % 11 + 1), _
      rw [h0]
      simp [h0]
    · rw [if_neg h0, dq_upto c i d n (Nat.lt_of_succ_lt hn)]
      have e : hd (⟨n, Nat.lt_of_succ_lt hn⟩ : Fin cfg0.N) = hd ⟨n + 1, hn⟩ := Fin.ext (by show n / 11 = (n + 1) / 11; omega)
      rw [e, Finset.sum_range_succ _ ((n + 1) % 11), show n % 11 + 1 = (n + 1) % 11 by omega]

theorem sum_keys (f : Fin 8448 → EReal) : ∑ j ∈ Finset.range 11, ∑ y : Fin 768, f (row j y) = ∑ n : Fin 8448, f n := by
  rw [← sum_rows f (show 0 < 11 by decide) (fun i h => absurd h (by omega)), Finset.sum_range_succ' _ 10, add_comm]
  refine congr (congrArg _ rfl) (Finset.sum_congr rfl fun t _ => ?_)
  rw [show t + 1 = 0 + 1 + t by omega]

/-! ## The three results -/

def dQ (c : Dev nD) : (⟨S8x8448x256, .f32⟩ : BufTy).Contents (Elt Ideal) := fun i =>
  (∑ n : Fin 8448, dsc m c (i 0) n (i 1) * opK m c (i 0) n (i 2) : EReal)
def dK (c : Dev nD) : (⟨S8x8448x256, .f32⟩ : BufTy).Contents (Elt Ideal) := fun n =>
  ((∑ i : Fin 8448, dsc m c (n 0) (n 1) i * opQ m c (n 0) i (n 2)) * ((Real.log 2 : ℝ) : EReal) : EReal)
def dV (c : Dev nD) : (⟨S8x8448x128, .f32⟩ : BufTy).Contents (Elt Ideal) := fun n =>
  (∑ i : Fin 8448, wgt m c (n 0) (n 1) i * opO m c (n 0) i (n 2) : EReal)

theorem out6 (c : Dev nD) : (dats m 0 c).arrAt 6 (cfgs 0).N = dQ m c := by
  refine (dats m 0 c).arrAt_eq_of_covers 6 _ (by decide +kernel) fun t hf y => ?_
  have hfl : t.val % 11 = 10 := (flush0_6 t).mp hf
  blk_simp
  rw [after0_6]
  have e := idx t
  idx_vars y
  have hy0 : y0 = 0 := Subsingleton.elim _ _
  subst hy0
  have keyeq : dqAt m c t.val t.isLt (ix3 (0 : Fin 1) y1 y2) = dQ m c (ix3 (hd t) y1 y2) := by
    rw [dq_upto, hfl]
    exact sum_keys fun n => dsc m c (hd t) n y1 * opK m c (hd t) n y2
  rw [keyeq]
  blk_ext [e, hd]

theorem out7 (c : Dev nD) : (dats m 0 c).arrAt 7 (cfgs 0).N = dK m c := by
  refine (dats m 0 c).arrAt_eq_of_covers 7 _ (by decide +kernel) fun t hf y => ?_
  blk_simp
  rw [after0_7]
  have e := idx t
  idx_vars y
  have hy0 : y0 = 0 := Subsingleton.elim _ _
  subst hy0
  have hr := row_val (show t.val % 11 < 11 from Nat.mod_lt _ (by decide)) y1
  have keyeq : k0_pay5 (finAt m c t (dqIn m c t)).2.1 (ix3 (0 : Fin 1) y1 y2) = dK m c (ix3 (hd t) (row (t.val % 11) y1) y2) := by
    rw [pay5_at, finAt_dk]
    rfl
  rw [keyeq]
  blk_ext [e, hd, hr]

theorem out8 (c : Dev nD) : (dats m 0 c).arrAt 8 (cfgs 0).N = dV m c := by
  refine (dats m 0 c).arrAt_eq_of_covers 8 _ (by decide +kernel) fun t hf y => ?_
  blk_simp
  rw [after0_8]
  have e := idx t
  idx_vars y
  have hy0 : y0 = 0 := Subsingleton.elim _ _
  subst hy0
  have hr := row_val (show t.val % 11 < 11 from Nat.mod_lt _ (by decide)) y1
  have keyeq : k0_pay6 (finAt m c t (dqIn m c t)).2.2 (ix3 (0 : Fin 1) y1 y2) = dV m c (ix3 (hd t) (row (t.val % 11) y1) y2) := by
    rw [pay6_at, finAt_dv]
    rfl
  rw [keyeq]
  blk_ext [e, hd, hr]

end Cert.Proof.Flash
end
-- ==== Proof.FlashArgs.lean ====
module

public import proofs.«01_k».proof.Proof.FlashOut
public import proofs.«01_k».proof.Proof.FlashMath
public import proofs.«01_k».proof.Proof.FlashRef
public import Idealize.ShloMosaic.Lib.StableHlo.ReadAt
public import Idealize.ShloMosaic.Lib.WordCmp

/-! The operands of the attention gradient as the host lines compute them from the arguments. -/

@[expose] public section
set_option maxRecDepth 16384
noncomputable section
namespace Cert.Proof.Flash

open Idealize.ShloMosaic Idealize.ShloMosaic.TcCoe Idealize.SL.Sem
open Cert.Proof
open Cert.FlashBwdIdeal Cert.FlashBwdIdeal.Gen

variable (W : Valuation τ sig (Elt Ideal))

/-- A list of host operations run after another. -/
theorem after_append (l₁ l₂ : List (HloOp τ sig (Elt Ideal))) : StableHlo.after (l₁ ++ l₂) W = StableHlo.after l₂ (StableHlo.after l₁ W) := by
  induction l₁ generalizing W with
  | nil => rfl
  | cons op l ih => exact ih _

/-! ## The elements of the host buffers -/

def elS (h : Fin 8) (i n : Fin 8448) : EReal := W main_v28 (ix3 h i n)
def elLn : EReal := W main_v0 ix0
def elQ (h : Fin 8) (i : Fin 8448) (d : Fin 256) : EReal := W main_v11 (ix3 h i d)
def elK (h : Fin 8) (n : Fin 8448) (d : Fin 256) : EReal := W main_v16 (ix3 h n d)
def elV (h : Fin 8) (n : Fin 8448) (d : Fin 128) : EReal := W main_v20 (ix3 h n d)
def elO (h : Fin 8) (i : Fin 8448) (d : Fin 128) : EReal := W main_v23 (ix3 h i d)
def elMax (h : Fin 8) (i : Fin 8448) : EReal := W main_v30 (ix3 h i (0 : Fin 1))
def elSum (h : Fin 8) (i : Fin 8448) : EReal := W main_v37 (ix3 h i (0 : Fin 1))

/-- The largest entry of a row of masked scores. -/
def rowMax (h : Fin 8) (i : Fin 8448) : EReal :=
  Finset.fold max (Ideal.ofBits FTy.f32 4286578688#32) (fun x : Fin 8448 => elS W h i x) Finset.univ

/-- The exponential of a masked score against the largest of its row. -/
def rowExp (h : Fin 8) (i n : Fin 8448) : EReal := Ideal.exp (elLn W * (elS W h i n - rowMax W h i))

/-- The sum of the exponentials of a row. -/
def rowSum (h : Fin 8) (i : Fin 8448) : EReal := ∑ n : Fin 8448, rowExp W h i n

theorem max_of (h : Fin 8) (i : Fin 8448) : elMax (StableHlo.after (hostOps0_10.take 11) W) h i = rowMax W h i := by
  simp only [hostOps0_10, List.take, rowMax, elMax, elS]
  after_reads_at

theorem sum_of (h : Fin 8) (i : Fin 8448) : elSum (StableHlo.after (hostOps0_10.take 11) W) h i = rowSum W h i := by
  simp only [hostOps0_10, List.take, rowSum, rowExp, rowMax, elS, elLn, elSum]
  after_reads_at

theorem ln_of : elLn (StableHlo.after (hostOps0_10.take 11) W) = elLn W := by
  simp only [hostOps0_10, List.take, elLn]
  after_reads_simp

theorem lse_drop (h : Fin 8) (a : Fin 11) (r : Fin 768) :
    StableHlo.after (hostOps0_10.drop 11) W main_v49 (ix4 h a (0 : Fin 1) r) =
      elMax W h ⟨a.val * 768 + r.val, by omega⟩ + Ideal.div (Ideal.log (elSum W h ⟨a.val * 768 + r.val, by omega⟩)) (elLn W) := by
  simp only [hostOps0_10, List.drop, elMax, elSum, elLn]
  after_reads_at

theorem lse_of (h : Fin 8) (a : Fin 11) (r : Fin 768) :
    StableHlo.after hostOps0_10 W main_v49 (ix4 h a (0 : Fin 1) r) =
      rowMax W h ⟨a.val * 768 + r.val, by omega⟩ +
        Ideal.div (Ideal.log (rowSum W h ⟨a.val * 768 + r.val, by omega⟩)) (elLn W) := by
  rw [← List.take_append_drop 11 hostOps0_10, after_append, lse_drop, max_of, sum_of, ln_of]

theorem delta_of (h : Fin 8) (a : Fin 11) (r : Fin 768) :
    StableHlo.after hostOps0_10 W main_v50 (ix4 h a (0 : Fin 1) r) =
      ∑ d : Fin 128, Ideal.div (∑ n : Fin 8448, rowExp W h ⟨a.val * 768 + r.val, by omega⟩ n * elV W h n d)
          (rowSum W h ⟨a.val * 768 + r.val, by omega⟩) * elO W h ⟨a.val * 768 + r.val, by omega⟩ d := by
  simp only [hostOps0_10, rowSum, rowExp, rowMax, elS, elLn, elV, elO]
  after_reads_at

theorem s_of (h : Fin 8) (i n : Fin 8448) :
    elS (StableHlo.after (hostOps0_8 ++ hostOps0_9) W) h i n =
      (if n.val ≤ i.val then ∑ d : Fin 256, elQ W h i d * elK W h n d else ⊥ : EReal) := by
  simp only [hostOps0_8, hostOps0_9, List.cons_append, List.nil_append, elS, elQ, elK]
  after_reads_at
  rw [WordCmp.cmpi_sle_ofNat (by omega) (by omega), FlashRef.select_mask]
  exact congrArg (fun z => if n.val ≤ i.val then _ else z) bot_word

theorem pass_of {b : Ref sig .tc} (hb : b = main_v0 ∨ b = main_v20 ∨ b = main_v23) :
    StableHlo.after (hostOps0_8 ++ hostOps0_9) W b = W b := by
  simp only [hostOps0_8, hostOps0_9, List.cons_append, List.nil_append]
  rcases hb with rfl | rfl | rfl <;> after_reads_simp

variable (m : (ℓ : Loc nD τ sig) → Buf (Elt Ideal) ℓ) (c : Dev nD)

/-! The elements of the arguments. -/

def ar0 (i : Fin 8208) (h : Fin 8) (d : Fin 128) : EReal := m ((c : Thread nD τ).loc main_arg0) (ix4 (0 : Fin 1) i h d)
def ar1 (i : Fin 8208) (h : Fin 8) (d : Fin 64) : EReal := m ((c : Thread nD τ).loc main_arg1) (ix4 (0 : Fin 1) i h d)
def ar2 (n : Fin 8208) (h : Fin 8) (d : Fin 128) : EReal := m ((c : Thread nD τ).loc main_arg2) (ix4 (0 : Fin 1) n h d)
def ar3 (n : Fin 8208) (d : Fin 64) : EReal := m ((c : Thread nD τ).loc main_arg3) (ix3 (0 : Fin 1) n d)
def ar4 (n : Fin 8208) (h : Fin 8) (d : Fin 128) : EReal := m ((c : Thread nD τ).loc main_arg4) (ix4 (0 : Fin 1) n h d)
def ar5 (i : Fin 8208) (h : Fin 8) (d : Fin 128) : EReal := m ((c : Thread nD τ).loc main_arg5) (ix4 (0 : Fin 1) i h d)

/-- The host buffers once the arguments are padded. -/
def padded : Valuation τ sig (Elt Ideal) :=
  StableHlo.after (List.flatten [hostOps0, hostOps0_1, hostOps0_2, hostOps0_3, hostOps0_4, hostOps0_5, hostOps0_6, hostOps0_7]) (fun b => m (c, b))

/-- The host buffers once the scores are masked. -/
def masked : Valuation τ sig (Elt Ideal) := StableHlo.after (hostOps0_8 ++ hostOps0_9) (padded m c)

theorem V_split (b : Ref sig .tc) : V m c b = StableHlo.after hostOps0_10 (masked m c) b := by
  unfold V masked padded
  rw [← after_append, ← after_append]
  simp only [List.flatten_cons, List.flatten_nil, List.append_nil, List.append_assoc]

theorem elQ_at (h : Fin 8) (i : Fin 8448) (d : Fin 256) : elQ (padded m c) h i d =
    (if hh : i.val < 8208 ∧ d.val < 192 then
      Ideal.div ((if hd : d.val < 128 then ar0 m c ⟨i.val, hh.1⟩ h ⟨d.val, hd⟩ else ar1 m c ⟨i.val, hh.1⟩ h ⟨d.val - 128, by omega⟩) * Ideal.ofBits .f32 0x3D93CD3A#32)
        (Ideal.log (Ideal.ofBits .f32 0x40000000#32))
      else 0 : EReal) := by
  rw [elQ, ← sitofp_zero]
  simp only [ar0, ar1]
  simp only [padded, List.flatten_cons, List.flatten_nil, List.append_nil, hostOps0, hostOps0_1, hostOps0_2, hostOps0_3, hostOps0_4, hostOps0_5,
    hostOps0_6, hostOps0_7, List.cons_append, List.nil_append]
  after_reads_at
  rfl

theorem elK_at (h : Fin 8) (n : Fin 8448) (d : Fin 256) : elK (padded m c) h n d =
    (if hh : n.val < 8208 ∧ d.val < 192 then
      (if hd : d.val < 128 then ar2 m c ⟨n.val, hh.1⟩ h ⟨d.val, hd⟩ else ar3 m c ⟨n.val, hh.1⟩ ⟨d.val - 128, by omega⟩)
      else 0 : EReal) := by
  rw [elK, ← sitofp_zero]
  simp only [ar2, ar3]
  simp only [padded, List.flatten_cons, List.flatten_nil, List.append_nil, hostOps0, hostOps0_1, hostOps0_2, hostOps0_3, hostOps0_4, hostOps0_5,
    hostOps0_6, hostOps0_7, List.cons_append, List.nil_append]
  after_reads_at
  after_reads_simp
  pointwise

theorem elV_at (h : Fin 8) (n : Fin 8448) (d : Fin 128) : elV (padded m c) h n d =
    (if hn : n.val < 8208 then ar4 m c ⟨n.val, hn⟩ h d else 0 : EReal) := by
  rw [elV, ← sitofp_zero]
  simp only [ar4]
  simp only [padded, List.flatten_cons, List.flatten_nil, List.append_nil, hostOps0, hostOps0_1, hostOps0_2, hostOps0_3, hostOps0_4, hostOps0_5,
    hostOps0_6, hostOps0_7, List.cons_append, List.nil_append]
  after_reads_at

theorem elO_at (h : Fin 8) (i : Fin 8448) (d : Fin 128) : elO (padded m c) h i d =
    (if hi : i.val < 8208 then ar5 m c ⟨i.val, hi⟩ h d else 0 : EReal) := by
  rw [elO, ← sitofp_zero]
  simp only [ar5]
  simp only [padded, List.flatten_cons, List.flatten_nil, List.append_nil, hostOps0, hostOps0_1, hostOps0_2, hostOps0_3, hostOps0_4, hostOps0_5,
    hostOps0_6, hostOps0_7, List.cons_append, List.nil_append]
  after_reads_at

theorem elLn_at : elLn (padded m c) = ((Real.log 2 : ℝ) : EReal) := by
  rw [elLn]
  simp only [padded, List.flatten_cons, List.flatten_nil, List.append_nil, hostOps0, hostOps0_1, hostOps0_2, hostOps0_3, hostOps0_4, hostOps0_5,
    hostOps0_6, hostOps0_7, List.cons_append, List.nil_append]
  after_reads_at
  exact (congrArg Ideal.log two_word).trans (log_coe two_pos)

/-! ## The kernel's operands -/

theorem opQ_eq (h : Fin 8) (i : Fin 8448) (d : Fin 256) : opQ m c h i d = elQ (padded m c) h i d := by
  rw [opQ, V_split, masked, elQ]
  simp only [hostOps0_8, hostOps0_9, hostOps0_10, List.cons_append, List.nil_append]
  after_reads_simp

theorem opK_eq (h : Fin 8) (n : Fin 8448) (d : Fin 256) : opK m c h n d = elK (padded m c) h n d := by
  rw [opK, V_split, masked, elK]
  simp only [hostOps0_8, hostOps0_9, hostOps0_10, List.cons_append, List.nil_append]
  after_reads_simp

theorem opV_eq (h : Fin 8) (n : Fin 8448) (d : Fin 128) : opV m c h n d = elV (padded m c) h n d := by
  rw [opV, V_split, masked, elV]
  simp only [hostOps0_8, hostOps0_9, hostOps0_10, List.cons_append, List.nil_append]
  after_reads_simp

theorem opO_eq (h : Fin 8) (i : Fin 8448) (d : Fin 128) : opO m c h i d = elO (padded m c) h i d := by
  rw [opO, V_split, masked, elO]
  simp only [hostOps0_8, hostOps0_9, hostOps0_10, List.cons_append, List.nil_append]
  after_reads_at

theorem opL_eq (h : Fin 8) (i : Fin 8448) : opL m c h i =
    rowMax (masked m c) h i + Ideal.div (Ideal.log (rowSum (masked m c) h i)) (elLn (masked m c)) := by
  have e : (⟨i.val / 768 * 768 + i.val % 768, by omega⟩ : Fin 8448) = i := Fin.ext (Nat.div_add_mod' _ _)
  rw [opL, V_split, lse_of]
  simp only [e]

theorem opD_eq (h : Fin 8) (i : Fin 8448) : opD m c h i =
    ∑ d : Fin 128, Ideal.div (∑ n : Fin 8448, rowExp (masked m c) h i n * elV (masked m c) h n d) (rowSum (masked m c) h i) * elO (masked m c) h i d := by
  have e : (⟨i.val / 768 * 768 + i.val % 768, by omega⟩ : Fin 8448) = i := Fin.ext (Nat.div_add_mod' _ _)
  rw [opD, V_split, delta_of]
  simp only [e]

end Cert.Proof.Flash
end
-- ==== Proof.FlashKer.lean ====
module

public import proofs.«01_k».proof.Proof.FlashArgs
public import proofs.«01_k».proof.Proof.FlashReal

/-! On real arguments the kernel's three results are the real gradient's sums on the padded arrays. -/

@[expose] public section
set_option maxRecDepth 16384
noncomputable section
namespace Cert.Proof.Flash

open Idealize.ShloMosaic Idealize.ShloMosaic.TcCoe Idealize.SL.Sem
open Cert.Proof
open Cert.FlashBwdIdeal Cert.FlashBwdIdeal.Gen

variable (m : (ℓ : Loc nD τ sig) → Buf (Elt Ideal) ℓ) (c : Dev nD)
  (a0 : Fin 8208 → Fin 8 → Fin 128 → ℝ) (a1 : Fin 8208 → Fin 8 → Fin 64 → ℝ) (a2 : Fin 8208 → Fin 8 → Fin 128 → ℝ)
  (a3 : Fin 8208 → Fin 64 → ℝ) (a4 a5 : Fin 8208 → Fin 8 → Fin 128 → ℝ)

/-- The arguments are the real arrays. -/
structure AreReal : Prop where
  h0 : ∀ i h d, ar0 m c i h d = (a0 i h d : EReal)
  h1 : ∀ i h d, ar1 m c i h d = (a1 i h d : EReal)
  h2 : ∀ i h d, ar2 m c i h d = (a2 i h d : EReal)
  h3 : ∀ i d, ar3 m c i d = (a3 i d : EReal)
  h4 : ∀ i h d, ar4 m c i h d = (a4 i h d : EReal)
  h5 : ∀ i h d, ar5 m c i h d = (a5 i h d : EReal)

variable {m c a0 a1 a2 a3 a4 a5} (H : AreReal m c a0 a1 a2 a3 a4 a5)
include H

theorem elQ_real (h : Fin 8) (i : Fin 8448) (d : Fin 256) : elQ (padded m c) h i d = (qz a0 a1 h i d : EReal) := by
  rw [elQ_at, qz]
  by_cases hh : i.val < 8208 ∧ d.val < 192
  · rw [dif_pos hh, dif_pos hh, scale_word, two_word, log_coe two_pos, ← div_coe _ log2_pos.ne', qc, EReal.coe_mul]
    congr 2
    by_cases hd : d.val < 128
    · rw [dif_pos hd, dif_pos hd, H.h0]
    · rw [dif_neg hd, dif_neg hd, H.h1]
  · rw [dif_neg hh, dif_neg hh, EReal.coe_zero]

theorem elK_real (h : Fin 8) (n : Fin 8448) (d : Fin 256) : elK (padded m c) h n d = (kz a2 a3 h n d : EReal) := by
  rw [elK_at, kz]
  by_cases hh : n.val < 8208 ∧ d.val < 192
  · rw [dif_pos hh, dif_pos hh, kc]
    by_cases hd : d.val < 128
    · rw [dif_pos hd, dif_pos hd, H.h2]
    · rw [dif_neg hd, dif_neg hd, H.h3]
  · rw [dif_neg hh, dif_neg hh, EReal.coe_zero]

theorem elV_real (h : Fin 8) (n : Fin 8448) (d : Fin 128) : elV (padded m c) h n d = (rz a4 h n d : EReal) := by
  rw [elV_at, rz]
  by_cases hn : n.val < 8208
  · rw [dif_pos hn, dif_pos hn, H.h4]
  · rw [dif_neg hn, dif_neg hn, EReal.coe_zero]

theorem elO_real (h : Fin 8) (i : Fin 8448) (d : Fin 128) : elO (padded m c) h i d = (rz a5 h i d : EReal) := by
  rw [elO_at, rz]
  by_cases hi : i.val < 8208
  · rw [dif_pos hi, dif_pos hi, H.h5]
  · rw [dif_neg hi, dif_neg hi, EReal.coe_zero]

theorem score_real (h : Fin 8) (i n : Fin 8448) :
    ∑ d : Fin 256, elQ (padded m c) h i d * elK (padded m c) h n d = ((tz a0 a1 a2 a3 h i n / Real.log 2 : ℝ) : EReal) := by
  rw [tz, mul_div_cancel_right₀ _ log2_pos.ne', coe_sum]
  exact Finset.sum_congr rfl fun d _ => by rw [elQ_real H, elK_real H, EReal.coe_mul]

theorem elS_real (h : Fin 8) (i n : Fin 8448) :
    elS (masked m c) h i n = (if n.val ≤ i.val then ((tz a0 a1 a2 a3 h i n / Real.log 2 : ℝ) : EReal) else ⊥) := by
  rw [masked, s_of, score_real H]

omit H in
theorem elLn_masked : elLn (masked m c) = ((Real.log 2 : ℝ) : EReal) := by
  rw [← elLn_at m c, elLn, elLn, masked, pass_of _ (Or.inl rfl)]

/-- A row's largest score, exponentials, and their sum. -/
theorem row_real (h : Fin 8) (i : Fin 8448) : ∃ M : ℝ, rowMax (masked m c) h i = (M : EReal)
    ∧ (∀ n, rowExp (masked m c) h i n = (ex (tz a0 a1 a2 a3 h i) (fun j : Fin 8448 => j.val ≤ i.val) (Real.log 2 * M) n : EReal))
    ∧ rowSum (masked m c) h i = ((∑ n, ex (tz a0 a1 a2 a3 h i) (fun j : Fin 8448 => j.val ≤ i.val) (Real.log 2 * M) n : ℝ) : EReal) := by
  obtain ⟨M, hM⟩ := foldMax_real (fun n => elS (masked m c) h i n) (fun n => tz a0 a1 a2 a3 h i n / Real.log 2) (⟨0, by omega⟩ : Fin 8448)
    (fun n => by
      rw [elS_real H]
      by_cases hn : n.val ≤ i.val
      · exact Or.inr (if_pos hn)
      · exact Or.inl (if_neg hn))
    (by rw [elS_real H]; exact if_pos (Nat.zero_le _))
  have hMax : rowMax (masked m c) h i = (M : EReal) := by rw [rowMax, ← hM, bot_word]
  have hE : ∀ n, rowExp (masked m c) h i n = (ex (tz a0 a1 a2 a3 h i) (fun j : Fin 8448 => j.val ≤ i.val) (Real.log 2 * M) n : EReal) := by
    intro n
    rw [rowExp, hMax, elLn_masked, elS_real H, ← exp_masked2]
  refine ⟨M, hMax, hE, ?_⟩
  rw [rowSum, coe_sum]
  exact Finset.sum_congr rfl fun n _ => hE n

theorem wgt_real (h : Fin 8) (n i : Fin 8448) : wgt m c h n i = (Wz a0 a1 a2 a3 h i n : EReal) := by
  by_cases hn : n.val ≤ i.val
  · obtain ⟨M, hM, hE, hS⟩ := row_real H h i
    have hpos := ex_sum_pos (tz a0 a1 a2 a3 h i) (fun j : Fin 8448 => j.val ≤ i.val) (Real.log 2 * M) (i0 := n) hn
    have e : (∑ d : Fin 256, opK m c h n d * opQ m c h i d) = ((tz a0 a1 a2 a3 h i n / Real.log 2 : ℝ) : EReal) := by
      rw [← score_real H]
      exact Finset.sum_congr rfl fun d _ => by rw [opK_eq, opQ_eq, mul_comm]
    rw [wgt, pI, if_pos hn, e, opL_eq, hM, hS, elLn_masked, log_coe hpos, div_coe _ log2_pos.ne', ← EReal.coe_add,
      exp2_lse _ (fun j : Fin 8448 => j.val ≤ i.val) M hn, Wz]
  · rw [wgt, pI_of_lt (by omega), Wz, wt, ex, if_neg hn, zero_div, EReal.coe_zero]

omit H in
/-- A weighted mean of values, from the exponentials. -/
theorem mean_real (e v : Fin 8448 → ℝ) (S o : ℝ) (hS : 0 < S) :
    Ideal.div (∑ n : Fin 8448, (e n : EReal) * (v n : EReal)) (S : EReal) * (o : EReal) = ((∑ n : Fin 8448, e n / S * (v n * o) : ℝ) : EReal) := by
  rw [Finset.sum_congr rfl fun n _ => (EReal.coe_mul (e n) (v n)).symm, ← coe_sum, div_coe _ hS.ne', ← EReal.coe_mul, Finset.sum_div, Finset.sum_mul]
  congr 1
  exact Finset.sum_congr rfl fun n _ => by ring

theorem elV_masked (h : Fin 8) (n : Fin 8448) (d : Fin 128) : elV (masked m c) h n d = (rz a4 h n d : EReal) := by
  rw [← elV_real H, elV, elV, masked, pass_of _ (Or.inr (Or.inl rfl))]

theorem elO_masked (h : Fin 8) (i : Fin 8448) (d : Fin 128) : elO (masked m c) h i d = (rz a5 h i d : EReal) := by
  rw [← elO_real H, elO, elO, masked, pass_of _ (Or.inr (Or.inr rfl))]

theorem opD_real (h : Fin 8) (i : Fin 8448) : opD m c h i = ((∑ n : Fin 8448, Wz a0 a1 a2 a3 h i n * gz a4 a5 h i n : ℝ) : EReal) := by
  obtain ⟨M, hM, hE, hS⟩ := row_real H h i
  have hpos := ex_sum_pos (tz a0 a1 a2 a3 h i) (fun j : Fin 8448 => j.val ≤ i.val) (Real.log 2 * M) (i0 := i) (le_refl i.val)
  rw [opD_eq]
  simp only [hS, hE, elV_masked H, elO_masked H, mean_real _ _ _ _ hpos, wt_eq]
  refine (coe_sum _ _).symm.trans (congrArg Real.toEReal ?_)
  refine Finset.sum_comm.trans (Finset.sum_congr rfl fun n _ => ?_)
  rw [gz, Finset.mul_sum, Wz]

theorem dsc_real (h : Fin 8) (n i : Fin 8448) : dsc m c h n i = (Dz a0 a1 a2 a3 a4 a5 h i n : EReal) := by
  have e : (∑ d : Fin 128, opV m c h n d * opO m c h i d) = (gz a4 a5 h i n : EReal) := by
    rw [gz, coe_sum]
    exact Finset.sum_congr rfl fun d _ => by rw [opV_eq, opO_eq, elV_real H, elO_real H, EReal.coe_mul]
  have ew : pI (opQ m c h) (opL m c h) (opK m c h n) n.val i = (Wz a0 a1 a2 a3 h i n : EReal) := wgt_real H h n i
  rw [dsc, dsI, ew, e, opD_real H, ← EReal.coe_sub, ← EReal.coe_mul, Dz]

theorem dQ_real (h : Fin 8) (i : Fin 8448) (d : Fin 256) : (dQ m c (ix3 h i d) : EReal) =
    ((if hh : i.val < 8208 ∧ d.val < 192 then ∑ n : Fin 8208, De a0 a1 a2 a3 a4 a5 h ⟨i.val, hh.1⟩ n * kc a2 a3 h n ⟨d.val, hh.2⟩ else 0 : ℝ) : EReal) := by
  rw [← dq_real, coe_sum]
  exact Finset.sum_congr rfl fun n _ => by
    show dsc m c h n i * opK m c h n d = _
    rw [dsc_real H, opK_eq, elK_real H, EReal.coe_mul]

theorem dK_real (h : Fin 8) (n : Fin 8448) (d : Fin 256) : (dK m c (ix3 h n d) : EReal) =
    ((if hh : n.val < 8208 ∧ d.val < 192 then ∑ i : Fin 8208, De a0 a1 a2 a3 a4 a5 h i ⟨n.val, hh.1⟩ * qc a0 a1 h i ⟨d.val, hh.2⟩ else 0 : ℝ) : EReal) := by
  rw [← dk_real, EReal.coe_mul, coe_sum]
  exact congrArg (· * ((Real.log 2 : ℝ) : EReal)) (Finset.sum_congr rfl fun i _ => by
    show dsc m c h n i * opQ m c h i d = _
    rw [dsc_real H, opQ_eq, elQ_real H, EReal.coe_mul])

theorem dV_real (h : Fin 8) (n : Fin 8448) (d : Fin 128) : (dV m c (ix3 h n d) : EReal) =
    ((if hn : n.val < 8208 then ∑ i : Fin 8208, We a0 a1 a2 a3 h i ⟨n.val, hn⟩ * a5 i h d else 0 : ℝ) : EReal) := by
  rw [← dv_real, coe_sum]
  exact Finset.sum_congr rfl fun i _ => by
    show wgt m c h n i * opO m c h i d = _
    rw [wgt_real H, opO_eq, elO_real H, EReal.coe_mul]

end Cert.Proof.Flash
end
-- ==== Proof.FlashRefReal.lean ====
module

public import proofs.«01_k».proof.Proof.FlashRef
public import proofs.«01_k».proof.Proof.FlashReal

/-! On real arguments the reference's three results are the real gradient's sums. -/

@[expose] public section
set_option maxRecDepth 16384
noncomputable section
namespace Cert.Proof.FlashRef

open Idealize.ShloMosaic Idealize.ShloMosaic.TcCoe Idealize.SL.Sem
open Cert.Proof Cert.Proof.Flash
open Cert.FlashBwdRefIdeal Cert.FlashBwdRefIdeal.Read

variable {x0 : (⟨S1x8208x8x128, .f32⟩ : BufTy).Contents (Elt Ideal)} {x1 : (⟨S1x8208x8x64, .f32⟩ : BufTy).Contents (Elt Ideal)}
  {x2 : (⟨S1x8208x8x128, .f32⟩ : BufTy).Contents (Elt Ideal)} {x3 : (⟨S1x8208x64, .f32⟩ : BufTy).Contents (Elt Ideal)}
  {x4 x5 : (⟨S1x8208x8x128, .f32⟩ : BufTy).Contents (Elt Ideal)}
  {a0 : Fin 8208 → Fin 8 → Fin 128 → ℝ} {a1 : Fin 8208 → Fin 8 → Fin 64 → ℝ} {a2 : Fin 8208 → Fin 8 → Fin 128 → ℝ}
  {a3 : Fin 8208 → Fin 64 → ℝ} {a4 a5 : Fin 8208 → Fin 8 → Fin 128 → ℝ}
  (h0 : ∀ i h d, (x0 (ix4 (0 : Fin 1) i h d) : EReal) = (a0 i h d : EReal)) (h1 : ∀ i h d, (x1 (ix4 (0 : Fin 1) i h d) : EReal) = (a1 i h d : EReal))
  (h2 : ∀ i h d, (x2 (ix4 (0 : Fin 1) i h d) : EReal) = (a2 i h d : EReal)) (h3 : ∀ i d, (x3 (ix3 (0 : Fin 1) i d) : EReal) = (a3 i d : EReal))
  (h4 : ∀ i h d, (x4 (ix4 (0 : Fin 1) i h d) : EReal) = (a4 i h d : EReal)) (h5 : ∀ i h d, (x5 (ix4 (0 : Fin 1) i h d) : EReal) = (a5 i h d : EReal))

include h0 h1 in
theorem q_real (h : Fin 8) (i : Fin 8208) (d : Fin 192) : (val_main_v4 x0 x1 (ix4 (0 : Fin 1) i h d) : EReal) = (qc a0 a1 h i d : EReal) := by
  refine (qs_at x0 x1 i h d).trans ?_
  rw [qc, EReal.coe_mul]
  congr 1
  by_cases hd : d.val < 128
  · rw [dif_pos hd, dif_pos hd, h0]
  · rw [dif_neg hd, dif_neg hd, h1]

include h2 h3 in
theorem k_real (h : Fin 8) (n : Fin 8208) (d : Fin 192) : (val_main_v5 x2 x3 (ix4 (0 : Fin 1) n h d) : EReal) = (kc a2 a3 h n d : EReal) := by
  refine (k_at x2 x3 n h d).trans ?_
  rw [kc]
  by_cases hd : d.val < 128
  · rw [dif_pos hd, dif_pos hd, h2]
  · rw [dif_neg hd, dif_neg hd, h3]

include h0 h1 h2 h3 in
theorem s_real (h : Fin 8) (i n : Fin 8208) : (val_main_v13_0 x0 x1 x2 x3 (ix4 (0 : Fin 1) h i n) : EReal) =
    (if n.val ≤ i.val then (so a0 a1 a2 a3 h i n : EReal) else ⊥) := by
  refine (s_at x0 x1 x2 x3 h i n).trans ?_
  rw [so, coe_sum]
  exact congrArg (fun z => if n.val ≤ i.val then z else ⊥) (Finset.sum_congr rfl fun d _ => by rw [q_real h0 h1, k_real h2 h3, EReal.coe_mul])

include h0 h1 h2 h3 in
/-- A row's exponentials, relative to its largest score, and their sum. -/
theorem row_real (h : Fin 8) (i : Fin 8208) : ∃ M : ℝ,
    (∀ n, (val_main_v34 x0 x1 x2 x3 (ix4 (0 : Fin 1) h i n) : EReal) = (ex (so a0 a1 a2 a3 h i) (fun j : Fin 8208 => j.val ≤ i.val) M n : EReal))
    ∧ (val_main_v36 x0 x1 x2 x3 (ix4 (0 : Fin 1) h i (0 : Fin 1)) : EReal)
        = ((∑ n, ex (so a0 a1 a2 a3 h i) (fun j : Fin 8208 => j.val ≤ i.val) M n : ℝ) : EReal) := by
  obtain ⟨M, hM⟩ := foldMax_real (fun n : Fin 8208 => (val_main_v13_0 x0 x1 x2 x3 (ix4 (0 : Fin 1) h i n) : EReal)) (so a0 a1 a2 a3 h i)
    (⟨0, by omega⟩ : Fin 8208)
    (fun n => by
      rw [s_real h0 h1 h2 h3]
      by_cases hn : n.val ≤ i.val
      · exact Or.inr (if_pos hn)
      · exact Or.inl (if_neg hn))
    (by rw [s_real h0 h1 h2 h3]; exact if_pos (Nat.zero_le _))
  have hE : ∀ n, (val_main_v34 x0 x1 x2 x3 (ix4 (0 : Fin 1) h i n) : EReal) = (ex (so a0 a1 a2 a3 h i) (fun j : Fin 8208 => j.val ≤ i.val) M n : EReal) := by
    intro n
    refine (e_at x0 x1 x2 x3 h i n).trans ?_
    rw [s_real h0 h1 h2 h3, max_at, hM, ← exp_masked]
  refine ⟨M, hE, (l_at x0 x1 x2 x3 h i).trans ?_⟩
  rw [coe_sum]
  exact Finset.sum_congr rfl fun n _ => hE n

include h4 h5 in
theorem g_real (h : Fin 8) (i n : Fin 8208) : (val_main_v45 x4 x5 (ix4 (0 : Fin 1) h i n) : EReal) = (gr a4 a5 h i n : EReal) := by
  refine (g_at x4 x5 h i n).trans ?_
  rw [gr, coe_sum]
  exact Finset.sum_congr rfl fun d _ => by rw [h4, h5, EReal.coe_mul]

include h0 h1 h2 h3 in
theorem y_real (h : Fin 8) (i n : Fin 8208) : (val_main_v38 x0 x1 x2 x3 (ix4 (0 : Fin 1) h i n) : EReal) = (We a0 a1 a2 a3 h i n : EReal) := by
  obtain ⟨M, hE, hS⟩ := row_real h0 h1 h2 h3 h i
  have hpos := ex_sum_pos (so a0 a1 a2 a3 h i) (fun j : Fin 8208 => j.val ≤ i.val) M (i0 := (⟨0, by omega⟩ : Fin 8208)) (Nat.zero_le _)
  refine (y_at x0 x1 x2 x3 h i n).trans ?_
  rw [hE, hS, div_coe _ hpos.ne', wt_eq, We]

include h0 h1 h2 h3 h4 h5 in
theorem ds_real (h : Fin 8) (i n : Fin 8208) : (val_main_v61 x0 x1 x2 x3 x4 x5 (ix4 (0 : Fin 1) h i n) : EReal) = (De a0 a1 a2 a3 a4 a5 h i n : EReal) := by
  refine (ds_at x0 x1 x2 x3 x4 x5 h i n).trans ?_
  by_cases hn : n.val ≤ i.val
  · obtain ⟨M, hE, hS⟩ := row_real h0 h1 h2 h3 h i
    have hpos := ex_sum_pos (so a0 a1 a2 a3 h i) (fun j : Fin 8208 => j.val ≤ i.val) M (i0 := n) hn
    have hc : (val_main_v56 x0 x1 x2 x3 x4 x5 (ix2 h i) : EReal) = ((-(∑ j, gr a4 a5 h i j
        * (1 / ((∑ k, ex (so a0 a1 a2 a3 h i) (fun j : Fin 8208 => j.val ≤ i.val) M k) * ∑ k, ex (so a0 a1 a2 a3 h i) (fun j : Fin 8208 => j.val ≤ i.val) M k))
        * ex (so a0 a1 a2 a3 h i) (fun j : Fin 8208 => j.val ≤ i.val) M j) : ℝ) : EReal) := by
      refine (corr_at x0 x1 x2 x3 x4 x5 h i).trans ?_
      rw [EReal.coe_neg, coe_sum]
      refine congrArg Neg.neg (Finset.sum_congr rfl fun j _ => ?_)
      rw [hE, hS, g_real h4 h5, ← EReal.coe_mul, div_coe _ (mul_pos hpos hpos).ne', ← EReal.coe_mul, ← EReal.coe_mul]
    rw [if_pos hn, hc, hE, hS, g_real h4 h5, div_coe _ hpos.ne', ← EReal.coe_add, ← EReal.coe_mul,
      grad_row _ (fun j : Fin 8208 => j.val ≤ i.val) _ M (i0 := n) hn, De]
    rfl
  · rw [if_neg hn, De, We, wt, ex, if_neg hn, zero_div, zero_mul, EReal.coe_zero]

include h0 h1 h2 h3 h4 h5 in
theorem dq_real (h : Fin 8) (i : Fin 8448) (d : Fin 256) : (val_main_v68 x0 x1 x2 x3 x4 x5 (ix3 h i d) : EReal) =
    ((if hh : i.val < 8208 ∧ d.val < 192 then ∑ n : Fin 8208, De a0 a1 a2 a3 a4 a5 h ⟨i.val, hh.1⟩ n * kc a2 a3 h n ⟨d.val, hh.2⟩ else 0 : ℝ) : EReal) := by
  refine (dq_at x0 x1 x2 x3 x4 x5 h i d).trans ?_
  by_cases hh : i.val < 8208 ∧ d.val < 192
  · rw [dif_pos hh, dif_pos hh, coe_sum]
    exact Finset.sum_congr rfl fun n _ => by rw [ds_real h0 h1 h2 h3 h4 h5, k_real h2 h3, EReal.coe_mul]
  · rw [dif_neg hh, dif_neg hh, EReal.coe_zero]

include h0 h1 h2 h3 h4 h5 in
theorem dk_real (h : Fin 8) (n : Fin 8448) (d : Fin 256) : (val_main_v71 x0 x1 x2 x3 x4 x5 (ix3 h n d) : EReal) =
    ((if hh : n.val < 8208 ∧ d.val < 192 then ∑ i : Fin 8208, De a0 a1 a2 a3 a4 a5 h i ⟨n.val, hh.1⟩ * qc a0 a1 h i ⟨d.val, hh.2⟩ else 0 : ℝ) : EReal) := by
  refine (dk_at x0 x1 x2 x3 x4 x5 h n d).trans ?_
  by_cases hh : n.val < 8208 ∧ d.val < 192
  · rw [dif_pos hh, dif_pos hh, coe_sum]
    exact Finset.sum_congr rfl fun n _ => by rw [ds_real h0 h1 h2 h3 h4 h5, q_real h0 h1, EReal.coe_mul]
  · rw [dif_neg hh, dif_neg hh, EReal.coe_zero]

include h0 h1 h2 h3 h5 in
theorem dv_real (h : Fin 8) (n : Fin 8448) (d : Fin 128) : (val_main_v74 x0 x1 x2 x3 x5 (ix3 h n d) : EReal) =
    ((if hn : n.val < 8208 then ∑ i : Fin 8208, We a0 a1 a2 a3 h i ⟨n.val, hn⟩ * a5 i h d else 0 : ℝ) : EReal) := by
  refine (dv_at x0 x1 x2 x3 x5 h n d).trans ?_
  by_cases hn : n.val < 8208
  · rw [dif_pos hn, dif_pos hn, coe_sum]
    exact Finset.sum_congr rfl fun n _ => by rw [y_real h0 h1 h2 h3, h5, mul_comm, EReal.coe_mul]
  · rw [dif_neg hn, dif_neg hn, EReal.coe_zero]

end Cert.Proof.FlashRef
end
-- ==== Proof.FlashValue.lean ====
module

public import proofs.«01_k».proof.Proof.FlashKer
public import proofs.«01_k».proof.Proof.FlashRefReal
public import proofs.«01_k».proof.Proof.Finite
public import proofs.«01_k».proof.Proof.FlashFrame
public import proofs.«01_k».proof.Pre_finite_flash
public import proofs.«01_k».proof.Proof.Gen.Pre_finite_flash

/-! The attention gradient's result arrays are those of the vector-Jacobian product, on finite arguments. -/

@[expose] public section
set_option maxRecDepth 16384
noncomputable section
namespace Cert.Proof.Flash

open Idealize.ShloMosaic Idealize.ShloMosaic.TcCoe Idealize.SL.Sem
open Cert.FlashBwdIdeal Cert.FlashBwdIdeal.Gen

variable (m : (ℓ : Loc nD τ sig) → Buf (Elt Ideal) ℓ) (ρ : Dev nD → PrngReg)

/-- The run, with each result array named and the arguments unchanged. -/
theorem run_blocks : θ_run defs (onTc (τ := τ) (main (F := Ideal))) ⟨m, fun _ => 0, ρ⟩ fun r => ∀ c : Dev nD,
      r.2.mem ((c : Thread nD τ).loc main_v51_0) = (dats m 0 c).arrAt 6 cfg0.N
      ∧ r.2.mem ((c : Thread nD τ).loc main_v51_1) = (dats m 0 c).arrAt 7 cfg0.N
      ∧ r.2.mem ((c : Thread nD τ).loc main_v51_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, (h c).1 7, (h c).1 8,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

/-- The precondition on one device's arguments. -/
def Finite (c : Dev nD) : Prop :=
  (Cert.Pre_finite_flash.fn (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)))
  = (fun _ => 1#1, fun _ => 1#1, fun _ => 1#1, fun _ => 1#1, fun _ => 1#1, fun _ => 1#1)

variable {m} {c : Dev nD}

/-- Finite arguments are real arrays. -/
theorem real_of (h : Finite m c) : AreReal m c (fun i h d => (ar0 m c i h d).toReal) (fun i h d => (ar1 m c i h d).toReal)
    (fun i h d => (ar2 m c i h d).toReal) (fun i d => (ar3 m c i d).toReal) (fun i h d => (ar4 m c i h d).toReal)
    (fun i h d => (ar5 m c i h d).toReal) := by
  unfold Finite at h
  simp only [Cert.Pre_finite_flash.fn, Prod.mk.injEq] at h
  obtain ⟨h0, h1, h2, h3, h4, h5⟩ := h
  exact ⟨fun i h d => finite_at _ _ h0 (ix4 (0 : Fin 1) i h d), fun i h d => finite_at _ _ h1 (ix4 (0 : Fin 1) i h d),
    fun i h d => finite_at _ _ h2 (ix4 (0 : Fin 1) i h d), fun i d => finite_at _ _ h3 (ix3 (0 : Fin 1) i d),
    fun i h d => finite_at _ _ h4 (ix4 (0 : Fin 1) i h d), fun i h d => finite_at _ _ h5 (ix4 (0 : Fin 1) i h d)⟩

open Cert.FlashBwdRefIdeal.Read in
theorem dq_agree (h : Finite m c) : val_main_v68 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
    = (dats m 0 c).arrAt 6 cfg0.N := by
  have H := real_of h
  refine Eq.trans (funext fun y => ?_) (out6 m c).symm
  obtain ⟨a, i, d, rfl⟩ : ∃ (a : Fin 8) (i : Fin 8448) (d : Fin 256), y = ix3 a i d := ⟨y 0, y 1, y 2, by funext k; fin_cases k <;> rfl⟩
  exact (FlashRef.dq_real H.h0 H.h1 H.h2 H.h3 H.h4 H.h5 a i d).trans (dQ_real H a i d).symm

open Cert.FlashBwdRefIdeal.Read in
theorem dk_agree (h : Finite m c) : val_main_v71 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
    = (dats m 0 c).arrAt 7 cfg0.N := by
  have H := real_of h
  refine Eq.trans (funext fun y => ?_) (out7 m c).symm
  obtain ⟨a, i, d, rfl⟩ : ∃ (a : Fin 8) (i : Fin 8448) (d : Fin 256), y = ix3 a i d := ⟨y 0, y 1, y 2, by funext k; fin_cases k <;> rfl⟩
  exact (FlashRef.dk_real H.h0 H.h1 H.h2 H.h3 H.h4 H.h5 a i d).trans (dK_real H a i d).symm

open Cert.FlashBwdRefIdeal.Read in
theorem dv_agree (h : Finite m c) : val_main_v74 (F := Ideal) (m ((c : Thread nD τ).loc main_arg0)) (m ((c : Thread nD τ).loc main_arg1))
      (m ((c : Thread nD τ).loc main_arg2)) (m ((c : Thread nD τ).loc main_arg3)) (m ((c : Thread nD τ).loc main_arg5))
    = (dats m 0 c).arrAt 8 cfg0.N := by
  have H := real_of h
  refine Eq.trans (funext fun y => ?_) (out8 m c).symm
  obtain ⟨a, i, d, rfl⟩ : ∃ (a : Fin 8) (i : Fin 8448) (d : Fin 128), y = ix3 a i d := ⟨y 0, y 1, y 2, by funext k; fin_cases k <;> rfl⟩
  exact (FlashRef.dv_real H.h0 H.h1 H.h2 H.h3 H.h5 a i d).trans (dV_real H a i d).symm

end Cert.Proof.Flash
end
-- ==== Proof.lean ====
module

public import proofs.«01_k».proof.Defs
public import proofs.«01_k».proof.Proof.Gen.DtBwd
public import proofs.«01_k».proof.Proof.Gen.DtBwd.Frame
public import proofs.«01_k».proof.Proof.Gen.DtBwdIdeal
public import proofs.«01_k».proof.Proof.Gen.DtBwdIdeal.Frame
public import proofs.«01_k».proof.Proof.Gen.DtBwdIdeal.Value
public import proofs.«01_k».proof.Proof.Gen.DtBwdRefIdeal
public import proofs.«01_k».proof.Proof.Gen.DtBwdRefIdeal.Run
public import proofs.«01_k».proof.Proof.Gen.DtBwdRefIdeal.Read
public import proofs.«01_k».proof.Proof.DtBwd
public import proofs.«01_k».proof.Proof.Gen.FfnDownLoss
public import proofs.«01_k».proof.Proof.Gen.FfnDownLoss.Frame
public import proofs.«01_k».proof.Proof.Gen.FfnDownLossIdeal
public import proofs.«01_k».proof.Proof.Gen.FfnDownLossIdeal.Frame
public import proofs.«01_k».proof.Proof.Gen.FfnDownLossIdeal.Value
public import proofs.«01_k».proof.Proof.Gen.FfnDownLossRefIdeal
public import proofs.«01_k».proof.Proof.Gen.FfnDownLossRefIdeal.Run
public import proofs.«01_k».proof.Proof.Gen.FfnDownLossRefIdeal.Read
public import proofs.«01_k».proof.Proof.FinalBwd
public import proofs.«01_k».proof.Proof.Gen.MidBwd
public import proofs.«01_k».proof.Proof.Gen.MidBwd.Frame
public import proofs.«01_k».proof.Proof.Gen.MidBwdIdeal
public import proofs.«01_k».proof.Proof.Gen.MidBwdIdeal.Frame
public import proofs.«01_k».proof.Proof.Gen.MidBwdIdeal.Value
public import proofs.«01_k».proof.Proof.Gen.MidBwdRefIdeal
public import proofs.«01_k».proof.Proof.Gen.MidBwdRefIdeal.Run
public import proofs.«01_k».proof.Proof.Gen.MidBwdRefIdeal.Read
public import proofs.«01_k».proof.Proof.MidBwd
public import proofs.«01_k».proof.Proof.Gen.AttnOutBwd
public import proofs.«01_k».proof.Proof.Gen.AttnOutBwd.Frame
public import proofs.«01_k».proof.Proof.Gen.AttnOutBwdIdeal
public import proofs.«01_k».proof.Proof.Gen.AttnOutBwdIdeal.Frame
public import proofs.«01_k».proof.Proof.Gen.AttnOutBwdIdeal.Value
public import proofs.«01_k».proof.Proof.Gen.AttnOutBwdRefIdeal
public import proofs.«01_k».proof.Proof.Gen.AttnOutBwdRefIdeal.Run
public import proofs.«01_k».proof.Proof.Gen.AttnOutBwdRefIdeal.Read
public import proofs.«01_k».proof.Proof.AttnOutBwd
public import proofs.«01_k».proof.Proof.Gen.QBranchBwd
public import proofs.«01_k».proof.Proof.Gen.QBranchBwd.Frame
public import proofs.«01_k».proof.Proof.Gen.QBranchBwdIdeal
public import proofs.«01_k».proof.Proof.Gen.QBranchBwdIdeal.Frame
public import proofs.«01_k».proof.Proof.Gen.QBranchBwdRefIdeal
public import proofs.«01_k».proof.Proof.Gen.QBranchBwdRefIdeal.Run
public import proofs.«01_k».proof.Proof.Gen.QBranchBwdRefIdeal.Read
public import proofs.«01_k».proof.Proof.QBwd
public import proofs.«01_k».proof.Proof.Gen.KvBranchBwd
public import proofs.«01_k».proof.Proof.Gen.KvBranchBwd.Frame
public import proofs.«01_k».proof.Proof.Gen.KvBranchBwdIdeal
public import proofs.«01_k».proof.Proof.Gen.KvBranchBwdIdeal.Frame
public import proofs.«01_k».proof.Proof.Gen.KvBranchBwdRefIdeal
public import proofs.«01_k».proof.Proof.Gen.KvBranchBwdRefIdeal.Run
public import proofs.«01_k».proof.Proof.Gen.KvBranchBwdRefIdeal.Read
public import proofs.«01_k».proof.Proof.KvBwd
public import proofs.«01_k».proof.Proof.Gen.InProjDx
public import proofs.«01_k».proof.Proof.Gen.InProjDx.Frame
public import proofs.«01_k».proof.Proof.Gen.InProjDxIdeal
public import proofs.«01_k».proof.Proof.Gen.InProjDxIdeal.Frame
public import proofs.«01_k».proof.Proof.Gen.InProjDxIdeal.Value
public import proofs.«01_k».proof.Proof.Gen.InProjDxRefIdeal
public import proofs.«01_k».proof.Proof.Gen.InProjDxRefIdeal.Run
public import proofs.«01_k».proof.Proof.Gen.InProjDxRefIdeal.Read
public import proofs.«01_k».proof.Proof.InProjBwd
public import proofs.«01_k».proof.Proof.Gen.FlashBwd
public import proofs.«01_k».proof.Proof.Gen.FlashBwd.Frame
public import proofs.«01_k».proof.Proof.Gen.FlashBwdIdeal
public import proofs.«01_k».proof.Proof.Gen.FlashBwdIdeal.Frame
public import proofs.«01_k».proof.Proof.Gen.FlashBwdRefIdeal
public import proofs.«01_k».proof.Proof.Gen.FlashBwdRefIdeal.Run
public import proofs.«01_k».proof.Proof.Gen.FlashBwdRefIdeal.Read
public import proofs.«01_k».proof.Proof.Gen.FlashFwd
public import proofs.«01_k».proof.Proof.Gen.FlashFwd.Launch
public import proofs.«01_k».proof.Proof.Gen.FlashFwdIdeal
public import proofs.«01_k».proof.Proof.Gen.FlashFwdIdeal.Launch
public import proofs.«01_k».proof.Proof.Gen.FlashFwdIdeal.Frame.Runs
public import proofs.«01_k».proof.Proof.Gen.FlashFwdIdeal.Loops
public import proofs.«01_k».proof.Proof.Gen.FlashFwdRefIdeal
public import proofs.«01_k».proof.Proof.Gen.FlashFwdRefIdeal.Run
public import proofs.«01_k».proof.Proof.Gen.FlashFwdRefIdeal.Read
public import proofs.«01_k».proof.Proof.Gen.Pre_finite_flashfwd
public import proofs.«01_k».proof.Proof.FwdBits
public import proofs.«01_k».proof.Proof.FwdFrame
public import proofs.«01_k».proof.Proof.FwdValue
public import proofs.«01_k».proof.Proof.FlashFrame
public import proofs.«01_k».proof.Proof.FlashBits
public import proofs.«01_k».proof.Pre_finite_flash
public import proofs.«01_k».proof.Proof.Gen.Pre_finite_flash
public import proofs.«01_k».proof.Proof.FlashValue
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The reference's arguments stand; it declares no semaphore. -/
theorem dt_reference_frame : Cert.quiescent_DtBwdRefIdeal := fun m ρ _ =>
  (θ_run Cert.DtBwdRefIdeal.defs _ _).mono (fun r h => ⟨fun c => (h c).2.2, sem_eq_zero_of_no_sems (by decide) r.2⟩)
    (Cert.DtBwdRefIdeal.Value.run (F := Ideal) m ρ)

/-- The gradients of the step sizes' softplus: the call's two arrays are those of the vector-Jacobian product. -/
theorem dt_value : Cert.algebraic_DtBwdIdeal_DtBwdRefIdeal := by
  pair_intro
  · run_from Cert.DtBwdIdeal.Value.run_blocks m g
  · run_from Cert.DtBwdRefIdeal.Value.run m' g'
    · exact ((DtBwdRefIdeal.Read.val_main_v12_eq m' c).trans (by rw [(hagree c).1, (hagree c).2.1, (hagree c).2.2])).trans
        ((DtBwd.dRaw_eq m c).symm.trans (DtBwd.out3 m c).symm)
    · exact ((DtBwdRefIdeal.Read.val_main_v13_eq m' c).trans (by rw [(hagree c).1, (hagree c).2.1, (hagree c).2.2])).trans
        ((DtBwd.dBias_eq m c).symm.trans (DtBwd.out4 m c).symm)

/-- The reference's arguments stand; it declares no semaphore. -/
theorem final_reference_frame : Cert.quiescent_FfnDownLossRefIdeal := fun m ρ _ =>
  (θ_run Cert.FfnDownLossRefIdeal.defs _ _).mono (fun r h => ⟨fun c => (h c).2.2.2.2, sem_eq_zero_of_no_sems (by decide) r.2⟩)
    (Cert.FfnDownLossRefIdeal.Value.run (F := Ideal) m ρ)

/-- The last down projection with its norm and the loss: the loss and the gradients of the stream, of the projection's rows and of the
    gain are those of the vector-Jacobian product. -/
theorem final_value : Cert.algebraic_FfnDownLossIdeal_FfnDownLossRefIdeal := by
  pair_intro
  · run_from Cert.FfnDownLossIdeal.Value.run_blocks m g
  · run_from Cert.FfnDownLossRefIdeal.Value.run m' g'
    · exact (FfnDownLossRefIdeal.Read.val_main_v60_eq _ _ _ _ _).trans
        ((FinalBwd.dH_eq m c).symm.trans (FinalBwd.out5 m c).symm)
    · exact ((FfnDownLossRefIdeal.Read.val_main_v63_eq m' c).trans (by rw [(hagree c).1, (hagree c).2.1, (hagree c).2.2.1, (hagree c).2.2.2.1, (hagree c).2.2.2.2])).trans
        ((FinalBwd.dD_eq m c).symm.trans (FinalBwd.out6 m c).symm)
    · exact (FfnDownLossRefIdeal.Read.val_main_v58_eq _ _ _ _ _).trans
        ((FinalBwd.dG_eq m c).symm.trans (FinalBwd.out7 m c).symm)
    · exact (FfnDownLossRefIdeal.Read.val_main_v64_eq _ _ _ _ _).trans
        ((FinalBwd.loss_eq m c).symm.trans (FinalBwd.out8 m c).symm)
/-- The reference's arguments stand; it declares no semaphore. -/
theorem mid_reference_frame : Cert.quiescent_MidBwdRefIdeal := fun m ρ _ =>
  (θ_run Cert.MidBwdRefIdeal.defs _ _).mono (fun r h => ⟨fun c => (h c).2.2.2.2, sem_eq_zero_of_no_sems (by decide) r.2⟩)
    (Cert.MidBwdRefIdeal.Value.run (F := Ideal) m ρ)

/-- The gradients between the mixers and the feed-forward part: the middle stream's, the mixers' sum's and the two gains' are those
    of the vector-Jacobian product. -/
theorem mid_value : Cert.algebraic_MidBwdIdeal_MidBwdRefIdeal := by
  pair_intro
  · run_from Cert.MidBwdIdeal.Value.run_blocks m g
  · run_from Cert.MidBwdRefIdeal.Value.run m' g'
    · exact ((MidBwdRefIdeal.Read.val_main_v85_eq m' c).trans (by rw [(hagree c).1, (hagree c).2.1, (hagree c).2.2.1, (hagree c).2.2.2.1, (hagree c).2.2.2.2.1, (hagree c).2.2.2.2.2.1, (hagree c).2.2.2.2.2.2])).trans
        ((MidBwd.dH_eq m c).symm.trans (MidBwd.out8 m c).symm)
    · exact ((MidBwdRefIdeal.Read.val_main_v88_eq m' c).trans (by rw [(hagree c).1, (hagree c).2.1, (hagree c).2.2.1, (hagree c).2.2.2.1, (hagree c).2.2.2.2.1, (hagree c).2.2.2.2.2.1, (hagree c).2.2.2.2.2.2])).trans
        ((MidBwd.dM_eq m c).symm.trans (MidBwd.out9 m c).symm)
    · exact (MidBwdRefIdeal.Read.val_main_v60_eq _ _ _ _ _).trans
        ((MidBwd.dG3_eq m c).symm.trans (MidBwd.out10 m c).symm)
    · exact ((MidBwdRefIdeal.Read.val_main_v83_eq m' c).trans (by rw [(hagree c).1, (hagree c).2.1, (hagree c).2.2.1, (hagree c).2.2.2.1, (hagree c).2.2.2.2.1, (hagree c).2.2.2.2.2.1, (hagree c).2.2.2.2.2.2])).trans
        ((MidBwd.dG2_eq m c).symm.trans (MidBwd.out11 m c).symm)
/-- The reference's arguments stand; it declares no semaphore. -/
theorem attnout_reference_frame : Cert.quiescent_AttnOutBwdRefIdeal := fun m ρ _ =>
  (θ_run Cert.AttnOutBwdRefIdeal.defs _ _).mono (fun r h => ⟨fun c => (h c).2.2.2, sem_eq_zero_of_no_sems (by decide) r.2⟩)
    (Cert.AttnOutBwdRefIdeal.Value.run (F := Ideal) m ρ)

/-- The attention output's gradients: the per-head cotangents, their row sums with the heads, and the gain's gradient are those of the
    vector-Jacobian product. -/
theorem attnout_value : Cert.algebraic_AttnOutBwdIdeal_AttnOutBwdRefIdeal := by
  pair_intro
  · run_from Cert.AttnOutBwdIdeal.Value.run_blocks m g
  · run_from Cert.AttnOutBwdRefIdeal.Value.run m' g'
    · exact ((AttnOutBwdRefIdeal.Read.val_main_v55_eq m' c).trans (by rw [(hagree c).1, (hagree c).2.1, (hagree c).2.2.1, (hagree c).2.2.2])).trans
        ((AttnOutBwd.dHeads_eq m c).symm.trans (AttnOutBwd.out4 m c).symm)
    · exact ((AttnOutBwdRefIdeal.Read.val_main_v57_eq m' c).trans (by rw [(hagree c).1, (hagree c).2.1, (hagree c).2.2.1, (hagree c).2.2.2])).trans
        ((AttnOutBwd.dDelta_eq m c).symm.trans (AttnOutBwd.out5 m c).symm)
    · exact (AttnOutBwdRefIdeal.Read.val_main_v42_eq _ _ _).trans
        ((AttnOutBwd.dGain_eq m c).symm.trans (AttnOutBwd.out6 m c).symm)
/-- The reference's arguments stand; it declares no semaphore. -/
theorem qbranch_reference_frame : Cert.quiescent_QBranchBwdRefIdeal := fun m ρ _ =>
  (θ_run Cert.QBranchBwdRefIdeal.defs _ _).mono (fun r h => ⟨fun c => (h c).2.2.2, sem_eq_zero_of_no_sems (by decide) r.2⟩)
    (Cert.QBranchBwdRefIdeal.Value.run (F := Ideal) m ρ)

/-- The query branch's gradients: the latent's, its gain's and the up projection's are those of the vector-Jacobian product. -/
theorem qbranch_value : Cert.algebraic_QBranchBwdIdeal_QBranchBwdRefIdeal := by
  pair_intro
  · run_from QBwd.run_results m g
  · refine (θ_run Cert.QBranchBwdRefIdeal.defs _ _).mono (fun r h c => ⟨(h c).1.trans ?_, (h c).2.1.trans ?_, (h c).2.2.1.trans ?_, (h c).2.2.2⟩)
      (Cert.QBranchBwdRefIdeal.Value.run m' g')
    · refine (QBranchBwdRefIdeal.Read.val_main_v92_eq m' c).trans ?_
      rw [(hagree c).1, (hagree c).2.1, (hagree c).2.2.1, (hagree c).2.2.2.1, (hagree c).2.2.2.2.1, (hagree c).2.2.2.2.2]
      exact (QBwd.dX_eq m c).symm
    · refine (QBranchBwdRefIdeal.Read.val_main_v89_eq m' c).trans ?_
      rw [(hagree c).1, (hagree c).2.2.1, (hagree c).2.2.2.1, (hagree c).2.2.2.2.1, (hagree c).2.2.2.2.2]
      exact (QBwd.dG_eq m c).symm
    · refine (QBranchBwdRefIdeal.Read.val_main_v93_eq m' c).trans ?_
      rw [(hagree c).1, (hagree c).2.1, (hagree c).2.2.2.1, (hagree c).2.2.2.2.1, (hagree c).2.2.2.2.2]
      exact (QBwd.dW_eq m c).symm
/-- The reference's arguments stand; it declares no semaphore. -/
theorem kvbranch_reference_frame : Cert.quiescent_KvBranchBwdRefIdeal := fun m ρ _ =>
  (θ_run Cert.KvBranchBwdRefIdeal.defs _ _).mono (fun r h => ⟨fun c => (h c).2.2.2.2, sem_eq_zero_of_no_sems (by decide) r.2⟩)
    (Cert.KvBranchBwdRefIdeal.Value.run (F := Ideal) m ρ)

/-- The key-value branch's gradients: the latent's, its gain's, the up projection's and the rotary key's are those of the vector-Jacobian
    product. -/
theorem kvbranch_value : Cert.algebraic_KvBranchBwdIdeal_KvBranchBwdRefIdeal := by
  pair_intro
  · run_from KvBwd.run_results m g
  · refine (θ_run Cert.KvBranchBwdRefIdeal.defs _ _).mono (fun r h c => ⟨(h c).1.trans ?_, (h c).2.1.trans ?_, (h c).2.2.1.trans ?_, (h c).2.2.2.1.trans ?_, (h c).2.2.2.2⟩)
      (Cert.KvBranchBwdRefIdeal.Value.run m' g')
    · refine (KvBranchBwdRefIdeal.Read.val_main_v84_eq m' c).trans ?_
      rw [(hagree c).1, (hagree c).2.2.1, (hagree c).2.2.2.1, (hagree c).2.2.2.2.2.2.1, (hagree c).2.2.2.2.2.2.2]
      exact (KvBwd.dX_eq m c).symm
    · rw [(hagree c).1, (hagree c).2.2.2.1, (hagree c).2.2.2.2.2.2.1, (hagree c).2.2.2.2.2.2.2]
      exact (KvBranchBwdRefIdeal.Read.val_main_v81_eq _ _ _ _).trans (KvBwd.dG_eq m c).symm
    · rw [(hagree c).1, (hagree c).2.2.1, (hagree c).2.2.2.2.2.2.1, (hagree c).2.2.2.2.2.2.2]
      exact (KvBranchBwdRefIdeal.Read.val_main_v85_eq _ _ _ _).trans (KvBwd.dW_eq m c).symm
    · rw [(hagree c).2.2.2.2.1, (hagree c).2.2.2.2.2.1, (hagree c).2.2.2.2.2.2.1]
      exact (KvBranchBwdRefIdeal.Read.val_main_v87_eq _ _ _).trans (KvBwd.dP_eq m c).symm
/-- The reference's arguments stand; it declares no semaphore. -/
theorem inproj_reference_frame : Cert.quiescent_InProjDxRefIdeal := fun m ρ _ =>
  (θ_run Cert.InProjDxRefIdeal.defs _ _).mono (fun r h => ⟨fun c => (h c).2.2, sem_eq_zero_of_no_sems (by decide) r.2⟩)
    (Cert.InProjDxRefIdeal.Value.run (F := Ideal) m ρ)

/-- The input projection's gradients: the residual stream's and the gain's are those of the vector-Jacobian product. -/
theorem inproj_value : Cert.algebraic_InProjDxIdeal_InProjDxRefIdeal := by
  pair_intro
  · run_from Cert.InProjDxIdeal.Value.run_blocks m g
  · run_from Cert.InProjDxRefIdeal.Value.run m' g'
    · exact ((InProjDxRefIdeal.Read.val_main_v44_eq m' c).trans (by rw [(hagree c).1, (hagree c).2.1, (hagree c).2.2.1, (hagree c).2.2.2.1, (hagree c).2.2.2.2])).trans
        ((InProjBwd.dX_eq m c).symm.trans (InProjBwd.out15 m c).symm)
    · exact (InProjDxRefIdeal.Read.val_main_v42_eq _ _ _).trans
        ((InProjBwd.dGain_eq m c).symm.trans (InProjBwd.out16 m c).symm)
/-- The reference's arguments stand; it declares no semaphore. -/
theorem flash_reference_frame : Cert.quiescent_FlashBwdRefIdeal := fun m ρ _ =>
  (θ_run Cert.FlashBwdRefIdeal.defs _ _).mono (fun r h => ⟨fun c => (h c).2.2.2, sem_eq_zero_of_no_sems (by decide) r.2⟩)
    (Cert.FlashBwdRefIdeal.Value.run (F := Ideal) m ρ)

/-- The two named constants: the mask's −∞ and the logarithm of two. -/
theorem flash_preserves : Cert.preserves_FlashBwd_FlashBwdIdeal :=
  ⟨IdealRules.named_const.statement Cert.FlashBwdIdeal.κ "neg" .f32 0xF149F2CA#32 ⊥ rfl,
    IdealRules.named_const.statement Cert.FlashBwdIdeal.κ "ln2" .f32 0x3F317218#32 ((Real.log 2 : ℝ) : EReal) rfl⟩

/-- The attention gradient, on finite arguments: the call's three arrays are those of the vector-Jacobian product. -/
theorem flash_value : Cert.algebraic_FlashBwdIdeal_FlashBwdRefIdeal_pre_finite_flash := by
  pair_intro
  · run_from Flash.run_blocks m g
  · have fin (c) : Flash.Finite m c := by
      obtain ⟨h0, h1, h2, h3, h4, h5⟩ := hpre c
      exact Prod.ext h0 (Prod.ext h1 (Prod.ext h2 (Prod.ext h3 (Prod.ext h4 h5))))
    run_from Cert.FlashBwdRefIdeal.Value.run m' g'
    · exact ((FlashBwdRefIdeal.Read.val_main_v68_eq m' c).trans (by rw [(hagree c).1, (hagree c).2.1, (hagree c).2.2.1, (hagree c).2.2.2.1,
        (hagree c).2.2.2.2.1, (hagree c).2.2.2.2.2])).trans (Flash.dq_agree (fin c))
    · exact ((FlashBwdRefIdeal.Read.val_main_v71_eq m' c).trans (by rw [(hagree c).1, (hagree c).2.1, (hagree c).2.2.1, (hagree c).2.2.2.1,
        (hagree c).2.2.2.2.1, (hagree c).2.2.2.2.2])).trans (Flash.dk_agree (fin c))
    · exact ((FlashBwdRefIdeal.Read.val_main_v74_eq m' c).trans (by rw [(hagree c).1, (hagree c).2.1, (hagree c).2.2.1, (hagree c).2.2.2.1,
        (hagree c).2.2.2.2.2])).trans (Flash.dv_agree (fin c))

/-- The reference attention's arguments stand; it declares no semaphore. -/
theorem flashfwd_reference_frame : Cert.quiescent_FlashFwdRefIdeal := fun m ρ _ =>
  (θ_run Cert.FlashFwdRefIdeal.defs _ _).mono (fun r h => ⟨fun c => (h c).2.2, sem_eq_zero_of_no_sems (by decide) r.2⟩)
    (Cert.FlashFwdRefIdeal.Value.run (F := Ideal) m ρ)

/-- The two named constants: the mask's −∞ and the logarithm of two. -/
theorem flashfwd_preserves : Cert.preserves_FlashFwd_FlashFwdIdeal :=
  ⟨IdealRules.named_const.statement Cert.FlashFwdIdeal.κ "neg" .f32 0xF149F2CA#32 ⊥ rfl,
    IdealRules.named_const.statement Cert.FlashFwdIdeal.κ "ln2" .f32 0x3F317218#32 ((Real.log 2 : ℝ) : EReal) rfl⟩

/-- The forward attention, on finite queries and keys: the call's output and log-sum are those of the plain attention. -/
theorem flashfwd_value : Cert.algebraic_FlashFwdIdeal_FlashFwdRefIdeal_pre_finite_flashfwd := by
  pair_intro
  · run_from Fwd.run_blocks m g
  · have fin (c) : Fwd.Finite m c := by
      obtain ⟨h0, h1, h2, h3⟩ := hpre c
      exact Prod.ext h0 (Prod.ext h1 (Prod.ext h2 h3))
    run_from Cert.FlashFwdRefIdeal.Value.run m' g'
    · exact ((FlashFwdRefIdeal.Read.val_main_v28_eq m' c).trans (by rw [(hagree c).1, (hagree c).2.1, (hagree c).2.2.1, (hagree c).2.2.2.1,
        (hagree c).2.2.2.2])).trans (Fwd.o_agree (fin c))
    · exact (FlashFwdRefIdeal.Read.val_main_v35_eq _ _ _ _).trans (Fwd.lse_agree (fin c))

theorem claim : Cert.Claim := ⟨Cert.DtBwd.Gen.facts, Cert.DtBwdIdeal.Gen.facts, Cert.DtBwdRefIdeal.Gen.facts,
  Cert.FfnDownLoss.Gen.facts, Cert.FfnDownLossIdeal.Gen.facts, Cert.FfnDownLossRefIdeal.Gen.facts,
  Cert.MidBwd.Gen.facts, Cert.MidBwdIdeal.Gen.facts, Cert.MidBwdRefIdeal.Gen.facts,
  Cert.AttnOutBwd.Gen.facts, Cert.AttnOutBwdIdeal.Gen.facts, Cert.AttnOutBwdRefIdeal.Gen.facts,
  Cert.QBranchBwd.Gen.facts, Cert.QBranchBwdIdeal.Gen.facts, Cert.QBranchBwdRefIdeal.Gen.facts,
  Cert.KvBranchBwd.Gen.facts, Cert.KvBranchBwdIdeal.Gen.facts, Cert.KvBranchBwdRefIdeal.Gen.facts,
  Cert.InProjDx.Gen.facts, Cert.InProjDxIdeal.Gen.facts, Cert.InProjDxRefIdeal.Gen.facts,
  Cert.FlashBwd.Gen.facts, Cert.FlashBwdIdeal.Gen.facts, Cert.FlashBwdRefIdeal.Gen.facts,
  Cert.FlashFwd.Gen.facts, Cert.FlashFwdIdeal.Gen.facts, Cert.FlashFwdRefIdeal.Gen.facts, Cert.Pre_finite_flash.Gen.facts, Cert.Pre_finite_flashfwd.Gen.facts,
  fun m ρ _ => Cert.DtBwd.Gen.frame m ρ, fun m ρ _ => Cert.DtBwdIdeal.Gen.frame m ρ, dt_reference_frame,
  fun m ρ _ => Cert.FfnDownLoss.Gen.frame m ρ, fun m ρ _ => Cert.FfnDownLossIdeal.Gen.frame m ρ, final_reference_frame,
  fun m ρ _ => Cert.MidBwd.Gen.frame m ρ, fun m ρ _ => Cert.MidBwdIdeal.Gen.frame m ρ, mid_reference_frame,
  fun m ρ _ => Cert.AttnOutBwd.Gen.frame m ρ, fun m ρ _ => Cert.AttnOutBwdIdeal.Gen.frame m ρ, attnout_reference_frame,
  fun m ρ _ => Cert.QBranchBwd.Gen.frame m ρ, fun m ρ _ => Cert.QBranchBwdIdeal.Gen.frame m ρ, qbranch_reference_frame,
  fun m ρ _ => Cert.KvBranchBwd.Gen.frame m ρ, fun m ρ _ => Cert.KvBranchBwdIdeal.Gen.frame m ρ, kvbranch_reference_frame,
  fun m ρ _ => Cert.InProjDx.Gen.frame m ρ, fun m ρ _ => Cert.InProjDxIdeal.Gen.frame m ρ, inproj_reference_frame,
  Cert.FlashBits.frame, fun m ρ _ => Cert.FlashBwdIdeal.Gen.frame m ρ, fun m ρ _ => Cert.FlashBwdIdeal.Gen.frame m ρ,
  flash_reference_frame, fun m ρ _ => flash_reference_frame m ρ trivial,
  Cert.FwdBits.frame, fun m ρ _ => Cert.FlashFwdIdeal.Gen.frame m ρ, fun m ρ _ => Cert.FlashFwdIdeal.Gen.frame m ρ,
  flashfwd_reference_frame, fun m ρ _ => flashfwd_reference_frame m ρ trivial,
  trivial, dt_value, trivial, final_value, trivial, mid_value, trivial, attnout_value, trivial, qbranch_value, trivial, kvbranch_value, trivial, inproj_value, flash_preserves, flash_value, flashfwd_preserves, flashfwd_value⟩

end Cert.Proof

end
